-- ==== Defs.lean ====
def Pre_RetKernel (m : (ℓ : Loc Cert.RetKernel.nD Cert.RetKernel.τ Cert.RetKernel.sig) → Buf (Elt Bits) ℓ) : Prop :=
  True

def Pre_RetKernelIdeal (m : (ℓ : Loc Cert.RetKernelIdeal.nD Cert.RetKernelIdeal.τ Cert.RetKernelIdeal.sig) → Buf (Elt Ideal) ℓ) : Prop :=
  True

def Pre_RetKernelIdeal_ret_finite [hPre_ret_finite : Cert.Pre_ret_finite.Facts] (m : (ℓ : Loc Cert.RetKernelIdeal.nD Cert.RetKernelIdeal.τ Cert.RetKernelIdeal.sig) → Buf (Elt Ideal) ℓ) : Prop :=
  ∀ c : Dev Cert.RetKernelIdeal.nD,
    (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).1 = (fun _ => 1#1)
    ∧ (Cert.Pre_ret_finite.fn (F := Ideal) (m ((c.tc : Thread Cert.RetKernelIdeal.nD Cert.RetKernelIdeal.τ).loc Cert.RetKernelIdeal.main_arg0)) (m ((c.tc : Thread Cert.RetKernelIdeal.nD Cert.RetKernelIdeal.τ).loc Cert.RetKernelIdeal.main_arg1))).2 = (fun _ => 1#1)

def Pre_RetReferenceIdeal (m : (ℓ : Loc Cert.RetReferenceIdeal.nD Cert.RetReferenceIdeal.τ Cert.RetReferenceIdeal.sig) → Buf (Elt Ideal) ℓ) : Prop :=
  True

def Pre_RetReferenceIdeal_ret_finite [hPre_ret_finite : Cert.Pre_ret_finite.Facts] (m : (ℓ : Loc Cert.RetReferenceIdeal.nD Cert.RetReferenceIdeal.τ Cert.RetReferenceIdeal.sig) → Buf (Elt Ideal) ℓ) : Prop :=
  ∀ c : Dev Cert.RetReferenceIdeal.nD,
    (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).1 = (fun _ => 1#1)
    ∧ (Cert.Pre_ret_finite.fn (F := Ideal) (m ((c.tc : Thread Cert.RetReferenceIdeal.nD Cert.RetReferenceIdeal.τ).loc Cert.RetReferenceIdeal.main_arg0)) (m ((c.tc : Thread Cert.RetReferenceIdeal.nD Cert.RetReferenceIdeal.τ).loc Cert.RetReferenceIdeal.main_arg1))).2 = (fun _ => 1#1)

def Pre_RetfKernel (m : (ℓ : Loc Cert.RetfKernel.nD Cert.RetfKernel.τ Cert.RetfKernel.sig) → Buf (Elt Bits) ℓ) : Prop :=
  True

def Pre_RetfKernelIdeal (m : (ℓ : Loc Cert.RetfKernelIdeal.nD Cert.RetfKernelIdeal.τ Cert.RetfKernelIdeal.sig) → Buf (Elt Ideal) ℓ) : Prop :=
  True

def Pre_RetfKernelIdeal_retf_finite [hPre_retf_finite : Cert.Pre_retf_finite.Facts] (m : (ℓ : Loc Cert.RetfKernelIdeal.nD Cert.RetfKernelIdeal.τ Cert.RetfKernelIdeal.sig) → Buf (Elt Ideal) ℓ) : Prop :=
  ∀ c : Dev Cert.RetfKernelIdeal.nD,
    (Cert.Pre_retf_finite.fn (F := Ideal) (m ((c.tc : Thread Cert.RetfKernelIdeal.nD Cert.RetfKernelIdeal.τ).loc Cert.RetfKernelIdeal.main_arg0))) = (fun _ => 1#1)

def Pre_RetfReferenceIdeal (m : (ℓ : Loc Cert.RetfReferenceIdeal.nD Cert.RetfReferenceIdeal.τ Cert.RetfReferenceIdeal.sig) → Buf (Elt Ideal) ℓ) : Prop :=
  True

def Pre_RetfReferenceIdeal_retf_finite [hPre_retf_finite : Cert.Pre_retf_finite.Facts] (m : (ℓ : Loc Cert.RetfReferenceIdeal.nD Cert.RetfReferenceIdeal.τ Cert.RetfReferenceIdeal.sig) → Buf (Elt Ideal) ℓ) : Prop :=
  ∀ c : Dev Cert.RetfReferenceIdeal.nD,
    (Cert.Pre_retf_finite.fn (F := Ideal) (m ((c.tc : Thread Cert.RetfReferenceIdeal.nD Cert.RetfReferenceIdeal.τ).loc Cert.RetfReferenceIdeal.main_arg0))) = (fun _ => 1#1)

def Pre_AttnfKernel (m : (ℓ : Loc Cert.AttnfKernel.nD Cert.AttnfKernel.τ Cert.AttnfKernel.sig) → Buf (Elt Bits) ℓ) : Prop :=
  True

def Pre_AttnfKernelIdeal (m : (ℓ : Loc Cert.AttnfKernelIdeal.nD Cert.AttnfKernelIdeal.τ Cert.AttnfKernelIdeal.sig) → Buf (Elt Ideal) ℓ) : Prop :=
  True

def Pre_AttnfKernelIdeal_attnf_finite [hPre_attnf_finite : Cert.Pre_attnf_finite.Facts] (m : (ℓ : Loc Cert.AttnfKernelIdeal.nD Cert.AttnfKernelIdeal.τ Cert.AttnfKernelIdeal.sig) → Buf (Elt Ideal) ℓ) : Prop :=
  ∀ c : Dev Cert.AttnfKernelIdeal.nD,
    (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3))).1 = (fun _ => 1#1)
    ∧ (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3))).2.1 = (fun _ => 1#1)
    ∧ (Cert.Pre_attnf_finite.fn (F := Ideal) (m ((c.tc : Thread Cert.AttnfKernelIdeal.nD Cert.AttnfKernelIdeal.τ).loc Cert.AttnfKernelIdeal.main_arg0)) (m ((c.tc : Thread Cert.AttnfKernelIdeal.nD Cert.AttnfKernelIdeal.τ).loc Cert.AttnfKernelIdeal.main_arg1)) (m ((c.tc : Thread Cert.AttnfKernelIdeal.nD Cert.AttnfKernelIdeal.τ).loc Cert.AttnfKernelIdeal.main_arg2)) (m ((c.tc : Thread Cert.AttnfKernelIdeal.nD Cert.AttnfKernelIdeal.τ).loc Cert.AttnfKernelIdeal.main_arg3))).2.2 = (fun _ => 1#1)

def Pre_AttnfReferenceIdeal (m : (ℓ : Loc Cert.AttnfReferenceIdeal.nD Cert.AttnfReferenceIdeal.τ Cert.AttnfReferenceIdeal.sig) → Buf (Elt Ideal) ℓ) : Prop :=
  True

def Pre_AttnfReferenceIdeal_attnf_finite [hPre_attnf_finite : Cert.Pre_attnf_finite.Facts] (m : (ℓ : Loc Cert.AttnfReferenceIdeal.nD Cert.AttnfReferenceIdeal.τ Cert.AttnfReferenceIdeal.sig) → Buf (Elt Ideal) ℓ) : Prop :=
  ∀ c : Dev Cert.AttnfReferenceIdeal.nD,
    (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3))).1 = (fun _ => 1#1)
    ∧ (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3))).2.1 = (fun _ => 1#1)
    ∧ (Cert.Pre_attnf_finite.fn (F := Ideal) (m ((c.tc : Thread Cert.AttnfReferenceIdeal.nD Cert.AttnfReferenceIdeal.τ).loc Cert.AttnfReferenceIdeal.main_arg0)) (m ((c.tc : Thread Cert.AttnfReferenceIdeal.nD Cert.AttnfReferenceIdeal.τ).loc Cert.AttnfReferenceIdeal.main_arg1)) (m ((c.tc : Thread Cert.AttnfReferenceIdeal.nD Cert.AttnfReferenceIdeal.τ).loc Cert.AttnfReferenceIdeal.main_arg2)) (m ((c.tc : Thread Cert.AttnfReferenceIdeal.nD Cert.AttnfReferenceIdeal.τ).loc Cert.AttnfReferenceIdeal.main_arg3))).2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6))).2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6))).2.2.2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2)) (m ((c.tc : Thread Cert.LossKernelIdeal.nD Cert.LossKernelIdeal.τ).loc Cert.LossKernelIdeal.main_arg3)) (m ((c.tc : Thread Cert.LossKernelIdeal.nD Cert.LossKernelIdeal.τ).loc Cert.LossKernelIdeal.main_arg4)) (m ((c.tc : Thread Cert.LossKernelIdeal.nD Cert.LossKernelIdeal.τ).loc Cert.LossKernelIdeal.main_arg5)) (m ((c.tc : Thread Cert.LossKernelIdeal.nD Cert.LossKernelIdeal.τ).loc Cert.LossKernelIdeal.main_arg6))).2.2.2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6))).2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6))).2.2.2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2)) (m ((c.tc : Thread Cert.LossReferenceIdeal.nD Cert.LossReferenceIdeal.τ).loc Cert.LossReferenceIdeal.main_arg3)) (m ((c.tc : Thread Cert.LossReferenceIdeal.nD Cert.LossReferenceIdeal.τ).loc Cert.LossReferenceIdeal.main_arg4)) (m ((c.tc : Thread Cert.LossReferenceIdeal.nD Cert.LossReferenceIdeal.τ).loc Cert.LossReferenceIdeal.main_arg5)) (m ((c.tc : Thread Cert.LossReferenceIdeal.nD Cert.LossReferenceIdeal.τ).loc Cert.LossReferenceIdeal.main_arg6))).2.2.2.2 = (fun _ => 1#1)

def Pre_MergeKernel (m : (ℓ : Loc Cert.MergeKernel.nD Cert.MergeKernel.τ Cert.MergeKernel.sig) → Buf (Elt Bits) ℓ) : Prop :=
  True

def Pre_MergeKernelIdeal (m : (ℓ : Loc Cert.MergeKernelIdeal.nD Cert.MergeKernelIdeal.τ Cert.MergeKernelIdeal.sig) → Buf (Elt Ideal) ℓ) : Prop :=
  True

def Pre_MergeKernelIdeal_merge_finite [hPre_merge_finite : Cert.Pre_merge_finite.Facts] (m : (ℓ : Loc Cert.MergeKernelIdeal.nD Cert.MergeKernelIdeal.τ Cert.MergeKernelIdeal.sig) → Buf (Elt Ideal) ℓ) : Prop :=
  ∀ c : Dev Cert.MergeKernelIdeal.nD,
    (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.2.1 = (fun _ => 1#1)
    ∧ (Cert.Pre_merge_finite.fn (F := Ideal) (m ((c.tc : Thread Cert.MergeKernelIdeal.nD Cert.MergeKernelIdeal.τ).loc Cert.MergeKernelIdeal.main_arg0)) (m ((c.tc : Thread Cert.MergeKernelIdeal.nD Cert.MergeKernelIdeal.τ).loc Cert.MergeKernelIdeal.main_arg1)) (m ((c.tc : Thread Cert.MergeKernelIdeal.nD Cert.MergeKernelIdeal.τ).loc Cert.MergeKernelIdeal.main_arg2)) (m ((c.tc : Thread Cert.MergeKernelIdeal.nD Cert.MergeKernelIdeal.τ).loc Cert.MergeKernelIdeal.main_arg3)) (m ((c.tc : Thread Cert.MergeKernelIdeal.nD Cert.MergeKernelIdeal.τ).loc Cert.MergeKernelIdeal.main_arg4)) (m ((c.tc : Thread Cert.MergeKernelIdeal.nD Cert.MergeKernelIdeal.τ).loc Cert.MergeKernelIdeal.main_arg5)) (m ((c.tc : Thread Cert.MergeKernelIdeal.nD Cert.MergeKernelIdeal.τ).loc Cert.MergeKernelIdeal.main_arg6)) (m ((c.tc : Thread Cert.MergeKernelIdeal.nD Cert.MergeKernelIdeal.τ).loc Cert.MergeKernelIdeal.main_arg7)) (m ((c.tc : Thread Cert.MergeKernelIdeal.nD Cert.MergeKernelIdeal.τ).loc Cert.MergeKernelIdeal.main_arg8)) (m ((c.tc : Thread Cert.MergeKernelIdeal.nD Cert.MergeKernelIdeal.τ).loc Cert.MergeKernelIdeal.main_arg9))).2.2.2.2.2 = (fun _ => 1#1)

def Pre_MergeReferenceIdeal (m : (ℓ : Loc Cert.MergeReferenceIdeal.nD Cert.MergeReferenceIdeal.τ Cert.MergeReferenceIdeal.sig) → Buf (Elt Ideal) ℓ) : Prop :=
  True

def Pre_MergeReferenceIdeal_merge_finite [hPre_merge_finite : Cert.Pre_merge_finite.Facts] (m : (ℓ : Loc Cert.MergeReferenceIdeal.nD Cert.MergeReferenceIdeal.τ Cert.MergeReferenceIdeal.sig) → Buf (Elt Ideal) ℓ) : Prop :=
  ∀ c : Dev Cert.MergeReferenceIdeal.nD,
    (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.2.1 = (fun _ => 1#1)
    ∧ (Cert.Pre_merge_finite.fn (F := Ideal) (m ((c.tc : Thread Cert.MergeReferenceIdeal.nD Cert.MergeReferenceIdeal.τ).loc Cert.MergeReferenceIdeal.main_arg0)) (m ((c.tc : Thread Cert.MergeReferenceIdeal.nD Cert.MergeReferenceIdeal.τ).loc Cert.MergeReferenceIdeal.main_arg1)) (m ((c.tc : Thread Cert.MergeReferenceIdeal.nD Cert.MergeReferenceIdeal.τ).loc Cert.MergeReferenceIdeal.main_arg2)) (m ((c.tc : Thread Cert.MergeReferenceIdeal.nD Cert.MergeReferenceIdeal.τ).loc Cert.MergeReferenceIdeal.main_arg3)) (m ((c.tc : Thread Cert.MergeReferenceIdeal.nD Cert.MergeReferenceIdeal.τ).loc Cert.MergeReferenceIdeal.main_arg4)) (m ((c.tc : Thread Cert.MergeReferenceIdeal.nD Cert.MergeReferenceIdeal.τ).loc Cert.MergeReferenceIdeal.main_arg5)) (m ((c.tc : Thread Cert.MergeReferenceIdeal.nD Cert.MergeReferenceIdeal.τ).loc Cert.MergeReferenceIdeal.main_arg6)) (m ((c.tc : Thread Cert.MergeReferenceIdeal.nD Cert.MergeReferenceIdeal.τ).loc Cert.MergeReferenceIdeal.main_arg7)) (m ((c.tc : Thread Cert.MergeReferenceIdeal.nD Cert.MergeReferenceIdeal.τ).loc Cert.MergeReferenceIdeal.main_arg8)) (m ((c.tc : Thread Cert.MergeReferenceIdeal.nD Cert.MergeReferenceIdeal.τ).loc Cert.MergeReferenceIdeal.main_arg9))).2.2.2.2.2 = (fun _ => 1#1)

def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_RetKernel [hRetKernel : Cert.RetKernel.Facts] : Prop :=
  ∀ (m : (ℓ : Loc Cert.RetKernel.nD Cert.RetKernel.τ Cert.RetKernel.sig) → Buf (Elt Bits) ℓ) (g : Dev Cert.RetKernel.nD → PrngReg), Pre_RetKernel m →
    θ_run (Cert.RetKernel.defs (F := Bits)) (onTc (τ := Cert.RetKernel.τ) (Cert.RetKernel.main (F := Bits))) ⟨m, fun _ => 0, g⟩ (fun r => (∀ c : Dev Cert.RetKernel.nD,
      r.2.mem ((c.tc : Thread Cert.RetKernel.nD Cert.RetKernel.τ).loc Cert.RetKernel.main_arg0) = m ((c.tc : Thread Cert.RetKernel.nD Cert.RetKernel.τ).loc Cert.RetKernel.main_arg0)
      ∧ r.2.mem ((c.tc : Thread Cert.RetKernel.nD Cert.RetKernel.τ).loc Cert.RetKernel.main_arg1) = m ((c.tc : Thread Cert.RetKernel.nD Cert.RetKernel.τ).loc Cert.RetKernel.main_arg1))
      ∧ r.2.sem = fun _ => 0)

def quiescent_RetKernelIdeal [hRetKernelIdeal : Cert.RetKernelIdeal.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetKernelIdeal_pre_ret_finite [hRetKernelIdeal : Cert.RetKernelIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg), Pre_RetKernelIdeal_ret_finite m →
    θ_run (Cert.RetKernelIdeal.defs (F := Ideal)) (onTc (τ := Cert.RetKernelIdeal.τ) (Cert.RetKernelIdeal.main (F := Ideal))) ⟨m, fun _ => 0, g⟩ (fun r => (∀ c : Dev Cert.RetKernelIdeal.nD,
      r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
      ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ r.2.sem = fun _ => 0)

def quiescent_RetReferenceIdeal [hRetReferenceIdeal : Cert.RetReferenceIdeal.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetReferenceIdeal_pre_ret_finite [hRetReferenceIdeal : Cert.RetReferenceIdeal.Facts] [hPre_ret_finite : Cert.Pre_ret_finite.Facts] : Prop :=
  ∀ (m : (ℓ : Loc Cert.RetReferenceIdeal.nD Cert.RetReferenceIdeal.τ Cert.RetReferenceIdeal.sig) → Buf (Elt Ideal) ℓ) (g : Dev Cert.RetReferenceIdeal.nD → PrngReg), Pre_RetReferenceIdeal_ret_finite m →
    θ_run (Cert.RetReferenceIdeal.defs (F := Ideal)) (onTc (τ := Cert.RetReferenceIdeal.τ) (Cert.RetReferenceIdeal.main (F := Ideal))) ⟨m, fun _ => 0, g⟩ (fun r => (∀ c : Dev Cert.RetReferenceIdeal.nD,
      r.2.mem ((c.tc : Thread Cert.RetReferenceIdeal.nD Cert.RetReferenceIdeal.τ).loc Cert.RetReferenceIdeal.main_arg0) = m ((c.tc : Thread Cert.RetReferenceIdeal.nD Cert.RetReferenceIdeal.τ).loc Cert.RetReferenceIdeal.main_arg0)
      ∧ r.2.mem ((c.tc : Thread Cert.RetReferenceIdeal.nD Cert.RetReferenceIdeal.τ).loc Cert.RetReferenceIdeal.main_arg1) = m ((c.tc : Thread Cert.RetReferenceIdeal.nD Cert.RetReferenceIdeal.τ).loc Cert.RetReferenceIdeal.main_arg1))
      ∧ r.2.sem = fun _ => 0)

def quiescent_RetfKernel [hRetfKernel : Cert.RetfKernel.Facts] : Prop :=
  ∀ (m : (ℓ : Loc Cert.RetfKernel.nD Cert.RetfKernel.τ Cert.RetfKernel.sig) → Buf (Elt Bits) ℓ) (g : Dev Cert.RetfKernel.nD → PrngReg), Pre_RetfKernel m →
    θ_run (Cert.RetfKernel.defs (F := Bits)) (onTc (τ := Cert.RetfKernel.τ) (Cert.RetfKernel.main (F := Bits))) ⟨m, fun _ => 0, g⟩ (fun r => (∀ c : Dev Cert.RetfKernel.nD,
      r.2.mem ((c.tc : Thread Cert.RetfKernel.nD Cert.RetfKernel.τ).loc Cert.RetfKernel.main_arg0) = m ((c.tc : Thread Cert.RetfKernel.nD Cert.RetfKernel.τ).loc Cert.RetfKernel.main_arg0))
      ∧ r.2.sem = fun _ => 0)

def quiescent_RetfKernelIdeal [hRetfKernelIdeal : Cert.RetfKernelIdeal.Facts] : Prop :=
  ∀ (m : (ℓ : Loc Cert.RetfKernelIdeal.nD Cert.RetfKernelIdeal.τ Cert.RetfKernelIdeal.sig) → Buf (Elt Ideal) ℓ) (g : Dev Cert.RetfKernelIdeal.nD → PrngReg), Pre_RetfKernelIdeal m →
    θ_run (Cert.RetfKernelIdeal.defs (F := Ideal)) (onTc (τ := Cert.RetfKernelIdeal.τ) (Cert.RetfKernelIdeal.main (F := Ideal))) ⟨m, fun _ => 0, g⟩ (fun r => (∀ c : Dev Cert.RetfKernelIdeal.nD,
      r.2.mem ((c.tc : Thread Cert.RetfKernelIdeal.nD Cert.RetfKernelIdeal.τ).loc Cert.RetfKernelIdeal.main_arg0) = m ((c.tc : Thread Cert.RetfKernelIdeal.nD Cert.RetfKernelIdeal.τ).loc Cert.RetfKernelIdeal.main_arg0))
      ∧ r.2.sem = fun _ => 0)

def quiescent_RetfKernelIdeal_pre_retf_finite [hRetfKernelIdeal : Cert.RetfKernelIdeal.Facts] [hPre_retf_finite : Cert.Pre_retf_finite.Facts] : Prop :=
  ∀ (m : (ℓ : Loc Cert.RetfKernelIdeal.nD Cert.RetfKernelIdeal.τ Cert.RetfKernelIdeal.sig) → Buf (Elt Ideal) ℓ) (g : Dev Cert.RetfKernelIdeal.nD → PrngReg), Pre_RetfKernelIdeal_retf_finite m →
    θ_run (Cert.RetfKernelIdeal.defs (F := Ideal)) (onTc (τ := Cert.RetfKernelIdeal.τ) (Cert.RetfKernelIdeal.main (F := Ideal))) ⟨m, fun _ => 0, g⟩ (fun r => (∀ c : Dev Cert.RetfKernelIdeal.nD,
      r.2.mem ((c.tc : Thread Cert.RetfKernelIdeal.nD Cert.RetfKernelIdeal.τ).loc Cert.RetfKernelIdeal.main_arg0) = m ((c.tc : Thread Cert.RetfKernelIdeal.nD Cert.RetfKernelIdeal.τ).loc Cert.RetfKernelIdeal.main_arg0))
      ∧ r.2.sem = fun _ => 0)

def quiescent_RetfReferenceIdeal [hRetfReferenceIdeal : Cert.RetfReferenceIdeal.Facts] : Prop :=
  ∀ (m : (ℓ : Loc Cert.RetfReferenceIdeal.nD Cert.RetfReferenceIdeal.τ Cert.RetfReferenceIdeal.sig) → Buf (Elt Ideal) ℓ) (g : Dev Cert.RetfReferenceIdeal.nD → PrngReg), Pre_RetfReferenceIdeal m →
    θ_run (Cert.RetfReferenceIdeal.defs (F := Ideal)) (onTc (τ := Cert.RetfReferenceIdeal.τ) (Cert.RetfReferenceIdeal.main (F := Ideal))) ⟨m, fun _ => 0, g⟩ (fun r => (∀ c : Dev Cert.RetfReferenceIdeal.nD,
      r.2.mem ((c.tc : Thread Cert.RetfReferenceIdeal.nD Cert.RetfReferenceIdeal.τ).loc Cert.RetfReferenceIdeal.main_arg0) = m ((c.tc : Thread Cert.RetfReferenceIdeal.nD Cert.RetfReferenceIdeal.τ).loc Cert.RetfReferenceIdeal.main_arg0))
      ∧ r.2.sem = fun _ => 0)

def quiescent_RetfReferenceIdeal_pre_retf_finite [hRetfReferenceIdeal : Cert.RetfReferenceIdeal.Facts] [hPre_retf_finite : Cert.Pre_retf_finite.Facts] : Prop :=
  ∀ (m : (ℓ : Loc Cert.RetfReferenceIdeal.nD Cert.RetfReferenceIdeal.τ Cert.RetfReferenceIdeal.sig) → Buf (Elt Ideal) ℓ) (g : Dev Cert.RetfReferenceIdeal.nD → PrngReg), Pre_RetfReferenceIdeal_retf_finite m →
    θ_run (Cert.RetfReferenceIdeal.defs (F := Ideal)) (onTc (τ := Cert.RetfReferenceIdeal.τ) (Cert.RetfReferenceIdeal.main (F := Ideal))) ⟨m, fun _ => 0, g⟩ (fun r => (∀ c : Dev Cert.RetfReferenceIdeal.nD,
      r.2.mem ((c.tc : Thread Cert.RetfReferenceIdeal.nD Cert.RetfReferenceIdeal.τ).loc Cert.RetfReferenceIdeal.main_arg0) = m ((c.tc : Thread Cert.RetfReferenceIdeal.nD Cert.RetfReferenceIdeal.τ).loc Cert.RetfReferenceIdeal.main_arg0))
      ∧ r.2.sem = fun _ => 0)

def quiescent_AttnfKernel [hAttnfKernel : Cert.AttnfKernel.Facts] : Prop :=
  ∀ (m : (ℓ : Loc Cert.AttnfKernel.nD Cert.AttnfKernel.τ Cert.AttnfKernel.sig) → Buf (Elt Bits) ℓ) (g : Dev Cert.AttnfKernel.nD → PrngReg), Pre_AttnfKernel m →
    θ_run (Cert.AttnfKernel.defs (F := Bits)) (onTc (τ := Cert.AttnfKernel.τ) (Cert.AttnfKernel.main (F := Bits))) ⟨m, fun _ => 0, g⟩ (fun r => (∀ c : Dev Cert.AttnfKernel.nD,
      r.2.mem ((c.tc : Thread Cert.AttnfKernel.nD Cert.AttnfKernel.τ).loc Cert.AttnfKernel.main_arg0) = m ((c.tc : Thread Cert.AttnfKernel.nD Cert.AttnfKernel.τ).loc Cert.AttnfKernel.main_arg0)
      ∧ r.2.mem ((c.tc : Thread Cert.AttnfKernel.nD Cert.AttnfKernel.τ).loc Cert.AttnfKernel.main_arg1) = m ((c.tc : Thread Cert.AttnfKernel.nD Cert.AttnfKernel.τ).loc Cert.AttnfKernel.main_arg1)
      ∧ r.2.mem ((c.tc : Thread Cert.AttnfKernel.nD Cert.AttnfKernel.τ).loc Cert.AttnfKernel.main_arg2) = m ((c.tc : Thread Cert.AttnfKernel.nD Cert.AttnfKernel.τ).loc Cert.AttnfKernel.main_arg2)
      ∧ r.2.mem ((c.tc : Thread Cert.AttnfKernel.nD Cert.AttnfKernel.τ).loc Cert.AttnfKernel.main_arg3) = m ((c.tc : Thread Cert.AttnfKernel.nD Cert.AttnfKernel.τ).loc Cert.AttnfKernel.main_arg3))
      ∧ r.2.sem = fun _ => 0)

def quiescent_AttnfKernelIdeal [hAttnfKernelIdeal : Cert.AttnfKernelIdeal.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
      ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3))
      ∧ r.2.sem = fun _ => 0)

def quiescent_AttnfKernelIdeal_pre_attnf_finite [hAttnfKernelIdeal : Cert.AttnfKernelIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg), Pre_AttnfKernelIdeal_attnf_finite m →
    θ_run (Cert.AttnfKernelIdeal.defs (F := Ideal)) (onTc (τ := Cert.AttnfKernelIdeal.τ) (Cert.AttnfKernelIdeal.main (F := Ideal))) ⟨m, fun _ => 0, g⟩ (fun r => (∀ c : Dev Cert.AttnfKernelIdeal.nD,
      r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
      ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
      ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
      ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3))
      ∧ r.2.sem = fun _ => 0)

def quiescent_AttnfReferenceIdeal [hAttnfReferenceIdeal : Cert.AttnfReferenceIdeal.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2)
      ∧ r.2.mem ((c.tc : Thread Cert.AttnfReferenceIdeal.nD Cert.AttnfReferenceIdeal.τ).loc Cert.AttnfReferenceIdeal.main_arg3) = m ((c.tc : Thread Cert.AttnfReferenceIdeal.nD Cert.AttnfReferenceIdeal.τ).loc Cert.AttnfReferenceIdeal.main_arg3))
      ∧ r.2.sem = fun _ => 0)

def quiescent_AttnfReferenceIdeal_pre_attnf_finite [hAttnfReferenceIdeal : Cert.AttnfReferenceIdeal.Facts] [hPre_attnf_finite : Cert.Pre_attnf_finite.Facts] : Prop :=
  ∀ (m : (ℓ : Loc Cert.AttnfReferenceIdeal.nD Cert.AttnfReferenceIdeal.τ Cert.AttnfReferenceIdeal.sig) → Buf (Elt Ideal) ℓ) (g : Dev Cert.AttnfReferenceIdeal.nD → PrngReg), Pre_AttnfReferenceIdeal_attnf_finite m →
    θ_run (Cert.AttnfReferenceIdeal.defs (F := Ideal)) (onTc (τ := Cert.AttnfReferenceIdeal.τ) (Cert.AttnfReferenceIdeal.main (F := Ideal))) ⟨m, fun _ => 0, g⟩ (fun r => (∀ c : Dev Cert.AttnfReferenceIdeal.nD,
      r.2.mem ((c.tc : Thread Cert.AttnfReferenceIdeal.nD Cert.AttnfReferenceIdeal.τ).loc Cert.AttnfReferenceIdeal.main_arg0) = m ((c.tc : Thread Cert.AttnfReferenceIdeal.nD Cert.AttnfReferenceIdeal.τ).loc Cert.AttnfReferenceIdeal.main_arg0)
      ∧ r.2.mem ((c.tc : Thread Cert.AttnfReferenceIdeal.nD Cert.AttnfReferenceIdeal.τ).loc Cert.AttnfReferenceIdeal.main_arg1) = m ((c.tc : Thread Cert.AttnfReferenceIdeal.nD Cert.AttnfReferenceIdeal.τ).loc Cert.AttnfReferenceIdeal.main_arg1)
      ∧ r.2.mem ((c.tc : Thread Cert.AttnfReferenceIdeal.nD Cert.AttnfReferenceIdeal.τ).loc Cert.AttnfReferenceIdeal.main_arg2) = m ((c.tc : Thread Cert.AttnfReferenceIdeal.nD Cert.AttnfReferenceIdeal.τ).loc Cert.AttnfReferenceIdeal.main_arg2)
      ∧ r.2.mem ((c.tc : Thread Cert.AttnfReferenceIdeal.nD Cert.AttnfReferenceIdeal.τ).loc Cert.AttnfReferenceIdeal.main_arg3) = m ((c.tc : Thread Cert.AttnfReferenceIdeal.nD Cert.AttnfReferenceIdeal.τ).loc Cert.AttnfReferenceIdeal.main_arg3))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2)
      ∧ r.2.mem ((c.tc : Thread Cert.LossKernel.nD Cert.LossKernel.τ).loc Cert.LossKernel.main_arg3) = m ((c.tc : Thread Cert.LossKernel.nD Cert.LossKernel.τ).loc Cert.LossKernel.main_arg3)
      ∧ r.2.mem ((c.tc : Thread Cert.LossKernel.nD Cert.LossKernel.τ).loc Cert.LossKernel.main_arg4) = m ((c.tc : Thread Cert.LossKernel.nD Cert.LossKernel.τ).loc Cert.LossKernel.main_arg4)
      ∧ r.2.mem ((c.tc : Thread Cert.LossKernel.nD Cert.LossKernel.τ).loc Cert.LossKernel.main_arg5) = m ((c.tc : Thread Cert.LossKernel.nD Cert.LossKernel.τ).loc Cert.LossKernel.main_arg5)
      ∧ r.2.mem ((c.tc : Thread Cert.LossKernel.nD Cert.LossKernel.τ).loc Cert.LossKernel.main_arg6) = m ((c.tc : Thread Cert.LossKernel.nD Cert.LossKernel.τ).loc Cert.LossKernel.main_arg6))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
      ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
      ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
      ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
      ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2)
      ∧ r.2.mem ((c.tc : Thread Cert.LossReferenceIdeal.nD Cert.LossReferenceIdeal.τ).loc Cert.LossReferenceIdeal.main_arg3) = m ((c.tc : Thread Cert.LossReferenceIdeal.nD Cert.LossReferenceIdeal.τ).loc Cert.LossReferenceIdeal.main_arg3)
      ∧ r.2.mem ((c.tc : Thread Cert.LossReferenceIdeal.nD Cert.LossReferenceIdeal.τ).loc Cert.LossReferenceIdeal.main_arg4) = m ((c.tc : Thread Cert.LossReferenceIdeal.nD Cert.LossReferenceIdeal.τ).loc Cert.LossReferenceIdeal.main_arg4)
      ∧ r.2.mem ((c.tc : Thread Cert.LossReferenceIdeal.nD Cert.LossReferenceIdeal.τ).loc Cert.LossReferenceIdeal.main_arg5) = m ((c.tc : Thread Cert.LossReferenceIdeal.nD Cert.LossReferenceIdeal.τ).loc Cert.LossReferenceIdeal.main_arg5)
      ∧ r.2.mem ((c.tc : Thread Cert.LossReferenceIdeal.nD Cert.LossReferenceIdeal.τ).loc Cert.LossReferenceIdeal.main_arg6) = m ((c.tc : Thread Cert.LossReferenceIdeal.nD Cert.LossReferenceIdeal.τ).loc Cert.LossReferenceIdeal.main_arg6))
      ∧ r.2.sem = fun _ => 0)

def quiescent_MergeKernel [hMergeKernel : Cert.MergeKernel.Facts] : Prop :=
  ∀ (m : (ℓ : Loc Cert.MergeKernel.nD Cert.MergeKernel.τ Cert.MergeKernel.sig) → Buf (Elt Bits) ℓ) (g : Dev Cert.MergeKernel.nD → PrngReg), Pre_MergeKernel m →
    θ_run (Cert.MergeKernel.defs (F := Bits)) (onTc (τ := Cert.MergeKernel.τ) (Cert.MergeKernel.main (F := Bits))) ⟨m, fun _ => 0, g⟩ (fun r => (∀ c : Dev Cert.MergeKernel.nD,
      r.2.mem ((c.tc : Thread Cert.MergeKernel.nD Cert.MergeKernel.τ).loc Cert.MergeKernel.main_arg0) = m ((c.tc : Thread Cert.MergeKernel.nD Cert.MergeKernel.τ).loc Cert.MergeKernel.main_arg0)
      ∧ r.2.mem ((c.tc : Thread Cert.MergeKernel.nD Cert.MergeKernel.τ).loc Cert.MergeKernel.main_arg1) = m ((c.tc : Thread Cert.MergeKernel.nD Cert.MergeKernel.τ).loc Cert.MergeKernel.main_arg1)
      ∧ r.2.mem ((c.tc : Thread Cert.MergeKernel.nD Cert.MergeKernel.τ).loc Cert.MergeKernel.main_arg2) = m ((c.tc : Thread Cert.MergeKernel.nD Cert.MergeKernel.τ).loc Cert.MergeKernel.main_arg2)
      ∧ r.2.mem ((c.tc : Thread Cert.MergeKernel.nD Cert.MergeKernel.τ).loc Cert.MergeKernel.main_arg3) = m ((c.tc : Thread Cert.MergeKernel.nD Cert.MergeKernel.τ).loc Cert.MergeKernel.main_arg3)
      ∧ r.2.mem ((c.tc : Thread Cert.MergeKernel.nD Cert.MergeKernel.τ).loc Cert.MergeKernel.main_arg4) = m ((c.tc : Thread Cert.MergeKernel.nD Cert.MergeKernel.τ).loc Cert.MergeKernel.main_arg4)
      ∧ r.2.mem ((c.tc : Thread Cert.MergeKernel.nD Cert.MergeKernel.τ).loc Cert.MergeKernel.main_arg5) = m ((c.tc : Thread Cert.MergeKernel.nD Cert.MergeKernel.τ).loc Cert.MergeKernel.main_arg5)
      ∧ r.2.mem ((c.tc : Thread Cert.MergeKernel.nD Cert.MergeKernel.τ).loc Cert.MergeKernel.main_arg6) = m ((c.tc : Thread Cert.MergeKernel.nD Cert.MergeKernel.τ).loc Cert.MergeKernel.main_arg6)
      ∧ r.2.mem ((c.tc : Thread Cert.MergeKernel.nD Cert.MergeKernel.τ).loc Cert.MergeKernel.main_arg7) = m ((c.tc : Thread Cert.MergeKernel.nD Cert.MergeKernel.τ).loc Cert.MergeKernel.main_arg7)
      ∧ r.2.mem ((c.tc : Thread Cert.MergeKernel.nD Cert.MergeKernel.τ).loc Cert.MergeKernel.main_arg8) = m ((c.tc : Thread Cert.MergeKernel.nD Cert.MergeKernel.τ).loc Cert.MergeKernel.main_arg8)
      ∧ r.2.mem ((c.tc : Thread Cert.MergeKernel.nD Cert.MergeKernel.τ).loc Cert.MergeKernel.main_arg9) = m ((c.tc : Thread Cert.MergeKernel.nD Cert.MergeKernel.τ).loc Cert.MergeKernel.main_arg9))
      ∧ r.2.sem = fun _ => 0)

def quiescent_MergeKernelIdeal [hMergeKernelIdeal : Cert.MergeKernelIdeal.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeKernelIdeal_pre_merge_finite [hMergeKernelIdeal : Cert.MergeKernelIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg), Pre_MergeKernelIdeal_merge_finite m →
    θ_run (Cert.MergeKernelIdeal.defs (F := Ideal)) (onTc (τ := Cert.MergeKernelIdeal.τ) (Cert.MergeKernelIdeal.main (F := Ideal))) ⟨m, fun _ => 0, g⟩ (fun r => (∀ c : Dev Cert.MergeKernelIdeal.nD,
      r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
      ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
      ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
      ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
      ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
      ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
      ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
      ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
      ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
      ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_MergeReferenceIdeal_pre_merge_finite [hMergeReferenceIdeal : Cert.MergeReferenceIdeal.Facts] [hPre_merge_finite : Cert.Pre_merge_finite.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal_merge_finite m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9))
      ∧ r.2.sem = fun _ => 0)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_RetKernel_RetKernelIdeal : Prop :=
  True

def algebraic_RetKernelIdeal_RetReferenceIdeal_pre_ret_finite [hRetKernelIdeal : Cert.RetKernelIdeal.Facts] [hRetReferenceIdeal : Cert.RetReferenceIdeal.Facts] [hPre_ret_finite : Cert.Pre_ret_finite.Facts] : Prop :=
  ∀ (m : (ℓ : Loc Cert.RetKernelIdeal.nD Cert.RetKernelIdeal.τ Cert.RetKernelIdeal.sig) → Buf (Elt Ideal) ℓ) (g : Dev Cert.RetKernelIdeal.nD → PrngReg)
    (m' : (ℓ : Loc Cert.RetReferenceIdeal.nD Cert.RetReferenceIdeal.τ Cert.RetReferenceIdeal.sig) → Buf (Elt Ideal) ℓ) (g' : Dev Cert.RetReferenceIdeal.nD → PrngReg), Pre_RetKernelIdeal_ret_finite m →
    (∀ c : Dev Cert.RetKernelIdeal.nD,
      m' ((c.tc : Thread Cert.RetReferenceIdeal.nD Cert.RetReferenceIdeal.τ).loc Cert.RetReferenceIdeal.main_arg0) = m ((c.tc : Thread Cert.RetKernelIdeal.nD Cert.RetKernelIdeal.τ).loc Cert.RetKernelIdeal.main_arg0)
      ∧ m' ((c.tc : Thread Cert.RetReferenceIdeal.nD Cert.RetReferenceIdeal.τ).loc Cert.RetReferenceIdeal.main_arg1) = m ((c.tc : Thread Cert.RetKernelIdeal.nD Cert.RetKernelIdeal.τ).loc Cert.RetKernelIdeal.main_arg1)) →
    ∃ (v0 : (c : Dev Cert.RetKernelIdeal.nD) → Buf (Elt Ideal) ((c.tc : Thread Cert.RetKernelIdeal.nD Cert.RetKernelIdeal.τ).loc Cert.RetKernelIdeal.main_v371)),
      θ_run (Cert.RetKernelIdeal.defs (F := Ideal)) (onTc (τ := Cert.RetKernelIdeal.τ) (Cert.RetKernelIdeal.main (F := Ideal))) ⟨m, fun _ => 0, g⟩ (fun r => ∀ c : Dev Cert.RetKernelIdeal.nD,
          r.2.mem ((c.tc : Thread Cert.RetKernelIdeal.nD Cert.RetKernelIdeal.τ).loc Cert.RetKernelIdeal.main_v371) = v0 c
          ∧ r.2.mem ((c.tc : Thread Cert.RetKernelIdeal.nD Cert.RetKernelIdeal.τ).loc Cert.RetKernelIdeal.main_arg0) = m ((c.tc : Thread Cert.RetKernelIdeal.nD Cert.RetKernelIdeal.τ).loc Cert.RetKernelIdeal.main_arg0)
          ∧ r.2.mem ((c.tc : Thread Cert.RetKernelIdeal.nD Cert.RetKernelIdeal.τ).loc Cert.RetKernelIdeal.main_arg1) = m ((c.tc : Thread Cert.RetKernelIdeal.nD Cert.RetKernelIdeal.τ).loc Cert.RetKernelIdeal.main_arg1))
      ∧ θ_run (Cert.RetReferenceIdeal.defs (F := Ideal)) (onTc (τ := Cert.RetReferenceIdeal.τ) (Cert.RetReferenceIdeal.main (F := Ideal))) ⟨m', fun _ => 0, g'⟩ (fun r => ∀ c : Dev Cert.RetReferenceIdeal.nD,
          r.2.mem ((c.tc : Thread Cert.RetReferenceIdeal.nD Cert.RetReferenceIdeal.τ).loc Cert.RetReferenceIdeal.main_v183) = v0 c
          ∧ r.2.mem ((c.tc : Thread Cert.RetReferenceIdeal.nD Cert.RetReferenceIdeal.τ).loc Cert.RetReferenceIdeal.main_arg0) = m' ((c.tc : Thread Cert.RetReferenceIdeal.nD Cert.RetReferenceIdeal.τ).loc Cert.RetReferenceIdeal.main_arg0)
          ∧ r.2.mem ((c.tc : Thread Cert.RetReferenceIdeal.nD Cert.RetReferenceIdeal.τ).loc Cert.RetReferenceIdeal.main_arg1) = m' ((c.tc : Thread Cert.RetReferenceIdeal.nD Cert.RetReferenceIdeal.τ).loc Cert.RetReferenceIdeal.main_arg1))

def preserves_RetfKernel_RetfKernelIdeal : Prop :=
  True

def algebraic_RetfKernelIdeal_RetfReferenceIdeal_pre_retf_finite [hRetfKernelIdeal : Cert.RetfKernelIdeal.Facts] [hRetfReferenceIdeal : Cert.RetfReferenceIdeal.Facts] [hPre_retf_finite : Cert.Pre_retf_finite.Facts] : Prop :=
  ∀ (m : (ℓ : Loc Cert.RetfKernelIdeal.nD Cert.RetfKernelIdeal.τ Cert.RetfKernelIdeal.sig) → Buf (Elt Ideal) ℓ) (g : Dev Cert.RetfKernelIdeal.nD → PrngReg)
    (m' : (ℓ : Loc Cert.RetfReferenceIdeal.nD Cert.RetfReferenceIdeal.τ Cert.RetfReferenceIdeal.sig) → Buf (Elt Ideal) ℓ) (g' : Dev Cert.RetfReferenceIdeal.nD → PrngReg), Pre_RetfKernelIdeal_retf_finite m →
    (∀ c : Dev Cert.RetfKernelIdeal.nD,
      m' ((c.tc : Thread Cert.RetfReferenceIdeal.nD Cert.RetfReferenceIdeal.τ).loc Cert.RetfReferenceIdeal.main_arg0) = m ((c.tc : Thread Cert.RetfKernelIdeal.nD Cert.RetfKernelIdeal.τ).loc Cert.RetfKernelIdeal.main_arg0)) →
    ∃ (v0 : (c : Dev Cert.RetfKernelIdeal.nD) → Buf (Elt Ideal) ((c.tc : Thread Cert.RetfKernelIdeal.nD Cert.RetfKernelIdeal.τ).loc Cert.RetfKernelIdeal.main_v119_0)) (v1 : (c : Dev Cert.RetfKernelIdeal.nD) → Buf (Elt Ideal) ((c.tc : Thread Cert.RetfKernelIdeal.nD Cert.RetfKernelIdeal.τ).loc Cert.RetfKernelIdeal.main_v119_1)),
      θ_run (Cert.RetfKernelIdeal.defs (F := Ideal)) (onTc (τ := Cert.RetfKernelIdeal.τ) (Cert.RetfKernelIdeal.main (F := Ideal))) ⟨m, fun _ => 0, g⟩ (fun r => ∀ c : Dev Cert.RetfKernelIdeal.nD,
          r.2.mem ((c.tc : Thread Cert.RetfKernelIdeal.nD Cert.RetfKernelIdeal.τ).loc Cert.RetfKernelIdeal.main_v119_0) = v0 c
          ∧ r.2.mem ((c.tc : Thread Cert.RetfKernelIdeal.nD Cert.RetfKernelIdeal.τ).loc Cert.RetfKernelIdeal.main_v119_1) = v1 c
          ∧ r.2.mem ((c.tc : Thread Cert.RetfKernelIdeal.nD Cert.RetfKernelIdeal.τ).loc Cert.RetfKernelIdeal.main_arg0) = m ((c.tc : Thread Cert.RetfKernelIdeal.nD Cert.RetfKernelIdeal.τ).loc Cert.RetfKernelIdeal.main_arg0))
      ∧ θ_run (Cert.RetfReferenceIdeal.defs (F := Ideal)) (onTc (τ := Cert.RetfReferenceIdeal.τ) (Cert.RetfReferenceIdeal.main (F := Ideal))) ⟨m', fun _ => 0, g'⟩ (fun r => ∀ c : Dev Cert.RetfReferenceIdeal.nD,
          r.2.mem ((c.tc : Thread Cert.RetfReferenceIdeal.nD Cert.RetfReferenceIdeal.τ).loc Cert.RetfReferenceIdeal.main_v128) = v0 c
          ∧ r.2.mem ((c.tc : Thread Cert.RetfReferenceIdeal.nD Cert.RetfReferenceIdeal.τ).loc Cert.RetfReferenceIdeal.main_v130) = v1 c
          ∧ r.2.mem ((c.tc : Thread Cert.RetfReferenceIdeal.nD Cert.RetfReferenceIdeal.τ).loc Cert.RetfReferenceIdeal.main_arg0) = m' ((c.tc : Thread Cert.RetfReferenceIdeal.nD Cert.RetfReferenceIdeal.τ).loc Cert.RetfReferenceIdeal.main_arg0))

def preserves_AttnfKernel_AttnfKernelIdeal : Prop :=
  IdealRules.named_const.Statement Cert.AttnfKernelIdeal.κ "mask" .f32 0xF149F2CA#32 ⊥

def algebraic_AttnfKernelIdeal_AttnfReferenceIdeal_pre_attnf_finite [hAttnfKernelIdeal : Cert.AttnfKernelIdeal.Facts] [hAttnfReferenceIdeal : Cert.AttnfReferenceIdeal.Facts] [hPre_attnf_finite : Cert.Pre_attnf_finite.Facts] : Prop :=
  ∀ (m : (ℓ : Loc Cert.AttnfKernelIdeal.nD Cert.AttnfKernelIdeal.τ Cert.AttnfKernelIdeal.sig) → Buf (Elt Ideal) ℓ) (g : Dev Cert.AttnfKernelIdeal.nD → PrngReg)
    (m' : (ℓ : Loc Cert.AttnfReferenceIdeal.nD Cert.AttnfReferenceIdeal.τ Cert.AttnfReferenceIdeal.sig) → Buf (Elt Ideal) ℓ) (g' : Dev Cert.AttnfReferenceIdeal.nD → PrngReg), Pre_AttnfKernelIdeal_attnf_finite m →
    (∀ c : Dev Cert.AttnfKernelIdeal.nD,
      m' ((c.tc : Thread Cert.AttnfReferenceIdeal.nD Cert.AttnfReferenceIdeal.τ).loc Cert.AttnfReferenceIdeal.main_arg0) = m ((c.tc : Thread Cert.AttnfKernelIdeal.nD Cert.AttnfKernelIdeal.τ).loc Cert.AttnfKernelIdeal.main_arg0)
      ∧ m' ((c.tc : Thread Cert.AttnfReferenceIdeal.nD Cert.AttnfReferenceIdeal.τ).loc Cert.AttnfReferenceIdeal.main_arg1) = m ((c.tc : Thread Cert.AttnfKernelIdeal.nD Cert.AttnfKernelIdeal.τ).loc Cert.AttnfKernelIdeal.main_arg1)
      ∧ m' ((c.tc : Thread Cert.AttnfReferenceIdeal.nD Cert.AttnfReferenceIdeal.τ).loc Cert.AttnfReferenceIdeal.main_arg2) = m ((c.tc : Thread Cert.AttnfKernelIdeal.nD Cert.AttnfKernelIdeal.τ).loc Cert.AttnfKernelIdeal.main_arg2)
      ∧ m' ((c.tc : Thread Cert.AttnfReferenceIdeal.nD Cert.AttnfReferenceIdeal.τ).loc Cert.AttnfReferenceIdeal.main_arg3) = m ((c.tc : Thread Cert.AttnfKernelIdeal.nD Cert.AttnfKernelIdeal.τ).loc Cert.AttnfKernelIdeal.main_arg3)) →
    ∃ (v0 : (c : Dev Cert.AttnfKernelIdeal.nD) → Buf (Elt Ideal) ((c.tc : Thread Cert.AttnfKernelIdeal.nD Cert.AttnfKernelIdeal.τ).loc Cert.AttnfKernelIdeal.main_v68)),
      θ_run (Cert.AttnfKernelIdeal.defs (F := Ideal)) (onTc (τ := Cert.AttnfKernelIdeal.τ) (Cert.AttnfKernelIdeal.main (F := Ideal))) ⟨m, fun _ => 0, g⟩ (fun r => ∀ c : Dev Cert.AttnfKernelIdeal.nD,
          r.2.mem ((c.tc : Thread Cert.AttnfKernelIdeal.nD Cert.AttnfKernelIdeal.τ).loc Cert.AttnfKernelIdeal.main_v68) = v0 c
          ∧ r.2.mem ((c.tc : Thread Cert.AttnfKernelIdeal.nD Cert.AttnfKernelIdeal.τ).loc Cert.AttnfKernelIdeal.main_arg0) = m ((c.tc : Thread Cert.AttnfKernelIdeal.nD Cert.AttnfKernelIdeal.τ).loc Cert.AttnfKernelIdeal.main_arg0)
          ∧ r.2.mem ((c.tc : Thread Cert.AttnfKernelIdeal.nD Cert.AttnfKernelIdeal.τ).loc Cert.AttnfKernelIdeal.main_arg1) = m ((c.tc : Thread Cert.AttnfKernelIdeal.nD Cert.AttnfKernelIdeal.τ).loc Cert.AttnfKernelIdeal.main_arg1)
          ∧ r.2.mem ((c.tc : Thread Cert.AttnfKernelIdeal.nD Cert.AttnfKernelIdeal.τ).loc Cert.AttnfKernelIdeal.main_arg2) = m ((c.tc : Thread Cert.AttnfKernelIdeal.nD Cert.AttnfKernelIdeal.τ).loc Cert.AttnfKernelIdeal.main_arg2)
          ∧ r.2.mem ((c.tc : Thread Cert.AttnfKernelIdeal.nD Cert.AttnfKernelIdeal.τ).loc Cert.AttnfKernelIdeal.main_arg3) = m ((c.tc : Thread Cert.AttnfKernelIdeal.nD Cert.AttnfKernelIdeal.τ).loc Cert.AttnfKernelIdeal.main_arg3))
      ∧ θ_run (Cert.AttnfReferenceIdeal.defs (F := Ideal)) (onTc (τ := Cert.AttnfReferenceIdeal.τ) (Cert.AttnfReferenceIdeal.main (F := Ideal))) ⟨m', fun _ => 0, g'⟩ (fun r => ∀ c : Dev Cert.AttnfReferenceIdeal.nD,
          r.2.mem ((c.tc : Thread Cert.AttnfReferenceIdeal.nD Cert.AttnfReferenceIdeal.τ).loc Cert.AttnfReferenceIdeal.main_v131) = v0 c
          ∧ r.2.mem ((c.tc : Thread Cert.AttnfReferenceIdeal.nD Cert.AttnfReferenceIdeal.τ).loc Cert.AttnfReferenceIdeal.main_arg0) = m' ((c.tc : Thread Cert.AttnfReferenceIdeal.nD Cert.AttnfReferenceIdeal.τ).loc Cert.AttnfReferenceIdeal.main_arg0)
          ∧ r.2.mem ((c.tc : Thread Cert.AttnfReferenceIdeal.nD Cert.AttnfReferenceIdeal.τ).loc Cert.AttnfReferenceIdeal.main_arg1) = m' ((c.tc : Thread Cert.AttnfReferenceIdeal.nD Cert.AttnfReferenceIdeal.τ).loc Cert.AttnfReferenceIdeal.main_arg1)
          ∧ r.2.mem ((c.tc : Thread Cert.AttnfReferenceIdeal.nD Cert.AttnfReferenceIdeal.τ).loc Cert.AttnfReferenceIdeal.main_arg2) = m' ((c.tc : Thread Cert.AttnfReferenceIdeal.nD Cert.AttnfReferenceIdeal.τ).loc Cert.AttnfReferenceIdeal.main_arg2)
          ∧ r.2.mem ((c.tc : Thread Cert.AttnfReferenceIdeal.nD Cert.AttnfReferenceIdeal.τ).loc Cert.AttnfReferenceIdeal.main_arg3) = m' ((c.tc : Thread Cert.AttnfReferenceIdeal.nD Cert.AttnfReferenceIdeal.τ).loc Cert.AttnfReferenceIdeal.main_arg3))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v28_0)) (v1 : (c : Dev Cert.FfnKernelIdeal.nD) → Buf (Elt Ideal) ((c.tc : Thread Cert.FfnKernelIdeal.nD Cert.FfnKernelIdeal.τ).loc Cert.FfnKernelIdeal.main_v28_1)) (v2 : (c : Dev Cert.FfnKernelIdeal.nD) → Buf (Elt Ideal) ((c.tc : Thread Cert.FfnKernelIdeal.nD Cert.FfnKernelIdeal.τ).loc Cert.FfnKernelIdeal.main_v28_2)) (v3 : (c : Dev Cert.FfnKernelIdeal.nD) → Buf (Elt Ideal) ((c.tc : Thread Cert.FfnKernelIdeal.nD Cert.FfnKernelIdeal.τ).loc Cert.FfnKernelIdeal.main_v28_3)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v28_0) = v0 c
          ∧ r.2.mem ((c.tc : Thread Cert.FfnKernelIdeal.nD Cert.FfnKernelIdeal.τ).loc Cert.FfnKernelIdeal.main_v28_1) = v1 c
          ∧ r.2.mem ((c.tc : Thread Cert.FfnKernelIdeal.nD Cert.FfnKernelIdeal.τ).loc Cert.FfnKernelIdeal.main_v28_2) = v2 c
          ∧ r.2.mem ((c.tc : Thread Cert.FfnKernelIdeal.nD Cert.FfnKernelIdeal.τ).loc Cert.FfnKernelIdeal.main_v28_3) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v70) = v0 c
          ∧ r.2.mem ((c.tc : Thread Cert.FfnReferenceIdeal.nD Cert.FfnReferenceIdeal.τ).loc Cert.FfnReferenceIdeal.main_v72) = v1 c
          ∧ r.2.mem ((c.tc : Thread Cert.FfnReferenceIdeal.nD Cert.FfnReferenceIdeal.τ).loc Cert.FfnReferenceIdeal.main_v73) = v2 c
          ∧ r.2.mem ((c.tc : Thread Cert.FfnReferenceIdeal.nD Cert.FfnReferenceIdeal.τ).loc Cert.FfnReferenceIdeal.main_v68) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)
      ∧ m' ((c.tc : Thread Cert.LossReferenceIdeal.nD Cert.LossReferenceIdeal.τ).loc Cert.LossReferenceIdeal.main_arg3) = m ((c.tc : Thread Cert.LossKernelIdeal.nD Cert.LossKernelIdeal.τ).loc Cert.LossKernelIdeal.main_arg3)
      ∧ m' ((c.tc : Thread Cert.LossReferenceIdeal.nD Cert.LossReferenceIdeal.τ).loc Cert.LossReferenceIdeal.main_arg4) = m ((c.tc : Thread Cert.LossKernelIdeal.nD Cert.LossKernelIdeal.τ).loc Cert.LossKernelIdeal.main_arg4)
      ∧ m' ((c.tc : Thread Cert.LossReferenceIdeal.nD Cert.LossReferenceIdeal.τ).loc Cert.LossReferenceIdeal.main_arg5) = m ((c.tc : Thread Cert.LossKernelIdeal.nD Cert.LossKernelIdeal.τ).loc Cert.LossKernelIdeal.main_arg5)
      ∧ m' ((c.tc : Thread Cert.LossReferenceIdeal.nD Cert.LossReferenceIdeal.τ).loc Cert.LossReferenceIdeal.main_arg6) = m ((c.tc : Thread Cert.LossKernelIdeal.nD Cert.LossKernelIdeal.τ).loc Cert.LossKernelIdeal.main_arg6)) →
    ∃ (v0 : (c : Dev Cert.LossKernelIdeal.nD) → Buf (Elt Ideal) ((c.tc : Thread Cert.LossKernelIdeal.nD Cert.LossKernelIdeal.τ).loc Cert.LossKernelIdeal.main_v11_0)) (v1 : (c : Dev Cert.LossKernelIdeal.nD) → Buf (Elt Ideal) ((c.tc : Thread Cert.LossKernelIdeal.nD Cert.LossKernelIdeal.τ).loc Cert.LossKernelIdeal.main_v11_1)) (v2 : (c : Dev Cert.LossKernelIdeal.nD) → Buf (Elt Ideal) ((c.tc : Thread Cert.LossKernelIdeal.nD Cert.LossKernelIdeal.τ).loc Cert.LossKernelIdeal.main_v11_2)) (v3 : (c : Dev Cert.LossKernelIdeal.nD) → Buf (Elt Ideal) ((c.tc : Thread Cert.LossKernelIdeal.nD Cert.LossKernelIdeal.τ).loc Cert.LossKernelIdeal.main_v11_3)) (v4 : (c : Dev Cert.LossKernelIdeal.nD) → Buf (Elt Ideal) ((c.tc : Thread Cert.LossKernelIdeal.nD Cert.LossKernelIdeal.τ).loc Cert.LossKernelIdeal.main_v11_4)) (v5 : (c : Dev Cert.LossKernelIdeal.nD) → Buf (Elt Ideal) ((c.tc : Thread Cert.LossKernelIdeal.nD Cert.LossKernelIdeal.τ).loc Cert.LossKernelIdeal.main_v11_5)) (v6 : (c : Dev Cert.LossKernelIdeal.nD) → Buf (Elt Ideal) ((c.tc : Thread Cert.LossKernelIdeal.nD Cert.LossKernelIdeal.τ).loc Cert.LossKernelIdeal.main_v11_6)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v11_0) = v0 c
          ∧ r.2.mem ((c.tc : Thread Cert.LossKernelIdeal.nD Cert.LossKernelIdeal.τ).loc Cert.LossKernelIdeal.main_v11_1) = v1 c
          ∧ r.2.mem ((c.tc : Thread Cert.LossKernelIdeal.nD Cert.LossKernelIdeal.τ).loc Cert.LossKernelIdeal.main_v11_2) = v2 c
          ∧ r.2.mem ((c.tc : Thread Cert.LossKernelIdeal.nD Cert.LossKernelIdeal.τ).loc Cert.LossKernelIdeal.main_v11_3) = v3 c
          ∧ r.2.mem ((c.tc : Thread Cert.LossKernelIdeal.nD Cert.LossKernelIdeal.τ).loc Cert.LossKernelIdeal.main_v11_4) = v4 c
          ∧ r.2.mem ((c.tc : Thread Cert.LossKernelIdeal.nD Cert.LossKernelIdeal.τ).loc Cert.LossKernelIdeal.main_v11_5) = v5 c
          ∧ r.2.mem ((c.tc : Thread Cert.LossKernelIdeal.nD Cert.LossKernelIdeal.τ).loc Cert.LossKernelIdeal.main_v11_6) = v6 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2)
          ∧ r.2.mem ((c.tc : Thread Cert.LossKernelIdeal.nD Cert.LossKernelIdeal.τ).loc Cert.LossKernelIdeal.main_arg3) = m ((c.tc : Thread Cert.LossKernelIdeal.nD Cert.LossKernelIdeal.τ).loc Cert.LossKernelIdeal.main_arg3)
          ∧ r.2.mem ((c.tc : Thread Cert.LossKernelIdeal.nD Cert.LossKernelIdeal.τ).loc Cert.LossKernelIdeal.main_arg4) = m ((c.tc : Thread Cert.LossKernelIdeal.nD Cert.LossKernelIdeal.τ).loc Cert.LossKernelIdeal.main_arg4)
          ∧ r.2.mem ((c.tc : Thread Cert.LossKernelIdeal.nD Cert.LossKernelIdeal.τ).loc Cert.LossKernelIdeal.main_arg5) = m ((c.tc : Thread Cert.LossKernelIdeal.nD Cert.LossKernelIdeal.τ).loc Cert.LossKernelIdeal.main_arg5)
          ∧ r.2.mem ((c.tc : Thread Cert.LossKernelIdeal.nD Cert.LossKernelIdeal.τ).loc Cert.LossKernelIdeal.main_arg6) = m ((c.tc : Thread Cert.LossKernelIdeal.nD Cert.LossKernelIdeal.τ).loc Cert.LossKernelIdeal.main_arg6))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v75) = v0 c
          ∧ r.2.mem ((c.tc : Thread Cert.LossReferenceIdeal.nD Cert.LossReferenceIdeal.τ).loc Cert.LossReferenceIdeal.main_v76) = v1 c
          ∧ r.2.mem ((c.tc : Thread Cert.LossReferenceIdeal.nD Cert.LossReferenceIdeal.τ).loc Cert.LossReferenceIdeal.main_v78) = v2 c
          ∧ r.2.mem ((c.tc : Thread Cert.LossReferenceIdeal.nD Cert.LossReferenceIdeal.τ).loc Cert.LossReferenceIdeal.main_v80) = v3 c
          ∧ r.2.mem ((c.tc : Thread Cert.LossReferenceIdeal.nD Cert.LossReferenceIdeal.τ).loc Cert.LossReferenceIdeal.main_v81) = v4 c
          ∧ r.2.mem ((c.tc : Thread Cert.LossReferenceIdeal.nD Cert.LossReferenceIdeal.τ).loc Cert.LossReferenceIdeal.main_v82) = v5 c
          ∧ r.2.mem ((c.tc : Thread Cert.LossReferenceIdeal.nD Cert.LossReferenceIdeal.τ).loc Cert.LossReferenceIdeal.main_v83) = v6 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2)
          ∧ r.2.mem ((c.tc : Thread Cert.LossReferenceIdeal.nD Cert.LossReferenceIdeal.τ).loc Cert.LossReferenceIdeal.main_arg3) = m' ((c.tc : Thread Cert.LossReferenceIdeal.nD Cert.LossReferenceIdeal.τ).loc Cert.LossReferenceIdeal.main_arg3)
          ∧ r.2.mem ((c.tc : Thread Cert.LossReferenceIdeal.nD Cert.LossReferenceIdeal.τ).loc Cert.LossReferenceIdeal.main_arg4) = m' ((c.tc : Thread Cert.LossReferenceIdeal.nD Cert.LossReferenceIdeal.τ).loc Cert.LossReferenceIdeal.main_arg4)
          ∧ r.2.mem ((c.tc : Thread Cert.LossReferenceIdeal.nD Cert.LossReferenceIdeal.τ).loc Cert.LossReferenceIdeal.main_arg5) = m' ((c.tc : Thread Cert.LossReferenceIdeal.nD Cert.LossReferenceIdeal.τ).loc Cert.LossReferenceIdeal.main_arg5)
          ∧ r.2.mem ((c.tc : Thread Cert.LossReferenceIdeal.nD Cert.LossReferenceIdeal.τ).loc Cert.LossReferenceIdeal.main_arg6) = m' ((c.tc : Thread Cert.LossReferenceIdeal.nD Cert.LossReferenceIdeal.τ).loc Cert.LossReferenceIdeal.main_arg6))

def preserves_MergeKernel_MergeKernelIdeal : Prop :=
  True

def algebraic_MergeKernelIdeal_MergeReferenceIdeal_pre_merge_finite [hMergeKernelIdeal : Cert.MergeKernelIdeal.Facts] [hMergeReferenceIdeal : Cert.MergeReferenceIdeal.Facts] [hPre_merge_finite : Cert.Pre_merge_finite.Facts] : Prop :=
  ∀ (m : (ℓ : Loc Cert.MergeKernelIdeal.nD Cert.MergeKernelIdeal.τ Cert.MergeKernelIdeal.sig) → Buf (Elt Ideal) ℓ) (g : Dev Cert.MergeKernelIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeKernelIdeal_merge_finite m →
    (∀ c : Dev Cert.MergeKernelIdeal.nD,
      m' ((c.tc : Thread Cert.MergeReferenceIdeal.nD Cert.MergeReferenceIdeal.τ).loc Cert.MergeReferenceIdeal.main_arg0) = m ((c.tc : Thread Cert.MergeKernelIdeal.nD Cert.MergeKernelIdeal.τ).loc Cert.MergeKernelIdeal.main_arg0)
      ∧ m' ((c.tc : Thread Cert.MergeReferenceIdeal.nD Cert.MergeReferenceIdeal.τ).loc Cert.MergeReferenceIdeal.main_arg1) = m ((c.tc : Thread Cert.MergeKernelIdeal.nD Cert.MergeKernelIdeal.τ).loc Cert.MergeKernelIdeal.main_arg1)
      ∧ m' ((c.tc : Thread Cert.MergeReferenceIdeal.nD Cert.MergeReferenceIdeal.τ).loc Cert.MergeReferenceIdeal.main_arg2) = m ((c.tc : Thread Cert.MergeKernelIdeal.nD Cert.MergeKernelIdeal.τ).loc Cert.MergeKernelIdeal.main_arg2)
      ∧ m' ((c.tc : Thread Cert.MergeReferenceIdeal.nD Cert.MergeReferenceIdeal.τ).loc Cert.MergeReferenceIdeal.main_arg3) = m ((c.tc : Thread Cert.MergeKernelIdeal.nD Cert.MergeKernelIdeal.τ).loc Cert.MergeKernelIdeal.main_arg3)
      ∧ m' ((c.tc : Thread Cert.MergeReferenceIdeal.nD Cert.MergeReferenceIdeal.τ).loc Cert.MergeReferenceIdeal.main_arg4) = m ((c.tc : Thread Cert.MergeKernelIdeal.nD Cert.MergeKernelIdeal.τ).loc Cert.MergeKernelIdeal.main_arg4)
      ∧ m' ((c.tc : Thread Cert.MergeReferenceIdeal.nD Cert.MergeReferenceIdeal.τ).loc Cert.MergeReferenceIdeal.main_arg5) = m ((c.tc : Thread Cert.MergeKernelIdeal.nD Cert.MergeKernelIdeal.τ).loc Cert.MergeKernelIdeal.main_arg5)
      ∧ m' ((c.tc : Thread Cert.MergeReferenceIdeal.nD Cert.MergeReferenceIdeal.τ).loc Cert.MergeReferenceIdeal.main_arg6) = m ((c.tc : Thread Cert.MergeKernelIdeal.nD Cert.MergeKernelIdeal.τ).loc Cert.MergeKernelIdeal.main_arg6)
      ∧ m' ((c.tc : Thread Cert.MergeReferenceIdeal.nD Cert.MergeReferenceIdeal.τ).loc Cert.MergeReferenceIdeal.main_arg7) = m ((c.tc : Thread Cert.MergeKernelIdeal.nD Cert.MergeKernelIdeal.τ).loc Cert.MergeKernelIdeal.main_arg7)
      ∧ m' ((c.tc : Thread Cert.MergeReferenceIdeal.nD Cert.MergeReferenceIdeal.τ).loc Cert.MergeReferenceIdeal.main_arg8) = m ((c.tc : Thread Cert.MergeKernelIdeal.nD Cert.MergeKernelIdeal.τ).loc Cert.MergeKernelIdeal.main_arg8)
      ∧ m' ((c.tc : Thread Cert.MergeReferenceIdeal.nD Cert.MergeReferenceIdeal.τ).loc Cert.MergeReferenceIdeal.main_arg9) = m ((c.tc : Thread Cert.MergeKernelIdeal.nD Cert.MergeKernelIdeal.τ).loc Cert.MergeKernelIdeal.main_arg9)) →
    ∃ (v0 : (c : Dev Cert.MergeKernelIdeal.nD) → Buf (Elt Ideal) ((c.tc : Thread Cert.MergeKernelIdeal.nD Cert.MergeKernelIdeal.τ).loc Cert.MergeKernelIdeal.main_v42_0)) (v1 : (c : Dev Cert.MergeKernelIdeal.nD) → Buf (Elt Ideal) ((c.tc : Thread Cert.MergeKernelIdeal.nD Cert.MergeKernelIdeal.τ).loc Cert.MergeKernelIdeal.main_v42_1)) (v2 : (c : Dev Cert.MergeKernelIdeal.nD) → Buf (Elt Ideal) ((c.tc : Thread Cert.MergeKernelIdeal.nD Cert.MergeKernelIdeal.τ).loc Cert.MergeKernelIdeal.main_v42_2)) (v3 : (c : Dev Cert.MergeKernelIdeal.nD) → Buf (Elt Ideal) ((c.tc : Thread Cert.MergeKernelIdeal.nD Cert.MergeKernelIdeal.τ).loc Cert.MergeKernelIdeal.main_v42_3)) (v4 : (c : Dev Cert.MergeKernelIdeal.nD) → Buf (Elt Ideal) ((c.tc : Thread Cert.MergeKernelIdeal.nD Cert.MergeKernelIdeal.τ).loc Cert.MergeKernelIdeal.main_v42_4)) (v5 : (c : Dev Cert.MergeKernelIdeal.nD) → Buf (Elt Ideal) ((c.tc : Thread Cert.MergeKernelIdeal.nD Cert.MergeKernelIdeal.τ).loc Cert.MergeKernelIdeal.main_v42_5)) (v6 : (c : Dev Cert.MergeKernelIdeal.nD) → Buf (Elt Ideal) ((c.tc : Thread Cert.MergeKernelIdeal.nD Cert.MergeKernelIdeal.τ).loc Cert.MergeKernelIdeal.main_v42_6)),
      θ_run (Cert.MergeKernelIdeal.defs (F := Ideal)) (onTc (τ := Cert.MergeKernelIdeal.τ) (Cert.MergeKernelIdeal.main (F := Ideal))) ⟨m, fun _ => 0, g⟩ (fun r => ∀ c : Dev Cert.MergeKernelIdeal.nD,
          r.2.mem ((c.tc : Thread Cert.MergeKernelIdeal.nD Cert.MergeKernelIdeal.τ).loc Cert.MergeKernelIdeal.main_v42_0) = v0 c
          ∧ r.2.mem ((c.tc : Thread Cert.MergeKernelIdeal.nD Cert.MergeKernelIdeal.τ).loc Cert.MergeKernelIdeal.main_v42_1) = v1 c
          ∧ r.2.mem ((c.tc : Thread Cert.MergeKernelIdeal.nD Cert.MergeKernelIdeal.τ).loc Cert.MergeKernelIdeal.main_v42_2) = v2 c
          ∧ r.2.mem ((c.tc : Thread Cert.MergeKernelIdeal.nD Cert.MergeKernelIdeal.τ).loc Cert.MergeKernelIdeal.main_v42_3) = v3 c
          ∧ r.2.mem ((c.tc : Thread Cert.MergeKernelIdeal.nD Cert.MergeKernelIdeal.τ).loc Cert.MergeKernelIdeal.main_v42_4) = v4 c
          ∧ r.2.mem ((c.tc : Thread Cert.MergeKernelIdeal.nD Cert.MergeKernelIdeal.τ).loc Cert.MergeKernelIdeal.main_v42_5) = v5 c
          ∧ r.2.mem ((c.tc : Thread Cert.MergeKernelIdeal.nD Cert.MergeKernelIdeal.τ).loc Cert.MergeKernelIdeal.main_v42_6) = v6 c
          ∧ r.2.mem ((c.tc : Thread Cert.MergeKernelIdeal.nD Cert.MergeKernelIdeal.τ).loc Cert.MergeKernelIdeal.main_arg0) = m ((c.tc : Thread Cert.MergeKernelIdeal.nD Cert.MergeKernelIdeal.τ).loc Cert.MergeKernelIdeal.main_arg0)
          ∧ r.2.mem ((c.tc : Thread Cert.MergeKernelIdeal.nD Cert.MergeKernelIdeal.τ).loc Cert.MergeKernelIdeal.main_arg1) = m ((c.tc : Thread Cert.MergeKernelIdeal.nD Cert.MergeKernelIdeal.τ).loc Cert.MergeKernelIdeal.main_arg1)
          ∧ r.2.mem ((c.tc : Thread Cert.MergeKernelIdeal.nD Cert.MergeKernelIdeal.τ).loc Cert.MergeKernelIdeal.main_arg2) = m ((c.tc : Thread Cert.MergeKernelIdeal.nD Cert.MergeKernelIdeal.τ).loc Cert.MergeKernelIdeal.main_arg2)
          ∧ r.2.mem ((c.tc : Thread Cert.MergeKernelIdeal.nD Cert.MergeKernelIdeal.τ).loc Cert.MergeKernelIdeal.main_arg3) = m ((c.tc : Thread Cert.MergeKernelIdeal.nD Cert.MergeKernelIdeal.τ).loc Cert.MergeKernelIdeal.main_arg3)
          ∧ r.2.mem ((c.tc : Thread Cert.MergeKernelIdeal.nD Cert.MergeKernelIdeal.τ).loc Cert.MergeKernelIdeal.main_arg4) = m ((c.tc : Thread Cert.MergeKernelIdeal.nD Cert.MergeKernelIdeal.τ).loc Cert.MergeKernelIdeal.main_arg4)
          ∧ r.2.mem ((c.tc : Thread Cert.MergeKernelIdeal.nD Cert.MergeKernelIdeal.τ).loc Cert.MergeKernelIdeal.main_arg5) = m ((c.tc : Thread Cert.MergeKernelIdeal.nD Cert.MergeKernelIdeal.τ).loc Cert.MergeKernelIdeal.main_arg5)
          ∧ r.2.mem ((c.tc : Thread Cert.MergeKernelIdeal.nD Cert.MergeKernelIdeal.τ).loc Cert.MergeKernelIdeal.main_arg6) = m ((c.tc : Thread Cert.MergeKernelIdeal.nD Cert.MergeKernelIdeal.τ).loc Cert.MergeKernelIdeal.main_arg6)
          ∧ r.2.mem ((c.tc : Thread Cert.MergeKernelIdeal.nD Cert.MergeKernelIdeal.τ).loc Cert.MergeKernelIdeal.main_arg7) = m ((c.tc : Thread Cert.MergeKernelIdeal.nD Cert.MergeKernelIdeal.τ).loc Cert.MergeKernelIdeal.main_arg7)
          ∧ r.2.mem ((c.tc : Thread Cert.MergeKernelIdeal.nD Cert.MergeKernelIdeal.τ).loc Cert.MergeKernelIdeal.main_arg8) = m ((c.tc : Thread Cert.MergeKernelIdeal.nD Cert.MergeKernelIdeal.τ).loc Cert.MergeKernelIdeal.main_arg8)
          ∧ r.2.mem ((c.tc : Thread Cert.MergeKernelIdeal.nD Cert.MergeKernelIdeal.τ).loc Cert.MergeKernelIdeal.main_arg9) = m ((c.tc : Thread Cert.MergeKernelIdeal.nD Cert.MergeKernelIdeal.τ).loc Cert.MergeKernelIdeal.main_arg9))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v111) = v0 c
          ∧ r.2.mem ((c.tc : Thread Cert.MergeReferenceIdeal.nD Cert.MergeReferenceIdeal.τ).loc Cert.MergeReferenceIdeal.main_v113) = v1 c
          ∧ r.2.mem ((c.tc : Thread Cert.MergeReferenceIdeal.nD Cert.MergeReferenceIdeal.τ).loc Cert.MergeReferenceIdeal.main_v115) = v2 c
          ∧ r.2.mem ((c.tc : Thread Cert.MergeReferenceIdeal.nD Cert.MergeReferenceIdeal.τ).loc Cert.MergeReferenceIdeal.main_v117) = v3 c
          ∧ r.2.mem ((c.tc : Thread Cert.MergeReferenceIdeal.nD Cert.MergeReferenceIdeal.τ).loc Cert.MergeReferenceIdeal.main_v119) = v4 c
          ∧ r.2.mem ((c.tc : Thread Cert.MergeReferenceIdeal.nD Cert.MergeReferenceIdeal.τ).loc Cert.MergeReferenceIdeal.main_v121) = v5 c
          ∧ r.2.mem ((c.tc : Thread Cert.MergeReferenceIdeal.nD Cert.MergeReferenceIdeal.τ).loc Cert.MergeReferenceIdeal.main_v108) = v6 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9))

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v33_0)) (v1 : (c : Dev Cert.KernelIdeal.nD) → Buf (Elt Ideal) ((c.tc : Thread Cert.KernelIdeal.nD Cert.KernelIdeal.τ).loc Cert.KernelIdeal.main_v33_1)) (v2 : (c : Dev Cert.KernelIdeal.nD) → Buf (Elt Ideal) ((c.tc : Thread Cert.KernelIdeal.nD Cert.KernelIdeal.τ).loc Cert.KernelIdeal.main_v33_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33_0) = v0 c
          ∧ r.2.mem ((c.tc : Thread Cert.KernelIdeal.nD Cert.KernelIdeal.τ).loc Cert.KernelIdeal.main_v33_1) = v1 c
          ∧ r.2.mem ((c.tc : Thread Cert.KernelIdeal.nD Cert.KernelIdeal.τ).loc Cert.KernelIdeal.main_v33_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hRetKernel : Cert.RetKernel.Facts) (hRetKernelIdeal : Cert.RetKernelIdeal.Facts) (hRetReferenceIdeal : Cert.RetReferenceIdeal.Facts) (hRetfKernel : Cert.RetfKernel.Facts) (hRetfKernelIdeal : Cert.RetfKernelIdeal.Facts) (hRetfReferenceIdeal : Cert.RetfReferenceIdeal.Facts) (hAttnfKernel : Cert.AttnfKernel.Facts) (hAttnfKernelIdeal : Cert.AttnfKernelIdeal.Facts) (hAttnfReferenceIdeal : Cert.AttnfReferenceIdeal.Facts) (hFfnKernel : Cert.FfnKernel.Facts) (hFfnKernelIdeal : Cert.FfnKernelIdeal.Facts) (hFfnReferenceIdeal : Cert.FfnReferenceIdeal.Facts) (hLossKernel : Cert.LossKernel.Facts) (hLossKernelIdeal : Cert.LossKernelIdeal.Facts) (hLossReferenceIdeal : Cert.LossReferenceIdeal.Facts) (hMergeKernel : Cert.MergeKernel.Facts) (hMergeKernelIdeal : Cert.MergeKernelIdeal.Facts) (hMergeReferenceIdeal : Cert.MergeReferenceIdeal.Facts) (hKernel : Cert.Kernel.Facts) (hKernelIdeal : Cert.KernelIdeal.Facts) (hReferenceIdeal : Cert.ReferenceIdeal.Facts) (hPre_ret_finite : Cert.Pre_ret_finite.Facts) (hPre_retf_finite : Cert.Pre_retf_finite.Facts) (hPre_attnf_finite : Cert.Pre_attnf_finite.Facts) (hPre_ffn_finite : Cert.Pre_ffn_finite.Facts) (hPre_loss_finite : Cert.Pre_loss_finite.Facts) (hPre_merge_finite : Cert.Pre_merge_finite.Facts) (hPre_finite : Cert.Pre_finite.Facts),
    quiescent_RetKernel (hRetKernel := hRetKernel)
    ∧ quiescent_RetKernelIdeal (hRetKernelIdeal := hRetKernelIdeal)
    ∧ quiescent_RetKernelIdeal_pre_ret_finite (hRetKernelIdeal := hRetKernelIdeal) (hPre_ret_finite := hPre_ret_finite)
    ∧ quiescent_RetReferenceIdeal (hRetReferenceIdeal := hRetReferenceIdeal)
    ∧ quiescent_RetReferenceIdeal_pre_ret_finite (hRetReferenceIdeal := hRetReferenceIdeal) (hPre_ret_finite := hPre_ret_finite)
    ∧ quiescent_RetfKernel (hRetfKernel := hRetfKernel)
    ∧ quiescent_RetfKernelIdeal (hRetfKernelIdeal := hRetfKernelIdeal)
    ∧ quiescent_RetfKernelIdeal_pre_retf_finite (hRetfKernelIdeal := hRetfKernelIdeal) (hPre_retf_finite := hPre_retf_finite)
    ∧ quiescent_RetfReferenceIdeal (hRetfReferenceIdeal := hRetfReferenceIdeal)
    ∧ quiescent_RetfReferenceIdeal_pre_retf_finite (hRetfReferenceIdeal := hRetfReferenceIdeal) (hPre_retf_finite := hPre_retf_finite)
    ∧ quiescent_AttnfKernel (hAttnfKernel := hAttnfKernel)
    ∧ quiescent_AttnfKernelIdeal (hAttnfKernelIdeal := hAttnfKernelIdeal)
    ∧ quiescent_AttnfKernelIdeal_pre_attnf_finite (hAttnfKernelIdeal := hAttnfKernelIdeal) (hPre_attnf_finite := hPre_attnf_finite)
    ∧ quiescent_AttnfReferenceIdeal (hAttnfReferenceIdeal := hAttnfReferenceIdeal)
    ∧ quiescent_AttnfReferenceIdeal_pre_attnf_finite (hAttnfReferenceIdeal := hAttnfReferenceIdeal) (hPre_attnf_finite := hPre_attnf_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_MergeKernel (hMergeKernel := hMergeKernel)
    ∧ quiescent_MergeKernelIdeal (hMergeKernelIdeal := hMergeKernelIdeal)
    ∧ quiescent_MergeKernelIdeal_pre_merge_finite (hMergeKernelIdeal := hMergeKernelIdeal) (hPre_merge_finite := hPre_merge_finite)
    ∧ quiescent_MergeReferenceIdeal (hMergeReferenceIdeal := hMergeReferenceIdeal)
    ∧ quiescent_MergeReferenceIdeal_pre_merge_finite (hMergeReferenceIdeal := hMergeReferenceIdeal) (hPre_merge_finite := hPre_merge_finite)
    ∧ quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_RetKernel_RetKernelIdeal
    ∧ algebraic_RetKernelIdeal_RetReferenceIdeal_pre_ret_finite (hRetKernelIdeal := hRetKernelIdeal) (hRetReferenceIdeal := hRetReferenceIdeal) (hPre_ret_finite := hPre_ret_finite)
    ∧ preserves_RetfKernel_RetfKernelIdeal
    ∧ algebraic_RetfKernelIdeal_RetfReferenceIdeal_pre_retf_finite (hRetfKernelIdeal := hRetfKernelIdeal) (hRetfReferenceIdeal := hRetfReferenceIdeal) (hPre_retf_finite := hPre_retf_finite)
    ∧ preserves_AttnfKernel_AttnfKernelIdeal
    ∧ algebraic_AttnfKernelIdeal_AttnfReferenceIdeal_pre_attnf_finite (hAttnfKernelIdeal := hAttnfKernelIdeal) (hAttnfReferenceIdeal := hAttnfReferenceIdeal) (hPre_attnf_finite := hPre_attnf_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_MergeKernel_MergeKernelIdeal
    ∧ algebraic_MergeKernelIdeal_MergeReferenceIdeal_pre_merge_finite (hMergeKernelIdeal := hMergeKernelIdeal) (hMergeReferenceIdeal := hMergeReferenceIdeal) (hPre_merge_finite := hPre_merge_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_attnf_finite.lean ====
abbrev S1x8192x1024 : Shape := ⟨3, ![1, 8192, 1024]⟩
abbrev S1x8192x128 : Shape := ⟨3, ![1, 8192, 128]⟩
abbrev S1x16 : Shape := ⟨2, ![1, 16]⟩
abbrev S_ : Shape := ⟨0, ![]⟩

class Facts : Prop where
  bcast_S_S1x8192x1024 : S_.BroadcastsInDim S1x8192x1024 (![] : Fin 0 → Fin S1x8192x1024.rank)
  bcast_S_S1x8192x128 : S_.BroadcastsInDim S1x8192x128 (![] : Fin 0 → Fin S1x8192x128.rank)
  bcast_S_S1x16 : S_.BroadcastsInDim S1x16 (![] : Fin 0 → Fin S1x16.rank)

variable [Facts]

def fn {F : FTy → Type} [FloatOps F] (main_arg0 : FVec F S1x8192x1024 .f32) (main_arg1 : FVec F S1x8192x128 .f32) (main_arg2 : FVec F S1x8192x128 .f32) (main_arg3 : FVec F S1x16 .f32) : IVec S1x8192x1024 1 × IVec S1x8192x128 1 × IVec S1x16 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x8192x128 .f32 := Host.absf main_arg1
  let main_cst_0 : FVec F S_ .f32 := constant S_ .f32 0x7F800000#32
  let main_v4 : FVec F S1x8192x128 .f32 := broadcastInDim S1x8192x128 ![] bcast_S_S1x8192x128 main_cst_0
  let main_v5 : IVec S1x8192x128 1 := cmpf .olt main_v3 main_v4
  let main_v6 : FVec F S1x16 .f32 := Host.absf main_arg3
  let main_cst_1 : FVec F S_ .f32 := constant S_ .f32 0x7F800000#32
  let main_v7 : FVec F S1x16 .f32 := broadcastInDim S1x16 ![] bcast_S_S1x16 main_cst_1
  let main_v8 : IVec S1x16 1 := cmpf .olt main_v6 main_v7
  (main_v2, main_v5, main_v8)
-- ==== Pre_ffn_finite.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x8192x1024 .f32) (main_arg1 : FVec F S1x1024 .f32) (main_arg2 : FVec F S1x1024x2816 .f32) (main_arg3 : FVec F S1x1024x2816 .f32) (main_arg4 : FVec F S1x2816x1024 .f32) (main_arg5 : FVec F S1x8192x1024 .f32) : IVec S1x8192x1024 1 × IVec S1x1024 1 × IVec S1x1024x2816 1 × IVec S1x1024x2816 1 × IVec S1x2816x1024 1 × IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg2
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg3
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg4
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  let main_v15 : FVec F S1x8192x1024 .f32 := Host.absf main_arg5
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_finite.lean ====
abbrev S1x8192x1024 : Shape := ⟨3, ![1, 8192, 1024]⟩
abbrev S1x1024 : Shape := ⟨2, ![1, 1024]⟩
abbrev S1x1024x6400 : Shape := ⟨3, ![1, 1024, 6400]⟩
abbrev S1x6400 : Shape := ⟨2, ![1, 6400]⟩
abbrev S1x8192x6400 : Shape := ⟨3, ![1, 8192, 6400]⟩
abbrev S_ : Shape := ⟨0, ![]⟩

class Facts : Prop where
  bcast_S_S1x8192x1024 : S_.BroadcastsInDim S1x8192x1024 (![] : Fin 0 → Fin S1x8192x1024.rank)

variable [Facts]

def fn {F : FTy → Type} [FloatOps F] (main_arg0 : FVec F S1x8192x1024 .f32) (main_arg1 : FVec F S1x1024 .f32) (main_arg2 : FVec F S1x1024x6400 .f32) (main_arg3 : FVec F S1x6400 .f32) (main_arg4 : FVec F S1x8192x1024 .f32) (main_arg5 : FVec F S1x8192x6400 .f32) : IVec S1x8192x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  main_v2
-- ==== Pre_loss_finite.lean ====
abbrev S1x8192x1024 : Shape := ⟨3, ![1, 8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩

class Facts : Prop where
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x2816 : S_.BroadcastsInDim S1x1024x2816 (![] : Fin 0 → Fin S1x1024x2816.rank)
  bcast_S_S1x2816x1024 : S_.BroadcastsInDim S1x2816x1024 (![] : Fin 0 → Fin S1x2816x1024.rank)

variable [Facts]

def fn {F : FTy → Type} [FloatOps F] (main_arg0 : FVec F S1x8192x1024 .f32) (main_arg1 : FVec F S1x8192x1024 .f32) (main_arg2 : FVec F S1x1024 .f32) (main_arg3 : FVec F S1024 .f32) (main_arg4 : FVec F S1x1024x2816 .f32) (main_arg5 : FVec F S1x1024x2816 .f32) (main_arg6 : FVec F S1x2816x1024 .f32) : IVec S1x8192x1024 1 × IVec S1x1024 1 × IVec S1x1024x2816 1 × IVec S1x1024x2816 1 × IVec S1x2816x1024 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_v3 : FVec F S1x1024 .f32 := Host.absf main_arg2
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x2816 .f32 := Host.absf main_arg4
  let main_cst_1 : FVec F S_ .f32 := constant S_ .f32 0x7F800000#32
  let main_v7 : FVec F S1x1024x2816 .f32 := broadcastInDim S1x1024x2816 ![] bcast_S_S1x1024x2816 main_cst_1
  let main_v8 : IVec S1x1024x2816 1 := cmpf .olt main_v6 main_v7
  let main_v9 : FVec F S1x1024x2816 .f32 := Host.absf main_arg5
  let main_cst_2 : FVec F S_ .f32 := constant S_ .f32 0x7F800000#32
  let main_v10 : FVec F S1x1024x2816 .f32 := broadcastInDim S1x1024x2816 ![] bcast_S_S1x1024x2816 main_cst_2
  let main_v11 : IVec S1x1024x2816 1 := cmpf .olt main_v9 main_v10
  let main_v12 : FVec F S1x2816x1024 .f32 := Host.absf main_arg6
  let main_cst_3 : FVec F S_ .f32 := constant S_ .f32 0x7F800000#32
  let main_v13 : FVec F S1x2816x1024 .f32 := broadcastInDim S1x2816x1024 ![] bcast_S_S1x2816x1024 main_cst_3
  let main_v14 : IVec S1x2816x1024 1 := cmpf .olt main_v12 main_v13
  (main_v2, main_v5, main_v8, main_v11, main_v14)
-- ==== Pre_merge_finite.lean ====
abbrev S1x8192x4x256 : Shape := ⟨4, ![1, 8192, 4, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S_ : Shape := ⟨0, ![]⟩

class Facts : Prop where
  bcast_S_S1x8192x4x256 : S_.BroadcastsInDim S1x8192x4x256 (![] : Fin 0 → Fin S1x8192x4x256.rank)
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)

variable [Facts]

def fn {F : FTy → Type} [FloatOps F] (main_arg0 : FVec F S1x8192x4x256 .f32) (main_arg1 : FVec F S1x8192x1024 .f32) (main_arg2 : FVec F S1x8192x1024 .f32) (main_arg3 : FVec F S1x8192x1024 .f32) (main_arg4 : FVec F S1x8192x1024 .f32) (main_arg5 : FVec F S1x1024 .f32) (main_arg6 : FVec F S1x1024x1024 .f32) (main_arg7 : FVec F S1x1024x1024 .f32) (main_arg8 : FVec F S1x1024x1024 .f32) (main_arg9 : FVec F S1x8192x1024 .f32) : IVec S1x8192x4x256 1 × IVec S1x8192x1024 1 × IVec S1x1024 1 × IVec S1x1024x1024 1 × IVec S1x1024x1024 1 × IVec S1x8192x1024 1 :=
  let main_v0 : FVec F S1x8192x4x256 .f32 := Host.absf main_arg0
  let main_cst : FVec F S_ .f32 := constant S_ .f32 0x7F800000#32
  let main_v1 : FVec F S1x8192x4x256 .f32 := broadcastInDim S1x8192x4x256 ![] bcast_S_S1x8192x4x256 main_cst
  let main_v2 : IVec S1x8192x4x256 1 := cmpf .olt main_v0 main_v1
  let main_v3 : FVec F S1x8192x1024 .f32 := Host.absf main_arg1
  let main_cst_0 : FVec F S_ .f32 := constant S_ .f32 0x7F800000#32
  let main_v4 : FVec F S1x8192x1024 .f32 := broadcastInDim S1x8192x1024 ![] bcast_S_S1x8192x1024 main_cst_0
  let main_v5 : IVec S1x8192x1024 1 := cmpf .olt main_v3 main_v4
  let main_v6 : FVec F S1x1024 .f32 := Host.absf main_arg5
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024x1024 .f32 := Host.absf main_arg6
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_v12 : FVec F S1x1024x1024 .f32 := Host.absf main_arg8
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x8192x1024 .f32 := Host.absf main_arg9
  let main_cst_4 : FVec F S_ .f32 := constant S_ .f32 0x7F800000#32
  let main_v16 : FVec F S1x8192x1024 .f32 := broadcastInDim S1x8192x1024 ![] bcast_S_S1x8192x1024 main_cst_4
  let main_v17 : IVec S1x8192x1024 1 := cmpf .olt main_v15 main_v16
  (main_v2, main_v5, main_v8, main_v11, main_v14, main_v17)
-- ==== Pre_ret_finite.lean ====
abbrev S1x8192x2048 : Shape := ⟨3, ![1, 8192, 2048]⟩
abbrev S1x8192x4x256 : Shape := ⟨4, ![1, 8192, 4, 256]⟩
abbrev S_ : Shape := ⟨0, ![]⟩

class Facts : Prop where
  bcast_S_S1x8192x2048 : S_.BroadcastsInDim S1x8192x2048 (![] : Fin 0 → Fin S1x8192x2048.rank)
  bcast_S_S1x8192x4x256 : S_.BroadcastsInDim S1x8192x4x256 (![] : Fin 0 → Fin S1x8192x4x256.rank)

variable [Facts]

def fn {F : FTy → Type} [FloatOps F] (main_arg0 : FVec F S1x8192x2048 .f32) (main_arg1 : FVec F S1x8192x4x256 .f32) : IVec S1x8192x2048 1 × IVec S1x8192x4x256 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  let main_v3 : FVec F S1x8192x4x256 .f32 := Host.absf main_arg1
  let main_cst_0 : FVec F S_ .f32 := constant S_ .f32 0x7F800000#32
  let main_v4 : FVec F S1x8192x4x256 .f32 := broadcastInDim S1x8192x4x256 ![] bcast_S_S1x8192x4x256 main_cst_0
  let main_v5 : IVec S1x8192x4x256 1 := cmpf .olt main_v3 main_v4
  (main_v2, main_v5)
-- ==== Pre_retf_finite.lean ====
abbrev S1x8192x2048 : Shape := ⟨3, ![1, 8192, 2048]⟩
abbrev S_ : Shape := ⟨0, ![]⟩

class Facts : Prop where
  bcast_S_S1x8192x2048 : S_.BroadcastsInDim S1x8192x2048 (![] : Fin 0 → Fin S1x8192x2048.rank)

variable [Facts]

def fn {F : FTy → Type} [FloatOps F] (main_arg0 : FVec F S1x8192x2048 .f32) : IVec S1x8192x2048 1 :=
  let main_v0 : FVec F S1x8192x2048 .f32 := Host.absf main_arg0
  let main_cst : FVec F S_ .f32 := constant S_ .f32 0x7F800000#32
  let main_v1 : FVec F S1x8192x2048 .f32 := broadcastInDim S1x8192x2048 ![] bcast_S_S1x8192x2048 main_cst
  let main_v2 : IVec S1x8192x2048 1 := cmpf .olt main_v0 main_v1
  main_v2
-- ==== RetKernel.lean ====
abbrev S1x8192x2048 : Shape := ⟨3, ![1, 8192, 2048]⟩
abbrev S1x8192x4x256 : Shape := ⟨4, ![1, 8192, 4, 256]⟩
abbrev S_ : Shape := ⟨0, ![]⟩
abbrev S8x128 : Shape := ⟨2, ![8, 128]⟩
abbrev S8192 : Shape := ⟨1, ![8192]⟩
abbrev S1x8192x512 : Shape := ⟨3, ![1, 8192, 512]⟩
abbrev S1x8192x1024 : Shape := ⟨3, ![1, 8192, 1024]⟩
abbrev S1x8192x4x128 : Shape := ⟨4, ![1, 8192, 4, 128]⟩
abbrev S64 : Shape := ⟨1, ![64]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x512 : Shape := ⟨2, ![8192, 512]⟩
abbrev S1x1 : Shape := ⟨2, ![1, 1]⟩
abbrev S32 : Shape := ⟨1, ![32]⟩
abbrev S1x32 : Shape := ⟨2, ![1, 32]⟩
abbrev S8192x32 : Shape := ⟨2, ![8192, 32]⟩
abbrev S8192x128 : Shape := ⟨2, ![8192, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S8192x1024 : Shape := ⟨2, ![8192, 1024]⟩
abbrev S32x256x4x128 : Shape := ⟨4, ![32, 256, 4, 128]⟩
abbrev S32x4x256x128 : Shape := ⟨4, ![32, 4, 256, 128]⟩
abbrev S32x256x4x256 : Shape := ⟨4, ![32, 256, 4, 256]⟩
abbrev S32x4x256x256 : Shape := ⟨4, ![32, 4, 256, 256]⟩
abbrev S1x4x256x1 : Shape := ⟨4, ![1, 4, 256, 1]⟩
abbrev S32x4x128x256 : Shape := ⟨4, ![32, 4, 128, 256]⟩
abbrev S4x128x256 : Shape := ⟨3, ![4, 128, 256]⟩
abbrev S0x4x128x256 : Shape := ⟨4, ![0, 4, 128, 256]⟩
abbrev S1x4x128x256 : Shape := ⟨4, ![1, 4, 128, 256]⟩
abbrev S16x4x128x256 : Shape := ⟨4, ![16, 4, 128, 256]⟩
abbrev S8192x2048 : Shape := ⟨2, ![8192, 2048]⟩
abbrev S1024x512 : Shape := ⟨2, ![1024, 512]⟩
abbrev S1024x1024 : Shape := ⟨2, ![1024, 1024]⟩
abbrev S4x4x128x256 : Shape := ⟨4, ![4, 4, 128, 256]⟩
abbrev S1024x128 : Shape := ⟨2, ![1024, 128]⟩
abbrev S1024x2048 : Shape := ⟨2, ![1024, 2048]⟩
abbrev S256x128 : Shape := ⟨2, ![256, 128]⟩
abbrev S1x256x1 : Shape := ⟨3, ![1, 256, 1]⟩
abbrev S1x1x128x256 : Shape := ⟨4, ![1, 1, 128, 256]⟩
abbrev S128x256 : Shape := ⟨2, ![128, 256]⟩
abbrev S1x128x256 : Shape := ⟨3, ![1, 128, 256]⟩
abbrev S1x1x1 : Shape := ⟨3, ![1, 1, 1]⟩

abbrev nBuf : Space → Nat
  | .hbm => 397
  | .vmem => 21
  | .smem => 0
  | _ => 0

abbrev hbmTy0_0 (i : Nat) : BufTy := match i % 128 with
  | 0 => ⟨S1x8192x2048, .f32⟩
  | 1 => ⟨S1x8192x4x256, .f32⟩
  | 2 => ⟨S_, .f32⟩
  | 3 => ⟨S8x128, .f32⟩
  | 4 => ⟨S8192, .i32⟩
  | 5 => ⟨S1x8192x512, .f32⟩
  | 6 => ⟨S1x8192x512, .f32⟩
  | 7 => ⟨S1x8192x1024, .f32⟩
  | 8 => ⟨S1x8192x4x128, .f32⟩
  | 9 => ⟨S64, .f32⟩
  | 10 => ⟨S64, .f32⟩
  | 11 => ⟨S_, .f32⟩
  | 12 => ⟨S64, .f32⟩
  | 13 => ⟨S64, .f32⟩
  | 14 => ⟨S_, .f32⟩
  | 15 => ⟨S64, .f32⟩
  | 16 => ⟨S64, .f32⟩
  | 17 => ⟨S8192, .f32⟩
  | 18 => ⟨S8192x1, .f32⟩
  | 19 => ⟨S1x64, .f32⟩
  | 20 => ⟨S8192x64, .f32⟩
  | 21 => ⟨S8192x64, .f32⟩
  | 22 => ⟨S8192x64, .f32⟩
  | 23 => ⟨S8192x64, .f32⟩
  | 24 => ⟨S1x8192x1x64, .f32⟩
  | 25 => ⟨S8192x64, .f32⟩
  | 26 => ⟨S1x8192x1x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x64, .f32⟩
  | 38 => ⟨S1x8192x4x64, .f32⟩
  | 39 => ⟨S1x8192x4x128, .f32⟩
  | 40 => ⟨S1x8192x4x128, .f32⟩
  | 41 => ⟨S64, .f32⟩
  | 42 => ⟨S64, .f32⟩
  | 43 => ⟨S_, .f32⟩
  | 44 => ⟨S64, .f32⟩
  | 45 => ⟨S64, .f32⟩
  | 46 => ⟨S_, .f32⟩
  | 47 => ⟨S64, .f32⟩
  | 48 => ⟨S64, .f32⟩
  | 49 => ⟨S8192, .f32⟩
  | 50 => ⟨S8192x1, .f32⟩
  | 51 => ⟨S1x64, .f32⟩
  | 52 => ⟨S8192x64, .f32⟩
  | 53 => ⟨S8192x64, .f32⟩
  | 54 => ⟨S8192x64, .f32⟩
  | 55 => ⟨S8192x64, .f32⟩
  | 56 => ⟨S1x8192x1x64, .f32⟩
  | 57 => ⟨S8192x64, .f32⟩
  | 58 => ⟨S1x8192x1x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x64, .f32⟩
  | 70 => ⟨S1x8192x4x64, .f32⟩
  | 71 => ⟨S1x8192x4x128, .f32⟩
  | 72 => ⟨S_, .f32⟩
  | 73 => ⟨S1x8192x4x128, .f32⟩
  | 74 => ⟨S1x8192x4x128, .f32⟩
  | 75 => ⟨S8192x512, .f32⟩
  | 76 => ⟨S8192x512, .bf16⟩
  | 77 => ⟨S8192x512, .f32⟩
  | 78 => ⟨S8192, .i32⟩
  | 79 => ⟨S8192, .f32⟩
  | 80 => ⟨S1x1, .f32⟩
  | 81 => ⟨S_, .f32⟩
  | 82 => ⟨S8192, .f32⟩
  | 83 => ⟨S8192, .f32⟩
  | 84 => ⟨S64, .f32⟩
  | 85 => ⟨S64, .f32⟩
  | 86 => ⟨S_, .f32⟩
  | 87 => ⟨S64, .f32⟩
  | 88 => ⟨S64, .f32⟩
  | 89 => ⟨S_, .f32⟩
  | 90 => ⟨S64, .f32⟩
  | 91 => ⟨S64, .f32⟩
  | 92 => ⟨S8192x1, .f32⟩
  | 93 => ⟨S1x64, .f32⟩
  | 94 => ⟨S8192x64, .f32⟩
  | 95 => ⟨S8192x64, .f32⟩
  | 96 => ⟨S8192x64, .f32⟩
  | 97 => ⟨S8192x64, .f32⟩
  | 98 => ⟨S8192x64, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S8192x1, .f32⟩
  | 108 => ⟨S1x32, .f32⟩
  | 109 => ⟨S8192x32, .f32⟩
  | 110 => ⟨S8192x32, .f32⟩
  | 111 => ⟨S8192x32, .f32⟩
  | 112 => ⟨S8192x32, .f32⟩
  | 113 => ⟨S8192x32, .f32⟩
  | 114 => ⟨S8192x128, .f32⟩
  | 115 => ⟨S8192x64, .f32⟩
  | 116 => ⟨S8192x128, .f32⟩
  | 117 => ⟨S8192x128, .f32⟩
  | 118 => ⟨S8192x32, .f32⟩
  | 119 => ⟨S8192x32, .f32⟩
  | 120 => ⟨S8192x128, .f32⟩
  | 121 => ⟨S4, .f32⟩
  | 122 => ⟨S_, .f32⟩
  | 123 => ⟨S4, .f32⟩
  | 124 => ⟨S4, .f32⟩
  | 125 => ⟨S_, .f32⟩
  | 126 => ⟨S4, .f32⟩
  | 127 => ⟨S4, .f32⟩
  | _ => ⟨S1x8192x2048, .f32⟩

abbrev hbmTy0_1 (i : Nat) : BufTy := match i % 128 with
  | 0 => ⟨S4, .f32⟩
  | 1 => ⟨S4, .f32⟩
  | 2 => ⟨S4, .f32⟩
  | 3 => ⟨S256, .f32⟩
  | 4 => ⟨S256x1, .f32⟩
  | 5 => ⟨S1x256, .f32⟩
  | 6 => ⟨S256x256, .f32⟩
  | 7 => ⟨S256x256, .f32⟩
  | 8 => ⟨S256x256, .f32⟩
  | 9 => ⟨S1x256x256, .f32⟩
  | 10 => ⟨S_, .f32⟩
  | 11 => ⟨S1x256x256, .f32⟩
  | 12 => ⟨S1x256x256, .i1⟩
  | 13 => ⟨S4x1x1, .f32⟩
  | 14 => ⟨S_, .f32⟩
  | 15 => ⟨S256x256, .f32⟩
  | 16 => ⟨S256x256, .f32⟩
  | 17 => ⟨S1x256x256, .f32⟩
  | 18 => ⟨S4x256x256, .f32⟩
  | 19 => ⟨S4x256x256, .f32⟩
  | 20 => ⟨S4x256x256, .f32⟩
  | 21 => ⟨S4x256x256, .f32⟩
  | 22 => ⟨S_, .f32⟩
  | 23 => ⟨S_, .f32⟩
  | 24 => ⟨S4x256x256, .i1⟩
  | 25 => ⟨S4x256x256, .f32⟩
  | 26 => ⟨S4x256x256, .f32⟩
  | 27 => ⟨S4x1, .f32⟩
  | 28 => ⟨S_, .f32⟩
  | 29 => ⟨S256, .f32⟩
  | 30 => ⟨S256, .f32⟩
  | 31 => ⟨S1x256, .f32⟩
  | 32 => ⟨S4x256, .f32⟩
  | 33 => ⟨S4x256, .f32⟩
  | 34 => ⟨S4x256, .f32⟩
  | 35 => ⟨S4x256, .f32⟩
  | 36 => ⟨S4x256x1, .f32⟩
  | 37 => ⟨S4x1, .f32⟩
  | 38 => ⟨S_, .f32⟩
  | 39 => ⟨S256, .f32⟩
  | 40 => ⟨S256, .f32⟩
  | 41 => ⟨S1x256, .f32⟩
  | 42 => ⟨S4x256, .f32⟩
  | 43 => ⟨S4x256, .f32⟩
  | 44 => ⟨S4x256, .f32⟩
  | 45 => ⟨S4x256, .f32⟩
  | 46 => ⟨S4x256x1, .f32⟩
  | 47 => ⟨S_, .f32⟩
  | 48 => ⟨S4, .f32⟩
  | 49 => ⟨S4, .f32⟩
  | 50 => ⟨S4, .f32⟩
  | 51 => ⟨S4x1x1, .f32⟩
  | 52 => ⟨S8192x1024, .f32⟩
  | 53 => ⟨S32x256x4x128, .f32⟩
  | 54 => ⟨S32x4x256x128, .f32⟩
  | 55 => ⟨S32x256x4x256, .f32⟩
  | 56 => ⟨S32x4x256x256, .f32⟩
  | 57 => ⟨S1x4x256x1, .f32⟩
  | 58 => ⟨S32x4x256x128, .f32⟩
  | 59 => ⟨S32x4x256x128, .f32⟩
  | 60 => ⟨S32x4x128x256, .f32⟩
  | 61 => ⟨S_, .f32⟩
  | 62 => ⟨S4x128x256, .f32⟩
  | 63 => ⟨S0x4x128x256, .f32⟩
  | 64 => ⟨S32x4x128x256, .f32⟩
  | 65 => ⟨S_, .f32⟩
  | 66 => ⟨S0x4x128x256, .f32⟩
  | 67 => ⟨S1x4x128x256, .f32⟩
  | 68 => ⟨S4x128x256, .f32⟩
  | 69 => ⟨S4x128x256, .f32⟩
  | 70 => ⟨S4x128x256, .f32⟩
  | 71 => ⟨S4x128x256, .f32⟩
  | 72 => ⟨S1x4x128x256, .f32⟩
  | 73 => ⟨S4x128x256, .f32⟩
  | 74 => ⟨S4x128x256, .f32⟩
  | 75 => ⟨S4x128x256, .f32⟩
  | 76 => ⟨S4x128x256, .f32⟩
  | 77 => ⟨S1x4x128x256, .f32⟩
  | 78 => ⟨S4x128x256, .f32⟩
  | 79 => ⟨S4x128x256, .f32⟩
  | 80 => ⟨S4x128x256, .f32⟩
  | 81 => ⟨S4x128x256, .f32⟩
  | 82 => ⟨S1x4x128x256, .f32⟩
  | 83 => ⟨S4x128x256, .f32⟩
  | 84 => ⟨S4x128x256, .f32⟩
  | 85 => ⟨S4x128x256, .f32⟩
  | 86 => ⟨S4x128x256, .f32⟩
  | 87 => ⟨S1x4x128x256, .f32⟩
  | 88 => ⟨S4x128x256, .f32⟩
  | 89 => ⟨S4x128x256, .f32⟩
  | 90 => ⟨S4x128x256, .f32⟩
  | 91 => ⟨S4x128x256, .f32⟩
  | 92 => ⟨S1x4x128x256, .f32⟩
  | 93 => ⟨S4x128x256, .f32⟩
  | 94 => ⟨S4x128x256, .f32⟩
  | 95 => ⟨S4x128x256, .f32⟩
  | 96 => ⟨S4x128x256, .f32⟩
  | 97 => ⟨S1x4x128x256, .f32⟩
  | 98 => ⟨S4x128x256, .f32⟩
  | 99 => ⟨S4x128x256, .f32⟩
  | 100 => ⟨S4x128x256, .f32⟩
  | 101 => ⟨S4x128x256, .f32⟩
  | 102 => ⟨S1x4x128x256, .f32⟩
  | 103 => ⟨S4x128x256, .f32⟩
  | 104 => ⟨S4x128x256, .f32⟩
  | 105 => ⟨S4x128x256, .f32⟩
  | 106 => ⟨S4x128x256, .f32⟩
  | 107 => ⟨S1x4x128x256, .f32⟩
  | 108 => ⟨S4x128x256, .f32⟩
  | 109 => ⟨S4x128x256, .f32⟩
  | 110 => ⟨S4x128x256, .f32⟩
  | 111 => ⟨S4x128x256, .f32⟩
  | 112 => ⟨S1x4x128x256, .f32⟩
  | 113 => ⟨S4x128x256, .f32⟩
  | 114 => ⟨S4x128x256, .f32⟩
  | 115 => ⟨S4x128x256, .f32⟩
  | 116 => ⟨S4x128x256, .f32⟩
  | 117 => ⟨S1x4x128x256, .f32⟩
  | 118 => ⟨S4x128x256, .f32⟩
  | 119 => ⟨S4x128x256, .f32⟩
  | 120 => ⟨S4x128x256, .f32⟩
  | 121 => ⟨S4x128x256, .f32⟩
  | 122 => ⟨S1x4x128x256, .f32⟩
  | 123 => ⟨S4x128x256, .f32⟩
  | 124 => ⟨S4x128x256, .f32⟩
  | 125 => ⟨S4x128x256, .f32⟩
  | 126 => ⟨S4x128x256, .f32⟩
  | 127 => ⟨S1x4x128x256, .f32⟩
  | _ => ⟨S1x8192x2048, .f32⟩

abbrev hbmTy0_2 (i : Nat) : BufTy := match i % 128 with
  | 0 => ⟨S4x128x256, .f32⟩
  | 1 => ⟨S4x128x256, .f32⟩
  | 2 => ⟨S4x128x256, .f32⟩
  | 3 => ⟨S4x128x256, .f32⟩
  | 4 => ⟨S1x4x128x256, .f32⟩
  | 5 => ⟨S4x128x256, .f32⟩
  | 6 => ⟨S4x128x256, .f32⟩
  | 7 => ⟨S4x128x256, .f32⟩
  | 8 => ⟨S4x128x256, .f32⟩
  | 9 => ⟨S1x4x128x256, .f32⟩
  | 10 => ⟨S4x128x256, .f32⟩
  | 11 => ⟨S4x128x256, .f32⟩
  | 12 => ⟨S4x128x256, .f32⟩
  | 13 => ⟨S4x128x256, .f32⟩
  | 14 => ⟨S1x4x128x256, .f32⟩
  | 15 => ⟨S4x128x256, .f32⟩
  | 16 => ⟨S4x128x256, .f32⟩
  | 17 => ⟨S4x128x256, .f32⟩
  | 18 => ⟨S4x128x256, .f32⟩
  | 19 => ⟨S1x4x128x256, .f32⟩
  | 20 => ⟨S4x128x256, .f32⟩
  | 21 => ⟨S4x128x256, .f32⟩
  | 22 => ⟨S4x128x256, .f32⟩
  | 23 => ⟨S4x128x256, .f32⟩
  | 24 => ⟨S1x4x128x256, .f32⟩
  | 25 => ⟨S4x128x256, .f32⟩
  | 26 => ⟨S4x128x256, .f32⟩
  | 27 => ⟨S4x128x256, .f32⟩
  | 28 => ⟨S4x128x256, .f32⟩
  | 29 => ⟨S1x4x128x256, .f32⟩
  | 30 => ⟨S4x128x256, .f32⟩
  | 31 => ⟨S4x128x256, .f32⟩
  | 32 => ⟨S4x128x256, .f32⟩
  | 33 => ⟨S4x128x256, .f32⟩
  | 34 => ⟨S1x4x128x256, .f32⟩
  | 35 => ⟨S4x128x256, .f32⟩
  | 36 => ⟨S4x128x256, .f32⟩
  | 37 => ⟨S4x128x256, .f32⟩
  | 38 => ⟨S4x128x256, .f32⟩
  | 39 => ⟨S1x4x128x256, .f32⟩
  | 40 => ⟨S4x128x256, .f32⟩
  | 41 => ⟨S4x128x256, .f32⟩
  | 42 => ⟨S4x128x256, .f32⟩
  | 43 => ⟨S4x128x256, .f32⟩
  | 44 => ⟨S1x4x128x256, .f32⟩
  | 45 => ⟨S4x128x256, .f32⟩
  | 46 => ⟨S4x128x256, .f32⟩
  | 47 => ⟨S4x128x256, .f32⟩
  | 48 => ⟨S4x128x256, .f32⟩
  | 49 => ⟨S1x4x128x256, .f32⟩
  | 50 => ⟨S4x128x256, .f32⟩
  | 51 => ⟨S4x128x256, .f32⟩
  | 52 => ⟨S4x128x256, .f32⟩
  | 53 => ⟨S4x128x256, .f32⟩
  | 54 => ⟨S1x4x128x256, .f32⟩
  | 55 => ⟨S4x128x256, .f32⟩
  | 56 => ⟨S4x128x256, .f32⟩
  | 57 => ⟨S4x128x256, .f32⟩
  | 58 => ⟨S4x128x256, .f32⟩
  | 59 => ⟨S1x4x128x256, .f32⟩
  | 60 => ⟨S4x128x256, .f32⟩
  | 61 => ⟨S4x128x256, .f32⟩
  | 62 => ⟨S4x128x256, .f32⟩
  | 63 => ⟨S4x128x256, .f32⟩
  | 64 => ⟨S1x4x128x256, .f32⟩
  | 65 => ⟨S4x128x256, .f32⟩
  | 66 => ⟨S4x128x256, .f32⟩
  | 67 => ⟨S4x128x256, .f32⟩
  | 68 => ⟨S4x128x256, .f32⟩
  | 69 => ⟨S1x4x128x256, .f32⟩
  | 70 => ⟨S4x128x256, .f32⟩
  | 71 => ⟨S4x128x256, .f32⟩
  | 72 => ⟨S4x128x256, .f32⟩
  | 73 => ⟨S4x128x256, .f32⟩
  | 74 => ⟨S1x4x128x256, .f32⟩
  | 75 => ⟨S4x128x256, .f32⟩
  | 76 => ⟨S4x128x256, .f32⟩
  | 77 => ⟨S4x128x256, .f32⟩
  | 78 => ⟨S4x128x256, .f32⟩
  | 79 => ⟨S1x4x128x256, .f32⟩
  | 80 => ⟨S4x128x256, .f32⟩
  | 81 => ⟨S4x128x256, .f32⟩
  | 82 => ⟨S4x128x256, .f32⟩
  | 83 => ⟨S4x128x256, .f32⟩
  | 84 => ⟨S1x4x128x256, .f32⟩
  | 85 => ⟨S4x128x256, .f32⟩
  | 86 => ⟨S4x128x256, .f32⟩
  | 87 => ⟨S4x128x256, .f32⟩
  | 88 => ⟨S4x128x256, .f32⟩
  | 89 => ⟨S1x4x128x256, .f32⟩
  | 90 => ⟨S4x128x256, .f32⟩
  | 91 => ⟨S4x128x256, .f32⟩
  | 92 => ⟨S4x128x256, .f32⟩
  | 93 => ⟨S4x128x256, .f32⟩
  | 94 => ⟨S1x4x128x256, .f32⟩
  | 95 => ⟨S4x128x256, .f32⟩
  | 96 => ⟨S4x128x256, .f32⟩
  | 97 => ⟨S4x128x256, .f32⟩
  | 98 => ⟨S4x128x256, .f32⟩
  | 99 => ⟨S1x4x128x256, .f32⟩
  | 100 => ⟨S1x4x128x256, .f32⟩
  | 101 => ⟨S1x4x128x256, .f32⟩
  | 102 => ⟨S1x4x128x256, .f32⟩
  | 103 => ⟨S1x4x128x256, .f32⟩
  | 104 => ⟨S1x4x128x256, .f32⟩
  | 105 => ⟨S1x4x128x256, .f32⟩
  | 106 => ⟨S1x4x128x256, .f32⟩
  | 107 => ⟨S1x4x128x256, .f32⟩
  | 108 => ⟨S1x4x128x256, .f32⟩
  | 109 => ⟨S1x4x128x256, .f32⟩
  | 110 => ⟨S1x4x128x256, .f32⟩
  | 111 => ⟨S1x4x128x256, .f32⟩
  | 112 => ⟨S1x4x128x256, .f32⟩
  | 113 => ⟨S1x4x128x256, .f32⟩
  | 114 => ⟨S1x4x128x256, .f32⟩
  | 115 => ⟨S1x4x128x256, .f32⟩
  | 116 => ⟨S1x4x128x256, .f32⟩
  | 117 => ⟨S1x4x128x256, .f32⟩
  | 118 => ⟨S1x4x128x256, .f32⟩
  | 119 => ⟨S1x4x128x256, .f32⟩
  | 120 => ⟨S1x4x128x256, .f32⟩
  | 121 => ⟨S1x4x128x256, .f32⟩
  | 122 => ⟨S1x4x128x256, .f32⟩
  | 123 => ⟨S1x4x128x256, .f32⟩
  | 124 => ⟨S1x4x128x256, .f32⟩
  | 125 => ⟨S1x4x128x256, .f32⟩
  | 126 => ⟨S1x4x128x256, .f32⟩
  | 127 => ⟨S1x4x128x256, .f32⟩
  | _ => ⟨S1x8192x2048, .f32⟩

abbrev hbmTy0_3 (i : Nat) : BufTy := match i % 128 with
  | 0 => ⟨S1x4x128x256, .f32⟩
  | 1 => ⟨S1x4x128x256, .f32⟩
  | 2 => ⟨S1x4x128x256, .f32⟩
  | 3 => ⟨S16x4x128x256, .f32⟩
  | 4 => ⟨S16x4x128x256, .f32⟩
  | 5 => ⟨S32x4x128x256, .f32⟩
  | 6 => ⟨S32x4x128x256, .f32⟩
  | 7 => ⟨S32x4x128x256, .bf16⟩
  | 8 => ⟨S8192x1024, .f32⟩
  | 9 => ⟨S8192x1024, .bf16⟩
  | 10 => ⟨S8192x1024, .f32⟩
  | 11 => ⟨S8192x1024, .bf16⟩
  | 12 => ⟨S8192x2048, .bf16⟩
  | _ => ⟨S1x8192x2048, .f32⟩

abbrev hbmTy (i : Nat) : BufTy := match i / 128 with
  | 0 => hbmTy0_0 i
  | 1 => hbmTy0_1 i
  | 2 => hbmTy0_2 i
  | 3 => hbmTy0_3 i
  | _ => ⟨S1x8192x2048, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S4x4x128x256, .bf16⟩
  | .local _ .vmem, ⟨9, _⟩ => ⟨S4x4x128x256, .bf16⟩
  | .local _ .vmem, ⟨10, _⟩ => ⟨S4x256x256, .f32⟩
  | .local _ .vmem, ⟨11, _⟩ => ⟨S4x256x1, .f32⟩
  | .local _ .vmem, ⟨12, _⟩ => ⟨S4x256x1, .f32⟩
  | .local _ .vmem, ⟨13, _⟩ => ⟨S4x1x1, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1024x2048, .bf16⟩
  | .local _ .vmem, ⟨19, _⟩ => ⟨S1024x2048, .bf16⟩
  | .local _ .vmem, ⟨20, _⟩ => ⟨S4x128x256, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_2 : Ref sig .tc := ⟨.hbm, 43, rfl⟩
abbrev main_v38 : Ref sig .tc := ⟨.hbm, 44, rfl⟩
abbrev main_v39 : Ref sig .tc := ⟨.hbm, 45, rfl⟩
abbrev main_cst_3 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_cst_4 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_cst_5 : Ref sig .tc := ⟨.hbm, 86, rfl⟩
abbrev main_v78 : Ref sig .tc := ⟨.hbm, 87, rfl⟩
abbrev main_v79 : Ref sig .tc := ⟨.hbm, 88, rfl⟩
abbrev main_cst_6 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_cst_7 : Ref sig .tc := ⟨.hbm, 101, rfl⟩
abbrev main_v91 : Ref sig .tc := ⟨.hbm, 102, rfl⟩
abbrev main_v92 : Ref sig .tc := ⟨.hbm, 103, rfl⟩
abbrev main_cst_8 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_cst_9 : Ref sig .tc := ⟨.hbm, 122, rfl⟩
abbrev main_v110 : Ref sig .tc := ⟨.hbm, 123, rfl⟩
abbrev main_v111 : Ref sig .tc := ⟨.hbm, 124, rfl⟩
abbrev main_cst_10 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_cst_11 : Ref sig .tc := ⟨.hbm, 138, rfl⟩
abbrev main_v124 : Ref sig .tc := ⟨.hbm, 139, rfl⟩
abbrev main_v125 : Ref sig .tc := ⟨.hbm, 140, rfl⟩
abbrev main_v126 : Ref sig .tc := ⟨.hbm, 141, rfl⟩
abbrev main_cst_12 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_cst_13 : Ref sig .tc := ⟨.hbm, 150, rfl⟩
abbrev main_call0_v0 : Ref sig .tc := ⟨.hbm, 151, rfl⟩
abbrev main_call0_v1 : Ref sig .tc := ⟨.hbm, 152, rfl⟩
abbrev main_call0_v2 : Ref sig .tc := ⟨.hbm, 153, rfl⟩
abbrev main_v134 : Ref sig .tc := ⟨.hbm, 154, rfl⟩
abbrev main_v135 : Ref sig .tc := ⟨.hbm, 155, rfl⟩
abbrev main_cst_14 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_cst_15 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_cst_16 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_cst_17 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_cst_18 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩
abbrev main_v209 : Ref sig .tc := ⟨.hbm, 234, rfl⟩
abbrev main_v210 : Ref sig .tc := ⟨.hbm, 235, rfl⟩
abbrev main_v211 : Ref sig .tc := ⟨.hbm, 236, rfl⟩
abbrev main_v212 : Ref sig .tc := ⟨.hbm, 237, rfl⟩
abbrev main_v213 : Ref sig .tc := ⟨.hbm, 238, rfl⟩
abbrev main_v214 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247 : Ref sig .tc := ⟨.hbm, 272, rfl⟩
abbrev main_v248 : Ref sig .tc := ⟨.hbm, 273, rfl⟩
abbrev main_v249 : Ref sig .tc := ⟨.hbm, 274, rfl⟩
abbrev main_v250 : Ref sig .tc := ⟨.hbm, 275, rfl⟩
abbrev main_v251 : Ref sig .tc := ⟨.hbm, 276, rfl⟩
abbrev main_v252 : Ref sig .tc := ⟨.hbm, 277, rfl⟩
abbrev main_v253 : Ref sig .tc := ⟨.hbm, 278, rfl⟩
abbrev main_v254 : Ref sig .tc := ⟨.hbm, 279, rfl⟩
abbrev main_v255 : Ref sig .tc := ⟨.hbm, 280, rfl⟩
abbrev main_v256 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩
abbrev main_v263 : Ref sig .tc := ⟨.hbm, 288, rfl⟩
abbrev main_v264 : Ref sig .tc := ⟨.hbm, 289, rfl⟩
abbrev main_v265 : Ref sig .tc := ⟨.hbm, 290, rfl⟩
abbrev main_v266 : Ref sig .tc := ⟨.hbm, 291, rfl⟩
abbrev main_v267 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_v279 : Ref sig .tc := ⟨.hbm, 304, rfl⟩
abbrev main_v280 : Ref sig .tc := ⟨.hbm, 305, rfl⟩
abbrev main_v281 : Ref sig .tc := ⟨.hbm, 306, rfl⟩
abbrev main_v282 : Ref sig .tc := ⟨.hbm, 307, rfl⟩
abbrev main_v283 : Ref sig .tc := ⟨.hbm, 308, rfl⟩
abbrev main_v284 : Ref sig .tc := ⟨.hbm, 309, rfl⟩
abbrev main_v285 : Ref sig .tc := ⟨.hbm, 310, rfl⟩
abbrev main_v286 : Ref sig .tc := ⟨.hbm, 311, rfl⟩
abbrev main_v287 : Ref sig .tc := ⟨.hbm, 312, rfl⟩
abbrev main_v288 : Ref sig .tc := ⟨.hbm, 313, rfl⟩
abbrev main_v289 : Ref sig .tc := ⟨.hbm, 314, rfl⟩
abbrev main_v290 : Ref sig .tc := ⟨.hbm, 315, rfl⟩
abbrev main_v291 : Ref sig .tc := ⟨.hbm, 316, rfl⟩
abbrev main_v292 : Ref sig .tc := ⟨.hbm, 317, rfl⟩
abbrev main_v293 : Ref sig .tc := ⟨.hbm, 318, rfl⟩
abbrev main_v294 : Ref sig .tc := ⟨.hbm, 319, rfl⟩
abbrev main_v295 : Ref sig .tc := ⟨.hbm, 320, rfl⟩
abbrev main_v296 : Ref sig .tc := ⟨.hbm, 321, rfl⟩
abbrev main_v297 : Ref sig .tc := ⟨.hbm, 322, rfl⟩
abbrev main_v298 : Ref sig .tc := ⟨.hbm, 323, rfl⟩
abbrev main_v299 : Ref sig .tc := ⟨.hbm, 324, rfl⟩
abbrev main_v300 : Ref sig .tc := ⟨.hbm, 325, rfl⟩
abbrev main_v301 : Ref sig .tc := ⟨.hbm, 326, rfl⟩
abbrev main_v302 : Ref sig .tc := ⟨.hbm, 327, rfl⟩
abbrev main_v303 : Ref sig .tc := ⟨.hbm, 328, rfl⟩
abbrev main_v304 : Ref sig .tc := ⟨.hbm, 329, rfl⟩
abbrev main_v305 : Ref sig .tc := ⟨.hbm, 330, rfl⟩
abbrev main_v306 : Ref sig .tc := ⟨.hbm, 331, rfl⟩
abbrev main_v307 : Ref sig .tc := ⟨.hbm, 332, rfl⟩
abbrev main_v308 : Ref sig .tc := ⟨.hbm, 333, rfl⟩
abbrev main_v309 : Ref sig .tc := ⟨.hbm, 334, rfl⟩
abbrev main_v310 : Ref sig .tc := ⟨.hbm, 335, rfl⟩
abbrev main_v311 : Ref sig .tc := ⟨.hbm, 336, rfl⟩
abbrev main_v312 : Ref sig .tc := ⟨.hbm, 337, rfl⟩
abbrev main_v313 : Ref sig .tc := ⟨.hbm, 338, rfl⟩
abbrev main_v314 : Ref sig .tc := ⟨.hbm, 339, rfl⟩
abbrev main_v315 : Ref sig .tc := ⟨.hbm, 340, rfl⟩
abbrev main_v316 : Ref sig .tc := ⟨.hbm, 341, rfl⟩
abbrev main_v317 : Ref sig .tc := ⟨.hbm, 342, rfl⟩
abbrev main_v318 : Ref sig .tc := ⟨.hbm, 343, rfl⟩
abbrev main_v319 : Ref sig .tc := ⟨.hbm, 344, rfl⟩
abbrev main_v320 : Ref sig .tc := ⟨.hbm, 345, rfl⟩
abbrev main_v321 : Ref sig .tc := ⟨.hbm, 346, rfl⟩
abbrev main_v322 : Ref sig .tc := ⟨.hbm, 347, rfl⟩
abbrev main_v323 : Ref sig .tc := ⟨.hbm, 348, rfl⟩
abbrev main_v324 : Ref sig .tc := ⟨.hbm, 349, rfl⟩
abbrev main_v325 : Ref sig .tc := ⟨.hbm, 350, rfl⟩
abbrev main_v326 : Ref sig .tc := ⟨.hbm, 351, rfl⟩
abbrev main_v327 : Ref sig .tc := ⟨.hbm, 352, rfl⟩
abbrev main_v328 : Ref sig .tc := ⟨.hbm, 353, rfl⟩
abbrev main_v329 : Ref sig .tc := ⟨.hbm, 354, rfl⟩
abbrev main_v330 : Ref sig .tc := ⟨.hbm, 355, rfl⟩
abbrev main_v331 : Ref sig .tc := ⟨.hbm, 356, rfl⟩
abbrev main_v332 : Ref sig .tc := ⟨.hbm, 357, rfl⟩
abbrev main_v333 : Ref sig .tc := ⟨.hbm, 358, rfl⟩
abbrev main_v334 : Ref sig .tc := ⟨.hbm, 359, rfl⟩
abbrev main_v335 : Ref sig .tc := ⟨.hbm, 360, rfl⟩
abbrev main_v336 : Ref sig .tc := ⟨.hbm, 361, rfl⟩
abbrev main_v337 : Ref sig .tc := ⟨.hbm, 362, rfl⟩
abbrev main_v338 : Ref sig .tc := ⟨.hbm, 363, rfl⟩
abbrev main_v339 : Ref sig .tc := ⟨.hbm, 364, rfl⟩
abbrev main_v340 : Ref sig .tc := ⟨.hbm, 365, rfl⟩
abbrev main_v341 : Ref sig .tc := ⟨.hbm, 366, rfl⟩
abbrev main_v342 : Ref sig .tc := ⟨.hbm, 367, rfl⟩
abbrev main_v343 : Ref sig .tc := ⟨.hbm, 368, rfl⟩
abbrev main_v344 : Ref sig .tc := ⟨.hbm, 369, rfl⟩
abbrev main_v345 : Ref sig .tc := ⟨.hbm, 370, rfl⟩
abbrev main_v346 : Ref sig .tc := ⟨.hbm, 371, rfl⟩
abbrev main_v347 : Ref sig .tc := ⟨.hbm, 372, rfl⟩
abbrev main_v348 : Ref sig .tc := ⟨.hbm, 373, rfl⟩
abbrev main_v349 : Ref sig .tc := ⟨.hbm, 374, rfl⟩
abbrev main_v350 : Ref sig .tc := ⟨.hbm, 375, rfl⟩
abbrev main_v351 : Ref sig .tc := ⟨.hbm, 376, rfl⟩
abbrev main_v352 : Ref sig .tc := ⟨.hbm, 377, rfl⟩
abbrev main_v353 : Ref sig .tc := ⟨.hbm, 378, rfl⟩
abbrev main_v354 : Ref sig .tc := ⟨.hbm, 379, rfl⟩
abbrev main_v355 : Ref sig .tc := ⟨.hbm, 380, rfl⟩
abbrev main_v356 : Ref sig .tc := ⟨.hbm, 381, rfl⟩
abbrev main_v357 : Ref sig .tc := ⟨.hbm, 382, rfl⟩
abbrev main_v358 : Ref sig .tc := ⟨.hbm, 383, rfl⟩
abbrev main_v359 : Ref sig .tc := ⟨.hbm, 384, rfl⟩
abbrev main_v360 : Ref sig .tc := ⟨.hbm, 385, rfl⟩
abbrev main_v361 : Ref sig .tc := ⟨.hbm, 386, rfl⟩
abbrev main_v362 : Ref sig .tc := ⟨.hbm, 387, rfl⟩
abbrev main_v363 : Ref sig .tc := ⟨.hbm, 388, rfl⟩
abbrev main_v364 : Ref sig .tc := ⟨.hbm, 389, rfl⟩
abbrev main_v365 : Ref sig .tc := ⟨.hbm, 390, rfl⟩
abbrev main_v366 : Ref sig .tc := ⟨.hbm, 391, rfl⟩
abbrev main_v367 : Ref sig .tc := ⟨.hbm, 392, rfl⟩
abbrev main_v368 : Ref sig .tc := ⟨.hbm, 393, rfl⟩
abbrev main_v369 : Ref sig .tc := ⟨.hbm, 394, rfl⟩
abbrev main_v370 : Ref sig .tc := ⟨.hbm, 395, rfl⟩
abbrev main_v371 : Ref sig .tc := ⟨.hbm, 396, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x4x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== RetReferenceIdeal.lean ====
abbrev S1x8192x2048 : Shape := ⟨3, ![1, 8192, 2048]⟩
abbrev S1x8192x4x256 : Shape := ⟨4, ![1, 8192, 4, 256]⟩
abbrev S8192 : Shape := ⟨1, ![8192]⟩
abbrev S1x8192x512 : Shape := ⟨3, ![1, 8192, 512]⟩
abbrev S1x8192x1024 : Shape := ⟨3, ![1, 8192, 1024]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S1x64x128x4x128 : Shape := ⟨5, ![1, 64, 128, 4, 128]⟩
abbrev S64x1x4x128x128 : Shape := ⟨5, ![64, 1, 4, 128, 128]⟩
abbrev S1x64x128x4x256 : Shape := ⟨5, ![1, 64, 128, 4, 256]⟩
abbrev S64x1x4x128x256 : Shape := ⟨5, ![64, 1, 4, 128, 256]⟩
abbrev S1x4x128x256 : Shape := ⟨4, ![1, 4, 128, 256]⟩
abbrev S1x4x128x128 : Shape := ⟨4, ![1, 4, 128, 128]⟩
abbrev S1x1x4x128x128 : Shape := ⟨5, ![1, 1, 4, 128, 128]⟩
abbrev S1x1x4x128x256 : Shape := ⟨5, ![1, 1, 4, 128, 256]⟩
abbrev S1x4x256x128 : Shape := ⟨4, ![1, 4, 256, 128]⟩
abbrev S8192x2048 : Shape := ⟨2, ![8192, 2048]⟩

abbrev nBuf : Space → Nat
  | .hbm => 396
  | .vmem => 0
  | .smem => 0
  | _ => 0

abbrev hbmTy0_0 (i : Nat) : BufTy := match i % 128 with
  | 0 => ⟨S1x8192x2048, .f32⟩
  | 1 => ⟨S1x8192x4x256, .f32⟩
  | 2 => ⟨S8192, .i32⟩
  | 3 => ⟨S1x8192x512, .f32⟩
  | 4 => ⟨S1x8192x512, .f32⟩
  | 5 => ⟨S1x8192x1024, .f32⟩
  | 6 => ⟨S1x8192x4x128, .f32⟩
  | 7 => ⟨S64, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S8192, .f32⟩
  | 16 => ⟨S8192x1, .f32⟩
  | 17 => ⟨S1x64, .f32⟩
  | 18 => ⟨S8192x64, .f32⟩
  | 19 => ⟨S8192x64, .f32⟩
  | 20 => ⟨S8192x64, .f32⟩
  | 21 => ⟨S8192x64, .f32⟩
  | 22 => ⟨S1x8192x1x64, .f32⟩
  | 23 => ⟨S8192x64, .f32⟩
  | 24 => ⟨S1x8192x1x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x64, .f32⟩
  | 37 => ⟨S1x8192x4x128, .f32⟩
  | 38 => ⟨S1x8192x4x128, .f32⟩
  | 39 => ⟨S64, .f32⟩
  | 40 => ⟨S64, .f32⟩
  | 41 => ⟨S_, .f32⟩
  | 42 => ⟨S64, .f32⟩
  | 43 => ⟨S64, .f32⟩
  | 44 => ⟨S_, .f32⟩
  | 45 => ⟨S64, .f32⟩
  | 46 => ⟨S64, .f32⟩
  | 47 => ⟨S8192, .f32⟩
  | 48 => ⟨S8192x1, .f32⟩
  | 49 => ⟨S1x64, .f32⟩
  | 50 => ⟨S8192x64, .f32⟩
  | 51 => ⟨S8192x64, .f32⟩
  | 52 => ⟨S8192x64, .f32⟩
  | 53 => ⟨S8192x64, .f32⟩
  | 54 => ⟨S1x8192x1x64, .f32⟩
  | 55 => ⟨S8192x64, .f32⟩
  | 56 => ⟨S1x8192x1x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x64, .f32⟩
  | 69 => ⟨S1x8192x4x128, .f32⟩
  | 70 => ⟨S1x8192x4x256, .f32⟩
  | 71 => ⟨S4, .f32⟩
  | 72 => ⟨S_, .f32⟩
  | 73 => ⟨S4, .f32⟩
  | 74 => ⟨S4, .f32⟩
  | 75 => ⟨S_, .f32⟩
  | 76 => ⟨S4, .f32⟩
  | 77 => ⟨S4, .f32⟩
  | 78 => ⟨S4, .f32⟩
  | 79 => ⟨S4, .f32⟩
  | 80 => ⟨S4, .f32⟩
  | 81 => ⟨S128, .f32⟩
  | 82 => ⟨S128x1, .f32⟩
  | 83 => ⟨S1x128, .f32⟩
  | 84 => ⟨S128x128, .f32⟩
  | 85 => ⟨S128x128, .f32⟩
  | 86 => ⟨S128x128, .f32⟩
  | 87 => ⟨S1x128x128, .f32⟩
  | 88 => ⟨S_, .f32⟩
  | 89 => ⟨S1x128x128, .f32⟩
  | 90 => ⟨S1x128x128, .i1⟩
  | 91 => ⟨S4x1x1, .f32⟩
  | 92 => ⟨S_, .f32⟩
  | 93 => ⟨S128x128, .f32⟩
  | 94 => ⟨S128x128, .f32⟩
  | 95 => ⟨S1x128x128, .f32⟩
  | 96 => ⟨S4x128x128, .f32⟩
  | 97 => ⟨S4x128x128, .f32⟩
  | 98 => ⟨S4x128x128, .f32⟩
  | 99 => ⟨S4x128x128, .f32⟩
  | 100 => ⟨S_, .f32⟩
  | 101 => ⟨S_, .f32⟩
  | 102 => ⟨S4x128x128, .i1⟩
  | 103 => ⟨S4x128x128, .f32⟩
  | 104 => ⟨S4x128x128, .f32⟩
  | 105 => ⟨S4x1, .f32⟩
  | 106 => ⟨S_, .f32⟩
  | 107 => ⟨S128, .f32⟩
  | 108 => ⟨S128, .f32⟩
  | 109 => ⟨S1x128, .f32⟩
  | 110 => ⟨S4x128, .f32⟩
  | 111 => ⟨S4x128, .f32⟩
  | 112 => ⟨S4x128, .f32⟩
  | 113 => ⟨S4x128, .f32⟩
  | 114 => ⟨S1x4x128x1, .f32⟩
  | 115 => ⟨S4x1, .f32⟩
  | 116 => ⟨S_, .f32⟩
  | 117 => ⟨S128, .f32⟩
  | 118 => ⟨S128, .f32⟩
  | 119 => ⟨S1x128, .f32⟩
  | 120 => ⟨S4x128, .f32⟩
  | 121 => ⟨S4x128, .f32⟩
  | 122 => ⟨S4x128, .f32⟩
  | 123 => ⟨S4x128, .f32⟩
  | 124 => ⟨S1x4x128x1, .f32⟩
  | 125 => ⟨S_, .f32⟩
  | 126 => ⟨S4, .f32⟩
  | 127 => ⟨S4, .f32⟩
  | _ => ⟨S1x8192x2048, .f32⟩

abbrev hbmTy0_1 (i : Nat) : BufTy := match i % 128 with
  | 0 => ⟨S4, .f32⟩
  | 1 => ⟨S1x4x1x1, .f32⟩
  | 2 => ⟨S_, .f32⟩
  | 3 => ⟨S1x8192x4x128, .f32⟩
  | 4 => ⟨S1x8192x4x128, .f32⟩
  | 5 => ⟨S1x64x128x4x128, .f32⟩
  | 6 => ⟨S64x1x4x128x128, .f32⟩
  | 7 => ⟨S1x64x128x4x128, .f32⟩
  | 8 => ⟨S64x1x4x128x128, .f32⟩
  | 9 => ⟨S1x64x128x4x256, .f32⟩
  | 10 => ⟨S64x1x4x128x256, .f32⟩
  | 11 => ⟨S_, .f32⟩
  | 12 => ⟨S1x4x128x256, .f32⟩
  | 13 => ⟨S1x4x128x128, .f32⟩
  | 14 => ⟨S_, .f32⟩
  | 15 => ⟨S64x1x4x128x256, .f32⟩
  | 16 => ⟨S_, .f32⟩
  | 17 => ⟨S64x1x4x128x128, .f32⟩
  | 18 => ⟨S_, .f32⟩
  | 19 => ⟨S64x1x4x128x256, .f32⟩
  | 20 => ⟨S_, .f32⟩
  | 21 => ⟨S64x1x4x128x128, .f32⟩
  | 22 => ⟨S_, .i32⟩
  | 23 => ⟨S64x1x4x128x128, .f32⟩
  | 24 => ⟨S64x1x4x128x128, .f32⟩
  | 25 => ⟨S64x1x4x128x256, .f32⟩
  | 26 => ⟨S1x4x1x1, .f32⟩
  | 27 => ⟨S1x4x128x1, .f32⟩
  | 28 => ⟨S1x4x128x128, .f32⟩
  | 29 => ⟨S1x4x128x1, .f32⟩
  | 30 => ⟨S_, .i32⟩
  | 31 => ⟨S1x4x128x256, .f32⟩
  | 32 => ⟨S64x1x4x128x256, .f32⟩
  | 33 => ⟨S64x1x4x128x128, .f32⟩
  | 34 => ⟨S64x1x4x128x256, .f32⟩
  | 35 => ⟨S64x1x4x128x128, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S1x1x4x128x128, .f32⟩
  | 43 => ⟨S1x4x128x128, .f32⟩
  | 44 => ⟨S_, .i32⟩
  | 45 => ⟨S_, .i32⟩
  | 46 => ⟨S_, .i32⟩
  | 47 => ⟨S_, .i32⟩
  | 48 => ⟨S1x1x4x128x128, .f32⟩
  | 49 => ⟨S1x4x128x128, .f32⟩
  | 50 => ⟨S_, .i32⟩
  | 51 => ⟨S_, .i32⟩
  | 52 => ⟨S_, .i32⟩
  | 53 => ⟨S_, .i32⟩
  | 54 => ⟨S1x1x4x128x256, .f32⟩
  | 55 => ⟨S1x4x128x256, .f32⟩
  | 56 => ⟨S1x4x128x128, .f32⟩
  | 57 => ⟨S1x4x128x128, .f32⟩
  | 58 => ⟨S1x4x128x256, .f32⟩
  | 59 => ⟨S1x4x128x256, .f32⟩
  | 60 => ⟨S1x4x128x256, .f32⟩
  | 61 => ⟨S1x4x128x256, .f32⟩
  | 62 => ⟨S1x4x128x256, .f32⟩
  | 63 => ⟨S1x4x128x256, .f32⟩
  | 64 => ⟨S1x4x128x128, .f32⟩
  | 65 => ⟨S1x4x128x128, .f32⟩
  | 66 => ⟨S1x4x128x256, .f32⟩
  | 67 => ⟨S1x4x128x256, .f32⟩
  | 68 => ⟨S1x4x128x256, .f32⟩
  | 69 => ⟨S1x1x4x128x256, .f32⟩
  | 70 => ⟨S_, .i32⟩
  | 71 => ⟨S_, .i32⟩
  | 72 => ⟨S_, .i32⟩
  | 73 => ⟨S_, .i32⟩
  | 74 => ⟨S64x1x4x128x256, .f32⟩
  | 75 => ⟨S1x1x4x128x128, .f32⟩
  | 76 => ⟨S_, .i32⟩
  | 77 => ⟨S_, .i32⟩
  | 78 => ⟨S_, .i32⟩
  | 79 => ⟨S_, .i32⟩
  | 80 => ⟨S64x1x4x128x128, .f32⟩
  | 81 => ⟨S1x1x4x128x256, .f32⟩
  | 82 => ⟨S_, .i32⟩
  | 83 => ⟨S_, .i32⟩
  | 84 => ⟨S_, .i32⟩
  | 85 => ⟨S_, .i32⟩
  | 86 => ⟨S64x1x4x128x256, .f32⟩
  | 87 => ⟨S1x1x4x128x128, .f32⟩
  | 88 => ⟨S_, .i32⟩
  | 89 => ⟨S_, .i32⟩
  | 90 => ⟨S_, .i32⟩
  | 91 => ⟨S_, .i32⟩
  | 92 => ⟨S64x1x4x128x128, .f32⟩
  | 93 => ⟨S_, .i32⟩
  | 94 => ⟨S_, .i32⟩
  | 95 => ⟨S1x64x128x4x256, .f32⟩
  | 96 => ⟨S1x8192x4x256, .f32⟩
  | 97 => ⟨S_, .f32⟩
  | 98 => ⟨S1x4x128x256, .f32⟩
  | 99 => ⟨S1x64x128x4x256, .f32⟩
  | 100 => ⟨S64x1x4x128x256, .f32⟩
  | 101 => ⟨S_, .f32⟩
  | 102 => ⟨S1x4x128x256, .f32⟩
  | 103 => ⟨S_, .f32⟩
  | 104 => ⟨S64x1x4x128x128, .f32⟩
  | 105 => ⟨S_, .f32⟩
  | 106 => ⟨S64x1x4x128x128, .f32⟩
  | 107 => ⟨S_, .f32⟩
  | 108 => ⟨S64x1x4x128x256, .f32⟩
  | 109 => ⟨S_, .i32⟩
  | 110 => ⟨S64x1x4x128x256, .f32⟩
  | 111 => ⟨S64x1x4x128x128, .f32⟩
  | 112 => ⟨S64x1x4x128x128, .f32⟩
  | 113 => ⟨S64x1x4x128x256, .f32⟩
  | 114 => ⟨S64x1x4x128x128, .f32⟩
  | 115 => ⟨S64x1x4x128x256, .f32⟩
  | 116 => ⟨S64x1x4x128x128, .f32⟩
  | 117 => ⟨S1x4x128x128, .f32⟩
  | 118 => ⟨S1x4x128x1, .f32⟩
  | 119 => ⟨S1x4x1x1, .f32⟩
  | 120 => ⟨S1x4x128x1, .f32⟩
  | 121 => ⟨S_, .i32⟩
  | 122 => ⟨S1x4x128x256, .f32⟩
  | 123 => ⟨S64x1x4x128x128, .f32⟩
  | 124 => ⟨S64x1x4x128x128, .f32⟩
  | 125 => ⟨S64x1x4x128x256, .f32⟩
  | 126 => ⟨S_, .i32⟩
  | 127 => ⟨S_, .i1⟩
  | _ => ⟨S1x8192x2048, .f32⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S_, .i32⟩
  | 7 => ⟨S_, .i32⟩
  | 8 => ⟨S1x1x4x128x256, .f32⟩
  | 9 => ⟨S1x4x128x256, .f32⟩
  | 10 => ⟨S_, .i32⟩
  | 11 => ⟨S_, .i32⟩
  | 12 => ⟨S_, .i32⟩
  | 13 => ⟨S_, .i32⟩
  | 14 => ⟨S1x1x4x128x128, .f32⟩
  | 15 => ⟨S1x4x128x128, .f32⟩
  | 16 => ⟨S_, .i32⟩
  | 17 => ⟨S_, .i32⟩
  | 18 => ⟨S_, .i32⟩
  | 19 => ⟨S_, .i32⟩
  | 20 => ⟨S1x1x4x128x128, .f32⟩
  | 21 => ⟨S1x4x128x128, .f32⟩
  | 22 => ⟨S_, .i32⟩
  | 23 => ⟨S_, .i32⟩
  | 24 => ⟨S_, .i32⟩
  | 25 => ⟨S_, .i32⟩
  | 26 => ⟨S1x1x4x128x256, .f32⟩
  | 27 => ⟨S1x4x128x256, .f32⟩
  | 28 => ⟨S_, .i32⟩
  | 29 => ⟨S_, .i32⟩
  | 30 => ⟨S_, .i32⟩
  | 31 => ⟨S_, .i32⟩
  | 32 => ⟨S1x1x4x128x128, .f32⟩
  | 33 => ⟨S1x4x128x128, .f32⟩
  | 34 => ⟨S_, .i32⟩
  | 35 => ⟨S_, .i32⟩
  | 36 => ⟨S_, .i32⟩
  | 37 => ⟨S_, .i32⟩
  | 38 => ⟨S1x1x4x128x256, .f32⟩
  | 39 => ⟨S1x4x128x256, .f32⟩
  | 40 => ⟨S_, .i32⟩
  | 41 => ⟨S_, .i32⟩
  | 42 => ⟨S_, .i32⟩
  | 43 => ⟨S_, .i32⟩
  | 44 => ⟨S1x1x4x128x128, .f32⟩
  | 45 => ⟨S1x4x128x128, .f32⟩
  | 46 => ⟨S1x4x256x128, .f32⟩
  | 47 => ⟨S1x4x128x256, .f32⟩
  | 48 => ⟨S1x4x128x128, .f32⟩
  | 49 => ⟨S1x4x128x128, .f32⟩
  | 50 => ⟨S1x4x128x128, .f32⟩
  | 51 => ⟨S1x4x128x128, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x4x256x128, .f32⟩
  | 57 => ⟨S1x4x128x256, .f32⟩
  | 58 => ⟨S1x4x128x256, .f32⟩
  | 59 => ⟨S1x4x128x128, .f32⟩
  | 60 => ⟨S1x4x256x128, .f32⟩
  | 61 => ⟨S1x4x128x256, .f32⟩
  | 62 => ⟨S1x4x128x256, .f32⟩
  | 63 => ⟨S1x4x128x128, .f32⟩
  | 64 => ⟨S1x4x128x128, .f32⟩
  | 65 => ⟨S1x4x128x128, .f32⟩
  | 66 => ⟨S1x4x128x128, .f32⟩
  | 67 => ⟨S1x4x128x128, .f32⟩
  | 68 => ⟨S1x4x128x128, .f32⟩
  | 69 => ⟨S1x1x4x128x128, .f32⟩
  | 70 => ⟨S_, .i32⟩
  | 71 => ⟨S_, .i32⟩
  | 72 => ⟨S_, .i32⟩
  | 73 => ⟨S_, .i32⟩
  | 74 => ⟨S64x1x4x128x128, .f32⟩
  | 75 => ⟨S1x1x4x128x128, .f32⟩
  | 76 => ⟨S_, .i32⟩
  | 77 => ⟨S_, .i32⟩
  | 78 => ⟨S_, .i32⟩
  | 79 => ⟨S_, .i32⟩
  | 80 => ⟨S64x1x4x128x128, .f32⟩
  | 81 => ⟨S1x1x4x128x256, .f32⟩
  | 82 => ⟨S_, .i32⟩
  | 83 => ⟨S_, .i32⟩
  | 84 => ⟨S_, .i32⟩
  | 85 => ⟨S_, .i32⟩
  | 86 => ⟨S64x1x4x128x256, .f32⟩
  | 87 => ⟨S_, .i32⟩
  | 88 => ⟨S_, .i32⟩
  | 89 => ⟨S1x64x128x4x256, .f32⟩
  | 90 => ⟨S1x8192x4x256, .f32⟩
  | 91 => ⟨S1x64x128x4x128, .f32⟩
  | 92 => ⟨S1x8192x4x128, .f32⟩
  | 93 => ⟨S1x64x128x4x128, .f32⟩
  | 94 => ⟨S1x8192x4x128, .f32⟩
  | 95 => ⟨S_, .f32⟩
  | 96 => ⟨S1x8192x4x128, .f32⟩
  | 97 => ⟨S1x8192x4x128, .f32⟩
  | 98 => ⟨S1x8192x1024, .f32⟩
  | 99 => ⟨S1x8192x4x64, .f32⟩
  | 100 => ⟨S1x8192x4x64, .f32⟩
  | 101 => ⟨S1x8192x4x64, .f32⟩
  | 102 => ⟨S1x8192x4x64, .f32⟩
  | 103 => ⟨S1x8192x4x64, .f32⟩
  | 104 => ⟨S1x8192x4x64, .f32⟩
  | 105 => ⟨S1x8192x4x64, .f32⟩
  | 106 => ⟨S1x8192x4x64, .f32⟩
  | 107 => ⟨S1x8192x4x64, .f32⟩
  | 108 => ⟨S1x8192x4x64, .f32⟩
  | 109 => ⟨S1x8192x4x64, .f32⟩
  | 110 => ⟨S1x8192x4x64, .f32⟩
  | 111 => ⟨S1x8192x4x64, .f32⟩
  | 112 => ⟨S_, .f32⟩
  | 113 => ⟨S1x8192x4x128, .f32⟩
  | 114 => ⟨S_, .f32⟩
  | 115 => ⟨S1x8192x4x128, .f32⟩
  | 116 => ⟨S1x8192x4x128, .f32⟩
  | 117 => ⟨S1x8192x512, .f32⟩
  | 118 => ⟨S1x8192x4x64, .f32⟩
  | 119 => ⟨S1x8192x4x64, .f32⟩
  | 120 => ⟨S1x8192x4x64, .f32⟩
  | 121 => ⟨S1x8192x4x64, .f32⟩
  | 122 => ⟨S1x8192x4x64, .f32⟩
  | 123 => ⟨S1x8192x4x64, .f32⟩
  | 124 => ⟨S1x8192x4x64, .f32⟩
  | 125 => ⟨S1x8192x4x64, .f32⟩
  | 126 => ⟨S1x8192x4x64, .f32⟩
  | 127 => ⟨S1x8192x4x64, .f32⟩
  | _ => ⟨S1x8192x2048, .f32⟩

abbrev hbmTy0_3 (i : Nat) : BufTy := match i % 128 with
  | 0 => ⟨S1x8192x4x64, .f32⟩
  | 1 => ⟨S1x8192x4x64, .f32⟩
  | 2 => ⟨S1x8192x4x64, .f32⟩
  | 3 => ⟨S_, .f32⟩
  | 4 => ⟨S1x8192x4x128, .f32⟩
  | 5 => ⟨S_, .f32⟩
  | 6 => ⟨S1x8192x4x128, .f32⟩
  | 7 => ⟨S1x8192x4x128, .f32⟩
  | 8 => ⟨S1x8192x512, .f32⟩
  | 9 => ⟨S1x8192x2048, .f32⟩
  | 10 => ⟨S8192x2048, .f32⟩
  | 11 => ⟨S8192x2048, .bf16⟩
  | _ => ⟨S1x8192x2048, .f32⟩

abbrev hbmTy (i : Nat) : BufTy := match i / 128 with
  | 0 => hbmTy0_0 i
  | 1 => hbmTy0_1 i
  | 2 => hbmTy0_2 i
  | 3 => hbmTy0_3 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩
abbrev main_v38 : Ref sig .tc := ⟨.hbm, 43, rfl⟩
abbrev main_cst_2 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_3 : Ref sig .tc := ⟨.hbm, 72, rfl⟩
abbrev main_v66 : Ref sig .tc := ⟨.hbm, 73, rfl⟩
abbrev main_v67 : Ref sig .tc := ⟨.hbm, 74, rfl⟩
abbrev main_cst_4 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_5 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_cst_6 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_cst_7 : Ref sig .tc := ⟨.hbm, 100, rfl⟩
abbrev main_call0_v0 : Ref sig .tc := ⟨.hbm, 101, rfl⟩
abbrev main_call0_v1 : Ref sig .tc := ⟨.hbm, 102, rfl⟩
abbrev main_call0_v2 : Ref sig .tc := ⟨.hbm, 103, rfl⟩
abbrev main_v90 : Ref sig .tc := ⟨.hbm, 104, rfl⟩
abbrev main_v91 : Ref sig .tc := ⟨.hbm, 105, rfl⟩
abbrev main_cst_8 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_cst_9 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_cst_10 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_cst_11 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_cst_12 : Ref sig .tc := ⟨.hbm, 139, rfl⟩
abbrev main_v121 : Ref sig .tc := ⟨.hbm, 140, rfl⟩
abbrev main_v122 : Ref sig .tc := ⟨.hbm, 141, rfl⟩
abbrev main_cst_13 : Ref sig .tc := ⟨.hbm, 142, rfl⟩
abbrev main_v123 : Ref sig .tc := ⟨.hbm, 143, rfl⟩
abbrev main_cst_14 : Ref sig .tc := ⟨.hbm, 144, rfl⟩
abbrev main_v124 : Ref sig .tc := ⟨.hbm, 145, rfl⟩
abbrev main_cst_15 : Ref sig .tc := ⟨.hbm, 146, rfl⟩
abbrev main_v125 : Ref sig .tc := ⟨.hbm, 147, rfl⟩
abbrev main_cst_16 : Ref sig .tc := ⟨.hbm, 148, rfl⟩
abbrev main_v126 : Ref sig .tc := ⟨.hbm, 149, rfl⟩
abbrev main_c : Ref sig .tc := ⟨.hbm, 150, rfl⟩
abbrev main_v127_0 : Ref sig .tc := ⟨.hbm, 151, rfl⟩
abbrev main_v127_1 : Ref sig .tc := ⟨.hbm, 152, rfl⟩
abbrev main_v127_2 : Ref sig .tc := ⟨.hbm, 153, rfl⟩
abbrev main_v127_3 : Ref sig .tc := ⟨.hbm, 154, rfl⟩
abbrev main_v127_4 : Ref sig .tc := ⟨.hbm, 155, rfl⟩
abbrev main_v127_5 : Ref sig .tc := ⟨.hbm, 156, rfl⟩
abbrev main_v127_6 : Ref sig .tc := ⟨.hbm, 157, rfl⟩
abbrev main_v127_7 : Ref sig .tc := ⟨.hbm, 158, rfl⟩
abbrev main_v127_8 : Ref sig .tc := ⟨.hbm, 159, rfl⟩
abbrev main_v127_9 : Ref sig .tc := ⟨.hbm, 160, rfl⟩
abbrev main_v127_10 : Ref sig .tc := ⟨.hbm, 161, rfl⟩
abbrev main_v127_11 : Ref sig .tc := ⟨.hbm, 162, rfl⟩
abbrev main_v127_12 : Ref sig .tc := ⟨.hbm, 163, rfl⟩
abbrev main_while0c_c_40 : Ref sig .tc := ⟨.hbm, 164, rfl⟩
abbrev main_while0c_v184 : Ref sig .tc := ⟨.hbm, 165, rfl⟩
abbrev main_while0b_call1_c : Ref sig .tc := ⟨.hbm, 166, rfl⟩
abbrev main_while0b_call1_c_0 : Ref sig .tc := ⟨.hbm, 167, rfl⟩
abbrev main_while0b_call1_c_1 : Ref sig .tc := ⟨.hbm, 168, rfl⟩
abbrev main_while0b_call1_c_2 : Ref sig .tc := ⟨.hbm, 169, rfl⟩
abbrev main_while0b_call1_v0 : Ref sig .tc := ⟨.hbm, 170, rfl⟩
abbrev main_while0b_v184 : Ref sig .tc := ⟨.hbm, 171, rfl⟩
abbrev main_while0b_call2_c : Ref sig .tc := ⟨.hbm, 172, rfl⟩
abbrev main_while0b_call2_c_0 : Ref sig .tc := ⟨.hbm, 173, rfl⟩
abbrev main_while0b_call2_c_1 : Ref sig .tc := ⟨.hbm, 174, rfl⟩
abbrev main_while0b_call2_c_2 : Ref sig .tc := ⟨.hbm, 175, rfl⟩
abbrev main_while0b_call2_v0 : Ref sig .tc := ⟨.hbm, 176, rfl⟩
abbrev main_while0b_v185 : Ref sig .tc := ⟨.hbm, 177, rfl⟩
abbrev main_while0b_call3_c : Ref sig .tc := ⟨.hbm, 178, rfl⟩
abbrev main_while0b_call3_c_0 : Ref sig .tc := ⟨.hbm, 179, rfl⟩
abbrev main_while0b_call3_c_1 : Ref sig .tc := ⟨.hbm, 180, rfl⟩
abbrev main_while0b_call3_c_2 : Ref sig .tc := ⟨.hbm, 181, rfl⟩
abbrev main_while0b_call3_v0 : Ref sig .tc := ⟨.hbm, 182, rfl⟩
abbrev main_while0b_v186 : Ref sig .tc := ⟨.hbm, 183, rfl⟩
abbrev main_while0b_v187 : Ref sig .tc := ⟨.hbm, 184, rfl⟩
abbrev main_while0b_v188 : Ref sig .tc := ⟨.hbm, 185, rfl⟩
abbrev main_while0b_v189 : Ref sig .tc := ⟨.hbm, 186, rfl⟩
abbrev main_while0b_v190 : Ref sig .tc := ⟨.hbm, 187, rfl⟩
abbrev main_while0b_v191 : Ref sig .tc := ⟨.hbm, 188, rfl⟩
abbrev main_while0b_v192 : Ref sig .tc := ⟨.hbm, 189, rfl⟩
abbrev main_while0b_v193 : Ref sig .tc := ⟨.hbm, 190, rfl⟩
abbrev main_while0b_v194 : Ref sig .tc := ⟨.hbm, 191, rfl⟩
abbrev main_while0b_v195 : Ref sig .tc := ⟨.hbm, 192, rfl⟩
abbrev main_while0b_v196 : Ref sig .tc := ⟨.hbm, 193, rfl⟩
abbrev main_while0b_v197 : Ref sig .tc := ⟨.hbm, 194, rfl⟩
abbrev main_while0b_v198 : Ref sig .tc := ⟨.hbm, 195, rfl⟩
abbrev main_while0b_v199 : Ref sig .tc := ⟨.hbm, 196, rfl⟩
abbrev main_while0b_call4_v0 : Ref sig .tc := ⟨.hbm, 197, rfl⟩
abbrev main_while0b_call4_c : Ref sig .tc := ⟨.hbm, 198, rfl⟩
abbrev main_while0b_call4_c_0 : Ref sig .tc := ⟨.hbm, 199, rfl⟩
abbrev main_while0b_call4_c_1 : Ref sig .tc := ⟨.hbm, 200, rfl⟩
abbrev main_while0b_call4_c_2 : Ref sig .tc := ⟨.hbm, 201, rfl⟩
abbrev main_while0b_v200 : Ref sig .tc := ⟨.hbm, 202, rfl⟩
abbrev main_while0b_call5_v0 : Ref sig .tc := ⟨.hbm, 203, rfl⟩
abbrev main_while0b_call5_c : Ref sig .tc := ⟨.hbm, 204, rfl⟩
abbrev main_while0b_call5_c_0 : Ref sig .tc := ⟨.hbm, 205, rfl⟩
abbrev main_while0b_call5_c_1 : Ref sig .tc := ⟨.hbm, 206, rfl⟩
abbrev main_while0b_call5_c_2 : Ref sig .tc := ⟨.hbm, 207, rfl⟩
abbrev main_while0b_v201 : Ref sig .tc := ⟨.hbm, 208, rfl⟩
abbrev main_while0b_call6_v0 : Ref sig .tc := ⟨.hbm, 209, rfl⟩
abbrev main_while0b_call6_c : Ref sig .tc := ⟨.hbm, 210, rfl⟩
abbrev main_while0b_call6_c_0 : Ref sig .tc := ⟨.hbm, 211, rfl⟩
abbrev main_while0b_call6_c_1 : Ref sig .tc := ⟨.hbm, 212, rfl⟩
abbrev main_while0b_call6_c_2 : Ref sig .tc := ⟨.hbm, 213, rfl⟩
abbrev main_while0b_v202 : Ref sig .tc := ⟨.hbm, 214, rfl⟩
abbrev main_while0b_call7_v0 : Ref sig .tc := ⟨.hbm, 215, rfl⟩
abbrev main_while0b_call7_c : Ref sig .tc := ⟨.hbm, 216, rfl⟩
abbrev main_while0b_call7_c_0 : Ref sig .tc := ⟨.hbm, 217, rfl⟩
abbrev main_while0b_call7_c_1 : Ref sig .tc := ⟨.hbm, 218, rfl⟩
abbrev main_while0b_call7_c_2 : Ref sig .tc := ⟨.hbm, 219, rfl⟩
abbrev main_while0b_v203 : Ref sig .tc := ⟨.hbm, 220, rfl⟩
abbrev main_while0b_c_40 : Ref sig .tc := ⟨.hbm, 221, rfl⟩
abbrev main_while0b_v204 : Ref sig .tc := ⟨.hbm, 222, rfl⟩
abbrev main_v128 : Ref sig .tc := ⟨.hbm, 223, rfl⟩
abbrev main_v129 : Ref sig .tc := ⟨.hbm, 224, rfl⟩
abbrev main_cst_17 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_cst_18 : Ref sig .tc := ⟨.hbm, 229, rfl⟩
abbrev main_v133 : Ref sig .tc := ⟨.hbm, 230, rfl⟩
abbrev main_cst_19 : Ref sig .tc := ⟨.hbm, 231, rfl⟩
abbrev main_v134 : Ref sig .tc := ⟨.hbm, 232, rfl⟩
abbrev main_cst_20 : Ref sig .tc := ⟨.hbm, 233, rfl⟩
abbrev main_v135 : Ref sig .tc := ⟨.hbm, 234, rfl⟩
abbrev main_cst_21 : Ref sig .tc := ⟨.hbm, 235, rfl⟩
abbrev main_v136 : Ref sig .tc := ⟨.hbm, 236, rfl⟩
abbrev main_c_22 : Ref sig .tc := ⟨.hbm, 237, rfl⟩
abbrev main_v137_0 : Ref sig .tc := ⟨.hbm, 238, rfl⟩
abbrev main_v137_1 : Ref sig .tc := ⟨.hbm, 239, rfl⟩
abbrev main_v137_2 : Ref sig .tc := ⟨.hbm, 240, rfl⟩
abbrev main_v137_3 : Ref sig .tc := ⟨.hbm, 241, rfl⟩
abbrev main_v137_4 : Ref sig .tc := ⟨.hbm, 242, rfl⟩
abbrev main_v137_5 : Ref sig .tc := ⟨.hbm, 243, rfl⟩
abbrev main_v137_6 : Ref sig .tc := ⟨.hbm, 244, rfl⟩
abbrev main_v137_7 : Ref sig .tc := ⟨.hbm, 245, rfl⟩
abbrev main_v137_8 : Ref sig .tc := ⟨.hbm, 246, rfl⟩
abbrev main_v137_9 : Ref sig .tc := ⟨.hbm, 247, rfl⟩
abbrev main_v137_10 : Ref sig .tc := ⟨.hbm, 248, rfl⟩
abbrev main_v137_11 : Ref sig .tc := ⟨.hbm, 249, rfl⟩
abbrev main_v137_12 : Ref sig .tc := ⟨.hbm, 250, rfl⟩
abbrev main_v137_13 : Ref sig .tc := ⟨.hbm, 251, rfl⟩
abbrev main_v137_14 : Ref sig .tc := ⟨.hbm, 252, rfl⟩
abbrev main_v137_15 : Ref sig .tc := ⟨.hbm, 253, rfl⟩
abbrev main_while1c_c_43 : Ref sig .tc := ⟨.hbm, 254, rfl⟩
abbrev main_while1c_v184 : Ref sig .tc := ⟨.hbm, 255, rfl⟩
abbrev main_while1b_c_43 : Ref sig .tc := ⟨.hbm, 256, rfl⟩
abbrev main_while1b_v184 : Ref sig .tc := ⟨.hbm, 257, rfl⟩
abbrev main_while1b_c_44 : Ref sig .tc := ⟨.hbm, 258, rfl⟩
abbrev main_while1b_v185 : Ref sig .tc := ⟨.hbm, 259, rfl⟩
abbrev main_while1b_call8_c : Ref sig .tc := ⟨.hbm, 260, rfl⟩
abbrev main_while1b_call8_c_0 : Ref sig .tc := ⟨.hbm, 261, rfl⟩
abbrev main_while1b_call8_c_1 : Ref sig .tc := ⟨.hbm, 262, rfl⟩
abbrev main_while1b_call8_c_2 : Ref sig .tc := ⟨.hbm, 263, rfl⟩
abbrev main_while1b_call8_v0 : Ref sig .tc := ⟨.hbm, 264, rfl⟩
abbrev main_while1b_v186 : Ref sig .tc := ⟨.hbm, 265, rfl⟩
abbrev main_while1b_call9_c : Ref sig .tc := ⟨.hbm, 266, rfl⟩
abbrev main_while1b_call9_c_0 : Ref sig .tc := ⟨.hbm, 267, rfl⟩
abbrev main_while1b_call9_c_1 : Ref sig .tc := ⟨.hbm, 268, rfl⟩
abbrev main_while1b_call9_c_2 : Ref sig .tc := ⟨.hbm, 269, rfl⟩
abbrev main_while1b_call9_v0 : Ref sig .tc := ⟨.hbm, 270, rfl⟩
abbrev main_while1b_v187 : Ref sig .tc := ⟨.hbm, 271, rfl⟩
abbrev main_while1b_call10_c : Ref sig .tc := ⟨.hbm, 272, rfl⟩
abbrev main_while1b_call10_c_0 : Ref sig .tc := ⟨.hbm, 273, rfl⟩
abbrev main_while1b_call10_c_1 : Ref sig .tc := ⟨.hbm, 274, rfl⟩
abbrev main_while1b_call10_c_2 : Ref sig .tc := ⟨.hbm, 275, rfl⟩
abbrev main_while1b_call10_v0 : Ref sig .tc := ⟨.hbm, 276, rfl⟩
abbrev main_while1b_v188 : Ref sig .tc := ⟨.hbm, 277, rfl⟩
abbrev main_while1b_call11_c : Ref sig .tc := ⟨.hbm, 278, rfl⟩
abbrev main_while1b_call11_c_0 : Ref sig .tc := ⟨.hbm, 279, rfl⟩
abbrev main_while1b_call11_c_1 : Ref sig .tc := ⟨.hbm, 280, rfl⟩
abbrev main_while1b_call11_c_2 : Ref sig .tc := ⟨.hbm, 281, rfl⟩
abbrev main_while1b_call11_v0 : Ref sig .tc := ⟨.hbm, 282, rfl⟩
abbrev main_while1b_v189 : Ref sig .tc := ⟨.hbm, 283, rfl⟩
abbrev main_while1b_call12_c : Ref sig .tc := ⟨.hbm, 284, rfl⟩
abbrev main_while1b_call12_c_0 : Ref sig .tc := ⟨.hbm, 285, rfl⟩
abbrev main_while1b_call12_c_1 : Ref sig .tc := ⟨.hbm, 286, rfl⟩
abbrev main_while1b_call12_c_2 : Ref sig .tc := ⟨.hbm, 287, rfl⟩
abbrev main_while1b_call12_v0 : Ref sig .tc := ⟨.hbm, 288, rfl⟩
abbrev main_while1b_v190 : Ref sig .tc := ⟨.hbm, 289, rfl⟩
abbrev main_while1b_call13_c : Ref sig .tc := ⟨.hbm, 290, rfl⟩
abbrev main_while1b_call13_c_0 : Ref sig .tc := ⟨.hbm, 291, rfl⟩
abbrev main_while1b_call13_c_1 : Ref sig .tc := ⟨.hbm, 292, rfl⟩
abbrev main_while1b_call13_c_2 : Ref sig .tc := ⟨.hbm, 293, rfl⟩
abbrev main_while1b_call13_v0 : Ref sig .tc := ⟨.hbm, 294, rfl⟩
abbrev main_while1b_v191 : Ref sig .tc := ⟨.hbm, 295, rfl⟩
abbrev main_while1b_call14_c : Ref sig .tc := ⟨.hbm, 296, rfl⟩
abbrev main_while1b_call14_c_0 : Ref sig .tc := ⟨.hbm, 297, rfl⟩
abbrev main_while1b_call14_c_1 : Ref sig .tc := ⟨.hbm, 298, rfl⟩
abbrev main_while1b_call14_c_2 : Ref sig .tc := ⟨.hbm, 299, rfl⟩
abbrev main_while1b_call14_v0 : Ref sig .tc := ⟨.hbm, 300, rfl⟩
abbrev main_while1b_v192 : Ref sig .tc := ⟨.hbm, 301, rfl⟩
abbrev main_while1b_v193 : Ref sig .tc := ⟨.hbm, 302, rfl⟩
abbrev main_while1b_v194 : Ref sig .tc := ⟨.hbm, 303, rfl⟩
abbrev main_while1b_v195 : Ref sig .tc := ⟨.hbm, 304, rfl⟩
abbrev main_while1b_v196 : Ref sig .tc := ⟨.hbm, 305, rfl⟩
abbrev main_while1b_v197 : Ref sig .tc := ⟨.hbm, 306, rfl⟩
abbrev main_while1b_v198 : Ref sig .tc := ⟨.hbm, 307, rfl⟩
abbrev main_while1b_v199 : Ref sig .tc := ⟨.hbm, 308, rfl⟩
abbrev main_while1b_v200 : Ref sig .tc := ⟨.hbm, 309, rfl⟩
abbrev main_while1b_v201 : Ref sig .tc := ⟨.hbm, 310, rfl⟩
abbrev main_while1b_v202 : Ref sig .tc := ⟨.hbm, 311, rfl⟩
abbrev main_while1b_v203 : Ref sig .tc := ⟨.hbm, 312, rfl⟩
abbrev main_while1b_v204 : Ref sig .tc := ⟨.hbm, 313, rfl⟩
abbrev main_while1b_v205 : Ref sig .tc := ⟨.hbm, 314, rfl⟩
abbrev main_while1b_v206 : Ref sig .tc := ⟨.hbm, 315, rfl⟩
abbrev main_while1b_v207 : Ref sig .tc := ⟨.hbm, 316, rfl⟩
abbrev main_while1b_v208 : Ref sig .tc := ⟨.hbm, 317, rfl⟩
abbrev main_while1b_v209 : Ref sig .tc := ⟨.hbm, 318, rfl⟩
abbrev main_while1b_v210 : Ref sig .tc := ⟨.hbm, 319, rfl⟩
abbrev main_while1b_v211 : Ref sig .tc := ⟨.hbm, 320, rfl⟩
abbrev main_while1b_v212 : Ref sig .tc := ⟨.hbm, 321, rfl⟩
abbrev main_while1b_v213 : Ref sig .tc := ⟨.hbm, 322, rfl⟩
abbrev main_while1b_v214 : Ref sig .tc := ⟨.hbm, 323, rfl⟩
abbrev main_while1b_v215 : Ref sig .tc := ⟨.hbm, 324, rfl⟩
abbrev main_while1b_call15_v0 : Ref sig .tc := ⟨.hbm, 325, rfl⟩
abbrev main_while1b_call15_c : Ref sig .tc := ⟨.hbm, 326, rfl⟩
abbrev main_while1b_call15_c_0 : Ref sig .tc := ⟨.hbm, 327, rfl⟩
abbrev main_while1b_call15_c_1 : Ref sig .tc := ⟨.hbm, 328, rfl⟩
abbrev main_while1b_call15_c_2 : Ref sig .tc := ⟨.hbm, 329, rfl⟩
abbrev main_while1b_v216 : Ref sig .tc := ⟨.hbm, 330, rfl⟩
abbrev main_while1b_call16_v0 : Ref sig .tc := ⟨.hbm, 331, rfl⟩
abbrev main_while1b_call16_c : Ref sig .tc := ⟨.hbm, 332, rfl⟩
abbrev main_while1b_call16_c_0 : Ref sig .tc := ⟨.hbm, 333, rfl⟩
abbrev main_while1b_call16_c_1 : Ref sig .tc := ⟨.hbm, 334, rfl⟩
abbrev main_while1b_call16_c_2 : Ref sig .tc := ⟨.hbm, 335, rfl⟩
abbrev main_while1b_v217 : Ref sig .tc := ⟨.hbm, 336, rfl⟩
abbrev main_while1b_call17_v0 : Ref sig .tc := ⟨.hbm, 337, rfl⟩
abbrev main_while1b_call17_c : Ref sig .tc := ⟨.hbm, 338, rfl⟩
abbrev main_while1b_call17_c_0 : Ref sig .tc := ⟨.hbm, 339, rfl⟩
abbrev main_while1b_call17_c_1 : Ref sig .tc := ⟨.hbm, 340, rfl⟩
abbrev main_while1b_call17_c_2 : Ref sig .tc := ⟨.hbm, 341, rfl⟩
abbrev main_while1b_v218 : Ref sig .tc := ⟨.hbm, 342, rfl⟩
abbrev main_while1b_c_45 : Ref sig .tc := ⟨.hbm, 343, rfl⟩
abbrev main_while1b_v219 : Ref sig .tc := ⟨.hbm, 344, rfl⟩
abbrev main_v138 : Ref sig .tc := ⟨.hbm, 345, rfl⟩
abbrev main_v139 : Ref sig .tc := ⟨.hbm, 346, rfl⟩
abbrev main_v140 : Ref sig .tc := ⟨.hbm, 347, rfl⟩
abbrev main_v141 : Ref sig .tc := ⟨.hbm, 348, rfl⟩
abbrev main_v142 : Ref sig .tc := ⟨.hbm, 349, rfl⟩
abbrev main_v143 : Ref sig .tc := ⟨.hbm, 350, rfl⟩
abbrev main_cst_23 : Ref sig .tc := ⟨.hbm, 351, rfl⟩
abbrev main_v144 : Ref sig .tc := ⟨.hbm, 352, rfl⟩
abbrev main_v145 : Ref sig .tc := ⟨.hbm, 353, rfl⟩
abbrev main_v146 : Ref sig .tc := ⟨.hbm, 354, rfl⟩
abbrev main_v147 : Ref sig .tc := ⟨.hbm, 355, rfl⟩
abbrev main_v148 : Ref sig .tc := ⟨.hbm, 356, rfl⟩
abbrev main_v149 : Ref sig .tc := ⟨.hbm, 357, rfl⟩
abbrev main_v150 : Ref sig .tc := ⟨.hbm, 358, rfl⟩
abbrev main_v151 : Ref sig .tc := ⟨.hbm, 359, rfl⟩
abbrev main_v152 : Ref sig .tc := ⟨.hbm, 360, rfl⟩
abbrev main_v153 : Ref sig .tc := ⟨.hbm, 361, rfl⟩
abbrev main_v154 : Ref sig .tc := ⟨.hbm, 362, rfl⟩
abbrev main_v155 : Ref sig .tc := ⟨.hbm, 363, rfl⟩
abbrev main_v156 : Ref sig .tc := ⟨.hbm, 364, rfl⟩
abbrev main_v157 : Ref sig .tc := ⟨.hbm, 365, rfl⟩
abbrev main_v158 : Ref sig .tc := ⟨.hbm, 366, rfl⟩
abbrev main_v159 : Ref sig .tc := ⟨.hbm, 367, rfl⟩
abbrev main_cst_24 : Ref sig .tc := ⟨.hbm, 368, rfl⟩
abbrev main_v160 : Ref sig .tc := ⟨.hbm, 369, rfl⟩
abbrev main_cst_25 : Ref sig .tc := ⟨.hbm, 370, rfl⟩
abbrev main_v161 : Ref sig .tc := ⟨.hbm, 371, rfl⟩
abbrev main_v162 : Ref sig .tc := ⟨.hbm, 372, rfl⟩
abbrev main_v163 : Ref sig .tc := ⟨.hbm, 373, rfl⟩
abbrev main_v164 : Ref sig .tc := ⟨.hbm, 374, rfl⟩
abbrev main_v165 : Ref sig .tc := ⟨.hbm, 375, rfl⟩
abbrev main_v166 : Ref sig .tc := ⟨.hbm, 376, rfl⟩
abbrev main_v167 : Ref sig .tc := ⟨.hbm, 377, rfl⟩
abbrev main_v168 : Ref sig .tc := ⟨.hbm, 378, rfl⟩
abbrev main_v169 : Ref sig .tc := ⟨.hbm, 379, rfl⟩
abbrev main_v170 : Ref sig .tc := ⟨.hbm, 380, rfl⟩
abbrev main_v171 : Ref sig .tc := ⟨.hbm, 381, rfl⟩
abbrev main_v172 : Ref sig .tc := ⟨.hbm, 382, rfl⟩
abbrev main_v173 : Ref sig .tc := ⟨.hbm, 383, rfl⟩
abbrev main_v174 : Ref sig .tc := ⟨.hbm, 384, rfl⟩
abbrev main_v175 : Ref sig .tc := ⟨.hbm, 385, rfl⟩
abbrev main_v176 : Ref sig .tc := ⟨.hbm, 386, rfl⟩
abbrev main_cst_26 : Ref sig .tc := ⟨.hbm, 387, rfl⟩
abbrev main_v177 : Ref sig .tc := ⟨.hbm, 388, rfl⟩
abbrev main_cst_27 : Ref sig .tc := ⟨.hbm, 389, rfl⟩
abbrev main_v178 : Ref sig .tc := ⟨.hbm, 390, rfl⟩
abbrev main_v179 : Ref sig .tc := ⟨.hbm, 391, rfl⟩
abbrev main_v180 : Ref sig .tc := ⟨.hbm, 392, rfl⟩
abbrev main_v181 : Ref sig .tc := ⟨.hbm, 393, rfl⟩
abbrev main_v182 : Ref sig .tc := ⟨.hbm, 394, rfl⟩
abbrev main_v183 : Ref sig .tc := ⟨.hbm, 395, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== RetfKernel.lean ====
abbrev S1x8192x2048 : Shape := ⟨3, ![1, 8192, 2048]⟩
abbrev S8192 : Shape := ⟨1, ![8192]⟩
abbrev S1x8192x512 : Shape := ⟨3, ![1, 8192, 512]⟩
abbrev S1x8192x1024 : Shape := ⟨3, ![1, 8192, 1024]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S8192x512 : Shape := ⟨2, ![8192, 512]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S8192x1024 : Shape := ⟨2, ![8192, 1024]⟩
abbrev S32x4x128x256 : Shape := ⟨4, ![32, 4, 128, 256]⟩
abbrev S1024x512 : Shape := ⟨2, ![1024, 512]⟩
abbrev S1024x1024 : Shape := ⟨2, ![1024, 1024]⟩
abbrev S4x4x128x256 : Shape := ⟨4, ![4, 4, 128, 256]⟩
abbrev S4x128x256 : Shape := ⟨3, ![4, 128, 256]⟩
abbrev S256x128 : Shape := ⟨2, ![256, 128]⟩
abbrev S1x256x1 : Shape := ⟨3, ![1, 256, 1]⟩
abbrev S128x256 : Shape := ⟨2, ![128, 256]⟩
abbrev S1x128x256 : Shape := ⟨3, ![1, 128, 256]⟩
abbrev S1x1x128x256 : Shape := ⟨4, ![1, 1, 128, 256]⟩
abbrev S1x1x1 : Shape := ⟨3, ![1, 1, 1]⟩
abbrev S1x1 : Shape := ⟨2, ![1, 1]⟩

abbrev nBuf : Space → Nat
  | .hbm => 138
  | .vmem => 15
  | .smem => 0
  | _ => 0

abbrev hbmTy0_0 (i : Nat) : BufTy := match i % 128 with
  | 0 => ⟨S1x8192x2048, .f32⟩
  | 1 => ⟨S8192, .i32⟩
  | 2 => ⟨S1x8192x512, .f32⟩
  | 3 => ⟨S1x8192x512, .f32⟩
  | 4 => ⟨S1x8192x1024, .f32⟩
  | 5 => ⟨S1x8192x4x128, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S1x8192x1x64, .f32⟩
  | 22 => ⟨S8192x64, .f32⟩
  | 23 => ⟨S1x8192x1x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x128, .f32⟩
  | 37 => ⟨S1x8192x4x128, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S8192, .f32⟩
  | 47 => ⟨S8192x1, .f32⟩
  | 48 => ⟨S1x64, .f32⟩
  | 49 => ⟨S8192x64, .f32⟩
  | 50 => ⟨S8192x64, .f32⟩
  | 51 => ⟨S8192x64, .f32⟩
  | 52 => ⟨S8192x64, .f32⟩
  | 53 => ⟨S1x8192x1x64, .f32⟩
  | 54 => ⟨S8192x64, .f32⟩
  | 55 => ⟨S1x8192x1x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x128, .f32⟩
  | 69 => ⟨S_, .f32⟩
  | 70 => ⟨S1x8192x4x128, .f32⟩
  | 71 => ⟨S1x8192x4x128, .f32⟩
  | 72 => ⟨S8192x512, .f32⟩
  | 73 => ⟨S8192x512, .bf16⟩
  | 74 => ⟨S4, .f32⟩
  | 75 => ⟨S_, .f32⟩
  | 76 => ⟨S4, .f32⟩
  | 77 => ⟨S4, .f32⟩
  | 78 => ⟨S_, .f32⟩
  | 79 => ⟨S4, .f32⟩
  | 80 => ⟨S4, .f32⟩
  | 81 => ⟨S4, .f32⟩
  | 82 => ⟨S4, .f32⟩
  | 83 => ⟨S4, .f32⟩
  | 84 => ⟨S256, .f32⟩
  | 85 => ⟨S256x1, .f32⟩
  | 86 => ⟨S1x256, .f32⟩
  | 87 => ⟨S256x256, .f32⟩
  | 88 => ⟨S256x256, .f32⟩
  | 89 => ⟨S256x256, .f32⟩
  | 90 => ⟨S1x256x256, .f32⟩
  | 91 => ⟨S_, .f32⟩
  | 92 => ⟨S1x256x256, .f32⟩
  | 93 => ⟨S1x256x256, .i1⟩
  | 94 => ⟨S4x1x1, .f32⟩
  | 95 => ⟨S_, .f32⟩
  | 96 => ⟨S256x256, .f32⟩
  | 97 => ⟨S256x256, .f32⟩
  | 98 => ⟨S1x256x256, .f32⟩
  | 99 => ⟨S4x256x256, .f32⟩
  | 100 => ⟨S4x256x256, .f32⟩
  | 101 => ⟨S4x256x256, .f32⟩
  | 102 => ⟨S4x256x256, .f32⟩
  | 103 => ⟨S_, .f32⟩
  | 104 => ⟨S_, .f32⟩
  | 105 => ⟨S4x256x256, .i1⟩
  | 106 => ⟨S4x256x256, .f32⟩
  | 107 => ⟨S4x256x256, .f32⟩
  | 108 => ⟨S4x1, .f32⟩
  | 109 => ⟨S_, .f32⟩
  | 110 => ⟨S256, .f32⟩
  | 111 => ⟨S256, .f32⟩
  | 112 => ⟨S1x256, .f32⟩
  | 113 => ⟨S4x256, .f32⟩
  | 114 => ⟨S4x256, .f32⟩
  | 115 => ⟨S4x256, .f32⟩
  | 116 => ⟨S4x256, .f32⟩
  | 117 => ⟨S4x256x1, .f32⟩
  | 118 => ⟨S4x1, .f32⟩
  | 119 => ⟨S_, .f32⟩
  | 120 => ⟨S256, .f32⟩
  | 121 => ⟨S256, .f32⟩
  | 122 => ⟨S1x256, .f32⟩
  | 123 => ⟨S4x256, .f32⟩
  | 124 => ⟨S4x256, .f32⟩
  | 125 => ⟨S4x256, .f32⟩
  | 126 => ⟨S4x256, .f32⟩
  | 127 => ⟨S4x256x1, .f32⟩
  | _ => ⟨S1x8192x2048, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4x1x1, .f32⟩
  | 5 => ⟨S8192x512, .f32⟩
  | 6 => ⟨S8192x1024, .f32⟩
  | 7 => ⟨S8192x1024, .bf16⟩
  | 8 => ⟨S8192x1024, .bf16⟩
  | 9 => ⟨S32x4x128x256, .bf16⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S1024x1024, .bf16⟩
  | .local _ .vmem, ⟨5, _⟩ => ⟨S1024x1024, .bf16⟩
  | .local _ .vmem, ⟨6, _⟩ => ⟨S4x256x256, .f32⟩
  | .local _ .vmem, ⟨7, _⟩ => ⟨S4x256x1, .f32⟩
  | .local _ .vmem, ⟨8, _⟩ => ⟨S4x256x1, .f32⟩
  | .local _ .vmem, ⟨9, _⟩ => ⟨S4x1x1, .f32⟩
  | .local _ .vmem, ⟨10, _⟩ => ⟨S1024x1024, .bf16⟩
  | .local _ .vmem, ⟨11, _⟩ => ⟨S1024x1024, .bf16⟩
  | .local _ .vmem, ⟨12, _⟩ => ⟨S4x4x128x256, .bf16⟩
  | .local _ .vmem, ⟨13, _⟩ => ⟨S4x4x128x256, .bf16⟩
  | .local _ .vmem, ⟨14, _⟩ => ⟨S4x128x256, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst_1 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_cst_3 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_cst_4 : Ref sig .tc := ⟨.hbm, 75, rfl⟩
abbrev main_v69 : Ref sig .tc := ⟨.hbm, 76, rfl⟩
abbrev main_v70 : Ref sig .tc := ⟨.hbm, 77, rfl⟩
abbrev main_cst_5 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_6 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_cst_7 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_cst_8 : Ref sig .tc := ⟨.hbm, 103, rfl⟩
abbrev main_call0_v0 : Ref sig .tc := ⟨.hbm, 104, rfl⟩
abbrev main_call0_v1 : Ref sig .tc := ⟨.hbm, 105, rfl⟩
abbrev main_call0_v2 : Ref sig .tc := ⟨.hbm, 106, rfl⟩
abbrev main_v93 : Ref sig .tc := ⟨.hbm, 107, rfl⟩
abbrev main_v94 : Ref sig .tc := ⟨.hbm, 108, rfl⟩
abbrev main_cst_9 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_10 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_11 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119_0 : Ref sig .tc := ⟨.hbm, 136, rfl⟩
abbrev main_v119_1 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x128x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RetfReferenceIdeal.lean ====
abbrev S1x8192x2048 : Shape := ⟨3, ![1, 8192, 2048]⟩
abbrev S8192 : Shape := ⟨1, ![8192]⟩
abbrev S1x8192x512 : Shape := ⟨3, ![1, 8192, 512]⟩
abbrev S1x8192x1024 : Shape := ⟨3, ![1, 8192, 1024]⟩
abbrev S1x8192x4x128 : Shape := ⟨4, ![1, 8192, 4, 128]⟩
abbrev S64 : Shape := ⟨1, ![64]⟩
abbrev S_ : Shape := ⟨0, ![]⟩
abbrev S8192x1 : Shape := ⟨2, ![8192, 1]⟩
abbrev S1x64 : Shape := ⟨2, ![1, 64]⟩
abbrev S8192x64 : Shape := ⟨2, ![8192, 64]⟩
abbrev S1x8192x1x64 : Shape := ⟨4, ![1, 8192, 1, 64]⟩
abbrev S1x8192x4x64 : Shape := ⟨4, ![1, 8192, 4, 64]⟩
abbrev S1x8192x4x256 : Shape := ⟨4, ![1, 8192, 4, 256]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S4x1 : Shape := ⟨2, ![4, 1]⟩
abbrev S4x128 : Shape := ⟨2, ![4, 128]⟩
abbrev S1x4x128x1 : Shape := ⟨4, ![1, 4, 128, 1]⟩
abbrev S1x4x1x1 : Shape := ⟨4, ![1, 4, 1, 1]⟩
abbrev S1x64x128x4x128 : Shape := ⟨5, ![1, 64, 128, 4, 128]⟩
abbrev S64x1x4x128x128 : Shape := ⟨5, ![64, 1, 4, 128, 128]⟩
abbrev S1x64x128x4x256 : Shape := ⟨5, ![1, 64, 128, 4, 256]⟩
abbrev S64x1x4x128x256 : Shape := ⟨5, ![64, 1, 4, 128, 256]⟩
abbrev S1x4x128x256 : Shape := ⟨4, ![1, 4, 128, 256]⟩
abbrev S1x1x4x128x128 : Shape := ⟨5, ![1, 1, 4, 128, 128]⟩
abbrev S1x4x128x128 : Shape := ⟨4, ![1, 4, 128, 128]⟩
abbrev S1x1x4x128x256 : Shape := ⟨5, ![1, 1, 4, 128, 256]⟩
abbrev S8192x1024 : Shape := ⟨2, ![8192, 1024]⟩
abbrev S32x1x4x128x256 : Shape := ⟨5, ![32, 1, 4, 128, 256]⟩
abbrev S32x4x128x256 : Shape := ⟨4, ![32, 4, 128, 256]⟩

abbrev nBuf : Space → Nat
  | .hbm => 211
  | .vmem => 0
  | .smem => 0
  | _ => 0

abbrev hbmTy0_0 (i : Nat) : BufTy := match i % 128 with
  | 0 => ⟨S1x8192x2048, .f32⟩
  | 1 => ⟨S8192, .i32⟩
  | 2 => ⟨S1x8192x512, .f32⟩
  | 3 => ⟨S1x8192x512, .f32⟩
  | 4 => ⟨S1x8192x1024, .f32⟩
  | 5 => ⟨S1x8192x4x128, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S8192, .f32⟩
  | 15 => ⟨S8192x1, .f32⟩
  | 16 => ⟨S1x64, .f32⟩
  | 17 => ⟨S8192x64, .f32⟩
  | 18 => ⟨S8192x64, .f32⟩
  | 19 => ⟨S8192x64, .f32⟩
  | 20 => ⟨S8192x64, .f32⟩
  | 21 => ⟨S1x8192x1x64, .f32⟩
  | 22 => ⟨S8192x64, .f32⟩
  | 23 => ⟨S1x8192x1x64, .f32⟩
  | 24 => ⟨S1x8192x4x64, .f32⟩
  | 25 => ⟨S1x8192x4x64, .f32⟩
  | 26 => ⟨S1x8192x4x64, .f32⟩
  | 27 => ⟨S1x8192x4x64, .f32⟩
  | 28 => ⟨S1x8192x4x64, .f32⟩
  | 29 => ⟨S1x8192x4x64, .f32⟩
  | 30 => ⟨S1x8192x4x64, .f32⟩
  | 31 => ⟨S1x8192x4x64, .f32⟩
  | 32 => ⟨S1x8192x4x64, .f32⟩
  | 33 => ⟨S1x8192x4x64, .f32⟩
  | 34 => ⟨S1x8192x4x64, .f32⟩
  | 35 => ⟨S1x8192x4x64, .f32⟩
  | 36 => ⟨S1x8192x4x128, .f32⟩
  | 37 => ⟨S1x8192x4x128, .f32⟩
  | 38 => ⟨S64, .f32⟩
  | 39 => ⟨S64, .f32⟩
  | 40 => ⟨S_, .f32⟩
  | 41 => ⟨S64, .f32⟩
  | 42 => ⟨S64, .f32⟩
  | 43 => ⟨S_, .f32⟩
  | 44 => ⟨S64, .f32⟩
  | 45 => ⟨S64, .f32⟩
  | 46 => ⟨S8192, .f32⟩
  | 47 => ⟨S8192x1, .f32⟩
  | 48 => ⟨S1x64, .f32⟩
  | 49 => ⟨S8192x64, .f32⟩
  | 50 => ⟨S8192x64, .f32⟩
  | 51 => ⟨S8192x64, .f32⟩
  | 52 => ⟨S8192x64, .f32⟩
  | 53 => ⟨S1x8192x1x64, .f32⟩
  | 54 => ⟨S8192x64, .f32⟩
  | 55 => ⟨S1x8192x1x64, .f32⟩
  | 56 => ⟨S1x8192x4x64, .f32⟩
  | 57 => ⟨S1x8192x4x64, .f32⟩
  | 58 => ⟨S1x8192x4x64, .f32⟩
  | 59 => ⟨S1x8192x4x64, .f32⟩
  | 60 => ⟨S1x8192x4x64, .f32⟩
  | 61 => ⟨S1x8192x4x64, .f32⟩
  | 62 => ⟨S1x8192x4x64, .f32⟩
  | 63 => ⟨S1x8192x4x64, .f32⟩
  | 64 => ⟨S1x8192x4x64, .f32⟩
  | 65 => ⟨S1x8192x4x64, .f32⟩
  | 66 => ⟨S1x8192x4x64, .f32⟩
  | 67 => ⟨S1x8192x4x64, .f32⟩
  | 68 => ⟨S1x8192x4x128, .f32⟩
  | 69 => ⟨S1x8192x4x256, .f32⟩
  | 70 => ⟨S4, .f32⟩
  | 71 => ⟨S_, .f32⟩
  | 72 => ⟨S4, .f32⟩
  | 73 => ⟨S4, .f32⟩
  | 74 => ⟨S_, .f32⟩
  | 75 => ⟨S4, .f32⟩
  | 76 => ⟨S4, .f32⟩
  | 77 => ⟨S4, .f32⟩
  | 78 => ⟨S4, .f32⟩
  | 79 => ⟨S4, .f32⟩
  | 80 => ⟨S128, .f32⟩
  | 81 => ⟨S128x1, .f32⟩
  | 82 => ⟨S1x128, .f32⟩
  | 83 => ⟨S128x128, .f32⟩
  | 84 => ⟨S128x128, .f32⟩
  | 85 => ⟨S128x128, .f32⟩
  | 86 => ⟨S1x128x128, .f32⟩
  | 87 => ⟨S_, .f32⟩
  | 88 => ⟨S1x128x128, .f32⟩
  | 89 => ⟨S1x128x128, .i1⟩
  | 90 => ⟨S4x1x1, .f32⟩
  | 91 => ⟨S_, .f32⟩
  | 92 => ⟨S128x128, .f32⟩
  | 93 => ⟨S128x128, .f32⟩
  | 94 => ⟨S1x128x128, .f32⟩
  | 95 => ⟨S4x128x128, .f32⟩
  | 96 => ⟨S4x128x128, .f32⟩
  | 97 => ⟨S4x128x128, .f32⟩
  | 98 => ⟨S4x128x128, .f32⟩
  | 99 => ⟨S_, .f32⟩
  | 100 => ⟨S_, .f32⟩
  | 101 => ⟨S4x128x128, .i1⟩
  | 102 => ⟨S4x128x128, .f32⟩
  | 103 => ⟨S4x128x128, .f32⟩
  | 104 => ⟨S4x1, .f32⟩
  | 105 => ⟨S_, .f32⟩
  | 106 => ⟨S128, .f32⟩
  | 107 => ⟨S128, .f32⟩
  | 108 => ⟨S1x128, .f32⟩
  | 109 => ⟨S4x128, .f32⟩
  | 110 => ⟨S4x128, .f32⟩
  | 111 => ⟨S4x128, .f32⟩
  | 112 => ⟨S4x128, .f32⟩
  | 113 => ⟨S1x4x128x1, .f32⟩
  | 114 => ⟨S4x1, .f32⟩
  | 115 => ⟨S_, .f32⟩
  | 116 => ⟨S128, .f32⟩
  | 117 => ⟨S128, .f32⟩
  | 118 => ⟨S1x128, .f32⟩
  | 119 => ⟨S4x128, .f32⟩
  | 120 => ⟨S4x128, .f32⟩
  | 121 => ⟨S4x128, .f32⟩
  | 122 => ⟨S4x128, .f32⟩
  | 123 => ⟨S1x4x128x1, .f32⟩
  | 124 => ⟨S_, .f32⟩
  | 125 => ⟨S4, .f32⟩
  | 126 => ⟨S4, .f32⟩
  | 127 => ⟨S4, .f32⟩
  | _ => ⟨S1x8192x2048, .f32⟩

abbrev hbmTy0_1 (i : Nat) : BufTy := match i % 128 with
  | 0 => ⟨S1x4x1x1, .f32⟩
  | 1 => ⟨S_, .f32⟩
  | 2 => ⟨S1x8192x4x128, .f32⟩
  | 3 => ⟨S1x8192x4x128, .f32⟩
  | 4 => ⟨S1x64x128x4x128, .f32⟩
  | 5 => ⟨S64x1x4x128x128, .f32⟩
  | 6 => ⟨S1x64x128x4x128, .f32⟩
  | 7 => ⟨S64x1x4x128x128, .f32⟩
  | 8 => ⟨S1x64x128x4x256, .f32⟩
  | 9 => ⟨S64x1x4x128x256, .f32⟩
  | 10 => ⟨S_, .f32⟩
  | 11 => ⟨S1x4x128x256, .f32⟩
  | 12 => ⟨S_, .f32⟩
  | 13 => ⟨S64x1x4x128x256, .f32⟩
  | 14 => ⟨S_, .bf16⟩
  | 15 => ⟨S64x1x4x128x256, .bf16⟩
  | 16 => ⟨S_, .i32⟩
  | 17 => ⟨S64x1x4x128x128, .f32⟩
  | 18 => ⟨S64x1x4x128x128, .f32⟩
  | 19 => ⟨S64x1x4x128x256, .f32⟩
  | 20 => ⟨S4x128x128, .f32⟩
  | 21 => ⟨S1x4x128x1, .f32⟩
  | 22 => ⟨S1x4x1x1, .f32⟩
  | 23 => ⟨S1x4x128x1, .f32⟩
  | 24 => ⟨S_, .i32⟩
  | 25 => ⟨S1x4x128x256, .f32⟩
  | 26 => ⟨S64x1x4x128x256, .f32⟩
  | 27 => ⟨S64x1x4x128x256, .bf16⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S1x1x4x128x128, .f32⟩
  | 35 => ⟨S1x4x128x128, .f32⟩
  | 36 => ⟨S_, .i32⟩
  | 37 => ⟨S_, .i32⟩
  | 38 => ⟨S_, .i32⟩
  | 39 => ⟨S_, .i32⟩
  | 40 => ⟨S1x1x4x128x128, .f32⟩
  | 41 => ⟨S1x4x128x128, .f32⟩
  | 42 => ⟨S_, .i32⟩
  | 43 => ⟨S_, .i32⟩
  | 44 => ⟨S_, .i32⟩
  | 45 => ⟨S_, .i32⟩
  | 46 => ⟨S1x1x4x128x256, .f32⟩
  | 47 => ⟨S1x4x128x256, .f32⟩
  | 48 => ⟨S1x4x128x128, .f32⟩
  | 49 => ⟨S1x4x128x128, .f32⟩
  | 50 => ⟨S1x4x128x128, .f32⟩
  | 51 => ⟨S1x4x128x256, .f32⟩
  | 52 => ⟨S1x4x128x256, .f32⟩
  | 53 => ⟨S1x4x128x256, .f32⟩
  | 54 => ⟨S1x4x128x256, .f32⟩
  | 55 => ⟨S1x4x128x256, .f32⟩
  | 56 => ⟨S1x4x128x256, .f32⟩
  | 57 => ⟨S1x4x128x128, .f32⟩
  | 58 => ⟨S1x4x128x128, .f32⟩
  | 59 => ⟨S1x4x128x256, .f32⟩
  | 60 => ⟨S1x4x128x256, .f32⟩
  | 61 => ⟨S1x4x128x256, .f32⟩
  | 62 => ⟨S1x4x128x256, .bf16⟩
  | 63 => ⟨S1x1x4x128x256, .f32⟩
  | 64 => ⟨S_, .i32⟩
  | 65 => ⟨S_, .i32⟩
  | 66 => ⟨S_, .i32⟩
  | 67 => ⟨S_, .i32⟩
  | 68 => ⟨S64x1x4x128x256, .f32⟩
  | 69 => ⟨S1x1x4x128x256, .bf16⟩
  | 70 => ⟨S_, .i32⟩
  | 71 => ⟨S_, .i32⟩
  | 72 => ⟨S_, .i32⟩
  | 73 => ⟨S_, .i32⟩
  | 74 => ⟨S64x1x4x128x256, .bf16⟩
  | 75 => ⟨S_, .i32⟩
  | 76 => ⟨S_, .i32⟩
  | 77 => ⟨S1x64x128x4x256, .f32⟩
  | 78 => ⟨S1x8192x4x256, .f32⟩
  | 79 => ⟨S8192x1024, .f32⟩
  | 80 => ⟨S8192x1024, .bf16⟩
  | 81 => ⟨S32x1x4x128x256, .bf16⟩
  | 82 => ⟨S32x4x128x256, .bf16⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_cst_1 : Ref sig .tc := ⟨.hbm, 40, rfl⟩
abbrev main_v37 : Ref sig .tc := ⟨.hbm, 41, rfl⟩
abbrev main_v38 : Ref sig .tc := ⟨.hbm, 42, rfl⟩
abbrev main_cst_2 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_cst_3 : Ref sig .tc := ⟨.hbm, 71, rfl⟩
abbrev main_v66 : Ref sig .tc := ⟨.hbm, 72, rfl⟩
abbrev main_v67 : Ref sig .tc := ⟨.hbm, 73, rfl⟩
abbrev main_cst_4 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_cst_5 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_cst_6 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_cst_7 : Ref sig .tc := ⟨.hbm, 99, rfl⟩
abbrev main_call0_v0 : Ref sig .tc := ⟨.hbm, 100, rfl⟩
abbrev main_call0_v1 : Ref sig .tc := ⟨.hbm, 101, rfl⟩
abbrev main_call0_v2 : Ref sig .tc := ⟨.hbm, 102, rfl⟩
abbrev main_v90 : Ref sig .tc := ⟨.hbm, 103, rfl⟩
abbrev main_v91 : Ref sig .tc := ⟨.hbm, 104, rfl⟩
abbrev main_cst_8 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_cst_9 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_cst_10 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_cst_11 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_cst_12 : Ref sig .tc := ⟨.hbm, 138, rfl⟩
abbrev main_v121 : Ref sig .tc := ⟨.hbm, 139, rfl⟩
abbrev main_cst_13 : Ref sig .tc := ⟨.hbm, 140, rfl⟩
abbrev main_v122 : Ref sig .tc := ⟨.hbm, 141, rfl⟩
abbrev main_cst_14 : Ref sig .tc := ⟨.hbm, 142, rfl⟩
abbrev main_v123 : Ref sig .tc := ⟨.hbm, 143, rfl⟩
abbrev main_c : Ref sig .tc := ⟨.hbm, 144, rfl⟩
abbrev main_v124_0 : Ref sig .tc := ⟨.hbm, 145, rfl⟩
abbrev main_v124_1 : Ref sig .tc := ⟨.hbm, 146, rfl⟩
abbrev main_v124_2 : Ref sig .tc := ⟨.hbm, 147, rfl⟩
abbrev main_v124_3 : Ref sig .tc := ⟨.hbm, 148, rfl⟩
abbrev main_v124_4 : Ref sig .tc := ⟨.hbm, 149, rfl⟩
abbrev main_v124_5 : Ref sig .tc := ⟨.hbm, 150, rfl⟩
abbrev main_v124_6 : Ref sig .tc := ⟨.hbm, 151, rfl⟩
abbrev main_v124_7 : Ref sig .tc := ⟨.hbm, 152, rfl⟩
abbrev main_v124_8 : Ref sig .tc := ⟨.hbm, 153, rfl⟩
abbrev main_v124_9 : Ref sig .tc := ⟨.hbm, 154, rfl⟩
abbrev main_v124_10 : Ref sig .tc := ⟨.hbm, 155, rfl⟩
abbrev main_while0c_c_25 : Ref sig .tc := ⟨.hbm, 156, rfl⟩
abbrev main_while0c_v131 : Ref sig .tc := ⟨.hbm, 157, rfl⟩
abbrev main_while0b_call1_c : Ref sig .tc := ⟨.hbm, 158, rfl⟩
abbrev main_while0b_call1_c_0 : Ref sig .tc := ⟨.hbm, 159, rfl⟩
abbrev main_while0b_call1_c_1 : Ref sig .tc := ⟨.hbm, 160, rfl⟩
abbrev main_while0b_call1_c_2 : Ref sig .tc := ⟨.hbm, 161, rfl⟩
abbrev main_while0b_call1_v0 : Ref sig .tc := ⟨.hbm, 162, rfl⟩
abbrev main_while0b_v131 : Ref sig .tc := ⟨.hbm, 163, rfl⟩
abbrev main_while0b_call2_c : Ref sig .tc := ⟨.hbm, 164, rfl⟩
abbrev main_while0b_call2_c_0 : Ref sig .tc := ⟨.hbm, 165, rfl⟩
abbrev main_while0b_call2_c_1 : Ref sig .tc := ⟨.hbm, 166, rfl⟩
abbrev main_while0b_call2_c_2 : Ref sig .tc := ⟨.hbm, 167, rfl⟩
abbrev main_while0b_call2_v0 : Ref sig .tc := ⟨.hbm, 168, rfl⟩
abbrev main_while0b_v132 : Ref sig .tc := ⟨.hbm, 169, rfl⟩
abbrev main_while0b_call3_c : Ref sig .tc := ⟨.hbm, 170, rfl⟩
abbrev main_while0b_call3_c_0 : Ref sig .tc := ⟨.hbm, 171, rfl⟩
abbrev main_while0b_call3_c_1 : Ref sig .tc := ⟨.hbm, 172, rfl⟩
abbrev main_while0b_call3_c_2 : Ref sig .tc := ⟨.hbm, 173, rfl⟩
abbrev main_while0b_call3_v0 : Ref sig .tc := ⟨.hbm, 174, rfl⟩
abbrev main_while0b_v133 : Ref sig .tc := ⟨.hbm, 175, rfl⟩
abbrev main_while0b_v134 : Ref sig .tc := ⟨.hbm, 176, rfl⟩
abbrev main_while0b_v135 : Ref sig .tc := ⟨.hbm, 177, rfl⟩
abbrev main_while0b_v136 : Ref sig .tc := ⟨.hbm, 178, rfl⟩
abbrev main_while0b_v137 : Ref sig .tc := ⟨.hbm, 179, rfl⟩
abbrev main_while0b_v138 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_v143 : Ref sig .tc := ⟨.hbm, 185, rfl⟩
abbrev main_while0b_v144 : Ref sig .tc := ⟨.hbm, 186, rfl⟩
abbrev main_while0b_v145 : Ref sig .tc := ⟨.hbm, 187, rfl⟩
abbrev main_while0b_v146 : Ref sig .tc := ⟨.hbm, 188, rfl⟩
abbrev main_while0b_v147 : Ref sig .tc := ⟨.hbm, 189, rfl⟩
abbrev main_while0b_v148 : Ref sig .tc := ⟨.hbm, 190, rfl⟩
abbrev main_while0b_call4_v0 : Ref sig .tc := ⟨.hbm, 191, rfl⟩
abbrev main_while0b_call4_c : Ref sig .tc := ⟨.hbm, 192, rfl⟩
abbrev main_while0b_call4_c_0 : Ref sig .tc := ⟨.hbm, 193, rfl⟩
abbrev main_while0b_call4_c_1 : Ref sig .tc := ⟨.hbm, 194, rfl⟩
abbrev main_while0b_call4_c_2 : Ref sig .tc := ⟨.hbm, 195, rfl⟩
abbrev main_while0b_v149 : Ref sig .tc := ⟨.hbm, 196, rfl⟩
abbrev main_while0b_call5_v0 : Ref sig .tc := ⟨.hbm, 197, rfl⟩
abbrev main_while0b_call5_c : Ref sig .tc := ⟨.hbm, 198, rfl⟩
abbrev main_while0b_call5_c_0 : Ref sig .tc := ⟨.hbm, 199, rfl⟩
abbrev main_while0b_call5_c_1 : Ref sig .tc := ⟨.hbm, 200, rfl⟩
abbrev main_while0b_call5_c_2 : Ref sig .tc := ⟨.hbm, 201, rfl⟩
abbrev main_while0b_v150 : Ref sig .tc := ⟨.hbm, 202, rfl⟩
abbrev main_while0b_c_25 : Ref sig .tc := ⟨.hbm, 203, rfl⟩
abbrev main_while0b_v151 : Ref sig .tc := ⟨.hbm, 204, rfl⟩
abbrev main_v125 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩

abbrev nD : Nat := 1
abbrev τ : Topo := Topo.v7x

variable {F : FTy → Type} [FloatOps F]

abbrev main_while0_count : Scf.Loop 32 := ⟨0#32, 64#32, 1#32⟩
-- ==== AttnfKernel.lean ====
abbrev S1x8192x1024 : Shape := ⟨3, ![1, 8192, 1024]⟩
abbrev S1x8192x128 : Shape := ⟨3, ![1, 8192, 128]⟩
abbrev S1x16 : Shape := ⟨2, ![1, 16]⟩
abbrev S8192 : Shape := ⟨1, ![8192]⟩
abbrev S1x8192x16x64 : Shape := ⟨4, ![1, 8192, 16, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x16x32 : Shape := ⟨4, ![1, 8192, 16, 32]⟩
abbrev S8192x1024 : Shape := ⟨2, ![8192, 1024]⟩
abbrev S1x8192x2x64 : Shape := ⟨4, ![1, 8192, 2, 64]⟩
abbrev S1x8192x2x32 : Shape := ⟨4, ![1, 8192, 2, 32]⟩
abbrev S8192x128 : Shape := ⟨2, ![8192, 128]⟩
abbrev S8x128 : Shape := ⟨2, ![8, 128]⟩
abbrev S512x1024 : Shape := ⟨2, ![512, 1024]⟩
abbrev S128x128 : Shape := ⟨2, ![128, 128]⟩
abbrev S512x128 : Shape := ⟨2, ![512, 128]⟩
abbrev S640x128 : Shape := ⟨2, ![640, 128]⟩
abbrev S256x128 : Shape := ⟨2, ![256, 128]⟩
abbrev S512x512 : Shape := ⟨2, ![512, 512]⟩
abbrev S128x512 : Shape := ⟨2, ![128, 512]⟩
abbrev S256x512 : Shape := ⟨2, ![256, 512]⟩
abbrev S1x1 : Shape := ⟨2, ![1, 1]⟩
abbrev S1x128 : Shape := ⟨2, ![1, 128]⟩
abbrev S1x512 : Shape := ⟨2, ![1, 512]⟩
abbrev S512 : Shape := ⟨1, ![512]⟩

abbrev nBuf : Space → Nat
  | .hbm => 78
  | .vmem => 12
  | .smem => 1
  | _ => 0

abbrev bufTy : (tb : Table) → Fin (tcTables nBuf tb) → BufTy
  | .hbm, ⟨0, _⟩ => ⟨S1x8192x1024, .f32⟩
  | .hbm, ⟨1, _⟩ => ⟨S1x8192x128, .f32⟩
  | .hbm, ⟨2, _⟩ => ⟨S1x8192x128, .f32⟩
  | .hbm, ⟨3, _⟩ => ⟨S1x16, .f32⟩
  | .hbm, ⟨4, _⟩ => ⟨S8192, .i32⟩
  | .hbm, ⟨5, _⟩ => ⟨S1x8192x16x64, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x8192x1x32, .f32⟩
  | .hbm, ⟨22, _⟩ => ⟨S8192x32, .f32⟩
  | .hbm, ⟨23, _⟩ => ⟨S1x8192x1x32, .f32⟩
  | .hbm, ⟨24, _⟩ => ⟨S1x8192x16x32, .f32⟩
  | .hbm, ⟨25, _⟩ => ⟨S1x8192x16x32, .f32⟩
  | .hbm, ⟨26, _⟩ => ⟨S1x8192x16x32, .f32⟩
  | .hbm, ⟨27, _⟩ => ⟨S1x8192x16x32, .f32⟩
  | .hbm, ⟨28, _⟩ => ⟨S1x8192x16x32, .f32⟩
  | .hbm, ⟨29, _⟩ => ⟨S1x8192x16x32, .f32⟩
  | .hbm, ⟨30, _⟩ => ⟨S1x8192x16x32, .f32⟩
  | .hbm, ⟨31, _⟩ => ⟨S1x8192x16x32, .f32⟩
  | .hbm, ⟨32, _⟩ => ⟨S1x8192x16x32, .f32⟩
  | .hbm, ⟨33, _⟩ => ⟨S1x8192x16x32, .f32⟩
  | .hbm, ⟨34, _⟩ => ⟨S1x8192x16x32, .f32⟩
  | .hbm, ⟨35, _⟩ => ⟨S1x8192x16x32, .f32⟩
  | .hbm, ⟨36, _⟩ => ⟨S1x8192x16x64, .f32⟩
  | .hbm, ⟨37, _⟩ => ⟨S8192x1024, .f32⟩
  | .hbm, ⟨38, _⟩ => ⟨S8192x1024, .bf16⟩
  | .hbm, ⟨39, _⟩ => ⟨S1x8192x2x64, .f32⟩
  | .hbm, ⟨40, _⟩ => ⟨S32, .f32⟩
  | .hbm, ⟨41, _⟩ => ⟨S32, .f32⟩
  | .hbm, ⟨42, _⟩ => ⟨S_, .f32⟩
  | .hbm, ⟨43, _⟩ => ⟨S32, .f32⟩
  | .hbm, ⟨44, _⟩ => ⟨S32, .f32⟩
  | .hbm, ⟨45, _⟩ => ⟨S_, .f32⟩
  | .hbm, ⟨46, _⟩ => ⟨S32, .f32⟩
  | .hbm, ⟨47, _⟩ => ⟨S32, .f32⟩
  | .hbm, ⟨48, _⟩ => ⟨S8192, .f32⟩
  | .hbm, ⟨49, _⟩ => ⟨S8192x1, .f32⟩
  | .hbm, ⟨50, _⟩ => ⟨S1x32, .f32⟩
  | .hbm, ⟨51, _⟩ => ⟨S8192x32, .f32⟩
  | .hbm, ⟨52, _⟩ => ⟨S8192x32, .f32⟩
  | .hbm, ⟨53, _⟩ => ⟨S8192x32, .f32⟩
  | .hbm, ⟨54, _⟩ => ⟨S8192x32, .f32⟩
  | .hbm, ⟨55, _⟩ => ⟨S1x8192x1x32, .f32⟩
  | .hbm, ⟨56, _⟩ => ⟨S8192x32, .f32⟩
  | .hbm, ⟨57, _⟩ => ⟨S1x8192x1x32, .f32⟩
  | .hbm, ⟨58, _⟩ => ⟨S1x8192x2x32, .f32⟩
  | .hbm, ⟨59, _⟩ => ⟨S1x8192x2x32, .f32⟩
  | .hbm, ⟨60, _⟩ => ⟨S1x8192x2x32, .f32⟩
  | .hbm, ⟨61, _⟩ => ⟨S1x8192x2x32, .f32⟩
  | .hbm, ⟨62, _⟩ => ⟨S1x8192x2x32, .f32⟩
  | .hbm, ⟨63, _⟩ => ⟨S1x8192x2x32, .f32⟩
  | .hbm, ⟨64, _⟩ => ⟨S1x8192x2x32, .f32⟩
  | .hbm, ⟨65, _⟩ => ⟨S1x8192x2x32, .f32⟩
  | .hbm, ⟨66, _⟩ => ⟨S1x8192x2x32, .f32⟩
  | .hbm, ⟨67, _⟩ => ⟨S1x8192x2x32, .f32⟩
  | .hbm, ⟨68, _⟩ => ⟨S1x8192x2x32, .f32⟩
  | .hbm, ⟨69, _⟩ => ⟨S1x8192x2x32, .f32⟩
  | .hbm, ⟨70, _⟩ => ⟨S1x8192x2x64, .f32⟩
  | .hbm, ⟨71, _⟩ => ⟨S8192x128, .f32⟩
  | .hbm, ⟨72, _⟩ => ⟨S8192x128, .bf16⟩
  | .hbm, ⟨73, _⟩ => ⟨S8192x128, .f32⟩
  | .hbm, ⟨74, _⟩ => ⟨S8192x128, .bf16⟩
  | .hbm, ⟨75, _⟩ => ⟨S_, .f32⟩
  | .hbm, ⟨76, _⟩ => ⟨S8x128, .f32⟩
  | .hbm, ⟨77, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S128x128, .bf16⟩
  | .local _ .vmem, ⟨3, _⟩ => ⟨S128x128, .bf16⟩
  | .local _ .vmem, ⟨4, _⟩ => ⟨S512x128, .bf16⟩
  | .local _ .vmem, ⟨5, _⟩ => ⟨S512x128, .bf16⟩
  | .local _ .vmem, ⟨6, _⟩ => ⟨S128x128, .bf16⟩
  | .local _ .vmem, ⟨7, _⟩ => ⟨S128x128, .bf16⟩
  | .local _ .vmem, ⟨8, _⟩ => ⟨S512x128, .bf16⟩
  | .local _ .vmem, ⟨9, _⟩ => ⟨S512x128, .bf16⟩
  | .local _ .vmem, ⟨10, _⟩ => ⟨S512x1024, .bf16⟩
  | .local _ .vmem, ⟨11, _⟩ => ⟨S512x1024, .bf16⟩
  | .local _ .smem, ⟨0, _⟩ => ⟨S1x16, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_3 : Ref sig .tc := ⟨.hbm, 75, rfl⟩
abbrev main_v67 : Ref sig .tc := ⟨.hbm, 76, rfl⟩
abbrev main_v68 : Ref sig .tc := ⟨.hbm, 77, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AttnfKernelIdeal.lean ====
variable {F : FTy → Type} [FloatOps F] [Named F]
def κ : String → Option EReal := fun
  | "mask" => some ⊥
  | _ => none
-- ==== AttnfReferenceIdeal.lean ====
abbrev S1x8192x1024 : Shape := ⟨3, ![1, 8192, 1024]⟩
abbrev S1x8192x128 : Shape := ⟨3, ![1, 8192, 128]⟩
abbrev S1x16 : Shape := ⟨2, ![1, 16]⟩
abbrev S8192 : Shape := ⟨1, ![8192]⟩
abbrev S1x8192x16x64 : Shape := ⟨4, ![1, 8192, 16, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x16x32 : Shape := ⟨4, ![1, 8192, 16, 32]⟩
abbrev S1x8192x2x64 : Shape := ⟨4, ![1, 8192, 2, 64]⟩
abbrev S1x8192x2x32 : Shape := ⟨4, ![1, 8192, 2, 32]⟩
abbrev S16 : Shape := ⟨1, ![16]⟩
abbrev S1x64x128x2x8x64 : Shape := ⟨6, ![1, 64, 128, 2, 8, 64]⟩
abbrev S1x8320x2x64 : Shape := ⟨4, ![1, 8320, 2, 64]⟩
abbrev S1x65x128x2x64 : Shape := ⟨5, ![1, 65, 128, 2, 64]⟩
abbrev S1x64x128x2x64 : Shape := ⟨5, ![1, 64, 128, 2, 64]⟩
abbrev S1x64x256x2x64 : Shape := ⟨5, ![1, 64, 256, 2, 64]⟩
abbrev S1x64x2x256x128x8 : Shape := ⟨6, ![1, 64, 2, 256, 128, 8]⟩
abbrev S1x64x2x8x128x256 : Shape := ⟨6, ![1, 64, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x2x8x1x1 : Shape := ⟨6, ![1, 1, 2, 8, 1, 1]⟩
abbrev S1x64x2x8x128 : Shape := ⟨5, ![1, 64, 2, 8, 128]⟩
abbrev S1x64x2x8x128x1 : Shape := ⟨6, ![1, 64, 2, 8, 128, 1]⟩
abbrev S1x64x2x64x8x128 : Shape := ⟨6, ![1, 64, 2, 64, 8, 128]⟩
abbrev S8192x1024 : Shape := ⟨2, ![8192, 1024]⟩

abbrev nBuf : Space → Nat
  | .hbm => 157
  | .vmem => 0
  | .smem => 0
  | _ => 0

abbrev hbmTy0_0 (i : Nat) : BufTy := match i % 128 with
  | 0 => ⟨S1x8192x1024, .f32⟩
  | 1 => ⟨S1x8192x128, .f32⟩
  | 2 => ⟨S1x8192x128, .f32⟩
  | 3 => ⟨S1x16, .f32⟩
  | 4 => ⟨S8192, .i32⟩
  | 5 => ⟨S1x8192x16x64, .f32⟩
  | 6 => ⟨S32, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S8192, .f32⟩
  | 15 => ⟨S8192x1, .f32⟩
  | 16 => ⟨S1x32, .f32⟩
  | 17 => ⟨S8192x32, .f32⟩
  | 18 => ⟨S8192x32, .f32⟩
  | 19 => ⟨S8192x32, .f32⟩
  | 20 => ⟨S8192x32, .f32⟩
  | 21 => ⟨S1x8192x1x32, .f32⟩
  | 22 => ⟨S8192x32, .f32⟩
  | 23 => ⟨S1x8192x1x32, .f32⟩
  | 24 => ⟨S1x8192x16x32, .f32⟩
  | 25 => ⟨S1x8192x16x32, .f32⟩
  | 26 => ⟨S1x8192x16x32, .f32⟩
  | 27 => ⟨S1x8192x16x32, .f32⟩
  | 28 => ⟨S1x8192x16x32, .f32⟩
  | 29 => ⟨S1x8192x16x32, .f32⟩
  | 30 => ⟨S1x8192x16x32, .f32⟩
  | 31 => ⟨S1x8192x16x32, .f32⟩
  | 32 => ⟨S1x8192x16x32, .f32⟩
  | 33 => ⟨S1x8192x16x32, .f32⟩
  | 34 => ⟨S1x8192x16x32, .f32⟩
  | 35 => ⟨S1x8192x16x32, .f32⟩
  | 36 => ⟨S1x8192x16x64, .f32⟩
  | 37 => ⟨S1x8192x2x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S8192, .f32⟩
  | 47 => ⟨S8192x1, .f32⟩
  | 48 => ⟨S1x32, .f32⟩
  | 49 => ⟨S8192x32, .f32⟩
  | 50 => ⟨S8192x32, .f32⟩
  | 51 => ⟨S8192x32, .f32⟩
  | 52 => ⟨S8192x32, .f32⟩
  | 53 => ⟨S1x8192x1x32, .f32⟩
  | 54 => ⟨S8192x32, .f32⟩
  | 55 => ⟨S1x8192x1x32, .f32⟩
  | 56 => ⟨S1x8192x2x32, .f32⟩
  | 57 => ⟨S1x8192x2x32, .f32⟩
  | 58 => ⟨S1x8192x2x32, .f32⟩
  | 59 => ⟨S1x8192x2x32, .f32⟩
  | 60 => ⟨S1x8192x2x32, .f32⟩
  | 61 => ⟨S1x8192x2x32, .f32⟩
  | 62 => ⟨S1x8192x2x32, .f32⟩
  | 63 => ⟨S1x8192x2x32, .f32⟩
  | 64 => ⟨S1x8192x2x32, .f32⟩
  | 65 => ⟨S1x8192x2x32, .f32⟩
  | 66 => ⟨S1x8192x2x32, .f32⟩
  | 67 => ⟨S1x8192x2x32, .f32⟩
  | 68 => ⟨S1x8192x2x64, .f32⟩
  | 69 => ⟨S1x8192x2x64, .f32⟩
  | 70 => ⟨S16, .f32⟩
  | 71 => ⟨S1x64x128x2x8x64, .f32⟩
  | 72 => ⟨S_, .i32⟩
  | 73 => ⟨S_, .f32⟩
  | 74 => ⟨S1x8320x2x64, .f32⟩
  | 75 => ⟨S1x65x128x2x64, .f32⟩
  | 76 => ⟨S_, .i32⟩
  | 77 => ⟨S_, .f32⟩
  | 78 => ⟨S1x8320x2x64, .f32⟩
  | 79 => ⟨S1x65x128x2x64, .f32⟩
  | 80 => ⟨S1x64x128x2x64, .f32⟩
  | 81 => ⟨S1x64x128x2x64, .f32⟩
  | 82 => ⟨S1x64x256x2x64, .f32⟩
  | 83 => ⟨S1x64x128x2x64, .f32⟩
  | 84 => ⟨S1x64x128x2x64, .f32⟩
  | 85 => ⟨S1x64x256x2x64, .f32⟩
  | 86 => ⟨S1x64x2x256x128x8, .f32⟩
  | 87 => ⟨S1x64x2x8x128x256, .f32⟩
  | 88 => ⟨S_, .f32⟩
  | 89 => ⟨S1x64x2x8x128x256, .f32⟩
  | 90 => ⟨S1x64x2x8x128x256, .f32⟩
  | 91 => ⟨S128, .i32⟩
  | 92 => ⟨S128x1, .i32⟩
  | 93 => ⟨S256, .i32⟩
  | 94 => ⟨S1x256, .i32⟩
  | 95 => ⟨S_, .i32⟩
  | 96 => ⟨S128x1, .i32⟩
  | 97 => ⟨S128x1, .i32⟩
  | 98 => ⟨S128x256, .i32⟩
  | 99 => ⟨S128x256, .i32⟩
  | 100 => ⟨S128x256, .i32⟩
  | 101 => ⟨S64, .i32⟩
  | 102 => ⟨S64x1x1, .i32⟩
  | 103 => ⟨S_, .i32⟩
  | 104 => ⟨S64x1x1, .i32⟩
  | 105 => ⟨S64x1x1, .i32⟩
  | 106 => ⟨S1x1x256, .i32⟩
  | 107 => ⟨S64x1x256, .i32⟩
  | 108 => ⟨S64x1x256, .i32⟩
  | 109 => ⟨S64x1x256, .i32⟩
  | 110 => ⟨S_, .i32⟩
  | 111 => ⟨S64x1x256, .i32⟩
  | 112 => ⟨S64x1x256, .i32⟩
  | 113 => ⟨S1x128x256, .i32⟩
  | 114 => ⟨S_, .i32⟩
  | 115 => ⟨S1x128x256, .i32⟩
  | 116 => ⟨S1x128x256, .i1⟩
  | 117 => ⟨S1x128x256, .i32⟩
  | 118 => ⟨S_, .i32⟩
  | 119 => ⟨S1x128x256, .i32⟩
  | 120 => ⟨S1x128x256, .i1⟩
  | 121 => ⟨S1x128x256, .i1⟩
  | 122 => ⟨S_, .i32⟩
  | 123 => ⟨S64x1x256, .i32⟩
  | 124 => ⟨S64x1x256, .i1⟩
  | 125 => ⟨S64x128x256, .i1⟩
  | 126 => ⟨S64x128x256, .i1⟩
  | 127 => ⟨S64x128x256, .i1⟩
  | _ => ⟨S1x8192x1024, .f32⟩

abbrev hbmTy0_1 (i : Nat) : BufTy := match i % 128 with
  | 0 => ⟨S1x64x1x1x128x256, .i1⟩
  | 1 => ⟨S_, .f32⟩
  | 2 => ⟨S_, .f32⟩
  | 3 => ⟨S1x64x2x8x128x256, .i1⟩
  | 4 => ⟨S1x64x2x8x128x256, .f32⟩
  | 5 => ⟨S1x64x2x8x128x256, .f32⟩
  | 6 => ⟨S1x1x2x8x1x1, .f32⟩
  | 7 => ⟨S_, .f32⟩
  | 8 => ⟨S1x64x2x8x128, .f32⟩
  | 9 => ⟨S1x64x2x8x128x1, .f32⟩
  | 10 => ⟨S1x64x2x8x128x1, .f32⟩
  | 11 => ⟨S1x64x2x8x128x1, .f32⟩
  | 12 => ⟨S1x64x2x8x128x256, .f32⟩
  | 13 => ⟨S1x64x2x8x128x256, .f32⟩
  | 14 => ⟨S1x64x2x8x128x256, .f32⟩
  | 15 => ⟨S_, .f32⟩
  | 16 => ⟨S1x64x2x8x128, .f32⟩
  | 17 => ⟨S1x64x2x8x128x1, .f32⟩
  | 18 => ⟨S1x64x2x8x128x1, .f32⟩
  | 19 => ⟨S1x64x2x8x128x1, .f32⟩
  | 20 => ⟨S1x64x2x8x128x1, .f32⟩
  | 21 => ⟨S1x64x2x8x128x1, .f32⟩
  | 22 => ⟨S1x64x2x8x128x256, .f32⟩
  | 23 => ⟨S1x64x2x8x128x256, .f32⟩
  | 24 => ⟨S1x64x2x64x8x128, .f32⟩
  | 25 => ⟨S1x64x128x2x8x64, .f32⟩
  | 26 => ⟨S1x8192x16x64, .f32⟩
  | 27 => ⟨S8192x1024, .f32⟩
  | 28 => ⟨S8192x1024, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_c : Ref sig .tc := ⟨.hbm, 72, rfl⟩
abbrev main_call0_v0 : Ref sig .tc := ⟨.hbm, 73, rfl⟩
abbrev main_v64 : Ref sig .tc := ⟨.hbm, 74, rfl⟩
abbrev main_v65 : Ref sig .tc := ⟨.hbm, 75, rfl⟩
abbrev main_c_3 : Ref sig .tc := ⟨.hbm, 76, rfl⟩
abbrev main_call1_v0 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_4 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_c_5 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_c_6 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_c_7 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_c_8 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_c_9 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_c_10 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_cst_11 : Ref sig .tc := ⟨.hbm, 129, rfl⟩
abbrev main_call2_v0 : Ref sig .tc := ⟨.hbm, 130, rfl⟩
abbrev main_call2_v1 : Ref sig .tc := ⟨.hbm, 131, rfl⟩
abbrev main_call2_v2 : Ref sig .tc := ⟨.hbm, 132, rfl⟩
abbrev main_v110 : Ref sig .tc := ⟨.hbm, 133, rfl⟩
abbrev main_v111 : Ref sig .tc := ⟨.hbm, 134, rfl⟩
abbrev main_cst_12 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_13 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩

abbrev nD : Nat := 1
abbrev τ : Topo := Topo.v7x

variable {F : FTy → Type} [FloatOps F]
-- ==== FfnKernel.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S2816x1024 : Shape := ⟨2, ![2816, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩

abbrev nBuf : Space → Nat
  | .hbm => 41
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | .hbm, ⟨9, _⟩ => ⟨S1024x2816, .f32⟩
  | .hbm, ⟨10, _⟩ => ⟨S2816x1024, .f32⟩
  | .hbm, ⟨11, _⟩ => ⟨S2816x1024, .bf16⟩
  | .hbm, ⟨12, _⟩ => ⟨S2816x1024, .f32⟩
  | .hbm, ⟨13, _⟩ => ⟨S2816x1024, .bf16⟩
  | .hbm, ⟨14, _⟩ => ⟨S8192x1024, .f32⟩
  | .hbm, ⟨15, _⟩ => ⟨S1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S8192x2816, .f32⟩
  | .hbm, ⟨34, _⟩ => ⟨S8192x2816, .f32⟩
  | .hbm, ⟨35, _⟩ => ⟨S8192x1024, .f32⟩
  | .hbm, ⟨36, _⟩ => ⟨S8192x1024, .f32⟩
  | .hbm, ⟨37, _⟩ => ⟨S8192x2816, .bf16⟩
  | .hbm, ⟨38, _⟩ => ⟨S8192x2816, .bf16⟩
  | .hbm, ⟨39, _⟩ => ⟨S8192x1024, .f32⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .f32⟩
  | .local _ .vmem, ⟨3, _⟩ => ⟨S256x2816, .f32⟩
  | .local _ .vmem, ⟨4, _⟩ => ⟨S256x2816, .f32⟩
  | .local _ .vmem, ⟨5, _⟩ => ⟨S256x2816, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== FfnReferenceIdeal.lean ====
abbrev S1x8192x1024 : Shape := ⟨3, ![1, 8192, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S_ : Shape := ⟨0, ![]⟩
abbrev S1x8192x2816 : Shape := ⟨3, ![1, 8192, 2816]⟩
abbrev S1024 : Shape := ⟨1, ![1024]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S2816x1024 : Shape := ⟨2, ![2816, 1024]⟩
abbrev S8192 : Shape := ⟨1, ![8192]⟩
abbrev S8192x2816 : Shape := ⟨2, ![8192, 2816]⟩
abbrev S8192x1024 : Shape := ⟨2, ![8192, 1024]⟩

abbrev nBuf : Space → Nat
  | .hbm => 105
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x8192x1024, .f32⟩
  | .hbm, ⟨6, _⟩ => ⟨S_, .f32⟩
  | .hbm, ⟨7, _⟩ => ⟨S1x8192x2816, .f32⟩
  | .hbm, ⟨8, _⟩ => ⟨S1024, .f32⟩
  | .hbm, ⟨9, _⟩ => ⟨S1x8192x1024, .f32⟩
  | .hbm, ⟨10, _⟩ => ⟨S_, .f32⟩
  | .hbm, ⟨11, _⟩ => ⟨S1x8192, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1024, .f32⟩
  | .hbm, ⟨25, _⟩ => ⟨S1x8192x1024, .f32⟩
  | .hbm, ⟨26, _⟩ => ⟨S1x1x1024, .f32⟩
  | .hbm, ⟨27, _⟩ => ⟨S1x8192x1024, .f32⟩
  | .hbm, ⟨28, _⟩ => ⟨S1x8192x1024, .f32⟩
  | .hbm, ⟨29, _⟩ => ⟨S1024x2816, .f32⟩
  | .hbm, ⟨30, _⟩ => ⟨S1x8192x2816, .f32⟩
  | .hbm, ⟨31, _⟩ => ⟨S1x8192x2816, .f32⟩
  | .hbm, ⟨32, _⟩ => ⟨S1x8192x2816, .f32⟩
  | .hbm, ⟨33, _⟩ => ⟨S1x8192x2816, .f32⟩
  | .hbm, ⟨34, _⟩ => ⟨S_, .f32⟩
  | .hbm, ⟨35, _⟩ => ⟨S1x8192x2816, .f32⟩
  | .hbm, ⟨36, _⟩ => ⟨S1x8192x2816, .f32⟩
  | .hbm, ⟨37, _⟩ => ⟨S_, .f32⟩
  | .hbm, ⟨38, _⟩ => ⟨S1x8192x2816, .f32⟩
  | .hbm, ⟨39, _⟩ => ⟨S1x8192x2816, .f32⟩
  | .hbm, ⟨40, _⟩ => ⟨S_, .f32⟩
  | .hbm, ⟨41, _⟩ => ⟨S1x8192x2816, .f32⟩
  | .hbm, ⟨42, _⟩ => ⟨S1x8192x2816, .f32⟩
  | .hbm, ⟨43, _⟩ => ⟨S1x8192x2816, .f32⟩
  | .hbm, ⟨44, _⟩ => ⟨S1x8192x2816, .f32⟩
  | .hbm, ⟨45, _⟩ => ⟨S1024x2816, .f32⟩
  | .hbm, ⟨46, _⟩ => ⟨S1x8192x2816, .f32⟩
  | .hbm, ⟨47, _⟩ => ⟨S1x8192x2816, .f32⟩
  | .hbm, ⟨48, _⟩ => ⟨S1x8192x2816, .f32⟩
  | .hbm, ⟨49, _⟩ => ⟨S2816x1024, .f32⟩
  | .hbm, ⟨50, _⟩ => ⟨S1x8192x1024, .f32⟩
  | .hbm, ⟨51, _⟩ => ⟨S1x8192x1024, .f32⟩
  | .hbm, ⟨52, _⟩ => ⟨S1x8192x1024, .f32⟩
  | .hbm, ⟨53, _⟩ => ⟨S1024x2816, .f32⟩
  | .hbm, ⟨54, _⟩ => ⟨S2816x1024, .f32⟩
  | .hbm, ⟨55, _⟩ => ⟨S1x8192x2816, .f32⟩
  | .hbm, ⟨56, _⟩ => ⟨S1x2816x1024, .f32⟩
  | .hbm, ⟨57, _⟩ => ⟨S1x8192x2816, .f32⟩
  | .hbm, ⟨58, _⟩ => ⟨S1x8192x2816, .f32⟩
  | .hbm, ⟨59, _⟩ => ⟨S2816x1024, .f32⟩
  | .hbm, ⟨60, _⟩ => ⟨S1024x2816, .f32⟩
  | .hbm, ⟨61, _⟩ => ⟨S1x8192x1024, .f32⟩
  | .hbm, ⟨62, _⟩ => ⟨S1x1024x2816, .f32⟩
  | .hbm, ⟨63, _⟩ => ⟨S1x8192x2816, .f32⟩
  | .hbm, ⟨64, _⟩ => ⟨S1x8192x2816, .f32⟩
  | .hbm, ⟨65, _⟩ => ⟨S1x8192x2816, .f32⟩
  | .hbm, ⟨66, _⟩ => ⟨S1x8192x2816, .f32⟩
  | .hbm, ⟨67, _⟩ => ⟨S2816x1024, .f32⟩
  | .hbm, ⟨68, _⟩ => ⟨S1024x2816, .f32⟩
  | .hbm, ⟨69, _⟩ => ⟨S1x8192x1024, .f32⟩
  | .hbm, ⟨70, _⟩ => ⟨S1x8192x1024, .f32⟩
  | .hbm, ⟨71, _⟩ => ⟨S1x1024x2816, .f32⟩
  | .hbm, ⟨72, _⟩ => ⟨S1x8192x1024, .f32⟩
  | .hbm, ⟨73, _⟩ => ⟨S_, .f32⟩
  | .hbm, ⟨74, _⟩ => ⟨S1x1024, .f32⟩
  | .hbm, ⟨75, _⟩ => ⟨S1x1x1024, .f32⟩
  | .hbm, ⟨76, _⟩ => ⟨S1x8192x1024, .f32⟩
  | .hbm, ⟨77, _⟩ => ⟨S1x8192x1024, .f32⟩
  | .hbm, ⟨78, _⟩ => ⟨S_, .f32⟩
  | .hbm, ⟨79, _⟩ => ⟨S1024, .f32⟩
  | .hbm, ⟨80, _⟩ => ⟨S1x8192x1024, .f32⟩
  | .hbm, ⟨81, _⟩ => ⟨S_, .f32⟩
  | .hbm, ⟨82, _⟩ => ⟨S1x8192, .f32⟩
  | .hbm, ⟨83, _⟩ => ⟨S1x8192x1, .f32⟩
  | .hbm, ⟨84, _⟩ => ⟨S1x8192x1024, .f32⟩
  | .hbm, ⟨85, _⟩ => ⟨S1x8192x1024, .f32⟩
  | .hbm, ⟨86, _⟩ => ⟨S1x8192x1024, .f32⟩
  | .hbm, ⟨87, _⟩ => ⟨S1x8192x1, .f32⟩
  | .hbm, ⟨88, _⟩ => ⟨S_, .f32⟩
  | .hbm, ⟨89, _⟩ => ⟨S1x8192x1, .f32⟩
  | .hbm, ⟨90, _⟩ => ⟨S1x8192x1, .f32⟩
  | .hbm, ⟨91, _⟩ => ⟨S_, .f32⟩
  | .hbm, ⟨92, _⟩ => ⟨S8192, .f32⟩
  | .hbm, ⟨93, _⟩ => ⟨S1x8192, .f32⟩
  | .hbm, ⟨94, _⟩ => ⟨S1x8192x1024, .f32⟩
  | .hbm, ⟨95, _⟩ => ⟨S1x8192x1024, .f32⟩
  | .hbm, ⟨96, _⟩ => ⟨S1x8192x1024, .f32⟩
  | .hbm, ⟨97, _⟩ => ⟨S1x8192x1024, .f32⟩
  | .hbm, ⟨98, _⟩ => ⟨S1x8192x1024, .f32⟩
  | .hbm, ⟨99, _⟩ => ⟨S1x1024, .f32⟩
  | .hbm, ⟨100, _⟩ => ⟨S8192x2816, .f32⟩
  | .hbm, ⟨101, _⟩ => ⟨S8192x2816, .bf16⟩
  | .hbm, ⟨102, _⟩ => ⟨S8192x2816, .f32⟩
  | .hbm, ⟨103, _⟩ => ⟨S8192x2816, .bf16⟩
  | .hbm, ⟨104, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v21_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v21_1 : Ref sig .tc := ⟨.hbm, 43, rfl⟩
abbrev main_v21_0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_5 : Ref sig .tc := ⟨.hbm, 78, rfl⟩
abbrev main_v51 : Ref sig .tc := ⟨.hbm, 79, rfl⟩
abbrev main_v52 : Ref sig .tc := ⟨.hbm, 80, rfl⟩
abbrev main_cst_6 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_7 : Ref sig .tc := ⟨.hbm, 88, rfl⟩
abbrev main_v59 : Ref sig .tc := ⟨.hbm, 89, rfl⟩
abbrev main_v60 : Ref sig .tc := ⟨.hbm, 90, rfl⟩
abbrev main_cst_8 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]
-- ==== LossKernel.lean ====
abbrev S1x8192x1024 : Shape := ⟨3, ![1, 8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S8192x1024 : Shape := ⟨2, ![8192, 1024]⟩
abbrev S1024x2816 : Shape := ⟨2, ![1024, 2816]⟩
abbrev S2816x1024 : Shape := ⟨2, ![2816, 1024]⟩
abbrev S8192x2816 : Shape := ⟨2, ![8192, 2816]⟩
abbrev S1x128 : Shape := ⟨2, ![1, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 25
  | .vmem => 21
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S8192x1024, .f32⟩
  | .hbm, ⟨8, _⟩ => ⟨S8192x1024, .f32⟩
  | .hbm, ⟨9, _⟩ => ⟨S1x1024, .f32⟩
  | .hbm, ⟨10, _⟩ => ⟨S1024x2816, .f32⟩
  | .hbm, ⟨11, _⟩ => ⟨S2816x1024, .f32⟩
  | .hbm, ⟨12, _⟩ => ⟨S2816x1024, .bf16⟩
  | .hbm, ⟨13, _⟩ => ⟨S1024x2816, .f32⟩
  | .hbm, ⟨14, _⟩ => ⟨S2816x1024, .f32⟩
  | .hbm, ⟨15, _⟩ => ⟨S2816x1024, .bf16⟩
  | .hbm, ⟨16, _⟩ => ⟨S2816x1024, .f32⟩
  | .hbm, ⟨17, _⟩ => ⟨S2816x1024, .bf16⟩
  | .hbm, ⟨18, _⟩ => ⟨S8192x2816, .f32⟩
  | .hbm, ⟨19, _⟩ => ⟨S8192x2816, .f32⟩
  | .hbm, ⟨20, _⟩ => ⟨S8192x1024, .bf16⟩
  | .hbm, ⟨21, _⟩ => ⟨S8192x2816, .bf16⟩
  | .hbm, ⟨22, _⟩ => ⟨S8192x1024, .f32⟩
  | .hbm, ⟨23, _⟩ => ⟨S1x128, .f32⟩
  | .hbm, ⟨24, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x2816, .f32⟩
  | .local _ .vmem, ⟨10, _⟩ => ⟨S256x2816, .f32⟩
  | .local _ .vmem, ⟨11, _⟩ => ⟨S256x2816, .f32⟩
  | .local _ .vmem, ⟨12, _⟩ => ⟨S256x2816, .f32⟩
  | .local _ .vmem, ⟨13, _⟩ => ⟨S256x1024, .bf16⟩
  | .local _ .vmem, ⟨14, _⟩ => ⟨S256x1024, .bf16⟩
  | .local _ .vmem, ⟨15, _⟩ => ⟨S256x2816, .bf16⟩
  | .local _ .vmem, ⟨16, _⟩ => ⟨S256x2816, .bf16⟩
  | .local _ .vmem, ⟨17, _⟩ => ⟨S256x1024, .f32⟩
  | .local _ .vmem, ⟨18, _⟩ => ⟨S256x1024, .f32⟩
  | .local _ .vmem, ⟨19, _⟩ => ⟨S1x128, .f32⟩
  | .local _ .vmem, ⟨20, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== LossReferenceIdeal.lean ====
abbrev S1x8192x1024 : Shape := ⟨3, ![1, 8192, 1024]⟩
abbrev S1x1024 : Shape := ⟨2, ![1, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x2816 : Shape := ⟨2, ![1024, 2816]⟩
abbrev S1x8192x2816 : Shape := ⟨3, ![1, 8192, 2816]⟩
abbrev S2816x1024 : Shape := ⟨2, ![2816, 1024]⟩
abbrev S8192 : Shape := ⟨1, ![8192]⟩
abbrev S8192x2816 : Shape := ⟨2, ![8192, 2816]⟩
abbrev S8192x1024 : Shape := ⟨2, ![8192, 1024]⟩
abbrev S1x128 : Shape := ⟨2, ![1, 128]⟩

abbrev nBuf : Space → Nat
  | .hbm => 119
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x1024, .f32⟩
  | .hbm, ⟨3, _⟩ => ⟨S1024, .f32⟩
  | .hbm, ⟨4, _⟩ => ⟨S1x1024x2816, .f32⟩
  | .hbm, ⟨5, _⟩ => ⟨S1x1024x2816, .f32⟩
  | .hbm, ⟨6, _⟩ => ⟨S1x2816x1024, .f32⟩
  | .hbm, ⟨7, _⟩ => ⟨S1024, .f32⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S1024x2816, .f32⟩
  | .hbm, ⟨25, _⟩ => ⟨S1x8192x2816, .f32⟩
  | .hbm, ⟨26, _⟩ => ⟨S1024x2816, .f32⟩
  | .hbm, ⟨27, _⟩ => ⟨S1x8192x2816, .f32⟩
  | .hbm, ⟨28, _⟩ => ⟨S1x8192x2816, .f32⟩
  | .hbm, ⟨29, _⟩ => ⟨S1x8192x2816, .f32⟩
  | .hbm, ⟨30, _⟩ => ⟨S_, .f32⟩
  | .hbm, ⟨31, _⟩ => ⟨S1x8192x2816, .f32⟩
  | .hbm, ⟨32, _⟩ => ⟨S1x8192x2816, .f32⟩
  | .hbm, ⟨33, _⟩ => ⟨S_, .f32⟩
  | .hbm, ⟨34, _⟩ => ⟨S1x8192x2816, .f32⟩
  | .hbm, ⟨35, _⟩ => ⟨S1x8192x2816, .f32⟩
  | .hbm, ⟨36, _⟩ => ⟨S1x8192x2816, .f32⟩
  | .hbm, ⟨37, _⟩ => ⟨S1x8192x2816, .f32⟩
  | .hbm, ⟨38, _⟩ => ⟨S2816x1024, .f32⟩
  | .hbm, ⟨39, _⟩ => ⟨S1x8192x1024, .f32⟩
  | .hbm, ⟨40, _⟩ => ⟨S1x8192x1024, .f32⟩
  | .hbm, ⟨41, _⟩ => ⟨S1x8192x1024, .f32⟩
  | .hbm, ⟨42, _⟩ => ⟨S_, .f32⟩
  | .hbm, ⟨43, _⟩ => ⟨S1x8192, .f32⟩
  | .hbm, ⟨44, _⟩ => ⟨S1x8192x1, .f32⟩
  | .hbm, ⟨45, _⟩ => ⟨S_, .f32⟩
  | .hbm, ⟨46, _⟩ => ⟨S1x8192x1, .f32⟩
  | .hbm, ⟨47, _⟩ => ⟨S1x8192x1, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S1x8192x1, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S1x8192x1024, .f32⟩
  | .hbm, ⟨57, _⟩ => ⟨S1x8192x1024, .f32⟩
  | .hbm, ⟨58, _⟩ => ⟨S1x1x1024, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S_, .f32⟩
  | .hbm, ⟨64, _⟩ => ⟨S1x8192x1024, .f32⟩
  | .hbm, ⟨65, _⟩ => ⟨S1x8192x1024, .f32⟩
  | .hbm, ⟨66, _⟩ => ⟨S_, .f32⟩
  | .hbm, ⟨67, _⟩ => ⟨S1x8192, .f32⟩
  | .hbm, ⟨68, _⟩ => ⟨S_, .f32⟩
  | .hbm, ⟨69, _⟩ => ⟨S1x8192, .f32⟩
  | .hbm, ⟨70, _⟩ => ⟨S1x8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S1x8192, .f32⟩
  | .hbm, ⟨79, _⟩ => ⟨S_, .f32⟩
  | .hbm, ⟨80, _⟩ => ⟨S1x8192, .f32⟩
  | .hbm, ⟨81, _⟩ => ⟨S1x8192, .f32⟩
  | .hbm, ⟨82, _⟩ => ⟨S1x8192x1024, .f32⟩
  | .hbm, ⟨83, _⟩ => ⟨S1x8192x1024, .f32⟩
  | .hbm, ⟨84, _⟩ => ⟨S1x8192x1024, .f32⟩
  | .hbm, ⟨85, _⟩ => ⟨S_, .f32⟩
  | .hbm, ⟨86, _⟩ => ⟨S1x1024, .f32⟩
  | .hbm, ⟨87, _⟩ => ⟨S1x1x1024, .f32⟩
  | .hbm, ⟨88, _⟩ => ⟨S1x8192x1024, .f32⟩
  | .hbm, ⟨89, _⟩ => ⟨S1x8192x1024, .f32⟩
  | .hbm, ⟨90, _⟩ => ⟨S_, .f32⟩
  | .hbm, ⟨91, _⟩ => ⟨S1024, .f32⟩
  | .hbm, ⟨92, _⟩ => ⟨S1x8192x1024, .f32⟩
  | .hbm, ⟨93, _⟩ => ⟨S_, .f32⟩
  | .hbm, ⟨94, _⟩ => ⟨S1x8192, .f32⟩
  | .hbm, ⟨95, _⟩ => ⟨S1x8192x1, .f32⟩
  | .hbm, ⟨96, _⟩ => ⟨S1x8192x1024, .f32⟩
  | .hbm, ⟨97, _⟩ => ⟨S1x8192x1024, .f32⟩
  | .hbm, ⟨98, _⟩ => ⟨S1x8192x1, .f32⟩
  | .hbm, ⟨99, _⟩ => ⟨S_, .f32⟩
  | .hbm, ⟨100, _⟩ => ⟨S1x8192x1, .f32⟩
  | .hbm, ⟨101, _⟩ => ⟨S1x8192x1, .f32⟩
  | .hbm, ⟨102, _⟩ => ⟨S_, .f32⟩
  | .hbm, ⟨103, _⟩ => ⟨S8192, .f32⟩
  | .hbm, ⟨104, _⟩ => ⟨S1x8192, .f32⟩
  | .hbm, ⟨105, _⟩ => ⟨S1x8192x1024, .f32⟩
  | .hbm, ⟨106, _⟩ => ⟨S1x8192x1024, .f32⟩
  | .hbm, ⟨107, _⟩ => ⟨S1x8192x1024, .f32⟩
  | .hbm, ⟨108, _⟩ => ⟨S1x8192x1024, .f32⟩
  | .hbm, ⟨109, _⟩ => ⟨S1x8192x1024, .f32⟩
  | .hbm, ⟨110, _⟩ => ⟨S8192x2816, .f32⟩
  | .hbm, ⟨111, _⟩ => ⟨S8192x2816, .f32⟩
  | .hbm, ⟨112, _⟩ => ⟨S8192x1024, .f32⟩
  | .hbm, ⟨113, _⟩ => ⟨S8192x1024, .bf16⟩
  | .hbm, ⟨114, _⟩ => ⟨S8192x2816, .f32⟩
  | .hbm, ⟨115, _⟩ => ⟨S8192x2816, .bf16⟩
  | .hbm, ⟨116, _⟩ => ⟨S8192x1024, .f32⟩
  | .hbm, ⟨117, _⟩ => ⟨S1x128, .f32⟩
  | .hbm, ⟨118, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_cst_11 : Ref sig .tc := ⟨.hbm, 75, rfl⟩
abbrev main_cst_12 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_14 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_15 : Ref sig .tc := ⟨.hbm, 90, rfl⟩
abbrev main_v59 : Ref sig .tc := ⟨.hbm, 91, rfl⟩
abbrev main_v60 : Ref sig .tc := ⟨.hbm, 92, rfl⟩
abbrev main_cst_16 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_17 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩

abbrev nD : Nat := 1
abbrev τ : Topo := Topo.v7x

variable {F : FTy → Type} [FloatOps F]
-- ==== MergeKernel.lean ====
abbrev S1x8192x4x256 : Shape := ⟨4, ![1, 8192, 4, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S_ : Shape := ⟨0, ![]⟩
abbrev S1024 : Shape := ⟨1, ![1024]⟩
abbrev S1x8192x4 : Shape := ⟨3, ![1, 8192, 4]⟩
abbrev S1x8192x4x1 : Shape := ⟨4, ![1, 8192, 4, 1]⟩
abbrev S1x1x1024 : Shape := ⟨3, ![1, 1, 1024]⟩
abbrev S8192x1024 : Shape := ⟨2, ![8192, 1024]⟩
abbrev S1024x1024 : Shape := ⟨2, ![1024, 1024]⟩
abbrev S8192x2048 : Shape := ⟨2, ![8192, 2048]⟩
abbrev S512x1024 : Shape := ⟨2, ![512, 1024]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256 : Shape := ⟨1, ![256]⟩

abbrev nBuf : Space → Nat
  | .hbm => 72
  | .vmem => 31
  | .smem => 0
  | _ => 0

abbrev bufTy : (tb : Table) → Fin (tcTables nBuf tb) → BufTy
  | .hbm, ⟨0, _⟩ => ⟨S1x8192x4x256, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x1024, .f32⟩
  | .hbm, ⟨6, _⟩ => ⟨S1x1024x1024, .f32⟩
  | .hbm, ⟨7, _⟩ => ⟨S1x1024x1024, .f32⟩
  | .hbm, ⟨8, _⟩ => ⟨S1x1024x1024, .f32⟩
  | .hbm, ⟨9, _⟩ => ⟨S1x8192x1024, .f32⟩
  | .hbm, ⟨10, _⟩ => ⟨S1x8192x1024, .f32⟩
  | .hbm, ⟨11, _⟩ => ⟨S1x8192x1024, .f32⟩
  | .hbm, ⟨12, _⟩ => ⟨S_, .f32⟩
  | .hbm, ⟨13, _⟩ => ⟨S1x8192x1024, .f32⟩
  | .hbm, ⟨14, _⟩ => ⟨S1x8192x1024, .f32⟩
  | .hbm, ⟨15, _⟩ => ⟨S_, .f32⟩
  | .hbm, ⟨16, _⟩ => ⟨S1x8192x1024, .f32⟩
  | .hbm, ⟨17, _⟩ => ⟨S1x8192x1024, .f32⟩
  | .hbm, ⟨18, _⟩ => ⟨S1x8192x1024, .f32⟩
  | .hbm, ⟨19, _⟩ => ⟨S1024, .f32⟩
  | .hbm, ⟨20, _⟩ => ⟨S_, .f32⟩
  | .hbm, ⟨21, _⟩ => ⟨S1x8192x4, .f32⟩
  | .hbm, ⟨22, _⟩ => ⟨S1x8192x4x1, .f32⟩
  | .hbm, ⟨23, _⟩ => ⟨S_, .f32⟩
  | .hbm, ⟨24, _⟩ => ⟨S1x8192x4x1, .f32⟩
  | .hbm, ⟨25, _⟩ => ⟨S1x8192x4x1, .f32⟩
  | .hbm, ⟨26, _⟩ => ⟨S1x8192x4x256, .f32⟩
  | .hbm, ⟨27, _⟩ => ⟨S1x8192x4x256, .f32⟩
  | .hbm, ⟨28, _⟩ => ⟨S1x8192x4x256, .f32⟩
  | .hbm, ⟨29, _⟩ => ⟨S_, .f32⟩
  | .hbm, ⟨30, _⟩ => ⟨S1x8192x4, .f32⟩
  | .hbm, ⟨31, _⟩ => ⟨S1x8192x4x1, .f32⟩
  | .hbm, ⟨32, _⟩ => ⟨S_, .f32⟩
  | .hbm, ⟨33, _⟩ => ⟨S1x8192x4x1, .f32⟩
  | .hbm, ⟨34, _⟩ => ⟨S1x8192x4x1, .f32⟩
  | .hbm, ⟨35, _⟩ => ⟨S_, .f32⟩
  | .hbm, ⟨36, _⟩ => ⟨S1x8192x4x1, .f32⟩
  | .hbm, ⟨37, _⟩ => ⟨S1x8192x4x1, .f32⟩
  | .hbm, ⟨38, _⟩ => ⟨S1x8192x4x1, .f32⟩
  | .hbm, ⟨39, _⟩ => ⟨S1x8192x4x256, .f32⟩
  | .hbm, ⟨40, _⟩ => ⟨S1x8192x4x256, .f32⟩
  | .hbm, ⟨41, _⟩ => ⟨S1x8192x1024, .f32⟩
  | .hbm, ⟨42, _⟩ => ⟨S1x1x1024, .f32⟩
  | .hbm, ⟨43, _⟩ => ⟨S1x8192x1024, .f32⟩
  | .hbm, ⟨44, _⟩ => ⟨S1x8192x1024, .f32⟩
  | .hbm, ⟨45, _⟩ => ⟨S1x8192x1024, .f32⟩
  | .hbm, ⟨46, _⟩ => ⟨S1x8192x1024, .bf16⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x1024, .f32⟩
  | .hbm, ⟨51, _⟩ => ⟨S8192x1024, .bf16⟩
  | .hbm, ⟨52, _⟩ => ⟨S8192x1024, .bf16⟩
  | .hbm, ⟨53, _⟩ => ⟨S8192x1024, .f32⟩
  | .hbm, ⟨54, _⟩ => ⟨S8192x1024, .bf16⟩
  | .hbm, ⟨55, _⟩ => ⟨S8192x1024, .f32⟩
  | .hbm, ⟨56, _⟩ => ⟨S8192x1024, .bf16⟩
  | .hbm, ⟨57, _⟩ => ⟨S8192x1024, .f32⟩
  | .hbm, ⟨58, _⟩ => ⟨S8192x1024, .bf16⟩
  | .hbm, ⟨59, _⟩ => ⟨S1024x1024, .f32⟩
  | .hbm, ⟨60, _⟩ => ⟨S1024x1024, .bf16⟩
  | .hbm, ⟨61, _⟩ => ⟨S1024x1024, .f32⟩
  | .hbm, ⟨62, _⟩ => ⟨S1024x1024, .bf16⟩
  | .hbm, ⟨63, _⟩ => ⟨S1024x1024, .f32⟩
  | .hbm, ⟨64, _⟩ => ⟨S1024x1024, .bf16⟩
  | .hbm, ⟨65, _⟩ => ⟨S8192x2048, .bf16⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | .hbm, ⟨70, _⟩ => ⟨S8192x1024, .bf16⟩
  | .hbm, ⟨71, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S512x2048, .bf16⟩
  | .local _ .vmem, ⟨19, _⟩ => ⟨S512x2048, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1x1024, .f32⟩
  | _, _ => ⟨S1x8192x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_cst_0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_cst_1 : Ref sig .tc := ⟨.hbm, 29, rfl⟩
abbrev main_v9 : Ref sig .tc := ⟨.hbm, 30, rfl⟩
abbrev main_v10 : Ref sig .tc := ⟨.hbm, 31, rfl⟩
abbrev main_cst_2 : Ref sig .tc := ⟨.hbm, 32, rfl⟩
abbrev main_v11 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42_0 : Ref sig .tc := ⟨.hbm, 65, rfl⟩
abbrev main_v42_1 : Ref sig .tc := ⟨.hbm, 66, rfl⟩
abbrev main_v42_2 : Ref sig .tc := ⟨.hbm, 67, rfl⟩
abbrev main_v42_3 : Ref sig .tc := ⟨.hbm, 68, rfl⟩
abbrev main_v42_4 : Ref sig .tc := ⟨.hbm, 69, rfl⟩
abbrev main_v42_5 : Ref sig .tc := ⟨.hbm, 70, rfl⟩
abbrev main_v42_6 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== MergeReferenceIdeal.lean ====
abbrev S1x8192x4x256 : Shape := ⟨4, ![1, 8192, 4, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S_ : Shape := ⟨0, ![]⟩
abbrev S1024 : Shape := ⟨1, ![1024]⟩
abbrev S1x8192x4 : Shape := ⟨3, ![1, 8192, 4]⟩
abbrev S1x8192x4x1 : Shape := ⟨4, ![1, 8192, 4, 1]⟩
abbrev S1x1x1024 : Shape := ⟨3, ![1, 1, 1024]⟩
abbrev S1024x1024 : Shape := ⟨2, ![1024, 1024]⟩
abbrev S8192x4 : Shape := ⟨2, ![8192, 4]⟩
abbrev S1x8192x2048 : Shape := ⟨3, ![1, 8192, 2048]⟩
abbrev S8192x2048 : Shape := ⟨2, ![8192, 2048]⟩
abbrev S8192x1024 : Shape := ⟨2, ![8192, 1024]⟩

abbrev nBuf : Space → Nat
  | .hbm => 168
  | .vmem => 0
  | .smem => 0
  | _ => 0

abbrev hbmTy0_0 (i : Nat) : BufTy := match i % 128 with
  | 0 => ⟨S1x8192x4x256, .f32⟩
  | 1 => ⟨S1x8192x1024, .f32⟩
  | 2 => ⟨S1x8192x1024, .f32⟩
  | 3 => ⟨S1x8192x1024, .f32⟩
  | 4 => ⟨S1x8192x1024, .f32⟩
  | 5 => ⟨S1x1024, .f32⟩
  | 6 => ⟨S1x1024x1024, .f32⟩
  | 7 => ⟨S1x1024x1024, .f32⟩
  | 8 => ⟨S1x1024x1024, .f32⟩
  | 9 => ⟨S1x8192x1024, .f32⟩
  | 10 => ⟨S_, .f32⟩
  | 11 => ⟨S1x8192x1024, .f32⟩
  | 12 => ⟨S1024, .f32⟩
  | 13 => ⟨S_, .f32⟩
  | 14 => ⟨S1x8192x4, .f32⟩
  | 15 => ⟨S1x8192x4x1, .f32⟩
  | 16 => ⟨S_, .f32⟩
  | 17 => ⟨S1x8192x4x1, .f32⟩
  | 18 => ⟨S1x8192x4x1, .f32⟩
  | 19 => ⟨S1x8192x4x256, .f32⟩
  | 20 => ⟨S1x8192x4x256, .f32⟩
  | 21 => ⟨S1x8192x4x256, .f32⟩
  | 22 => ⟨S_, .f32⟩
  | 23 => ⟨S1x8192x4, .f32⟩
  | 24 => ⟨S1x8192x4x1, .f32⟩
  | 25 => ⟨S_, .f32⟩
  | 26 => ⟨S1x8192x4x1, .f32⟩
  | 27 => ⟨S1x8192x4x1, .f32⟩
  | 28 => ⟨S_, .f32⟩
  | 29 => ⟨S1x8192x4x1, .f32⟩
  | 30 => ⟨S1x8192x4x1, .f32⟩
  | 31 => ⟨S1x8192x4x1, .f32⟩
  | 32 => ⟨S1x8192x4x1, .f32⟩
  | 33 => ⟨S_, .f32⟩
  | 34 => ⟨S1x8192x4x1, .f32⟩
  | 35 => ⟨S1x8192x4x1, .f32⟩
  | 36 => ⟨S1x8192x4x256, .f32⟩
  | 37 => ⟨S1x8192x4x256, .f32⟩
  | 38 => ⟨S1x8192x1024, .f32⟩
  | 39 => ⟨S1x1x1024, .f32⟩
  | 40 => ⟨S1x8192x1024, .f32⟩
  | 41 => ⟨S1x8192x1024, .f32⟩
  | 42 => ⟨S1x8192x1024, .f32⟩
  | 43 => ⟨S1x8192x1024, .f32⟩
  | 44 => ⟨S_, .f32⟩
  | 45 => ⟨S1x8192x1024, .f32⟩
  | 46 => ⟨S1x8192x1024, .f32⟩
  | 47 => ⟨S_, .f32⟩
  | 48 => ⟨S1x8192x1024, .f32⟩
  | 49 => ⟨S1x8192x1024, .f32⟩
  | 50 => ⟨S_, .f32⟩
  | 51 => ⟨S1x8192x1024, .f32⟩
  | 52 => ⟨S1x8192x1024, .f32⟩
  | 53 => ⟨S1x8192x1024, .f32⟩
  | 54 => ⟨S1x8192x1024, .f32⟩
  | 55 => ⟨S1x8192x1024, .f32⟩
  | 56 => ⟨S1024x1024, .f32⟩
  | 57 => ⟨S1x8192x1024, .f32⟩
  | 58 => ⟨S1x8192x1024, .f32⟩
  | 59 => ⟨S1024x1024, .f32⟩
  | 60 => ⟨S1x8192x1024, .f32⟩
  | 61 => ⟨S1x8192x1024, .f32⟩
  | 62 => ⟨S1x8192x1024, .f32⟩
  | 63 => ⟨S1x8192x1024, .f32⟩
  | 64 => ⟨S_, .f32⟩
  | 65 => ⟨S1x8192x1024, .f32⟩
  | 66 => ⟨S1x8192x1024, .f32⟩
  | 67 => ⟨S_, .f32⟩
  | 68 => ⟨S1x8192x1024, .f32⟩
  | 69 => ⟨S1x8192x1024, .f32⟩
  | 70 => ⟨S_, .f32⟩
  | 71 => ⟨S1x8192x1024, .f32⟩
  | 72 => ⟨S1x8192x1024, .f32⟩
  | 73 => ⟨S1x8192x1024, .f32⟩
  | 74 => ⟨S1x8192x1024, .f32⟩
  | 75 => ⟨S1x8192x1024, .f32⟩
  | 76 => ⟨S1x8192x1024, .f32⟩
  | 77 => ⟨S_, .f32⟩
  | 78 => ⟨S1x8192x1024, .f32⟩
  | 79 => ⟨S1x8192x1024, .f32⟩
  | 80 => ⟨S_, .f32⟩
  | 81 => ⟨S1x8192x1024, .f32⟩
  | 82 => ⟨S1x8192x1024, .f32⟩
  | 83 => ⟨S_, .f32⟩
  | 84 => ⟨S1x8192x1024, .f32⟩
  | 85 => ⟨S1x8192x1024, .f32⟩
  | 86 => ⟨S1x8192x1024, .f32⟩
  | 87 => ⟨S1x8192x1024, .f32⟩
  | 88 => ⟨S1x8192x1024, .f32⟩
  | 89 => ⟨S1024x1024, .f32⟩
  | 90 => ⟨S1x8192x1024, .f32⟩
  | 91 => ⟨S1024x1024, .f32⟩
  | 92 => ⟨S1024x1024, .f32⟩
  | 93 => ⟨S1x8192x1024, .f32⟩
  | 94 => ⟨S1x1024x1024, .f32⟩
  | 95 => ⟨S1x8192x1024, .f32⟩
  | 96 => ⟨S1x8192x1024, .f32⟩
  | 97 => ⟨S1x8192x1024, .f32⟩
  | 98 => ⟨S1x8192x1024, .f32⟩
  | 99 => ⟨S1x8192x1024, .f32⟩
  | 100 => ⟨S1x8192x1024, .f32⟩
  | 101 => ⟨S1024x1024, .f32⟩
  | 102 => ⟨S1024x1024, .f32⟩
  | 103 => ⟨S1x8192x1024, .f32⟩
  | 104 => ⟨S1x1024x1024, .f32⟩
  | 105 => ⟨S1024x1024, .f32⟩
  | 106 => ⟨S1024x1024, .f32⟩
  | 107 => ⟨S1x8192x1024, .f32⟩
  | 108 => ⟨S1x1024x1024, .f32⟩
  | 109 => ⟨S1x8192x1024, .f32⟩
  | 110 => ⟨S1x8192x1024, .f32⟩
  | 111 => ⟨S1x8192x1024, .f32⟩
  | 112 => ⟨S1x8192x1024, .f32⟩
  | 113 => ⟨S1x8192x1024, .f32⟩
  | 114 => ⟨S1x8192x1024, .f32⟩
  | 115 => ⟨S1x8192x1024, .f32⟩
  | 116 => ⟨S_, .f32⟩
  | 117 => ⟨S1x1024, .f32⟩
  | 118 => ⟨S1x1x1024, .f32⟩
  | 119 => ⟨S1x8192x1024, .f32⟩
  | 120 => ⟨S1x8192x1024, .f32⟩
  | 121 => ⟨S_, .f32⟩
  | 122 => ⟨S1024, .f32⟩
  | 123 => ⟨S1x8192x4x256, .f32⟩
  | 124 => ⟨S1x8192x4x256, .f32⟩
  | 125 => ⟨S_, .f32⟩
  | 126 => ⟨S1x8192x4, .f32⟩
  | 127 => ⟨S1x8192x4x1, .f32⟩
  | _ => ⟨S1x8192x4x256, .f32⟩

abbrev hbmTy0_1 (i : Nat) : BufTy := match i % 128 with
  | 0 => ⟨S1x8192x4x256, .f32⟩
  | 1 => ⟨S1x8192x4x256, .f32⟩
  | 2 => ⟨S1x8192x4x1, .f32⟩
  | 3 => ⟨S_, .f32⟩
  | 4 => ⟨S1x8192x4x1, .f32⟩
  | 5 => ⟨S1x8192x4x1, .f32⟩
  | 6 => ⟨S_, .f32⟩
  | 7 => ⟨S8192x4, .f32⟩
  | 8 => ⟨S1x8192x4, .f32⟩
  | 9 => ⟨S1x8192x4x256, .f32⟩
  | 10 => ⟨S1x8192x4x256, .f32⟩
  | 11 => ⟨S1x8192x4x256, .f32⟩
  | 12 => ⟨S1x8192x4x256, .f32⟩
  | 13 => ⟨S1x8192x4x256, .f32⟩
  | 14 => ⟨S1x8192x4x256, .f32⟩
  | 15 => ⟨S_, .f32⟩
  | 16 => ⟨S1x8192x4, .f32⟩
  | 17 => ⟨S1x8192x4x1, .f32⟩
  | 18 => ⟨S_, .f32⟩
  | 19 => ⟨S1x8192x4x1, .f32⟩
  | 20 => ⟨S1x8192x4x1, .f32⟩
  | 21 => ⟨S_, .f32⟩
  | 22 => ⟨S8192x4, .f32⟩
  | 23 => ⟨S1x8192x4, .f32⟩
  | 24 => ⟨S1x8192x4x256, .f32⟩
  | 25 => ⟨S1x8192x4x256, .f32⟩
  | 26 => ⟨S1x1024, .f32⟩
  | 27 => ⟨S1x8192x2048, .f32⟩
  | 28 => ⟨S8192x2048, .f32⟩
  | 29 => ⟨S8192x2048, .bf16⟩
  | 30 => ⟨S8192x1024, .f32⟩
  | 31 => ⟨S8192x1024, .bf16⟩
  | 32 => ⟨S8192x1024, .f32⟩
  | 33 => ⟨S8192x1024, .bf16⟩
  | 34 => ⟨S8192x1024, .f32⟩
  | 35 => ⟨S8192x1024, .bf16⟩
  | 36 => ⟨S8192x1024, .f32⟩
  | 37 => ⟨S8192x1024, .bf16⟩
  | 38 => ⟨S8192x1024, .f32⟩
  | 39 => ⟨S8192x1024, .bf16⟩
  | _ => ⟨S1x8192x4x256, .f32⟩

abbrev hbmTy (i : Nat) : BufTy := match i / 128 with
  | 0 => hbmTy0_0 i
  | 1 => hbmTy0_1 i
  | _ => ⟨S1x8192x4x256, .f32⟩

abbrev bufTy : (tb : Table) → Fin (tcTables nBuf tb) → BufTy
  | .hbm, ⟨i, _⟩ => hbmTy i
  | _, _ => ⟨S1x8192x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_cst_4 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v25_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v25_1 : Ref sig .tc := ⟨.hbm, 53, rfl⟩
abbrev main_v25_0 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_9 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_v48 : Ref sig .tc := ⟨.hbm, 82, rfl⟩
abbrev main_cst_11 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_call1_v0 : Ref sig .tc := ⟨.hbm, 111, rfl⟩
abbrev main_call1_v1 : Ref sig .tc := ⟨.hbm, 112, rfl⟩
abbrev main_call1_v2 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_cst_15 : Ref sig .tc := ⟨.hbm, 131, rfl⟩
abbrev main_v90 : Ref sig .tc := ⟨.hbm, 132, rfl⟩
abbrev main_v91 : Ref sig .tc := ⟨.hbm, 133, rfl⟩
abbrev main_cst_16 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_17 : Ref sig .tc := ⟨.hbm, 143, rfl⟩
abbrev main_v100 : Ref sig .tc := ⟨.hbm, 144, rfl⟩
abbrev main_v101 : Ref sig .tc := ⟨.hbm, 145, rfl⟩
abbrev main_cst_18 : Ref sig .tc := ⟨.hbm, 146, rfl⟩
abbrev main_v102 : Ref sig .tc := ⟨.hbm, 147, rfl⟩
abbrev main_v103 : Ref sig .tc := ⟨.hbm, 148, rfl⟩
abbrev main_cst_19 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩

abbrev nD : Nat := 1
abbrev τ : Topo := Topo.v7x

variable {F : FTy → Type} [FloatOps F]
-- ==== Kernel.lean ====
abbrev S1x8192x1024 : Shape := ⟨3, ![1, 8192, 1024]⟩
abbrev S1x1024 : Shape := ⟨2, ![1, 1024]⟩
abbrev S1x1024x6400 : Shape := ⟨3, ![1, 1024, 6400]⟩
abbrev S1x6400 : Shape := ⟨2, ![1, 6400]⟩
abbrev S1x8192x6400 : Shape := ⟨3, ![1, 8192, 6400]⟩
abbrev S8192x6400 : Shape := ⟨2, ![8192, 6400]⟩
abbrev S8192x2048 : Shape := ⟨2, ![8192, 2048]⟩
abbrev S8192x1024 : Shape := ⟨2, ![8192, 1024]⟩
abbrev S8192x128 : Shape := ⟨2, ![8192, 128]⟩
abbrev S32x2x128x128 : Shape := ⟨4, ![32, 2, 128, 128]⟩
abbrev S32x1x128x128 : Shape := ⟨4, ![32, 1, 128, 128]⟩
abbrev S32x128x128 : Shape := ⟨3, ![32, 128, 128]⟩
abbrev S4096x128 : Shape := ⟨2, ![4096, 128]⟩
abbrev S_ : Shape := ⟨0, ![]⟩
abbrev S8x128 : Shape := ⟨2, ![8, 128]⟩
abbrev S1024x6400 : Shape := ⟨2, ![1024, 6400]⟩
abbrev S6400x1024 : Shape := ⟨2, ![6400, 1024]⟩
abbrev S512x2048 : Shape := ⟨2, ![512, 2048]⟩
abbrev S512x1024 : Shape := ⟨2, ![512, 1024]⟩
abbrev S256x128 : Shape := ⟨2, ![256, 128]⟩
abbrev S128x128 : Shape := ⟨2, ![128, 128]⟩
abbrev S512x128 : Shape := ⟨2, ![512, 128]⟩
abbrev S512x6400 : Shape := ⟨2, ![512, 6400]⟩
abbrev S6400 : Shape := ⟨1, ![6400]⟩
abbrev S512 : Shape := ⟨1, ![512]⟩
abbrev S512x1 : Shape := ⟨2, ![512, 1]⟩
abbrev S1024 : Shape := ⟨1, ![1024]⟩

abbrev nBuf : Space → Nat
  | .hbm => 43
  | .vmem => 26
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6400, .f32⟩
  | .hbm, ⟨3, _⟩ => ⟨S1x6400, .f32⟩
  | .hbm, ⟨4, _⟩ => ⟨S1x8192x1024, .f32⟩
  | .hbm, ⟨5, _⟩ => ⟨S1x8192x6400, .f32⟩
  | .hbm, ⟨6, _⟩ => ⟨S8192x6400, .f32⟩
  | .hbm, ⟨7, _⟩ => ⟨S8192x2048, .f32⟩
  | .hbm, ⟨8, _⟩ => ⟨S8192x2048, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S8192x1024, .bf16⟩
  | .hbm, ⟨13, _⟩ => ⟨S8192x128, .f32⟩
  | .hbm, ⟨14, _⟩ => ⟨S8192x128, .bf16⟩
  | .hbm, ⟨15, _⟩ => ⟨S32x2x128x128, .bf16⟩
  | .hbm, ⟨16, _⟩ => ⟨S32x1x128x128, .bf16⟩
  | .hbm, ⟨17, _⟩ => ⟨S32x128x128, .bf16⟩
  | .hbm, ⟨18, _⟩ => ⟨S4096x128, .bf16⟩
  | .hbm, ⟨19, _⟩ => ⟨S32x1x128x128, .bf16⟩
  | .hbm, ⟨20, _⟩ => ⟨S32x128x128, .bf16⟩
  | .hbm, ⟨21, _⟩ => ⟨S4096x128, .bf16⟩
  | .hbm, ⟨22, _⟩ => ⟨S8192x128, .f32⟩
  | .hbm, ⟨23, _⟩ => ⟨S8192x128, .bf16⟩
  | .hbm, ⟨24, _⟩ => ⟨S32x2x128x128, .bf16⟩
  | .hbm, ⟨25, _⟩ => ⟨S32x1x128x128, .bf16⟩
  | .hbm, ⟨26, _⟩ => ⟨S32x128x128, .bf16⟩
  | .hbm, ⟨27, _⟩ => ⟨S4096x128, .bf16⟩
  | .hbm, ⟨28, _⟩ => ⟨S32x1x128x128, .bf16⟩
  | .hbm, ⟨29, _⟩ => ⟨S32x128x128, .bf16⟩
  | .hbm, ⟨30, _⟩ => ⟨S4096x128, .bf16⟩
  | .hbm, ⟨31, _⟩ => ⟨S8192x2048, .f32⟩
  | .hbm, ⟨32, _⟩ => ⟨S8192x2048, .bf16⟩
  | .hbm, ⟨33, _⟩ => ⟨S_, .f32⟩
  | .hbm, ⟨34, _⟩ => ⟨S8x128, .f32⟩
  | .hbm, ⟨35, _⟩ => ⟨S8192x1024, .f32⟩
  | .hbm, ⟨36, _⟩ => ⟨S8192x1024, .f32⟩
  | .hbm, ⟨37, _⟩ => ⟨S1024x6400, .f32⟩
  | .hbm, ⟨38, _⟩ => ⟨S6400x1024, .f32⟩
  | .hbm, ⟨39, _⟩ => ⟨S6400x1024, .bf16⟩
  | .hbm, ⟨40, _⟩ => ⟨S8192x1024, .f32⟩
  | .hbm, ⟨41, _⟩ => ⟨S1x1024, .f32⟩
  | .hbm, ⟨42, _⟩ => ⟨S1x6400, .f32⟩
  | .local _ .vmem, ⟨0, _⟩ => ⟨S512x2048, .bf16⟩
  | .local _ .vmem, ⟨1, _⟩ => ⟨S512x2048, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S512x2048, .bf16⟩
  | .local _ .vmem, ⟨15, _⟩ => ⟨S512x2048, .bf16⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S1x1024, .f32⟩
  | .local _ .vmem, ⟨21, _⟩ => ⟨S6400x1024, .bf16⟩
  | .local _ .vmem, ⟨22, _⟩ => ⟨S512x1024, .f32⟩
  | .local _ .vmem, ⟨23, _⟩ => ⟨S512x1024, .f32⟩
  | .local _ .vmem, ⟨24, _⟩ => ⟨S1x1024, .f32⟩
  | .local _ .vmem, ⟨25, _⟩ => ⟨S1x6400, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33_0 : Ref sig .tc := ⟨.hbm, 40, rfl⟩
abbrev main_v33_1 : Ref sig .tc := ⟨.hbm, 41, rfl⟩
abbrev main_v33_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem14_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S6400x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x6400 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S1x8192x1024 : Shape := ⟨3, ![1, 8192, 1024]⟩
abbrev S1x1024 : Shape := ⟨2, ![1, 1024]⟩
abbrev S1x1024x6400 : Shape := ⟨3, ![1, 1024, 6400]⟩
abbrev S1x6400 : Shape := ⟨2, ![1, 6400]⟩
abbrev S1x8192x6400 : Shape := ⟨3, ![1, 8192, 6400]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1024x6400 : Shape := ⟨2, ![1024, 6400]⟩
abbrev S6400 : Shape := ⟨1, ![6400]⟩
abbrev S1x1x6400 : Shape := ⟨3, ![1, 1, 6400]⟩
abbrev S6400x1024 : Shape := ⟨2, ![6400, 1024]⟩
abbrev S8192 : Shape := ⟨1, ![8192]⟩
abbrev S8192x1024 : Shape := ⟨2, ![8192, 1024]⟩

abbrev nBuf : Space → Nat
  | .hbm => 73
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x1024, .f32⟩
  | .hbm, ⟨2, _⟩ => ⟨S1x1024x6400, .f32⟩
  | .hbm, ⟨3, _⟩ => ⟨S1x6400, .f32⟩
  | .hbm, ⟨4, _⟩ => ⟨S1x8192x1024, .f32⟩
  | .hbm, ⟨5, _⟩ => ⟨S1x8192x6400, .f32⟩
  | .hbm, ⟨6, _⟩ => ⟨S1024, .f32⟩
  | .hbm, ⟨7, _⟩ => ⟨S1x8192x1024, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S_, .f32⟩
  | .hbm, ⟨20, _⟩ => ⟨S1x8192x1, .f32⟩
  | .hbm, ⟨21, _⟩ => ⟨S1x8192x1, .f32⟩
  | .hbm, ⟨22, _⟩ => ⟨S1x8192x1024, .f32⟩
  | .hbm, ⟨23, _⟩ => ⟨S1x8192x1024, .f32⟩
  | .hbm, ⟨24, _⟩ => ⟨S1x1x1024, .f32⟩
  | .hbm, ⟨25, _⟩ => ⟨S1x8192x1024, .f32⟩
  | .hbm, ⟨26, _⟩ => ⟨S1x8192x1024, .f32⟩
  | .hbm, ⟨27, _⟩ => ⟨S1024x6400, .f32⟩
  | .hbm, ⟨28, _⟩ => ⟨S1x8192x6400, .f32⟩
  | .hbm, ⟨29, _⟩ => ⟨S6400, .f32⟩
  | .hbm, ⟨30, _⟩ => ⟨S1x1x6400, .f32⟩
  | .hbm, ⟨31, _⟩ => ⟨S1x8192x6400, .f32⟩
  | .hbm, ⟨32, _⟩ => ⟨S1x8192x6400, .f32⟩
  | .hbm, ⟨33, _⟩ => ⟨S1x8192x6400, .f32⟩
  | .hbm, ⟨34, _⟩ => ⟨S_, .f32⟩
  | .hbm, ⟨35, _⟩ => ⟨S1x6400, .f32⟩
  | .hbm, ⟨36, _⟩ => ⟨S1x1x6400, .f32⟩
  | .hbm, ⟨37, _⟩ => ⟨S_, .f32⟩
  | .hbm, ⟨38, _⟩ => ⟨S6400, .f32⟩
  | .hbm, ⟨39, _⟩ => ⟨S1x6400, .f32⟩
  | .hbm, ⟨40, _⟩ => ⟨S6400x1024, .f32⟩
  | .hbm, ⟨41, _⟩ => ⟨S1024x6400, .f32⟩
  | .hbm, ⟨42, _⟩ => ⟨S1x8192x1024, .f32⟩
  | .hbm, ⟨43, _⟩ => ⟨S1x1024x6400, .f32⟩
  | .hbm, ⟨44, _⟩ => ⟨S1x8192x1024, .f32⟩
  | .hbm, ⟨45, _⟩ => ⟨S_, .f32⟩
  | .hbm, ⟨46, _⟩ => ⟨S1x1024, .f32⟩
  | .hbm, ⟨47, _⟩ => ⟨S1x1x1024, .f32⟩
  | .hbm, ⟨48, _⟩ => ⟨S1x8192x1024, .f32⟩
  | .hbm, ⟨49, _⟩ => ⟨S1x8192x1024, .f32⟩
  | .hbm, ⟨50, _⟩ => ⟨S_, .f32⟩
  | .hbm, ⟨51, _⟩ => ⟨S1024, .f32⟩
  | .hbm, ⟨52, _⟩ => ⟨S1x8192x1024, .f32⟩
  | .hbm, ⟨53, _⟩ => ⟨S_, .f32⟩
  | .hbm, ⟨54, _⟩ => ⟨S1x8192, .f32⟩
  | .hbm, ⟨55, _⟩ => ⟨S1x8192x1, .f32⟩
  | .hbm, ⟨56, _⟩ => ⟨S1x8192x1024, .f32⟩
  | .hbm, ⟨57, _⟩ => ⟨S1x8192x1024, .f32⟩
  | .hbm, ⟨58, _⟩ => ⟨S1x8192x1024, .f32⟩
  | .hbm, ⟨59, _⟩ => ⟨S1x8192x1, .f32⟩
  | .hbm, ⟨60, _⟩ => ⟨S_, .f32⟩
  | .hbm, ⟨61, _⟩ => ⟨S1x8192x1, .f32⟩
  | .hbm, ⟨62, _⟩ => ⟨S1x8192x1, .f32⟩
  | .hbm, ⟨63, _⟩ => ⟨S_, .f32⟩
  | .hbm, ⟨64, _⟩ => ⟨S8192, .f32⟩
  | .hbm, ⟨65, _⟩ => ⟨S1x8192, .f32⟩
  | .hbm, ⟨66, _⟩ => ⟨S1x8192x1024, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S1x1024, .f32⟩
  | .hbm, ⟨72, _⟩ => ⟨S8192x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_8 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Proof.HostLine.lean ====
/-
  A block of a host program read as a list of its operations. The list is not written out: it is collected
  from the block's own statements, one rule for each way a statement is put before the rest.
-/
module

public import Idealize.ShloMosaic.Lib.StableHlo.RunLoop

@[expose] public section

noncomputable section

namespace Cert.HostLine

open Idealize.ShloMosaic Idealize.ShloMosaic.StableHlo Idealize.SL.Sem

variable {nD : ℕ} {τ : Topo} {sig : RefSig} {F : FTy → Type} {Λ : Labels}

/-- The block `p` runs some operations and then goes on as `q`. -/
structure Line (p q : Prog (TpuEff nD τ sig (Elt F) Λ .tc) PUnit) where
  ops : List (HloOp τ sig (Elt F))
  runs : p = (seq ops >>= fun _ => q)
  here : ∀ op ∈ ops, op.bufs ⊆ tcRefs τ sig
  old : ∀ op ∈ ops, op.fresh = ∅

variable {p q r : Prog (TpuEff nD τ sig (Elt F) Λ .tc) PUnit}

theorem bind_done (p : Prog (TpuEff nD τ sig (Elt F) Λ .tc) PUnit) : (p >>= fun _ => pure ⟨⟩) = p :=
  bind_pure p

theorem next_runs (op : HloOp τ sig (Elt F)) {ops : List (HloOp τ sig (Elt F))} (h : p = (seq ops >>= fun _ => q)) :
    ((hlo rfl op fun _ => .ret (⟨⟩ : PUnit)) >>= fun _ => p) = (seq (op :: ops) >>= fun _ => q) := by
  subst h
  exact (bind_assoc _ _ _).symm

theorem last_runs (op : HloOp τ sig (Elt F)) :
    (hlo rfl op fun _ => .ret (⟨⟩ : PUnit))
      = (seq [op] >>= fun _ => (pure ⟨⟩ : Prog (TpuEff nD τ sig (Elt F) Λ .tc) PUnit)) :=
  ((bind_done (seq [op])).trans (bind_done (hlo rfl op fun _ => .ret (⟨⟩ : PUnit)))).symm

theorem call_runs {k l : List (HloOp τ sig (Elt F))} (h : p = (seq k >>= fun _ => pure ⟨⟩))
    (h' : r = (seq l >>= fun _ => q)) : (p >>= fun _ => r) = (seq (k ++ l) >>= fun _ => q) := by
  subst h; subst h'
  rw [seq_append, bind_assoc, bind_assoc]
  rfl

/-- Nothing is run. -/
def Line.stop (q : Prog (TpuEff nD τ sig (Elt F) Λ .tc) PUnit) : Line q q :=
  ⟨[], rfl, (fun _ h => nomatch h), (fun _ h => nomatch h)⟩

/-- One operation, then the rest. -/
def Line.next {e : Proc.tc.kind.runsHlo = true} (op : HloOp τ sig (Elt F)) (hb : op.bufs ⊆ tcRefs τ sig) (hf : op.fresh = ∅) (l : Line p q) :
    Line ((hlo e op fun _ => .ret (⟨⟩ : PUnit)) >>= fun _ => p) q :=
  ⟨op :: l.ops, next_runs op l.runs,
    fun o h => (List.mem_cons.mp h).elim (fun e => e ▸ hb) (l.here o),
    fun o h => (List.mem_cons.mp h).elim (fun e => e ▸ hf) (l.old o)⟩

/-- A last operation with nothing after it. -/
def Line.last {e : Proc.tc.kind.runsHlo = true} (op : HloOp τ sig (Elt F)) (hb : op.bufs ⊆ tcRefs τ sig) (hf : op.fresh = ∅) :
    Line (hlo e op fun _ => .ret (⟨⟩ : PUnit)) (pure ⟨⟩ : Prog (TpuEff nD τ sig (Elt F) Λ .tc) PUnit) :=
  ⟨[op], last_runs op, fun o h => List.mem_singleton.mp h ▸ hb, fun o h => List.mem_singleton.mp h ▸ hf⟩

/-- A function called, then the rest. -/
def Line.call (k : Line p (pure ⟨⟩)) (l : Line r q) : Line (p >>= fun _ => r) q :=
  ⟨k.ops ++ l.ops, call_runs k.runs l.runs,
    fun o h => (List.mem_append.mp h).elim (k.here o) (l.here o),
    fun o h => (List.mem_append.mp h).elim (k.old o) (l.old o)⟩

/-- A block with nothing after it is its operations in a row. -/
theorem Line.whole (k : Line p (pure ⟨⟩)) : p = seq k.ops :=
  k.runs.trans (bind_done _)

/-- A list of one line is plain, and one more line keeps it so. -/
theorem Line.plain (k : Line p q) {items : List (List (HloOp τ sig (Elt F)))} (h : Plain items) :
    Plain (k.ops :: items) := fun o ho => by
  rcases List.mem_cons.mp ho with rfl | ho
  · exact ⟨k.here, k.old⟩
  · exact h o ho

end Cert.HostLine

end
-- ==== Proof.RetRefLines.lean ====
/-
  The reference's blocks as lists of operations: the five parts of its main function, cut where a loop is
  entered, and the bodies of its two loops.
-/
module

public import proofs.«01_k».proof.Proof.HostLine
public import proofs.«01_k».proof.Proof.Gen.RetReferenceIdeal
public import Idealize.ShloMosaic.Lib.Pointwise

@[expose] public section

set_option maxRecDepth 16384

noncomputable section

namespace Cert.RetReferenceIdeal.Lines

open Idealize.ShloMosaic Idealize.ShloMosaic.TcCoe Idealize.ShloMosaic.StableHlo Idealize.SL.Sem
open Cert.HostLine Cert.RetReferenceIdeal Cert.RetReferenceIdeal.Gen

/-- A block in which loop `l` is entered: what runs before it, what is left after it, and that as a list. -/
structure Around (p : Prog (TpuEff nD τ sig (Elt Ideal) (HostLoop.Sig (Pipeline.Sig Λ₀ (Fin 0) fun p => (pcfgs (F := Ideal) p).Adm) 2) .tc) PUnit)
    (l : Fin 2) where
  rest : Prog (TpuEff nD τ sig (Elt Ideal) (HostLoop.Sig (Pipeline.Sig Λ₀ (Fin 0) fun p => (pcfgs (F := Ideal) p).Adm) 2) .tc) PUnit
  before : Line p (HostLoop.enter l >>= fun _ => rest)
  behind : Line rest (pure ⟨⟩)

/-- The five functions the blocks call. -/
structure Calls where
  choose : ∀ a b d φ, Line (fn_where.body (F := Ideal) a b d φ) (pure ⟨⟩)
  cut : ∀ a b φ, Line (fn_dynamic_index_in_dim.body (F := Ideal) a b φ) (pure ⟨⟩)
  cutV : ∀ a b φ, Line (fn_dynamic_index_in_dim_0.body (F := Ideal) a b φ) (pure ⟨⟩)
  putV : ∀ a b d φ, Line (fn_dynamic_update_index_in_dim.body (F := Ideal) a b d φ) (pure ⟨⟩)
  put : ∀ a b d φ, Line (fn_dynamic_update_index_in_dim_1.body (F := Ideal) a b d φ) (pure ⟨⟩)

def calls : Calls where
  choose a b d φ := .next _ (unary_bufs_sub ..) rfl (.next _ (unary_bufs_sub ..) rfl (.next _ (unary_bufs_sub ..) rfl
    (.next _ (ternary_bufs_sub ..) rfl (.stop _))))
  cut a b φ := .next _ (nullary_bufs_sub ..) rfl (.next _ (nullary_bufs_sub ..) rfl (.next _ (nullary_bufs_sub ..) rfl
    (.next _ (nullary_bufs_sub ..) rfl (.next _ (unaryIndexed_bufs_sub ..) rfl (.next _ (reshape_bufs_sub ..) rfl (.stop _))))))
  cutV a b φ := .next _ (nullary_bufs_sub ..) rfl (.next _ (nullary_bufs_sub ..) rfl (.next _ (nullary_bufs_sub ..) rfl
    (.next _ (nullary_bufs_sub ..) rfl (.next _ (unaryIndexed_bufs_sub ..) rfl (.next _ (reshape_bufs_sub ..) rfl (.stop _))))))
  putV a b d φ := .next _ (unary_bufs_sub ..) rfl (.next _ (nullary_bufs_sub ..) rfl (.next _ (nullary_bufs_sub ..) rfl
    (.next _ (nullary_bufs_sub ..) rfl (.next _ (nullary_bufs_sub ..) rfl (.next _ (binaryIndexed_bufs_sub ..) rfl (.stop _))))))
  put a b d φ := .next _ (unary_bufs_sub ..) rfl (.next _ (nullary_bufs_sub ..) rfl (.next _ (nullary_bufs_sub ..) rfl
    (.next _ (nullary_bufs_sub ..) rfl (.next _ (nullary_bufs_sub ..) rfl (.next _ (binaryIndexed_bufs_sub ..) rfl (.stop _))))))

/-- All the blocks. -/
structure Blocks where
  part0 : Line (main_part0 (F := Ideal) 0) (pure ⟨⟩)
  part1 : Line (main_part1 (F := Ideal) 0) (pure ⟨⟩)
  part2 : Around (main_part2 (F := Ideal) 0) 0
  part3 : Around (main_part3 (F := Ideal) 0) 1
  part4 : Line (main_part4 (F := Ideal) 0) (pure ⟨⟩)
  body0 : Line (main_while0_body (F := Ideal)) (pure ⟨⟩)
  body1 : Line (main_while1_body (F := Ideal)) (pure ⟨⟩)

set_option maxHeartbeats 40000000 in
/-- Every statement of every block is an operation or a call of one of the five. -/
def blocks : Blocks := by
  constructor
  all_goals first
    | unfold main_part0 | unfold main_part1 | unfold main_part2 | unfold main_part3 | unfold main_part4
    | unfold main_while0_body | unfold main_while1_body
  case' part1 =>
    iterate 39 (refine Line.next _ ?_ rfl ?_; rotate_left)
    refine Line.call (calls.choose _ _ _ _) ?_
  case' body0 =>
    refine (calls.cut _ _ _).call ((calls.cut _ _ _).call ((calls.cutV _ _ _).call ?_))
    iterate 13 (refine Line.next _ ?_ rfl ?_; rotate_left)
    refine (calls.putV _ _ _ _).call ((calls.put _ _ _ _).call ((calls.putV _ _ _ _).call ((calls.put _ _ _ _).call ?_)))
  case' body1 =>
    iterate 4 (refine Line.next _ ?_ rfl ?_; rotate_left)
    refine (calls.cutV _ _ _).call ((calls.cut _ _ _).call ((calls.cut _ _ _).call ((calls.cutV _ _ _).call
      ((calls.cut _ _ _).call ((calls.cutV _ _ _).call ((calls.cut _ _ _).call ?_))))))
    iterate 23 (refine Line.next _ ?_ rfl ?_; rotate_left)
    refine (calls.put _ _ _ _).call ((calls.put _ _ _ _).call ((calls.putV _ _ _ _).call ?_))
  all_goals repeat (first
    | apply Around.mk
    | refine Line.next _ ?_ rfl ?_
    | exact nullary_bufs_sub .. | exact unary_bufs_sub .. | exact binary_bufs_sub .. | exact reshape_bufs_sub ..
    | exact nary_bufs_sub ..
    | exact Line.stop _
    | refine Line.last _ ?_ rfl)

end Cert.RetReferenceIdeal.Lines

end
-- ==== Proof.HostLoops.lean ====
/-
  The run of a program of host operations with two counted loops, one after the other: what is in the buffers
  at the end, by the lists of operations before, in, between and after the loops.
-/
module

public import Idealize.ShloMosaic.Lib.StableHlo.RunLoop
public import Idealize.ShloMosaic.Lib.Scf.ExitTest
public import Idealize.ShloMosaic.Lib.Scf.Counter

@[expose] public section

noncomputable section

namespace Cert.HostLoops

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket PCfg ucRefs unscopedBufs_held sub_ucRefs)

variable {nD : ℕ} {τ : Topo} {sig : RefSig} {F : FTy → Type} {Λ₀ : Labels}
variable (pcs : Fin 0 → PCfg sig Λ₀ (Elt F)) (defs₀ : Defs nD τ sig (Elt F) Λ₀) {nL : ℕ}
  (loops : Fin nL → Prog (TpuEff nD τ sig (Elt F) (HostLoop.Sig (Pipeline.Sig Λ₀ (Fin 0) fun p => (pcs p).Adm) nL) .tc) PUnit)

/-- A counted loop of the program: its label, its two blocks and their operations, and how often it runs. -/
structure Counted where
  l : Fin nL
  cond : Prog (TpuEff nD τ sig (Elt F) (HostLoop.Sig (Pipeline.Sig Λ₀ (Fin 0) fun p => (pcs p).Adm) nL) .tc) (Elt F .i1)
  body : Prog (TpuEff nD τ sig (Elt F) (HostLoop.Sig (Pipeline.Sig Λ₀ (Fin 0) fun p => (pcs p).Adm) nL) .tc) PUnit
  isLoop : loops l = HostLoop.step l cond body
  test : List (HloOp τ sig (Elt F))
  ops : List (HloOp τ sig (Elt F))
  plain : Plain [ops]
  isOps : body = seq ops
  n : ℕ

variable {pcs defs₀ loops}

theorem Counted.isChain (k : Counted (nD := nD) (τ := τ) pcs loops) :
    k.body = Pipeline.chain ([k.ops].map fun ops => (seq ops : Prog _ PUnit)) :=
  k.isOps.trans (bind_pure _).symm

/-- The buffers when its test runs for the `j`th time. -/
abbrev Counted.at (k : Counted (nD := nD) (τ := τ) pcs loops) (W : Dev nD → Valuation τ sig (Elt F)) (j : ℕ) :
    Dev nD → Valuation τ sig (Elt F) :=
  atTrip k.test [k.ops] W j

/-- The buffers when it is left. -/
abbrev Counted.out (k : Counted (nD := nD) (τ := τ) pcs loops) (W : Dev nD → Valuation τ sig (Elt F)) :
    Dev nD → Valuation τ sig (Elt F) :=
  fun c => after k.test (k.at W k.n c)

local notation "𝕄" => MT nD τ sig Unit (Elt F) ℕ (Option PUnit) ℕ

abbrev noAdm : (p : Fin 0) → (pcs p).Adm := fun p => p.elim0

abbrev noTicket : Fin 0 → Ticket (Ix := Unit) (Name := ℕ) (U := Option PUnit) (Lvl := ℕ) (nD := nD) (τ := τ) pcs noAdm :=
  fun j => j.elim0

abbrev carried (c : Dev nD) : sProp 𝕄 := iprop(∃ W, owes (c : Thread nD τ) (0 : CellTallies nD τ sig Unit) W)

/-- What its test has to do, stated of the buffers alone. -/
abbrev Counted.Tests (defs₀ : Defs nD τ sig (Elt F) Λ₀) (k : Counted (nD := nD) (τ := τ) pcs loops)
    (W : Dev nD → Valuation τ sig (Elt F)) : Prop :=
  CondSpec pcs defs₀ loops k.cond k.test [k.ops] W k.n

theorem Counted.Tests.whole {k : Counted (nD := nD) (τ := τ) pcs loops} {W : Dev nD → Valuation τ sig (Elt F)}
    (h : k.Tests defs₀ W) :
    LoopCond pcs defs₀ Variants.none loops carried k.cond k.test [k.ops] W k.n := fun j hj c bd => by
  have swap : ∀ v : Elt F .i1,
      iprop(iprop(⌜v = 1#1 ↔ j < k.n⌝ ∗ boundary (c : Thread nD τ) ∗ held (c : Thread nD τ) (ucRefs τ sig) (after k.test (k.at W j c))) ∗ carried c)
        ⊢ iprop(⌜v = 1#1 ↔ j < k.n⌝ ∗ boundary (c : Thread nD τ) ∗ held (c : Thread nD τ) (ucRefs τ sig) (after k.test (k.at W j c)) ∗ carried c) := fun v => by
    iintro ⟨⟨%hv, Hb, Hh⟩, Hc⟩
    isplitr; · ipureintro; exact hv
    isplitl [Hb]; · iexact Hb
    isplitl [Hh] <;> iassumption
  refine BIBase.Entails.trans ?_ (((sep_mono_left (h j hj c bd)).trans (wp_frame_r _ _ _)).trans (wp_mono _ _ _ swap))
  iintro ⟨Hb, Hh, Hc⟩
  isplitl [Hb Hh]; · isplitl [Hb] <;> iassumption
  iexact Hc

/-- The loop between its neighbours. -/
abbrev Counted.seg (k : Counted (nD := nD) (τ := τ) pcs loops) (W : Dev nD → Valuation τ sig (Elt F)) (h : k.Tests defs₀ W) :
    CSeg pcs noAdm defs₀ Variants.none (fun _ => ∅) (fun _ _ => 0) loops noTicket :=
  loopSeg pcs noAdm defs₀ Variants.none (fun _ => ∅) (fun _ _ => 0) loops noTicket k.l k.cond k.body k.isLoop k.test
    [k.ops] k.plain k.isChain k.n W carried h.whole

/-- A stretch of the program between its neighbours. -/
abbrev stretch (items : List (List (HloOp τ sig (Elt F)))) (h : Plain items) (W : Dev nD → Valuation τ sig (Elt F)) :
    List (CSeg pcs noAdm defs₀ Variants.none (fun _ => ∅) (fun _ _ => 0) loops noTicket) :=
  segsOf pcs noAdm defs₀ Variants.none (fun _ => ∅) (fun _ _ => 0) loops noTicket carried items h W

variable (m : (ℓ : Loc nD τ sig) → Buf (Elt F) ℓ)
variable (a b : Counted (nD := nD) (τ := τ) pcs loops) (pre mid post : List (List (HloOp τ sig (Elt F))))

abbrev into (c : Dev nD) : Valuation τ sig (Elt F) := afterL pre (launchContents m c)
abbrev between (c : Dev nD) : Valuation τ sig (Elt F) := afterL mid (a.out (into m pre) c)
abbrev final (c : Dev nD) : Valuation τ sig (Elt F) := afterL post (b.out (between m a pre mid) c)

/-- The five pieces in order. -/
abbrev pieces (hpre : Plain pre) (hmid : Plain mid) (hpost : Plain post) (ha : a.Tests defs₀ (into m pre))
    (hb : b.Tests defs₀ (between m a pre mid)) :
    List (CSeg pcs noAdm defs₀ Variants.none (fun _ => ∅) (fun _ _ => 0) loops noTicket) :=
  stretch pre hpre (launchContents m)
    ++ a.seg (into m pre) ha :: (stretch mid hmid (a.out (into m pre))
      ++ b.seg (between m a pre mid) hb :: stretch post hpost (b.out (between m a pre mid)))

variable {a b pre mid post}

theorem pieces_prog (hpre : Plain pre) (hmid : Plain mid) (hpost : Plain post) (ha : a.Tests defs₀ (into m pre))
    (hb : b.Tests defs₀ (between m a pre mid)) :
    (pieces m a b pre mid post hpre hmid hpost ha hb).map CSeg.prog
      = (pre.map fun ops => (seq ops : Prog _ PUnit)) ++ HostLoop.enter a.l :: ((mid.map fun ops => (seq ops : Prog _ PUnit))
        ++ HostLoop.enter b.l :: post.map fun ops => (seq ops : Prog _ PUnit)) := by
  unfold pieces
  rw [List.map_append, List.map_cons, List.map_append, List.map_cons, segsOf_prog, segsOf_prog, segsOf_prog]
  rfl

theorem pieces_chain (hpre : Plain pre) (hmid : Plain mid) (hpost : Plain post) (ha : a.Tests defs₀ (into m pre))
    (hb : b.Tests defs₀ (between m a pre mid)) :
    CSeg.Chains (fun c => iprop(held (c : Thread nD τ) (ucRefs τ sig) (launchContents m c) ∗ carried c))
      (pieces m a b pre mid post hpre hmid hpost ha hb)
      (fun c => iprop(held (c : Thread nD τ) (ucRefs τ sig) (final m a b pre mid post c) ∗ carried c)) :=
  CSeg.Chains.append (segsOf_chains _ _ _ _ _ _ _ _ carried pre hpre _) ⟨fun _ => .rfl,
    CSeg.Chains.append (segsOf_chains _ _ _ _ _ _ _ _ carried mid hmid _) ⟨fun _ => .rfl,
      segsOf_chains _ _ _ _ _ _ _ _ carried post hpost _⟩⟩

/-- From any memory with zero counters the program ends, and every buffer that holds a value of it ends as `final` says. -/
theorem run [∀ e, Nonempty (Elt F e)] (ρ : Dev nD → PrngReg)
    (main : Dev nD → Prog (TpuEff nD τ sig (Elt F) (HostLoop.Sig (Pipeline.Sig Λ₀ (Fin 0) fun p => (pcs p).Adm) nL) .tc) PUnit)
    (hpre : Plain pre) (hmid : Plain mid) (hpost : Plain post) (ha : a.Tests defs₀ (into m pre))
    (hb : b.Tests defs₀ (between m a pre mid))
    (hmain : ∀ c, main c = Pipeline.chain ((pre.map fun ops => (seq ops : Prog _ PUnit)) ++ HostLoop.enter a.l
      :: ((mid.map fun ops => (seq ops : Prog _ PUnit)) ++ HostLoop.enter b.l :: post.map fun ops => (seq ops : Prog _ PUnit)))) :
    θ_run (HostLoop.defs loops (Pipeline.defs pcs defs₀)) (onTc (τ := τ) main) ⟨m, fun _ => 0, ρ⟩
      (fun r => ∀ (c : Dev nD) (x : Ref sig .tc), (Proc.devRef .tc x : DevRef τ sig).isScoped = false →
        r.2.mem ((c.tc : Thread nD τ).loc x) = final m a b pre mid post c (Proc.devRef .tc x)) :=
  Pipeline.θ_run_regions_loop_kit (Ix := Unit) (Name := ℕ) (U := Option PUnit) (Lvl := ℕ) (J := Fin 0) (P := Fin 0) (Val := Elt F)
    pcs noAdm (fun k => k.1.elim0) defs₀ Variants.none (fun _ => ∅) (fun _ _ => 0) loops noTicket m ρ main
    (pieces m a b pre mid post hpre hmid hpost ha hb)
    (fun c Q => by
      rw [hmain c, ← pieces_prog m hpre hmid hpost ha hb]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ carried c))
    (Tₙ := fun c => iprop(held (c : Thread nD τ) (ucRefs τ sig) (final m a b pre mid post c)))
    (hch := pieces_chain m hpre hmid hpost ha hb)
    (hinit := by
      refine Pipeline.initEach (fun _ => ∅) (fun _ _ => 0) fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ x ∈ ucRefs τ sig, s.mem ((c : Dev nD), x) = final m a b pre mid post c x)
    (hfin := fun c s' => by
      unfold held
      iintro ⟨Hh, Hs⟩
      ihave Hr := (pointsTo_read_all (ucRefs τ sig) (fun x => ((c : Dev nD), x)) (fun x => final m a b pre mid post c x) s') $$ [Hh Hs]
      · isplitl [Hh] <;> iassumption
      icases Hr with ⟨%h, Hs⟩
      imodintro
      isplitr; · ipureintro; exact h
      iexact Hs)
    (hQ := fun _ h c x hx => h c _ (devRef_mem_ucRefs x hx))

end Cert.HostLoops

end
-- ==== Proof.RetRefRun.lean ====
/-
  The reference's run: its two loops go round 64 times each, and its buffers end as its operations leave them.
-/
module

public import proofs.«01_k».proof.Proof.RetRefLines
public import proofs.«01_k».proof.Proof.HostLoops
public import Idealize.ShloMosaic.Lib.StableHlo.RunRead

@[expose] public section

set_option maxRecDepth 16384

noncomputable section

namespace Cert.RetReferenceIdeal.Lines

open Idealize.ShloMosaic Idealize.ShloMosaic.TcCoe Idealize.ShloMosaic.StableHlo Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)
open Cert.HostLine Cert.HostLoops Cert.RetReferenceIdeal Cert.RetReferenceIdeal.Gen

abbrev test0 : List (HloOp τ sig (Elt Ideal)) :=
  [nullary main_while0c_c_40 (constantI S_ 32 64#32), binary main_v127_7 main_while0c_c_40 main_while0c_v184 (cmpi .slt)]
abbrev test1 : List (HloOp τ sig (Elt Ideal)) :=
  [nullary main_while1c_c_43 (constantI S_ 32 64#32), binary main_v137_11 main_while1c_c_43 main_while1c_v184 (cmpi .slt)]

/-- The forward pass over the chunks. -/
def loop0 : Counted (nD := nD) (τ := τ) (pcfgs (F := Ideal)) loops where
  l := 0
  cond := main_while0_cond
  body := main_while0_body
  isLoop := rfl
  test := test0
  ops := blocks.body0.ops
  plain := blocks.body0.plain .nil
  isOps := blocks.body0.whole
  n := 64

/-- The backward pass over the chunks. -/
def loop1 : Counted (nD := nD) (τ := τ) (pcfgs (F := Ideal)) loops where
  l := 1
  cond := main_while1_cond
  body := main_while1_body
  isLoop := rfl
  test := test1
  ops := blocks.body1.ops
  plain := blocks.body1.plain .nil
  isOps := blocks.body1.whole
  n := 64

abbrev pre : List (List (HloOp τ sig (Elt Ideal))) := [blocks.part0.ops, blocks.part1.ops, blocks.part2.before.ops]
abbrev mid : List (List (HloOp τ sig (Elt Ideal))) := [blocks.part2.behind.ops, blocks.part3.before.ops]
abbrev post : List (List (HloOp τ sig (Elt Ideal))) := [blocks.part3.behind.ops, blocks.part4.ops]

theorem Around.runs {p : Prog (TpuEff nD τ sig (Elt Ideal) (HostLoop.Sig (Pipeline.Sig Λ₀ (Fin 0) fun p => (pcfgs (F := Ideal) p).Adm) 2) .tc) PUnit}
    {l : Fin 2} (k : Around p l) :
    p = (seq k.before.ops >>= fun _ => HostLoop.enter l >>= fun _ => seq k.behind.ops) :=
  k.before.runs.trans (congrArg (fun z => seq k.before.ops >>= fun _ => HostLoop.enter l >>= fun _ => z) k.behind.whole)

theorem main_pieces (c : Dev nD) : main (F := Ideal) c = Pipeline.chain ((pre.map fun ops => (seq ops : Prog _ PUnit))
    ++ HostLoop.enter 0 :: ((mid.map fun ops => (seq ops : Prog _ PUnit)) ++ HostLoop.enter 1
      :: post.map fun ops => (seq ops : Prog _ PUnit))) := by
  have h0 : main_part0 (F := Ideal) c = _ := blocks.part0.whole
  have h1 : main_part1 (F := Ideal) c = _ := blocks.part1.whole
  have h2 : main_part2 (F := Ideal) c = _ := blocks.part2.runs
  have h3 : main_part3 (F := Ideal) c = _ := blocks.part3.runs
  have h4 : main_part4 (F := Ideal) c = _ := blocks.part4.whole
  unfold main
  rw [h0, h1, h2, h3, h4]
  simp only [List.map_cons, List.map_nil, List.cons_append, List.nil_append, Pipeline.chain_cons, Pipeline.chain_nil,
    bind_assoc]
  rfl

theorem step0 (X : Valuation τ sig (Elt Ideal)) :
    after blocks.body0.ops X (Proc.devRef .tc main_v127_7) = addi (X (Proc.devRef .tc main_v127_7)) (constantI S_ 32 1#32) := by
  after_reads_simp
  rfl

theorem step1 (X : Valuation τ sig (Elt Ideal)) :
    after blocks.body1.ops X (Proc.devRef .tc main_v137_11) = addi (X (Proc.devRef .tc main_v137_11)) (constantI S_ 32 1#32) := by
  after_reads_simp
  rfl

theorem counter0 (m : (ℓ : Loc nD τ sig) → Buf (Elt Ideal) ℓ) (c : Dev nD) :
    ∀ k, loop0.at (into m pre) k c (Proc.devRef .tc main_v127_7) = fun _ => Scf.iv 0#32 1#32 k
  | 0 => by
    show afterL pre (launchContents m c) (Proc.devRef .tc main_v127_7) = _
    simp only [afterL_cons, afterL_nil]
    after_reads_simp
    rw [Scf.iv_zero]
    rfl
  | k + 1 => by
    show after blocks.body0.ops (after test0 (loop0.at (into m pre) k c)) (Proc.devRef .tc main_v127_7) = _
    rw [step0]
    after_reads_simp
    rw [counter0 m c k, Scf.iv_succ]
    rfl

theorem counter1 (m : (ℓ : Loc nD τ sig) → Buf (Elt Ideal) ℓ) (c : Dev nD) :
    ∀ k, loop1.at (between m loop0 pre mid) k c (Proc.devRef .tc main_v137_11) = fun _ => Scf.iv 0#32 1#32 k
  | 0 => by
    show afterL mid (loop0.out (into m pre) c) (Proc.devRef .tc main_v137_11) = _
    simp only [afterL_cons, afterL_nil]
    after_reads_simp
    rw [Scf.iv_zero]
    rfl
  | k + 1 => by
    show after blocks.body1.ops (after test1 (loop1.at (between m loop0 pre mid) k c)) (Proc.devRef .tc main_v137_11) = _
    rw [step1]
    after_reads_simp
    rw [counter1 m c k, Scf.iv_succ]
    rfl

set_option backward.isDefEq.respectTransparency.types false in
theorem tests0 (m : (ℓ : Loc nD τ sig) → Buf (Elt Ideal) ℓ) : loop0.Tests defs₀ (into m pre) := by
  intro k hk c bd
  have hctr := counter0 m c k
  show _ ⊢ wp _ _ _ main_while0_cond _
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (loop0.at (into m pre) k c) main_v127_7 HostLoop.idx0)
        (HloOp.result _ (loop0.at (into m pre) k c) main_while0c_c_40 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  show _ ⊢ held _ _ (after test0 _)
  rw [after_cons, after_cons, after_nil]

set_option backward.isDefEq.respectTransparency.types false in
theorem tests1 (m : (ℓ : Loc nD τ sig) → Buf (Elt Ideal) ℓ) : loop1.Tests defs₀ (between m loop0 pre mid) := by
  intro k hk c bd
  have hctr := counter1 m c k
  show _ ⊢ wp _ _ _ main_while1_cond _
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (loop1.at (between m loop0 pre mid) k c) main_v137_11 HostLoop.idx0)
        (HloOp.result _ (loop1.at (between m loop0 pre mid) k c) main_while1c_c_43 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  show _ ⊢ held _ _ (after test1 _)
  rw [after_cons, after_cons, after_nil]

/-- The run: every buffer ends as the operations leave it. -/
theorem run (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD) (x : Ref sig .tc), (Proc.devRef .tc x : DevRef τ sig).isScoped = false →
        r.2.mem ((c.tc : Thread nD τ).loc x) = final m loop0 loop1 pre mid post c (Proc.devRef .tc x)) :=
  Cert.HostLoops.run m ρ main
    (blocks.part0.plain (blocks.part1.plain (blocks.part2.before.plain .nil)))
    (blocks.part2.behind.plain (blocks.part3.before.plain .nil))
    (blocks.part3.behind.plain (blocks.part4.plain .nil)) (tests0 m) (tests1 m) main_pieces

end Cert.RetReferenceIdeal.Lines

end
-- ==== Proof.RetRefCuts.lean ====
/- One chunk's block read from a stack of the chunks' blocks, and one written into it. -/
module

public import proofs.«01_k».proof.Proof.RetRefRun
public import Idealize.ShloMosaic.Lib.Pointwise
public import Idealize.ShloMosaic.Lib.DynamicIndex

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic

/-- Where chunk `i`'s block starts. -/
abbrev starts (i : IVec S_ 32) : Fin 5 → Int :=
  ![(i (Shape.Idx.first h_S_)).toInt, ((constantI S_ 32 0#32) (Shape.Idx.first h_S_)).toInt, ((constantI S_ 32 0#32) (Shape.Idx.first h_S_)).toInt,
    ((constantI S_ 32 0#32) (Shape.Idx.first h_S_)).toInt, ((constantI S_ 32 0#32) (Shape.Idx.first h_S_)).toInt]

theorem starts_at (i : IVec S_ 32) (n : Fin 64) (hi : i = fun _ => BitVec.ofNat 32 n.val) : starts i = fun a => ((![n.val, 0, 0, 0, 0] : Fin 5 → ℕ) a : Int) := by
  subst hi
  funext a
  fin_cases a
  · show (BitVec.ofNat 32 n.val).toInt = (n.val : Int)
    rw [BitVec.toInt_eq_toNat_cond, BitVec.toNat_ofNat, Nat.mod_eq_of_lt (by omega), if_pos (by omega)]
  all_goals rfl

theorem starts_fit (n : Fin 64) (s t : Shape) (h : s.rank = 5) (w : Fin s.rank → ℕ) (f : s.Slices w t) (a : Fin s.rank) :
    (min (max ((w a : ℕ) : Int) 0) ((s.size a - t.size (a.cast f.1.symm) : ℕ) : Int)).toNat = w a := by
  have := f.2 a
  omega

variable (i : IVec S_ 32) (n : Fin 64) (hi : i = fun _ => BitVec.ofNat 32 n.val) (k : Fin 64) (h : Fin 4) (s : Fin 128)

/-! ## Stacks of blocks of 128 columns -/

def cutQ (x : FVec Ideal S64x1x4x128x128 .f32) (i : IVec S_ 32) : FVec Ideal S1x4x128x128 .f32 :=
  shapeCast S1x4x128x128 (Host.dynamicSlice S1x1x4x128x128 x (starts i) sliceFits_S64x1x4x128x128_S1x1x4x128x128) shapeCasts_S1x1x4x128x128_S1x4x128x128
def putQ (x : FVec Ideal S64x1x4x128x128 .f32) (u : FVec Ideal S1x4x128x128 .f32) (i : IVec S_ 32) : FVec Ideal S64x1x4x128x128 .f32 :=
  Host.dynamicUpdateSlice x (broadcastInDim S1x1x4x128x128 ![1, 2, 3, 4] bcast_S1x4x128x128_S1x1x4x128x128_1_2_3_4 u) (starts i) updateFits_S64x1x4x128x128_S1x1x4x128x128

theorem fitsQ (n : Fin 64) : S64x1x4x128x128.Slices ![n.val, 0, 0, 0, 0] S1x1x4x128x128 :=
  ⟨rfl, fun a => match a with
    | ⟨0, _⟩ => (by omega : n.val + 1 ≤ 64)
    | ⟨1, _⟩ => Nat.le_refl 1
    | ⟨2, _⟩ => Nat.le_refl 4
    | ⟨3, _⟩ => Nat.le_refl 128
    | ⟨4, _⟩ => Nat.le_refl 128⟩

include hi in
theorem cutQ_at (x : FVec Ideal S64x1x4x128x128 .f32) (d : Fin 128) : cutQ x i (ix4 0 h s d) = x (ix5 n 0 h s d) := by
  have e := Host.dynamicSlice_eq_extractStridedSlice (s := S64x1x4x128x128) S1x1x4x128x128 x (starts i) ![n.val, 0, 0, 0, 0] sliceFits_S64x1x4x128x128_S1x1x4x128x128 (fitsQ n) (congrFun (starts_at i n hi))
  unfold cutQ
  rw [e]
  pointwise

include hi in
theorem putQ_at (x : FVec Ideal S64x1x4x128x128 .f32) (u : FVec Ideal S1x4x128x128 .f32) (d : Fin 128) :
    putQ x u i (ix5 k 0 h s d) = if k = n then u (ix4 0 h s d) else x (ix5 k 0 h s d) := by
  have e := fun u => Host.dynamicUpdateSlice_eq_updateSlice (s := S64x1x4x128x128) (u := S1x1x4x128x128) x u (starts i) updateFits_S64x1x4x128x128_S1x1x4x128x128 ![n.val, 0, 0, 0, 0]
    (by rw [starts_at i n hi]; exact starts_fit n _ _ rfl _ (fitsQ n)) (fitsQ n)
  unfold putQ
  rw [e]
  pointwise
  simp only [dite_eq_ite, Fin.ext_iff, show (n.val ≤ k.val ∧ k.val < n.val + 1) = (k.val = n.val) from propext (by omega)]

theorem cutQ_of {x : FVec Ideal S64x1x4x128x128 .f32} {i : IVec S_ 32} {st : Fin 5 → Int} (e : ∀ k, st k = starts i k) :
    shapeCast S1x4x128x128 (Host.dynamicSlice S1x1x4x128x128 x st sliceFits_S64x1x4x128x128_S1x1x4x128x128) shapeCasts_S1x1x4x128x128_S1x4x128x128 = cutQ x i := by
  obtain rfl : st = starts i := funext e
  rfl
theorem putQ_of {x : FVec Ideal S64x1x4x128x128 .f32} {u u' : FVec Ideal S1x4x128x128 .f32} {i : IVec S_ 32} {st : Fin 5 → Int} (eu : u = u') (e : ∀ k, st k = starts i k) :
    Host.dynamicUpdateSlice x (broadcastInDim S1x1x4x128x128 ![1, 2, 3, 4] bcast_S1x4x128x128_S1x1x4x128x128_1_2_3_4 u) st updateFits_S64x1x4x128x128_S1x1x4x128x128 = putQ x u' i := by
  obtain rfl : st = starts i := funext e
  subst eu
  rfl

/-! ## Stacks of blocks of 256 columns -/

def cutV (x : FVec Ideal S64x1x4x128x256 .f32) (i : IVec S_ 32) : FVec Ideal S1x4x128x256 .f32 :=
  shapeCast S1x4x128x256 (Host.dynamicSlice S1x1x4x128x256 x (starts i) sliceFits_S64x1x4x128x256_S1x1x4x128x256) shapeCasts_S1x1x4x128x256_S1x4x128x256
def putV (x : FVec Ideal S64x1x4x128x256 .f32) (u : FVec Ideal S1x4x128x256 .f32) (i : IVec S_ 32) : FVec Ideal S64x1x4x128x256 .f32 :=
  Host.dynamicUpdateSlice x (broadcastInDim S1x1x4x128x256 ![1, 2, 3, 4] bcast_S1x4x128x256_S1x1x4x128x256_1_2_3_4 u) (starts i) updateFits_S64x1x4x128x256_S1x1x4x128x256

theorem fitsV (n : Fin 64) : S64x1x4x128x256.Slices ![n.val, 0, 0, 0, 0] S1x1x4x128x256 :=
  ⟨rfl, fun a => match a with
    | ⟨0, _⟩ => (by omega : n.val + 1 ≤ 64)
    | ⟨1, _⟩ => Nat.le_refl 1
    | ⟨2, _⟩ => Nat.le_refl 4
    | ⟨3, _⟩ => Nat.le_refl 128
    | ⟨4, _⟩ => Nat.le_refl 256⟩

include hi in
theorem cutV_at (x : FVec Ideal S64x1x4x128x256 .f32) (d : Fin 256) : cutV x i (ix4 0 h s d) = x (ix5 n 0 h s d) := by
  have e := Host.dynamicSlice_eq_extractStridedSlice (s := S64x1x4x128x256) S1x1x4x128x256 x (starts i) ![n.val, 0, 0, 0, 0] sliceFits_S64x1x4x128x256_S1x1x4x128x256 (fitsV n) (congrFun (starts_at i n hi))
  unfold cutV
  rw [e]
  pointwise

include hi in
theorem putV_at (x : FVec Ideal S64x1x4x128x256 .f32) (u : FVec Ideal S1x4x128x256 .f32) (d : Fin 256) :
    putV x u i (ix5 k 0 h s d) = if k = n then u (ix4 0 h s d) else x (ix5 k 0 h s d) := by
  have e := fun u => Host.dynamicUpdateSlice_eq_updateSlice (s := S64x1x4x128x256) (u := S1x1x4x128x256) x u (starts i) updateFits_S64x1x4x128x256_S1x1x4x128x256 ![n.val, 0, 0, 0, 0]
    (by rw [starts_at i n hi]; exact starts_fit n _ _ rfl _ (fitsV n)) (fitsV n)
  unfold putV
  rw [e]
  pointwise
  simp only [dite_eq_ite, Fin.ext_iff, show (n.val ≤ k.val ∧ k.val < n.val + 1) = (k.val = n.val) from propext (by omega)]

theorem cutV_of {x : FVec Ideal S64x1x4x128x256 .f32} {i : IVec S_ 32} {st : Fin 5 → Int} (e : ∀ k, st k = starts i k) :
    shapeCast S1x4x128x256 (Host.dynamicSlice S1x1x4x128x256 x st sliceFits_S64x1x4x128x256_S1x1x4x128x256) shapeCasts_S1x1x4x128x256_S1x4x128x256 = cutV x i := by
  obtain rfl : st = starts i := funext e
  rfl
theorem putV_of {x : FVec Ideal S64x1x4x128x256 .f32} {u u' : FVec Ideal S1x4x128x256 .f32} {i : IVec S_ 32} {st : Fin 5 → Int} (eu : u = u') (e : ∀ k, st k = starts i k) :
    Host.dynamicUpdateSlice x (broadcastInDim S1x1x4x128x256 ![1, 2, 3, 4] bcast_S1x4x128x256_S1x1x4x128x256_1_2_3_4 u) st updateFits_S64x1x4x128x256_S1x1x4x128x256 = putV x u' i := by
  obtain rfl : st = starts i := funext e
  subst eu
  rfl

end Cert.RetReferenceIdeal.Lines

end
-- ==== Proof.RetMath.lean ====
/- The retention recurrence over the real numbers, one head at a time: its gradients as sums over all positions, and the
   same sums cut at a chunk, with a state carried in from before it and a state gradient carried in from after it.
   `E n` is the head's decay over `n` positions; all that is used of it is `E (m + n) = E m * E n`. -/
module

public import Mathlib.Algebra.BigOperators.Fin
public import Mathlib.Data.Real.Basic
public import Mathlib.Tactic.Ring
public import Mathlib.Algebra.BigOperators.Ring.Finset

@[expose] public section

namespace Cert.Retention

variable (E : ℕ → ℝ) (q k : ℕ → Fin 128 → ℝ) (v o : ℕ → Fin 256 → ℝ)

/-- The decay from position `s` to position `t`, nothing before `s`. -/
def w (t s : ℕ) : ℝ := if s ≤ t then E (t - s) else 0

/-- What position `t`'s cotangent has in common with position `s`'s value, and position `t`'s query with position `s`'s key. -/
def ov (t s : ℕ) : ℝ := ∑ e, o t e * v s e
def qk (t s : ℕ) : ℝ := ∑ d, q t d * k s d

/-- The three gradients over `T` positions. -/
def gq (T t : ℕ) (d : Fin 128) : ℝ := ∑ s ∈ Finset.range T, ov v o t s * w E t s * k s d
def gk (T s : ℕ) (d : Fin 128) : ℝ := ∑ t ∈ Finset.range T, ov v o t s * w E t s * q t d
def gv (T s : ℕ) (e : Fin 256) : ℝ := ∑ t ∈ Finset.range T, qk q k t s * w E t s * o t e

/-- The state the first `a` positions leave. -/
def state (a : ℕ) (d : Fin 128) (e : Fin 256) : ℝ := ∑ s ∈ Finset.range a, k s d * E (a - 1 - s) * v s e

/-- The gradient of the state before position `a`, from the `R` positions that start there. -/
def stateG (a R : ℕ) (d : Fin 128) (e : Fin 256) : ℝ := ∑ x ∈ Finset.range R, q (a + x) d * (o (a + x) e * E (x + 1))

variable {E} (hE : ∀ m n, E (m + n) = E m * E n)

include hE in
theorem state_step (a C : ℕ) (d : Fin 128) (e : Fin 256) :
    state E k v (a + C) d e = state E k v a d e * E C + ∑ j : Fin C, k (a + j) d * E (C - 1 - j) * v (a + j) e := by
  unfold state
  rw [Finset.sum_range_add, Finset.sum_range (n := C), Finset.sum_mul]
  congr 1
  · refine Finset.sum_congr rfl fun s hs => ?_
    have h := Finset.mem_range.mp hs
    rw [show a + C - 1 - s = (a - 1 - s) + C by omega, hE]; ring
  · refine Finset.sum_congr rfl fun j _ => ?_
    have h := j.isLt
    rw [show a + C - 1 - (a + (j : ℕ)) = C - 1 - j by omega]

include hE in
theorem stateG_step (a C R : ℕ) (d : Fin 128) (e : Fin 256) :
    stateG E q o a (C + R) d e = stateG E q o (a + C) R d e * E C + ∑ i : Fin C, q (a + i) d * (o (a + i) e * E (i + 1)) := by
  unfold stateG
  rw [Finset.sum_range_add, Finset.sum_range (n := C), Finset.sum_mul, add_comm]
  congr 1
  refine Finset.sum_congr rfl fun x _ => ?_
  rw [show C + x + 1 = (x + 1) + C by omega, hE, Nat.add_assoc]; ring

include hE in
theorem gq_cut (a C R : ℕ) (i : Fin C) (d : Fin 128) :
    gq E k v o (a + (C + R)) (a + i) d
      = (∑ j : Fin C, ov v o (a + i) (a + j) * w E i j * k (a + j) d) + ∑ e, o (a + i) e * E (i + 1) * state E k v a d e := by
  have hi := i.isLt
  unfold gq
  rw [Finset.sum_range_add, Finset.sum_range_add, Finset.sum_range (n := C)]
  have h1 : ∑ s ∈ Finset.range a, ov v o (a + i) s * w E (a + i) s * k s d = ∑ e, o (a + i) e * E (i + 1) * state E k v a d e := by
    unfold state
    simp only [Finset.mul_sum]
    rw [Finset.sum_comm]
    refine Finset.sum_congr rfl fun s hs => ?_
    have h := Finset.mem_range.mp hs
    have e1 : w E (a + i) s = E (i + 1) * E (a - 1 - s) := by
      unfold w; rw [if_pos (by omega), ← hE]; congr 1; omega
    rw [e1]; unfold ov
    rw [Finset.sum_mul, Finset.sum_mul]
    exact Finset.sum_congr rfl fun e _ => by ring
  have h2 : ∑ x ∈ Finset.range R, ov v o (a + i) (a + (C + x)) * w E (a + i) (a + (C + x)) * k (a + (C + x)) d = 0 := by
    refine Finset.sum_eq_zero fun x _ => ?_
    unfold w; rw [if_neg (by omega)]; ring
  rw [h1, h2, add_zero, add_comm]
  congr 1
  refine Finset.sum_congr rfl fun j _ => ?_
  unfold w
  simp only [Nat.add_le_add_iff_left, Nat.add_sub_add_left]

include hE in
theorem gk_cut (a C R : ℕ) (j : Fin C) (d : Fin 128) :
    gk E q v o (a + (C + R)) (a + j) d
      = (∑ i : Fin C, ov v o (a + i) (a + j) * w E i j * q (a + i) d) + (∑ e, v (a + j) e * stateG E q o (a + C) R d e) * E (C - 1 - j) := by
  have hj := j.isLt
  unfold gk
  rw [Finset.sum_range_add, Finset.sum_range_add, Finset.sum_range (n := C)]
  have h1 : ∑ t ∈ Finset.range a, ov v o t (a + j) * w E t (a + j) * q t d = 0 := by
    refine Finset.sum_eq_zero fun t ht => ?_
    have h := Finset.mem_range.mp ht
    unfold w; rw [if_neg (by omega)]; ring
  have h2 : ∑ x ∈ Finset.range R, ov v o (a + (C + x)) (a + j) * w E (a + (C + x)) (a + j) * q (a + (C + x)) d
      = (∑ e, v (a + j) e * stateG E q o (a + C) R d e) * E (C - 1 - j) := by
    unfold stateG
    simp only [Finset.mul_sum]
    rw [Finset.sum_comm, Finset.sum_mul]
    refine Finset.sum_congr rfl fun x _ => ?_
    have e1 : w E (a + (C + x)) (a + j) = E (x + 1) * E (C - 1 - j) := by
      unfold w; rw [if_pos (by omega), ← hE]; congr 1; omega
    rw [e1]; unfold ov
    rw [Finset.sum_mul, Finset.sum_mul, Finset.sum_mul]
    refine Finset.sum_congr rfl fun e _ => ?_
    rw [Nat.add_assoc]; ring
  rw [h1, h2, zero_add]
  congr 1
  refine Finset.sum_congr rfl fun i _ => ?_
  unfold w
  simp only [Nat.add_le_add_iff_left, Nat.add_sub_add_left]

include hE in
theorem gv_cut (a C R : ℕ) (j : Fin C) (e : Fin 256) :
    gv E q k o (a + (C + R)) (a + j) e
      = (∑ i : Fin C, qk q k (a + i) (a + j) * w E i j * o (a + i) e) + ∑ d, k (a + j) d * E (C - 1 - j) * stateG E q o (a + C) R d e := by
  have hj := j.isLt
  unfold gv
  rw [Finset.sum_range_add, Finset.sum_range_add, Finset.sum_range (n := C)]
  have h1 : ∑ t ∈ Finset.range a, qk q k t (a + j) * w E t (a + j) * o t e = 0 := by
    refine Finset.sum_eq_zero fun t ht => ?_
    have h := Finset.mem_range.mp ht
    unfold w; rw [if_neg (by omega)]; ring
  have h2 : ∑ x ∈ Finset.range R, qk q k (a + (C + x)) (a + j) * w E (a + (C + x)) (a + j) * o (a + (C + x)) e
      = ∑ d, k (a + j) d * E (C - 1 - j) * stateG E q o (a + C) R d e := by
    unfold stateG
    simp only [Finset.mul_sum]
    rw [Finset.sum_comm]
    refine Finset.sum_congr rfl fun x _ => ?_
    have e1 : w E (a + (C + x)) (a + j) = E (x + 1) * E (C - 1 - j) := by
      unfold w; rw [if_pos (by omega), ← hE]; congr 1; omega
    rw [e1]; unfold qk
    rw [Finset.sum_mul, Finset.sum_mul]
    refine Finset.sum_congr rfl fun d _ => ?_
    rw [Nat.add_assoc]; ring
  rw [h1, h2, zero_add]
  congr 1
  refine Finset.sum_congr rfl fun i _ => ?_
  unfold w
  simp only [Nat.add_le_add_iff_left, Nat.add_sub_add_left]

end Cert.Retention
-- ==== Proof.ProjMath.lean ====
module
public import Idealize.ShloMosaic.PureOps.Ideal
public import Idealize.ShloMosaic.PureOps.Ideal.Laws
/-! The gradient through a row's division by its root mean square: the kernel's one formula and the chain rule's terms are equal
    extended reals when the row's entries are real numbers, whatever the cotangents are. -/
@[expose] public section
noncomputable section
namespace Cert.RmsGrad
open Idealize.ShloMosaic

theorem c1024 : Ideal.ofBits FTy.f32 1149239296#32 = ((1024 : ℝ) : EReal) := by
  simp [Ideal.ofBits, Ideal.ieee, -EReal.coe_mul]; norm_num
theorem cHalf : Ideal.ofBits FTy.f32 3204448256#32 = ((-(1 / 2) : ℝ) : EReal) := by
  simp [Ideal.ofBits, Ideal.ieee, -EReal.coe_mul, -EReal.coe_neg]; norm_num
theorem cEps : ∃ e : ℝ, 0 < e ∧ Ideal.ofBits FTy.f32 897988541#32 = (e : EReal) := by
  refine ⟨_, ?_, by simp only [Ideal.ofBits, Ideal.ieee, ]; simp [-EReal.coe_add]; rfl⟩
  norm_num

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_mul_add {r : ℝ} (hr : 0 ≤ r) (a b : EReal) : (r : EReal) * (a + b) = r * a + r * b :=
  EReal.left_distrib_of_nonneg_of_ne_top (by exact_mod_cast hr) (EReal.coe_ne_top r) a b

theorem coe_mul_sum {ι : Type*} {r : ℝ} (hr : 0 ≤ r) (s : Finset ι) (f : ι → EReal) : (r : EReal) * ∑ i ∈ s, f i = ∑ i ∈ s, (r : EReal) * f i := by
  classical
  induction s using Finset.induction_on with
  | empty => simp
  | insert a s ha ih => rw [Finset.sum_insert ha, Finset.sum_insert ha, coe_mul_add hr, ih]

theorem coe_mul_sub {r : ℝ} (hr : 0 ≤ r) (a b : EReal) : (r : EReal) * (a - b) = r * a - r * b := by
  rw [sub_eq_add_neg, coe_mul_add hr, sub_eq_add_neg, mul_neg]

/-- The mean square of a row of real numbers plus the positive ε is a positive real `v`, and `1 / √v` a positive real `r` with `r² v = 1`. -/
theorem rsqrt_mean (x : Fin 1024 → ℝ) : ∃ v r : ℝ, 0 < v ∧ 0 < r ∧ r * r * v = 1 ∧
    Ideal.div (∑ k : Fin 1024, (x k : EReal) * (x k : EReal)) (Ideal.ofBits FTy.f32 1149239296#32) + Ideal.ofBits FTy.f32 897988541#32 = (v : EReal) ∧
    Ideal.rsqrt (v : EReal) = (r : EReal) := by
  obtain ⟨e, he, hE⟩ := cEps
  have hs : 0 ≤ ∑ k : Fin 1024, x k * x k := Finset.sum_nonneg fun k _ => mul_self_nonneg _
  have hv : 0 < (∑ k : Fin 1024, x k * x k) * (1 / 1024) + e := by positivity
  refine ⟨_, (Real.sqrt ((∑ k : Fin 1024, x k * x k) * (1 / 1024) + e))⁻¹, hv, inv_pos.mpr (Real.sqrt_pos.mpr hv), ?_, ?_, ?_⟩
  · rw [← mul_inv, Real.mul_self_sqrt hv.le, inv_mul_cancel₀ hv.ne']
  · rw [c1024, hE, Ideal.div_coe (by norm_num)]
    simp only [← EReal.coe_mul]
    rw [coe_sum, ← EReal.coe_mul, ← EReal.coe_add]
  · rw [Ideal.rsqrt_coe, if_neg (not_lt.mpr hv.le), if_neg hv.ne']

theorem grad (x : Fin 1024 → ℝ) (a : Fin 1024 → EReal) (dx : EReal) (k : Fin 1024) (V R : EReal)
    (hV : V = Ideal.div (∑ k : Fin 1024, (x k : EReal) * (x k : EReal)) (Ideal.ofBits FTy.f32 1149239296#32) + Ideal.ofBits FTy.f32 897988541#32)
    (hR : R = Ideal.rsqrt V) :
    dx + R * (a k - x k * R * Ideal.div (∑ i : Fin 1024, a i * (x i * R)) (Ideal.ofBits FTy.f32 1149239296#32))
      = dx + a k * R + x k * Ideal.div ((∑ i : Fin 1024, x i * a i) * (Ideal.ofBits FTy.f32 3204448256#32 * Ideal.div R V)) (Ideal.ofBits FTy.f32 1149239296#32)
        + Ideal.div ((∑ i : Fin 1024, x i * a i) * (Ideal.ofBits FTy.f32 3204448256#32 * Ideal.div R V)) (Ideal.ofBits FTy.f32 1149239296#32) * x k := by
  obtain ⟨v, r, hv, hr, hrv, eV, eR⟩ := rsqrt_mean x
  rw [eV] at hV
  rw [hV, eR] at hR
  subst hV hR
  rw [c1024, cHalf, Ideal.div_coe (by norm_num), Ideal.div_coe (by norm_num), Ideal.div_coe hv.ne']
  have hT : ∑ i : Fin 1024, a i * (x i * (r : EReal)) = (r : EReal) * ∑ i : Fin 1024, x i * a i := by
    rw [coe_mul_sum hr.le]
    exact Finset.sum_congr rfl fun i _ => by rw [mul_comm (a i), mul_comm (x i : EReal), mul_assoc]
  rw [hT]
  generalize (∑ i : Fin 1024, x i * a i : EReal) = T
  have hr3 : r * (1 / v) = r * r * r := by
    have : 1 / v = r * r := by rw [div_eq_iff hv.ne']; exact hrv.symm
    rw [this]; ring
  rw [coe_mul_sub hr.le, sub_eq_add_neg, ← add_assoc, mul_comm (a k)]
  have e1 : (x k : EReal) * (T * ((-(1 / 2) : ℝ) * ((r : EReal) * ((1 / v : ℝ) : EReal))) * ((1 / 1024 : ℝ) : EReal))
      = ((x k * (-(1 / 2) * (r * r * r)) * (1 / 1024) : ℝ) : EReal) * T := by
    rw [← EReal.coe_mul, hr3, ← EReal.coe_mul, mul_comm T, mul_assoc, mul_comm T, ← mul_assoc, ← mul_assoc, ← EReal.coe_mul, ← EReal.coe_mul]
  have e2 : (r : EReal) * ((x k : EReal) * r * ((r : EReal) * T * ((1 / 1024 : ℝ) : EReal))) = ((r * (x k * r) * r * (1 / 1024) : ℝ) : EReal) * T := by
    rw [mul_comm (r * T : EReal), ← mul_assoc (((1 / 1024 : ℝ)) : EReal), ← mul_assoc, ← mul_assoc, ← EReal.coe_mul, ← EReal.coe_mul, ← EReal.coe_mul, ← EReal.coe_mul]
    congr 2; ring
  rw [mul_comm _ (x k : EReal), e1, e2, add_assoc (dx + r * a k), ← neg_mul, ← EReal.coe_neg]
  congr 1
  have e3 : (-(r * (x k * r) * r * (1 / 1024)) : ℝ) = 2 * (x k * (-(1 / 2) * (r * r * r)) * (1 / 1024)) := by ring
  rw [e3, EReal.coe_mul, mul_assoc]
  generalize ((x k * (-(1 / 2) * (r * r * r)) * (1 / 1024) : ℝ) : EReal) * T = z
  have h2 : ((2 : ℝ) : EReal) = 1 + 1 := by rw [← EReal.coe_one, ← EReal.coe_add]; norm_num
  rw [h2, EReal.right_distrib_of_nonneg zero_le_one zero_le_one, one_mul]

end Cert.RmsGrad
end
-- ==== Proof.RetReal.lean ====
/- The tables of the retention as real numbers: positions, rotary angles and each head's decay. -/
module

public import proofs.«01_k».proof.Proof.RetMath
public import proofs.«01_k».proof.Proof.ProjMath
public import Idealize.ShloMosaic.Lib.Pointwise

@[expose] public section

noncomputable section

namespace Cert.Retention

open Idealize.ShloMosaic

/-- A position as both programs write it. -/
def pos (n : ℕ) : EReal := FloatOps.sitofp (F := Ideal) FTy.f32 (BitVec.ofNat 32 n)

theorem pos_real (n : ℕ) (h : n < 2 ^ 31) : pos n = ((n : ℝ) : EReal) := by
  show ((((BitVec.ofNat 32 n).toInt : ℤ) : ℝ) : EReal) = _
  rw [show (BitVec.ofNat 32 n).toInt = (n : ℤ) by
    rw [BitVec.toInt_eq_toNat_cond, BitVec.toNat_ofNat, Nat.mod_eq_of_lt (by omega), if_pos (by omega)]]
  rfl

/-- A position's rotary angle at a lane. -/
def angle (s l : ℕ) : EReal :=
  pos s * Ideal.pow (Ideal.ofBits FTy.f32 1176256512#32) (Ideal.div (-pos l) (Ideal.ofBits FTy.f32 1115684864#32))

def ang (s l : ℕ) : ℝ := s * Real.rpow 10000 (-l * (1 / 64))

theorem angle_real (s l : ℕ) (hs : s < 2 ^ 31) (hl : l < 2 ^ 31) : angle s l = (ang s l : EReal) := by
  have h1 : Ideal.ofBits FTy.f32 1176256512#32 = ((10000 : ℝ) : EReal) := by
    simp [Ideal.ofBits, Ideal.ieee, -EReal.coe_mul]; norm_num
  have h2 : Ideal.ofBits FTy.f32 1115684864#32 = ((64 : ℝ) : EReal) := by
    simp [Ideal.ofBits, Ideal.ieee, -EReal.coe_mul]; norm_num
  unfold angle
  rw [pos_real s hs, pos_real l hl, h1, h2, ← EReal.coe_neg, Ideal.div_coe (by norm_num), ← EReal.coe_mul, Ideal.pow_coe_coe, ← EReal.coe_mul]
  rfl

theorem cos_angle (s l : ℕ) (hs : s < 2 ^ 31) (hl : l < 2 ^ 31) : Ideal.cos (angle s l) = (Real.cos (ang s l) : EReal) := by
  rw [angle_real s l hs hl, Ideal.cos_coe]
theorem sin_angle (s l : ℕ) (hs : s < 2 ^ 31) (hl : l < 2 ^ 31) : Ideal.sin (angle s l) = (Real.sin (ang s l) : EReal) := by
  rw [angle_real s l hs hl, Ideal.sin_coe]

/-- The logarithm of a head's decay. -/
def logGamma (h : ℕ) : EReal :=
  Ideal.log1p (-Ideal.exp (Ideal.ofBits FTy.f32 1060205080#32 * (Ideal.ofBits FTy.f32 3231711232#32 - pos h)))

def lg (h : ℕ) : ℝ := Real.log (1 + -Real.exp (11629080 / 16777216 * (-5 - h)))

theorem logGamma_real (h : ℕ) (hh : h < 2 ^ 31) : logGamma h = (lg h : EReal) := by
  have h1 : Ideal.ofBits FTy.f32 1060205080#32 = ((11629080 / 16777216 : ℝ) : EReal) := by
    simp [Ideal.ofBits, Ideal.ieee, -EReal.coe_mul]; norm_num
  have h2 : Ideal.ofBits FTy.f32 3231711232#32 = ((-5 : ℝ) : EReal) := by
    simp [Ideal.ofBits, Ideal.ieee, -EReal.coe_mul]; norm_num
  have hp : Real.exp (11629080 / 16777216 * (-5 - (h : ℝ))) < 1 := by
    rw [Real.exp_lt_one_iff]
    have : (0 : ℝ) ≤ h := Nat.cast_nonneg h
    linarith
  unfold logGamma lg
  rw [pos_real h hh, h1, h2, ← EReal.coe_sub, ← EReal.coe_mul, Ideal.exp_coe, ← EReal.coe_neg, Ideal.log1p, ← EReal.coe_one, ← EReal.coe_add,
    Ideal.log_coe, if_neg (by linarith)]

/-- A head's decay over `n` positions. -/
def dec (h n : ℕ) : ℝ := Real.exp (lg h * n)

theorem dec_add (h m n : ℕ) : dec h (m + n) = dec h m * dec h n := by
  unfold dec
  rw [← Real.exp_add, Nat.cast_add, mul_add]

theorem exp_logGamma (h n : ℕ) (hh : h < 2 ^ 31) (x : EReal) (hx : x = ((n : ℝ) : EReal)) : Ideal.exp (logGamma h * x) = (dec h n : EReal) := by
  rw [logGamma_real h hh, hx, ← EReal.coe_mul, Ideal.exp_coe]; rfl

/-- The decay between two positions as both programs write it: of the difference where it is no less than zero, and zero elsewhere. -/
theorem exp_rel (h i j : ℕ) (hh : h < 2 ^ 31) (hi : i < 2 ^ 31) (hj : j < 2 ^ 31) :
    (if (0 : EReal) ≤ pos i - pos j then Ideal.exp (logGamma h * max (pos i - pos j) 0) else 0) = (w (dec h) i j : EReal) := by
  rw [pos_real i hi, pos_real j hj, ← EReal.coe_sub]
  unfold w
  by_cases hij : j ≤ i
  · have h0 : (0 : ℝ) ≤ (i : ℝ) - j := sub_nonneg.mpr (Nat.cast_le.mpr hij)
    rw [if_pos (by exact_mod_cast h0), if_pos hij]
    refine exp_logGamma h (i - j) hh _ ?_
    rw [max_eq_left (by exact_mod_cast h0), Nat.cast_sub hij]
  · have h0 : (i : ℝ) - j < 0 := sub_neg.mpr (Nat.cast_lt.mpr (by omega))
    rw [if_neg (by rw [not_le]; exact_mod_cast h0), if_neg hij, EReal.coe_zero]

/-- A row of 128 lanes turned by its position's angles: lane `d` and the lane half a row away. -/
def turned (x : ℕ → ℝ) (s d : ℕ) : ℝ :=
  if d < 64 then x d * Real.cos (ang s d) - x (64 + d) * Real.sin (ang s d)
  else x (64 + (d - 64)) * Real.cos (ang s (d - 64)) + x (d - 64) * Real.sin (ang s (d - 64))

theorem turned_real (X : ℕ → EReal) (x : ℕ → ℝ) (hX : ∀ l, l < 128 → X l = (x l : EReal)) (s d : ℕ) (hs : s < 2 ^ 31) (hd : d < 128) :
    (if d < 64 then X d * Ideal.cos (angle s d) - X (64 + d) * Ideal.sin (angle s d)
      else X (64 + (d - 64)) * Ideal.cos (angle s (d - 64)) + X (d - 64) * Ideal.sin (angle s (d - 64))) = (turned x s d : EReal) := by
  unfold turned
  by_cases h : d < 64
  · rw [if_pos h, if_pos h, hX _ (by omega), hX _ (by omega), cos_angle s d hs (by omega), sin_angle s d hs (by omega), ← EReal.coe_mul, ← EReal.coe_mul, ← EReal.coe_sub]
  · rw [if_neg h, if_neg h, hX _ (by omega), hX _ (by omega), cos_angle s _ hs (by omega), sin_angle s _ hs (by omega), ← EReal.coe_mul, ← EReal.coe_mul, ← EReal.coe_add]

/-- The same angles as the gradient reads them: one cosine and one signed sine for each of the 128 lanes. -/
def cosT (s : ℕ) (d : Fin 128) : ℝ := Real.cos (ang s (d.val % 64))
def sinT (s : ℕ) (d : Fin 128) : ℝ := if d.val < 64 then -Real.sin (ang s (d.val % 64)) else Real.sin (ang s (d.val % 64))

/-- An array of real entries, as a function of two positions. -/
def real2 {a b : ℕ} (x : Fin a → Fin b → EReal) (s l : ℕ) : ℝ := if h : s < a ∧ l < b then (x ⟨s, h.1⟩ ⟨l, h.2⟩).toReal else 0

theorem real2_at {a b : ℕ} (x : Fin a → Fin b → EReal) (hx : ∀ s l, ∃ r : ℝ, x s l = r) (s : Fin a) (l : Fin b) : x s l = (real2 x s l : EReal) := by
  unfold real2
  rw [dif_pos ⟨s.isLt, l.isLt⟩]
  obtain ⟨r, hr⟩ := hx s l
  rw [hr, EReal.toReal_coe]

/-- The factor both programs scale the query by. -/
def sc : ℝ := (Ideal.ofBits FTy.f32 1035273459#32).toReal

theorem sc_real : Ideal.ofBits FTy.f32 1035273459#32 = (sc : EReal) := by
  have h : ∃ r : ℝ, Ideal.ofBits FTy.f32 1035273459#32 = (r : EReal) := by
    simp [Ideal.ofBits, Ideal.ieee, -EReal.coe_mul]
  obtain ⟨r, hr⟩ := h
  rw [sc, hr, EReal.toReal_coe]

/-- Query, key, value and cotangent of a head, from the rows `X` of the projection and `Y` of the cotangent. -/
def qOf (X : ℕ → ℕ → ℝ) (hd s : ℕ) (d : Fin 128) : ℝ := turned (fun l => X s (hd * 128 + l)) s d * sc
def kOf (X : ℕ → ℕ → ℝ) (hd s : ℕ) (d : Fin 128) : ℝ := turned (fun l => X s (512 + (hd * 128 + l))) s d
def vOf (X : ℕ → ℕ → ℝ) (hd s : ℕ) (e : Fin 256) : ℝ := X s (1024 + (hd * 256 + e))
def oOf (Y : ℕ → ℕ → ℝ) (hd s : ℕ) (e : Fin 256) : ℝ := Y s (hd * 256 + e)

end Cert.Retention
-- ==== Proof.RetRefTrips.lean ====
/- What one trip of each loop leaves, from what the trip before left. -/
module

public import proofs.«01_k».proof.Proof.RetRefCuts
public import proofs.«01_k».proof.Proof.RetReal

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic
open Cert.Retention
open Cert.RmsGrad (coe_sum)

/-- A trip's blocks as its operations compute them. -/
def scoresOf (q k w : FVec Ideal S1x4x128x128 .f32) : FVec Ideal S1x4x128x128 .f32 := mulf (Host.dotGeneral (φ₁ := .f32) (φ₂ := .f32) dot_S1x4x128x128_S1x4x128x128_S1x4x128x128_3_3_2_2_01_01 none q k) w
def agedOf (k : FVec Ideal S1x4x128x128 .f32) (kd : FVec Ideal S1x4x128x1 .f32) : FVec Ideal S1x4x128x128 .f32 := mulf k (broadcastInDim S1x4x128x128 ![0, 1, 2, 3] bcast_S1x4x128x1_S1x4x128x128_0_1_2_3 kd)
def stateOf (s : FVec Ideal S1x4x128x256 .f32) (cd : FVec Ideal S1x4x1x1 .f32) (a : FVec Ideal S1x4x128x128 .f32) (v : FVec Ideal S1x4x128x256 .f32) : FVec Ideal S1x4x128x256 .f32 :=
  addf (mulf s (broadcastInDim S1x4x128x256 ![0, 1, 2, 3] bcast_S1x4x1x1_S1x4x128x256_0_1_2_3 cd))
    (Host.dotGeneral (φ₁ := .f32) (φ₂ := .f32) dot_S1x4x128x128_S1x4x128x256_S1x4x128x256_2_2_3_3_01_01 none a v)
def lateOf (o : FVec Ideal S1x4x128x256 .f32) (qd : FVec Ideal S1x4x128x1 .f32) : FVec Ideal S1x4x128x256 .f32 := mulf o (broadcastInDim S1x4x128x256 ![0, 1, 2, 3] bcast_S1x4x128x1_S1x4x128x256_0_1_2_3 qd)
def gradSOf (g : FVec Ideal S1x4x128x256 .f32) (cd : FVec Ideal S1x4x1x1 .f32) (oq : FVec Ideal S1x4x128x256 .f32) (q : FVec Ideal S1x4x128x128 .f32) : FVec Ideal S1x4x128x256 .f32 :=
  addf (mulf g (broadcastInDim S1x4x128x256 ![0, 1, 2, 3] bcast_S1x4x1x1_S1x4x128x256_0_1_2_3 cd))
    (transpose S1x4x128x256 [0, 1, 3, 2] (Host.dotGeneral (φ₁ := .f32) (φ₂ := .f32) dot_S1x4x128x256_S1x4x128x128_S1x4x256x128_2_2_3_3_01_01 none oq q : FVec Ideal S1x4x256x128 .f32) transposes_S1x4x256x128_S1x4x128x256_0_1_3_2)
def gradVOf (g o : FVec Ideal S1x4x128x256 .f32) (a p : FVec Ideal S1x4x128x128 .f32) : FVec Ideal S1x4x128x256 .f32 :=
  addf (transpose S1x4x128x256 [0, 1, 3, 2] (Host.dotGeneral (φ₁ := .f32) (φ₂ := .f32) dot_S1x4x128x256_S1x4x128x128_S1x4x256x128_2_3_3_2_01_01 none g a : FVec Ideal S1x4x256x128 .f32) transposes_S1x4x256x128_S1x4x128x256_0_1_3_2)
    (transpose S1x4x128x256 [0, 1, 3, 2] (Host.dotGeneral (φ₁ := .f32) (φ₂ := .f32) dot_S1x4x128x256_S1x4x128x128_S1x4x256x128_2_2_3_3_01_01 none o p : FVec Ideal S1x4x256x128 .f32) transposes_S1x4x256x128_S1x4x128x256_0_1_3_2)
def gradPOf (o v : FVec Ideal S1x4x128x256 .f32) (w : FVec Ideal S1x4x128x128 .f32) : FVec Ideal S1x4x128x128 .f32 := mulf (Host.dotGeneral (φ₁ := .f32) (φ₂ := .f32) dot_S1x4x128x256_S1x4x128x256_S1x4x128x128_3_3_2_2_01_01 none o v) w
def gradKOf (g v : FVec Ideal S1x4x128x256 .f32) (kd : FVec Ideal S1x4x128x1 .f32) (gp q : FVec Ideal S1x4x128x128 .f32) : FVec Ideal S1x4x128x128 .f32 :=
  addf (mulf (transpose S1x4x128x128 [0, 1, 3, 2] (Host.dotGeneral (φ₁ := .f32) (φ₂ := .f32) dot_S1x4x128x256_S1x4x128x256_S1x4x128x128_3_3_2_2_01_01 none g v : FVec Ideal S1x4x128x128 .f32) transposes_S1x4x128x128_S1x4x128x128_0_1_3_2)
      (broadcastInDim S1x4x128x128 ![0, 1, 2, 3] bcast_S1x4x128x1_S1x4x128x128_0_1_2_3 kd))
    (Host.dotGeneral (φ₁ := .f32) (φ₂ := .f32) dot_S1x4x128x128_S1x4x128x128_S1x4x128x128_2_2_3_3_01_01 none gp q)
def gradQOf (oq s : FVec Ideal S1x4x128x256 .f32) (gp k : FVec Ideal S1x4x128x128 .f32) : FVec Ideal S1x4x128x128 .f32 :=
  addf (Host.dotGeneral (φ₁ := .f32) (φ₂ := .f32) dot_S1x4x128x256_S1x4x128x256_S1x4x128x128_3_3_2_2_01_01 none oq s)
    (Host.dotGeneral (φ₁ := .f32) (φ₂ := .f32) dot_S1x4x128x128_S1x4x128x128_S1x4x128x128_3_2_2_3_01_01 none gp k)

/-! ## Their entries, over the real numbers -/

section Entries

variable {q k a p gp w : FVec Ideal S1x4x128x128 .f32} {v o oq s g : FVec Ideal S1x4x128x256 .f32} {kd qd : FVec Ideal S1x4x128x1 .f32} {cd : FVec Ideal S1x4x1x1 .f32} (h : Fin 4)
  {q' k' a' p' gp' w' : Fin 128 → Fin 128 → ℝ} {v' o' oq' s' g' : Fin 128 → Fin 256 → ℝ} {kd' qd' : Fin 128 → ℝ} {cd' : ℝ}
  (hq : ∀ i d, q (ix4 0 h i d) = (q' i d : EReal)) (hk : ∀ i d, k (ix4 0 h i d) = (k' i d : EReal)) (ha : ∀ i d, a (ix4 0 h i d) = (a' i d : EReal))
  (hp : ∀ i d, p (ix4 0 h i d) = (p' i d : EReal)) (hgp : ∀ i d, gp (ix4 0 h i d) = (gp' i d : EReal)) (hw : ∀ i d, w (ix4 0 h i d) = (w' i d : EReal))
  (hv : ∀ i d, v (ix4 0 h i d) = (v' i d : EReal)) (ho : ∀ i d, o (ix4 0 h i d) = (o' i d : EReal)) (hoq : ∀ i d, oq (ix4 0 h i d) = (oq' i d : EReal))
  (hs : ∀ i d, s (ix4 0 h i d) = (s' i d : EReal)) (hg : ∀ i d, g (ix4 0 h i d) = (g' i d : EReal))
  (hkd : ∀ i, kd (ix4 0 h i 0) = (kd' i : EReal)) (hqd : ∀ i, qd (ix4 0 h i 0) = (qd' i : EReal)) (hcd : cd (ix4 0 h 0 0) = (cd' : EReal))

include hq hk hw in
theorem scoresOf_at (i : Fin 128) (j : Fin 128) : scoresOf q k w (ix4 0 h i j) = (((∑ d, q' i d * k' j d) * w' i j : ℝ) : EReal) := by
  pointwise [scoresOf]
  simp only [hq, hk, hw, ← EReal.coe_mul, coe_sum, ← EReal.coe_add]
include hk hkd in
theorem agedOf_at (i : Fin 128) (j : Fin 128) : agedOf k kd (ix4 0 h i j) = ((k' i j * kd' i : ℝ) : EReal) := by
  pointwise [agedOf]
  simp only [hk, hkd, ← EReal.coe_mul, coe_sum, ← EReal.coe_add]
include ho hqd in
theorem lateOf_at (i : Fin 128) (e : Fin 256) : lateOf o qd (ix4 0 h i e) = ((o' i e * qd' i : ℝ) : EReal) := by
  pointwise [lateOf]
  simp only [ho, hqd, ← EReal.coe_mul, coe_sum, ← EReal.coe_add]
include hs hcd ha hv in
theorem stateOf_at (d : Fin 128) (e : Fin 256) : stateOf s cd a v (ix4 0 h d e) = ((s' d e * cd' + ∑ j, a' j d * v' j e : ℝ) : EReal) := by
  pointwise [stateOf]
  simp only [hs, hcd, ha, hv, ← EReal.coe_mul, coe_sum, ← EReal.coe_add]
include hg hcd hoq hq in
theorem gradSOf_at (d : Fin 128) (e : Fin 256) : gradSOf g cd oq q (ix4 0 h d e) = ((g' d e * cd' + ∑ i, oq' i e * q' i d : ℝ) : EReal) := by
  pointwise [gradSOf]
  simp only [hg, hcd, hoq, hq, ← EReal.coe_mul, coe_sum, ← EReal.coe_add]
include hg ho ha hp in
theorem gradVOf_at (j : Fin 128) (e : Fin 256) : gradVOf g o a p (ix4 0 h j e) = (((∑ d, g' d e * a' j d) + ∑ i, o' i e * p' i j : ℝ) : EReal) := by
  pointwise [gradVOf]
  simp only [hg, ho, ha, hp, ← EReal.coe_mul, coe_sum, ← EReal.coe_add]
include ho hv hw in
theorem gradPOf_at (i : Fin 128) (j : Fin 128) : gradPOf o v w (ix4 0 h i j) = (((∑ e, o' i e * v' j e) * w' i j : ℝ) : EReal) := by
  pointwise [gradPOf]
  simp only [ho, hv, hw, ← EReal.coe_mul, coe_sum, ← EReal.coe_add]
include hg hv hkd hgp hq in
theorem gradKOf_at (j : Fin 128) (d : Fin 128) : gradKOf g v kd gp q (ix4 0 h j d) = (((∑ e, g' d e * v' j e) * kd' j + ∑ i, gp' i j * q' i d : ℝ) : EReal) := by
  pointwise [gradKOf]
  simp only [hg, hv, hkd, hgp, hq, ← EReal.coe_mul, coe_sum, ← EReal.coe_add]
include hoq hs hgp hk in
theorem gradQOf_at (i : Fin 128) (d : Fin 128) : gradQOf oq s gp k (ix4 0 h i d) = (((∑ e, oq' i e * s' d e) + ∑ j, gp' i j * k' j d : ℝ) : EReal) := by
  pointwise [gradQOf]
  simp only [hoq, hs, hgp, hk, ← EReal.coe_mul, coe_sum, ← EReal.coe_add]

end Entries

variable (W : Valuation τ sig (Elt Ideal))

/-! ## The blocks a trip reads -/

set_option maxHeartbeats 1000000 in
theorem cuts0 :
    after blocks.body0.ops W (Proc.devRef .tc main_while0b_v184) = cutQ (W (Proc.devRef .tc main_v127_0)) (W (Proc.devRef .tc main_v127_7))
    ∧ after blocks.body0.ops W (Proc.devRef .tc main_while0b_v185) = cutQ (W (Proc.devRef .tc main_v127_1)) (W (Proc.devRef .tc main_v127_7))
    ∧ after blocks.body0.ops W (Proc.devRef .tc main_while0b_v186) = cutV (W (Proc.devRef .tc main_v127_2)) (W (Proc.devRef .tc main_v127_7)) := by
  refine ⟨?_, ?_, ?_⟩
  all_goals
    after_reads_simp
    simp -implicitDefEqProofs only [StableHlo.TRef.toBuf, StableHlo.TRef.ofBuf, cast_cast, cast_eq, id]
    first | refine cutQ_of fun k => ?_ | refine cutV_of fun k => ?_
    fin_cases k
  all_goals first
    | rfl
    | (show BitVec.toInt (upto _ _ _ (Proc.devRef .tc main_v127_7) (Shape.Idx.first h_S_)) = _; after_reads_simp; rfl)

set_option maxHeartbeats 1000000 in
theorem cuts1 :
    after blocks.body1.ops W (Proc.devRef .tc main_while1b_v186) = cutV (W (Proc.devRef .tc main_v137_0)) (after blocks.body1.ops W (Proc.devRef .tc main_while1b_v185))
    ∧ after blocks.body1.ops W (Proc.devRef .tc main_while1b_v187) = cutQ (W (Proc.devRef .tc main_v137_1)) (after blocks.body1.ops W (Proc.devRef .tc main_while1b_v185))
    ∧ after blocks.body1.ops W (Proc.devRef .tc main_while1b_v188) = cutQ (W (Proc.devRef .tc main_v137_2)) (after blocks.body1.ops W (Proc.devRef .tc main_while1b_v185))
    ∧ after blocks.body1.ops W (Proc.devRef .tc main_while1b_v189) = cutV (W (Proc.devRef .tc main_v137_3)) (after blocks.body1.ops W (Proc.devRef .tc main_while1b_v185))
    ∧ after blocks.body1.ops W (Proc.devRef .tc main_while1b_v190) = cutQ (W (Proc.devRef .tc main_v137_4)) (after blocks.body1.ops W (Proc.devRef .tc main_while1b_v185))
    ∧ after blocks.body1.ops W (Proc.devRef .tc main_while1b_v191) = cutV (W (Proc.devRef .tc main_v137_5)) (after blocks.body1.ops W (Proc.devRef .tc main_while1b_v185))
    ∧ after blocks.body1.ops W (Proc.devRef .tc main_while1b_v192) = cutQ (W (Proc.devRef .tc main_v137_6)) (after blocks.body1.ops W (Proc.devRef .tc main_while1b_v185)) := by
  refine ⟨?_, ?_, ?_, ?_, ?_, ?_, ?_⟩
  all_goals
    after_reads_simp
    simp -implicitDefEqProofs only [StableHlo.TRef.toBuf, StableHlo.TRef.ofBuf, cast_cast, cast_eq, id]
    first | refine cutQ_of fun k => ?_ | refine cutV_of fun k => ?_
    fin_cases k
  all_goals first
    | rfl
    | (show BitVec.toInt (upto _ _ _ (Proc.devRef .tc main_while1b_v185) (Shape.Idx.first h_S_)) = _; after_reads_simp; rfl)

theorem index1 : after blocks.body1.ops W (Proc.devRef .tc main_while1b_v185) = subi (subi (constantI S_ 32 64#32) (W (Proc.devRef .tc main_v137_11))) (constantI S_ 32 1#32) := by
  after_reads_simp

/-! ## The blocks it computes -/

theorem scores0 : after blocks.body0.ops W (Proc.devRef .tc main_while0b_v188) = scoresOf (after blocks.body0.ops W (Proc.devRef .tc main_while0b_v184)) (after blocks.body0.ops W (Proc.devRef .tc main_while0b_v185)) (W (Proc.devRef .tc main_v127_5)) := by
  after_reads_simp
  rfl
theorem aged0 : after blocks.body0.ops W (Proc.devRef .tc main_while0b_v196) = agedOf (after blocks.body0.ops W (Proc.devRef .tc main_while0b_v185)) (W (Proc.devRef .tc main_v127_4)) := by
  after_reads_simp
  rfl
theorem state0 : after blocks.body0.ops W (Proc.devRef .tc main_v127_8) = stateOf (W (Proc.devRef .tc main_v127_8)) (W (Proc.devRef .tc main_v127_3)) (after blocks.body0.ops W (Proc.devRef .tc main_while0b_v196)) (after blocks.body0.ops W (Proc.devRef .tc main_while0b_v186)) := by
  after_reads_simp
  rfl
theorem late1 : after blocks.body1.ops W (Proc.devRef .tc main_while1b_v202) = lateOf (after blocks.body1.ops W (Proc.devRef .tc main_while1b_v186)) (W (Proc.devRef .tc main_v137_8)) := by
  after_reads_simp
  rfl
theorem gradS1 : after blocks.body1.ops W (Proc.devRef .tc main_v137_12) = gradSOf (W (Proc.devRef .tc main_v137_12)) (W (Proc.devRef .tc main_v137_9)) (after blocks.body1.ops W (Proc.devRef .tc main_while1b_v202)) (after blocks.body1.ops W (Proc.devRef .tc main_while1b_v188)) := by
  after_reads_simp
  rfl
theorem gradV1 : after blocks.body1.ops W (Proc.devRef .tc main_while1b_v209) = gradVOf (W (Proc.devRef .tc main_v137_12)) (after blocks.body1.ops W (Proc.devRef .tc main_while1b_v186)) (after blocks.body1.ops W (Proc.devRef .tc main_while1b_v192)) (after blocks.body1.ops W (Proc.devRef .tc main_while1b_v190)) := by
  after_reads_simp
  rfl
theorem gradP1 : after blocks.body1.ops W (Proc.devRef .tc main_while1b_v211) = gradPOf (after blocks.body1.ops W (Proc.devRef .tc main_while1b_v186)) (after blocks.body1.ops W (Proc.devRef .tc main_while1b_v189)) (W (Proc.devRef .tc main_v137_7)) := by
  after_reads_simp
  rfl
theorem gradK1 : after blocks.body1.ops W (Proc.devRef .tc main_while1b_v213) = gradKOf (W (Proc.devRef .tc main_v137_12)) (after blocks.body1.ops W (Proc.devRef .tc main_while1b_v189)) (W (Proc.devRef .tc main_v137_10)) (after blocks.body1.ops W (Proc.devRef .tc main_while1b_v211)) (after blocks.body1.ops W (Proc.devRef .tc main_while1b_v188)) := by
  after_reads_simp
  rfl
theorem gradQ1 : after blocks.body1.ops W (Proc.devRef .tc main_while1b_v215) = gradQOf (after blocks.body1.ops W (Proc.devRef .tc main_while1b_v202)) (after blocks.body1.ops W (Proc.devRef .tc main_while1b_v191)) (after blocks.body1.ops W (Proc.devRef .tc main_while1b_v211)) (after blocks.body1.ops W (Proc.devRef .tc main_while1b_v187)) := by
  after_reads_simp
  rfl

/-! ## The stacks it writes into -/

set_option maxHeartbeats 1000000 in
theorem puts0 :
    after blocks.body0.ops W (Proc.devRef .tc main_v127_10) = putQ (W (Proc.devRef .tc main_v127_10)) ((after blocks.body0.ops W (Proc.devRef .tc main_while0b_v188))) (W (Proc.devRef .tc main_v127_7))
    ∧ after blocks.body0.ops W (Proc.devRef .tc main_v127_11) = putV (W (Proc.devRef .tc main_v127_11)) ((W (Proc.devRef .tc main_v127_8))) (W (Proc.devRef .tc main_v127_7))
    ∧ after blocks.body0.ops W (Proc.devRef .tc main_v127_12) = putQ (W (Proc.devRef .tc main_v127_12)) ((after blocks.body0.ops W (Proc.devRef .tc main_while0b_v196))) (W (Proc.devRef .tc main_v127_7)) := by
  refine ⟨?_, ?_, ?_⟩
  all_goals
    after_reads_simp
    simp -implicitDefEqProofs only [StableHlo.TRef.toBuf, StableHlo.TRef.ofBuf, cast_cast, cast_eq, id]
    first | refine putQ_of rfl fun k => ?_ | refine putV_of rfl fun k => ?_
    fin_cases k
  all_goals first
    | rfl
    | (show BitVec.toInt (upto _ _ _ (Proc.devRef .tc main_v127_7) (Shape.Idx.first h_S_)) = _; after_reads_simp; rfl)

set_option maxHeartbeats 1000000 in
theorem puts1 :
    after blocks.body1.ops W (Proc.devRef .tc main_v137_13) = putQ (W (Proc.devRef .tc main_v137_13)) ((after blocks.body1.ops W (Proc.devRef .tc main_while1b_v215))) (after blocks.body1.ops W (Proc.devRef .tc main_while1b_v185))
    ∧ after blocks.body1.ops W (Proc.devRef .tc main_v137_14) = putQ (W (Proc.devRef .tc main_v137_14)) ((after blocks.body1.ops W (Proc.devRef .tc main_while1b_v213))) (after blocks.body1.ops W (Proc.devRef .tc main_while1b_v185))
    ∧ after blocks.body1.ops W (Proc.devRef .tc main_v137_15) = putV (W (Proc.devRef .tc main_v137_15)) ((after blocks.body1.ops W (Proc.devRef .tc main_while1b_v209))) (after blocks.body1.ops W (Proc.devRef .tc main_while1b_v185)) := by
  refine ⟨?_, ?_, ?_⟩
  all_goals
    after_reads_simp
    simp -implicitDefEqProofs only [StableHlo.TRef.toBuf, StableHlo.TRef.ofBuf, cast_cast, cast_eq, id]
    first | refine putQ_of rfl fun k => ?_ | refine putV_of rfl fun k => ?_
    fin_cases k
  all_goals first
    | rfl
    | (show BitVec.toInt (upto _ _ _ (Proc.devRef .tc main_while1b_v185) (Shape.Idx.first h_S_)) = _; after_reads_simp; rfl)

end Cert.RetReferenceIdeal.Lines

end
-- ==== Proof.RetRefEntry.lean ====
/- What the buffers hold when the first loop is entered: the chunks of query, key and value, the decays, and the rotary angles. -/
module

public import proofs.«01_k».proof.Proof.RetRefTrips

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic
open Cert.Retention Cert.HostLoops

variable (m : (ℓ : Loc nD τ sig) → Buf (Elt Ideal) ℓ) (c : Dev nD)

/-- The launch arguments are rows of reals. -/
structure Args (X Y : ℕ → ℕ → ℝ) : Prop where
  x : ∀ (s : Fin 8192) (l : Fin 2048), (m (c, Proc.tc.devRef main_arg0) : FVec Ideal S1x8192x2048 .f32) (ix3 0 s l) = (X s l : EReal)
  y : ∀ (s : Fin 8192) (h : Fin 4) (e : Fin 256), (m (c, Proc.tc.devRef main_arg1) : FVec Ideal S1x8192x4x256 .f32) (ix4 0 s h e) = (Y s (h.val * 256 + e.val) : EReal)

/-- A buffer when the first loop is entered. -/
def E (r : Ref sig .tc) : (r.ty).Contents (Elt Ideal) := into m pre c (Proc.devRef .tc r)

variable {m c} {X Y : ℕ → ℕ → ℝ} (A : Args m c X Y)

include A

theorem E_q (n : Fin 64) (h : Fin 4) (i d : Fin 128) : (E m c main_v116 : FVec Ideal S64x1x4x128x128 .f32) (ix5 n 0 h i d) = (qOf X h (n.val * 128 + i.val) d : EReal) := by
  have hx : ∀ s l, (launchContents m c (Proc.tc.devRef main_arg0) : FVec Ideal S1x8192x2048 .f32) (ix3 0 s l) = (X s l : EReal) := A.x
  show afterL pre (launchContents m c) (Proc.devRef .tc main_v116) _ = _
  simp only [afterL_cons, afterL_nil]
  after_reads_simp
  pointwise
  after_reads_simp
  generalize launchContents m c (Proc.tc.devRef main_arg0) = x at *
  pointwise
  simp only [hx, dite_eq_ite]
  rw [sc_real]
  exact (congrArg (· * (sc : EReal)) (turned_real (fun l => (X (n.val * 128 + i.val) (h.val * 128 + l) : EReal)) _ (fun _ _ => rfl) (n.val * 128 + i.val) d.val (by omega) (by omega))).trans
    (EReal.coe_mul _ _).symm

theorem E_k (n : Fin 64) (h : Fin 4) (i d : Fin 128) : (E m c main_v118 : FVec Ideal S64x1x4x128x128 .f32) (ix5 n 0 h i d) = (kOf X h (n.val * 128 + i.val) d : EReal) := by
  have hx : ∀ s l, (launchContents m c (Proc.tc.devRef main_arg0) : FVec Ideal S1x8192x2048 .f32) (ix3 0 s l) = (X s l : EReal) := A.x
  show afterL pre (launchContents m c) (Proc.devRef .tc main_v118) _ = _
  simp only [afterL_cons, afterL_nil]
  after_reads_simp
  pointwise
  after_reads_simp
  generalize launchContents m c (Proc.tc.devRef main_arg0) = x at *
  pointwise
  simp only [hx, dite_eq_ite]
  exact turned_real (fun l => (X (n.val * 128 + i.val) (512 + (h.val * 128 + l)) : EReal)) _ (fun _ _ => rfl) (n.val * 128 + i.val) d.val (by omega) (by omega)

theorem E_v (n : Fin 64) (h : Fin 4) (i : Fin 128) (e : Fin 256) : (E m c main_v120 : FVec Ideal S64x1x4x128x256 .f32) (ix5 n 0 h i e) = (vOf X h (n.val * 128 + i.val) e : EReal) := by
  have hx : ∀ s l, (launchContents m c (Proc.tc.devRef main_arg0) : FVec Ideal S1x8192x2048 .f32) (ix3 0 s l) = (X s l : EReal) := A.x
  show afterL pre (launchContents m c) (Proc.devRef .tc main_v120) _ = _
  simp only [afterL_cons, afterL_nil]
  after_reads_simp
  generalize launchContents m c (Proc.tc.devRef main_arg0) = x at *
  pointwise
  exact hx _ _

omit A

theorem E_w (h : Fin 4) (i j : Fin 128) : (E m c main_v122 : FVec Ideal S1x4x128x128 .f32) (ix4 0 h i j) = (w (dec h) i j : EReal) := by
  show afterL pre (launchContents m c) (Proc.devRef .tc main_v122) _ = _
  simp only [afterL_cons, afterL_nil]
  after_reads_simp
  simp only [StableHlo.TRef.ofBuf_toBuf]
  simp -implicitDefEqProofs only [StableHlo.TRef.toBuf, StableHlo.TRef.ofBuf, cast_cast, cast_eq, id]
  pointwise
  exact exp_rel h i j (by omega) (by omega) (by omega)

theorem E_qd (h : Fin 4) (i : Fin 128) : (E m c main_v99 : FVec Ideal S1x4x128x1 .f32) (ix4 0 h i 0) = (dec h (i.val + 1) : EReal) := by
  show afterL pre (launchContents m c) (Proc.devRef .tc main_v99) _ = _
  simp only [afterL_cons, afterL_nil]
  after_reads_simp
  pointwise
  refine exp_logGamma h (i.val + 1) (by omega) _ ?_
  exact (congrArg (· + 1) (pos_real i (by omega))).trans (by rw [Nat.cast_add, Nat.cast_one, EReal.coe_add, EReal.coe_one])

theorem E_kd (h : Fin 4) (i : Fin 128) : (E m c main_v108 : FVec Ideal S1x4x128x1 .f32) (ix4 0 h i 0) = (dec h (128 - 1 - i.val) : EReal) := by
  have h1 : Ideal.ofBits FTy.f32 1123942400#32 = ((127 : ℝ) : EReal) := by
    simp [Ideal.ofBits, Ideal.ieee, -EReal.coe_mul]; norm_num
  show afterL pre (launchContents m c) (Proc.devRef .tc main_v108) _ = _
  simp only [afterL_cons, afterL_nil]
  after_reads_simp
  pointwise
  refine exp_logGamma h (128 - 1 - i.val) (by omega) _ ?_
  rw [h1]
  refine (congrArg (((127 : ℝ) : EReal) - ·) (pos_real i (by omega))).trans ?_
  rw [← EReal.coe_sub, Nat.cast_sub (by omega)]
  norm_num

theorem E_cd (h : Fin 4) : (E m c main_v112 : FVec Ideal S1x4x1x1 .f32) (ix4 0 h 0 0) = (dec h 128 : EReal) := by
  have h1 : Ideal.ofBits FTy.f32 1124073472#32 = (((128 : ℕ) : ℝ) : EReal) := by
    simp [Ideal.ofBits, Ideal.ieee, -EReal.coe_mul]; norm_num
  show afterL pre (launchContents m c) (Proc.devRef .tc main_v112) _ = _
  simp only [afterL_cons, afterL_nil]
  after_reads_simp
  pointwise
  exact exp_logGamma h 128 (by omega) _ h1

theorem E_qcos (s : Fin 8192) (l : Fin 64) : (E m c main_v18 : FVec Ideal S1x8192x1x64 .f32) (ix4 0 s 0 l) = (Real.cos (ang s l) : EReal) := by
  show afterL pre (launchContents m c) (Proc.devRef .tc main_v18) _ = _
  simp only [afterL_cons, afterL_nil]
  after_reads_simp
  pointwise
  exact cos_angle s l (by omega) (by omega)
theorem E_qsin (s : Fin 8192) (l : Fin 64) : (E m c main_v20 : FVec Ideal S1x8192x1x64 .f32) (ix4 0 s 0 l) = (Real.sin (ang s l) : EReal) := by
  show afterL pre (launchContents m c) (Proc.devRef .tc main_v20) _ = _
  simp only [afterL_cons, afterL_nil]
  after_reads_simp
  pointwise
  exact sin_angle s l (by omega) (by omega)
theorem E_kcos (s : Fin 8192) (l : Fin 64) : (E m c main_v48 : FVec Ideal S1x8192x1x64 .f32) (ix4 0 s 0 l) = (Real.cos (ang s l) : EReal) := by
  show afterL pre (launchContents m c) (Proc.devRef .tc main_v48) _ = _
  simp only [afterL_cons, afterL_nil]
  after_reads_simp
  pointwise
  exact cos_angle s l (by omega) (by omega)
theorem E_ksin (s : Fin 8192) (l : Fin 64) : (E m c main_v50 : FVec Ideal S1x8192x1x64 .f32) (ix4 0 s 0 l) = (Real.sin (ang s l) : EReal) := by
  show afterL pre (launchContents m c) (Proc.devRef .tc main_v50) _ = _
  simp only [afterL_cons, afterL_nil]
  after_reads_simp
  pointwise
  exact sin_angle s l (by omega) (by omega)

end Cert.RetReferenceIdeal.Lines

end
-- ==== Proof.RetRefLoops.lean ====
/- What the two loops leave: by induction on their trips, the states and the three gradients of every chunk. -/
module

public import proofs.«01_k».proof.Proof.RetRefEntry

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic
open Cert.Retention Cert.HostLoops

/-! ## A trip and the test before it -/

abbrev still0 : List (Ref sig .tc) := [main_v18, main_v20, main_v48, main_v50, main_v99, main_v108, main_v112, main_v116, main_v118, main_v120, main_v122, main_arg0, main_arg1, main_v127_0, main_v127_1, main_v127_2, main_v127_3, main_v127_4, main_v127_5]
abbrev moving0 : List (Ref sig .tc) := [main_v127_7, main_v127_8, main_v127_10, main_v127_11, main_v127_12]
abbrev still1 : List (Ref sig .tc) := [main_v18, main_v20, main_v48, main_v50, main_arg0, main_arg1, main_v137_0, main_v137_1, main_v137_2, main_v137_3, main_v137_4, main_v137_5, main_v137_6, main_v137_7, main_v137_8, main_v137_9, main_v137_10]
abbrev moving1 : List (Ref sig .tc) := [main_v137_11, main_v137_12, main_v137_13, main_v137_14, main_v137_15]

theorem tested0 (W : Valuation τ sig (Elt Ideal)) : ∀ x ∈ still0 ++ moving0, after test0 W (Proc.devRef .tc x) = W (Proc.devRef .tc x) := by
  simp only [List.cons_append, List.nil_append, List.forall_mem_cons, List.not_mem_nil, false_imp_iff, implies_true, and_true]
  repeat' apply And.intro
  all_goals after_reads_simp
theorem tested1 (W : Valuation τ sig (Elt Ideal)) : ∀ x ∈ still1 ++ moving1, after test1 W (Proc.devRef .tc x) = W (Proc.devRef .tc x) := by
  simp only [List.cons_append, List.nil_append, List.forall_mem_cons, List.not_mem_nil, false_imp_iff, implies_true, and_true]
  repeat' apply And.intro
  all_goals after_reads_simp
theorem kept0 (W : Valuation τ sig (Elt Ideal)) : ∀ x ∈ still0, after blocks.body0.ops W (Proc.devRef .tc x) = W (Proc.devRef .tc x) := by
  simp only [List.forall_mem_cons, List.not_mem_nil, false_imp_iff, implies_true, and_true]
  repeat' apply And.intro
  all_goals after_reads_simp
theorem kept1 (W : Valuation τ sig (Elt Ideal)) : ∀ x ∈ still1, after blocks.body1.ops W (Proc.devRef .tc x) = W (Proc.devRef .tc x) := by
  simp only [List.forall_mem_cons, List.not_mem_nil, false_imp_iff, implies_true, and_true]
  repeat' apply And.intro
  all_goals after_reads_simp

variable (m : (ℓ : Loc nD τ sig) → Buf (Elt Ideal) ℓ) (c : Dev nD)

/-- The buffers when a trip of the first loop begins, and of the second. -/
def T0 (k : ℕ) : Valuation τ sig (Elt Ideal) := after test0 (loop0.at (into m pre) k c)
def T1 (k : ℕ) : Valuation τ sig (Elt Ideal) := after test1 (loop1.at (between m loop0 pre mid) k c)

theorem T0_succ (k : ℕ) : T0 m c (k + 1) = after test0 (after blocks.body0.ops (T0 m c k)) := rfl
theorem T1_succ (k : ℕ) : T1 m c (k + 1) = after test1 (after blocks.body1.ops (T1 m c k)) := rfl

theorem word (k : ℕ) : Scf.iv 0#32 1#32 k = BitVec.ofNat 32 k := by
  unfold Scf.iv
  simp

theorem T0_count (k : ℕ) : T0 m c k (Proc.devRef .tc main_v127_7) = fun _ => BitVec.ofNat 32 k := by
  unfold T0
  rw [tested0 _ _ (by decide), counter0, word]
theorem T1_count (k : ℕ) : T1 m c k (Proc.devRef .tc main_v137_11) = fun _ => BitVec.ofNat 32 k := by
  unfold T1
  rw [tested1 _ _ (by decide), counter1, word]

theorem T0_still (k : ℕ) (x : Ref sig .tc) (hx : x ∈ still0) : T0 m c k (Proc.devRef .tc x) = into m pre c (Proc.devRef .tc x) := by
  induction k with
  | zero => exact tested0 _ x (List.mem_append_left _ hx)
  | succ k ih => rw [T0_succ, tested0 _ x (List.mem_append_left _ hx), kept0 _ x hx, ih]
theorem T1_still (k : ℕ) (x : Ref sig .tc) (hx : x ∈ still1) : T1 m c k (Proc.devRef .tc x) = between m loop0 pre mid c (Proc.devRef .tc x) := by
  induction k with
  | zero => exact tested1 _ x (List.mem_append_left _ hx)
  | succ k ih => rw [T1_succ, tested1 _ x (List.mem_append_left _ hx), kept1 _ x hx, ih]

/-! ## What the loops are entered with -/

theorem carries0 : into m pre c (Proc.devRef .tc main_v127_0) = E m c main_v116 ∧ into m pre c (Proc.devRef .tc main_v127_1) = E m c main_v118
    ∧ into m pre c (Proc.devRef .tc main_v127_2) = E m c main_v120 ∧ into m pre c (Proc.devRef .tc main_v127_3) = E m c main_v112
    ∧ into m pre c (Proc.devRef .tc main_v127_4) = E m c main_v108 ∧ into m pre c (Proc.devRef .tc main_v127_5) = E m c main_v122 := by
  unfold E
  simp only [afterL_cons, afterL_nil]
  refine ⟨?_, ?_, ?_, ?_, ?_, ?_⟩
  all_goals
    after_reads_simp
    rfl

theorem zero0 (h : Fin 4) (d : Fin 128) (e : Fin 256) : (into m pre c (Proc.devRef .tc main_v127_8) : FVec Ideal S1x4x128x256 .f32) (ix4 0 h d e) = ((0 : ℝ) : EReal) := by
  simp only [afterL_cons, afterL_nil]
  after_reads_simp
  simp only [id_eq]
  pointwise
  simp

theorem between_eq : between m loop0 pre mid c = afterL mid (T0 m c 64) := rfl

theorem carries1 : between m loop0 pre mid c (Proc.devRef .tc main_v137_1) = T0 m c 64 (Proc.devRef .tc main_v118)
    ∧ between m loop0 pre mid c (Proc.devRef .tc main_v137_2) = T0 m c 64 (Proc.devRef .tc main_v116)
    ∧ between m loop0 pre mid c (Proc.devRef .tc main_v137_3) = T0 m c 64 (Proc.devRef .tc main_v120)
    ∧ between m loop0 pre mid c (Proc.devRef .tc main_v137_4) = T0 m c 64 (Proc.devRef .tc main_v127_10)
    ∧ between m loop0 pre mid c (Proc.devRef .tc main_v137_5) = T0 m c 64 (Proc.devRef .tc main_v127_11)
    ∧ between m loop0 pre mid c (Proc.devRef .tc main_v137_6) = T0 m c 64 (Proc.devRef .tc main_v127_12)
    ∧ between m loop0 pre mid c (Proc.devRef .tc main_v137_7) = T0 m c 64 (Proc.devRef .tc main_v122)
    ∧ between m loop0 pre mid c (Proc.devRef .tc main_v137_8) = T0 m c 64 (Proc.devRef .tc main_v99)
    ∧ between m loop0 pre mid c (Proc.devRef .tc main_v137_9) = T0 m c 64 (Proc.devRef .tc main_v112)
    ∧ between m loop0 pre mid c (Proc.devRef .tc main_v137_10) = T0 m c 64 (Proc.devRef .tc main_v108)
    ∧ between m loop0 pre mid c (Proc.devRef .tc main_v18) = T0 m c 64 (Proc.devRef .tc main_v18)
    ∧ between m loop0 pre mid c (Proc.devRef .tc main_v20) = T0 m c 64 (Proc.devRef .tc main_v20)
    ∧ between m loop0 pre mid c (Proc.devRef .tc main_v48) = T0 m c 64 (Proc.devRef .tc main_v48)
    ∧ between m loop0 pre mid c (Proc.devRef .tc main_v50) = T0 m c 64 (Proc.devRef .tc main_v50) := by
  rw [between_eq]
  generalize T0 m c 64 = W
  simp only [afterL_cons, afterL_nil]
  repeat' apply And.intro
  all_goals
    after_reads_simp
    try rfl

theorem zero1 (h : Fin 4) (d : Fin 128) (e : Fin 256) : (between m loop0 pre mid c (Proc.devRef .tc main_v137_12) : FVec Ideal S1x4x128x256 .f32) (ix4 0 h d e) = ((0 : ℝ) : EReal) := by
  rw [between_eq]
  generalize T0 m c 64 = W
  simp only [afterL_cons, afterL_nil]
  after_reads_simp
  simp only [id_eq]
  pointwise
  simp

/-- The cotangent, cut into chunks. -/
theorem chunks1 (n : Fin 64) (h : Fin 4) (i : Fin 128) (e : Fin 256) : (between m loop0 pre mid c (Proc.devRef .tc main_v137_0) : FVec Ideal S64x1x4x128x256 .f32) (ix5 n 0 h i e)
    = (T0 m c 64 (Proc.devRef .tc main_arg1) : FVec Ideal S1x8192x4x256 .f32) (ix4 0 ⟨n.val * 128 + i.val, by omega⟩ h e) := by
  rw [between_eq]
  generalize T0 m c 64 = W
  simp only [afterL_cons, afterL_nil]
  after_reads_simp
  simp only [id_eq]
  pointwise

/-! ## The first loop -/

variable {m c} {X Y : ℕ → ℕ → ℝ} (A : Args m c X Y)

include A

/-- What the first `k` trips have left. -/
structure Done0 (m : (ℓ : Loc nD τ sig) → Buf (Elt Ideal) ℓ) (c : Dev nD) (X : ℕ → ℕ → ℝ) (k : ℕ) : Prop where
  state : ∀ (h : Fin 4) (d : Fin 128) (e : Fin 256), (T0 m c k (Proc.devRef .tc main_v127_8) : FVec Ideal S1x4x128x256 .f32) (ix4 0 h d e) = (Retention.state (dec h) (kOf X h) (vOf X h) (k * 128) d e : EReal)
  scores : ∀ n : Fin 64, n.val < k → ∀ (h : Fin 4) (i j : Fin 128), (T0 m c k (Proc.devRef .tc main_v127_10) : FVec Ideal S64x1x4x128x128 .f32) (ix5 n 0 h i j)
    = ((qk (qOf X h) (kOf X h) (n.val * 128 + i.val) (n.val * 128 + j.val) * w (dec h) i j : ℝ) : EReal)
  states : ∀ n : Fin 64, n.val < k → ∀ (h : Fin 4) (d : Fin 128) (e : Fin 256), (T0 m c k (Proc.devRef .tc main_v127_11) : FVec Ideal S64x1x4x128x256 .f32) (ix5 n 0 h d e)
    = (Retention.state (dec h) (kOf X h) (vOf X h) (n.val * 128) d e : EReal)
  aged : ∀ n : Fin 64, n.val < k → ∀ (h : Fin 4) (j d : Fin 128), (T0 m c k (Proc.devRef .tc main_v127_12) : FVec Ideal S64x1x4x128x128 .f32) (ix5 n 0 h j d)
    = ((kOf X h (n.val * 128 + j.val) d * dec h (128 - 1 - j.val) : ℝ) : EReal)

omit A in
theorem Done0.first : Done0 m c X 0 where
  state h d e := by
    unfold T0
    rw [tested0 _ _ (by decide)]
    refine (zero0 m c h d e).trans ?_
    simp [Retention.state]
  scores n hn := absurd hn (Nat.not_lt_zero _)
  states n hn := absurd hn (Nat.not_lt_zero _)
  aged n hn := absurd hn (Nat.not_lt_zero _)

theorem Done0.next {k : ℕ} (hk : k < 64) (ih : Done0 m c X k) : Done0 m c X (k + 1) := by
  obtain ⟨e0, e1, e2, e3, e4, e5⟩ := carries0 m c
  obtain ⟨c0, c1, c2⟩ := cuts0 (T0 m c k)
  obtain ⟨p0, p1, p2⟩ := puts0 (T0 m c k)
  have still := T0_still m c k
  have hi : T0 m c k (Proc.devRef .tc main_v127_7) = fun _ => BitVec.ofNat 32 (⟨k, hk⟩ : Fin 64).val := T0_count m c k
  have hq : ∀ (h : Fin 4) (i d : Fin 128), (after blocks.body0.ops (T0 m c k) (Proc.devRef .tc main_while0b_v184) : FVec Ideal S1x4x128x128 .f32) (ix4 0 h i d) = (qOf X h (k * 128 + i.val) d : EReal) := fun h i d => by
    rw [c0, still _ (by decide), e0]
    exact (cutQ_at _ _ hi h i _ d).trans (E_q A ⟨k, hk⟩ h i d)
  have hkk : ∀ (h : Fin 4) (i d : Fin 128), (after blocks.body0.ops (T0 m c k) (Proc.devRef .tc main_while0b_v185) : FVec Ideal S1x4x128x128 .f32) (ix4 0 h i d) = (kOf X h (k * 128 + i.val) d : EReal) := fun h i d => by
    rw [c1, still _ (by decide), e1]
    exact (cutQ_at _ _ hi h i _ d).trans (E_k A ⟨k, hk⟩ h i d)
  have hv : ∀ (h : Fin 4) (i : Fin 128) (e : Fin 256), (after blocks.body0.ops (T0 m c k) (Proc.devRef .tc main_while0b_v186) : FVec Ideal S1x4x128x256 .f32) (ix4 0 h i e) = (vOf X h (k * 128 + i.val) e : EReal) := fun h i e => by
    rw [c2, still _ (by decide), e2]
    exact (cutV_at _ _ hi h i _ e).trans (E_v A ⟨k, hk⟩ h i e)
  have hw : ∀ (h : Fin 4) (i j : Fin 128), (T0 m c k (Proc.devRef .tc main_v127_5) : FVec Ideal S1x4x128x128 .f32) (ix4 0 h i j) = (w (dec h) i j : EReal) := fun h i j => by
    rw [still _ (by decide), e5]; exact E_w h i j
  have hkd : ∀ (h : Fin 4) (i : Fin 128), (T0 m c k (Proc.devRef .tc main_v127_4) : FVec Ideal S1x4x128x1 .f32) (ix4 0 h i 0) = (dec h (128 - 1 - i.val) : EReal) := fun h i => by
    rw [still _ (by decide), e4]; exact E_kd h i
  have hcd : ∀ (h : Fin 4), (T0 m c k (Proc.devRef .tc main_v127_3) : FVec Ideal S1x4x1x1 .f32) (ix4 0 h 0 0) = (dec h 128 : EReal) := fun h => by
    rw [still _ (by decide), e3]; exact E_cd h
  have hsc : ∀ (h : Fin 4) (i j : Fin 128), (after blocks.body0.ops (T0 m c k) (Proc.devRef .tc main_while0b_v188) : FVec Ideal S1x4x128x128 .f32) (ix4 0 h i j)
      = ((qk (qOf X h) (kOf X h) (k * 128 + i.val) (k * 128 + j.val) * w (dec h) i j : ℝ) : EReal) := fun h i j => by
    rw [scores0]; exact scoresOf_at h (hq h) (hkk h) (hw h) i j
  have ha : ∀ (h : Fin 4) (j d : Fin 128), (after blocks.body0.ops (T0 m c k) (Proc.devRef .tc main_while0b_v196) : FVec Ideal S1x4x128x128 .f32) (ix4 0 h j d) = ((kOf X h (k * 128 + j.val) d * dec h (128 - 1 - j.val) : ℝ) : EReal) := fun h j d => by
    rw [aged0]; exact agedOf_at h (hkk h) (hkd h) j d
  refine ⟨fun h d e => ?_, fun n hn h i j => ?_, fun n hn h d e => ?_, fun n hn h j d => ?_⟩
  all_goals rw [T0_succ, tested0 _ _ (by decide)]
  · rw [state0]
    refine (stateOf_at h (ha h) (hv h) (ih.state h) (hcd h) d e).trans ?_
    rw [Nat.succ_mul, state_step _ _ (dec_add h)]
  · rw [p0]
    refine (putQ_at _ _ hi n h i _ _ j).trans ?_
    split_ifs with hnk
    · subst hnk; exact hsc h i j
    · exact ih.scores n (by have : n.val ≠ k := fun e => hnk (Fin.ext e); omega) h i j
  · rw [p1]
    refine (putV_at _ _ hi n h d _ _ e).trans ?_
    split_ifs with hnk
    · subst hnk; exact ih.state h d e
    · exact ih.states n (by have : n.val ≠ k := fun e => hnk (Fin.ext e); omega) h d e
  · rw [p2]
    refine (putQ_at _ _ hi n h j _ _ d).trans ?_
    split_ifs with hnk
    · subst hnk; exact ha h j d
    · exact ih.aged n (by have : n.val ≠ k := fun e => hnk (Fin.ext e); omega) h j d

theorem done0 : ∀ k ≤ 64, Done0 m c X k
  | 0, _ => Done0.first
  | k + 1, hk => Done0.next A hk (done0 k (by omega))

/-! ## The second loop -/

/-- What its first `k` trips have left: it takes the chunks from the last to the first. -/
structure Done1 (m : (ℓ : Loc nD τ sig) → Buf (Elt Ideal) ℓ) (c : Dev nD) (X Y : ℕ → ℕ → ℝ) (k : ℕ) : Prop where
  state : ∀ (h : Fin 4) (d : Fin 128) (e : Fin 256), (T1 m c k (Proc.devRef .tc main_v137_12) : FVec Ideal S1x4x128x256 .f32) (ix4 0 h d e)
    = (stateG (dec h) (qOf X h) (oOf Y h) ((64 - k) * 128) (k * 128) d e : EReal)
  gq : ∀ n : Fin 64, 64 - k ≤ n.val → ∀ (h : Fin 4) (i d : Fin 128), (T1 m c k (Proc.devRef .tc main_v137_13) : FVec Ideal S64x1x4x128x128 .f32) (ix5 n 0 h i d)
    = (Retention.gq (dec h) (kOf X h) (vOf X h) (oOf Y h) 8192 (n.val * 128 + i.val) d : EReal)
  gk : ∀ n : Fin 64, 64 - k ≤ n.val → ∀ (h : Fin 4) (j d : Fin 128), (T1 m c k (Proc.devRef .tc main_v137_14) : FVec Ideal S64x1x4x128x128 .f32) (ix5 n 0 h j d)
    = (Retention.gk (dec h) (qOf X h) (vOf X h) (oOf Y h) 8192 (n.val * 128 + j.val) d : EReal)
  gv : ∀ n : Fin 64, 64 - k ≤ n.val → ∀ (h : Fin 4) (j : Fin 128) (e : Fin 256), (T1 m c k (Proc.devRef .tc main_v137_15) : FVec Ideal S64x1x4x128x256 .f32) (ix5 n 0 h j e)
    = (Retention.gv (dec h) (qOf X h) (kOf X h) (oOf Y h) 8192 (n.val * 128 + j.val) e : EReal)

omit A in
theorem Done1.first : Done1 m c X Y 0 where
  state h d e := by
    unfold T1
    rw [tested1 _ _ (by decide)]
    refine (zero1 m c h d e).trans ?_
    simp [stateG]
  gq n hn := absurd n.isLt (by omega)
  gk n hn := absurd n.isLt (by omega)
  gv n hn := absurd n.isLt (by omega)

theorem Done1.next {k : ℕ} (hk : k < 64) (ih : Done1 m c X Y k) : Done1 m c X Y (k + 1) := by
  obtain ⟨e0, e1, e2, -, -, -⟩ := carries0 m c
  obtain ⟨f1, f2, f3, f4, f5, f6, f7, f8, f9, f10, -⟩ := carries1 m c
  obtain ⟨c0, c1, c2, c3, c4, c5, c6⟩ := cuts1 (T1 m c k)
  obtain ⟨p0, p1, p2⟩ := puts1 (T1 m c k)
  have still := T1_still m c k
  have still0 := T0_still m c 64
  have D0 := done0 A 64 le_rfl
  obtain ⟨N, hN⟩ : ∃ N : Fin 64, N.val = 63 - k := ⟨⟨63 - k, by omega⟩, rfl⟩
  have hi : after blocks.body1.ops (T1 m c k) (Proc.devRef .tc main_while1b_v185) = fun _ => BitVec.ofNat 32 N.val := by
    rw [index1, T1_count, hN]
    funext i
    show 64#32 - BitVec.ofNat 32 k - 1#32 = BitVec.ofNat 32 (63 - k)
    apply BitVec.eq_of_toNat_eq
    simp only [BitVec.toNat_sub, BitVec.toNat_ofNat]
    omega
  have ho : ∀ (h : Fin 4) (i : Fin 128) (e : Fin 256), (after blocks.body1.ops (T1 m c k) (Proc.devRef .tc main_while1b_v186) : FVec Ideal S1x4x128x256 .f32) (ix4 0 h i e) = (oOf Y h (N.val * 128 + i.val) e : EReal) := fun h i e => by
    rw [c0, still _ (by decide)]
    refine (cutV_at _ _ hi h i _ e).trans ((chunks1 m c N h i e).trans ?_)
    rw [still0 _ (by decide)]
    refine Eq.trans ?_ (A.y ⟨N.val * 128 + i.val, by omega⟩ h e)
    refine congrFun ?_ _
    simp only [afterL_cons, afterL_nil]
    after_reads_simp
  have hkk : ∀ (h : Fin 4) (i d : Fin 128), (after blocks.body1.ops (T1 m c k) (Proc.devRef .tc main_while1b_v187) : FVec Ideal S1x4x128x128 .f32) (ix4 0 h i d) = (kOf X h (N.val * 128 + i.val) d : EReal) := fun h i d => by
    rw [c1, still _ (by decide), f1, still0 _ (by decide)]
    exact (cutQ_at _ _ hi h i _ d).trans (E_k A N h i d)
  have hq : ∀ (h : Fin 4) (i d : Fin 128), (after blocks.body1.ops (T1 m c k) (Proc.devRef .tc main_while1b_v188) : FVec Ideal S1x4x128x128 .f32) (ix4 0 h i d) = (qOf X h (N.val * 128 + i.val) d : EReal) := fun h i d => by
    rw [c2, still _ (by decide), f2, still0 _ (by decide)]
    exact (cutQ_at _ _ hi h i _ d).trans (E_q A N h i d)
  have hv : ∀ (h : Fin 4) (i : Fin 128) (e : Fin 256), (after blocks.body1.ops (T1 m c k) (Proc.devRef .tc main_while1b_v189) : FVec Ideal S1x4x128x256 .f32) (ix4 0 h i e) = (vOf X h (N.val * 128 + i.val) e : EReal) := fun h i e => by
    rw [c3, still _ (by decide), f3, still0 _ (by decide)]
    exact (cutV_at _ _ hi h i _ e).trans (E_v A N h i e)
  have hsc : ∀ (h : Fin 4) (i j : Fin 128), (after blocks.body1.ops (T1 m c k) (Proc.devRef .tc main_while1b_v190) : FVec Ideal S1x4x128x128 .f32) (ix4 0 h i j)
      = ((qk (qOf X h) (kOf X h) (N.val * 128 + i.val) (N.val * 128 + j.val) * w (dec h) i j : ℝ) : EReal) := fun h i j => by
    rw [c4, still _ (by decide), f4]
    exact (cutQ_at _ _ hi h i _ j).trans (D0.scores N N.isLt h i j)
  have hs : ∀ (h : Fin 4) (d : Fin 128) (e : Fin 256), (after blocks.body1.ops (T1 m c k) (Proc.devRef .tc main_while1b_v191) : FVec Ideal S1x4x128x256 .f32) (ix4 0 h d e)
      = (Retention.state (dec h) (kOf X h) (vOf X h) (N.val * 128) d e : EReal) := fun h d e => by
    rw [c5, still _ (by decide), f5]
    exact (cutV_at _ _ hi h d _ e).trans (D0.states N N.isLt h d e)
  have ha : ∀ (h : Fin 4) (j d : Fin 128), (after blocks.body1.ops (T1 m c k) (Proc.devRef .tc main_while1b_v192) : FVec Ideal S1x4x128x128 .f32) (ix4 0 h j d) = ((kOf X h (N.val * 128 + j.val) d * dec h (128 - 1 - j.val) : ℝ) : EReal) := fun h j d => by
    rw [c6, still _ (by decide), f6]
    exact (cutQ_at _ _ hi h j _ d).trans (D0.aged N N.isLt h j d)
  have hw : ∀ (h : Fin 4) (i j : Fin 128), (T1 m c k (Proc.devRef .tc main_v137_7) : FVec Ideal S1x4x128x128 .f32) (ix4 0 h i j) = (w (dec h) i j : EReal) := fun h i j => by
    rw [still _ (by decide), f7, still0 _ (by decide)]; exact E_w h i j
  have hqd : ∀ (h : Fin 4) (i : Fin 128), (T1 m c k (Proc.devRef .tc main_v137_8) : FVec Ideal S1x4x128x1 .f32) (ix4 0 h i 0) = (dec h (i.val + 1) : EReal) := fun h i => by
    rw [still _ (by decide), f8, still0 _ (by decide)]; exact E_qd h i
  have hcd : ∀ (h : Fin 4), (T1 m c k (Proc.devRef .tc main_v137_9) : FVec Ideal S1x4x1x1 .f32) (ix4 0 h 0 0) = (dec h 128 : EReal) := fun h => by
    rw [still _ (by decide), f9, still0 _ (by decide)]; exact E_cd h
  have hkd : ∀ (h : Fin 4) (i : Fin 128), (T1 m c k (Proc.devRef .tc main_v137_10) : FVec Ideal S1x4x128x1 .f32) (ix4 0 h i 0) = (dec h (128 - 1 - i.val) : EReal) := fun h i => by
    rw [still _ (by decide), f10, still0 _ (by decide)]; exact E_kd h i
  have hg : ∀ (h : Fin 4) (d : Fin 128) (e : Fin 256), (T1 m c k (Proc.devRef .tc main_v137_12) : FVec Ideal S1x4x128x256 .f32) (ix4 0 h d e)
      = (stateG (dec h) (qOf X h) (oOf Y h) (N.val * 128 + 128) (k * 128) d e : EReal) := fun h d e => by
    rw [show N.val * 128 + 128 = (64 - k) * 128 by omega]; exact ih.state h d e
  have hoq : ∀ (h : Fin 4) (i : Fin 128) (e : Fin 256), (after blocks.body1.ops (T1 m c k) (Proc.devRef .tc main_while1b_v202) : FVec Ideal S1x4x128x256 .f32) (ix4 0 h i e)
      = ((oOf Y h (N.val * 128 + i.val) e * dec h (i.val + 1) : ℝ) : EReal) := fun h i e => by
    rw [late1]; exact lateOf_at h (ho h) (hqd h) i e
  have hgp : ∀ (h : Fin 4) (i j : Fin 128), (after blocks.body1.ops (T1 m c k) (Proc.devRef .tc main_while1b_v211) : FVec Ideal S1x4x128x128 .f32) (ix4 0 h i j)
      = ((ov (vOf X h) (oOf Y h) (N.val * 128 + i.val) (N.val * 128 + j.val) * w (dec h) i j : ℝ) : EReal) := fun h i j => by
    rw [gradP1]; exact gradPOf_at h (hw h) (hv h) (ho h) i j
  have hT : 8192 = N.val * 128 + (128 + k * 128) := by omega
  refine ⟨fun h d e => ?_, fun n hn h i d => ?_, fun n hn h j d => ?_, fun n hn h j e => ?_⟩
  all_goals rw [T1_succ, tested1 _ _ (by decide)]
  · rw [gradS1]
    refine (gradSOf_at h (hq h) (hoq h) (hg h) (hcd h) d e).trans ?_
    rw [show 64 - (k + 1) = N.val by omega, show (k + 1) * 128 = 128 + k * 128 by omega, stateG_step _ _ (dec_add h)]
    simp only [mul_comm (qOf X h _ _)]
  · rw [p0]
    refine (putQ_at _ _ hi n h i _ _ d).trans ?_
    split_ifs with hnk
    · subst hnk
      rw [gradQ1]
      refine (gradQOf_at h (hkk h) (hgp h) (hoq h) (hs h) i d).trans ?_
      rw [hT, gq_cut _ _ _ (dec_add h), add_comm]
    · exact ih.gq n (by have : n.val ≠ N.val := fun e => hnk (Fin.ext e); omega) h i d
  · rw [p1]
    refine (putQ_at _ _ hi n h j _ _ d).trans ?_
    split_ifs with hnk
    · subst hnk
      rw [gradK1]
      refine (gradKOf_at h (hq h) (hgp h) (hv h) (hg h) (hkd h) j d).trans ?_
      rw [hT, gk_cut _ _ _ (dec_add h), add_comm]
      simp only [mul_comm (vOf X h _ _)]
    · exact ih.gk n (by have : n.val ≠ N.val := fun e => hnk (Fin.ext e); omega) h j d
  · rw [p2]
    refine (putV_at _ _ hi n h j _ _ e).trans ?_
    split_ifs with hnk
    · subst hnk
      rw [gradV1]
      refine (gradVOf_at h (ha h) (hsc h) (ho h) (hg h) j e).trans ?_
      rw [hT, gv_cut _ _ _ (dec_add h), add_comm]
      simp only [mul_comm]
    · exact ih.gv n (by have : n.val ≠ N.val := fun e => hnk (Fin.ext e); omega) h j e

theorem done1 : ∀ k ≤ 64, Done1 m c X Y k
  | 0, _ => Done1.first
  | k + 1, hk => Done1.next A hk (done1 k (by omega))

end Cert.RetReferenceIdeal.Lines

end
-- ==== Proof.RetStep.lean ====
/- What one grid point of the retention gradient leaves in its output block and in the carried state gradient: the pieces
   its run found, as one list over the four heads and the four chunks of a step. -/
module

public import proofs.«01_k».proof.Proof.Gen.RetKernelIdeal.Value
public import Idealize.ShloMosaic.Lib.Tactic
public import Idealize.ShloMosaic.Lib.Pipeline.ReadBack

@[expose] public section

set_option maxRecDepth 16384

noncomputable section

namespace Cert.RetKernelIdeal.Step

open Cert.RetKernelIdeal Cert.RetKernelIdeal.Gen Idealize.ShloMosaic Idealize.ShloMosaic.TcCoe Idealize.SL.Sem

variable {F : FTy → Type} [FloatOps F]

/-! ## One head of one chunk -/

/-- The state gradient, written as the products read it. -/
def half (ds : FVec F S128x256 .f32) : FVec F S128x256 .bf16 := truncf .bf16 ds bitsLt_bf16_f32

/-- The chunk's rows of the gradient of `q`: from inside the chunk and from the state before it, scaled and rotated back. -/
def dqPart (D : Vec F S1x256x256 .f32) (K : Vec F S256x128 .f32) (V O : Vec F S256x256 .bf16) (QD : Vec F S1x256x1 .f32) (ST : Vec F S1x1x128x256 .bf16)
    (CR SR : Vec F S256x128 .f32) : FVec F S256x128 .bf16 :=
  k0_pay17 (k0_pay5 CR) (k0_pay6 SR) (k0_pay13 O QD) (k0_pay16 D K V O) ST

/-- The chunk's rows of the gradient of `k`, from inside the chunk and from the gradient of the state after it. -/
def dkPart (D : Vec F S1x256x256 .f32) (Q : Vec F S256x128 .bf16) (V O : Vec F S256x256 .bf16) (KD : Vec F S1x256x1 .f32) (CR SR : Vec F S256x128 .f32)
    (ds : FVec F S128x256 .f32) : FVec F S256x128 .bf16 :=
  k0_pay73 (k0_pay5 CR) (k0_pay6 SR) (addf (k0_pay20 (k0_pay7 Q) (k0_pay15 D V O))
    (mulf (matmul dot_S256x256_S128x256_S256x128_1_1_0_0_n_n none (k0_pay10 V) (half ds) (constant S256x128 .f32 0x00000000#32))
      (broadcastTo S256x128 (shapeCast S256x1 KD shapeCasts_S1x256x1_S256x1) broadcasts_S256x1_S256x128)))

/-- The chunk's rows of the gradient of `v`, likewise. -/
def dvPart (D : Vec F S1x256x256 .f32) (Q : Vec F S256x128 .bf16) (K : Vec F S256x128 .f32) (O : Vec F S256x256 .bf16) (KD : Vec F S1x256x1 .f32)
    (ds : FVec F S128x256 .f32) : FVec F S256x256 .bf16 :=
  k0_pay74 (addf (k0_pay19 (k0_pay12 O) (k0_pay14 D Q K))
    (matmul dot_S256x128_S128x256_S256x256_1_0_0_1_n_n none (k0_pay18 (k0_pay8 K) KD) (half ds) (constant S256x256 .f32 0x00000000#32)))

/-- The gradient of the state before a chunk, from that of the state after it. -/
def dsPart (Q : Vec F S256x128 .bf16) (O : Vec F S256x256 .bf16) (QD : Vec F S1x256x1 .f32) (CD : Vec F S1x1x1 .f32) (ds : FVec F S128x256 .f32) : FVec F S128x256 .f32 :=
  k0_pay72 (k0_pay21 (k0_pay7 Q) (k0_pay13 O QD)) ds (k0_pay71 CD)

/-! ## The blocks a point holds, cut by chunk and head -/

theorem fit2 {r w n p : ℕ} (ch hd : Fin 4) (o : ℕ) (hr : 4 * r = n) (hw : o + 4 * w ≤ p) :
    ∀ a, (![ch.val * r, o + hd.val * w] : Fin 2 → ℕ) a + (![r, w] : Fin 2 → ℕ) a ≤ (![n, p] : Fin 2 → ℕ) a := fun a => by
  have h1 : (ch.val + 1) * r ≤ 4 * r := Nat.mul_le_mul_right r ch.isLt
  have h2 : (hd.val + 1) * w ≤ 4 * w := Nat.mul_le_mul_right w hd.isLt
  rw [Nat.succ_mul] at h1 h2
  match a with
  | ⟨0, _⟩ => exact (show ch.val * r + r ≤ n by omega)
  | ⟨1, _⟩ => exact (show o + hd.val * w + w ≤ p by omega)

theorem fit3 {r w : ℕ} (hd : Fin 4) : ∀ a, (![hd.val, 0, 0] : Fin 3 → ℕ) a + (![1, r, w] : Fin 3 → ℕ) a ≤ (![4, r, w] : Fin 3 → ℕ) a := fun a => by
  have := hd.isLt
  match a with
  | ⟨0, _⟩ => show hd.val + 1 ≤ 4; omega
  | ⟨1, _⟩ => show 0 + r ≤ r; omega
  | ⟨2, _⟩ => show 0 + w ≤ w; omega

theorem fit4 (ch hd : Fin 4) : ∀ a, (![ch.val, hd.val, 0, 0] : Fin 4 → ℕ) a + (![1, 1, 128, 256] : Fin 4 → ℕ) a ≤ S4x4x128x256.size a := fun a => by
  have := hd.isLt; have := ch.isLt
  match a with
  | ⟨0, _⟩ => show ch.val + 1 ≤ 4; omega
  | ⟨1, _⟩ => show hd.val + 1 ≤ 4; omega
  | ⟨2, _⟩ => show 0 + 128 ≤ 128; omega
  | ⟨3, _⟩ => show 0 + 256 ≤ 256; omega

variable {e : EltTy}

def cut512 (x : Vec F S1024x512 e) (ch hd : Fin 4) : Vec F S256x128 e :=
  View.ld x (Rect.unit ![ch.val * 256, 0 + hd.val * 128] ![256, 128] (fit2 (r := 256) (w := 128) (n := 1024) (p := 512) ch hd 0 rfl (by omega)))
def cut1024 (x : Vec F S1024x1024 e) (ch hd : Fin 4) : Vec F S256x256 e :=
  View.ld x (Rect.unit ![ch.val * 256, 0 + hd.val * 256] ![256, 256] (fit2 (r := 256) (w := 256) (n := 1024) (p := 1024) ch hd 0 rfl (by omega)))
def cut128 (x : Vec F S1024x128 e) (ch : Fin 4) : Vec F S256x128 e :=
  View.ld x (Rect.unit ![ch.val * 256, 0 + (0 : Fin 4).val * 0] ![256, 128] (fun a => by
    have := ch.isLt
    match a with
    | ⟨0, _⟩ => show ch.val * 256 + 256 ≤ 1024; omega
    | ⟨1, _⟩ => show 0 + 0 * 0 + 128 ≤ 128; omega))
def cutSt (x : Vec F S4x4x128x256 e) (ch hd : Fin 4) : Vec F S1x1x128x256 e :=
  View.ld x (Rect.unit ![ch.val, hd.val, 0, 0] ![1, 1, 128, 256] (fit4 ch hd))
def cutD (x : Vec F S4x256x256 e) (hd : Fin 4) : Vec F S1x256x256 e := View.ld x (Rect.unit ![hd.val, 0, 0] ![1, 256, 256] (fit3 (r := 256) (w := 256) hd))
def cutR (x : Vec F S4x256x1 e) (hd : Fin 4) : Vec F S1x256x1 e := View.ld x (Rect.unit ![hd.val, 0, 0] ![1, 256, 1] (fit3 (r := 256) (w := 1) hd))
def cutC (x : Vec F S4x1x1 e) (hd : Fin 4) : Vec F S1x1x1 e := View.ld x (Rect.unit ![hd.val, 0, 0] ![1, 1, 1] (fit3 (r := 1) (w := 1) hd))
def cutS (x : Vec F S4x128x256 e) (hd : Fin 4) : Vec F S1x128x256 e := View.ld x (Rect.unit ![hd.val, 0, 0] ![1, 128, 256] (fit3 (r := 128) (w := 256) hd))

/-- Where one head's parts are stored in the output block, the last first: the gradients of `v` and of `k` chunk by chunk, before them those of `q`. -/
def headPieces (hd : Fin 4) (dq dk : Fin 4 → FVec F S256x128 .bf16) (dv : Fin 4 → FVec F S256x256 .bf16) : List (View.Piece (Elt F) S1024x2048 .bf16) :=
  ([0, 1, 2, 3] : List (Fin 4)).flatMap (fun ch =>
    [⟨Rect.unit ![ch.val * 256, 1024 + hd.val * 256] ![256, 256] (fit2 (r := 256) (w := 256) (n := 1024) (p := 2048) ch hd 1024 rfl (by omega)), dv ch⟩,
     ⟨Rect.unit ![ch.val * 256, 512 + hd.val * 128] ![256, 128] (fit2 (r := 256) (w := 128) (n := 1024) (p := 2048) ch hd 512 rfl (by omega)), dk ch⟩])
  ++ ([3, 2, 1, 0] : List (Fin 4)).map (fun ch =>
    ⟨Rect.unit ![ch.val * 256, 0 + hd.val * 128] ![256, 128] (fit2 (r := 256) (w := 128) (n := 1024) (p := 2048) ch hd 0 rfl (by omega)), dq ch⟩)

section Pieces

variable (x0 : Vec F S1024x512 .bf16) (x1 : Vec F S1024x512 .f32) (x2 : Vec F S1024x1024 .bf16) (x3 : Vec F S1024x1024 .bf16) (x4 : Vec F S4x4x128x256 .bf16) (x5 : Vec F S4x256x256 .f32) (x6 : Vec F S4x256x1 .f32) (x7 : Vec F S4x256x1 .f32) (x8 : Vec F S4x1x1 .f32) (x9 : Vec F S1024x128 .f32) (x10 : Vec F S1024x128 .f32)

def dsAfter0 (ds : FVec F S128x256 .f32) (ch hd : Fin 4) : FVec F S128x256 .f32 :=
  dsPart (cut512 x0 ch hd) (cut1024 x3 ch hd) (cutR x6 hd) (cutC x8 hd) ds

/-- The gradient of the state after chunk `ch` of the step, from that of the state after the step: the later chunks in turn. -/
def dsAt (ds : FVec F S128x256 .f32) (hd : Fin 4) (n : ℕ) : FVec F S128x256 .f32 :=
  match n with
  | 0 => dsAfter0 x0 x3 x6 x8 (dsAfter0 x0 x3 x6 x8 (dsAfter0 x0 x3 x6 x8 ds 3 hd) 2 hd) 1 hd
  | 1 => dsAfter0 x0 x3 x6 x8 (dsAfter0 x0 x3 x6 x8 ds 3 hd) 2 hd
  | 2 => dsAfter0 x0 x3 x6 x8 ds 3 hd
  | _ => ds

def dqBlk (ch hd : Fin 4) : FVec F S256x128 .bf16 :=
  dqPart (cutD x5 hd) (cut512 x1 ch hd) (cut1024 x2 ch hd) (cut1024 x3 ch hd) (cutR x6 hd) (cutSt x4 ch hd) (cut128 x9 ch) (cut128 x10 ch)
def dkBlk (ds : FVec F S128x256 .f32) (ch hd : Fin 4) : FVec F S256x128 .bf16 :=
  dkPart (cutD x5 hd) (cut512 x0 ch hd) (cut1024 x2 ch hd) (cut1024 x3 ch hd) (cutR x7 hd) (cut128 x9 ch) (cut128 x10 ch) (dsAt x0 x3 x6 x8 ds hd ch.val)
def dvBlk (ds : FVec F S128x256 .f32) (ch hd : Fin 4) : FVec F S256x256 .bf16 :=
  dvPart (cutD x5 hd) (cut512 x0 ch hd) (cut512 x1 ch hd) (cut1024 x3 ch hd) (cutR x7 hd) (dsAt x0 x3 x6 x8 ds hd ch.val)

/-- What one head stores into the output block, last first. -/
def outHead (ds : FVec F S128x256 .f32) (hd : Fin 4) : List (View.Piece (Elt F) S1024x2048 .bf16) :=
  headPieces hd (fun ch => dqBlk x1 x2 x3 x4 x5 x6 x9 x10 ch hd) (fun ch => dkBlk x0 x2 x3 x5 x6 x7 x8 x9 x10 ds ch hd) (fun ch => dvBlk x0 x1 x3 x5 x6 x7 x8 ds ch hd)

/-- What one head leaves in the carried state gradient. -/
def scHead (ds : FVec F S128x256 .f32) (hd : Fin 4) : View.Piece (Elt F) S4x128x256 .f32 :=
  ⟨Rect.unit ![hd.val, 0, 0] ![1, 128, 256] (fit3 (r := 128) (w := 256) hd), k0_pay2 (dsAfter0 x0 x3 x6 x8 (dsAt x0 x3 x6 x8 ds hd 0) 0 hd)⟩

end Pieces

section Cases

variable (c : Dev nD) (i : grid0.Coords) (a1 : Memref sig .tc .vmem S1024x512 .bf16) (h1 : a1.IsWhole) (a2 : Memref sig .tc .vmem S1024x512 .f32) (h2 : a2.IsWhole) (a3 : Memref sig .tc .vmem S1024x1024 .bf16) (h3 : a3.IsWhole) (a4 : Memref sig .tc .vmem S1024x1024 .bf16) (h4 : a4.IsWhole) (a5 : Memref sig .tc .vmem S4x4x128x256 .bf16) (h5 : a5.IsWhole) (a6 : Memref sig .tc .vmem S4x256x256 .f32) (h6 : a6.IsWhole) (a7 : Memref sig .tc .vmem S4x256x1 .f32) (h7 : a7.IsWhole) (a8 : Memref sig .tc .vmem S4x256x1 .f32) (h8 : a8.IsWhole) (a9 : Memref sig .tc .vmem S4x1x1 .f32) (h9 : a9.IsWhole) (a10 : Memref sig .tc .vmem S1024x128 .f32) (h10 : a10.IsWhole) (a11 : Memref sig .tc .vmem S1024x128 .f32) (h11 : a11.IsWhole) (a13 : Memref sig .tc .vmem S1024x2048 .bf16) (h13 : a13.IsWhole) (a14 : Memref sig .tc .vmem S4x128x256 .f32) (h14 : a14.IsWhole)
  (x0 : Vec F S1024x512 .bf16) (x1 : Vec F S1024x512 .f32) (x2 : Vec F S1024x1024 .bf16) (x3 : Vec F S1024x1024 .bf16) (x4 : Vec F S4x4x128x256 .bf16) (x5 : Vec F S4x256x256 .f32) (x6 : Vec F S4x256x1 .f32) (x7 : Vec F S4x256x1 .f32) (x8 : Vec F S4x1x1 .f32) (x9 : Vec F S1024x128 .f32) (x10 : Vec F S1024x128 .f32) (xs0 : Vec F S4x128x256 .f32)

set_option maxHeartbeats 40000000 in
theorem out_B (hc : ¬cond0_0 i) :
    out0_B_11 c i a1 h1 a2 h2 a3 h3 a4 h4 a5 h5 a6 h6 a7 h7 a8 h8 a9 h9 a10 h10 a11 h11 a13 h13 a14 h14 hc x0 x1 x2 x3 x4 x5 x6 x7 x8 x9 x10 xs0 = View.canon (([3, 2, 1, 0] : List (Fin 4)).flatMap fun hd => outHead x0 x1 x2 x3 x4 x5 x6 x7 x8 x9 x10 (k0_pay67 (cutS xs0 hd)) hd) := by
  unfold out0_B_11
  rw [View.read_writes_eq_canon _ _ _ (cover0_B_11 c i a1 h1 a2 h2 a3 h3 a4 h4 a5 h5 a6 h6 a7 h7 a8 h8 a9 h9 a10 h10 a11 h11 a13 h13 a14 h14 hc x0 x1 x2 x3 x4 x5 x6 x7 x8 x9 x10 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread, h14.read_unread]
  rfl

set_option maxHeartbeats 40000000 in
theorem sc_B (hc : ¬cond0_0 i) :
    sout0_B_0 c i a1 h1 a2 h2 a3 h3 a4 h4 a5 h5 a6 h6 a7 h7 a8 h8 a9 h9 a10 h10 a11 h11 a13 h13 a14 h14 hc x0 x1 x2 x3 x4 x5 x6 x7 x8 x9 x10 xs0 = View.canon (([3, 2, 1, 0] : List (Fin 4)).map fun hd => scHead x0 x3 x6 x8 (k0_pay67 (cutS xs0 hd)) hd) := by
  unfold sout0_B_0
  rw [View.read_writes_eq_canon _ _ _ (scover0_B_0 c i a1 h1 a2 h2 a3 h3 a4 h4 a5 h5 a6 h6 a7 h7 a8 h8 a9 h9 a10 h10 a11 h11 a13 h13 a14 h14 hc x0 x1 x2 x3 x4 x5 x6 x7 x8 x9 x10 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h13.read_unread, h14.read_unread]
  rfl

theorem hz : (![0, 0, 0] : Fin 3 → ℕ) = fun _ => 0 := funext fun a => match a with | ⟨0, _⟩ => rfl | ⟨1, _⟩ => rfl | ⟨2, _⟩ => rfl

/-- A load of one head's gradient after the first point's fill of them all. -/
theorem filled {sp : Space} (v : View sig .tc sp S4x128x256 .f32) (w : S4x128x256.Idx → Elt F .f32) (L : List (View.Piece (Elt F) S4x128x256 .f32)) (r : Rect S4x128x256) :
    v.readCov (⟨Rect.unit ![0, 0, 0] ![4, 128, 256] inb_S4x128x256_S4x128x256_0_0_0, w⟩ :: L) r.toLoadRect = View.ld w r := by
  rw [View.readCov_eq_canon']
  exact congrArg (fun X => View.ld X r) (View.canon_cons_unit_zero (S := S4x128x256) hz _ _ _)

/-- … and it does not see what another head stored since. -/
theorem skipped {sp : Space} (v : View sig .tc sp S4x128x256 .f32) (p q : ℕ) (hp) (hq) (w) (L : List (View.Piece (Elt F) S4x128x256 .f32)) (h : p ≠ q) :
    v.readCov (⟨Rect.unit ![p, 0, 0] ![1, 128, 256] hp, w⟩ :: L) (Rect.unit ![q, 0, 0] ![1, 128, 256] hq).toLoadRect
      = v.readCov L (Rect.unit ![q, 0, 0] ![1, 128, 256] hq).toLoadRect := by
  rw [View.readCov_eq_canon', View.readCov_eq_canon']
  funext j
  refine View.canon_cons_of_not_mem _ L ?_
  intro hm
  have h0 := (Rect.mem_set_unit (inb := hp)).mp hm 0
  have e : (((Rect.unit (s := S4x128x256) ![q, 0, 0] ![1, 128, 256] hq).idx j) 0 : ℕ) = q + (j 0 : ℕ) := (show q + 1 * (j 0 : ℕ) = _ by omega)
  have l : (j 0 : ℕ) < 1 := (j 0).isLt
  have h0' : p ≤ (((Rect.unit (s := S4x128x256) ![q, 0, 0] ![1, 128, 256] hq).idx j) 0 : ℕ) ∧ (((Rect.unit (s := S4x128x256) ![q, 0, 0] ![1, 128, 256] hq).idx j) 0 : ℕ) < p + 1 := h0
  omega

set_option maxHeartbeats 4000000 in
theorem sc_A (hc : cond0_0 i) :
    sout0_A_0 c i a1 h1 a2 h2 a3 h3 a4 h4 a5 h5 a6 h6 a7 h7 a8 h8 a9 h9 a10 h10 a11 h11 a13 h13 a14 h14 hc x0 x1 x2 x3 x4 x5 x6 x7 x8 x9 x10 = View.canon ((([3, 2, 1, 0] : List (Fin 4)).map fun hd => scHead x0 x3 x6 x8 (k0_pay67 (cutS k0_pay3 hd)) hd)
      ++ [⟨Rect.unit ![0, 0, 0] ![4, 128, 256] inb_S4x128x256_S4x128x256_0_0_0, k0_pay3⟩]) := by
  unfold sout0_A_0
  rw [View.read_writes_eq_canon _ _ _ (scover0_A_0 c i a1 h1 a2 h2 a3 h3 a4 h4 a5 h5 a6 h6 a7 h7 a8 h8 a9 h9 a10 h10 a11 h11 a13 h13 a14 h14 hc x0 x1 x2 x3 x4 x5 x6 x7 x8 x9 x10)]
  unfold kernelRun0_A
  dsimp only
  sl_unfold_words
  simp (discharger := decide) only [↓skipped, ↓filled, View.readAt_eq_ld, h1.read_unread, h2.read_unread, h3.read_unread, h4.read_unread, h5.read_unread, h6.read_unread, h7.read_unread, h8.read_unread, h9.read_unread, h10.read_unread, h11.read_unread, h13.read_unread, h14.read_unread]
  generalize k0_pay3 (F := F) = z
  rfl

set_option maxHeartbeats 4000000 in
theorem out_A (hc : cond0_0 i) :
    out0_A_11 c i a1 h1 a2 h2 a3 h3 a4 h4 a5 h5 a6 h6 a7 h7 a8 h8 a9 h9 a10 h10 a11 h11 a13 h13 a14 h14 hc x0 x1 x2 x3 x4 x5 x6 x7 x8 x9 x10 = View.canon (([3, 2, 1, 0] : List (Fin 4)).flatMap fun hd => outHead x0 x1 x2 x3 x4 x5 x6 x7 x8 x9 x10 (k0_pay67 (cutS k0_pay3 hd)) hd) := by
  unfold out0_A_11
  rw [View.read_writes_eq_canon _ _ _ (cover0_A_11 c i a1 h1 a2 h2 a3 h3 a4 h4 a5 h5 a6 h6 a7 h7 a8 h8 a9 h9 a10 h10 a11 h11 a13 h13 a14 h14 hc x0 x1 x2 x3 x4 x5 x6 x7 x8 x9 x10)]
  unfold kernelRun0_A
  dsimp only
  sl_unfold_words
  simp (discharger := decide) only [↓skipped, ↓filled, View.readAt_eq_ld, h1.read_unread, h2.read_unread, h3.read_unread, h4.read_unread, h5.read_unread, h6.read_unread, h7.read_unread, h8.read_unread, h9.read_unread, h10.read_unread, h11.read_unread, h13.read_unread, h14.read_unread]
  generalize k0_pay3 (F := F) = z
  rfl

end Cases

end Cert.RetKernelIdeal.Step
-- ==== Proof.RetParts.lean ====
/- One head of one chunk of the retention gradient over the real numbers: what each stored piece is, when the blocks the
   point holds are the retention's own quantities over the block's 1024 positions. -/
module

public import proofs.«01_k».proof.Proof.RetStep
public import proofs.«01_k».proof.Proof.RetMath
public import proofs.«01_k».proof.Proof.ProjMath
public import Idealize.ShloMosaic.Lib.Pointwise

@[expose] public section

set_option maxRecDepth 16384

noncomputable section

namespace Cert.RetKernelIdeal.Step

open Cert.RetKernelIdeal Cert.RetKernelIdeal.Gen Idealize.ShloMosaic Idealize.ShloMosaic.TcCoe Idealize.SL.Sem
open Cert.RmsGrad (coe_sum)
open Cert.Retention

/-- The lane half a row away. -/
def half64 (d : Fin 128) : Fin 128 := ⟨(d.val + 128 - 64) % 128, Nat.mod_lt _ (by omega)⟩

/-- The one factor both programs scale the query by. -/
def scale : EReal := Ideal.ofBits FTy.f32 1035273459#32

/-! ## The parts, at an index -/

theorem dsPart_of (Q : Vec Ideal S256x128 .bf16) (O : Vec Ideal S256x256 .bf16) (QD : Vec Ideal S1x256x1 .f32) (CD : Vec Ideal S1x1x1 .f32) (ds : FVec Ideal S128x256 .f32)
    (q : Fin 256 → Fin 128 → ℝ) (o : Fin 256 → Fin 256 → ℝ) (qd : Fin 256 → ℝ) (cd : ℝ) (g : Fin 128 → Fin 256 → ℝ)
    (hQ : ∀ i d, Q (ix2 i d) = (q i d : EReal)) (hO : ∀ i e, O (ix2 i e) = (o i e : EReal)) (hqd : ∀ i, QD (ix3 0 i 0) = (qd i : EReal)) (hcd : CD (ix3 0 0 0) = (cd : EReal))
    (hg : ∀ d e, ds (ix2 d e) = (g d e : EReal)) (d : Fin 128) (e : Fin 256) :
    dsPart Q O QD CD ds (ix2 d e) = ((g d e * cd + ∑ i, q i d * (o i e * qd i) : ℝ) : EReal) := by
  pointwise [dsPart, k0_pay72, k0_pay21, k0_pay7, k0_pay13, k0_pay71, k0_pay11]
  simp only [hQ, hO, hqd, hcd, hg, ← EReal.coe_mul, coe_sum, ← EReal.coe_add]

theorem dvPart_of (D : Vec Ideal S1x256x256 .f32) (Q : Vec Ideal S256x128 .bf16) (K : Vec Ideal S256x128 .f32) (O : Vec Ideal S256x256 .bf16) (KD : Vec Ideal S1x256x1 .f32)
    (ds : FVec Ideal S128x256 .f32) (W : Fin 256 → Fin 256 → ℝ) (q k : Fin 256 → Fin 128 → ℝ) (o : Fin 256 → Fin 256 → ℝ) (kd : Fin 256 → ℝ) (g : Fin 128 → Fin 256 → ℝ)
    (hD : ∀ i j, D (ix3 0 i j) = (W i j : EReal)) (hQ : ∀ i d, Q (ix2 i d) = (q i d : EReal)) (hK : ∀ i d, K (ix2 i d) = (k i d : EReal))
    (hO : ∀ i e, O (ix2 i e) = (o i e : EReal)) (hkd : ∀ i, KD (ix3 0 i 0) = (kd i : EReal)) (hg : ∀ d e, ds (ix2 d e) = (g d e : EReal)) (j e : Fin 256) :
    dvPart D Q K O KD ds (ix2 j e) = (((∑ i, (∑ d, q i d * k j d) * W i j * o i e) + ∑ d, k j d * kd j * g d e : ℝ) : EReal) := by
  pointwise [dvPart, half, k0_pay74, k0_pay19, k0_pay12, k0_pay14, k0_pay18, k0_pay8, k0_pay7, k0_pay9, k0_pay4, k0_pay11]
  simp only [hD, hQ, hK, hO, hkd, hg, ← EReal.coe_mul, coe_sum, ← EReal.coe_add]

theorem dkPart_of (D : Vec Ideal S1x256x256 .f32) (Q : Vec Ideal S256x128 .bf16) (V O : Vec Ideal S256x256 .bf16) (KD : Vec Ideal S1x256x1 .f32) (CR SR : Vec Ideal S256x128 .f32)
    (ds : FVec Ideal S128x256 .f32) (W : Fin 256 → Fin 256 → ℝ) (q : Fin 256 → Fin 128 → ℝ) (v o : Fin 256 → Fin 256 → ℝ) (kd : Fin 256 → ℝ) (g : Fin 128 → Fin 256 → ℝ)
    (hD : ∀ i j, D (ix3 0 i j) = (W i j : EReal)) (hQ : ∀ i d, Q (ix2 i d) = (q i d : EReal)) (hV : ∀ i e, V (ix2 i e) = (v i e : EReal))
    (hO : ∀ i e, O (ix2 i e) = (o i e : EReal)) (hkd : ∀ i, KD (ix3 0 i 0) = (kd i : EReal)) (hg : ∀ d e, ds (ix2 d e) = (g d e : EReal)) (G : Fin 256 → Fin 128 → ℝ)
    (hG : ∀ j d, G j d = (∑ i, (∑ e, o i e * v j e) * W i j * q i d) + (∑ e, v j e * g d e) * kd j) (j : Fin 256) (d : Fin 128) :
    dkPart D Q V O KD CR SR ds (ix2 j d) = (G j d : EReal) * CR (ix2 j d) - (G j (half64 d) : EReal) * SR (ix2 j d) := by
  rw [hG, hG]
  pointwise [dkPart, half, k0_pay73, k0_pay5, k0_pay6, k0_pay20, k0_pay7, k0_pay15, k0_pay10, k0_pay12, k0_pay4, k0_pay11]
  simp only [hD, hQ, hV, hO, hkd, hg, ← EReal.coe_mul, coe_sum, ← EReal.coe_add]
  rfl

theorem dqPart_of (D : Vec Ideal S1x256x256 .f32) (K : Vec Ideal S256x128 .f32) (V O : Vec Ideal S256x256 .bf16) (QD : Vec Ideal S1x256x1 .f32) (ST : Vec Ideal S1x1x128x256 .bf16)
    (CR SR : Vec Ideal S256x128 .f32) (W : Fin 256 → Fin 256 → ℝ) (k : Fin 256 → Fin 128 → ℝ) (v o : Fin 256 → Fin 256 → ℝ) (qd : Fin 256 → ℝ) (st : Fin 128 → Fin 256 → ℝ)
    (hD : ∀ i j, D (ix3 0 i j) = (W i j : EReal)) (hK : ∀ i d, K (ix2 i d) = (k i d : EReal)) (hV : ∀ i e, V (ix2 i e) = (v i e : EReal))
    (hO : ∀ i e, O (ix2 i e) = (o i e : EReal)) (hqd : ∀ i, QD (ix3 0 i 0) = (qd i : EReal)) (hst : ∀ d e, ST (ix4 0 0 d e) = (st d e : EReal)) (G : Fin 256 → Fin 128 → ℝ)
    (hG : ∀ i d, G i d = (∑ j, (∑ e, o i e * v j e) * W i j * k j d) + ∑ e, o i e * qd i * st d e) (j : Fin 256) (d : Fin 128) :
    dqPart D K V O QD ST CR SR (ix2 j d) = (G j d : EReal) * scale * CR (ix2 j d) - (G j (half64 d) : EReal) * scale * SR (ix2 j d) := by
  rw [hG, hG]
  pointwise [dqPart, k0_pay17, k0_pay5, k0_pay6, k0_pay13, k0_pay16, k0_pay15, k0_pay9, k0_pay8, k0_pay11, k0_pay10, k0_pay12, k0_pay4]
  simp only [hD, hK, hV, hO, hqd, hst, ← EReal.coe_mul, coe_sum, ← EReal.coe_add]
  rfl

/-! ## The cuts, at an index -/

section Cuts

variable {e : EltTy}

theorem cut512_at (x : Vec Ideal S1024x512 e) (ch hd : Fin 4) (r : Fin 256) (l : Fin 128) :
    cut512 x ch hd (ix2 r l) = x (ix2 ⟨ch.val * 256 + r.val, by omega⟩ ⟨hd.val * 128 + l.val, by omega⟩) :=
  congrArg x (funext fun a => Fin.ext (match a with
    | ⟨0, _⟩ => (show ch.val * 256 + 1 * r.val = ch.val * 256 + r.val by omega)
    | ⟨1, _⟩ => (show 0 + hd.val * 128 + 1 * l.val = hd.val * 128 + l.val by omega)))

theorem cut1024_at (x : Vec Ideal S1024x1024 e) (ch hd : Fin 4) (r : Fin 256) (l : Fin 256) :
    cut1024 x ch hd (ix2 r l) = x (ix2 ⟨ch.val * 256 + r.val, by omega⟩ ⟨hd.val * 256 + l.val, by omega⟩) :=
  congrArg x (funext fun a => Fin.ext (match a with
    | ⟨0, _⟩ => (show ch.val * 256 + 1 * r.val = ch.val * 256 + r.val by omega)
    | ⟨1, _⟩ => (show 0 + hd.val * 256 + 1 * l.val = hd.val * 256 + l.val by omega)))

theorem cut128_at (x : Vec Ideal S1024x128 e) (ch : Fin 4) (r : Fin 256) (l : Fin 128) :
    cut128 x ch (ix2 r l) = x (ix2 ⟨ch.val * 256 + r.val, by omega⟩ l) :=
  congrArg x (funext fun a => Fin.ext (match a with
    | ⟨0, _⟩ => (show ch.val * 256 + 1 * r.val = ch.val * 256 + r.val by omega)
    | ⟨1, _⟩ => (show 0 + 0 * 0 + 1 * l.val = l.val by omega)))

theorem cutSt_at (x : Vec Ideal S4x4x128x256 e) (ch hd : Fin 4) (d : Fin 128) (l : Fin 256) : cutSt x ch hd (ix4 0 0 d l) = x (ix4 ch hd d l) :=
  congrArg x (funext fun a => Fin.ext (match a with
    | ⟨0, _⟩ => (show ch.val + 1 * 0 = ch.val by omega)
    | ⟨1, _⟩ => (show hd.val + 1 * 0 = hd.val by omega)
    | ⟨2, _⟩ => (show 0 + 1 * d.val = d.val by omega)
    | ⟨3, _⟩ => (show 0 + 1 * l.val = l.val by omega)))

theorem cut3_at {r w : ℕ} (x : (⟨3, ![4, r, w]⟩ : Shape).Idx → Elt Ideal e) (hd : Fin 4) (i : Fin r) (j : Fin w) :
    View.ld (Val := Elt Ideal) x (Rect.unit ![hd.val, 0, 0] ![1, r, w] (fit3 hd)) (ix3 0 i j) = x (ix3 hd i j) :=
  congrArg x (funext fun a => Fin.ext (match a with
    | ⟨0, _⟩ => (show hd.val + 1 * 0 = hd.val by omega)
    | ⟨1, _⟩ => (show 0 + 1 * i.val = i.val by omega)
    | ⟨2, _⟩ => (show 0 + 1 * j.val = j.val by omega)))

end Cuts

/-! ## The blocks of one point -/

/-- The blocks a point holds are head `hd`'s queries `q`, keys `k`, values `v`, cotangents `o`, decays and states over the 1024 positions from `a`. -/
structure Holds (E : ℕ → ℝ) (q k : ℕ → Fin 128 → ℝ) (v o : ℕ → Fin 256 → ℝ) (a : ℕ) (hd : Fin 4)
    (x0 : Vec Ideal S1024x512 .bf16) (x1 : Vec Ideal S1024x512 .f32) (x2 : Vec Ideal S1024x1024 .bf16) (x3 : Vec Ideal S1024x1024 .bf16) (x4 : Vec Ideal S4x4x128x256 .bf16)
    (x5 : Vec Ideal S4x256x256 .f32) (x6 : Vec Ideal S4x256x1 .f32) (x7 : Vec Ideal S4x256x1 .f32) (x8 : Vec Ideal S4x1x1 .f32) : Prop where
  hE : ∀ m n, E (m + n) = E m * E n
  h0 : ∀ (r : Fin 1024) (d : Fin 128), x0 (ix2 r ⟨hd.val * 128 + d.val, by omega⟩) = (q (a + r.val) d : EReal)
  h1 : ∀ (r : Fin 1024) (d : Fin 128), x1 (ix2 r ⟨hd.val * 128 + d.val, by omega⟩) = (k (a + r.val) d : EReal)
  h2 : ∀ (r : Fin 1024) (e : Fin 256), x2 (ix2 r ⟨hd.val * 256 + e.val, by omega⟩) = (v (a + r.val) e : EReal)
  h3 : ∀ (r : Fin 1024) (e : Fin 256), x3 (ix2 r ⟨hd.val * 256 + e.val, by omega⟩) = (o (a + r.val) e : EReal)
  h4 : ∀ (ch : Fin 4) (d : Fin 128) (e : Fin 256), x4 (ix4 ch hd d e) = (state E k v (a + ch.val * 256) d e : EReal)
  h5 : ∀ i j : Fin 256, x5 (ix3 hd i j) = (w E i j : EReal)
  h6 : ∀ i : Fin 256, x6 (ix3 hd i 0) = (E (i.val + 1) : EReal)
  h7 : ∀ i : Fin 256, x7 (ix3 hd i 0) = (E (256 - 1 - i.val) : EReal)
  h8 : x8 (ix3 hd 0 0) = (E 256 : EReal)

namespace Holds

variable {E : ℕ → ℝ} {q k : ℕ → Fin 128 → ℝ} {v o : ℕ → Fin 256 → ℝ} {a : ℕ} {hd : Fin 4}
  {x0 : Vec Ideal S1024x512 .bf16} {x1 : Vec Ideal S1024x512 .f32} {x2 : Vec Ideal S1024x1024 .bf16} {x3 : Vec Ideal S1024x1024 .bf16} {x4 : Vec Ideal S4x4x128x256 .bf16}
  {x5 : Vec Ideal S4x256x256 .f32} {x6 : Vec Ideal S4x256x1 .f32} {x7 : Vec Ideal S4x256x1 .f32} {x8 : Vec Ideal S4x1x1 .f32}
  (H : Holds E q k v o a hd x0 x1 x2 x3 x4 x5 x6 x7 x8)

include H

theorem q_at (ch : Fin 4) (r : Fin 256) (d : Fin 128) : cut512 x0 ch hd (ix2 r d) = (q (a + ch.val * 256 + r.val) d : EReal) := by
  rw [cut512_at, H.h0, Nat.add_assoc]
theorem k_at (ch : Fin 4) (r : Fin 256) (d : Fin 128) : cut512 x1 ch hd (ix2 r d) = (k (a + ch.val * 256 + r.val) d : EReal) := by
  rw [cut512_at, H.h1, Nat.add_assoc]
theorem v_at (ch : Fin 4) (r : Fin 256) (e : Fin 256) : cut1024 x2 ch hd (ix2 r e) = (v (a + ch.val * 256 + r.val) e : EReal) := by
  rw [cut1024_at, H.h2, Nat.add_assoc]
theorem o_at (ch : Fin 4) (r : Fin 256) (e : Fin 256) : cut1024 x3 ch hd (ix2 r e) = (o (a + ch.val * 256 + r.val) e : EReal) := by
  rw [cut1024_at, H.h3, Nat.add_assoc]

/-- One chunk of the state gradient's way back. -/
theorem ds_step (ds : FVec Ideal S128x256 .f32) (ch : Fin 4) (b R : ℕ) (hb : b = a + ch.val * 256 + 256)
    (hg : ∀ d e, ds (ix2 d e) = (stateG E q o b R d e : EReal)) (d : Fin 128) (e : Fin 256) :
    dsAfter0 x0 x3 x6 x8 ds ch hd (ix2 d e) = (stateG E q o (a + ch.val * 256) (256 + R) d e : EReal) := by
  subst hb
  rw [stateG_step q o H.hE]
  exact dsPart_of _ _ _ _ _ _ _ _ _ _ (H.q_at ch) (H.o_at ch) (fun i => (cut3_at x6 hd i 0).trans (H.h6 i)) ((cut3_at x8 hd 0 0).trans H.h8) hg d e

theorem ds_at (ds : FVec Ideal S128x256 .f32) (R : ℕ) (hg : ∀ d e, ds (ix2 d e) = (stateG E q o (a + 1024) R d e : EReal)) (ch : Fin 4) (d : Fin 128) (e : Fin 256) :
    dsAt x0 x3 x6 x8 ds hd ch.val (ix2 d e) = (stateG E q o (a + ch.val * 256 + 256) ((3 - ch.val) * 256 + R) d e : EReal) := by
  have e3 := H.ds_step ds 3 (a + 1024) R rfl hg
  have e2 := H.ds_step _ 2 _ (256 + R) rfl e3
  have e1 := H.ds_step _ 1 _ (256 + (256 + R)) rfl e2
  match ch with
  | 0 => exact (e1 d e).trans (congrArg (fun n => ((stateG E q o _ n d e : ℝ) : EReal)) (show 256 + (256 + (256 + R)) = (3 - 0) * 256 + R by omega))
  | 1 => exact (e2 d e).trans (congrArg (fun n => ((stateG E q o _ n d e : ℝ) : EReal)) (show 256 + (256 + R) = (3 - 1) * 256 + R by omega))
  | 2 => exact (e3 d e).trans (congrArg (fun n => ((stateG E q o _ n d e : ℝ) : EReal)) (show 256 + R = (3 - 2) * 256 + R by omega))
  | 3 => exact (hg d e).trans (congrArg (fun n => ((stateG E q o _ n d e : ℝ) : EReal)) (show R = (3 - 3) * 256 + R by omega))

theorem ds_before (ds : FVec Ideal S128x256 .f32) (R : ℕ) (hg : ∀ d e, ds (ix2 d e) = (stateG E q o (a + 1024) R d e : EReal)) (d : Fin 128) (e : Fin 256) :
    dsAfter0 x0 x3 x6 x8 (dsAt x0 x3 x6 x8 ds hd 0) 0 hd (ix2 d e) = (stateG E q o a (1024 + R) d e : EReal) :=
  (H.ds_step _ 0 _ (768 + R) rfl (H.ds_at ds R hg 0) d e).trans (congrArg (fun n => ((stateG E q o _ n d e : ℝ) : EReal)) (show 256 + (768 + R) = 1024 + R by omega))

theorem whole (ch : Fin 4) (R : ℕ) : a + 1024 + R = a + ch.val * 256 + (256 + ((3 - ch.val) * 256 + R)) := by omega

theorem dv_at (ds : FVec Ideal S128x256 .f32) (R : ℕ) (hg : ∀ d e, ds (ix2 d e) = (stateG E q o (a + 1024) R d e : EReal)) (ch : Fin 4) (j e : Fin 256) :
    dvBlk x0 x1 x3 x5 x6 x7 x8 ds ch hd (ix2 j e) = (gv E q k o (a + 1024 + R) (a + ch.val * 256 + j.val) e : EReal) := by
  rw [H.whole ch R, gv_cut q k o H.hE]
  exact dvPart_of _ _ _ _ _ _ _ _ _ _ _ _ (fun i j => (cut3_at x5 hd i j).trans (H.h5 i j)) (H.q_at ch) (H.k_at ch) (H.o_at ch)
    (fun i => (cut3_at x7 hd i 0).trans (H.h7 i)) (H.ds_at ds R hg ch) j e

theorem dk_at (x9 x10 : Vec Ideal S1024x128 .f32) (ds : FVec Ideal S128x256 .f32) (R : ℕ) (hg : ∀ d e, ds (ix2 d e) = (stateG E q o (a + 1024) R d e : EReal)) (ch : Fin 4)
    (j : Fin 256) (d : Fin 128) :
    dkBlk x0 x2 x3 x5 x6 x7 x8 x9 x10 ds ch hd (ix2 j d)
      = (gk E q v o (a + 1024 + R) (a + ch.val * 256 + j.val) d : EReal) * x9 (ix2 ⟨ch.val * 256 + j.val, by omega⟩ d)
        - (gk E q v o (a + 1024 + R) (a + ch.val * 256 + j.val) (half64 d) : EReal) * x10 (ix2 ⟨ch.val * 256 + j.val, by omega⟩ d) := by
  rw [← cut128_at x9, ← cut128_at x10]
  refine dkPart_of _ _ _ _ _ _ _ _ _ _ _ _ _ _ (fun i j => (cut3_at x5 hd i j).trans (H.h5 i j)) (H.q_at ch) (H.v_at ch) (H.o_at ch)
    (fun i => (cut3_at x7 hd i 0).trans (H.h7 i)) (H.ds_at ds R hg ch) (fun j d => gk E q v o (a + 1024 + R) (a + ch.val * 256 + j.val) d) (fun j d => ?_) j d
  rw [H.whole ch R, gk_cut q v o H.hE]
  rfl

theorem dq_at (x9 x10 : Vec Ideal S1024x128 .f32) (R : ℕ) (ch : Fin 4) (j : Fin 256) (d : Fin 128) :
    dqBlk x1 x2 x3 x4 x5 x6 x9 x10 ch hd (ix2 j d)
      = (gq E k v o (a + 1024 + R) (a + ch.val * 256 + j.val) d : EReal) * scale * x9 (ix2 ⟨ch.val * 256 + j.val, by omega⟩ d)
        - (gq E k v o (a + 1024 + R) (a + ch.val * 256 + j.val) (half64 d) : EReal) * scale * x10 (ix2 ⟨ch.val * 256 + j.val, by omega⟩ d) := by
  rw [← cut128_at x9, ← cut128_at x10]
  refine dqPart_of _ _ _ _ _ _ _ _ _ _ _ _ _ _ (fun i j => (cut3_at x5 hd i j).trans (H.h5 i j)) (H.k_at ch) (H.v_at ch) (H.o_at ch)
    (fun i => (cut3_at x6 hd i 0).trans (H.h6 i)) (fun d e => (cutSt_at x4 ch hd d e).trans (H.h4 ch d e)) (fun j d => gq E k v o (a + 1024 + R) (a + ch.val * 256 + j.val) d) (fun j d => ?_) j d
  rw [H.whole ch R, gq_cut k v o H.hE]
  rfl

end Holds

end Cert.RetKernelIdeal.Step
-- ==== Proof.RetBlocks.lean ====
module

public import proofs.«01_k».proof.Proof.RetParts

@[expose] public section

set_option maxRecDepth 16384

noncomputable section

namespace Cert.RetKernelIdeal.Step

open Cert.RetKernelIdeal Cert.RetKernelIdeal.Gen Idealize.ShloMosaic Idealize.ShloMosaic.TcCoe Idealize.SL.Sem

/-- The columns of a row: the gradients of the four heads' queries, keys and values side by side. -/
def side {α : Type} (DQ DK : Fin 4 → Fin 128 → α) (DV : Fin 4 → Fin 256 → α) (l : Fin 2048) : α :=
  if h : l.val < 512 then DQ ⟨l.val / 128, by omega⟩ ⟨l.val % 128, by omega⟩
  else if h : l.val < 1024 then DK ⟨(l.val - 512) / 128, by omega⟩ ⟨(l.val - 512) % 128, by omega⟩
  else DV ⟨(l.val - 1024) / 256, by omega⟩ ⟨(l.val - 1024) % 256, by omega⟩

theorem side_q {α : Type} (DQ DK : Fin 4 → Fin 128 → α) (DV : Fin 4 → Fin 256 → α) (hd : Fin 4) (d : Fin 128) (l : Fin 2048) (h : l.val = hd.val * 128 + d.val) :
    side DQ DK DV l = DQ hd d := by
  unfold side
  rw [dif_pos (by omega)]
  exact congrArg₂ DQ (Fin.ext (show l.val / 128 = hd.val by omega)) (Fin.ext (show l.val % 128 = d.val by omega))

theorem side_k {α : Type} (DQ DK : Fin 4 → Fin 128 → α) (DV : Fin 4 → Fin 256 → α) (hd : Fin 4) (d : Fin 128) (l : Fin 2048) (h : l.val = 512 + hd.val * 128 + d.val) :
    side DQ DK DV l = DK hd d := by
  unfold side
  rw [dif_neg (by omega), dif_pos (by omega)]
  exact congrArg₂ DK (Fin.ext (show (l.val - 512) / 128 = hd.val by omega)) (Fin.ext (show (l.val - 512) % 128 = d.val by omega))

theorem side_v {α : Type} (DQ DK : Fin 4 → Fin 128 → α) (DV : Fin 4 → Fin 256 → α) (hd : Fin 4) (e : Fin 256) (l : Fin 2048) (h : l.val = 1024 + hd.val * 256 + e.val) :
    side DQ DK DV l = DV hd e := by
  unfold side
  rw [dif_neg (by omega), dif_neg (by omega)]
  exact congrArg₂ DV (Fin.ext (show (l.val - 1024) / 256 = hd.val by omega)) (Fin.ext (show (l.val - 1024) % 256 = e.val by omega))

variable {DQ DK : Fin 1024 → Fin 4 → Fin 128 → EReal} {DV : Fin 1024 → Fin 4 → Fin 256 → EReal}
  {dq dk : Fin 4 → Fin 4 → FVec Ideal S256x128 .bf16} {dv : Fin 4 → Fin 4 → FVec Ideal S256x256 .bf16}

/-- The output block, each row's columns side by side. -/
theorem heads_at (hq : ∀ hd ch j d, dq hd ch (ix2 j d) = DQ ⟨ch.val * 256 + j.val, by omega⟩ hd d) (hk : ∀ hd ch j d, dk hd ch (ix2 j d) = DK ⟨ch.val * 256 + j.val, by omega⟩ hd d)
    (hv : ∀ hd ch j e, dv hd ch (ix2 j e) = DV ⟨ch.val * 256 + j.val, by omega⟩ hd e) (y : S1024x2048.Idx) :
    View.canon (Val := Elt Ideal) (([3, 2, 1, 0] : List (Fin 4)).flatMap fun hd => headPieces hd (dq hd) (dk hd) (dv hd)) y = side (DQ (y 0)) (DK (y 0)) (DV (y 0)) (y 1) := by
  have key := View.canon_append_of_pieces (Val := Elt Ideal) (S := S1024x2048) (e := .bf16) (fun y => side (DQ (y 0)) (DK (y 0)) (DV (y 0)) (y 1)) []
    (([3, 2, 1, 0] : List (Fin 4)).flatMap fun hd => headPieces hd (dq hd) (dk hd) (dv hd)) ?_ y ?_
  · rw [List.append_nil] at key; exact key
  · intro p hp
    obtain ⟨hd, -, hp⟩ := List.mem_flatMap.mp hp
    unfold headPieces at hp
    rcases List.mem_append.mp hp with hp | hp
    · obtain ⟨ch, -, hp⟩ := List.mem_flatMap.mp hp
      rcases List.mem_cons.mp hp with rfl | hp
      · intro x
        rw [show x = ix2 (n0 := 256) (n1 := 256) (x 0) (x 1) from funext fun a => match a with | ⟨0, _⟩ => rfl | ⟨1, _⟩ => rfl]
        refine (hv hd ch (x 0) (x 1)).trans ?_
        refine ((side_v _ _ _ hd (x 1) _ (show 1024 + hd.val * 256 + 1 * (x 1 : ℕ) = 1024 + hd.val * 256 + (x 1 : ℕ) by omega)).trans ?_).symm
        exact congrArg (fun r => DV r hd (x 1)) (Fin.ext (show ch.val * 256 + 1 * (x 0 : ℕ) = ch.val * 256 + (x 0 : ℕ) by omega))
      · obtain rfl := List.mem_singleton.mp hp
        intro x
        rw [show x = ix2 (n0 := 256) (n1 := 128) (x 0) (x 1) from funext fun a => match a with | ⟨0, _⟩ => rfl | ⟨1, _⟩ => rfl]
        refine (hk hd ch (x 0) (x 1)).trans ?_
        refine ((side_k _ _ _ hd (x 1) _ (show 512 + hd.val * 128 + 1 * (x 1 : ℕ) = 512 + hd.val * 128 + (x 1 : ℕ) by omega)).trans ?_).symm
        exact congrArg (fun r => DK r hd (x 1)) (Fin.ext (show ch.val * 256 + 1 * (x 0 : ℕ) = ch.val * 256 + (x 0 : ℕ) by omega))
    · obtain ⟨ch, -, rfl⟩ := List.mem_map.mp hp
      intro x
      rw [show x = ix2 (n0 := 256) (n1 := 128) (x 0) (x 1) from funext fun a => match a with | ⟨0, _⟩ => rfl | ⟨1, _⟩ => rfl]
      refine (hq hd ch (x 0) (x 1)).trans ?_
      refine ((side_q _ _ _ hd (x 1) _ (show 0 + hd.val * 128 + 1 * (x 1 : ℕ) = hd.val * 128 + (x 1 : ℕ) by omega)).trans ?_).symm
      exact congrArg (fun r => DQ r hd (x 1)) (Fin.ext (show ch.val * 256 + 1 * (x 0 : ℕ) = ch.val * 256 + (x 0 : ℕ) by omega))
  · have hr : (y 0 : ℕ) < 1024 := (y 0).isLt
    have hl : (y 1 : ℕ) < 2048 := (y 1).isLt
    have all : ∀ n : Fin 4, n ∈ ([3, 2, 1, 0] : List (Fin 4)) := by decide
    have all' : ∀ n : Fin 4, n ∈ ([0, 1, 2, 3] : List (Fin 4)) := by decide
    by_cases h1 : (y 1 : ℕ) < 512
    · refine ⟨_, List.mem_flatMap.mpr ⟨⟨(y 1 : ℕ) / 128, by omega⟩, all _, List.mem_append.mpr (Or.inr (List.mem_map.mpr ⟨⟨(y 0 : ℕ) / 256, by omega⟩, all _, rfl⟩))⟩, ?_⟩
      exact (Rect.mem_set_unit (inb := fit2 (r := 256) (w := 128) (n := 1024) (p := 2048) _ _ 0 rfl (by omega))).mpr fun a => match a with
        | ⟨0, _⟩ => (show (y 0 : ℕ) / 256 * 256 ≤ (y 0 : ℕ) ∧ (y 0 : ℕ) < (y 0 : ℕ) / 256 * 256 + 256 by omega)
        | ⟨1, _⟩ => (show 0 + (y 1 : ℕ) / 128 * 128 ≤ (y 1 : ℕ) ∧ (y 1 : ℕ) < 0 + (y 1 : ℕ) / 128 * 128 + 128 by omega)
    · by_cases h2 : (y 1 : ℕ) < 1024
      · refine ⟨_, List.mem_flatMap.mpr ⟨⟨((y 1 : ℕ) - 512) / 128, by omega⟩, all _, List.mem_append.mpr (Or.inl (List.mem_flatMap.mpr ⟨⟨(y 0 : ℕ) / 256, by omega⟩, all' _, List.mem_cons_of_mem _ (List.mem_singleton.mpr rfl)⟩))⟩, ?_⟩
        exact (Rect.mem_set_unit (inb := fit2 (r := 256) (w := 128) (n := 1024) (p := 2048) _ _ 512 rfl (by omega))).mpr fun a => match a with
          | ⟨0, _⟩ => (show (y 0 : ℕ) / 256 * 256 ≤ (y 0 : ℕ) ∧ (y 0 : ℕ) < (y 0 : ℕ) / 256 * 256 + 256 by omega)
          | ⟨1, _⟩ => (show 512 + ((y 1 : ℕ) - 512) / 128 * 128 ≤ (y 1 : ℕ) ∧ (y 1 : ℕ) < 512 + ((y 1 : ℕ) - 512) / 128 * 128 + 128 by omega)
      · refine ⟨_, List.mem_flatMap.mpr ⟨⟨((y 1 : ℕ) - 1024) / 256, by omega⟩, all _, List.mem_append.mpr (Or.inl (List.mem_flatMap.mpr ⟨⟨(y 0 : ℕ) / 256, by omega⟩, all' _, List.mem_cons_self⟩))⟩, ?_⟩
        exact (Rect.mem_set_unit (inb := fit2 (r := 256) (w := 256) (n := 1024) (p := 2048) _ _ 1024 rfl (by omega))).mpr fun a => match a with
          | ⟨0, _⟩ => (show (y 0 : ℕ) / 256 * 256 ≤ (y 0 : ℕ) ∧ (y 0 : ℕ) < (y 0 : ℕ) / 256 * 256 + 256 by omega)
          | ⟨1, _⟩ => (show 1024 + ((y 1 : ℕ) - 1024) / 256 * 256 ≤ (y 1 : ℕ) ∧ (y 1 : ℕ) < 1024 + ((y 1 : ℕ) - 1024) / 256 * 256 + 256 by omega)

/-- The carried state gradient, head by head, whatever was there before. -/
theorem carried_at {g : Fin 4 → FVec Ideal S128x256 .f32} {D : Fin 4 → Fin 128 → Fin 256 → EReal} (hg : ∀ hd d e, g hd (ix2 d e) = D hd d e)
    (L : List (View.Piece (Elt Ideal) S4x128x256 .f32)) (hd : Fin 4) (d : Fin 128) (e : Fin 256) :
    View.canon (([3, 2, 1, 0] : List (Fin 4)).map (fun hd => (⟨Rect.unit ![hd.val, 0, 0] ![1, 128, 256] (fit3 (r := 128) (w := 256) hd), k0_pay2 (g hd)⟩ : View.Piece (Elt Ideal) S4x128x256 .f32)) ++ L)
      (ix3 hd d e) = D hd d e := by
  refine View.canon_append_of_pieces (Val := Elt Ideal) (S := S4x128x256) (e := .f32) (fun y => D (y 0) (y 1) (y 2)) L _ ?_ (ix3 hd d e) ?_
  · intro p hp
    obtain ⟨hd, -, rfl⟩ := List.mem_map.mp hp
    intro x
    rw [show x = ix3 (n0 := 1) (n1 := 128) (n2 := 256) 0 (x 1) (x 2) from funext fun a => match a with
      | ⟨0, _⟩ => Fin.ext (show (x 0 : ℕ) = 0 by have : (x 0 : ℕ) < 1 := (x 0).isLt; omega) | ⟨1, _⟩ => rfl | ⟨2, _⟩ => rfl]
    have e1 : k0_pay2 (g hd) (ix3 0 (x 1) (x 2)) = g hd (ix2 (x 1) (x 2)) := by pointwise [k0_pay2]
    refine (e1.trans (hg hd (x 1) (x 2))).trans ?_
    exact congr (congr (congrArg D (Fin.ext (show hd.val = hd.val + 1 * 0 by omega))) (Fin.ext (show (x 1 : ℕ) = 0 + 1 * (x 1 : ℕ) by omega)))
      (Fin.ext (show (x 2 : ℕ) = 0 + 1 * (x 2 : ℕ) by omega))
  · have all : ∀ n : Fin 4, n ∈ ([3, 2, 1, 0] : List (Fin 4)) := by decide
    refine ⟨_, List.mem_map.mpr ⟨hd, all _, rfl⟩, ?_⟩
    exact (Rect.mem_set_unit (inb := fit3 (r := 128) (w := 256) hd)).mpr fun a => match a with
      | ⟨0, _⟩ => (show hd.val ≤ hd.val ∧ hd.val < hd.val + 1 by omega)
      | ⟨1, _⟩ => (show 0 ≤ d.val ∧ d.val < 0 + 128 by omega)
      | ⟨2, _⟩ => (show 0 ≤ e.val ∧ e.val < 0 + 256 by omega)

end Cert.RetKernelIdeal.Step
-- ==== Proof.RetHost.lean ====
/- The host arrays that the retention's gradient kernel reads, at an index, over the real numbers. -/
module

public import proofs.«01_k».proof.Proof.RetBlocks
public import proofs.«01_k».proof.Proof.RetReal
public import Idealize.ShloMosaic.Lib.StableHlo.RunRead

@[expose] public section

set_option maxRecDepth 16384

noncomputable section

namespace Cert.RetKernelIdeal.Step

open Cert.RetKernelIdeal Cert.RetKernelIdeal.Gen Idealize.ShloMosaic Idealize.ShloMosaic.TcCoe Idealize.SL.Sem
open Cert.Retention

variable (m : (ℓ : Loc nD τ sig) → Buf (Elt Ideal) ℓ) (c : Dev nD)

/-- The launch arguments are rows of reals. -/
structure Args (X Y : ℕ → ℕ → ℝ) : Prop where
  x : ∀ (s : Fin 8192) (l : Fin 2048), (m (c, Proc.tc.devRef main_arg0) : FVec Ideal S1x8192x2048 .f32) (ix3 0 s l) = (X s l : EReal)
  y : ∀ (s : Fin 8192) (h : Fin 4) (e : Fin 256), (m (c, Proc.tc.devRef main_arg1) : FVec Ideal S1x8192x4x256 .f32) (ix4 0 s h e) = (Y s (h.val * 256 + e.val) : EReal)

variable {m c} {X Y : ℕ → ℕ → ℝ} (A : Args m c X Y)

include A

theorem V_k (s : Fin 8192) (l : Fin 512) : V m c main_v69 (ix2 s l) = (kOf X (l.val / 128) s ⟨l.val % 128, by omega⟩ : EReal) := by
  have hx := A.x
  unfold V
  after_reads_simp
  pointwise
  after_reads_simp
  generalize m (c, Proc.tc.devRef main_arg0) = x at *
  pointwise
  simp only [hx, dite_eq_ite]
  exact turned_real (fun n => (X s (512 + (l.val / 128 * 128 + n)) : EReal)) _ (fun _ _ => rfl) s.val (l.val % 128) (by omega) (by omega)

theorem V_q (s : Fin 8192) (l : Fin 512) : V m c main_v68 (ix2 s l) = (qOf X (l.val / 128) s ⟨l.val % 128, by omega⟩ : EReal) := by
  have hx := A.x
  unfold V
  after_reads_simp
  pointwise
  after_reads_simp
  generalize m (c, Proc.tc.devRef main_arg0) = x at *
  pointwise
  simp only [hx, dite_eq_ite]
  rw [sc_real]
  exact (congrArg (· * (sc : EReal)) (turned_real (fun n => (X s (l.val / 128 * 128 + n) : EReal)) _ (fun _ _ => rfl) s.val (l.val % 128) (by omega) (by omega))).trans
    (EReal.coe_mul _ _).symm

theorem V_v (s : Fin 8192) (l : Fin 1024) : V m c main_v368 (ix2 s l) = (vOf X (l.val / 256) s ⟨l.val % 256, by omega⟩ : EReal) := by
  have hx := A.x
  unfold V
  after_reads_simp
  generalize m (c, Proc.tc.devRef main_arg0) = x at *
  pointwise
  rw [hx]
  unfold vOf
  dsimp only
  rw [Nat.div_add_mod']

theorem V_o (s : Fin 8192) (l : Fin 1024) : V m c main_v370 (ix2 s l) = (oOf Y (l.val / 256) s ⟨l.val % 256, by omega⟩ : EReal) := by
  have hy := A.y
  unfold V
  after_reads_simp
  generalize m (c, Proc.tc.devRef main_arg1) = x at *
  pointwise
  exact hy _ _ _

omit A

variable (m c)

theorem V_w (h : Fin 4) (i j : Fin 256) : V m c main_v134 (ix3 h i j) = (w (dec h) i j : EReal) := by
  unfold V
  after_reads_simp
  simp only [StableHlo.TRef.ofBuf_toBuf]
  simp -implicitDefEqProofs only [StableHlo.TRef.toBuf, StableHlo.TRef.ofBuf, cast_cast, cast_eq, id]
  pointwise
  exact exp_rel h i j (by omega) (by omega) (by omega)

theorem V_qd (h : Fin 4) (i : Fin 256) : V m c main_v143 (ix3 h i 0) = (dec h (i.val + 1) : EReal) := by
  unfold V
  after_reads_simp
  pointwise
  refine exp_logGamma h (i.val + 1) (by omega) _ ?_
  exact (congrArg (· + 1) (pos_real i (by omega))).trans (by rw [Nat.cast_add, Nat.cast_one, EReal.coe_add, EReal.coe_one])

theorem V_kd (h : Fin 4) (i : Fin 256) : V m c main_v152 (ix3 h i 0) = (dec h (256 - 1 - i.val) : EReal) := by
  have h1 : Ideal.ofBits FTy.f32 1132396544#32 = ((255 : ℝ) : EReal) := by
    simp [Ideal.ofBits, Ideal.ieee, -EReal.coe_mul]; norm_num
  unfold V
  after_reads_simp
  pointwise
  refine exp_logGamma h (256 - 1 - i.val) (by omega) _ ?_
  rw [h1]
  refine (congrArg (((255 : ℝ) : EReal) - ·) (pos_real i (by omega))).trans ?_
  rw [← EReal.coe_sub, Nat.cast_sub (by omega)]
  norm_num

theorem V_cd (h : Fin 4) : V m c main_v156 (ix3 h 0 0) = (dec h 256 : EReal) := by
  have h1 : Ideal.ofBits FTy.f32 1132462080#32 = (((256 : ℕ) : ℝ) : EReal) := by
    simp [Ideal.ofBits, Ideal.ieee, -EReal.coe_mul]; norm_num
  unfold V
  after_reads_simp
  pointwise
  exact exp_logGamma h 256 (by omega) _ h1

theorem V_cr (s : Fin 8192) (l : Fin 128) : V m c main_v102 (ix2 s l) = (cosT s l : EReal) := by
  unfold cosT
  unfold V
  after_reads_simp
  pointwise
  split_ifs with hl
  · rw [Nat.mod_eq_of_lt hl]
    exact cos_angle s l (by omega) (by omega)
  · rw [show l.val % 64 = l.val - 64 by omega]
    exact cos_angle s (l.val - 64) (by omega) (by omega)

theorem V_sr (s : Fin 8192) (l : Fin 128) :
    V m c main_v104 (ix2 s l) = (sinT s l : EReal) := by
  unfold sinT
  unfold V
  after_reads_simp
  pointwise
  split_ifs with hl
  · rw [Nat.mod_eq_of_lt hl, EReal.coe_neg]
    exact congrArg (fun z : EReal => -z) (sin_angle s l (by omega) (by omega))
  · rw [show l.val % 64 = l.val - 64 by omega]
    exact sin_angle s (l.val - 64) (by omega) (by omega)

end Cert.RetKernelIdeal.Step
-- ==== Proof.RetStates.lean ====
/- The states before each chunk of 256 positions, as the host computes them one after the other, over the real numbers. -/
module

public import proofs.«01_k».proof.Proof.RetHost

@[expose] public section

set_option maxRecDepth 16384

noncomputable section

namespace Cert.RetKernelIdeal.Step

open Cert.RetKernelIdeal Cert.RetKernelIdeal.Gen Idealize.ShloMosaic Idealize.ShloMosaic.TcCoe Idealize.SL.Sem
open Cert.Retention
open Cert.RmsGrad (coe_sum)

theorem slices_one (n : ℕ) (hn : n < 32) : S32x4x128x256.Slices ![n, 0, 0, 0] S1x4x128x256 :=
  ⟨rfl, fun a => match a with
    | ⟨0, _⟩ => (by omega : n + 1 ≤ 32)
    | ⟨1, _⟩ => Nat.le_refl 4
    | ⟨2, _⟩ => Nat.le_refl 128
    | ⟨3, _⟩ => Nat.le_refl 256⟩

/-- The states before each chunk, from the chunks' own contributions. -/
def chain (cd : FVec Ideal S4x1x1 .f32) (U : FVec Ideal S32x4x128x256 .f32) : (n : ℕ) → n ≤ 32 → FVec Ideal S4x128x256 .f32
  | 0, _ => broadcastInDim S4x128x256 ![] bcast_S_S4x128x256 (constant S_ .f32 0x00000000#32 : FVec Ideal S_ .f32)
  | n + 1, hn => addf (mulf (chain cd U n (by omega)) (broadcastInDim S4x128x256 ![0, 1, 2] bcast_S4x1x1_S4x128x256_0_1_2 cd))
      (shapeCast S4x128x256 (extractStridedSlice S1x4x128x256 ![n, 0, 0, 0] U (slices_one n hn)) shapeCasts_S1x4x128x256_S4x128x256)

/-- Sixteen of the states, from the one before chunk `a` on, as layers of a stack. -/
def layers (cd : FVec Ideal S4x1x1 .f32) (U : FVec Ideal S32x4x128x256 .f32) (a : ℕ) (ha : a + 16 ≤ 32) : List ((s : Shape) × (s.Idx → EReal)) :=
  List.ofFn fun n : Fin 16 => ⟨S1x4x128x256, broadcastInDim S1x4x128x256 ![1, 2, 3] bcast_S4x128x256_S1x4x128x256_1_2_3 (chain cd U (a + n.val) (by omega))⟩

theorem layers_fit (cd : FVec Ideal S4x1x1 .f32) (U : FVec Ideal S32x4x128x256 .f32) (a : ℕ) (ha : a + 16 ≤ 32) :
    Shape.Concatenates ((layers cd U a ha).map (·.1)) S16x4x128x256 0 :=
  (by decide : Shape.Concatenates (List.replicate 16 S1x4x128x256) S16x4x128x256 0)

theorem layers_at (cd : FVec Ideal S4x1x1 .f32) (U : FVec Ideal S32x4x128x256 .f32) (a : ℕ) (ha : a + 16 ≤ 32) (n : Fin 16) (h : Fin 4) (d : Fin 128) (e : Fin 256) :
    concatenate S16x4x128x256 0 (layers cd U a ha) (layers_fit cd U a ha) (ix4 n h d e) = chain cd U (a + n.val) (by omega) (ix3 h d e) :=
  (concatenate_ofFn_unit_apply (t := S16x4x128x256) (s₁ := S1x4x128x256) 0 _ _ rfl rfl (ix4 n h d e) n rfl (ix4 0 h d e)
    (fun b hb => match b with | ⟨0, _⟩ => absurd rfl hb | ⟨1, _⟩ => rfl | ⟨2, _⟩ => rfl | ⟨3, _⟩ => rfl)).trans (by pointwise)

variable (m : (ℓ : Loc nD τ sig) → Buf (Elt Ideal) ℓ) (c : Dev nD)

theorem concat_congr {t : Shape} {a : Fin t.rank} {L L' : List ((s : Shape) × (s.Idx → EReal))} (e : L = L') (h) (h') :
    concatenate t a L h = concatenate t a L' h' := by
  subst e; rfl

set_option maxHeartbeats 1000000 in
theorem V_layers : V m c main_v366 = truncf .bf16 (concatenate S32x4x128x256 0 [⟨S0x4x128x256, V m c main_v169⟩, ⟨S32x4x128x256,
    concatenate S32x4x128x256 0
      [⟨S16x4x128x256, concatenate S16x4x128x256 0 (layers (V m c main_v156) (V m c main_v168) 0 (by omega)) (layers_fit _ _ _ _)⟩,
        ⟨S16x4x128x256, concatenate S16x4x128x256 0 (layers (V m c main_v156) (V m c main_v168) 16 (by omega)) (layers_fit _ _ _ _)⟩]
      concatenates_S16x4x128x256_S16x4x128x256_S32x4x128x256_d0⟩] concatenates_S0x4x128x256_S32x4x128x256_S32x4x128x256_d0 : FVec Ideal S32x4x128x256 .f32) bitsLt_bf16_f32 := by
  unfold V
  after_reads_simp
  refine congrArg (fun z => truncf .bf16 (z : FVec Ideal S32x4x128x256 .f32) bitsLt_bf16_f32) ?_
  apply concat_congr
  after_reads_simp
  simp only [List.cons.injEq, Sigma.mk.injEq, heq_eq_eq, true_and, and_true]
  apply concat_congr
  after_reads_simp
  simp only [List.cons.injEq, Sigma.mk.injEq, heq_eq_eq, true_and, and_true]
  constructor
  · apply concat_congr
    simp only [Matrix.cons_val]
    after_reads_simp
    generalize extractStridedSlice S32x4x128x256 ![0, 0, 0, 0] (_ : FVec Ideal S32x4x128x256 .f32) slices_S32x4x128x256_S32x4x128x256_0_0_0_0 = U
    generalize broadcastInDim S4x1x1 ![0] bcast_S4_S4x1x1_0 (_ : FVec Ideal S4 .f32) = cd
    rfl
  · apply concat_congr
    simp only [Matrix.cons_val]
    after_reads_simp
    generalize extractStridedSlice S32x4x128x256 ![0, 0, 0, 0] (_ : FVec Ideal S32x4x128x256 .f32) slices_S32x4x128x256_S32x4x128x256_0_0_0_0 = U
    generalize broadcastInDim S4x1x1 ![0] bcast_S4_S4x1x1_0 (_ : FVec Ideal S4 .f32) = cd
    rfl

theorem chain_at (cd : FVec Ideal S4x1x1 .f32) (U : FVec Ideal S32x4x128x256 .f32) (h : Fin 4) (E : ℕ → ℝ) (k : ℕ → Fin 128 → ℝ) (v : ℕ → Fin 256 → ℝ)
    (hE : ∀ m n, E (m + n) = E m * E n) (hcd : cd (ix3 h 0 0) = (E 256 : EReal))
    (hU : ∀ (n : Fin 32) d e, U (ix4 n h d e) = ((∑ j : Fin 256, k (n.val * 256 + j) d * E (256 - 1 - j) * v (n.val * 256 + j) e : ℝ) : EReal))
    (d : Fin 128) (e : Fin 256) (n : ℕ) (hn : n ≤ 32) : chain cd U n hn (ix3 h d e) = (state E k v (n * 256) d e : EReal) := by
  induction n with
  | zero =>
    unfold chain state
    pointwise
    simp
  | succ n ih =>
    have h0 := ih (by omega)
    have h1 := hU ⟨n, hn⟩ d e
    rw [Nat.succ_mul, state_step k v hE, EReal.coe_add, EReal.coe_mul, ← hcd, ← h0, ← h1]
    show (addf (mulf (chain cd U n (by omega)) (broadcastInDim S4x128x256 ![0, 1, 2] bcast_S4x1x1_S4x128x256_0_1_2 cd))
      (shapeCast S4x128x256 (extractStridedSlice S1x4x128x256 ![n, 0, 0, 0] U (slices_one n hn)) shapeCasts_S1x4x128x256_S4x128x256)) (ix3 h d e) = _
    generalize chain cd U n (by omega) = p
    pointwise

/-- The chunks' own contributions to the states: each chunk's keys, decayed to the chunk's end, against its values. -/
def updates (K : FVec Ideal S8192x512 .f32) (D : FVec Ideal S4x256x1 .f32) (x : FVec Ideal S1x8192x2048 .f32) : FVec Ideal S32x4x128x256 .f32 :=
  extractStridedSlice S32x4x128x256 ![0, 0, 0, 0]
    (Host.dotGeneral dot_S32x4x256x128_S32x4x256x256_S32x4x128x256_2_2_3_3_01_01 none
      (mulf
        (transpose S32x4x256x128 [0, 2, 1, 3] (shapeCast S32x256x4x128 K shapeCasts_S8192x512_S32x256x4x128) transposes_S32x256x4x128_S32x4x256x128_0_2_1_3 : FVec Ideal S32x4x256x128 .f32)
        (broadcastInDim S32x4x256x128 ![0, 1, 2, 3] bcast_S1x4x256x1_S32x4x256x128_0_1_2_3 (broadcastInDim S1x4x256x1 ![1, 2, 3] bcast_S4x256x1_S1x4x256x1_1_2_3 D)))
      (transpose S32x4x256x256 [0, 2, 1, 3]
        (shapeCast S32x256x4x256 (shapeCast S8192x1024 (extractStridedSlice S1x8192x1024 ![0, 0, 1024] x slices_S1x8192x2048_S1x8192x1024_0_0_1024)
          shapeCasts_S1x8192x1024_S8192x1024) shapeCasts_S8192x1024_S32x256x4x256) transposes_S32x256x4x256_S32x4x256x256_0_2_1_3 : FVec Ideal S32x4x256x256 .f32))
    slices_S32x4x128x256_S32x4x128x256_0_0_0_0

theorem updates_at (K : FVec Ideal S8192x512 .f32) (D : FVec Ideal S4x256x1 .f32) (x : FVec Ideal S1x8192x2048 .f32) (n : Fin 32) (h : Fin 4) (d : Fin 128) (e : Fin 256)
    (k kd v : Fin 256 → ℝ) (hk : ∀ j : Fin 256, K (ix2 ⟨n.val * 256 + j.val, by omega⟩ ⟨h.val * 128 + d.val, by omega⟩) = (k j : EReal))
    (hkd : ∀ j : Fin 256, D (ix3 h j 0) = (kd j : EReal))
    (hv : ∀ j : Fin 256, x (ix3 0 ⟨n.val * 256 + j.val, by omega⟩ ⟨1024 + (h.val * 256 + e.val), by omega⟩) = (v j : EReal)) :
    updates K D x (ix4 n h d e) = ((∑ j, k j * kd j * v j : ℝ) : EReal) := by
  pointwise [updates]
  simp only [hk, hkd, hv, ← EReal.coe_mul, coe_sum]

theorem V_updates : V m c main_v168 = updates (V m c main_v69) (V m c main_v152) (m (c, Proc.tc.devRef main_arg0)) := by
  unfold V
  after_reads_simp
  rfl

variable {m c} {X Y : ℕ → ℕ → ℝ} (A : Args m c X Y)

include A

theorem V_update (n : Fin 32) (h : Fin 4) (d : Fin 128) (e : Fin 256) : V m c main_v168 (ix4 n h d e)
    = ((∑ j : Fin 256, kOf X h (n.val * 256 + j) d * dec h (256 - 1 - j) * vOf X h (n.val * 256 + j) e : ℝ) : EReal) := by
  rw [V_updates, updates_at _ _ _ n h d e (fun j => kOf X h (n.val * 256 + j.val) d) (fun j => dec h (256 - 1 - j.val)) (fun j => vOf X h (n.val * 256 + j.val) e)]
  · intro j
    rw [V_k A]
    simp only [show (h.val * 128 + d.val) / 128 = h.val by omega, show (h.val * 128 + d.val) % 128 = d.val by omega]
  · exact fun j => V_kd m c h j
  · exact fun j => A.x _ _

theorem V_state (n : Fin 32) (h : Fin 4) (d : Fin 128) (e : Fin 256) :
    V m c main_v366 (ix4 n h d e) = (state (dec h) (kOf X h) (vOf X h) (n.val * 256) d e : EReal) := by
  rw [V_layers]
  have hc := fun hn => chain_at _ _ h (dec h) (kOf X h) (vOf X h) (dec_add h) (V_cd m c h) (fun n d e => V_update A n h d e) d e n.val hn
  have h0 := layers_at (V m c main_v156) (V m c main_v168) 0 (by omega)
  have h1 := layers_at (V m c main_v156) (V m c main_v168) 16 (by omega)
  generalize V m c main_v156 = cd at *
  generalize V m c main_v168 = U at *
  generalize concatenate S16x4x128x256 0 (layers cd U 0 _) _ = p at *
  generalize concatenate S16x4x128x256 0 (layers cd U 16 _) _ = q at *
  generalize V m c main_v169 = z
  pointwise
  rw [dif_neg (Nat.not_lt_zero _)]
  split_ifs with hn
  · rw [h0]
    simp only [Nat.zero_add]
    exact hc _
  · rw [h1]
    simp only [show 16 + (n.val - 16) = n.val by omega]
    exact hc _
  · exact absurd rfl ‹_›

end Cert.RetKernelIdeal.Step
-- ==== Proof.RetRun.lean ====
/- The retention's gradient kernel over the grid: the blocks at a point, the carried gradient of the state, and the result. -/
module

public import proofs.«01_k».proof.Proof.RetStates
public import proofs.«01_k».proof.Proof.Gen.RetKernelIdeal.Value

@[expose] public section

set_option maxRecDepth 16384

noncomputable section

namespace Cert.RetKernelIdeal.Step

open Cert.RetKernelIdeal Cert.RetKernelIdeal.Gen Idealize.ShloMosaic Idealize.ShloMosaic.TcCoe Idealize.SL.Sem
open Cert.Retention

variable (m : (ℓ : Loc nD τ sig) → Buf (Elt Ideal) ℓ) (c : Dev nD) (t : Fin cfg0.N)

/-- The first position of the block a point works on: the points go backwards. -/
def first (t : ℕ) : ℕ := (7 - t) * 1024

/-! ## The blocks at a point -/

theorem blk0 (r : Fin 1024) (l : Fin 512) : iblk m c 0 t (ix2 r l) = V m c main_v68 (ix2 ⟨first t + r.val, by unfold first; omega⟩ l) := by
  have e0 : win0_0.index t 0 = 7 - t.val := (by decide +kernel : ∀ t : Fin grid0.N, win0_0.index t 0 = 7 - t.val) t
  have e1 : win0_0.index t 1 = 0 := (by decide +kernel : ∀ t : Fin grid0.N, win0_0.index t 1 = 0) t
  unfold iblk
  rw [View.read_apply]
  exact congrArg (V m c main_v68) (funext fun a => Fin.ext (match a with
    | ⟨0, _⟩ => (show win0_0.index t 0 * 1024 + 1 * r.val = first t + r.val by unfold first; omega)
    | ⟨1, _⟩ => (show win0_0.index t 1 * 512 + 1 * l.val = l.val by omega)))
theorem blk1 (r : Fin 1024) (l : Fin 512) : iblk m c 1 t (ix2 r l) = V m c main_v69 (ix2 ⟨first t + r.val, by unfold first; omega⟩ l) := by
  have e0 : win0_1.index t 0 = 7 - t.val := (by decide +kernel : ∀ t : Fin grid0.N, win0_1.index t 0 = 7 - t.val) t
  have e1 : win0_1.index t 1 = 0 := (by decide +kernel : ∀ t : Fin grid0.N, win0_1.index t 1 = 0) t
  unfold iblk
  rw [View.read_apply]
  exact congrArg (V m c main_v69) (funext fun a => Fin.ext (match a with
    | ⟨0, _⟩ => (show win0_1.index t 0 * 1024 + 1 * r.val = first t + r.val by unfold first; omega)
    | ⟨1, _⟩ => (show win0_1.index t 1 * 512 + 1 * l.val = l.val by omega)))
theorem blk2 (r : Fin 1024) (l : Fin 1024) : iblk m c 2 t (ix2 r l) = V m c main_v368 (ix2 ⟨first t + r.val, by unfold first; omega⟩ l) := by
  have e0 : win0_2.index t 0 = 7 - t.val := (by decide +kernel : ∀ t : Fin grid0.N, win0_2.index t 0 = 7 - t.val) t
  have e1 : win0_2.index t 1 = 0 := (by decide +kernel : ∀ t : Fin grid0.N, win0_2.index t 1 = 0) t
  unfold iblk
  rw [View.read_apply]
  exact congrArg (V m c main_v368) (funext fun a => Fin.ext (match a with
    | ⟨0, _⟩ => (show win0_2.index t 0 * 1024 + 1 * r.val = first t + r.val by unfold first; omega)
    | ⟨1, _⟩ => (show win0_2.index t 1 * 1024 + 1 * l.val = l.val by omega)))
theorem blk3 (r : Fin 1024) (l : Fin 1024) : iblk m c 3 t (ix2 r l) = V m c main_v370 (ix2 ⟨first t + r.val, by unfold first; omega⟩ l) := by
  have e0 : win0_3.index t 0 = 7 - t.val := (by decide +kernel : ∀ t : Fin grid0.N, win0_3.index t 0 = 7 - t.val) t
  have e1 : win0_3.index t 1 = 0 := (by decide +kernel : ∀ t : Fin grid0.N, win0_3.index t 1 = 0) t
  unfold iblk
  rw [View.read_apply]
  exact congrArg (V m c main_v370) (funext fun a => Fin.ext (match a with
    | ⟨0, _⟩ => (show win0_3.index t 0 * 1024 + 1 * r.val = first t + r.val by unfold first; omega)
    | ⟨1, _⟩ => (show win0_3.index t 1 * 1024 + 1 * l.val = l.val by omega)))
theorem blk9 (r : Fin 1024) (l : Fin 128) : iblk m c 9 t (ix2 r l) = V m c main_v102 (ix2 ⟨first t + r.val, by unfold first; omega⟩ l) := by
  have e0 : win0_9.index t 0 = 7 - t.val := (by decide +kernel : ∀ t : Fin grid0.N, win0_9.index t 0 = 7 - t.val) t
  have e1 : win0_9.index t 1 = 0 := (by decide +kernel : ∀ t : Fin grid0.N, win0_9.index t 1 = 0) t
  unfold iblk
  rw [View.read_apply]
  exact congrArg (V m c main_v102) (funext fun a => Fin.ext (match a with
    | ⟨0, _⟩ => (show win0_9.index t 0 * 1024 + 1 * r.val = first t + r.val by unfold first; omega)
    | ⟨1, _⟩ => (show win0_9.index t 1 * 128 + 1 * l.val = l.val by omega)))
theorem blk10 (r : Fin 1024) (l : Fin 128) : iblk m c 10 t (ix2 r l) = V m c main_v104 (ix2 ⟨first t + r.val, by unfold first; omega⟩ l) := by
  have e0 : win0_10.index t 0 = 7 - t.val := (by decide +kernel : ∀ t : Fin grid0.N, win0_10.index t 0 = 7 - t.val) t
  have e1 : win0_10.index t 1 = 0 := (by decide +kernel : ∀ t : Fin grid0.N, win0_10.index t 1 = 0) t
  unfold iblk
  rw [View.read_apply]
  exact congrArg (V m c main_v104) (funext fun a => Fin.ext (match a with
    | ⟨0, _⟩ => (show win0_10.index t 0 * 1024 + 1 * r.val = first t + r.val by unfold first; omega)
    | ⟨1, _⟩ => (show win0_10.index t 1 * 128 + 1 * l.val = l.val by omega)))
theorem blk4 (ch hd : Fin 4) (d : Fin 128) (e : Fin 256) : iblk m c 4 t (ix4 ch hd d e) = V m c main_v366 (ix4 ⟨(7 - t.val) * 4 + ch.val, by omega⟩ hd d e) := by
  have e0 : win0_4.index t 0 = 7 - t.val := (by decide +kernel : ∀ t : Fin grid0.N, win0_4.index t 0 = 7 - t.val) t
  have e1 : ∀ a : Fin 4, a ≠ 0 → win0_4.index t a = 0 := fun a h => (by decide +kernel : ∀ t : Fin grid0.N, ∀ a : Fin 4, a ≠ 0 → win0_4.index t a = 0) t a h
  have e1a := e1 1 (by decide)
  have e1b := e1 2 (by decide)
  have e1c := e1 3 (by decide)
  unfold iblk
  rw [View.read_apply]
  exact congrArg (V m c main_v366) (funext fun a => Fin.ext (match a with
    | ⟨0, _⟩ => (show win0_4.index t 0 * 4 + 1 * ch.val = (7 - t.val) * 4 + ch.val by omega)
    | ⟨1, _⟩ => (show win0_4.index t 1 * 4 + 1 * hd.val = hd.val by omega)
    | ⟨2, _⟩ => (show win0_4.index t 2 * 128 + 1 * d.val = d.val by omega)
    | ⟨3, _⟩ => (show win0_4.index t 3 * 256 + 1 * e.val = e.val by omega)))
theorem blk5 (hd : Fin 4) (i : Fin 256) (j : Fin 256) : iblk m c 5 t (ix3 hd i j) = V m c main_v134 (ix3 hd i j) := by
  have e : ∀ a : Fin 3, win0_5.index t a = 0 := (by decide +kernel : ∀ t : Fin grid0.N, ∀ a : Fin 3, win0_5.index t a = 0) t
  have ea := e 0
  have eb := e 1
  have ec := e 2
  unfold iblk
  rw [View.read_apply]
  exact congrArg (V m c main_v134) (funext fun a => Fin.ext (match a with
    | ⟨0, _⟩ => (show win0_5.index t 0 * 4 + 1 * hd.val = hd.val by omega)
    | ⟨1, _⟩ => (show win0_5.index t 1 * 256 + 1 * i.val = i.val by omega)
    | ⟨2, _⟩ => (show win0_5.index t 2 * 256 + 1 * j.val = j.val by omega)))
theorem blk6 (hd : Fin 4) (i : Fin 256) (j : Fin 1) : iblk m c 6 t (ix3 hd i j) = V m c main_v143 (ix3 hd i j) := by
  have e : ∀ a : Fin 3, win0_6.index t a = 0 := (by decide +kernel : ∀ t : Fin grid0.N, ∀ a : Fin 3, win0_6.index t a = 0) t
  have ea := e 0
  have eb := e 1
  have ec := e 2
  unfold iblk
  rw [View.read_apply]
  exact congrArg (V m c main_v143) (funext fun a => Fin.ext (match a with
    | ⟨0, _⟩ => (show win0_6.index t 0 * 4 + 1 * hd.val = hd.val by omega)
    | ⟨1, _⟩ => (show win0_6.index t 1 * 256 + 1 * i.val = i.val by omega)
    | ⟨2, _⟩ => (show win0_6.index t 2 * 1 + 1 * j.val = j.val by omega)))
theorem blk7 (hd : Fin 4) (i : Fin 256) (j : Fin 1) : iblk m c 7 t (ix3 hd i j) = V m c main_v152 (ix3 hd i j) := by
  have e : ∀ a : Fin 3, win0_7.index t a = 0 := (by decide +kernel : ∀ t : Fin grid0.N, ∀ a : Fin 3, win0_7.index t a = 0) t
  have ea := e 0
  have eb := e 1
  have ec := e 2
  unfold iblk
  rw [View.read_apply]
  exact congrArg (V m c main_v152) (funext fun a => Fin.ext (match a with
    | ⟨0, _⟩ => (show win0_7.index t 0 * 4 + 1 * hd.val = hd.val by omega)
    | ⟨1, _⟩ => (show win0_7.index t 1 * 256 + 1 * i.val = i.val by omega)
    | ⟨2, _⟩ => (show win0_7.index t 2 * 1 + 1 * j.val = j.val by omega)))
theorem blk8 (hd : Fin 4) (i : Fin 1) (j : Fin 1) : iblk m c 8 t (ix3 hd i j) = V m c main_v156 (ix3 hd i j) := by
  have e : ∀ a : Fin 3, win0_8.index t a = 0 := (by decide +kernel : ∀ t : Fin grid0.N, ∀ a : Fin 3, win0_8.index t a = 0) t
  have ea := e 0
  have eb := e 1
  have ec := e 2
  unfold iblk
  rw [View.read_apply]
  exact congrArg (V m c main_v156) (funext fun a => Fin.ext (match a with
    | ⟨0, _⟩ => (show win0_8.index t 0 * 4 + 1 * hd.val = hd.val by omega)
    | ⟨1, _⟩ => (show win0_8.index t 1 * 1 + 1 * i.val = i.val by omega)
    | ⟨2, _⟩ => (show win0_8.index t 2 * 1 + 1 * j.val = j.val by omega)))

variable {m c} {X Y : ℕ → ℕ → ℝ} (A : Args m c X Y)

include A

/-- At a point the blocks are each head's quantities over the block's positions. -/
theorem holds (hd : Fin 4) : Holds (dec hd) (qOf X hd) (kOf X hd) (vOf X hd) (oOf Y hd) (first t) hd
    (iblk m c 0 t) (iblk m c 1 t) (iblk m c 2 t) (iblk m c 3 t) (iblk m c 4 t) (iblk m c 5 t) (iblk m c 6 t) (iblk m c 7 t) (iblk m c 8 t) where
  hE := dec_add hd
  h0 r d := by
    rw [blk0, V_q A]
    simp only [show (hd.val * 128 + d.val) / 128 = hd.val by omega, show (hd.val * 128 + d.val) % 128 = d.val by omega]
  h1 r d := by
    rw [blk1, V_k A]
    simp only [show (hd.val * 128 + d.val) / 128 = hd.val by omega, show (hd.val * 128 + d.val) % 128 = d.val by omega]
  h2 r e := by
    rw [blk2, V_v A]
    simp only [show (hd.val * 256 + e.val) / 256 = hd.val by omega, show (hd.val * 256 + e.val) % 256 = e.val by omega]
  h3 r e := by
    rw [blk3, V_o A]
    simp only [show (hd.val * 256 + e.val) / 256 = hd.val by omega, show (hd.val * 256 + e.val) % 256 = e.val by omega]
  h4 ch d e := by
    rw [blk4, V_state A]
    exact congrArg (fun n => ((state (dec hd) (kOf X hd) (vOf X hd) n d e : ℝ) : EReal)) (show ((7 - t.val) * 4 + ch.val) * 256 = first t + ch.val * 256 by unfold first; omega)
  h5 i j := (blk5 m c t hd i j).trans (V_w m c hd i j)
  h6 i := (blk6 m c t hd i 0).trans (V_qd m c hd i)
  h7 i := (blk7 m c t hd i 0).trans (V_kd m c hd i)
  h8 := (blk8 m c t hd 0 0).trans (V_cd m c hd)

/-! ## What a point leaves, from the gradient of the state carried into it -/

omit A in
/-- The result's entries: a head's query, key and value gradient at a position, over all 8192 positions, the first two turned back by the position's angles. -/
def DQ (X Y : ℕ → ℕ → ℝ) (s : ℕ) (hd : Fin 4) (d : Fin 128) : EReal :=
  (gq (dec hd) (kOf X hd) (vOf X hd) (oOf Y hd) 8192 s d : EReal) * scale * (cosT s d : EReal) - (gq (dec hd) (kOf X hd) (vOf X hd) (oOf Y hd) 8192 s (half64 d) : EReal) * scale * (sinT s d : EReal)
omit A in
def DK (X Y : ℕ → ℕ → ℝ) (s : ℕ) (hd : Fin 4) (d : Fin 128) : EReal :=
  (gk (dec hd) (qOf X hd) (vOf X hd) (oOf Y hd) 8192 s d : EReal) * (cosT s d : EReal) - (gk (dec hd) (qOf X hd) (vOf X hd) (oOf Y hd) 8192 s (half64 d) : EReal) * (sinT s d : EReal)
omit A in
def DV (X Y : ℕ → ℕ → ℝ) (s : ℕ) (hd : Fin 4) (e : Fin 256) : EReal := (gv (dec hd) (qOf X hd) (kOf X hd) (oOf Y hd) 8192 s e : EReal)

variable (ds : Fin 4 → FVec Ideal S128x256 .f32)
  (hg : ∀ hd d e, ds hd (ix2 d e) = (stateG (dec hd.val) (qOf X hd) (oOf Y hd) (first t + 1024) (t.val * 1024) d e : EReal))

omit A in
theorem all_rows : first t.val + 1024 + t.val * 1024 = 8192 := by
  have h : t.val < 8 := t.isLt
  unfold first
  omega

include hg

theorem carried_pt (L : List (View.Piece (Elt Ideal) S4x128x256 .f32)) (hd : Fin 4) (d : Fin 128) (e : Fin 256) :
    View.canon ((([3, 2, 1, 0] : List (Fin 4)).map fun hd => scHead (iblk m c 0 t) (iblk m c 3 t) (iblk m c 6 t) (iblk m c 8 t) (ds hd) hd) ++ L) (ix3 hd d e)
      = (stateG (dec hd) (qOf X hd) (oOf Y hd) (first t) ((t.val + 1) * 1024) d e : EReal) :=
  carried_at (fun hd d e => ((holds t A hd).ds_before (ds hd) (t.val * 1024) (hg hd) d e).trans
    (congrArg (fun n => ((stateG (dec hd) (qOf X hd) (oOf Y hd) (first t) n d e : ℝ) : EReal)) (show 1024 + t.val * 1024 = (t.val + 1) * 1024 by omega))) L hd d e

theorem out_pt (y : S1024x2048.Idx) :
    View.canon (([3, 2, 1, 0] : List (Fin 4)).flatMap fun hd => outHead (iblk m c 0 t) (iblk m c 1 t) (iblk m c 2 t) (iblk m c 3 t) (iblk m c 4 t) (iblk m c 5 t) (iblk m c 6 t) (iblk m c 7 t)
        (iblk m c 8 t) (iblk m c 9 t) (iblk m c 10 t) (ds hd) hd) y
      = side (DQ X Y (first t + (y 0 : ℕ))) (DK X Y (first t + (y 0 : ℕ))) (DV X Y (first t + (y 0 : ℕ))) (y 1) := by
  refine heads_at (DQ := fun r => DQ X Y (first t + r.val)) (DK := fun r => DK X Y (first t + r.val)) (DV := fun r => DV X Y (first t + r.val)) ?_ ?_ ?_ y
  · intro hd ch j d
    refine ((holds t A hd).dq_at _ _ (t.val * 1024) ch j d).trans ?_
    rw [all_rows, blk9, blk10, V_cr, V_sr, Nat.add_assoc]
    rfl
  · intro hd ch j d
    refine ((holds t A hd).dk_at _ _ (ds hd) (t.val * 1024) (hg hd) ch j d).trans ?_
    rw [all_rows, blk9, blk10, V_cr, V_sr, Nat.add_assoc]
    rfl
  · intro hd ch j e
    refine ((holds t A hd).dv_at (ds hd) (t.val * 1024) (hg hd) ch j e).trans ?_
    rw [all_rows, Nat.add_assoc]
    rfl

omit hg

/-! ## All points -/

end Cert.RetKernelIdeal.Step
-- ==== Proof.RetEnd.lean ====
/- The retention's gradient kernel over all its points: the carried gradient of the state and the block each point leaves. -/
module

public import proofs.«01_k».proof.Proof.RetRun

@[expose] public section

set_option maxRecDepth 16384

noncomputable section

namespace Cert.RetKernelIdeal.Step

open Cert.RetKernelIdeal Cert.RetKernelIdeal.Gen Idealize.ShloMosaic Idealize.ShloMosaic.TcCoe Idealize.SL.Sem
open Cert.Retention Cert.RetKernelIdeal.Value

variable {m : (ℓ : Loc nD τ sig) → Buf (Elt Ideal) ℓ} {c : Dev nD} (t : Fin cfg0.N)

theorem fst_eq {α β : Type} (a a' : α) (b : β) (h : a = a') : (a, b).1 = a' := h
theorem snd_eq {α β : Type} (a : α) (b b' : β) (h : b = b') : (a, b).2 = b' := h

theorem start_zero (hd : Fin 4) (d : Fin 128) (e : Fin 256) : k0_pay67 (F := Ideal) (cutS (k0_pay3 (F := Ideal)) hd) (ix2 d e) = (0 : EReal) := by
  pointwise [k0_pay67, cutS, k0_pay3]
theorem start_at (xs : Vec Ideal S4x128x256 .f32) (hd : Fin 4) (d : Fin 128) (e : Fin 256) : k0_pay67 (F := Ideal) (cutS xs hd) (ix2 d e) = xs (ix3 hd d e) := by
  pointwise [k0_pay67, cutS]

/-! ## What a point leaves: the first starts from zero, the others from what the point before left -/

theorem scratch_A (h0 : t.val % 8 = 0) : (outsAt0 m c t.val t.isLt).2 = View.canon (Val := Elt Ideal) ((([3, 2, 1, 0] : List (Fin 4)).map fun hd => scHead (iblk m c 0 t) (iblk m c 3 t) (iblk m c 6 t) (iblk m c 8 t) (k0_pay67 (cutS (k0_pay3 (F := Ideal)) hd)) hd)
    ++ [⟨Rect.unit ![0, 0, 0] ![4, 128, 256] inb_S4x128x256_S4x128x256_0_0_0, k0_pay3 (F := Ideal)⟩]) := by
  refine (congrArg Prod.snd (outsAt0_A m c t h0)).trans ?_
  refine snd_eq _ _ _ ?_
  apply sc_A

theorem scratch_B (h0 : ¬t.val % 8 = 0) : (outsAt0 m c t.val t.isLt).2 = View.canon (Val := Elt Ideal) (([3, 2, 1, 0] : List (Fin 4)).map fun hd => scHead (iblk m c 0 t) (iblk m c 3 t) (iblk m c 6 t) (iblk m c 8 t) (k0_pay67 (cutS ((outsAt0 m c (t.val - 1) (Nat.lt_of_le_of_lt (Nat.sub_le _ _) t.isLt)).2) hd)) hd) := by
  refine (congrArg Prod.snd (outsAt0_B m c t h0)).trans ?_
  refine snd_eq _ _ _ ?_
  apply sc_B

theorem block_A (h0 : t.val % 8 = 0) : (outsAt0 m c t.val t.isLt).1 = View.canon (Val := Elt Ideal) (([3, 2, 1, 0] : List (Fin 4)).flatMap fun hd => outHead (iblk m c 0 t) (iblk m c 1 t) (iblk m c 2 t) (iblk m c 3 t) (iblk m c 4 t) (iblk m c 5 t) (iblk m c 6 t) (iblk m c 7 t)
      (iblk m c 8 t) (iblk m c 9 t) (iblk m c 10 t) (k0_pay67 (cutS (k0_pay3 (F := Ideal)) hd)) hd) := by
  refine (congrArg Prod.fst (outsAt0_A m c t h0)).trans ?_
  refine fst_eq _ _ _ ?_
  apply out_A

theorem block_B (h0 : ¬t.val % 8 = 0) : (outsAt0 m c t.val t.isLt).1 = View.canon (Val := Elt Ideal) (([3, 2, 1, 0] : List (Fin 4)).flatMap fun hd => outHead (iblk m c 0 t) (iblk m c 1 t) (iblk m c 2 t) (iblk m c 3 t) (iblk m c 4 t) (iblk m c 5 t) (iblk m c 6 t) (iblk m c 7 t)
      (iblk m c 8 t) (iblk m c 9 t) (iblk m c 10 t) (k0_pay67 (cutS ((outsAt0 m c (t.val - 1) (Nat.lt_of_le_of_lt (Nat.sub_le _ _) t.isLt)).2) hd)) hd) := by
  refine (congrArg Prod.fst (outsAt0_B m c t h0)).trans ?_
  refine fst_eq _ _ _ ?_
  apply out_B

variable {X Y : ℕ → ℕ → ℝ} (A : Args m c X Y)

include A

/-- The gradient of the state that a point leaves: of all positions from its block's first on. -/
theorem carried (n : ℕ) (hn : n < cfg0.N) (hd : Fin 4) (d : Fin 128) (e : Fin 256) :
    (outsAt0 m c n hn).2 (ix3 hd d e) = (stateG (dec hd) (qOf X hd) (oOf Y hd) (first n) ((n + 1) * 1024) d e : EReal) := by
  induction n generalizing hd d e with
  | zero =>
    refine (congrFun (scratch_A ⟨0, hn⟩ rfl) _).trans ?_
    exact carried_pt ⟨0, hn⟩ A (fun hd => k0_pay67 (cutS (k0_pay3 (F := Ideal)) hd)) (fun hd d e => (start_zero hd d e).trans (by simp [stateG])) _ hd d e
  | succ n ih =>
    have h8 : n + 1 < 8 := hn
    have ih := ih (by omega)
    refine (congrFun (scratch_B ⟨n + 1, hn⟩ (by show ¬(n + 1) % 8 = 0; omega)) _).trans ?_
    rw [← List.append_nil (List.map _ _)]
    refine carried_pt ⟨n + 1, hn⟩ A (fun hd => k0_pay67 (cutS (outsAt0 m c n (by omega)).2 hd)) (fun hd d e => (start_at _ hd d e).trans ((ih hd d e).trans ?_)) _ hd d e
    exact congrArg (fun a => ((stateG (dec hd) (qOf X hd) (oOf Y hd) a ((n + 1) * 1024) d e : ℝ) : EReal)) (show first n = first (n + 1) + 1024 by unfold first; omega)

/-- The block of the result that a point leaves. -/
theorem out_at (y : S1024x2048.Idx) :
    (outsAt0 m c t.val t.isLt).1 y = side (DQ X Y (first t + (y 0 : ℕ))) (DK X Y (first t + (y 0 : ℕ))) (DV X Y (first t + (y 0 : ℕ))) (y 1) := by
  have h8 : t.val < 8 := t.isLt
  by_cases h0 : t.val % 8 = 0
  · refine (congrFun (block_A t h0) y).trans ?_
    have e0 : t.val = 0 := by omega
    exact out_pt t A (fun hd => k0_pay67 (cutS (k0_pay3 (F := Ideal)) hd)) (fun hd d e => (start_zero hd d e).trans (by simp [stateG, e0])) y
  · refine (congrFun (block_B t h0) y).trans ?_
    refine out_pt t A (fun hd => k0_pay67 (cutS (outsAt0 m c (t.val - 1) (Nat.lt_of_le_of_lt (Nat.sub_le _ _) t.isLt)).2 hd)) (fun hd d e => (start_at _ hd d e).trans ((carried A (t.val - 1) (by omega) hd d e).trans ?_)) y
    rw [show first (t.val - 1) = first t.val + 1024 by unfold first; omega, show t.val - 1 + 1 = t.val by omega]

/-! ## The result array -/

omit A in
/-- The result: each row's columns are the heads' query, key and value gradients side by side. -/
def arrOut (X Y : ℕ → ℕ → ℝ) : Vec Ideal S8192x2048 .bf16 := fun i => side (DQ X Y (i 0 : ℕ)) (DK X Y (i 0 : ℕ)) (DV X Y (i 0 : ℕ)) (i 1)

theorem final11 : (dats m 0 c).arrAt 11 cfg0.N = arrOut X Y := by
  have e0 (t : Fin cfg0.N) : win0_11.index t 0 = 7 - t.val := (by decide +kernel : ∀ t : Fin grid0.N, win0_11.index t 0 = 7 - t.val) t
  have e1 (t : Fin cfg0.N) : win0_11.index t 1 = 0 := (by decide +kernel : ∀ t : Fin grid0.N, win0_11.index t 1 = 0) t
  refine (dats m 0 c).arrAt_eq_of_cover 11 _ (fun t _ => ?_) (fun (i : S8192x2048.Idx) => ?_)
  · rw [flushed11]
    refine funext fun (j : S1024x2048.Idx) => ?_
    rw [View.read_apply]
    refine Eq.trans (b := (outsAt0 m c t.val t.isLt).1 j) rfl ((out_at t A j).trans ?_)
    have f0 : first t + (j 0 : ℕ) = win0_11.index t 0 * 1024 + 1 * (j 0 : ℕ) := by rw [e0]; unfold first; omega
    have f1 : j 1 = (⟨win0_11.index t 1 * 2048 + 1 * (j 1 : ℕ), by rw [e1]; have h : (j 1 : ℕ) < 2048 := (j 1).isLt; omega⟩ : Fin 2048) := Fin.ext (by
      show (j 1 : ℕ) = win0_11.index t 1 * 2048 + 1 * (j 1 : ℕ); rw [e1]; omega)
    rw [f0]
    exact congrArg (side _ _ _) f1
  · have hi : (i 0).val < 8192 := (i 0).isLt
    have hi1 : (i 1).val < 2048 := (i 1).isLt
    obtain ⟨t, ht⟩ : ∃ t : Fin cfg0.N, t.val = 7 - (i 0).val / 1024 := ⟨⟨7 - (i 0).val / 1024, by show 7 - (i 0).val / 1024 < 8; omega⟩, rfl⟩
    refine ⟨t, flush0_11 t, ?_⟩
    show i ∈ ((View.whole main_v371).slice (win0_11.rect t)).set
    rw [View.set_slice_whole, Rect.mem_set_unit]
    intro a
    match a with
    | ⟨0, _⟩ => show win0_11.index t 0 * 1024 ≤ (i 0).val ∧ (i 0).val < win0_11.index t 0 * 1024 + 1024; rw [e0]; omega
    | ⟨1, _⟩ => show win0_11.index t 1 * 2048 ≤ (i 1).val ∧ (i 1).val < win0_11.index t 1 * 2048 + 2048; rw [e1]; omega

end Cert.RetKernelIdeal.Step
-- ==== Proof.RetRefEnd.lean ====
/- The result, an index at a time: the gradients turned back by the rotary angles and laid side by side. -/
module

public import proofs.«01_k».proof.Proof.RetRefLoops
public import proofs.«01_k».proof.Proof.RetEnd

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic
open Cert.Retention Cert.HostLoops

theorem concat_congr {t : Shape} {a : Fin t.rank} {L L' : List ((s : Shape) × (s.Idx → EReal))} (e : L = L') (h) (h') :
    concatenate t a L h = concatenate t a L' h' := by
  subst e; rfl

def joined (a b : FVec Ideal S1x8192x512 .f32) (d : FVec Ideal S1x8192x1024 .f32) : FVec Ideal S8192x2048 .bf16 :=
  truncf .bf16 (shapeCast S8192x2048 (concatenate S1x8192x2048 2 [⟨S1x8192x512, a⟩, ⟨S1x8192x512, b⟩, ⟨S1x8192x1024, d⟩] concatenates_S1x8192x512_S1x8192x512_S1x8192x1024_S1x8192x2048_d2 : FVec Ideal S1x8192x2048 .f32) shapeCasts_S1x8192x2048_S8192x2048) bitsLt_bf16_f32

set_option maxHeartbeats 1000000 in
theorem result_joined (W : Valuation τ sig (Elt Ideal)) : afterL post W (Proc.devRef .tc main_v183)
    = joined (afterL post W (Proc.devRef .tc main_v180)) (afterL post W (Proc.devRef .tc main_v163)) (afterL post W (Proc.devRef .tc main_v146)) := by
  simp only [afterL_cons, afterL_nil]
  after_reads_simp
  refine congrArg (fun z : FVec Ideal S1x8192x2048 .f32 => (truncf .bf16 (shapeCast S8192x2048 z shapeCasts_S1x8192x2048_S8192x2048) bitsLt_bf16_f32 : FVec Ideal S8192x2048 .bf16)) ?_
  apply concat_congr
  simp only [Matrix.cons_val]
  after_reads_simp

theorem joined_at (a b : FVec Ideal S1x8192x512 .f32) (d : FVec Ideal S1x8192x1024 .f32) (s : Fin 8192) (l : Fin 2048) : joined a b d (ix2 s l)
    = RetKernelIdeal.Step.side (fun h d => a (ix3 0 s ⟨h.val * 128 + d.val, by omega⟩)) (fun h d => b (ix3 0 s ⟨h.val * 128 + d.val, by omega⟩)) (fun h e => d (ix3 0 s ⟨h.val * 256 + e.val, by omega⟩)) l := by
  pointwise [joined]
  unfold RetKernelIdeal.Step.side
  by_cases h1 : l.val < 512
  · rw [dif_pos h1, dif_pos h1]
    exact congrArg (fun z => a (ix3 0 s z)) (Fin.ext (by dsimp only; omega))
  · rw [dif_neg h1, dif_neg h1]
    by_cases h2 : l.val < 1024
    · rw [dif_pos h2, dif_pos (by omega)]
      exact congrArg (fun z => b (ix3 0 s z)) (Fin.ext (by dsimp only; omega))
    · rw [dif_neg h2, dif_neg (by omega)]
      exact congrArg (fun z => d (ix3 0 s z)) (Fin.ext (by dsimp only; omega))

/-- A gradient turned back by the rotary angles. -/
theorem back {G : Fin 128 → EReal} {C S : Fin 64 → EReal} {g : Fin 128 → ℝ} (s : ℕ) (hG : ∀ d, G d = (g d : EReal))
    (hC : ∀ l, C l = (Real.cos (ang s l.val) : EReal)) (hS : ∀ l, S l = (Real.sin (ang s l.val) : EReal)) (d : Fin 128) :
    ((if h : 64 ≤ d.val ∧ d.val - 64 < 64 then G ⟨64 + (d.val - 64), by omega⟩ * C ⟨d.val - 64, by omega⟩ + -G ⟨d.val - 64, by omega⟩ * S ⟨d.val - 64, by omega⟩ else 0)
      + if h : d.val < 64 then G ⟨64 + d.val, by omega⟩ * S ⟨d.val, h⟩ + G d * C ⟨d.val, h⟩ else 0)
      = (g d : EReal) * (cosT s d : EReal) - (g (RetKernelIdeal.Step.half64 d) : EReal) * (sinT s d : EReal) := by
  simp only [hG, hC, hS, cosT, sinT, RetKernelIdeal.Step.half64]
  by_cases h : d.val < 64
  · rw [dif_neg (by omega), dif_pos h, if_pos h, zero_add, Nat.mod_eq_of_lt h]
    simp only [← EReal.coe_mul, ← EReal.coe_add, ← EReal.coe_sub]
    rw [show (⟨(d.val + 128 - 64) % 128, Nat.mod_lt _ (by omega)⟩ : Fin 128) = ⟨64 + d.val, by omega⟩ from Fin.ext (by dsimp only; omega)]
    congr 1; ring
  · rw [dif_pos (by omega), dif_neg h, if_neg h, add_zero, show d.val % 64 = d.val - 64 by omega]
    simp only [← EReal.coe_neg, ← EReal.coe_mul, ← EReal.coe_add, ← EReal.coe_sub]
    rw [show (⟨(d.val + 128 - 64) % 128, Nat.mod_lt _ (by omega)⟩ : Fin 128) = ⟨d.val - 64, by omega⟩ from Fin.ext (by dsimp only; omega),
      show (⟨64 + (d.val - 64), by omega⟩ : Fin 128) = d from Fin.ext (by dsimp only; omega)]
    congr 1; ring

variable {m : (ℓ : Loc nD τ sig) → Buf (Elt Ideal) ℓ} {c : Dev nD} {X Y : ℕ → ℕ → ℝ} (A : Args m c X Y)

theorem angles (x : Ref sig .tc) (h : x ∈ [main_v18, main_v20, main_v48, main_v50]) : T1 m c 64 (Proc.devRef .tc x) = E m c x := by
  obtain ⟨-, -, -, -, -, -, -, -, -, -, a, b, d, e⟩ := carries1 m c
  simp only [List.mem_cons, List.not_mem_nil, or_false] at h
  obtain rfl | rfl | rfl | rfl := h
  · rw [T1_still m c 64 _ (by decide), a, T0_still m c 64 _ (by decide)]; rfl
  · rw [T1_still m c 64 _ (by decide), b, T0_still m c 64 _ (by decide)]; rfl
  · rw [T1_still m c 64 _ (by decide), d, T0_still m c 64 _ (by decide)]; rfl
  · rw [T1_still m c 64 _ (by decide), e, T0_still m c 64 _ (by decide)]; rfl

include A

theorem dv_at (s : Fin 8192) (h : Fin 4) (e : Fin 256) : (afterL post (T1 m c 64) (Proc.devRef .tc main_v146) : FVec Ideal S1x8192x1024 .f32) (ix3 0 s ⟨h.val * 256 + e.val, by omega⟩)
    = RetKernelIdeal.Step.DV X Y s h e := by
  have e1 := (done1 A 64 le_rfl).gv ⟨s.val / 128, by omega⟩ (by dsimp only; omega) h ⟨s.val % 128, by omega⟩ e
  dsimp only at e1
  rw [show s.val / 128 * 128 + s.val % 128 = s.val by omega] at e1
  refine Eq.trans ?_ e1
  generalize T1 m c 64 = W
  simp only [afterL_cons, afterL_nil]
  after_reads_simp
  pointwise

theorem dk_at (s : Fin 8192) (h : Fin 4) (d : Fin 128) : (afterL post (T1 m c 64) (Proc.devRef .tc main_v163) : FVec Ideal S1x8192x512 .f32) (ix3 0 s ⟨h.val * 128 + d.val, by omega⟩)
    = RetKernelIdeal.Step.DK X Y s h d := by
  have e1 := (done1 A 64 le_rfl).gk ⟨s.val / 128, by omega⟩ (by dsimp only; omega) h ⟨s.val % 128, by omega⟩
  dsimp only at e1
  rw [show s.val / 128 * 128 + s.val % 128 = s.val by omega] at e1
  have hc := E_kcos (m := m) (c := c) s
  have hs := E_ksin (m := m) (c := c) s
  rw [← angles _ (by decide)] at hc hs
  refine Eq.trans ?_ (back s e1 hc hs d)
  generalize T1 m c 64 = W
  simp only [afterL_cons, afterL_nil]
  after_reads_simp
  pointwise

theorem dq_at (s : Fin 8192) (h : Fin 4) (d : Fin 128) : (afterL post (T1 m c 64) (Proc.devRef .tc main_v180) : FVec Ideal S1x8192x512 .f32) (ix3 0 s ⟨h.val * 128 + d.val, by omega⟩)
    = RetKernelIdeal.Step.DQ X Y s h d := by
  have e1 := (done1 A 64 le_rfl).gq ⟨s.val / 128, by omega⟩ (by dsimp only; omega) h ⟨s.val % 128, by omega⟩
  dsimp only at e1
  rw [show s.val / 128 * 128 + s.val % 128 = s.val by omega] at e1
  have e2 := fun d => (congrArg (fun z : EReal => z * Ideal.ofBits FTy.f32 1035273459#32) (e1 d)).trans ((congrArg (fun z : EReal => _ * z) sc_real).trans (EReal.coe_mul _ _).symm)
  have hc := E_qcos (m := m) (c := c) s
  have hs := E_qsin (m := m) (c := c) s
  rw [← angles _ (by decide)] at hc hs
  refine Eq.trans ?_ ((back s e2 hc hs d).trans ?_)
  · generalize T1 m c 64 = W
    simp only [afterL_cons, afterL_nil]
    after_reads_simp
    pointwise
  · rw [RetKernelIdeal.Step.DQ, RetKernelIdeal.Step.scale, sc_real, EReal.coe_mul, EReal.coe_mul]

/-- What the reference leaves in its result is what the kernel leaves in its. -/
theorem result : (final m loop0 loop1 pre mid post c (Proc.devRef .tc main_v183) : FVec Ideal S8192x2048 .bf16) = RetKernelIdeal.Step.arrOut X Y := by
  show afterL post (T1 m c 64) (Proc.devRef .tc main_v183) = _
  rw [result_joined]
  funext i
  obtain ⟨s, l, rfl⟩ : ∃ s l, i = ix2 s l := ⟨i 0, i 1, funext (Fin.forall_fin_two.2 ⟨rfl, rfl⟩)⟩
  refine (joined_at _ _ _ s l).trans ?_
  simp only [dq_at A, dk_at A, dv_at A]
  rfl

end Cert.RetReferenceIdeal.Lines

end
-- ==== Proof.Finite.lean ====
module
public import Idealize.ShloMosaic.PureOps.Ideal
public import Idealize.ShloMosaic.PureOps.Ideal.Laws
/-! The precondition's test of one entry, read as: the entry is a real number. -/
@[expose] public section
noncomputable section
namespace Cert
open Idealize.ShloMosaic

/-- An extended real whose absolute value is below the float word of `+∞` is a real number. -/
theorem real_of_lt (y : EReal) (h : FloatOps.cmpf (F := Ideal) (φ := .f32) .olt (FloatOps.hostAbsf (F := Ideal) (φ := .f32) y) (Ideal.ofBits .f32 0x7F800000#32) = 1#1) :
    ∃ r : ℝ, y = (r : EReal) := by
  have hT : Ideal.ofBits .f32 0x7F800000#32 = ⊤ := by simp [Ideal.ofBits, Ideal.ieee]
  rw [hT] at h
  induction y with
  | bot => exact absurd h (by rw [show FloatOps.cmpf (F := Ideal) (φ := .f32) .olt (FloatOps.hostAbsf (F := Ideal) (φ := .f32) (⊥ : EReal)) (⊤ : EReal) = Ideal.cmp .olt (max (⊥ : EReal) (-⊥)) ⊤ from rfl]; simp [Ideal.cmp])
  | top => exact absurd h (by rw [show FloatOps.cmpf (F := Ideal) (φ := .f32) .olt (FloatOps.hostAbsf (F := Ideal) (φ := .f32) (⊤ : EReal)) (⊤ : EReal) = Ideal.cmp .olt (max (⊤ : EReal) (-⊤)) ⊤ from rfl]; simp [Ideal.cmp])
  | coe r => exact ⟨r, rfl⟩
end Cert
end
-- ==== Proof.RetValue.lean ====
/- The retention's gradient kernel and the gradient of the forward lines leave the same array. -/
module

public import proofs.«01_k».proof.Defs
public import proofs.«01_k».proof.Proof.RetRefEnd
public import proofs.«01_k».proof.Proof.Finite
public import Idealize.ShloMosaic.Lib.Quiescent
public import proofs.«01_k».proof.Proof.Gen.Pre_ret_finite
public import proofs.«01_k».proof.Proof.Gen.RetKernel.Frame

@[expose] public section

set_option maxRecDepth 16384

noncomputable section

namespace Cert.RetReferenceIdeal.Lines

open Cert.RetReferenceIdeal Cert.RetReferenceIdeal.Gen Idealize.ShloMosaic Idealize.ShloMosaic.TcCoe Idealize.ShloMosaic.StableHlo Idealize.ShloMosaic.Tactic
open Cert.HostLoops Idealize.SL.Sem

variable (m : (ℓ : Loc nD τ sig) → Buf (Elt Ideal) ℓ)

theorem spared (W : Valuation τ sig (Elt Ideal)) : ∀ x ∈ [main_arg0, main_arg1], afterL pre W (Proc.devRef .tc x) = W (Proc.devRef .tc x)
    ∧ afterL mid W (Proc.devRef .tc x) = W (Proc.devRef .tc x) ∧ afterL post W (Proc.devRef .tc x) = W (Proc.devRef .tc x) := by
  simp only [List.forall_mem_cons, List.not_mem_nil, false_imp_iff, implies_true, and_true, afterL_cons, afterL_nil]
  repeat' apply And.intro
  all_goals after_reads_simp

theorem kept_args (c : Dev nD) (x : Ref sig .tc) (hx : x ∈ [main_arg0, main_arg1]) : final m loop0 loop1 pre mid post c (Proc.devRef .tc x) = m ((c.tc : Thread nD τ).loc x) :=
  ((spared _ x hx).2.2.trans (T1_still m c 64 x ((by decide : ∀ x ∈ [main_arg0, main_arg1], x ∈ still1) x hx))).trans
    ((spared _ x hx).2.1.trans ((T0_still m c 64 x ((by decide : ∀ x ∈ [main_arg0, main_arg1], x ∈ still0) x hx)).trans (spared _ x hx).1))

theorem run_result (ρ : Dev nD → PrngReg) :
    θ_run (defs (F := Ideal)) (onTc (τ := τ) (main (F := Ideal))) ⟨m, fun _ => 0, ρ⟩ fun r => ∀ c : Dev nD,
      r.2.mem ((c.tc : Thread nD τ).loc main_v183) = final m loop0 loop1 pre mid post c (Proc.devRef .tc main_v183)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨h c main_v183 rfl, (h c main_arg0 rfl).trans (kept_args m c _ (by decide)), (h c main_arg1 rfl).trans (kept_args m c _ (by decide))⟩) (run m ρ)

end Cert.RetReferenceIdeal.Lines

namespace Cert.Ret

open Idealize.ShloMosaic Idealize.ShloMosaic.TcCoe Idealize.SL.Sem Cert.Retention

/-- The reference ends with its arguments as launched and every semaphore at zero: it has no semaphores. -/
theorem frame_reference : Cert.quiescent_RetReferenceIdeal := fun m g _ =>
  (θ_run Cert.RetReferenceIdeal.defs _ _).mono (fun r h => ⟨fun c => (h c).2, sem_eq_zero_of_no_sems rfl r.2⟩) (RetReferenceIdeal.Lines.run_result m g)

section
open Cert.RetKernelIdeal

variable (m : (ℓ : Loc nD τ sig) → Buf (Elt Ideal) ℓ)

/-- The arguments' entries as real numbers, by row and column. -/
def xs (c : Dev nD) : ℕ → ℕ → ℝ := real2 fun (s : Fin 8192) (l : Fin 2048) => (m ((c.tc : Thread nD τ).loc main_arg0) : FVec Ideal S1x8192x2048 .f32) (ix3 0 s l)
def ys (c : Dev nD) : ℕ → ℕ → ℝ := real2 fun (s : Fin 8192) (l : Fin 1024) =>
  (m ((c.tc : Thread nD τ).loc main_arg1) : FVec Ideal S1x8192x4x256 .f32) (ix4 0 s ⟨l.val / 256, by omega⟩ ⟨l.val % 256, Nat.mod_lt _ (by omega)⟩)

variable {m} (hp : Cert.Pre_RetKernelIdeal_ret_finite m) (c : Dev nD)

include hp

theorem xs_at (s : Fin 8192) (l : Fin 2048) : (m ((c.tc : Thread nD τ).loc main_arg0) : FVec Ideal S1x8192x2048 .f32) (ix3 0 s l) = (xs m c s l : EReal) :=
  real2_at (fun (s : Fin 8192) (l : Fin 2048) => (m ((c.tc : Thread nD τ).loc main_arg0) : FVec Ideal S1x8192x2048 .f32) (ix3 0 s l))
    (fun s l => real_of_lt _ (congrFun (hp c).1 (ix3 0 s l))) s l

theorem ys_at (s : Fin 8192) (h : Fin 4) (e : Fin 256) :
    (m ((c.tc : Thread nD τ).loc main_arg1) : FVec Ideal S1x8192x4x256 .f32) (ix4 0 s h e) = (ys m c s (h.val * 256 + e.val) : EReal) := by
  refine Eq.trans ?_ (real2_at (fun (s : Fin 8192) (l : Fin 1024) => (m ((c.tc : Thread nD τ).loc main_arg1) : FVec Ideal S1x8192x4x256 .f32) (ix4 0 s ⟨l.val / 256, by omega⟩ ⟨l.val % 256, Nat.mod_lt _ (by omega)⟩))
    (fun s l => real_of_lt _ (congrFun (hp c).2 (ix4 0 s ⟨l.val / 256, by omega⟩ ⟨l.val % 256, Nat.mod_lt _ (by omega)⟩))) s ⟨h.val * 256 + e.val, by omega⟩)
  dsimp only
  exact congrArg₂ (fun a b => (m ((c.tc : Thread nD τ).loc main_arg1) : FVec Ideal S1x8192x4x256 .f32) (ix4 0 s a b)) (Fin.ext (by dsimp only; omega)) (Fin.ext (by dsimp only; omega))

end

theorem value : Cert.algebraic_RetKernelIdeal_RetReferenceIdeal_pre_ret_finite := by
  intro m g m' g' hp he
  refine ⟨fun c => RetKernelIdeal.Step.arrOut (xs m c) (ys m c), ?_, ?_⟩
  · refine (θ_run Cert.RetKernelIdeal.defs _ _).mono (fun r h c => ?_) (Cert.RetKernelIdeal.Value.run_blocks (F := Ideal) m g)
    exact ⟨(h c).1.trans (RetKernelIdeal.Step.final11 ⟨xs_at hp c, ys_at hp c⟩), (h c).2⟩
  · refine (θ_run Cert.RetReferenceIdeal.defs _ _).mono (fun r h c => ?_) (RetReferenceIdeal.Lines.run_result m' g')
    refine ⟨(h c).1.trans (RetReferenceIdeal.Lines.result (X := xs m c) (Y := ys m c) ⟨fun s l => ?_, fun s h e => ?_⟩), (h c).2⟩
    · exact (congrFun (he c).1 (ix3 0 s l)).trans (xs_at hp c s l)
    · exact (congrFun (he c).2 (ix4 0 s h e)).trans (ys_at hp c s h e)

end Cert.Ret

end
-- ==== Proof.FfnStep.lean ====
/- What one grid point of the feed-forward layer's gradient kernel leaves in each of its output blocks, as its body's terms over the point's
   input blocks (and, for the gain's row, over what the point before left). -/
module

public import proofs.«01_k».proof.Proof.Gen.FfnKernelIdeal.Value
public import Idealize.ShloMosaic.Lib.Tactic

@[expose] public section

set_option maxRecDepth 16384

noncomputable section

namespace Cert.FfnKernelIdeal.Step

open Cert.FfnKernelIdeal Cert.FfnKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Cases

variable (c : Dev nD) (i : grid0.Coords) (a1 : Memref sig .tc .vmem S256x1024 .f32) (h1 : a1.IsWhole) (a2 : Memref sig .tc .vmem S256x2816 .f32) (h2 : a2.IsWhole) (a3 : Memref sig .tc .vmem S256x2816 .f32) (h3 : a3.IsWhole) (a4 : Memref sig .tc .vmem S256x1024 .f32) (h4 : a4.IsWhole) (a5 : Memref sig .tc .vmem S1x1024 .f32) (h5 : a5.IsWhole) (a6 : Memref sig .tc .vmem S2816x1024 .bf16) (h6 : a6.IsWhole) (a7 : Memref sig .tc .vmem S2816x1024 .bf16) (h7 : a7.IsWhole) (a8 : Memref sig .tc .vmem S2816x1024 .bf16) (h8 : a8.IsWhole) (a9 : Memref sig .tc .vmem S256x2816 .bf16) (h9 : a9.IsWhole) (a10 : Memref sig .tc .vmem S256x2816 .bf16) (h10 : a10.IsWhole) (a11 : Memref sig .tc .vmem S256x1024 .f32) (h11 : a11.IsWhole) (a12 : Memref sig .tc .vmem S1x1024 .f32) (h12 : a12.IsWhole)
  (x0 : Vec F S256x1024 .f32) (x1 : Vec F S256x2816 .f32) (x2 : Vec F S256x2816 .f32) (x3 : Vec F S256x1024 .f32) (x4 : Vec F S1x1024 .f32) (x5 : Vec F S2816x1024 .bf16) (x6 : Vec F S2816x1024 .bf16) (x7 : Vec F S2816x1024 .bf16)

theorem out_A_8 (hc : cond0_0 i) :
    out0_A_8 c i a1 h1 a2 h2 a3 h3 a4 h4 a5 h5 a6 h6 a7 h7 a8 h8 a9 h9 a10 h10 a11 h11 a12 h12 hc x0 x1 x2 x3 x4 x5 x6 x7 = k0_pay6 x0 x7 x1 x2 := by
  unfold out0_A_8
  rw [View.read_writes_eq_canon _ _ _ (cover0_A_8 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_A_9 (hc : cond0_0 i) :
    out0_A_9 c i a1 h1 a2 h2 a3 h3 a4 h4 a5 h5 a6 h6 a7 h7 a8 h8 a9 h9 a10 h10 a11 h11 a12 h12 hc x0 x1 x2 x3 x4 x5 x6 x7 = k0_pay7 x0 x7 x1 := by
  unfold out0_A_9
  rw [View.read_writes_eq_canon _ _ _ (cover0_A_9 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_A_10 (hc : cond0_0 i) :
    out0_A_10 c i a1 h1 a2 h2 a3 h3 a4 h4 a5 h5 a6 h6 a7 h7 a8 h8 a9 h9 a10 h10 a11 h11 a12 h12 hc x0 x1 x2 x3 x4 x5 x6 x7 = k0_pay13 (k0_pay2 x0) (k0_pay6 x0 x7 x1 x2) (k0_pay7 x0 x7 x1) x5 x6 x3 x4 := by
  unfold out0_A_10
  rw [View.read_writes_eq_canon _ _ _ (cover0_A_10 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_A_11 (hc : cond0_0 i) :
    out0_A_11 c i a1 h1 a2 h2 a3 h3 a4 h4 a5 h5 a6 h6 a7 h7 a8 h8 a9 h9 a10 h10 a11 h11 a12 h12 hc x0 x1 x2 x3 x4 x5 x6 x7 = k0_pay12 (k0_pay6 x0 x7 x1 x2) (k0_pay7 x0 x7 x1) x5 x6 x3 k0_pay1 := by
  unfold out0_A_11
  rw [View.read_writes_eq_canon _ _ _ (cover0_A_11 c i a1 h1 a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S1x1024) hz]
  rw [View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_B_8 (hc : ¬cond0_0 i) (p11 : Vec F S1x1024 .f32) :
    out0_B_8 c i a1 h1 a2 h2 a3 h3 a4 h4 a5 h5 a6 h6 a7 h7 a8 h8 a9 h9 a10 h10 a11 h11 a12 h12 hc x0 x1 x2 x3 x4 x5 x6 x7 p11 = k0_pay6 x0 x7 x1 x2 := by
  unfold out0_B_8
  rw [View.read_writes_eq_canon _ _ _ (cover0_B_8 c i a1 h1 a2 h2 a3 h3 a4 h4 a5 h5 a6 h6 a7 h7 a8 h8 a9 h9 a10 h10 a11 h11 a12 h12 hc x0 x1 x2 x3 x4 x5 x6 x7 p11)]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_B_9 (hc : ¬cond0_0 i) (p11 : Vec F S1x1024 .f32) :
    out0_B_9 c i a1 h1 a2 h2 a3 h3 a4 h4 a5 h5 a6 h6 a7 h7 a8 h8 a9 h9 a10 h10 a11 h11 a12 h12 hc x0 x1 x2 x3 x4 x5 x6 x7 p11 = k0_pay7 x0 x7 x1 := by
  unfold out0_B_9
  rw [View.read_writes_eq_canon _ _ _ (cover0_B_9 c i a1 h1 a2 h2 a3 h3 a4 h4 a5 h5 a6 h6 a7 h7 a8 h8 a9 h9 a10 h10 a11 h11 a12 h12 hc x0 x1 x2 x3 x4 x5 x6 x7 p11)]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_B_10 (hc : ¬cond0_0 i) (p11 : Vec F S1x1024 .f32) :
    out0_B_10 c i a1 h1 a2 h2 a3 h3 a4 h4 a5 h5 a6 h6 a7 h7 a8 h8 a9 h9 a10 h10 a11 h11 a12 h12 hc x0 x1 x2 x3 x4 x5 x6 x7 p11 = k0_pay13 (k0_pay2 x0) (k0_pay6 x0 x7 x1 x2) (k0_pay7 x0 x7 x1) x5 x6 x3 x4 := by
  unfold out0_B_10
  rw [View.read_writes_eq_canon _ _ _ (cover0_B_10 c i a1 h1 a2 h2 a3 h3 a4 h4 a5 h5 a6 h6 a7 h7 a8 h8 a9 h9 a10 h10 a11 h11 a12 h12 hc x0 x1 x2 x3 x4 x5 x6 x7 p11)]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

theorem out_B_11 (hc : ¬cond0_0 i) (p11 : Vec F S1x1024 .f32) :
    out0_B_11 c i a1 h1 a2 h2 a3 h3 a4 h4 a5 h5 a6 h6 a7 h7 a8 h8 a9 h9 a10 h10 a11 h11 a12 h12 hc x0 x1 x2 x3 x4 x5 x6 x7 p11 = k0_pay12 (k0_pay6 x0 x7 x1 x2) (k0_pay7 x0 x7 x1) x5 x6 x3 p11 := by
  unfold out0_B_11
  rw [View.read_writes_eq_canon _ _ _ (cover0_B_11 c i a1 h1 a2 h2 a3 h3 a4 h4 a5 h5 a6 h6 a7 h7 a8 h8 a9 h9 a10 h10 a11 h11 a12 h12 hc x0 x1 x2 x3 x4 x5 x6 x7 p11)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, View.ld_unit_zero (S := S256x1024) hz, View.ld_unit_zero (S := S256x2816) hz, View.ld_unit_zero (S := S1x1024) hz, View.ld_unit_zero (S := S2816x1024) hz]

end Cases

end Cert.FfnKernelIdeal.Step

end
-- ==== Proof.Silu.lean ====
module
public import proofs.«01_k».proof.Proof.ProjMath
/-! The logistic function by the hyperbolic tangent, as the kernels write it, and the gradient through `g · σ(g) · u` at real numbers. -/
@[expose] public section
noncomputable section
namespace Cert.Silu
open Idealize.ShloMosaic

/-- `½ · tanh (½ · g) + ½`. -/
def sg (g : EReal) : EReal :=
  Ideal.ofBits FTy.f32 1056964608#32 * Ideal.tanh (Ideal.ofBits FTy.f32 1056964608#32 * g) + Ideal.ofBits FTy.f32 1056964608#32

theorem cHalf : Ideal.ofBits FTy.f32 1056964608#32 = ((1 / 2 : ℝ) : EReal) := by
  simp [Ideal.ofBits, Ideal.ieee, -EReal.coe_mul]; norm_num

theorem sg_real (g : ℝ) : ∃ σ : ℝ, sg (g : EReal) = (σ : EReal) ∧ Ideal.logistic (g : EReal) = (σ : EReal) := by
  refine ⟨(1 + Real.exp (-g))⁻¹, ?_, Ideal.logistic_coe g⟩
  unfold sg
  rw [cHalf, ← EReal.coe_mul, Ideal.tanh_coe, ← EReal.coe_mul, ← EReal.coe_add]
  congr 1
  have h : Real.exp (-g) = Real.exp (-(1 / 2 * g)) * Real.exp (-(1 / 2 * g)) := by rw [← Real.exp_add]; congr 1; ring
  have hp := Real.exp_pos (1 / 2 * g)
  have hi : Real.exp (-(1 / 2 * g)) = (Real.exp (1 / 2 * g))⁻¹ := Real.exp_neg _
  rw [Real.tanh_eq_sinh_div_cosh, Real.sinh_eq, Real.cosh_eq, h, hi]
  generalize Real.exp (1 / 2 * g) = e at hp
  have : e ≠ 0 := hp.ne'
  field_simp
  ring

/-- The gradient at `g`, in the kernel's form and as the chain rule leaves it. -/
theorem gate_eq (d u g : ℝ) :
    (d : EReal) * u * (sg g * (1 + g * (1 - sg g)))
      = (d : EReal) * u * Ideal.logistic g + g * ((d : EReal) * u) * (Ideal.logistic g * (1 - Ideal.logistic g)) := by
  obtain ⟨σ, h1, h2⟩ := sg_real g
  rw [h1, h2, ← EReal.coe_one]
  simp only [← EReal.coe_mul, ← EReal.coe_add, ← EReal.coe_sub]
  congr 1
  ring

end Cert.Silu
end
-- ==== Proof.FfnMath.lean ====
module
public import proofs.«01_k».proof.Proof.Silu
/-! The feed-forward layer's gradient over the extended reals: the kernel's formulas, the chain rule's, and their equality at real arguments. -/
@[expose] public section
noncomputable section
namespace Cert.Ffn
open Idealize.ShloMosaic Cert.Silu

/-- The arguments of the call by coordinates: the layer's input, the gain, the three weights, and the output's cotangent. -/
structure Args where
  X : Fin 8192 → Fin 1024 → EReal
  G : Fin 1024 → EReal
  WG : Fin 1024 → Fin 2816 → EReal
  WU : Fin 1024 → Fin 2816 → EReal
  WD : Fin 2816 → Fin 1024 → EReal
  DY : Fin 8192 → Fin 1024 → EReal

/-- The mean square of a row plus ε. -/
def meanSq (a : Fin 1024 → EReal) : EReal :=
  Ideal.div (∑ k : Fin 1024, a k * a k) (Ideal.ofBits FTy.f32 1149239296#32) + Ideal.ofBits FTy.f32 897988541#32

/-- The chain rule's term through the mean square. -/
def viaMean (a d : Fin 1024 → EReal) : EReal :=
  Ideal.div ((∑ k : Fin 1024, a k * d k) * (Ideal.ofBits FTy.f32 3204448256#32 * Ideal.div (Ideal.rsqrt (meanSq a)) (meanSq a))) (Ideal.ofBits FTy.f32 1149239296#32)

/-- The kernel's gradient through a row's norm: `dy` past it, `a` at its scaled output. -/
def normGrad (x a : Fin 1024 → EReal) (dy : EReal) (k : Fin 1024) : EReal :=
  dy + Ideal.rsqrt (meanSq x) * (a k - x k * Ideal.rsqrt (meanSq x)
    * Ideal.div (∑ k : Fin 1024, a k * (x k * Ideal.rsqrt (meanSq x))) (Ideal.ofBits FTy.f32 1149239296#32))

namespace Args
variable (A : Args) (s : Fin 8192) (k : Fin 1024) (j : Fin 2816)

/-- The norm's output, and the two products that read it. -/
def hid : EReal := A.X s k * Ideal.rsqrt (meanSq (A.X s)) * A.G k
def gate : EReal := ∑ k : Fin 1024, A.hid s k * A.WG k j
def up : EReal := ∑ k : Fin 1024, A.hid s k * A.WU k j
/-- The cotangent of the gated product. -/
def dact : EReal := ∑ k : Fin 1024, A.DY s k * A.WD j k

/-- The kernel's gradients: at the gate, at the other product, at the norm's output; the input's and row `s`'s share of the gain's. -/
def dgate : EReal := A.dact s j * A.up s j * (sg (A.gate s j) * (1 + A.gate s j * (1 - sg (A.gate s j))))
def dup : EReal := A.dact s j * (A.gate s j * sg (A.gate s j))
def dh : EReal := ∑ j : Fin 2816, A.dgate s j * A.WG k j + ∑ j : Fin 2816, A.dup s j * A.WU k j
def dx : EReal := normGrad (A.X s) (fun k => A.dh s k * A.G k) (A.DY s k) k
def dg : EReal := A.dh s k * (A.X s k * Ideal.rsqrt (meanSq (A.X s)))

/-- The chain rule's. -/
def dgate' : EReal := A.dact s j * A.up s j * Ideal.logistic (A.gate s j)
  + A.gate s j * (A.dact s j * A.up s j) * (Ideal.logistic (A.gate s j) * (1 - Ideal.logistic (A.gate s j)))
def dup' : EReal := A.gate s j * Ideal.logistic (A.gate s j) * A.dact s j
def dh' : EReal := ∑ j : Fin 2816, A.dup' s j * A.WU k j + ∑ j : Fin 2816, A.dgate' s j * A.WG k j
def dx' : EReal := A.DY s k + A.dh' s k * A.G k * Ideal.rsqrt (meanSq (A.X s))
  + A.X s k * viaMean (A.X s) (fun k => A.dh' s k * A.G k) + viaMean (A.X s) (fun k => A.dh' s k * A.G k) * A.X s k

/-- Every argument's every entry is a real number. -/
structure Real : Prop where
  x : ∀ s k, ∃ r : ℝ, A.X s k = (r : EReal)
  g : ∀ k, ∃ r : ℝ, A.G k = (r : EReal)
  wg : ∀ k j, ∃ r : ℝ, A.WG k j = (r : EReal)
  wu : ∀ k j, ∃ r : ℝ, A.WU k j = (r : EReal)
  wd : ∀ j k, ∃ r : ℝ, A.WD j k = (r : EReal)
  dy : ∀ s k, ∃ r : ℝ, A.DY s k = (r : EReal)

variable {A} (hA : A.Real)
include hA

theorem hid_real : ∃ r : ℝ, A.hid s k = (r : EReal) := by
  choose x hx using hA.x s
  obtain ⟨g, hg⟩ := hA.g k
  obtain ⟨v, r, _, _, _, e, er⟩ := RmsGrad.rsqrt_mean x
  refine ⟨x k * r * g, ?_⟩
  unfold hid meanSq
  simp only [hx, hg]
  rw [e, er]
  simp only [EReal.coe_mul]

theorem sum_real {n : ℕ} (a b : Fin n → EReal) (ha : ∀ i, ∃ r : ℝ, a i = (r : EReal)) (hb : ∀ i, ∃ r : ℝ, b i = (r : EReal)) :
    ∃ r : ℝ, ∑ i : Fin n, a i * b i = (r : EReal) := by
  choose a' ha' using ha
  choose b' hb' using hb
  refine ⟨∑ i, a' i * b' i, ?_⟩
  simp only [ha', hb', ← EReal.coe_mul]
  exact RmsGrad.coe_sum _ _

theorem gate_real : ∃ r : ℝ, A.gate s j = (r : EReal) := sum_real hA _ _ (fun k => hid_real s k hA) (fun k => hA.wg k j)
theorem up_real : ∃ r : ℝ, A.up s j = (r : EReal) := sum_real hA _ _ (fun k => hid_real s k hA) (fun k => hA.wu k j)
theorem dact_real : ∃ r : ℝ, A.dact s j = (r : EReal) := sum_real hA _ _ (hA.dy s) (hA.wd j)

theorem dgate_eq : A.dgate s j = A.dgate' s j := by
  obtain ⟨g, hg⟩ := gate_real s j hA
  obtain ⟨u, hu⟩ := up_real s j hA
  obtain ⟨d, hd⟩ := dact_real s j hA
  unfold dgate dgate'
  rw [hg, hu, hd]
  exact gate_eq d u g

theorem dup_eq : A.dup s j = A.dup' s j := by
  obtain ⟨g, hg⟩ := gate_real s j hA
  obtain ⟨σ, h1, h2⟩ := sg_real g
  unfold dup dup'
  rw [hg, h1, h2, mul_comm]

theorem dh_eq : A.dh s k = A.dh' s k := by
  unfold dh dh'
  simp only [dgate_eq s _ hA, dup_eq s _ hA]
  exact add_comm _ _

theorem dx_eq : A.dx s k = A.dx' s k := by
  choose x hx using hA.x s
  have h := RmsGrad.grad x (fun k => A.dh s k * A.G k) (A.DY s k) k _ _ rfl rfl
  simp only [← hx] at h
  refine Eq.trans h ?_
  simp only [dh_eq s _ hA]
  rfl

end Args
end Cert.Ffn
end
-- ==== Proof.FfnHost.lean ====
module
public import proofs.«01_k».proof.Proof.FfnStep
public import proofs.«01_k».proof.Proof.FfnMath
public import Idealize.ShloMosaic.Lib.Pointwise
public import Idealize.ShloMosaic.Lib.StableHlo.RunRead
/-! The blocks that the feed-forward layer's gradient kernel reads at a grid point, each as entries of the launch arguments. -/
@[expose] public section
set_option maxRecDepth 16384
noncomputable section
namespace Cert.FfnKernelIdeal.Step
open Cert.FfnKernelIdeal Cert.FfnKernelIdeal.Gen Idealize.ShloMosaic Idealize.ShloMosaic.TcCoe Idealize.SL.Sem

variable (m : (ℓ : Loc nD τ sig) → Buf (Elt Ideal) ℓ) (c : Dev nD)

/-- The launch arguments, by coordinates. -/
def args : Ffn.Args where
  X s k := (m ((c : Thread nD τ).loc main_arg0) : FVec Ideal S1x8192x1024 .f32) (ix3 0 s k)
  G k := (m ((c : Thread nD τ).loc main_arg1) : FVec Ideal S1x1024 .f32) (ix2 0 k)
  WG k j := (m ((c : Thread nD τ).loc main_arg2) : FVec Ideal S1x1024x2816 .f32) (ix3 0 k j)
  WU k j := (m ((c : Thread nD τ).loc main_arg3) : FVec Ideal S1x1024x2816 .f32) (ix3 0 k j)
  WD j k := (m ((c : Thread nD τ).loc main_arg4) : FVec Ideal S1x2816x1024 .f32) (ix3 0 j k)
  DY s k := (m ((c : Thread nD τ).loc main_arg5) : FVec Ideal S1x8192x1024 .f32) (ix3 0 s k)

/-! ## The arrays the region finds -/

theorem V_v26 (s : Fin 8192) (k : Fin 1024) : V m c main_v26 (ix2 s k) = (args m c).DY s k := by
  unfold V args
  after_reads_simp
  generalize m (c.tc.loc main_arg5) = x
  pointwise

theorem V_v27 (s : Fin 8192) (k : Fin 1024) : V m c main_v27 (ix2 s k) = (args m c).X s k := by
  unfold V args
  after_reads_simp
  generalize m (c.tc.loc main_arg0) = x
  pointwise

theorem V_v2 (j : Fin 2816) (k : Fin 1024) : V m c main_v2 (ix2 j k) = (args m c).WG k j := by
  unfold V args
  after_reads_simp
  generalize m (c.tc.loc main_arg2) = x
  pointwise

theorem V_v5 (j : Fin 2816) (k : Fin 1024) : V m c main_v5 (ix2 j k) = (args m c).WU k j := by
  unfold V args
  after_reads_simp
  generalize m (c.tc.loc main_arg3) = x
  pointwise

theorem V_v7 (j : Fin 2816) (k : Fin 1024) : V m c main_v7 (ix2 j k) = (args m c).WD j k := by
  unfold V args
  after_reads_simp
  generalize m (c.tc.loc main_arg4) = x
  pointwise

theorem V_arg1 (k : Fin 1024) : V m c main_arg1 (ix2 0 k) = (args m c).G k := by
  unfold V args
  after_reads_simp

theorem V_v24 (s : Fin 8192) (j : Fin 2816) : V m c main_v24 (ix2 s j) = (args m c).gate s j := by
  unfold V Ffn.Args.gate Ffn.Args.hid Ffn.meanSq args
  after_reads_simp
  generalize m (c.tc.loc main_arg0) = x
  generalize m (c.tc.loc main_arg1) = g
  generalize m (c.tc.loc main_arg2) = w
  pointwise

theorem V_v25 (s : Fin 8192) (j : Fin 2816) : V m c main_v25 (ix2 s j) = (args m c).up s j := by
  unfold V Ffn.Args.up Ffn.Args.hid Ffn.meanSq args
  after_reads_simp
  generalize m (c.tc.loc main_arg0) = x
  generalize m (c.tc.loc main_arg1) = g
  generalize m (c.tc.loc main_arg3) = w
  pointwise

/-! ## The blocks -/

/-- The array row that row `r` of the block at point `t` is. -/
def row (t : Fin 32) (r : Fin 256) : Fin 8192 := ⟨t.val * 256 + r.val, by omega⟩

theorem blk0 (t : Fin cfg0.N) (r : Fin 256) (l : Fin 1024) : iblk m c 0 t (ix2 r l) = V m c main_v26 (ix2 (row t r) l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  unfold iblk
  rw [View.read_apply]
  show V m c main_v26 _ = _
  congr 1
  refine funext fun a => Fin.ext ?_
  match a with
  | ⟨0, _⟩ => show win0_0.index t 0 * 256 + 1 * r.val = t.val * 256 + r.val; omega
  | ⟨1, _⟩ => show win0_0.index t 1 * 1024 + 1 * l.val = l.val; omega

theorem blk1 (t : Fin cfg0.N) (r : Fin 256) (l : Fin 2816) : iblk m c 1 t (ix2 r l) = V m c main_v24 (ix2 (row t r) l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  show V m c main_v24 _ = _
  congr 1
  refine funext fun a => Fin.ext ?_
  match a with
  | ⟨0, _⟩ => show win0_1.index t 0 * 256 + 1 * r.val = t.val * 256 + r.val; omega
  | ⟨1, _⟩ => show win0_1.index t 1 * 2816 + 1 * l.val = l.val; omega

theorem blk2 (t : Fin cfg0.N) (r : Fin 256) (l : Fin 2816) : iblk m c 2 t (ix2 r l) = V m c main_v25 (ix2 (row t r) l) := by
  have e0 : win0_2.index t 0 = t.val := (by decide +kernel : ∀ t : Fin grid0.N, win0_2.index t 0 = t.val) t
  have e1 : win0_2.index t 1 = 0 := (by decide +kernel : ∀ t : Fin grid0.N, win0_2.index t 1 = 0) t
  unfold iblk
  rw [View.read_apply]
  show V m c main_v25 _ = _
  congr 1
  refine funext fun a => Fin.ext ?_
  match a with
  | ⟨0, _⟩ => show win0_2.index t 0 * 256 + 1 * r.val = t.val * 256 + r.val; omega
  | ⟨1, _⟩ => show win0_2.index t 1 * 2816 + 1 * l.val = l.val; omega

theorem blk3 (t : Fin cfg0.N) (r : Fin 256) (l : Fin 1024) : iblk m c 3 t (ix2 r l) = V m c main_v27 (ix2 (row t r) l) := by
  have e0 : win0_3.index t 0 = t.val := (by decide +kernel : ∀ t : Fin grid0.N, win0_3.index t 0 = t.val) t
  have e1 : win0_3.index t 1 = 0 := (by decide +kernel : ∀ t : Fin grid0.N, win0_3.index t 1 = 0) t
  unfold iblk
  rw [View.read_apply]
  show V m c main_v27 _ = _
  congr 1
  refine funext fun a => Fin.ext ?_
  match a with
  | ⟨0, _⟩ => show win0_3.index t 0 * 256 + 1 * r.val = t.val * 256 + r.val; omega
  | ⟨1, _⟩ => show win0_3.index t 1 * 1024 + 1 * l.val = l.val; omega

theorem blk4 (t : Fin cfg0.N) (r : Fin 1) (l : Fin 1024) : iblk m c 4 t (ix2 r l) = V m c main_arg1 (ix2 r l) := by
  have e0 : win0_4.index t 0 = 0 := (by decide +kernel : ∀ t : Fin grid0.N, win0_4.index t 0 = 0) t
  have e1 : win0_4.index t 1 = 0 := (by decide +kernel : ∀ t : Fin grid0.N, win0_4.index t 1 = 0) t
  unfold iblk
  rw [View.read_apply]
  show V m c main_arg1 _ = _
  congr 1
  refine funext fun a => Fin.ext ?_
  match a with
  | ⟨0, _⟩ => show win0_4.index t 0 * 1 + 1 * r.val = r.val; omega
  | ⟨1, _⟩ => show win0_4.index t 1 * 1024 + 1 * l.val = l.val; omega

theorem blk5 (t : Fin cfg0.N) (r : Fin 2816) (l : Fin 1024) : iblk m c 5 t (ix2 r l) = V m c main_v2 (ix2 r l) := by
  have e0 : win0_5.index t 0 = 0 := (by decide +kernel : ∀ t : Fin grid0.N, win0_5.index t 0 = 0) t
  have e1 : win0_5.index t 1 = 0 := (by decide +kernel : ∀ t : Fin grid0.N, win0_5.index t 1 = 0) t
  unfold iblk
  rw [View.read_apply]
  show V m c main_v2 _ = _
  congr 1
  refine funext fun a => Fin.ext ?_
  match a with
  | ⟨0, _⟩ => show win0_5.index t 0 * 2816 + 1 * r.val = r.val; omega
  | ⟨1, _⟩ => show win0_5.index t 1 * 1024 + 1 * l.val = l.val; omega

theorem blk6 (t : Fin cfg0.N) (r : Fin 2816) (l : Fin 1024) : iblk m c 6 t (ix2 r l) = V m c main_v5 (ix2 r l) := by
  have e0 : win0_6.index t 0 = 0 := (by decide +kernel : ∀ t : Fin grid0.N, win0_6.index t 0 = 0) t
  have e1 : win0_6.index t 1 = 0 := (by decide +kernel : ∀ t : Fin grid0.N, win0_6.index t 1 = 0) t
  unfold iblk
  rw [View.read_apply]
  show V m c main_v5 _ = _
  congr 1
  refine funext fun a => Fin.ext ?_
  match a with
  | ⟨0, _⟩ => show win0_6.index t 0 * 2816 + 1 * r.val = r.val; omega
  | ⟨1, _⟩ => show win0_6.index t 1 * 1024 + 1 * l.val = l.val; omega

theorem blk7 (t : Fin cfg0.N) (r : Fin 2816) (l : Fin 1024) : iblk m c 7 t (ix2 r l) = V m c main_v7 (ix2 r l) := by
  have e0 : win0_7.index t 0 = 0 := (by decide +kernel : ∀ t : Fin grid0.N, win0_7.index t 0 = 0) t
  have e1 : win0_7.index t 1 = 0 := (by decide +kernel : ∀ t : Fin grid0.N, win0_7.index t 1 = 0) t
  unfold iblk
  rw [View.read_apply]
  show V m c main_v7 _ = _
  congr 1
  refine funext fun a => Fin.ext ?_
  match a with
  | ⟨0, _⟩ => show win0_7.index t 0 * 2816 + 1 * r.val = r.val; omega
  | ⟨1, _⟩ => show win0_7.index t 1 * 1024 + 1 * l.val = l.val; omega

end Cert.FfnKernelIdeal.Step
end
-- ==== Proof.FfnRun.lean ====
module
public import proofs.«01_k».proof.Proof.FfnHost
public import proofs.«01_k».proof.Proof.Gen.FfnKernelIdeal.Value
/-! The four arrays the feed-forward layer's gradient kernel leaves, each entry by the kernel's formulas over the launch arguments. -/
@[expose] public section
set_option maxRecDepth 16384
noncomputable section
namespace Cert.FfnKernelIdeal.Step
open Cert.FfnKernelIdeal Cert.FfnKernelIdeal.Gen Cert.FfnKernelIdeal.Value Idealize.ShloMosaic Idealize.ShloMosaic.TcCoe Idealize.SL.Sem
open Idealize.ShloMosaic.Pipeline (Dat)

/-! ## The body's terms, at an index, for blocks whose entries are known -/

section Terms
variable (x0 x3 : Vec Ideal S256x1024 .f32) (x1 x2 : Vec Ideal S256x2816 .f32) (x4 : Vec Ideal S1x1024 .f32) (x5 x6 x7 : Vec Ideal S2816x1024 .bf16)
  (d u : Vec Ideal S256x2816 .bf16) (A : Ffn.Args) (ρ : Fin 256 → Fin 8192)

theorem dgate_of (r : Fin 256) (j : Fin 2816) (h0 : ∀ k, x0 (ix2 r k) = A.DY (ρ r) k) (h1 : x1 (ix2 r j) = A.gate (ρ r) j) (h2 : x2 (ix2 r j) = A.up (ρ r) j)
    (h7 : ∀ k, x7 (ix2 j k) = A.WD j k) : k0_pay6 (F := Ideal) x0 x7 x1 x2 (ix2 r j) = A.dgate (ρ r) j := by
  unfold Ffn.Args.dgate Ffn.Args.dact
  simp only [← h0, ← h1, ← h2, ← h7]
  unfold Silu.sg
  pointwise [k0_pay6, k0_pay5, k0_pay4, k0_pay3, k0_pay2]

theorem dup_of (r : Fin 256) (j : Fin 2816) (h0 : ∀ k, x0 (ix2 r k) = A.DY (ρ r) k) (h1 : x1 (ix2 r j) = A.gate (ρ r) j)
    (h7 : ∀ k, x7 (ix2 j k) = A.WD j k) : k0_pay7 (F := Ideal) x0 x7 x1 (ix2 r j) = A.dup (ρ r) j := by
  unfold Ffn.Args.dup Ffn.Args.dact
  simp only [← h0, ← h1, ← h7]
  unfold Silu.sg
  pointwise [k0_pay7, k0_pay5, k0_pay4, k0_pay3, k0_pay2]

theorem dx_of (r : Fin 256) (k : Fin 1024) (h0 : ∀ k, x0 (ix2 r k) = A.DY (ρ r) k) (h3 : ∀ k, x3 (ix2 r k) = A.X (ρ r) k) (h4 : ∀ k, x4 (ix2 0 k) = A.G k)
    (hd : ∀ j, d (ix2 r j) = A.dgate (ρ r) j) (hu : ∀ j, u (ix2 r j) = A.dup (ρ r) j) (h5 : ∀ j k, x5 (ix2 j k) = A.WG k j) (h6 : ∀ j k, x6 (ix2 j k) = A.WU k j) :
    k0_pay13 (F := Ideal) (k0_pay2 x0) d u x5 x6 x3 x4 (ix2 r k) = A.dx (ρ r) k := by
  unfold Ffn.Args.dx Ffn.normGrad Ffn.Args.dh Ffn.meanSq
  simp only [← h0, ← h3, ← h4, ← hd, ← hu, ← h5, ← h6]
  pointwise [k0_pay13, k0_pay8, k0_pay9, k0_pay10, k0_pay11, k0_pay2]

theorem dg_of (a : Vec Ideal S1x1024 .f32) (k : Fin 1024) (h3 : ∀ r k, x3 (ix2 r k) = A.X (ρ r) k)
    (hd : ∀ r j, d (ix2 r j) = A.dgate (ρ r) j) (hu : ∀ r j, u (ix2 r j) = A.dup (ρ r) j) (h5 : ∀ j k, x5 (ix2 j k) = A.WG k j) (h6 : ∀ j k, x6 (ix2 j k) = A.WU k j) :
    k0_pay12 (F := Ideal) d u x5 x6 x3 a (ix2 0 k) = a (ix2 0 k) + ∑ r : Fin 256, A.dg (ρ r) k := by
  unfold Ffn.Args.dg Ffn.Args.dh Ffn.meanSq
  simp only [← h3, ← hd, ← hu, ← h5, ← h6]
  pointwise [k0_pay12, k0_pay8, k0_pay9, k0_pay10, k0_pay11, k0_pay2]

theorem zero_apply (k : Fin 1024) : k0_pay1 (F := Ideal) (ix2 0 k) = (0 : EReal) := by
  pointwise [k0_pay1]
end Terms

variable (m : (ℓ : Loc nD τ sig) → Buf (Elt Ideal) ℓ) (c : Dev nD)

/-! ## The blocks, by the arguments -/

section Entries
variable (t : Fin cfg0.N)
theorem entry0 (r : Fin 256) (k : Fin 1024) : iblk m c 0 t (ix2 r k) = (args m c).DY (row t r) k := (blk0 m c t r k).trans (V_v26 m c _ k)
theorem entry1 (r : Fin 256) (j : Fin 2816) : iblk m c 1 t (ix2 r j) = (args m c).gate (row t r) j := (blk1 m c t r j).trans (V_v24 m c _ j)
theorem entry2 (r : Fin 256) (j : Fin 2816) : iblk m c 2 t (ix2 r j) = (args m c).up (row t r) j := (blk2 m c t r j).trans (V_v25 m c _ j)
theorem entry3 (r : Fin 256) (k : Fin 1024) : iblk m c 3 t (ix2 r k) = (args m c).X (row t r) k := (blk3 m c t r k).trans (V_v27 m c _ k)
theorem entry4 (k : Fin 1024) : iblk m c 4 t (ix2 0 k) = (args m c).G k := (blk4 m c t 0 k).trans (V_arg1 m c k)
theorem entry5 (j : Fin 2816) (k : Fin 1024) : iblk m c 5 t (ix2 j k) = (args m c).WG k j := (blk5 m c t j k).trans (V_v2 m c j k)
theorem entry6 (j : Fin 2816) (k : Fin 1024) : iblk m c 6 t (ix2 j k) = (args m c).WU k j := (blk6 m c t j k).trans (V_v5 m c j k)
theorem entry7 (j : Fin 2816) (k : Fin 1024) : iblk m c 7 t (ix2 j k) = (args m c).WD j k := (blk7 m c t j k).trans (V_v7 m c j k)

theorem dgate_blk (r : Fin 256) (j : Fin 2816) :
    k0_pay6 (F := Ideal) (iblk m c 0 t) (iblk m c 7 t) (iblk m c 1 t) (iblk m c 2 t) (ix2 r j) = (args m c).dgate (row t r) j :=
  dgate_of _ _ _ _ (args m c) (row t) r j (entry0 m c t r) (entry1 m c t r j) (entry2 m c t r j) (entry7 m c t j)
theorem dup_blk (r : Fin 256) (j : Fin 2816) :
    k0_pay7 (F := Ideal) (iblk m c 0 t) (iblk m c 7 t) (iblk m c 1 t) (ix2 r j) = (args m c).dup (row t r) j :=
  dup_of _ _ _ (args m c) (row t) r j (entry0 m c t r) (entry1 m c t r j) (entry7 m c t j)
theorem dx_blk (r : Fin 256) (k : Fin 1024) :
    k0_pay13 (F := Ideal) (k0_pay2 (iblk m c 0 t)) (k0_pay6 (iblk m c 0 t) (iblk m c 7 t) (iblk m c 1 t) (iblk m c 2 t)) (k0_pay7 (iblk m c 0 t) (iblk m c 7 t) (iblk m c 1 t)) (iblk m c 5 t) (iblk m c 6 t) (iblk m c 3 t) (iblk m c 4 t) (ix2 r k) = (args m c).dx (row t r) k :=
  dx_of _ _ _ _ _ _ _ (args m c) (row t) r k (entry0 m c t r) (entry3 m c t r) (entry4 m c t) (dgate_blk m c t r) (dup_blk m c t r) (entry5 m c t) (entry6 m c t)
theorem dg_blk (a : Vec Ideal S1x1024 .f32) (k : Fin 1024) :
    k0_pay12 (F := Ideal) (k0_pay6 (iblk m c 0 t) (iblk m c 7 t) (iblk m c 1 t) (iblk m c 2 t)) (k0_pay7 (iblk m c 0 t) (iblk m c 7 t) (iblk m c 1 t)) (iblk m c 5 t) (iblk m c 6 t) (iblk m c 3 t) a (ix2 0 k) = a (ix2 0 k) + ∑ r : Fin 256, (args m c).dg (row t r) k :=
  dg_of _ _ _ _ _ (args m c) (row t) a k (entry3 m c t) (dgate_blk m c t) (dup_blk m c t) (entry5 m c t) (entry6 m c t)
end Entries

/-! ## What the point before and the point leave -/

theorem out8 (t : Fin cfg0.N) (r : Fin 256) (k : Fin 2816) : (outsAt0 m c t.val t.isLt).1 (ix2 r k) = (args m c).dgate (row t r) k := by
  by_cases h0 : t.val % 32 = 0
  · rw [outsAt0_A m c t h0]; dsimp only; rw [out_A_8]; exact dgate_blk m c t r k
  · rw [outsAt0_B m c t h0]; dsimp only; rw [out_B_8]; exact dgate_blk m c t r k

theorem out9 (t : Fin cfg0.N) (r : Fin 256) (k : Fin 2816) : (outsAt0 m c t.val t.isLt).2.1 (ix2 r k) = (args m c).dup (row t r) k := by
  by_cases h0 : t.val % 32 = 0
  · rw [outsAt0_A m c t h0]; dsimp only; rw [out_A_9]; exact dup_blk m c t r k
  · rw [outsAt0_B m c t h0]; dsimp only; rw [out_B_9]; exact dup_blk m c t r k

theorem out10 (t : Fin cfg0.N) (r : Fin 256) (k : Fin 1024) : (outsAt0 m c t.val t.isLt).2.2.1 (ix2 r k) = (args m c).dx (row t r) k := by
  by_cases h0 : t.val % 32 = 0
  · rw [outsAt0_A m c t h0]; dsimp only; rw [out_A_10]; exact dx_blk m c t r k
  · rw [outsAt0_B m c t h0]; dsimp only; rw [out_B_10]; exact dx_blk m c t r k

/-- The sum over the points up to `n` of the rows each holds. -/
def upTo (f : Fin 8192 → EReal) (n : ℕ) (hn : n < 32) : EReal := ∑ t : Fin (n + 1), ∑ r : Fin 256, f (row ⟨t.val, by omega⟩ r)

theorem upTo_zero (f : Fin 8192 → EReal) : upTo f 0 (by omega) = ∑ r : Fin 256, f (row 0 r) := by
  unfold upTo
  rw [Fin.sum_univ_one]
  rfl
theorem upTo_succ (f : Fin 8192 → EReal) (n : ℕ) (hn : n + 1 < 32) :
    upTo f (n + 1) hn = upTo f n (by omega) + ∑ r : Fin 256, f (row ⟨n + 1, hn⟩ r) := by
  unfold upTo
  rw [Fin.sum_univ_castSucc]
  rfl
theorem upTo_last (f : Fin 8192 → EReal) : upTo f 31 (by omega) = ∑ s : Fin 8192, f s :=
  (Fin.sum_univ_tiles 32 256 rfl f).symm

theorem out11 (k : Fin 1024) (n : ℕ) (hn : n < cfg0.N) :
    (outsAt0 m c n hn).2.2.2 (ix2 0 k) = upTo (fun s => (args m c).dg s k) n hn := by
  induction n with
  | zero =>
    rw [outsAt0_A m c ⟨0, hn⟩ (Nat.zero_mod _)]; dsimp only
    rw [out_A_11, dg_blk, zero_apply, zero_add, upTo_zero]; rfl
  | succ n ih =>
    have hn' : n + 1 < 32 := hn
    rw [outsAt0_B m c ⟨n + 1, hn⟩ (by show ¬(n + 1) % 32 = 0; omega)]; dsimp only
    rw [out_B_11, dg_blk, upTo_succ _ n hn, ← ih (Nat.lt_of_succ_lt hn)]; rfl

/-! ## The arrays -/

theorem two_coords {a b : ℕ} (j : (⟨2, ![a, b]⟩ : Shape).Idx) : j = ix2 (j 0) (j 1) := funext (fun i => match i with
  | ⟨0, _⟩ => rfl
  | ⟨1, _⟩ => rfl)
theorem one_coord {b : ℕ} (j : (⟨2, ![1, b]⟩ : Shape).Idx) : j = ix2 0 (j 1) := funext (fun i => match i with
  | ⟨0, _⟩ => Fin.fin_one_eq_zero _
  | ⟨1, _⟩ => rfl)

def arrDGate : Vec Ideal S8192x2816 .bf16 := fun i => (args m c).dgate (i 0) (i 1)
def arrDUp : Vec Ideal S8192x2816 .bf16 := fun i => (args m c).dup (i 0) (i 1)
def arrDX : Vec Ideal S8192x1024 .f32 := fun i => (args m c).dx (i 0) (i 1)
def arrDG : Vec Ideal S1x1024 .f32 := fun i => ∑ s : Fin 8192, (args m c).dg s (i 1)

theorem final8 : (dats m 0 c).arrAt 8 cfg0.N = arrDGate m c := by
  have e0 (t : Fin cfg0.N) : win0_8.index t 0 = t.val := (by decide +kernel : ∀ t : Fin grid0.N, win0_8.index t 0 = t.val) t
  have e1 (t : Fin cfg0.N) : win0_8.index t 1 = 0 := (by decide +kernel : ∀ t : Fin grid0.N, win0_8.index t 1 = 0) t
  refine (dats m 0 c).arrAt_eq_of_cover 8 _ (fun t _ => ?_) (fun (i : S8192x2816.Idx) => ?_)
  · rw [flushed8]
    refine funext fun (j : S256x2816.Idx) => ?_
    rw [View.read_apply]
    refine Eq.trans (b := (outsAt0 m c t.val t.isLt).1 j) rfl (Eq.trans (b := (args m c).dgate (row t (j 0)) (j 1)) ?_ ?_)
    · exact (congrArg _ (two_coords j)).trans (out8 m c t (j 0) (j 1))
    · unfold arrDGate
      refine congrArg₂ ((args m c).dgate) (Fin.ext ?_) (Fin.ext ?_)
      · show t.val * 256 + (j 0).val = win0_8.index t 0 * 256 + 1 * (j 0).val
        rw [e0]; omega
      · show (j 1).val = win0_8.index t 1 * 2816 + 1 * (j 1).val
        rw [e1]; omega
  · have hi : (i 0).val < 8192 := (i 0).isLt
    have hi1 : (i 1).val < 2816 := (i 1).isLt
    obtain ⟨t, ht⟩ : ∃ t : Fin cfg0.N, t.val = (i 0).val / 256 := ⟨⟨(i 0).val / 256, by show (i 0).val / 256 < 32; omega⟩, rfl⟩
    refine ⟨t, flush0_8 t, ?_⟩
    show i ∈ ((View.whole main_v28_0).slice (win0_8.rect t)).set
    rw [View.set_slice_whole, Rect.mem_set_unit]
    intro a
    match a with
    | ⟨0, _⟩ =>
      show win0_8.index t 0 * 256 ≤ (i 0).val ∧ (i 0).val < win0_8.index t 0 * 256 + 256
      rw [e0]; omega
    | ⟨1, _⟩ =>
      show win0_8.index t 1 * 2816 ≤ (i 1).val ∧ (i 1).val < win0_8.index t 1 * 2816 + 2816
      rw [e1]; omega

theorem final9 : (dats m 0 c).arrAt 9 cfg0.N = arrDUp m c := by
  have e0 (t : Fin cfg0.N) : win0_9.index t 0 = t.val := (by decide +kernel : ∀ t : Fin grid0.N, win0_9.index t 0 = t.val) t
  have e1 (t : Fin cfg0.N) : win0_9.index t 1 = 0 := (by decide +kernel : ∀ t : Fin grid0.N, win0_9.index t 1 = 0) t
  refine (dats m 0 c).arrAt_eq_of_cover 9 _ (fun t _ => ?_) (fun (i : S8192x2816.Idx) => ?_)
  · rw [flushed9]
    refine funext fun (j : S256x2816.Idx) => ?_
    rw [View.read_apply]
    refine Eq.trans (b := (outsAt0 m c t.val t.isLt).2.1 j) rfl (Eq.trans (b := (args m c).dup (row t (j 0)) (j 1)) ?_ ?_)
    · exact (congrArg _ (two_coords j)).trans (out9 m c t (j 0) (j 1))
    · unfold arrDUp
      refine congrArg₂ ((args m c).dup) (Fin.ext ?_) (Fin.ext ?_)
      · show t.val * 256 + (j 0).val = win0_9.index t 0 * 256 + 1 * (j 0).val
        rw [e0]; omega
      · show (j 1).val = win0_9.index t 1 * 2816 + 1 * (j 1).val
        rw [e1]; omega
  · have hi : (i 0).val < 8192 := (i 0).isLt
    have hi1 : (i 1).val < 2816 := (i 1).isLt
    obtain ⟨t, ht⟩ : ∃ t : Fin cfg0.N, t.val = (i 0).val / 256 := ⟨⟨(i 0).val / 256, by show (i 0).val / 256 < 32; omega⟩, rfl⟩
    refine ⟨t, flush0_9 t, ?_⟩
    show i ∈ ((View.whole main_v28_1).slice (win0_9.rect t)).set
    rw [View.set_slice_whole, Rect.mem_set_unit]
    intro a
    match a with
    | ⟨0, _⟩ =>
      show win0_9.index t 0 * 256 ≤ (i 0).val ∧ (i 0).val < win0_9.index t 0 * 256 + 256
      rw [e0]; omega
    | ⟨1, _⟩ =>
      show win0_9.index t 1 * 2816 ≤ (i 1).val ∧ (i 1).val < win0_9.index t 1 * 2816 + 2816
      rw [e1]; omega

theorem final10 : (dats m 0 c).arrAt 10 cfg0.N = arrDX m c := by
  have e0 (t : Fin cfg0.N) : win0_10.index t 0 = t.val := (by decide +kernel : ∀ t : Fin grid0.N, win0_10.index t 0 = t.val) t
  have e1 (t : Fin cfg0.N) : win0_10.index t 1 = 0 := (by decide +kernel : ∀ t : Fin grid0.N, win0_10.index t 1 = 0) t
  refine (dats m 0 c).arrAt_eq_of_cover 10 _ (fun t _ => ?_) (fun (i : S8192x1024.Idx) => ?_)
  · rw [flushed10]
    refine funext fun (j : S256x1024.Idx) => ?_
    rw [View.read_apply]
    refine Eq.trans (b := (outsAt0 m c t.val t.isLt).2.2.1 j) rfl (Eq.trans (b := (args m c).dx (row t (j 0)) (j 1)) ?_ ?_)
    · exact (congrArg _ (two_coords j)).trans (out10 m c t (j 0) (j 1))
    · unfold arrDX
      refine congrArg₂ ((args m c).dx) (Fin.ext ?_) (Fin.ext ?_)
      · show t.val * 256 + (j 0).val = win0_10.index t 0 * 256 + 1 * (j 0).val
        rw [e0]; omega
      · show (j 1).val = win0_10.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 256 := ⟨⟨(i 0).val / 256, by show (i 0).val / 256 < 32; omega⟩, rfl⟩
    refine ⟨t, flush0_10 t, ?_⟩
    show i ∈ ((View.whole main_v28_2).slice (win0_10.rect t)).set
    rw [View.set_slice_whole, Rect.mem_set_unit]
    intro a
    match a with
    | ⟨0, _⟩ =>
      show win0_10.index t 0 * 256 ≤ (i 0).val ∧ (i 0).val < win0_10.index t 0 * 256 + 256
      rw [e0]; omega
    | ⟨1, _⟩ =>
      show win0_10.index t 1 * 1024 ≤ (i 1).val ∧ (i 1).val < win0_10.index t 1 * 1024 + 1024
      rw [e1]; omega

theorem final11 : (dats m 0 c).arrAt 11 cfg0.N = arrDG m c := by
  have e0 (t : Fin cfg0.N) : win0_11.index t 0 = 0 := (by decide +kernel : ∀ t : Fin grid0.N, win0_11.index t 0 = 0) t
  have e1 (t : Fin cfg0.N) : win0_11.index t 1 = 0 := (by decide +kernel : ∀ t : Fin grid0.N, win0_11.index t 1 = 0) t
  refine (dats m 0 c).arrAt_eq_of_cover 11 _ (fun t hf => ?_) (fun (i : S1x1024.Idx) => ?_)
  · have ht : t.val = 31 := by
      have h := (flush0_11 t).mp hf
      have h' : t.val < 32 := t.isLt
      omega
    rw [flushed11]
    refine funext fun (j : S1x1024.Idx) => ?_
    rw [View.read_apply]
    refine Eq.trans (b := (outsAt0 m c t.val t.isLt).2.2.2 j) rfl (Eq.trans (b := arrDG m c (ix2 0 (j 1))) ?_ ?_)
    · refine (congrArg _ (one_coord j)).trans ((out11 m c (j 1) t.val t.isLt).trans ?_)
      obtain ⟨n, hn⟩ := t
      dsimp only at ht
      subst ht
      exact upTo_last _
    · refine congrArg (arrDG m c) (funext fun a => Fin.ext ?_)
      match a with
      | ⟨0, _⟩ => show 0 = win0_11.index t 0 * 1 + 1 * (j 0).val; have h0 : (j 0).val < 1 := (j 0).isLt; rw [e0]; omega
      | ⟨1, _⟩ => show (j 1).val = win0_11.index t 1 * 1024 + 1 * (j 1).val; rw [e1]; omega
  · have hi : (i 0).val < 1 := (i 0).isLt
    have hi1 : (i 1).val < 1024 := (i 1).isLt
    obtain ⟨t, ht⟩ : ∃ t : Fin cfg0.N, t.val = 31 := ⟨⟨31, by show 31 < 32; omega⟩, rfl⟩
    refine ⟨t, (flush0_11 t).mpr (by rw [ht]), ?_⟩
    show i ∈ ((View.whole main_v28_3).slice (win0_11.rect t)).set
    rw [View.set_slice_whole, Rect.mem_set_unit]
    intro a
    match a with
    | ⟨0, _⟩ =>
      show win0_11.index t 0 * 1 ≤ (i 0).val ∧ (i 0).val < win0_11.index t 0 * 1 + 1
      rw [e0]; omega
    | ⟨1, _⟩ =>
      show win0_11.index t 1 * 1024 ≤ (i 1).val ∧ (i 1).val < win0_11.index t 1 * 1024 + 1024
      rw [e1]; omega

end Cert.FfnKernelIdeal.Step
end
-- ==== Proof.FfnRef.lean ====
module
public import proofs.«01_k».proof.Proof.FfnMath
public import proofs.«01_k».proof.Proof.Gen.FfnReferenceIdeal.Read
public import Idealize.ShloMosaic.Lib.Pointwise
/-! The four results of the feed-forward layer's reference, each entry by the chain rule's formulas over its arguments. -/
@[expose] public section
set_option maxRecDepth 16384
noncomputable section
namespace Cert.FfnReferenceIdeal.Step
open Cert.FfnReferenceIdeal Cert.FfnReferenceIdeal.Gen Cert.FfnReferenceIdeal.Read Idealize.ShloMosaic Idealize.ShloMosaic.TcCoe Idealize.SL.Sem

/-- The arguments by coordinates. -/
def args (x0 : FVec Ideal S1x8192x1024 .f32) (x1 : FVec Ideal S1x1024 .f32) (x2 x3 : FVec Ideal S1x1024x2816 .f32) (x4 : FVec Ideal S1x2816x1024 .f32) (x5 : FVec Ideal S1x8192x1024 .f32) : Ffn.Args where
  X s k := x0 (ix3 0 s k)
  G k := x1 (ix2 0 k)
  WG k j := x2 (ix3 0 k j)
  WU k j := x3 (ix3 0 k j)
  WD j k := x4 (ix3 0 j k)
  DY s k := x5 (ix3 0 s k)

/-! Sums over an axis together with an axis of one entry. -/

theorem drop_02 (v : S1x8192x1.Idx → EReal) (init : EReal) (s : Fin 8192) :
    Ideal.hostReduceAdd reducesTo_S1x8192x1_S8192_d0_2 v init (ix1 s) = init + v (ix3 0 s 0) := by
  unfold Ideal.hostReduceAdd
  congr 1
  refine Finset.sum_eq_single_of_mem _ ?_ ?_
  · rw [Finset.mem_filter]
    exact ⟨Finset.mem_univ _, funext fun b => match b with | ⟨0, _⟩ => rfl⟩
  · intro i hi hne
    refine absurd (funext fun a => ?_) hne
    match a with
    | ⟨0, _⟩ => exact Fin.fin_one_eq_zero _
    | ⟨1, _⟩ => exact congrFun (Finset.mem_filter.mp hi).2 0
    | ⟨2, _⟩ => exact Fin.fin_one_eq_zero _
theorem drop_01 (v : S1x1x1024.Idx → EReal) (init : EReal) (k : Fin 1024) :
    Ideal.hostReduceAdd reducesTo_S1x1x1024_S1024_d0_1 v init (ix1 k) = init + v (ix3 0 0 k) := by
  unfold Ideal.hostReduceAdd
  congr 1
  refine Finset.sum_eq_single_of_mem _ ?_ ?_
  · rw [Finset.mem_filter]
    exact ⟨Finset.mem_univ _, funext fun b => match b with | ⟨0, _⟩ => rfl⟩
  · intro i hi hne
    refine absurd (funext fun a => ?_) hne
    match a with
    | ⟨0, _⟩ => exact Fin.fin_one_eq_zero _
    | ⟨1, _⟩ => exact Fin.fin_one_eq_zero _
    | ⟨2, _⟩ => exact congrFun (Finset.mem_filter.mp hi).2 0

section Results
variable (x0 : FVec Ideal S1x8192x1024 .f32) (x1 : FVec Ideal S1x1024 .f32) (x2 x3 : FVec Ideal S1x1024x2816 .f32) (x4 : FVec Ideal S1x2816x1024 .f32) (x5 : FVec Ideal S1x8192x1024 .f32)

theorem gate_apply (s : Fin 8192) (j : Fin 2816) : val_main_v20 (F := Ideal) x0 x1 x2 (ix3 0 s j) = (args x0 x1 x2 x3 x4 x5).gate s j := by
  unfold Ffn.Args.gate Ffn.Args.hid Ffn.meanSq args
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v20]

theorem up_apply (s : Fin 8192) (j : Fin 2816) : val_main_v24 (F := Ideal) x0 x1 x3 (ix3 0 s j) = (args x0 x1 x2 x3 x4 x5).up s j := by
  unfold Ffn.Args.up Ffn.Args.hid Ffn.meanSq args
  pointwise [val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15, val_main_v16, val_main_v17, val_main_v18, val_main_v19, val_main_v20, val_main_v22, val_main_v23, val_main_v24]

theorem dact_apply (s : Fin 8192) (j : Fin 2816) : val_main_v32 (F := Ideal) x4 x5 (ix3 0 s j) = (args x0 x1 x2 x3 x4 x5).dact s j := by
  unfold Ffn.Args.dact args
  pointwise [val_main_v32, val_main_v29, val_main_v26]

theorem dup_apply (s : Fin 8192) (j : Fin 2816) : val_main_v34 (F := Ideal) x0 x1 x2 x4 x5 (ix3 0 s j) = (args x0 x1 x2 x3 x4 x5).dup' s j := by
  have hg := gate_apply x0 x1 x2 x3 x4 x5 s j
  have hd := dact_apply x0 x1 x2 x3 x4 x5 s j
  unfold val_main_v34 val_main_v21_0 val_main_v21_2 val_main_call0_v3 val_main_call0_v1 val_main_call0_v0
  generalize val_main_v20 (F := Ideal) x0 x1 x2 = g at *
  generalize val_main_v32 (F := Ideal) x4 x5 = d at *
  unfold Ffn.Args.dup' Ideal.logistic
  rw [← hg, ← hd]
  pointwise [val_main_call0_cst, val_main_call0_v2, val_main_call0_cst_0, val_main_call0_v4]

theorem dgate_apply (s : Fin 8192) (j : Fin 2816) : val_main_v40 (F := Ideal) x0 x1 x2 x3 x4 x5 (ix3 0 s j) = (args x0 x1 x2 x3 x4 x5).dgate' s j := by
  have hg := gate_apply x0 x1 x2 x3 x4 x5 s j
  have hd := dact_apply x0 x1 x2 x3 x4 x5 s j
  have hu := up_apply x0 x1 x2 x3 x4 x5 s j
  unfold val_main_v40 val_main_call1_v2 val_main_call1_v1 val_main_call1_v0 val_main_v35 val_main_v21_1 val_main_call0_v7 val_main_v21_2 val_main_call0_v3 val_main_call0_v1 val_main_call0_v0
  generalize val_main_v20 (F := Ideal) x0 x1 x2 = g at *
  generalize val_main_v32 (F := Ideal) x4 x5 = d at *
  generalize val_main_v24 (F := Ideal) x0 x1 x3 = u at *
  unfold Ffn.Args.dgate' Ideal.logistic
  rw [← hg, ← hd, ← hu]
  pointwise [val_main_call0_cst, val_main_call0_v2, val_main_call0_cst_0, val_main_call0_v4, val_main_call0_cst_1, val_main_call0_v6]

theorem dh_apply (s : Fin 8192) (k : Fin 1024) : val_main_v44 (F := Ideal) x0 x1 x2 x3 x4 x5 (ix3 0 s k) = (args x0 x1 x2 x3 x4 x5).dh' s k := by
  have hu (j) := dup_apply x0 x1 x2 x3 x4 x5 s j
  have hg (j) := dgate_apply x0 x1 x2 x3 x4 x5 s j
  unfold val_main_v44 val_main_v43 val_main_v38
  generalize val_main_v40 (F := Ideal) x0 x1 x2 x3 x4 x5 = g at *
  generalize val_main_v34 (F := Ideal) x0 x1 x2 x4 x5 = u at *
  unfold Ffn.Args.dh'
  simp only [← hg, ← hu]
  unfold args
  pointwise [val_main_v18, val_main_v22]

theorem res_dgate (s : Fin 8192) (j : Fin 2816) : val_main_v70 (F := Ideal) x0 x1 x2 x3 x4 x5 (ix2 s j) = (args x0 x1 x2 x3 x4 x5).dgate' s j := by
  rw [← dgate_apply]
  unfold val_main_v70 val_main_v69
  generalize val_main_v40 (F := Ideal) x0 x1 x2 x3 x4 x5 = g
  pointwise

theorem res_dup (s : Fin 8192) (j : Fin 2816) : val_main_v72 (F := Ideal) x0 x1 x2 x4 x5 (ix2 s j) = (args x0 x1 x2 x3 x4 x5).dup' s j := by
  rw [← dup_apply]
  unfold val_main_v72 val_main_v71
  generalize val_main_v34 (F := Ideal) x0 x1 x2 x4 x5 = g
  pointwise

theorem res_dx (s : Fin 8192) (k : Fin 1024) : val_main_v73 (F := Ideal) x0 x1 x2 x3 x4 x5 (ix2 s k) = (args x0 x1 x2 x3 x4 x5).dx' s k := by
  have hh (k) := dh_apply x0 x1 x2 x3 x4 x5 s k
  unfold Ffn.Args.dx'
  simp only [← hh]
  unfold Ffn.viaMean Ffn.meanSq args
  unfold val_main_v73 val_main_v67 val_main_v66 val_main_v65 val_main_v64 val_main_v63 val_main_v62 val_main_v61 val_main_v60 val_main_v58 val_main_v57 val_main_v56 val_main_v54 val_main_v53 val_main_v52 val_main_v50
  generalize val_main_v44 (F := Ideal) x0 x1 x2 x3 x4 x5 = h at *
  pointwise [drop_02, val_main_v55, val_main_v59, val_main_cst_8, val_main_cst_7, val_main_cst_6, val_main_v49, val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14, val_main_v15]

theorem res_dg (k : Fin 1024) : val_main_v68 (F := Ideal) x0 x1 x2 x3 x4 x5 (ix2 0 k)
    = ∑ s : Fin 8192, (args x0 x1 x2 x3 x4 x5).X s k * Ideal.rsqrt (Ffn.meanSq ((args x0 x1 x2 x3 x4 x5).X s)) * (args x0 x1 x2 x3 x4 x5).dh' s k := by
  have hh (s) := dh_apply x0 x1 x2 x3 x4 x5 s k
  simp only [← hh]
  unfold Ffn.meanSq args
  unfold val_main_v68 val_main_v51 val_main_v48 val_main_v47 val_main_v46
  generalize val_main_v44 (F := Ideal) x0 x1 x2 x3 x4 x5 = h at *
  pointwise [drop_01, val_main_cst_5, val_main_cst_4, val_main_cst, val_main_v0, val_main_v1, val_main_v2, val_main_cst_0, val_main_v3, val_main_v4, val_main_cst_1, val_main_v5, val_main_v6, val_main_cst_2, val_main_v7, val_main_v8, val_main_v9, val_main_v10, val_main_cst_3, val_main_v11, val_main_v12, val_main_v13, val_main_v14]

end Results
end Cert.FfnReferenceIdeal.Step
end
-- ==== Proof.FfnValue.lean ====
module
public import proofs.«01_k».proof.Defs
public import proofs.«01_k».proof.Proof.FfnRun
public import proofs.«01_k».proof.Proof.FfnRef
public import proofs.«01_k».proof.Proof.Finite
public import Idealize.ShloMosaic.Lib.Quiescent
public import proofs.«01_k».proof.Proof.Gen.Pre_ffn_finite
public import proofs.«01_k».proof.Proof.Gen.FfnReferenceIdeal.Run
/-! The feed-forward layer's gradient kernel and the gradient of the forward lines leave the same four arrays. -/
@[expose] public section
set_option maxRecDepth 16384
noncomputable section
namespace Cert.Ffn
open Idealize.ShloMosaic Idealize.ShloMosaic.TcCoe Idealize.SL.Sem
open Cert.FfnKernelIdeal.Step Cert.FfnReferenceIdeal.Read

variable (m : (ℓ : Loc Cert.FfnKernelIdeal.nD Cert.FfnKernelIdeal.τ Cert.FfnKernelIdeal.sig) → Buf (Elt Ideal) ℓ)
  (hp : Cert.Pre_FfnKernelIdeal_ffn_finite m) (c : Dev Cert.FfnKernelIdeal.nD)

section
include hp
theorem args_real : (args m c).Real := by
  obtain ⟨h0, h1, h2, h3, h4, h5⟩ := hp c
  exact ⟨fun s k => real_of_lt _ (congrFun h0 (ix3 0 s k)), fun k => real_of_lt _ (congrFun h1 (ix2 0 k)), fun k j => real_of_lt _ (congrFun h2 (ix3 0 k j)),
    fun k j => real_of_lt _ (congrFun h3 (ix3 0 k j)), fun j k => real_of_lt _ (congrFun h4 (ix3 0 j k)), fun s k => real_of_lt _ (congrFun h5 (ix3 0 s k))⟩

theorem dgate_arr :
    val_main_v70 (F := Ideal) (m (c.tc.loc Cert.FfnKernelIdeal.main_arg0)) (m (c.tc.loc Cert.FfnKernelIdeal.main_arg1)) (m (c.tc.loc Cert.FfnKernelIdeal.main_arg2))
      (m (c.tc.loc Cert.FfnKernelIdeal.main_arg3)) (m (c.tc.loc Cert.FfnKernelIdeal.main_arg4)) (m (c.tc.loc Cert.FfnKernelIdeal.main_arg5)) = arrDGate m c := by
  funext (i : Cert.FfnKernelIdeal.S8192x2816.Idx)
  refine (congrArg _ (two_coords i)).trans ((Cert.FfnReferenceIdeal.Step.res_dgate _ _ _ _ _ _ (i 0) (i 1)).trans ?_)
  exact (Args.dgate_eq _ _ (args_real m hp c)).symm

theorem dup_arr :
    val_main_v72 (F := Ideal) (m (c.tc.loc Cert.FfnKernelIdeal.main_arg0)) (m (c.tc.loc Cert.FfnKernelIdeal.main_arg1)) (m (c.tc.loc Cert.FfnKernelIdeal.main_arg2))
      (m (c.tc.loc Cert.FfnKernelIdeal.main_arg4)) (m (c.tc.loc Cert.FfnKernelIdeal.main_arg5)) = arrDUp m c := by
  funext (i : Cert.FfnKernelIdeal.S8192x2816.Idx)
  refine (congrArg _ (two_coords i)).trans ((Cert.FfnReferenceIdeal.Step.res_dup _ _ _ (m (c.tc.loc Cert.FfnKernelIdeal.main_arg3)) _ _ (i 0) (i 1)).trans ?_)
  exact (Args.dup_eq _ _ (args_real m hp c)).symm

theorem dx_arr :
    val_main_v73 (F := Ideal) (m (c.tc.loc Cert.FfnKernelIdeal.main_arg0)) (m (c.tc.loc Cert.FfnKernelIdeal.main_arg1)) (m (c.tc.loc Cert.FfnKernelIdeal.main_arg2))
      (m (c.tc.loc Cert.FfnKernelIdeal.main_arg3)) (m (c.tc.loc Cert.FfnKernelIdeal.main_arg4)) (m (c.tc.loc Cert.FfnKernelIdeal.main_arg5)) = arrDX m c := by
  funext (i : Cert.FfnKernelIdeal.S8192x1024.Idx)
  refine (congrArg _ (two_coords i)).trans ((Cert.FfnReferenceIdeal.Step.res_dx _ _ _ _ _ _ (i 0) (i 1)).trans ?_)
  exact (Args.dx_eq _ _ (args_real m hp c)).symm

theorem dg_arr :
    val_main_v68 (F := Ideal) (m (c.tc.loc Cert.FfnKernelIdeal.main_arg0)) (m (c.tc.loc Cert.FfnKernelIdeal.main_arg1)) (m (c.tc.loc Cert.FfnKernelIdeal.main_arg2))
      (m (c.tc.loc Cert.FfnKernelIdeal.main_arg3)) (m (c.tc.loc Cert.FfnKernelIdeal.main_arg4)) (m (c.tc.loc Cert.FfnKernelIdeal.main_arg5)) = arrDG m c := by
  funext (i : Cert.FfnKernelIdeal.S1x1024.Idx)
  refine (congrArg _ (one_coord i)).trans ((Cert.FfnReferenceIdeal.Step.res_dg _ _ _ _ _ _ (i 1)).trans ?_)
  refine Finset.sum_congr rfl fun s _ => ?_
  exact (congrArg _ (Args.dh_eq s (i 1) (args_real m hp c)).symm).trans (mul_comm _ _)
end

theorem value : Cert.algebraic_FfnKernelIdeal_FfnReferenceIdeal_pre_ffn_finite := by
  intro m g m' g' hp he
  refine ⟨arrDGate m, arrDUp m, arrDX m, arrDG m, ?_, ?_⟩
  · refine (θ_run Cert.FfnKernelIdeal.defs _ _).mono (fun r h c => ?_) (Cert.FfnKernelIdeal.Value.run_blocks (F := Ideal) m g)
    obtain ⟨h0, h1, h2, h3, h4⟩ := h c
    exact ⟨h0.trans (final8 m c), h1.trans (final9 m c), h2.trans (final10 m c), h3.trans (final11 m c), h4⟩
  · refine (θ_run Cert.FfnReferenceIdeal.defs _ _).mono (fun r h c => ?_) (Cert.FfnReferenceIdeal.Value.run (F := Ideal) m' g')
    obtain ⟨h0, h1, h2, h3, h4⟩ := h c
    obtain ⟨e0, e1, e2, e3, e4, e5⟩ := he c
    refine ⟨h0.trans ((val_main_v70_eq m' c).trans ?_), h1.trans ((val_main_v72_eq _ _ _ _ _).trans ?_), h2.trans ((val_main_v73_eq m' c).trans ?_),
      h3.trans ((val_main_v68_eq m' c).trans ?_), h4⟩
    · rw [e0, e1, e2, e3, e4, e5]; exact dgate_arr m hp c
    · rw [e0, e1, e2, e4, e5]; exact dup_arr m hp c
    · rw [e0, e1, e2, e3, e4, e5]; exact dx_arr m hp c
    · rw [e0, e1, e2, e3, e4, e5]; exact dg_arr m hp c

/-- The reference ends with its arguments as launched and every semaphore at zero: it has no semaphores. -/
theorem frame_reference : Cert.quiescent_FfnReferenceIdeal := fun m g _ =>
  (θ_run Cert.FfnReferenceIdeal.defs _ _).mono (fun r h => ⟨fun c => (h c).2.2.2.2, sem_eq_zero_of_no_sems rfl r.2⟩)
    (Cert.FfnReferenceIdeal.Value.run (F := Ideal) m g)

end Cert.Ffn
end
-- ==== Proof.LossStep.lean ====
/- What one grid point of the loss kernel leaves in each of its output blocks, as its body's terms over the point's input blocks
   (and, for the loss and the gain's row, over what the point before left). -/
module

public import proofs.«01_k».proof.Proof.Gen.LossKernelIdeal.Value
public import Idealize.ShloMosaic.Lib.Tactic

@[expose] public section

set_option maxRecDepth 16384

noncomputable section

namespace Cert.LossKernelIdeal.Step

open Cert.LossKernelIdeal Cert.LossKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Cases

variable (c : Dev nD) (i : grid0.Coords) (a1 : Memref sig .tc .vmem S256x1024 .f32) (h1 : a1.IsWhole) (a2 : Memref sig .tc .vmem S256x1024 .f32) (h2 : a2.IsWhole) (a3 : Memref sig .tc .vmem S1x1024 .f32) (h3 : a3.IsWhole) (a4 : Memref sig .tc .vmem S1x1024 .f32) (h4 : a4.IsWhole) (a5 : Memref sig .tc .vmem S2816x1024 .bf16) (h5 : a5.IsWhole) (a6 : Memref sig .tc .vmem S2816x1024 .bf16) (h6 : a6.IsWhole) (a7 : Memref sig .tc .vmem S2816x1024 .bf16) (h7 : a7.IsWhole) (a8 : Memref sig .tc .vmem S256x2816 .f32) (h8 : a8.IsWhole) (a9 : Memref sig .tc .vmem S256x2816 .f32) (h9 : a9.IsWhole) (a10 : Memref sig .tc .vmem S256x1024 .bf16) (h10 : a10.IsWhole) (a11 : Memref sig .tc .vmem S256x2816 .bf16) (h11 : a11.IsWhole) (a12 : Memref sig .tc .vmem S256x1024 .f32) (h12 : a12.IsWhole) (a13 : Memref sig .tc .vmem S1x128 .f32) (h13 : a13.IsWhole) (a14 : Memref sig .tc .vmem S1x1024 .f32) (h14 : a14.IsWhole)
  (x0 : Vec F S256x1024 .f32) (x1 : Vec F S256x1024 .f32) (x2 : Vec F S1x1024 .f32) (x3 : Vec F S1x1024 .f32) (x4 : Vec F S2816x1024 .bf16) (x5 : Vec F S2816x1024 .bf16) (x6 : Vec F S2816x1024 .bf16)

theorem out_A_7 (hc : cond0_0 i) :
    out0_A_7 c i a1 h1 a2 h2 a3 h3 a4 h4 a5 h5 a6 h6 a7 h7 a8 h8 a9 h9 a10 h10 a11 h11 a12 h12 a13 h13 a14 h14 hc x0 x1 x2 x3 x4 x5 x6 = k0_pay9 x0 x2 x4 := by
  unfold out0_A_7
  rw [View.read_writes_eq_canon _ _ _ (cover0_A_7 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_8 (hc : cond0_0 i) :
    out0_A_8 c i a1 h1 a2 h2 a3 h3 a4 h4 a5 h5 a6 h6 a7 h7 a8 h8 a9 h9 a10 h10 a11 h11 a12 h12 a13 h13 a14 h14 hc x0 x1 x2 x3 x4 x5 x6 = k0_pay10 x0 x2 x5 := by
  unfold out0_A_8
  rw [View.read_writes_eq_canon _ _ _ (cover0_A_8 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_9 (hc : cond0_0 i) :
    out0_A_9 c i a1 h1 a2 h2 a3 h3 a4 h4 a5 h5 a6 h6 a7 h7 a8 h8 a9 h9 a10 h10 a11 h11 a12 h12 a13 h13 a14 h14 hc x0 x1 x2 x3 x4 x5 x6 = k0_pay8 x0 x2 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_10 (hc : cond0_0 i) :
    out0_A_10 c i a1 h1 a2 h2 a3 h3 a4 h4 a5 h5 a6 h6 a7 h7 a8 h8 a9 h9 a10 h10 a11 h11 a12 h12 a13 h13 a14 h14 hc x0 x1 x2 x3 x4 x5 x6 = k0_pay13 (k0_pay9 x0 x2 x4) (k0_pay10 x0 x2 x5) (k0_pay11 x0 x2 x4) k0_pay12 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_11 (hc : cond0_0 i) :
    out0_A_11 c i a1 h1 a2 h2 a3 h3 a4 h4 a5 h5 a6 h6 a7 h7 a8 h8 a9 h9 a10 h10 a11 h11 a12 h12 a13 h13 a14 h14 hc x0 x1 x2 x3 x4 x5 x6 = k0_pay4 (k0_pay15 (k0_pay7 x0) (k0_pay9 x0 x2 x4) (k0_pay10 x0 x2 x5) (k0_pay11 x0 x2 x4) k0_pay12 x6) (k0_pay16 (k0_pay7 x0) (k0_pay9 x0 x2 x4) (k0_pay10 x0 x2 x5) (k0_pay11 x0 x2 x4) k0_pay12 x6) (k0_pay17 x3) (k0_pay18 (k0_pay7 x0) (k0_pay9 x0 x2 x4) (k0_pay10 x0 x2 x5) (k0_pay11 x0 x2 x4) k0_pay12 x6 x3 x1) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_12 (hc : cond0_0 i) :
    out0_A_12 c i a1 h1 a2 h2 a3 h3 a4 h4 a5 h5 a6 h6 a7 h7 a8 h8 a9 h9 a10 h10 a11 h11 a12 h12 a13 h13 a14 h14 hc x0 x1 x2 x3 x4 x5 x6 = k0_pay1 (k0_pay19 k0_pay5) (k0_pay20 (k0_pay7 x0) (k0_pay9 x0 x2 x4) (k0_pay10 x0 x2 x5) (k0_pay11 x0 x2 x4) k0_pay12 x6 x3 x1) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_cons_unit_zero (S := S1x128) hz]
  rw [View.readCov_unit_zero (S := S1x128) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_A_13 (hc : cond0_0 i) :
    out0_A_13 c i a1 h1 a2 h2 a3 h3 a4 h4 a5 h5 a6 h6 a7 h7 a8 h8 a9 h9 a10 h10 a11 h11 a12 h12 a13 h13 a14 h14 hc x0 x1 x2 x3 x4 x5 x6 = k0_pay3 (k0_pay16 (k0_pay7 x0) (k0_pay9 x0 x2 x4) (k0_pay10 x0 x2 x5) (k0_pay11 x0 x2 x4) k0_pay12 x6) (k0_pay18 (k0_pay7 x0) (k0_pay9 x0 x2 x4) (k0_pay10 x0 x2 x5) (k0_pay11 x0 x2 x4) k0_pay12 x6 x3 x1) k0_pay6 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 hc x0 x1 x2 x3 x4 x5 x6)]
  unfold kernelRun0_A
  dsimp only
  sl_unfold_words
  rw [View.canon_cons_unit_zero (S := S1x1024) hz]
  rw [View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_7 (hc : ¬cond0_0 i) (p12 : Vec F S1x128 .f32) (p13 : Vec F S1x1024 .f32) :
    out0_B_7 c i a1 h1 a2 h2 a3 h3 a4 h4 a5 h5 a6 h6 a7 h7 a8 h8 a9 h9 a10 h10 a11 h11 a12 h12 a13 h13 a14 h14 hc x0 x1 x2 x3 x4 x5 x6 p12 p13 = k0_pay9 x0 x2 x4 := by
  unfold out0_B_7
  rw [View.read_writes_eq_canon _ _ _ (cover0_B_7 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_8 (hc : ¬cond0_0 i) (p12 : Vec F S1x128 .f32) (p13 : Vec F S1x1024 .f32) :
    out0_B_8 c i a1 h1 a2 h2 a3 h3 a4 h4 a5 h5 a6 h6 a7 h7 a8 h8 a9 h9 a10 h10 a11 h11 a12 h12 a13 h13 a14 h14 hc x0 x1 x2 x3 x4 x5 x6 p12 p13 = k0_pay10 x0 x2 x5 := by
  unfold out0_B_8
  rw [View.read_writes_eq_canon _ _ _ (cover0_B_8 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_9 (hc : ¬cond0_0 i) (p12 : Vec F S1x128 .f32) (p13 : Vec F S1x1024 .f32) :
    out0_B_9 c i a1 h1 a2 h2 a3 h3 a4 h4 a5 h5 a6 h6 a7 h7 a8 h8 a9 h9 a10 h10 a11 h11 a12 h12 a13 h13 a14 h14 hc x0 x1 x2 x3 x4 x5 x6 p12 p13 = k0_pay8 x0 x2 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_10 (hc : ¬cond0_0 i) (p12 : Vec F S1x128 .f32) (p13 : Vec F S1x1024 .f32) :
    out0_B_10 c i a1 h1 a2 h2 a3 h3 a4 h4 a5 h5 a6 h6 a7 h7 a8 h8 a9 h9 a10 h10 a11 h11 a12 h12 a13 h13 a14 h14 hc x0 x1 x2 x3 x4 x5 x6 p12 p13 = k0_pay13 (k0_pay9 x0 x2 x4) (k0_pay10 x0 x2 x5) (k0_pay11 x0 x2 x4) k0_pay12 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S256x2816) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_11 (hc : ¬cond0_0 i) (p12 : Vec F S1x128 .f32) (p13 : Vec F S1x1024 .f32) :
    out0_B_11 c i a1 h1 a2 h2 a3 h3 a4 h4 a5 h5 a6 h6 a7 h7 a8 h8 a9 h9 a10 h10 a11 h11 a12 h12 a13 h13 a14 h14 hc x0 x1 x2 x3 x4 x5 x6 p12 p13 = k0_pay4 (k0_pay15 (k0_pay7 x0) (k0_pay9 x0 x2 x4) (k0_pay10 x0 x2 x5) (k0_pay11 x0 x2 x4) k0_pay12 x6) (k0_pay16 (k0_pay7 x0) (k0_pay9 x0 x2 x4) (k0_pay10 x0 x2 x5) (k0_pay11 x0 x2 x4) k0_pay12 x6) (k0_pay17 x3) (k0_pay18 (k0_pay7 x0) (k0_pay9 x0 x2 x4) (k0_pay10 x0 x2 x5) (k0_pay11 x0 x2 x4) k0_pay12 x6 x3 x1) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S256x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_12 (hc : ¬cond0_0 i) (p12 : Vec F S1x128 .f32) (p13 : Vec F S1x1024 .f32) :
    out0_B_12 c i a1 h1 a2 h2 a3 h3 a4 h4 a5 h5 a6 h6 a7 h7 a8 h8 a9 h9 a10 h10 a11 h11 a12 h12 a13 h13 a14 h14 hc x0 x1 x2 x3 x4 x5 x6 p12 p13 = k0_pay1 (k0_pay19 p12) (k0_pay20 (k0_pay7 x0) (k0_pay9 x0 x2 x4) (k0_pay10 x0 x2 x5) (k0_pay11 x0 x2 x4) k0_pay12 x6 x3 x1) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S1x128) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

theorem out_B_13 (hc : ¬cond0_0 i) (p12 : Vec F S1x128 .f32) (p13 : Vec F S1x1024 .f32) :
    out0_B_13 c i a1 h1 a2 h2 a3 h3 a4 h4 a5 h5 a6 h6 a7 h7 a8 h8 a9 h9 a10 h10 a11 h11 a12 h12 a13 h13 a14 h14 hc x0 x1 x2 x3 x4 x5 x6 p12 p13 = k0_pay3 (k0_pay16 (k0_pay7 x0) (k0_pay9 x0 x2 x4) (k0_pay10 x0 x2 x5) (k0_pay11 x0 x2 x4) k0_pay12 x6) (k0_pay18 (k0_pay7 x0) (k0_pay9 x0 x2 x4) (k0_pay10 x0 x2 x5) (k0_pay11 x0 x2 x4) k0_pay12 x6 x3 x1) p13 := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 hc x0 x1 x2 x3 x4 x5 x6 p12 p13)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, View.ld_unit_zero (S := S256x1024) hz, View.ld_unit_zero (S := S1x1024) hz, View.ld_unit_zero (S := S2816x1024) hz, View.ld_unit_zero (S := S256x2816) hz, View.ld_unit_zero (S := S1x128) hz]

end Cases

end Cert.LossKernelIdeal.Step

end
-- ==== Proof.LossMath.lean ====
module
public import proofs.«01_k».proof.Proof.FfnMath
/-! The feed-forward layer, the final norm and the loss over the extended reals: the kernel's formulas, the chain rule's, and their equality. -/
@[expose] public section
set_option maxRecDepth 16384
noncomputable section
namespace Cert.Loss
open Idealize.ShloMosaic Cert.Silu Cert.Ffn

/-- The arguments of the call by coordinates: the layer's (its cotangent unused), the target and the final gain. -/
structure Args where
  L : Ffn.Args
  T : Fin 8192 → Fin 1024 → EReal
  H : Fin 1024 → EReal

namespace Args
variable (A : Args) (s : Fin 8192) (k : Fin 1024) (j : Fin 2816)

/-- The gated product and the layer's output, with the logistic function as the kernel writes it and as the reference does. -/
def act : EReal := A.L.gate s j * sg (A.L.gate s j) * A.L.up s j
def act' : EReal := A.L.gate s j * Ideal.logistic (A.L.gate s j) * A.L.up s j
def out : EReal := A.L.X s k + ∑ j : Fin 2816, A.act s j * A.L.WD j k
def out' : EReal := A.L.X s k + ∑ j : Fin 2816, A.act' s j * A.L.WD j k

variable (Y : Fin 8192 → Fin 1024 → EReal)

/-- The final norm of `Y` before its gain, and the error against the target. -/
def unit : EReal := Y s k * Ideal.rsqrt (meanSq (Y s))
def err : EReal := unit s k Y * A.H k - A.T s k
/-- The mean square error of a row. -/
def rowLoss : EReal := Ideal.div (∑ k : Fin 1024, A.err s k Y * A.err s k Y) (Ideal.ofBits FTy.f32 1149239296#32)
/-- The loss's gradient at the final norm's output, by the kernel and by the chain rule. -/
def dy : EReal := A.err s k Y * Ideal.ofBits FTy.f32 981467136#32
def dy' : EReal := Ideal.div (Ideal.ofBits FTy.f32 1056964608#32) (Ideal.ofBits FTy.f32 1149239296#32) * (Ideal.ofBits FTy.f32 1073741824#32 * A.err s k Y)
def dx : EReal := normGrad (Y s) (fun k => A.dy s k Y * A.H k) 0 k
def dx' : EReal := A.dy' s k Y * A.H k * Ideal.rsqrt (meanSq (Y s)) + Y s k * viaMean (Y s) (fun k => A.dy' s k Y * A.H k)
  + viaMean (Y s) (fun k => A.dy' s k Y * A.H k) * Y s k
/-- Row `s`'s share of the final gain's gradient. -/
def dg : EReal := A.dy s k Y * unit s k Y
def dg' : EReal := unit s k Y * A.dy' s k Y

theorem c2 : Ideal.ofBits FTy.f32 1073741824#32 = ((2 : ℝ) : EReal) := by
  simp [Ideal.ofBits, Ideal.ieee, -EReal.coe_mul]; norm_num
theorem c1over1024 : Ideal.ofBits FTy.f32 981467136#32 = ((1 / 1024 : ℝ) : EReal) := by
  simp [Ideal.ofBits, Ideal.ieee, -EReal.coe_mul]; norm_num

theorem dy_eq : A.dy s k Y = A.dy' s k Y := by
  unfold dy dy'
  rw [cHalf, RmsGrad.c1024, c2, c1over1024, Ideal.div_coe (by norm_num), ← EReal.coe_mul, ← mul_assoc, ← EReal.coe_mul, mul_comm]
  congr 2
  norm_num

theorem half_sum {n : ℕ} (f : Fin n → EReal) :
    Ideal.ofBits FTy.f32 1056964608#32 * ∑ i, f i = ∑ i, Ideal.ofBits FTy.f32 1056964608#32 * f i := by
  rw [cHalf]
  exact RmsGrad.coe_mul_sum (by norm_num) _ _

theorem dx_eq (y : Fin 1024 → ℝ) (hy : ∀ k, Y s k = (y k : EReal)) : A.dx s k Y = A.dx' s k Y := by
  have h := RmsGrad.grad y (fun k => A.dy s k Y * A.H k) 0 k _ _ rfl rfl
  simp only [← hy, zero_add] at h
  unfold dx dx' normGrad
  rw [zero_add]
  refine Eq.trans h ?_
  simp only [dy_eq]
  rfl

theorem dg_eq : A.dg s k Y = A.dg' s k Y := by
  unfold dg dg'
  rw [dy_eq, mul_comm]

variable {A} (hA : A.L.Real)
include hA

theorem act_eq : A.act s j = A.act' s j := by
  obtain ⟨g, hg⟩ := Ffn.Args.gate_real s j hA
  obtain ⟨σ, h1, h2⟩ := sg_real g
  unfold act act'
  rw [hg, h1, h2]

theorem out_eq : A.out s k = A.out' s k := by
  unfold out out'
  simp only [act_eq s _ hA]

theorem out_real : ∃ r : ℝ, A.out s k = (r : EReal) := by
  have ha (j : Fin 2816) : ∃ r : ℝ, A.act s j = (r : EReal) := by
    obtain ⟨g, hg⟩ := Ffn.Args.gate_real s j hA
    obtain ⟨u, hu⟩ := Ffn.Args.up_real s j hA
    obtain ⟨σ, h1, _⟩ := sg_real g
    refine ⟨g * σ * u, ?_⟩
    unfold act
    rw [hg, h1, hu, EReal.coe_mul, EReal.coe_mul]
  obtain ⟨x, hx⟩ := hA.x s k
  obtain ⟨y, hy⟩ := Ffn.Args.sum_real hA _ _ ha (fun j => hA.wd j k)
  refine ⟨x + y, ?_⟩
  unfold out
  rw [hx, hy, EReal.coe_add]

end Args
end Cert.Loss
end
-- ==== Proof.LossHost.lean ====
module
public import proofs.«01_k».proof.Proof.LossStep
public import proofs.«01_k».proof.Proof.LossMath
public import Idealize.ShloMosaic.Lib.Pointwise
public import Idealize.ShloMosaic.Lib.StableHlo.RunRead
/-! The blocks that the loss kernel reads at a grid point, each as entries of the launch arguments. -/
@[expose] public section
set_option maxRecDepth 16384
noncomputable section
namespace Cert.LossKernelIdeal.Step
open Cert.LossKernelIdeal Cert.LossKernelIdeal.Gen Idealize.ShloMosaic Idealize.ShloMosaic.TcCoe Idealize.SL.Sem

variable (m : (ℓ : Loc nD τ sig) → Buf (Elt Ideal) ℓ) (c : Dev nD)

/-- The launch arguments, by coordinates. -/
def args : Loss.Args where
  L := { X := fun s k => (m ((c : Thread nD τ).loc main_arg0) : FVec Ideal S1x8192x1024 .f32) (ix3 0 s k)
         G := fun k => (m ((c : Thread nD τ).loc main_arg2) : FVec Ideal S1x1024 .f32) (ix2 0 k)
         WG := fun k j => (m ((c : Thread nD τ).loc main_arg4) : FVec Ideal S1x1024x2816 .f32) (ix3 0 k j)
         WU := fun k j => (m ((c : Thread nD τ).loc main_arg5) : FVec Ideal S1x1024x2816 .f32) (ix3 0 k j)
         WD := fun j k => (m ((c : Thread nD τ).loc main_arg6) : FVec Ideal S1x2816x1024 .f32) (ix3 0 j k)
         DY := fun _ _ => 0 }
  T s k := (m ((c : Thread nD τ).loc main_arg1) : FVec Ideal S1x8192x1024 .f32) (ix3 0 s k)
  H k := (m ((c : Thread nD τ).loc main_arg3) : FVec Ideal S1024 .f32) (ix1 k)

/-! ## The arrays the region finds -/

theorem V_v0 (s : Fin 8192) (k : Fin 1024) : V m c main_v0 (ix2 s k) = (args m c).L.X s k := by
  unfold V args
  after_reads_simp
  generalize m (c.tc.loc main_arg0) = x
  pointwise

theorem V_v1 (s : Fin 8192) (k : Fin 1024) : V m c main_v1 (ix2 s k) = (args m c).T s k := by
  unfold V args
  after_reads_simp
  generalize m (c.tc.loc main_arg1) = x
  pointwise

theorem V_arg2 (k : Fin 1024) : V m c main_arg2 (ix2 0 k) = (args m c).L.G k := by
  unfold V args
  after_reads_simp

theorem V_v2 (k : Fin 1024) : V m c main_v2 (ix2 0 k) = (args m c).H k := by
  unfold V args
  after_reads_simp
  generalize m (c.tc.loc main_arg3) = x
  pointwise

theorem V_v5 (j : Fin 2816) (k : Fin 1024) : V m c main_v5 (ix2 j k) = (args m c).L.WG k j := by
  unfold V args
  after_reads_simp
  generalize m (c.tc.loc main_arg4) = x
  pointwise

theorem V_v8 (j : Fin 2816) (k : Fin 1024) : V m c main_v8 (ix2 j k) = (args m c).L.WU k j := by
  unfold V args
  after_reads_simp
  generalize m (c.tc.loc main_arg5) = x
  pointwise

theorem V_v10 (j : Fin 2816) (k : Fin 1024) : V m c main_v10 (ix2 j k) = (args m c).L.WD j k := by
  unfold V args
  after_reads_simp
  generalize m (c.tc.loc main_arg6) = x
  pointwise

/-! ## The blocks -/

/-- The array row that row `r` of the block at point `t` is. -/
def row (t : Fin 32) (r : Fin 256) : Fin 8192 := ⟨t.val * 256 + r.val, by omega⟩

theorem blk0 (t : Fin cfg0.N) (r : Fin 256) (l : Fin 1024) : iblk m c 0 t (ix2 r l) = V m c main_v0 (ix2 (row t r) l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  unfold iblk
  rw [View.read_apply]
  show V m c main_v0 _ = _
  congr 1
  refine funext fun a => Fin.ext ?_
  match a with
  | ⟨0, _⟩ => show win0_0.index t 0 * 256 + 1 * r.val = t.val * 256 + r.val; omega
  | ⟨1, _⟩ => show win0_0.index t 1 * 1024 + 1 * l.val = l.val; omega

theorem blk1 (t : Fin cfg0.N) (r : Fin 256) (l : Fin 1024) : iblk m c 1 t (ix2 r l) = V m c main_v1 (ix2 (row t r) l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  show V m c main_v1 _ = _
  congr 1
  refine funext fun a => Fin.ext ?_
  match a with
  | ⟨0, _⟩ => show win0_1.index t 0 * 256 + 1 * r.val = t.val * 256 + r.val; omega
  | ⟨1, _⟩ => show win0_1.index t 1 * 1024 + 1 * l.val = l.val; omega

theorem blk2 (t : Fin cfg0.N) (r : Fin 1) (l : Fin 1024) : iblk m c 2 t (ix2 r l) = V m c main_arg2 (ix2 r l) := by
  have e0 : win0_2.index t 0 = 0 := (by decide +kernel : ∀ t : Fin grid0.N, win0_2.index t 0 = 0) t
  have e1 : win0_2.index t 1 = 0 := (by decide +kernel : ∀ t : Fin grid0.N, win0_2.index t 1 = 0) t
  unfold iblk
  rw [View.read_apply]
  show V m c main_arg2 _ = _
  congr 1
  refine funext fun a => Fin.ext ?_
  match a with
  | ⟨0, _⟩ => show win0_2.index t 0 * 1 + 1 * r.val = r.val; omega
  | ⟨1, _⟩ => show win0_2.index t 1 * 1024 + 1 * l.val = l.val; omega

theorem blk3 (t : Fin cfg0.N) (r : Fin 1) (l : Fin 1024) : iblk m c 3 t (ix2 r l) = V m c main_v2 (ix2 r l) := by
  have e0 : win0_3.index t 0 = 0 := (by decide +kernel : ∀ t : Fin grid0.N, win0_3.index t 0 = 0) t
  have e1 : win0_3.index t 1 = 0 := (by decide +kernel : ∀ t : Fin grid0.N, win0_3.index t 1 = 0) t
  unfold iblk
  rw [View.read_apply]
  show V m c main_v2 _ = _
  congr 1
  refine funext fun a => Fin.ext ?_
  match a with
  | ⟨0, _⟩ => show win0_3.index t 0 * 1 + 1 * r.val = r.val; omega
  | ⟨1, _⟩ => show win0_3.index t 1 * 1024 + 1 * l.val = l.val; omega

theorem blk4 (t : Fin cfg0.N) (r : Fin 2816) (l : Fin 1024) : iblk m c 4 t (ix2 r l) = V m c main_v5 (ix2 r l) := by
  have e0 : win0_4.index t 0 = 0 := (by decide +kernel : ∀ t : Fin grid0.N, win0_4.index t 0 = 0) t
  have e1 : win0_4.index t 1 = 0 := (by decide +kernel : ∀ t : Fin grid0.N, win0_4.index t 1 = 0) t
  unfold iblk
  rw [View.read_apply]
  show V m c main_v5 _ = _
  congr 1
  refine funext fun a => Fin.ext ?_
  match a with
  | ⟨0, _⟩ => show win0_4.index t 0 * 2816 + 1 * r.val = r.val; omega
  | ⟨1, _⟩ => show win0_4.index t 1 * 1024 + 1 * l.val = l.val; omega

theorem blk5 (t : Fin cfg0.N) (r : Fin 2816) (l : Fin 1024) : iblk m c 5 t (ix2 r l) = V m c main_v8 (ix2 r l) := by
  have e0 : win0_5.index t 0 = 0 := (by decide +kernel : ∀ t : Fin grid0.N, win0_5.index t 0 = 0) t
  have e1 : win0_5.index t 1 = 0 := (by decide +kernel : ∀ t : Fin grid0.N, win0_5.index t 1 = 0) t
  unfold iblk
  rw [View.read_apply]
  show V m c main_v8 _ = _
  congr 1
  refine funext fun a => Fin.ext ?_
  match a with
  | ⟨0, _⟩ => show win0_5.index t 0 * 2816 + 1 * r.val = r.val; omega
  | ⟨1, _⟩ => show win0_5.index t 1 * 1024 + 1 * l.val = l.val; omega

theorem blk6 (t : Fin cfg0.N) (r : Fin 2816) (l : Fin 1024) : iblk m c 6 t (ix2 r l) = V m c main_v10 (ix2 r l) := by
  have e0 : win0_6.index t 0 = 0 := (by decide +kernel : ∀ t : Fin grid0.N, win0_6.index t 0 = 0) t
  have e1 : win0_6.index t 1 = 0 := (by decide +kernel : ∀ t : Fin grid0.N, win0_6.index t 1 = 0) t
  unfold iblk
  rw [View.read_apply]
  show V m c main_v10 _ = _
  congr 1
  refine funext fun a => Fin.ext ?_
  match a with
  | ⟨0, _⟩ => show win0_6.index t 0 * 2816 + 1 * r.val = r.val; omega
  | ⟨1, _⟩ => show win0_6.index t 1 * 1024 + 1 * l.val = l.val; omega

end Cert.LossKernelIdeal.Step
end
-- ==== Proof.LossRun.lean ====
module
public import proofs.«01_k».proof.Proof.LossHost
public import proofs.«01_k».proof.Proof.Gen.LossKernelIdeal.Value
/-! The seven arrays the loss kernel leaves, each entry by the kernel's formulas over the launch arguments. -/
@[expose] public section
set_option maxRecDepth 16384
noncomputable section
namespace Cert.LossKernelIdeal.Step
open Cert.LossKernelIdeal Cert.LossKernelIdeal.Gen Cert.LossKernelIdeal.Value Idealize.ShloMosaic Idealize.ShloMosaic.TcCoe Idealize.SL.Sem
open Idealize.ShloMosaic.Pipeline (Dat)

/-! ## The body's terms, at an index, for blocks whose entries are known -/

section Terms
variable (x0 x1 : Vec Ideal S256x1024 .f32) (x2 x3 : Vec Ideal S1x1024 .f32) (x4 x5 x6 : Vec Ideal S2816x1024 .bf16) (A : Loss.Args) (ρ : Fin 256 → Fin 8192)

theorem hid_of (r : Fin 256) (k : Fin 1024) (h0 : ∀ k, x0 (ix2 r k) = A.L.X (ρ r) k) (h2 : ∀ k, x2 (ix2 0 k) = A.L.G k) :
    k0_pay8 (F := Ideal) x0 x2 (ix2 r k) = A.L.hid (ρ r) k := by
  unfold Ffn.Args.hid Ffn.meanSq
  simp only [← h0, ← h2]
  pointwise [k0_pay8, k0_pay7]

theorem gate_of (r : Fin 256) (j : Fin 2816) (hh : ∀ k, k0_pay8 (F := Ideal) x0 x2 (ix2 r k) = A.L.hid (ρ r) k) (h4 : ∀ j k, x4 (ix2 j k) = A.L.WG k j) :
    k0_pay9 (F := Ideal) x0 x2 x4 (ix2 r j) = A.L.gate (ρ r) j := by
  unfold Ffn.Args.gate
  simp only [← hh, ← h4]
  unfold k0_pay9
  generalize k0_pay8 x0 x2 = h
  pointwise

theorem up_of (r : Fin 256) (j : Fin 2816) (hh : ∀ k, k0_pay8 (F := Ideal) x0 x2 (ix2 r k) = A.L.hid (ρ r) k) (h5 : ∀ j k, x5 (ix2 j k) = A.L.WU k j) :
    k0_pay10 (F := Ideal) x0 x2 x5 (ix2 r j) = A.L.up (ρ r) j := by
  unfold Ffn.Args.up
  simp only [← hh, ← h5]
  unfold k0_pay10
  generalize k0_pay8 x0 x2 = h
  pointwise

theorem act_of (r : Fin 256) (j : Fin 2816) (hg : k0_pay9 (F := Ideal) x0 x2 x4 (ix2 r j) = A.L.gate (ρ r) j) (hu : k0_pay10 (F := Ideal) x0 x2 x5 (ix2 r j) = A.L.up (ρ r) j) :
    k0_pay13 (F := Ideal) (k0_pay9 x0 x2 x4) (k0_pay10 x0 x2 x5) (k0_pay11 x0 x2 x4) k0_pay12 (ix2 r j) = A.act (ρ r) j := by
  unfold Loss.Args.act
  simp only [← hg, ← hu]
  unfold Silu.sg k0_pay11
  generalize k0_pay9 x0 x2 x4 = g
  generalize k0_pay10 x0 x2 x5 = u
  pointwise [k0_pay13, k0_pay12]

variable (b : FVec Ideal S256x1024 .f32) (g u s e : FVec Ideal S256x2816 .f32)

theorem y_of (r : Fin 256) (k : Fin 1024) (h0 : x0 (ix2 r k) = A.L.X (ρ r) k) (ha : ∀ j, k0_pay13 (F := Ideal) g u s e (ix2 r j) = A.act (ρ r) j)
    (h6 : ∀ j k, x6 (ix2 j k) = A.L.WD j k) : k0_pay14 (F := Ideal) (k0_pay7 x0) g u s e x6 (ix2 r k) = A.out (ρ r) k := by
  unfold Loss.Args.out
  simp only [← h0, ← ha, ← h6]
  generalize h : k0_pay13 g u s e = a
  unfold k0_pay14
  simp only [h]
  pointwise [k0_pay7]

theorem err_of (r : Fin 256) (k : Fin 1024) (hy : ∀ r k, k0_pay14 (F := Ideal) b g u s e x6 (ix2 r k) = A.out (ρ r) k) (h1 : ∀ r k, x1 (ix2 r k) = A.T (ρ r) k)
    (h3 : ∀ k, x3 (ix2 0 k) = A.H k) : k0_pay18 (F := Ideal) b g u s e x6 x3 x1 (ix2 r k) = A.err (ρ r) k A.out := by
  unfold Loss.Args.err Loss.Args.unit Ffn.meanSq
  simp only [← hy, ← h1, ← h3]
  unfold k0_pay18 k0_pay16 k0_pay15
  generalize k0_pay14 b g u s e x6 = y
  pointwise [k0_pay17]

theorem dx_of (r : Fin 256) (k : Fin 1024) (hy : ∀ r k, k0_pay14 (F := Ideal) b g u s e x6 (ix2 r k) = A.out (ρ r) k) (h1 : ∀ r k, x1 (ix2 r k) = A.T (ρ r) k)
    (h3 : ∀ k, x3 (ix2 0 k) = A.H k) :
    k0_pay4 (F := Ideal) (k0_pay15 b g u s e x6) (k0_pay16 b g u s e x6) (k0_pay17 x3) (k0_pay18 b g u s e x6 x3 x1) (ix2 r k) = A.dx (ρ r) k A.out := by
  have he (k) := err_of x1 x3 x6 A ρ b g u s e r k hy h1 h3
  unfold Loss.Args.dx Ffn.normGrad Loss.Args.dy Ffn.meanSq
  simp only [← he, ← hy, ← h3]
  generalize k0_pay18 b g u s e x6 x3 x1 = f
  unfold k0_pay16 k0_pay15
  generalize k0_pay14 b g u s e x6 = y
  pointwise [k0_pay4, k0_pay2, k0_pay17]

theorem loss_of (a : Vec Ideal S1x128 .f32) (k : Fin 128) (he : ∀ r k, k0_pay18 (F := Ideal) b g u s e x6 x3 x1 (ix2 r k) = A.err (ρ r) k A.out) :
    k0_pay1 (F := Ideal) (k0_pay19 a) (k0_pay20 b g u s e x6 x3 x1) (ix2 0 k) = a (ix2 0 k) + ∑ r : Fin 256, Ideal.ofBits FTy.f32 1056964608#32 * A.rowLoss (ρ r) A.out := by
  unfold Loss.Args.rowLoss
  rw [← Loss.Args.half_sum]
  simp only [← he]
  unfold k0_pay20
  generalize k0_pay18 b g u s e x6 x3 x1 = f
  pointwise [k0_pay1, k0_pay19]

theorem dg_of (a : Vec Ideal S1x1024 .f32) (k : Fin 1024) (hy : ∀ r k, k0_pay14 (F := Ideal) b g u s e x6 (ix2 r k) = A.out (ρ r) k)
    (he : ∀ r k, k0_pay18 (F := Ideal) b g u s e x6 x3 x1 (ix2 r k) = A.err (ρ r) k A.out) :
    k0_pay3 (F := Ideal) (k0_pay16 b g u s e x6) (k0_pay18 b g u s e x6 x3 x1) a (ix2 0 k) = a (ix2 0 k) + ∑ r : Fin 256, A.dg (ρ r) k A.out := by
  unfold Loss.Args.dg Loss.Args.dy Loss.Args.unit Ffn.meanSq
  simp only [← he, ← hy]
  generalize k0_pay18 b g u s e x6 x3 x1 = f
  unfold k0_pay16 k0_pay15
  generalize k0_pay14 b g u s e x6 = y
  pointwise [k0_pay3, k0_pay2]

theorem zero12_apply (k : Fin 128) : k0_pay5 (F := Ideal) (ix2 0 k) = (0 : EReal) := by
  pointwise [k0_pay5]
theorem zero13_apply (k : Fin 1024) : k0_pay6 (F := Ideal) (ix2 0 k) = (0 : EReal) := by
  pointwise [k0_pay6]
end Terms

variable (m : (ℓ : Loc nD τ sig) → Buf (Elt Ideal) ℓ) (c : Dev nD)

/-! ## The blocks, by the arguments -/

section Entries
variable (t : Fin cfg0.N)
theorem entry0 (r : Fin 256) (k : Fin 1024) : iblk m c 0 t (ix2 r k) = (args m c).L.X (row t r) k := (blk0 m c t r k).trans (V_v0 m c _ k)
theorem entry1 (r : Fin 256) (k : Fin 1024) : iblk m c 1 t (ix2 r k) = (args m c).T (row t r) k := (blk1 m c t r k).trans (V_v1 m c _ k)
theorem entry2 (k : Fin 1024) : iblk m c 2 t (ix2 0 k) = (args m c).L.G k := (blk2 m c t 0 k).trans (V_arg2 m c k)
theorem entry3 (k : Fin 1024) : iblk m c 3 t (ix2 0 k) = (args m c).H k := (blk3 m c t 0 k).trans (V_v2 m c k)
theorem entry4 (j : Fin 2816) (k : Fin 1024) : iblk m c 4 t (ix2 j k) = (args m c).L.WG k j := (blk4 m c t j k).trans (V_v5 m c j k)
theorem entry5 (j : Fin 2816) (k : Fin 1024) : iblk m c 5 t (ix2 j k) = (args m c).L.WU k j := (blk5 m c t j k).trans (V_v8 m c j k)
theorem entry6 (j : Fin 2816) (k : Fin 1024) : iblk m c 6 t (ix2 j k) = (args m c).L.WD j k := (blk6 m c t j k).trans (V_v10 m c j k)

theorem hid_blk (r : Fin 256) (k : Fin 1024) : k0_pay8 (F := Ideal) (iblk m c 0 t) (iblk m c 2 t) (ix2 r k) = (args m c).L.hid (row t r) k :=
  hid_of _ _ (args m c) (row t) r k (entry0 m c t r) (entry2 m c t)
theorem gate_blk (r : Fin 256) (j : Fin 2816) : k0_pay9 (F := Ideal) (iblk m c 0 t) (iblk m c 2 t) (iblk m c 4 t) (ix2 r j) = (args m c).L.gate (row t r) j :=
  gate_of _ _ _ (args m c) (row t) r j (hid_blk m c t r) (entry4 m c t)
theorem up_blk (r : Fin 256) (j : Fin 2816) : k0_pay10 (F := Ideal) (iblk m c 0 t) (iblk m c 2 t) (iblk m c 5 t) (ix2 r j) = (args m c).L.up (row t r) j :=
  up_of _ _ _ (args m c) (row t) r j (hid_blk m c t r) (entry5 m c t)
theorem act_blk (r : Fin 256) (j : Fin 2816) : k0_pay13 (F := Ideal) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (ix2 r j) = (args m c).act (row t r) j :=
  act_of _ _ _ _ (args m c) (row t) r j (gate_blk m c t r j) (up_blk m c t r j)
theorem y_blk (r : Fin 256) (k : Fin 1024) : k0_pay14 (F := Ideal) (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t) (ix2 r k) = (args m c).out (row t r) k :=
  y_of _ _ (args m c) (row t) _ _ _ _ r k (entry0 m c t r k) (act_blk m c t r) (entry6 m c t)
theorem err_blk (r : Fin 256) (k : Fin 1024) : k0_pay18 (F := Ideal) (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t) (iblk m c 3 t) (iblk m c 1 t) (ix2 r k) = (args m c).err (row t r) k (args m c).out :=
  err_of _ _ _ (args m c) (row t) _ _ _ _ _ r k (y_blk m c t) (entry1 m c t) (entry3 m c t)
theorem dx_blk (r : Fin 256) (k : Fin 1024) :
    k0_pay4 (F := Ideal) (k0_pay15 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t)) (k0_pay16 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t)) (k0_pay17 (iblk m c 3 t)) (k0_pay18 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t) (iblk m c 3 t) (iblk m c 1 t)) (ix2 r k) = (args m c).dx (row t r) k (args m c).out :=
  dx_of _ _ _ (args m c) (row t) _ _ _ _ _ r k (y_blk m c t) (entry1 m c t) (entry3 m c t)
theorem loss_blk (a : Vec Ideal S1x128 .f32) (k : Fin 128) :
    k0_pay1 (F := Ideal) (k0_pay19 a) (k0_pay20 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t) (iblk m c 3 t) (iblk m c 1 t)) (ix2 0 k) = a (ix2 0 k) + ∑ r : Fin 256, Ideal.ofBits FTy.f32 1056964608#32 * (args m c).rowLoss (row t r) (args m c).out :=
  loss_of _ _ _ (args m c) (row t) _ _ _ _ _ a k (err_blk m c t)
theorem dg_blk (a : Vec Ideal S1x1024 .f32) (k : Fin 1024) :
    k0_pay3 (F := Ideal) (k0_pay16 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t)) (k0_pay18 (k0_pay7 (iblk m c 0 t)) (k0_pay9 (iblk m c 0 t) (iblk m c 2 t) (iblk m c 4 t)) (k0_pay10 (iblk m c 0 t) (iblk m c 2 t) (iblk m c 5 t)) (k0_pay11 (iblk m c 0 t) (iblk m c 2 t) (iblk m c 4 t)) k0_pay12 (iblk m c 6 t) (iblk m c 3 t) (iblk m c 1 t)) a (ix2 0 k) = a (ix2 0 k) + ∑ r : Fin 256, (args m c).dg (row t r) k (args m c).out :=
  dg_of _ _ _ (args m c) (row t) _ _ _ _ _ a k (y_blk m c t) (err_blk m c t)
end Entries

/-! ## What the point before and the point leave -/

/-- The row's gradient, its output's gains and the shares of the accumulated results, by row and column. -/
def gradX (s : Fin 8192) (k : Fin 1024) : EReal := (args m c).dx s k (args m c).out
def shareLoss (s : Fin 8192) : EReal := Ideal.ofBits FTy.f32 1056964608#32 * (args m c).rowLoss s (args m c).out
def shareGain (k : Fin 1024) (s : Fin 8192) : EReal := (args m c).dg s k (args m c).out

theorem out7 (t : Fin cfg0.N) (r : Fin 256) (k : Fin 2816) : (outsAt0 m c t.val t.isLt).1 (ix2 r k) = (args m c).L.gate (row t r) k := by
  by_cases h0 : t.val % 32 = 0
  · rw [outsAt0_A m c t h0]; dsimp only; rw [out_A_7]; exact gate_blk m c t r k
  · rw [outsAt0_B m c t h0]; dsimp only; rw [out_B_7]; exact gate_blk m c t r k

theorem out8 (t : Fin cfg0.N) (r : Fin 256) (k : Fin 2816) : (outsAt0 m c t.val t.isLt).2.1 (ix2 r k) = (args m c).L.up (row t r) k := by
  by_cases h0 : t.val % 32 = 0
  · rw [outsAt0_A m c t h0]; dsimp only; rw [out_A_8]; exact up_blk m c t r k
  · rw [outsAt0_B m c t h0]; dsimp only; rw [out_B_8]; exact up_blk m c t r k

theorem out9 (t : Fin cfg0.N) (r : Fin 256) (k : Fin 1024) : (outsAt0 m c t.val t.isLt).2.2.1 (ix2 r k) = (args m c).L.hid (row t r) k := by
  by_cases h0 : t.val % 32 = 0
  · rw [outsAt0_A m c t h0]; dsimp only; rw [out_A_9]; exact hid_blk m c t r k
  · rw [outsAt0_B m c t h0]; dsimp only; rw [out_B_9]; exact hid_blk m c t r k

theorem out10 (t : Fin cfg0.N) (r : Fin 256) (k : Fin 2816) : (outsAt0 m c t.val t.isLt).2.2.2.1 (ix2 r k) = (args m c).act (row t r) k := by
  by_cases h0 : t.val % 32 = 0
  · rw [outsAt0_A m c t h0]; dsimp only; rw [out_A_10]; exact act_blk m c t r k
  · rw [outsAt0_B m c t h0]; dsimp only; rw [out_B_10]; exact act_blk m c t r k

theorem out11 (t : Fin cfg0.N) (r : Fin 256) (k : Fin 1024) : (outsAt0 m c t.val t.isLt).2.2.2.2.1 (ix2 r k) = gradX m c (row t r) k := by
  by_cases h0 : t.val % 32 = 0
  · rw [outsAt0_A m c t h0]; dsimp only; rw [out_A_11]; exact dx_blk m c t r k
  · rw [outsAt0_B m c t h0]; dsimp only; rw [out_B_11]; exact dx_blk m c t r k

/-- The sum over the points up to `n` of the rows each holds. -/
def upTo (f : Fin 8192 → EReal) (n : ℕ) (hn : n < 32) : EReal := ∑ t : Fin (n + 1), ∑ r : Fin 256, f (row ⟨t.val, by omega⟩ r)

theorem upTo_zero (f : Fin 8192 → EReal) : upTo f 0 (by omega) = ∑ r : Fin 256, f (row 0 r) := by
  unfold upTo
  rw [Fin.sum_univ_one]
  rfl
theorem upTo_succ (f : Fin 8192 → EReal) (n : ℕ) (hn : n + 1 < 32) :
    upTo f (n + 1) hn = upTo f n (by omega) + ∑ r : Fin 256, f (row ⟨n + 1, hn⟩ r) := by
  unfold upTo
  rw [Fin.sum_univ_castSucc]
  rfl
theorem upTo_last (f : Fin 8192 → EReal) : upTo f 31 (by omega) = ∑ s : Fin 8192, f s :=
  (Fin.sum_univ_tiles 32 256 rfl f).symm

theorem out12 (k : Fin 128) (n : ℕ) (hn : n < cfg0.N) :
    (outsAt0 m c n hn).2.2.2.2.2.1 (ix2 0 k) = upTo (shareLoss m c) n hn := by
  induction n with
  | zero =>
    rw [outsAt0_A m c ⟨0, hn⟩ (Nat.zero_mod _)]; dsimp only
    rw [out_A_12, loss_blk, zero12_apply, zero_add, upTo_zero]; rfl
  | succ n ih =>
    have hn' : n + 1 < 32 := hn
    rw [outsAt0_B m c ⟨n + 1, hn⟩ (by show ¬(n + 1) % 32 = 0; omega)]; dsimp only
    rw [out_B_12, loss_blk, upTo_succ _ n hn, ← ih (Nat.lt_of_succ_lt hn)]; rfl

theorem out13 (k : Fin 1024) (n : ℕ) (hn : n < cfg0.N) :
    (outsAt0 m c n hn).2.2.2.2.2.2 (ix2 0 k) = upTo (shareGain m c k) n hn := by
  induction n with
  | zero =>
    rw [outsAt0_A m c ⟨0, hn⟩ (Nat.zero_mod _)]; dsimp only
    rw [out_A_13, dg_blk, zero13_apply, zero_add, upTo_zero]; rfl
  | succ n ih =>
    have hn' : n + 1 < 32 := hn
    rw [outsAt0_B m c ⟨n + 1, hn⟩ (by show ¬(n + 1) % 32 = 0; omega)]; dsimp only
    rw [out_B_13, dg_blk, upTo_succ _ n hn, ← ih (Nat.lt_of_succ_lt hn)]; rfl

/-! ## The arrays -/

theorem two_coords {a b : ℕ} (j : (⟨2, ![a, b]⟩ : Shape).Idx) : j = ix2 (j 0) (j 1) := funext (fun i => match i with
  | ⟨0, _⟩ => rfl
  | ⟨1, _⟩ => rfl)
theorem one_coord {b : ℕ} (j : (⟨2, ![1, b]⟩ : Shape).Idx) : j = ix2 0 (j 1) := funext (fun i => match i with
  | ⟨0, _⟩ => Fin.fin_one_eq_zero _
  | ⟨1, _⟩ => rfl)

def arrGate : Vec Ideal S8192x2816 .f32 := fun i => (args m c).L.gate (i 0) (i 1)
def arrUp : Vec Ideal S8192x2816 .f32 := fun i => (args m c).L.up (i 0) (i 1)
def arrHid : Vec Ideal S8192x1024 .bf16 := fun i => (args m c).L.hid (i 0) (i 1)
def arrAct : Vec Ideal S8192x2816 .bf16 := fun i => (args m c).act (i 0) (i 1)
def arrDX : Vec Ideal S8192x1024 .f32 := fun i => gradX m c (i 0) (i 1)
def arrLoss : Vec Ideal S1x128 .f32 := fun _ => ∑ s : Fin 8192, shareLoss m c s
def arrDG : Vec Ideal S1x1024 .f32 := fun i => ∑ s : Fin 8192, shareGain m c (i 1) s

theorem final7 : (dats m 0 c).arrAt 7 cfg0.N = arrGate m c := by
  have e0 (t : Fin cfg0.N) : win0_7.index t 0 = t.val := (by decide +kernel : ∀ t : Fin grid0.N, win0_7.index t 0 = t.val) t
  have e1 (t : Fin cfg0.N) : win0_7.index t 1 = 0 := (by decide +kernel : ∀ t : Fin grid0.N, win0_7.index t 1 = 0) t
  refine (dats m 0 c).arrAt_eq_of_cover 7 _ (fun t _ => ?_) (fun (i : S8192x2816.Idx) => ?_)
  · rw [flushed7]
    refine funext fun (j : S256x2816.Idx) => ?_
    rw [View.read_apply]
    refine Eq.trans (b := (outsAt0 m c t.val t.isLt).1 j) rfl (Eq.trans (b := (args m c).L.gate (row t (j 0)) (j 1)) ?_ ?_)
    · exact (congrArg _ (two_coords j)).trans (out7 m c t (j 0) (j 1))
    · unfold arrGate
      refine congrArg₂ ((args m c).L.gate) (Fin.ext ?_) (Fin.ext ?_)
      · show t.val * 256 + (j 0).val = win0_7.index t 0 * 256 + 1 * (j 0).val
        rw [e0]; omega
      · show (j 1).val = win0_7.index t 1 * 2816 + 1 * (j 1).val
        rw [e1]; omega
  · have hi : (i 0).val < 8192 := (i 0).isLt
    have hi1 : (i 1).val < 2816 := (i 1).isLt
    obtain ⟨t, ht⟩ : ∃ t : Fin cfg0.N, t.val = (i 0).val / 256 := ⟨⟨(i 0).val / 256, by show (i 0).val / 256 < 32; omega⟩, rfl⟩
    refine ⟨t, flush0_7 t, ?_⟩
    show i ∈ ((View.whole main_v11_0).slice (win0_7.rect t)).set
    rw [View.set_slice_whole, Rect.mem_set_unit]
    intro a
    match a with
    | ⟨0, _⟩ =>
      show win0_7.index t 0 * 256 ≤ (i 0).val ∧ (i 0).val < win0_7.index t 0 * 256 + 256
      rw [e0]; omega
    | ⟨1, _⟩ =>
      show win0_7.index t 1 * 2816 ≤ (i 1).val ∧ (i 1).val < win0_7.index t 1 * 2816 + 2816
      rw [e1]; omega

theorem final8 : (dats m 0 c).arrAt 8 cfg0.N = arrUp m c := by
  have e0 (t : Fin cfg0.N) : win0_8.index t 0 = t.val := (by decide +kernel : ∀ t : Fin grid0.N, win0_8.index t 0 = t.val) t
  have e1 (t : Fin cfg0.N) : win0_8.index t 1 = 0 := (by decide +kernel : ∀ t : Fin grid0.N, win0_8.index t 1 = 0) t
  refine (dats m 0 c).arrAt_eq_of_cover 8 _ (fun t _ => ?_) (fun (i : S8192x2816.Idx) => ?_)
  · rw [flushed8]
    refine funext fun (j : S256x2816.Idx) => ?_
    rw [View.read_apply]
    refine Eq.trans (b := (outsAt0 m c t.val t.isLt).2.1 j) rfl (Eq.trans (b := (args m c).L.up (row t (j 0)) (j 1)) ?_ ?_)
    · exact (congrArg _ (two_coords j)).trans (out8 m c t (j 0) (j 1))
    · unfold arrUp
      refine congrArg₂ ((args m c).L.up) (Fin.ext ?_) (Fin.ext ?_)
      · show t.val * 256 + (j 0).val = win0_8.index t 0 * 256 + 1 * (j 0).val
        rw [e0]; omega
      · show (j 1).val = win0_8.index t 1 * 2816 + 1 * (j 1).val
        rw [e1]; omega
  · have hi : (i 0).val < 8192 := (i 0).isLt
    have hi1 : (i 1).val < 2816 := (i 1).isLt
    obtain ⟨t, ht⟩ : ∃ t : Fin cfg0.N, t.val = (i 0).val / 256 := ⟨⟨(i 0).val / 256, by show (i 0).val / 256 < 32; omega⟩, rfl⟩
    refine ⟨t, flush0_8 t, ?_⟩
    show i ∈ ((View.whole main_v11_1).slice (win0_8.rect t)).set
    rw [View.set_slice_whole, Rect.mem_set_unit]
    intro a
    match a with
    | ⟨0, _⟩ =>
      show win0_8.index t 0 * 256 ≤ (i 0).val ∧ (i 0).val < win0_8.index t 0 * 256 + 256
      rw [e0]; omega
    | ⟨1, _⟩ =>
      show win0_8.index t 1 * 2816 ≤ (i 1).val ∧ (i 1).val < win0_8.index t 1 * 2816 + 2816
      rw [e1]; omega

theorem final9 : (dats m 0 c).arrAt 9 cfg0.N = arrHid m c := by
  have e0 (t : Fin cfg0.N) : win0_9.index t 0 = t.val := (by decide +kernel : ∀ t : Fin grid0.N, win0_9.index t 0 = t.val) t
  have e1 (t : Fin cfg0.N) : win0_9.index t 1 = 0 := (by decide +kernel : ∀ t : Fin grid0.N, win0_9.index t 1 = 0) t
  refine (dats m 0 c).arrAt_eq_of_cover 9 _ (fun t _ => ?_) (fun (i : S8192x1024.Idx) => ?_)
  · rw [flushed9]
    refine funext fun (j : S256x1024.Idx) => ?_
    rw [View.read_apply]
    refine Eq.trans (b := (outsAt0 m c t.val t.isLt).2.2.1 j) rfl (Eq.trans (b := (args m c).L.hid (row t (j 0)) (j 1)) ?_ ?_)
    · exact (congrArg _ (two_coords j)).trans (out9 m c t (j 0) (j 1))
    · unfold arrHid
      refine congrArg₂ ((args m c).L.hid) (Fin.ext ?_) (Fin.ext ?_)
      · show t.val * 256 + (j 0).val = win0_9.index t 0 * 256 + 1 * (j 0).val
        rw [e0]; omega
      · show (j 1).val = win0_9.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 256 := ⟨⟨(i 0).val / 256, by show (i 0).val / 256 < 32; omega⟩, rfl⟩
    refine ⟨t, flush0_9 t, ?_⟩
    show i ∈ ((View.whole main_v11_2).slice (win0_9.rect t)).set
    rw [View.set_slice_whole, Rect.mem_set_unit]
    intro a
    match a with
    | ⟨0, _⟩ =>
      show win0_9.index t 0 * 256 ≤ (i 0).val ∧ (i 0).val < win0_9.index t 0 * 256 + 256
      rw [e0]; omega
    | ⟨1, _⟩ =>
      show win0_9.index t 1 * 1024 ≤ (i 1).val ∧ (i 1).val < win0_9.index t 1 * 1024 + 1024
      rw [e1]; omega

theorem final10 : (dats m 0 c).arrAt 10 cfg0.N = arrAct m c := by
  have e0 (t : Fin cfg0.N) : win0_10.index t 0 = t.val := (by decide +kernel : ∀ t : Fin grid0.N, win0_10.index t 0 = t.val) t
  have e1 (t : Fin cfg0.N) : win0_10.index t 1 = 0 := (by decide +kernel : ∀ t : Fin grid0.N, win0_10.index t 1 = 0) t
  refine (dats m 0 c).arrAt_eq_of_cover 10 _ (fun t _ => ?_) (fun (i : S8192x2816.Idx) => ?_)
  · rw [flushed10]
    refine funext fun (j : S256x2816.Idx) => ?_
    rw [View.read_apply]
    refine Eq.trans (b := (outsAt0 m c t.val t.isLt).2.2.2.1 j) rfl (Eq.trans (b := (args m c).act (row t (j 0)) (j 1)) ?_ ?_)
    · exact (congrArg _ (two_coords j)).trans (out10 m c t (j 0) (j 1))
    · unfold arrAct
      refine congrArg₂ ((args m c).act) (Fin.ext ?_) (Fin.ext ?_)
      · show t.val * 256 + (j 0).val = win0_10.index t 0 * 256 + 1 * (j 0).val
        rw [e0]; omega
      · show (j 1).val = win0_10.index t 1 * 2816 + 1 * (j 1).val
        rw [e1]; omega
  · have hi : (i 0).val < 8192 := (i 0).isLt
    have hi1 : (i 1).val < 2816 := (i 1).isLt
    obtain ⟨t, ht⟩ : ∃ t : Fin cfg0.N, t.val = (i 0).val / 256 := ⟨⟨(i 0).val / 256, by show (i 0).val / 256 < 32; omega⟩, rfl⟩
    refine ⟨t, flush0_10 t, ?_⟩
    show i ∈ ((View.whole main_v11_3).slice (win0_10.rect t)).set
    rw [View.set_slice_whole, Rect.mem_set_unit]
    intro a
    match a with
    | ⟨0, _⟩ =>
      show win0_10.index t 0 * 256 ≤ (i 0).val ∧ (i 0).val < win0_10.index t 0 * 256 + 256
      rw [e0]; omega
    | ⟨1, _⟩ =>
      show win0_10.index t 1 * 2816 ≤ (i 1).val ∧ (i 1).val < win0_10.index t 1 * 2816 + 2816
      rw [e1]; omega

theorem final11 : (dats m 0 c).arrAt 11 cfg0.N = arrDX m c := by
  have e0 (t : Fin cfg0.N) : win0_11.index t 0 = t.val := (by decide +kernel : ∀ t : Fin grid0.N, win0_11.index t 0 = t.val) t
  have e1 (t : Fin cfg0.N) : win0_11.index t 1 = 0 := (by decide +kernel : ∀ t : Fin grid0.N, win0_11.index t 1 = 0) t
  refine (dats m 0 c).arrAt_eq_of_cover 11 _ (fun t _ => ?_) (fun (i : S8192x1024.Idx) => ?_)
  · rw [flushed11]
    refine funext fun (j : S256x1024.Idx) => ?_
    rw [View.read_apply]
    refine Eq.trans (b := (outsAt0 m c t.val t.isLt).2.2.2.2.1 j) rfl (Eq.trans (b := gradX m c (row t (j 0)) (j 1)) ?_ ?_)
    · exact (congrArg _ (two_coords j)).trans (out11 m c t (j 0) (j 1))
    · unfold arrDX
      refine congrArg₂ (gradX m c) (Fin.ext ?_) (Fin.ext ?_)
      · show t.val * 256 + (j 0).val = win0_11.index t 0 * 256 + 1 * (j 0).val
        rw [e0]; omega
      · show (j 1).val = win0_11.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 256 := ⟨⟨(i 0).val / 256, by show (i 0).val / 256 < 32; omega⟩, rfl⟩
    refine ⟨t, flush0_11 t, ?_⟩
    show i ∈ ((View.whole main_v11_4).slice (win0_11.rect t)).set
    rw [View.set_slice_whole, Rect.mem_set_unit]
    intro a
    match a with
    | ⟨0, _⟩ =>
      show win0_11.index t 0 * 256 ≤ (i 0).val ∧ (i 0).val < win0_11.index t 0 * 256 + 256
      rw [e0]; omega
    | ⟨1, _⟩ =>
      show win0_11.index t 1 * 1024 ≤ (i 1).val ∧ (i 1).val < win0_11.index t 1 * 1024 + 1024
      rw [e1]; omega

theorem final12 : (dats m 0 c).arrAt 12 cfg0.N = arrLoss m c := by
  have e0 (t : Fin cfg0.N) : win0_12.index t 0 = 0 := (by decide +kernel : ∀ t : Fin grid0.N, win0_12.index t 0 = 0) t
  have e1 (t : Fin cfg0.N) : win0_12.index t 1 = 0 := (by decide +kernel : ∀ t : Fin grid0.N, win0_12.index t 1 = 0) t
  refine (dats m 0 c).arrAt_eq_of_cover 12 _ (fun t hf => ?_) (fun (i : S1x128.Idx) => ?_)
  · have ht : t.val = 31 := by
      have h := (flush0_12 t).mp hf
      have h' : t.val < 32 := t.isLt
      omega
    rw [flushed12]
    refine funext fun (j : S1x128.Idx) => ?_
    rw [View.read_apply]
    refine Eq.trans (b := (outsAt0 m c t.val t.isLt).2.2.2.2.2.1 j) rfl (Eq.trans (b := arrLoss m c (ix2 0 (j 1))) ?_ ?_)
    · refine (congrArg _ (one_coord j)).trans ((out12 m c (j 1) t.val t.isLt).trans ?_)
      obtain ⟨n, hn⟩ := t
      dsimp only at ht
      subst ht
      exact upTo_last _
    · rfl
  · have hi : (i 0).val < 1 := (i 0).isLt
    have hi1 : (i 1).val < 128 := (i 1).isLt
    obtain ⟨t, ht⟩ : ∃ t : Fin cfg0.N, t.val = 31 := ⟨⟨31, by show 31 < 32; omega⟩, rfl⟩
    refine ⟨t, (flush0_12 t).mpr (by rw [ht]), ?_⟩
    show i ∈ ((View.whole main_v11_5).slice (win0_12.rect t)).set
    rw [View.set_slice_whole, Rect.mem_set_unit]
    intro a
    match a with
    | ⟨0, _⟩ =>
      show win0_12.index t 0 * 1 ≤ (i 0).val ∧ (i 0).val < win0_12.index t 0 * 1 + 1
      rw [e0]; omega
    | ⟨1, _⟩ =>
      show win0_12.index t 1 * 128 ≤ (i 1).val ∧ (i 1).val < win0_12.index t 1 * 128 + 128
      rw [e1]; omega

theorem final13 : (dats m 0 c).arrAt 13 cfg0.N = arrDG m c := by
  have e0 (t : Fin cfg0.N) : win0_13.index t 0 = 0 := (by decide +kernel : ∀ t : Fin grid0.N, win0_13.index t 0 = 0) t
  have e1 (t : Fin cfg0.N) : win0_13.index t 1 = 0 := (by decide +kernel : ∀ t : Fin grid0.N, win0_13.index t 1 = 0) t
  refine (dats m 0 c).arrAt_eq_of_cover 13 _ (fun t hf => ?_) (fun (i : S1x1024.Idx) => ?_)
  · have ht : t.val = 31 := by
      have h := (flush0_13 t).mp hf
      have h' : t.val < 32 := t.isLt
      omega
    rw [flushed13]
    refine funext fun (j : S1x1024.Idx) => ?_
    rw [View.read_apply]
    refine Eq.trans (b := (outsAt0 m c t.val t.isLt).2.2.2.2.2.2 j) rfl (Eq.trans (b := arrDG m c (ix2 0 (j 1))) ?_ ?_)
    · refine (congrArg _ (one_coord j)).trans ((out13 m c (j 1) t.val t.isLt).trans ?_)
      obtain ⟨n, hn⟩ := t
      dsimp only at ht
      subst ht
      exact upTo_last _
    · refine congrArg (arrDG m c) (funext fun a => Fin.ext ?_)
      match a with
      | ⟨0, _⟩ => show 0 = win0_13.index t 0 * 1 + 1 * (j 0).val; have h0 : (j 0).val < 1 := (j 0).isLt; rw [e0]; omega
      | ⟨1, _⟩ => show (j 1).val = win0_13.index t 1 * 1024 + 1 * (j 1).val; rw [e1]; omega
  · have hi : (i 0).val < 1 := (i 0).isLt
    have hi1 : (i 1).val < 1024 := (i 1).isLt
    obtain ⟨t, ht⟩ : ∃ t : Fin cfg0.N, t.val = 31 := ⟨⟨31, by show 31 < 32; omega⟩, rfl⟩
    refine ⟨t, (flush0_13 t).mpr (by rw [ht]), ?_⟩
    show i ∈ ((View.whole main_v11_6).slice (win0_13.rect t)).set
    rw [View.set_slice_whole, Rect.mem_set_unit]
    intro a
    match a with
    | ⟨0, _⟩ =>
      show win0_13.index t 0 * 1 ≤ (i 0).val ∧ (i 0).val < win0_13.index t 0 * 1 + 1
      rw [e0]; omega
    | ⟨1, _⟩ =>
      show win0_13.index t 1 * 1024 ≤ (i 1).val ∧ (i 1).val < win0_13.index t 1 * 1024 + 1024
      rw [e1]; omega

end Cert.LossKernelIdeal.Step
end
-- ==== Proof.LossRef.lean ====
module
public import proofs.«01_k».proof.Proof.LossMath
public import proofs.«01_k».proof.Proof.Gen.LossReferenceIdeal.Read
public import Idealize.ShloMosaic.Lib.Pointwise
/-! The seven results of the loss's reference, each entry by the chain rule's formulas over its arguments. -/
@[expose] public section
set_option maxRecDepth 16384
noncomputable section
namespace Cert.LossReferenceIdeal.Step
open Cert.LossReferenceIdeal Cert.LossReferenceIdeal.Gen Cert.LossReferenceIdeal.Read Idealize.ShloMosaic Idealize.ShloMosaic.TcCoe Idealize.SL.Sem

variable (x0 x1 : FVec Ideal S1x8192x1024 .f32) (x2 : FVec Ideal S1x1024 .f32) (x3 : FVec Ideal S1024 .f32) (x4 x5 : FVec Ideal S1x1024x2816 .f32)
  (x6 : FVec Ideal S1x2816x1024 .f32)

/-- The arguments by coordinates. -/
def args : Loss.Args where
  L := { X := fun s k => x0 (ix3 0 s k), G := fun k => x2 (ix2 0 k), WG := fun k j => x4 (ix3 0 k j), WU := fun k j => x5 (ix3 0 k j),
         WD := fun j k => x6 (ix3 0 j k), DY := fun _ _ => 0 }
  T s k := x1 (ix3 0 s k)
  H k := x3 (ix1 k)

/-! Sums over an axis together with an axis of one entry. -/

theorem drop_02 (v : S1x8192x1.Idx → EReal) (init : EReal) (s : Fin 8192) :
    Ideal.hostReduceAdd reducesTo_S1x8192x1_S8192_d0_2 v init (ix1 s) = init + v (ix3 0 s 0) := by
  unfold Ideal.hostReduceAdd
  congr 1
  refine Finset.sum_eq_single_of_mem _ ?_ ?_
  · rw [Finset.mem_filter]
    exact ⟨Finset.mem_univ _, funext fun b => match b with | ⟨0, _⟩ => rfl⟩
  · intro i hi hne
    refine absurd (funext fun a => ?_) hne
    match a with
    | ⟨0, _⟩ => exact Fin.fin_one_eq_zero _
    | ⟨1, _⟩ => exact congrFun (Finset.mem_filter.mp hi).2 0
    | ⟨2, _⟩ => exact Fin.fin_one_eq_zero _
theorem drop_01 (v : S1x1x1024.Idx → EReal) (init : EReal) (k : Fin 1024) :
    Ideal.hostReduceAdd reducesTo_S1x1x1024_S1024_d0_1 v init (ix1 k) = init + v (ix3 0 0 k) := by
  unfold Ideal.hostReduceAdd
  congr 1
  refine Finset.sum_eq_single_of_mem _ ?_ ?_
  · rw [Finset.mem_filter]
    exact ⟨Finset.mem_univ _, funext fun b => match b with | ⟨0, _⟩ => rfl⟩
  · intro i hi hne
    refine absurd (funext fun a => ?_) hne
    match a with
    | ⟨0, _⟩ => exact Fin.fin_one_eq_zero _
    | ⟨1, _⟩ => exact Fin.fin_one_eq_zero _
    | ⟨2, _⟩ => exact congrFun (Finset.mem_filter.mp hi).2 0

theorem hid_apply (s : Fin 8192) (k : Fin 1024) : val_main_v13 (F := Ideal) x0 x2 (ix3 0 s k) = (args x0 x1 x2 x3 x4 x5 x6).L.hid s k := by
  unfold Ffn.Args.hid Ffn.meanSq args
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]

theorem gate_apply (s : Fin 8192) (j : Fin 2816) : val_main_v15 (F := Ideal) x0 x2 x4 (ix3 0 s j) = (args x0 x1 x2 x3 x4 x5 x6).L.gate s j := by
  have h (k) := hid_apply x0 x1 x2 x3 x4 x5 x6 s k
  unfold Ffn.Args.gate
  simp only [← h]
  unfold val_main_v15 args
  generalize val_main_v13 (F := Ideal) x0 x2 = y
  pointwise [val_main_v14]

theorem up_apply (s : Fin 8192) (j : Fin 2816) : val_main_v17 (F := Ideal) x0 x2 x5 (ix3 0 s j) = (args x0 x1 x2 x3 x4 x5 x6).L.up s j := by
  have h (k) := hid_apply x0 x1 x2 x3 x4 x5 x6 s k
  unfold Ffn.Args.up
  simp only [← h]
  unfold val_main_v17 args
  generalize val_main_v13 (F := Ideal) x0 x2 = y
  pointwise [val_main_v16]

theorem act_apply (s : Fin 8192) (j : Fin 2816) : val_main_v19 (F := Ideal) x0 x2 x4 x5 (ix3 0 s j) = (args x0 x1 x2 x3 x4 x5 x6).act' s j := by
  unfold Loss.Args.act' Ideal.logistic
  rw [← gate_apply, ← up_apply]
  unfold val_main_v19 val_main_v18 val_main_call0_v5 val_main_call0_v3 val_main_call0_v1 val_main_call0_v0
  generalize val_main_v15 (F := Ideal) x0 x2 x4 = g
  generalize val_main_v17 (F := Ideal) x0 x2 x5 = u
  pointwise [val_main_call0_v0, val_main_call0_v1, val_main_call0_cst, val_main_call0_v2, val_main_call0_v3, val_main_call0_cst_0, val_main_call0_v4, val_main_call0_v5]

theorem out_apply (s : Fin 8192) (k : Fin 1024) : val_main_v22 (F := Ideal) x0 x2 x4 x5 x6 (ix3 0 s k) = (args x0 x1 x2 x3 x4 x5 x6).out' s k := by
  have h (j) := act_apply x0 x1 x2 x3 x4 x5 x6 s j
  unfold Loss.Args.out'
  simp only [← h]
  unfold val_main_v22 val_main_v21 args
  generalize val_main_v19 (F := Ideal) x0 x2 x4 x5 = a
  pointwise [val_main_v20]

theorem unit_apply (s : Fin 8192) (k : Fin 1024) : val_main_v35 (F := Ideal) x0 x2 x4 x5 x6 (ix3 0 s k) = Loss.Args.unit s k (args x0 x1 x2 x3 x4 x5 x6).out' := by
  have h (k) := out_apply x0 x1 x2 x3 x4 x5 x6 s k
  unfold Loss.Args.unit Ffn.meanSq
  simp only [← h]
  unfold val_main_v35 val_main_v34 val_main_v30 val_main_v29 val_main_v27 val_main_v25 val_main_v24 val_main_v23
  generalize val_main_v22 (F := Ideal) x0 x2 x4 x5 x6 = y
  pointwise [val_main_v26, val_main_v28, val_main_cst_2, val_main_cst_3, val_main_cst_4]

theorem err_apply (s : Fin 8192) (k : Fin 1024) : val_main_v39 (F := Ideal) x0 x1 x2 x3 x4 x5 x6 (ix3 0 s k) = (args x0 x1 x2 x3 x4 x5 x6).err s k (args x0 x1 x2 x3 x4 x5 x6).out' := by
  unfold Loss.Args.err
  rw [← unit_apply]
  unfold val_main_v39 val_main_v38 args
  generalize val_main_v35 (F := Ideal) x0 x2 x4 x5 x6 = y
  pointwise [val_main_v37, val_main_v36]

theorem dy_apply (s : Fin 8192) (k : Fin 1024) : val_main_v53 (F := Ideal) x0 x1 x2 x3 x4 x5 x6 (ix3 0 s k) = (args x0 x1 x2 x3 x4 x5 x6).dy' s k (args x0 x1 x2 x3 x4 x5 x6).out' := by
  unfold Loss.Args.dy'
  rw [← err_apply]
  unfold val_main_v53 val_main_v42
  generalize val_main_v39 (F := Ideal) x0 x1 x2 x3 x4 x5 x6 = y
  pointwise [val_main_v52, val_main_v51, val_main_v50, val_main_v49, val_main_v48, val_main_v41, val_main_cst_13, val_main_cst_12, val_main_cst_11, val_main_cst_6]

/-! ## The results -/

theorem res_gate (s : Fin 8192) (j : Fin 2816) : val_main_v75 (F := Ideal) x0 x2 x4 (ix2 s j) = (args x0 x1 x2 x3 x4 x5 x6).L.gate s j := by
  rw [← gate_apply]
  unfold val_main_v75
  generalize val_main_v15 (F := Ideal) x0 x2 x4 = g
  pointwise

theorem res_up (s : Fin 8192) (j : Fin 2816) : val_main_v76 (F := Ideal) x0 x2 x5 (ix2 s j) = (args x0 x1 x2 x3 x4 x5 x6).L.up s j := by
  rw [← up_apply]
  unfold val_main_v76
  generalize val_main_v17 (F := Ideal) x0 x2 x5 = g
  pointwise

theorem res_hid (s : Fin 8192) (k : Fin 1024) : val_main_v78 (F := Ideal) x0 x2 (ix2 s k) = (args x0 x1 x2 x3 x4 x5 x6).L.hid s k := by
  rw [← hid_apply]
  unfold val_main_v78 val_main_v77
  generalize val_main_v13 (F := Ideal) x0 x2 = g
  pointwise

theorem res_act (s : Fin 8192) (j : Fin 2816) : val_main_v80 (F := Ideal) x0 x2 x4 x5 (ix2 s j) = (args x0 x1 x2 x3 x4 x5 x6).act' s j := by
  rw [← act_apply]
  unfold val_main_v80 val_main_v79
  generalize val_main_v19 (F := Ideal) x0 x2 x4 x5 = g
  pointwise

theorem res_dx (s : Fin 8192) (k : Fin 1024) : val_main_v81 (F := Ideal) x0 x1 x2 x3 x4 x5 x6 (ix2 s k) = (args x0 x1 x2 x3 x4 x5 x6).dx' s k (args x0 x1 x2 x3 x4 x5 x6).out' := by
  have hy (k) := out_apply x0 x1 x2 x3 x4 x5 x6 s k
  have hd (k) := dy_apply x0 x1 x2 x3 x4 x5 x6 s k
  unfold Loss.Args.dx' Ffn.viaMean Ffn.meanSq
  simp only [← hd, ← hy]
  unfold val_main_v81 val_main_v74 val_main_v73 val_main_v72 val_main_v71 val_main_v70 val_main_v69 val_main_v68 val_main_v67 val_main_v65 val_main_v64 val_main_v63 val_main_v62 val_main_v61 val_main_v60 val_main_v58 val_main_v33 val_main_v31 val_main_v30 val_main_v29 val_main_v27 val_main_v25 val_main_v24 val_main_v23 args
  generalize val_main_v22 (F := Ideal) x0 x2 x4 x5 x6 = y
  generalize val_main_v53 (F := Ideal) x0 x1 x2 x3 x4 x5 x6 = d
  pointwise [drop_02, val_main_v57, val_main_v36, val_main_v66, val_main_cst_18, val_main_cst_17, val_main_cst_16, val_main_v32, val_main_cst_5, val_main_v26, val_main_v28, val_main_cst_2, val_main_cst_3, val_main_cst_4]

theorem res_loss (l : Fin 128) : val_main_v82 (F := Ideal) x0 x1 x2 x3 x4 x5 x6 (ix2 0 l) = Ideal.ofBits FTy.f32 1056964608#32 * ∑ s : Fin 8192, (args x0 x1 x2 x3 x4 x5 x6).rowLoss s (args x0 x1 x2 x3 x4 x5 x6).out' := by
  have h (s k) := err_apply x0 x1 x2 x3 x4 x5 x6 s k
  unfold Loss.Args.rowLoss
  simp only [← h]
  unfold val_main_v82 val_main_v47 val_main_v46 val_main_v45 val_main_v43 val_main_v40
  generalize val_main_v39 (F := Ideal) x0 x1 x2 x3 x4 x5 x6 = y
  pointwise [val_main_cst_10, val_main_cst_9, val_main_v44, val_main_cst_7, val_main_cst_8]
  rw [Fin.sum_univ_one]

theorem res_dg (k : Fin 1024) : val_main_v83 (F := Ideal) x0 x1 x2 x3 x4 x5 x6 (ix2 0 k) = ∑ s : Fin 8192, (args x0 x1 x2 x3 x4 x5 x6).dg' s k (args x0 x1 x2 x3 x4 x5 x6).out' := by
  have hu (s) := unit_apply x0 x1 x2 x3 x4 x5 x6 s k
  have hd (s) := dy_apply x0 x1 x2 x3 x4 x5 x6 s k
  unfold Loss.Args.dg'
  simp only [← hu, ← hd]
  unfold val_main_v83 val_main_v59 val_main_v56 val_main_v55 val_main_v54
  generalize val_main_v53 (F := Ideal) x0 x1 x2 x3 x4 x5 x6 = d
  generalize val_main_v35 (F := Ideal) x0 x2 x4 x5 x6 = u
  pointwise [drop_01, val_main_cst_15, val_main_cst_14]

end Cert.LossReferenceIdeal.Step
end
-- ==== Proof.LossValue.lean ====
module
public import proofs.«01_k».proof.Defs
public import proofs.«01_k».proof.Proof.LossRun
public import proofs.«01_k».proof.Proof.LossRef
public import proofs.«01_k».proof.Proof.Finite
public import Idealize.ShloMosaic.Lib.Quiescent
public import proofs.«01_k».proof.Proof.Gen.Pre_loss_finite
public import proofs.«01_k».proof.Proof.Gen.LossReferenceIdeal.Run
/-! The loss kernel and the plain lines for the layer, the loss and its gradient leave the same seven arrays. -/
@[expose] public section
set_option maxRecDepth 16384
noncomputable section
namespace Cert.Loss
open Idealize.ShloMosaic Idealize.ShloMosaic.TcCoe Idealize.SL.Sem
open Cert.LossKernelIdeal.Step Cert.LossReferenceIdeal.Read

variable (m : (ℓ : Loc Cert.LossKernelIdeal.nD Cert.LossKernelIdeal.τ Cert.LossKernelIdeal.sig) → Buf (Elt Ideal) ℓ)
  (hp : Cert.Pre_LossKernelIdeal_loss_finite m) (c : Dev Cert.LossKernelIdeal.nD)

theorem gate_arr : val_main_v75 (F := Ideal) (m (c.tc.loc Cert.LossKernelIdeal.main_arg0)) (m (c.tc.loc Cert.LossKernelIdeal.main_arg2)) (m (c.tc.loc Cert.LossKernelIdeal.main_arg4)) = arrGate m c := by
  funext (i : Cert.LossKernelIdeal.S8192x2816.Idx)
  refine (congrArg _ (two_coords i)).trans ((Cert.LossReferenceIdeal.Step.res_gate _ (m (c.tc.loc Cert.LossKernelIdeal.main_arg1)) _ (m (c.tc.loc Cert.LossKernelIdeal.main_arg3)) _ (m (c.tc.loc Cert.LossKernelIdeal.main_arg5)) (m (c.tc.loc Cert.LossKernelIdeal.main_arg6)) (i 0) (i 1)).trans ?_)
  rfl

theorem up_arr : val_main_v76 (F := Ideal) (m (c.tc.loc Cert.LossKernelIdeal.main_arg0)) (m (c.tc.loc Cert.LossKernelIdeal.main_arg2)) (m (c.tc.loc Cert.LossKernelIdeal.main_arg5)) = arrUp m c := by
  funext (i : Cert.LossKernelIdeal.S8192x2816.Idx)
  refine (congrArg _ (two_coords i)).trans ((Cert.LossReferenceIdeal.Step.res_up _ (m (c.tc.loc Cert.LossKernelIdeal.main_arg1)) _ (m (c.tc.loc Cert.LossKernelIdeal.main_arg3)) (m (c.tc.loc Cert.LossKernelIdeal.main_arg4)) _ (m (c.tc.loc Cert.LossKernelIdeal.main_arg6)) (i 0) (i 1)).trans ?_)
  rfl

theorem hid_arr : val_main_v78 (F := Ideal) (m (c.tc.loc Cert.LossKernelIdeal.main_arg0)) (m (c.tc.loc Cert.LossKernelIdeal.main_arg2)) = arrHid m c := by
  funext (i : Cert.LossKernelIdeal.S8192x1024.Idx)
  refine (congrArg _ (two_coords i)).trans ((Cert.LossReferenceIdeal.Step.res_hid _ (m (c.tc.loc Cert.LossKernelIdeal.main_arg1)) _ (m (c.tc.loc Cert.LossKernelIdeal.main_arg3)) (m (c.tc.loc Cert.LossKernelIdeal.main_arg4)) (m (c.tc.loc Cert.LossKernelIdeal.main_arg5)) (m (c.tc.loc Cert.LossKernelIdeal.main_arg6)) (i 0) (i 1)).trans ?_)
  rfl

section
include hp
theorem args_real : (args m c).L.Real := by
  obtain ⟨h0, h2, h4, h5, h6⟩ := hp c
  exact ⟨fun s k => real_of_lt _ (congrFun h0 (ix3 0 s k)), fun k => real_of_lt _ (congrFun h2 (ix2 0 k)), fun k j => real_of_lt _ (congrFun h4 (ix3 0 k j)),
    fun k j => real_of_lt _ (congrFun h5 (ix3 0 k j)), fun j k => real_of_lt _ (congrFun h6 (ix3 0 j k)), fun _ _ => ⟨0, rfl⟩⟩

theorem out_fun : (args m c).out' = (args m c).out := by
  funext s k
  exact (Args.out_eq s k (args_real m hp c)).symm

theorem act_arr : val_main_v80 (F := Ideal) (m (c.tc.loc Cert.LossKernelIdeal.main_arg0)) (m (c.tc.loc Cert.LossKernelIdeal.main_arg2)) (m (c.tc.loc Cert.LossKernelIdeal.main_arg4)) (m (c.tc.loc Cert.LossKernelIdeal.main_arg5)) = arrAct m c := by
  funext (i : Cert.LossKernelIdeal.S8192x2816.Idx)
  refine (congrArg _ (two_coords i)).trans ((Cert.LossReferenceIdeal.Step.res_act _ (m (c.tc.loc Cert.LossKernelIdeal.main_arg1)) _ (m (c.tc.loc Cert.LossKernelIdeal.main_arg3)) _ _ (m (c.tc.loc Cert.LossKernelIdeal.main_arg6)) (i 0) (i 1)).trans ?_)
  exact (Args.act_eq _ _ (args_real m hp c)).symm

theorem dx_arr : val_main_v81 (F := Ideal) (m (c.tc.loc Cert.LossKernelIdeal.main_arg0)) (m (c.tc.loc Cert.LossKernelIdeal.main_arg1)) (m (c.tc.loc Cert.LossKernelIdeal.main_arg2)) (m (c.tc.loc Cert.LossKernelIdeal.main_arg3)) (m (c.tc.loc Cert.LossKernelIdeal.main_arg4)) (m (c.tc.loc Cert.LossKernelIdeal.main_arg5)) (m (c.tc.loc Cert.LossKernelIdeal.main_arg6)) = arrDX m c := by
  funext (i : Cert.LossKernelIdeal.S8192x1024.Idx)
  refine (congrArg _ (two_coords i)).trans ((Cert.LossReferenceIdeal.Step.res_dx _ _ _ _ _ _ _ (i 0) (i 1)).trans ?_)
  obtain ⟨y, hy⟩ : ∃ y : Fin 1024 → ℝ, ∀ k, (args m c).out (i 0) k = (y k : EReal) :=
    ⟨_, fun k => Classical.choose_spec (Args.out_real (i 0) k (args_real m hp c))⟩
  refine Eq.trans (b := (args m c).dx' (i 0) (i 1) (args m c).out) ?_ (Args.dx_eq _ _ _ _ y hy).symm
  rw [← out_fun m hp c]
  rfl

theorem loss_arr : val_main_v82 (F := Ideal) (m (c.tc.loc Cert.LossKernelIdeal.main_arg0)) (m (c.tc.loc Cert.LossKernelIdeal.main_arg1)) (m (c.tc.loc Cert.LossKernelIdeal.main_arg2)) (m (c.tc.loc Cert.LossKernelIdeal.main_arg3)) (m (c.tc.loc Cert.LossKernelIdeal.main_arg4)) (m (c.tc.loc Cert.LossKernelIdeal.main_arg5)) (m (c.tc.loc Cert.LossKernelIdeal.main_arg6)) = arrLoss m c := by
  funext (i : Cert.LossKernelIdeal.S1x128.Idx)
  refine (congrArg _ (one_coord i)).trans ((Cert.LossReferenceIdeal.Step.res_loss _ _ _ _ _ _ _ (i 1)).trans ?_)
  refine (Args.half_sum _).trans ?_
  unfold arrLoss shareLoss
  rw [← out_fun m hp c]
  rfl

theorem dg_arr : val_main_v83 (F := Ideal) (m (c.tc.loc Cert.LossKernelIdeal.main_arg0)) (m (c.tc.loc Cert.LossKernelIdeal.main_arg1)) (m (c.tc.loc Cert.LossKernelIdeal.main_arg2)) (m (c.tc.loc Cert.LossKernelIdeal.main_arg3)) (m (c.tc.loc Cert.LossKernelIdeal.main_arg4)) (m (c.tc.loc Cert.LossKernelIdeal.main_arg5)) (m (c.tc.loc Cert.LossKernelIdeal.main_arg6)) = arrDG m c := by
  funext (i : Cert.LossKernelIdeal.S1x1024.Idx)
  refine (congrArg _ (one_coord i)).trans ((Cert.LossReferenceIdeal.Step.res_dg _ _ _ _ _ _ _ (i 1)).trans ?_)
  unfold arrDG shareGain
  rw [← out_fun m hp c]
  exact Finset.sum_congr rfl fun s _ => (Args.dg_eq (args m c) s (i 1) _).symm
end

theorem value : Cert.algebraic_LossKernelIdeal_LossReferenceIdeal_pre_loss_finite := by
  intro m g m' g' hp he
  refine ⟨arrGate m, arrUp m, arrHid m, arrAct m, arrDX m, arrLoss m, arrDG m, ?_, ?_⟩
  · refine (θ_run Cert.LossKernelIdeal.defs _ _).mono (fun r h c => ?_) (Cert.LossKernelIdeal.Value.run_blocks (F := Ideal) m g)
    obtain ⟨h0, h1, h2, h3, h4, h5, h6, h7⟩ := h c
    exact ⟨h0.trans (final7 m c), h1.trans (final8 m c), h2.trans (final9 m c), h3.trans (final10 m c), h4.trans (final11 m c), h5.trans (final12 m c),
      h6.trans (final13 m c), h7⟩
  · refine (θ_run Cert.LossReferenceIdeal.defs _ _).mono (fun r h c => ?_) (Cert.LossReferenceIdeal.Value.run (F := Ideal) m' g')
    obtain ⟨h0, h1, h2, h3, h4, h5, h6, h7⟩ := h c
    obtain ⟨e0, e1, e2, e3, e4, e5, e6⟩ := he c
    refine ⟨h0.trans ((val_main_v75_eq _ _ _).trans ?_), h1.trans ((val_main_v76_eq _ _ _).trans ?_), h2.trans ((val_main_v78_eq _ _).trans ?_),
      h3.trans ((val_main_v80_eq _ _ _ _).trans ?_), h4.trans ((val_main_v81_eq m' c).trans ?_), h5.trans ((val_main_v82_eq m' c).trans ?_),
      h6.trans ((val_main_v83_eq m' c).trans ?_), h7⟩
    · rw [e0, e2, e4]; exact gate_arr m c
    · rw [e0, e2, e5]; exact up_arr m c
    · rw [e0, e2]; exact hid_arr m c
    · rw [e0, e2, e4, e5]; exact act_arr m hp c
    · rw [e0, e1, e2, e3, e4, e5, e6]; exact dx_arr m hp c
    · rw [e0, e1, e2, e3, e4, e5, e6]; exact loss_arr m hp c
    · rw [e0, e1, e2, e3, e4, e5, e6]; exact dg_arr m hp c

/-- The reference ends with its arguments as launched and every semaphore at zero: it has no semaphores. -/
theorem frame_reference : Cert.quiescent_LossReferenceIdeal := fun m g _ =>
  (θ_run Cert.LossReferenceIdeal.defs _ _).mono (fun r h => ⟨fun c => (h c).2.2.2.2.2.2.2, sem_eq_zero_of_no_sems rfl r.2⟩)
    (Cert.LossReferenceIdeal.Value.run (F := Ideal) m g)

end Cert.Loss
end
-- ==== Proof.MergeStep.lean ====
/- What one grid point of the merge's gradient kernel leaves in each of its output blocks, as its body's terms over the point's input blocks
   (and, for the gain's row, over what the point before left). -/
module

public import proofs.«01_k».proof.Proof.Gen.MergeKernelIdeal.Value
public import Idealize.ShloMosaic.Lib.Pipeline.ReadBack
public import Idealize.ShloMosaic.Lib.Tactic

@[expose] public section

set_option maxRecDepth 16384

noncomputable section

namespace Cert.MergeKernelIdeal.Step

open Cert.MergeKernelIdeal Cert.MergeKernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

section Pieces
variable (d : FVec F S512x1024 .f32) (x5 x6 : Vec F S512x1024 .bf16) (x7 : Vec F S1x1024 .f32)

/-! The stores of a head's column slice, the last first. -/

def piecesGate (a : FVec F S512x1024 .bf16) (b : FVec F S512x1024 .bf16) : List (View.Piece (Elt F) S512x2048 .bf16) :=
  [⟨Rect.unit ![0, 1024] ![512, 1024] inb_S512x2048_S512x1024_0_1024, b⟩, ⟨Rect.unit ![0, 0] ![512, 1024] inb_S512x2048_S512x1024_0_0, a⟩]
def piecesSwish : List (View.Piece (Elt F) S512x1024 .bf16) :=
  [⟨Rect.unit ![0, 768] ![512, 256] inb_S512x1024_S512x256_0_768, k0_pay60 (k0_pay55 (View.ld x5 (Rect.unit ![0, 768] ![512, 256] inb_S512x1024_S512x256_0_768))) (k0_pay56 (View.ld x5 (Rect.unit ![0, 768] ![512, 256] inb_S512x1024_S512x256_0_768))) (k0_pay59 d (View.ld x6 (Rect.unit ![0, 768] ![512, 256] inb_S512x1024_S512x256_0_768)) (View.ld x7 (Rect.unit ![0, 768] ![1, 256] inb_S1x1024_S1x256_0_768)))⟩,
   ⟨Rect.unit ![0, 512] ![512, 256] inb_S512x1024_S512x256_0_512, k0_pay44 d (k0_pay39 (View.ld x6 (Rect.unit ![0, 512] ![512, 256] inb_S512x1024_S512x256_0_512))) (k0_pay40 (View.ld x5 (Rect.unit ![0, 512] ![512, 256] inb_S512x1024_S512x256_0_512))) k0_pay41 (View.ld x7 (Rect.unit ![0, 512] ![1, 256] inb_S1x1024_S1x256_0_512))⟩,
   ⟨Rect.unit ![0, 256] ![512, 256] inb_S512x1024_S512x256_0_256, k0_pay33 d (k0_pay26 (View.ld x6 (Rect.unit ![0, 256] ![512, 256] inb_S512x1024_S512x256_0_256))) (k0_pay27 (View.ld x6 (Rect.unit ![0, 256] ![512, 256] inb_S512x1024_S512x256_0_256))) (View.ld x5 (Rect.unit ![0, 256] ![512, 256] inb_S512x1024_S512x256_0_256)) (View.ld x7 (Rect.unit ![0, 256] ![1, 256] inb_S1x1024_S1x256_0_256))⟩,
   ⟨Rect.unit ![0, 0] ![512, 256] inb_S512x1024_S512x256_0_0, k0_pay22 d (View.ld x6 (Rect.unit ![0, 0] ![512, 256] inb_S512x1024_S512x256_0_0)) (View.ld x5 (Rect.unit ![0, 0] ![512, 256] inb_S512x1024_S512x256_0_0)) (View.ld x7 (Rect.unit ![0, 0] ![1, 256] inb_S1x1024_S1x256_0_0))⟩]
def piecesNorm : List (View.Piece (Elt F) S512x1024 .bf16) :=
  [⟨Rect.unit ![0, 768] ![512, 256] inb_S512x1024_S512x256_0_768, k0_pay63 (k0_pay53 (View.ld x6 (Rect.unit ![0, 768] ![512, 256] inb_S512x1024_S512x256_0_768))) (k0_pay54 (View.ld x6 (Rect.unit ![0, 768] ![512, 256] inb_S512x1024_S512x256_0_768))) (k0_pay57 (View.ld x5 (Rect.unit ![0, 768] ![512, 256] inb_S512x1024_S512x256_0_768))) (k0_pay58 d) (View.ld x7 (Rect.unit ![0, 768] ![1, 256] inb_S1x1024_S1x256_0_768))⟩,
   ⟨Rect.unit ![0, 512] ![512, 256] inb_S512x1024_S512x256_0_512, k0_pay51 (k0_pay38 (View.ld x6 (Rect.unit ![0, 512] ![512, 256] inb_S512x1024_S512x256_0_512))) (k0_pay39 (View.ld x6 (Rect.unit ![0, 512] ![512, 256] inb_S512x1024_S512x256_0_512))) (k0_pay48 d (k0_pay40 (View.ld x5 (Rect.unit ![0, 512] ![512, 256] inb_S512x1024_S512x256_0_512))) k0_pay41 (View.ld x7 (Rect.unit ![0, 512] ![1, 256] inb_S1x1024_S1x256_0_512))) (k0_pay49 d (k0_pay39 (View.ld x6 (Rect.unit ![0, 512] ![512, 256] inb_S512x1024_S512x256_0_512))) (k0_pay40 (View.ld x5 (Rect.unit ![0, 512] ![512, 256] inb_S512x1024_S512x256_0_512))) k0_pay41 (View.ld x7 (Rect.unit ![0, 512] ![1, 256] inb_S1x1024_S1x256_0_512))) k0_pay50⟩,
   ⟨Rect.unit ![0, 256] ![512, 256] inb_S512x1024_S512x256_0_256, k0_pay36 (k0_pay28 (k0_pay27 (View.ld x6 (Rect.unit ![0, 256] ![512, 256] inb_S512x1024_S512x256_0_256)))) (k0_pay29 (k0_pay26 (View.ld x6 (Rect.unit ![0, 256] ![512, 256] inb_S512x1024_S512x256_0_256))) (k0_pay27 (View.ld x6 (Rect.unit ![0, 256] ![512, 256] inb_S512x1024_S512x256_0_256)))) (View.ld x7 (Rect.unit ![0, 256] ![1, 256] inb_S1x1024_S1x256_0_256)) (k0_pay34 d (View.ld x5 (Rect.unit ![0, 256] ![512, 256] inb_S512x1024_S512x256_0_256)))⟩,
   ⟨Rect.unit ![0, 0] ![512, 256] inb_S512x1024_S512x256_0_0, k0_pay25 (k0_pay16 (View.ld x6 (Rect.unit ![0, 0] ![512, 256] inb_S512x1024_S512x256_0_0))) (k0_pay17 (View.ld x6 (Rect.unit ![0, 0] ![512, 256] inb_S512x1024_S512x256_0_0))) (k0_pay20 (View.ld x5 (Rect.unit ![0, 0] ![512, 256] inb_S512x1024_S512x256_0_0))) (k0_pay21 d) (View.ld x7 (Rect.unit ![0, 0] ![1, 256] inb_S1x1024_S1x256_0_0))⟩]
def piecesGain : List (View.Piece (Elt F) S1x1024 .f32) :=
  [⟨Rect.unit ![0, 768] ![1, 256] inb_S1x1024_S1x256_0_768, k0_pay62 (k0_pay54 (View.ld x6 (Rect.unit ![0, 768] ![512, 256] inb_S512x1024_S512x256_0_768))) (k0_pay57 (View.ld x5 (Rect.unit ![0, 768] ![512, 256] inb_S512x1024_S512x256_0_768))) (k0_pay58 d) (View.ld x7 (Rect.unit ![0, 768] ![1, 256] inb_S1x1024_S1x256_0_768))⟩,
   ⟨Rect.unit ![0, 512] ![1, 256] inb_S1x1024_S1x256_0_512, k0_pay46 d (k0_pay39 (View.ld x6 (Rect.unit ![0, 512] ![512, 256] inb_S512x1024_S512x256_0_512))) (k0_pay40 (View.ld x5 (Rect.unit ![0, 512] ![512, 256] inb_S512x1024_S512x256_0_512))) k0_pay41 (View.ld x7 (Rect.unit ![0, 512] ![1, 256] inb_S1x1024_S1x256_0_512))⟩,
   ⟨Rect.unit ![0, 256] ![1, 256] inb_S1x1024_S1x256_0_256, k0_pay35 d (k0_pay26 (View.ld x6 (Rect.unit ![0, 256] ![512, 256] inb_S512x1024_S512x256_0_256))) (k0_pay27 (View.ld x6 (Rect.unit ![0, 256] ![512, 256] inb_S512x1024_S512x256_0_256))) (View.ld x5 (Rect.unit ![0, 256] ![512, 256] inb_S512x1024_S512x256_0_256)) (View.ld x7 (Rect.unit ![0, 256] ![1, 256] inb_S1x1024_S1x256_0_256))⟩,
   ⟨Rect.unit ![0, 0] ![1, 256] inb_S1x1024_S1x256_0_0, k0_pay24 (k0_pay17 (View.ld x6 (Rect.unit ![0, 0] ![512, 256] inb_S512x1024_S512x256_0_0))) (k0_pay20 (View.ld x5 (Rect.unit ![0, 0] ![512, 256] inb_S512x1024_S512x256_0_0))) (k0_pay21 d) (View.ld x7 (Rect.unit ![0, 0] ![1, 256] inb_S1x1024_S1x256_0_0))⟩]
end Pieces

section Cases

variable (c : Dev nD) (i : grid0.Coords) (a1 : Memref sig .tc .vmem S512x1024 .f32) (h1 : a1.IsWhole) (a2 : Memref sig .tc .vmem S512x1024 .bf16) (h2 : a2.IsWhole) (a3 : Memref sig .tc .vmem S512x1024 .bf16) (h3 : a3.IsWhole) (a4 : Memref sig .tc .vmem S512x1024 .bf16) (h4 : a4.IsWhole) (a5 : Memref sig .tc .vmem S512x1024 .bf16) (h5 : a5.IsWhole) (a6 : Memref sig .tc .vmem S512x1024 .bf16) (h6 : a6.IsWhole) (a7 : Memref sig .tc .vmem S512x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1024x1024 .bf16) (h10 : a10.IsWhole) (a11 : Memref sig .tc .vmem S1024x1024 .bf16) (h11 : a11.IsWhole) (a12 : Memref sig .tc .vmem S512x2048 .bf16) (h12 : a12.IsWhole) (a13 : Memref sig .tc .vmem S512x1024 .bf16) (h13 : a13.IsWhole) (a14 : Memref sig .tc .vmem S512x1024 .bf16) (h14 : a14.IsWhole) (a15 : Memref sig .tc .vmem S512x1024 .bf16) (h15 : a15.IsWhole) (a16 : Memref sig .tc .vmem S512x1024 .bf16) (h16 : a16.IsWhole) (a17 : Memref sig .tc .vmem S512x1024 .bf16) (h17 : a17.IsWhole) (a18 : Memref sig .tc .vmem S1x1024 .f32) (h18 : a18.IsWhole)
  (x0 : Vec F S512x1024 .f32) (x1 : Vec F S512x1024 .bf16) (x2 : Vec F S512x1024 .bf16) (x3 : Vec F S512x1024 .bf16) (x4 : Vec F S512x1024 .bf16) (x5 : Vec F S512x1024 .bf16) (x6 : Vec F S512x1024 .bf16) (x7 : Vec F S1x1024 .f32) (x8 : Vec F S1024x1024 .bf16) (x9 : Vec F S1024x1024 .bf16) (x10 : Vec F S1024x1024 .bf16)

theorem out_A_11 (hc : cond0_0 i) :
    out0_A_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = View.canon (piecesGate (k0_pay9 (k0_pay2 x0 x10) (k0_pay3 x3 x8) (k0_pay5 x1)) (k0_pay10 (k0_pay2 x0 x10) (k0_pay4 x4 x9) (k0_pay6 x2) k0_pay7)) := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_A_12 (hc : cond0_0 i) :
    out0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = View.canon (piecesSwish (k0_pay14 (k0_pay2 x0 x10) (k0_pay5 x1) x8) x5 x6 x7) := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_A_13 (hc : cond0_0 i) :
    out0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = k0_pay11 (k0_pay2 x0 x10) (k0_pay5 x1) := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_A_14 (hc : cond0_0 i) :
    out0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = k0_pay12 (k0_pay2 x0 x10) (k0_pay6 x2) k0_pay7 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_A_15 (hc : cond0_0 i) :
    out0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = k0_pay13 (k0_pay2 x0 x10) (k0_pay6 x2) k0_pay7 x9 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_A_16 (hc : cond0_0 i) :
    out0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = View.canon (piecesNorm (k0_pay14 (k0_pay2 x0 x10) (k0_pay5 x1) x8) x5 x6 x7) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_A_17 (hc : cond0_0 i) :
    out0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 = View.canon (piecesGain (k0_pay14 (k0_pay2 x0 x10) (k0_pay5 x1) x8) x5 x6 (k0_pay1 (F := F)) ++ [⟨Rect.unit ![0, 0] ![1, 1024] inb_S1x1024_S1x1024_0_0, k0_pay1⟩]) := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10)]
  unfold kernelRun0_A
  dsimp only
  sl_unfold_words
  simp (disch := decide) only [↓View.readCov_skip, View.readCov_fill, View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_B_11 (hc : ¬cond0_0 i) (p17 : Vec F S1x1024 .f32) :
    out0_B_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = View.canon (piecesGate (k0_pay9 (k0_pay2 x0 x10) (k0_pay3 x3 x8) (k0_pay5 x1)) (k0_pay10 (k0_pay2 x0 x10) (k0_pay4 x4 x9) (k0_pay6 x2) k0_pay7)) := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_B_12 (hc : ¬cond0_0 i) (p17 : Vec F S1x1024 .f32) :
    out0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = View.canon (piecesSwish (k0_pay14 (k0_pay2 x0 x10) (k0_pay5 x1) x8) x5 x6 x7) := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_B_13 (hc : ¬cond0_0 i) (p17 : Vec F S1x1024 .f32) :
    out0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = k0_pay11 (k0_pay2 x0 x10) (k0_pay5 x1) := by
  unfold out0_B_13
  rw [View.read_writes_eq_canon _ _ _ (cover0_B_13 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_B_14 (hc : ¬cond0_0 i) (p17 : Vec F S1x1024 .f32) :
    out0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = k0_pay12 (k0_pay2 x0 x10) (k0_pay6 x2) k0_pay7 := by
  unfold out0_B_14
  rw [View.read_writes_eq_canon _ _ _ (cover0_B_14 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_B_15 (hc : ¬cond0_0 i) (p17 : Vec F S1x1024 .f32) :
    out0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = k0_pay13 (k0_pay2 x0 x10) (k0_pay6 x2) k0_pay7 x9 := by
  unfold out0_B_15
  rw [View.read_writes_eq_canon _ _ _ (cover0_B_15 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]

theorem out_B_16 (hc : ¬cond0_0 i) (p17 : Vec F S1x1024 .f32) :
    out0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = View.canon (piecesNorm (k0_pay14 (k0_pay2 x0 x10) (k0_pay5 x1) x8) x5 x6 x7) := by
  unfold out0_B_16
  rw [View.read_writes_eq_canon _ _ _ (cover0_B_16 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

theorem out_B_17 (hc : ¬cond0_0 i) (p17 : Vec F S1x1024 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17 = View.canon (piecesGain (k0_pay14 (k0_pay2 x0 x10) (k0_pay5 x1) x8) x5 x6 p17) := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 x10 p17)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h18.read_unread, View.ld_unit_zero (S := S512x1024) hz, View.ld_unit_zero (S := S1x1024) hz, View.ld_unit_zero (S := S1024x1024) hz]
  rfl

end Cases

end Cert.MergeKernelIdeal.Step

end
-- ==== Proof.MergeMath.lean ====
module
public import proofs.«01_k».proof.Proof.FfnMath
/-! The gradient through the merge of the two branches over the extended reals: the kernel's formulas, the chain rule's, and their equality. -/
@[expose] public section
set_option maxRecDepth 16384
noncomputable section
namespace Cert.Merge
open Idealize.ShloMosaic Cert.Silu

/-! ## The norm of one head's row -/

/-- A row less its mean, the reciprocal of its deviation, and the row scaled by it. -/
def cen (x : Fin 256 → EReal) (e : Fin 256) : EReal := x e - Ideal.div (∑ i : Fin 256, x i) (Ideal.ofBits FTy.f32 1132462080#32)
def var (x : Fin 256 → EReal) : EReal :=
  Ideal.div (∑ i : Fin 256, cen x i * cen x i) (Ideal.ofBits FTy.f32 1132462080#32) + Ideal.ofBits FTy.f32 897988541#32
def unit (x : Fin 256 → EReal) (e : Fin 256) : EReal := cen x e * Ideal.rsqrt (var x)

/-- The gradient through the norm, at cotangents `d`: the kernel's formula. -/
def normGrad (x d : Fin 256 → EReal) (e : Fin 256) : EReal :=
  Ideal.rsqrt (var x) * (d e - Ideal.div (∑ i : Fin 256, d i) (Ideal.ofBits FTy.f32 1132462080#32)
    - unit x e * Ideal.div (∑ i : Fin 256, d i * unit x i) (Ideal.ofBits FTy.f32 1132462080#32))

/-- The chain rule's: the term through the variance, the gradient at the centred row, and the gradient at the row. -/
def viaVar (x d : Fin 256 → EReal) : EReal :=
  Ideal.div ((∑ i : Fin 256, cen x i * d i) * (Ideal.ofBits FTy.f32 3204448256#32 * Ideal.div (Ideal.rsqrt (var x)) (var x))) (Ideal.ofBits FTy.f32 1132462080#32)
def atCen (x d : Fin 256 → EReal) (e : Fin 256) : EReal := d e * Ideal.rsqrt (var x) + cen x e * viaVar x d + viaVar x d * cen x e
def normGrad' (x d : Fin 256 → EReal) (e : Fin 256) : EReal :=
  atCen x d e + Ideal.div (∑ i : Fin 256, -atCen x d i) (Ideal.ofBits FTy.f32 1132462080#32)

theorem c256 : Ideal.ofBits FTy.f32 1132462080#32 = ((256 : ℝ) : EReal) := by
  simp [Ideal.ofBits, Ideal.ieee, -EReal.coe_mul]; norm_num

/-- At real rows: the centred entries sum to zero, the variance plus ε is a positive `v`, and `1 / √v` a real `r` with `r² v = 1`. -/
theorem row_real (x : Fin 256 → ℝ) : ∃ (z : Fin 256 → ℝ) (v r : ℝ), ∑ i, z i = 0 ∧ v ≠ 0 ∧ r * r * v = 1 ∧
    (∀ e, cen (fun i => (x i : EReal)) e = (z e : EReal)) ∧ var (fun i => (x i : EReal)) = (v : EReal) ∧ Ideal.rsqrt (v : EReal) = (r : EReal) := by
  obtain ⟨ε, hε, eε⟩ := RmsGrad.cEps
  have hz (e : Fin 256) : cen (fun i => (x i : EReal)) e = ((x e - (∑ i, x i) * (1 / 256) : ℝ) : EReal) := by
    unfold cen
    rw [c256, Ideal.div_coe (by norm_num), RmsGrad.coe_sum, ← EReal.coe_mul, ← EReal.coe_sub]
  generalize hd : (fun e => x e - (∑ i, x i) * (1 / 256)) = z
  have hz' (e : Fin 256) : cen (fun i => (x i : EReal)) e = (z e : EReal) := by rw [hz, ← hd]
  have hs : 0 ≤ ∑ i, z i * z i := Finset.sum_nonneg fun i _ => mul_self_nonneg _
  have hv : 0 < (∑ i, z i * z i) * (1 / 256) + ε := by positivity
  refine ⟨z, (∑ i, z i * z i) * (1 / 256) + ε, (Real.sqrt ((∑ i, z i * z i) * (1 / 256) + ε))⁻¹, ?_, hv.ne', ?_, hz', ?_, ?_⟩
  · rw [← hd, Finset.sum_sub_distrib, Finset.sum_const, Finset.card_univ, Fintype.card_fin, nsmul_eq_mul]
    push_cast
    ring
  · rw [← mul_inv, Real.mul_self_sqrt hv.le, inv_mul_cancel₀ hv.ne']
  · unfold var
    simp only [hz']
    rw [c256, eε, Ideal.div_coe (by norm_num)]
    simp only [← EReal.coe_mul]
    rw [RmsGrad.coe_sum, ← EReal.coe_mul, ← EReal.coe_add]
  · rw [Ideal.rsqrt_coe, if_neg (not_lt.mpr hv.le), if_neg hv.ne']

theorem unit_real (x : Fin 256 → ℝ) (e : Fin 256) : ∃ y : ℝ, unit (fun i => (x i : EReal)) e = (y : EReal) := by
  obtain ⟨z, v, r, _, _, _, hz, hv, hr⟩ := row_real x
  refine ⟨z e * r, ?_⟩
  unfold unit
  rw [hz, hv, hr, EReal.coe_mul]

theorem normGrad_eq (x d : Fin 256 → ℝ) (e : Fin 256) :
    normGrad (fun i => (x i : EReal)) (fun i => (d i : EReal)) e = normGrad' (fun i => (x i : EReal)) (fun i => (d i : EReal)) e := by
  obtain ⟨z, v, r, hs, hv0, hrv, hz, hv, hr⟩ := row_real x
  have hr3 : r * (1 / v) = r * r * r := by
    have : 1 / v = r * r := by rw [div_eq_iff hv0]; exact hrv.symm
    rw [this]; ring
  unfold normGrad normGrad' atCen viaVar unit
  simp only [hz, hv, hr]
  have h256 (y : EReal) : Ideal.div y ((256 : ℝ) : EReal) = y * ((1 / 256 : ℝ) : EReal) := Ideal.div_coe (by norm_num) y
  rw [c256, RmsGrad.cHalf, Ideal.div_coe hv0]
  simp only [h256]
  simp only [← EReal.coe_mul, RmsGrad.coe_sum, ← EReal.coe_add, ← EReal.coe_sub, ← EReal.coe_neg]
  congr 1
  rw [hr3]
  have h1 : ∑ i, d i * (z i * r) = (∑ i, z i * d i) * r := by
    rw [Finset.sum_mul]
    exact Finset.sum_congr rfl fun i _ => by ring
  generalize ht : ∑ i, z i * d i = t at h1 ⊢
  have h2 (m : ℝ) : ∑ i, -(d i * r + z i * m + m * z i) = -(∑ i, d i) * r := by
    have : ∀ i, -(d i * r + z i * m + m * z i) = -d i * r - 2 * m * z i := fun i => by ring
    simp only [this]
    rw [Finset.sum_sub_distrib, ← Finset.sum_mul, ← Finset.mul_sum, hs, Finset.sum_neg_distrib]
    ring
  rw [h1, h2]
  ring

/-! ## The logistic function, at every extended real -/

theorem sg_fin (g : EReal) : ∃ σ : ℝ, sg g = (σ : EReal) ∧ Ideal.logistic g = (σ : EReal) := by
  induction g using EReal.rec with
  | bot =>
    refine ⟨0, ?_, by simp⟩
    unfold sg
    rw [cHalf, EReal.coe_mul_bot_of_pos (by norm_num), Ideal.tanh_bot, ← EReal.coe_one, ← EReal.coe_neg, ← EReal.coe_mul, ← EReal.coe_add]
    congr 1; norm_num
  | coe g => exact sg_real g
  | top =>
    refine ⟨1, ?_, by simp⟩
    unfold sg
    rw [cHalf, EReal.coe_mul_top_of_pos (by norm_num), Ideal.tanh_top, ← EReal.coe_one, ← EReal.coe_mul, ← EReal.coe_add]
    congr 1; norm_num

theorem sg_eq (g : EReal) : sg g = Ideal.logistic g := by
  obtain ⟨σ, h1, h2⟩ := sg_fin g
  rw [h1, h2]

/-! ## The call -/

/-- A column's head and its place in the head, and back. -/
def head (k : Fin 1024) : Fin 4 := ⟨k.val / 256, by omega⟩
def off (k : Fin 1024) : Fin 256 := ⟨k.val % 256, by omega⟩
def col (h : Fin 4) (e : Fin 256) : Fin 1024 := ⟨h.val * 256 + e.val, by omega⟩

theorem col_head (k : Fin 1024) : col (head k) (off k) = k := Fin.ext (by show k.val / 256 * 256 + k.val % 256 = k.val; omega)
theorem head_col (h : Fin 4) (e : Fin 256) : head (col h e) = h := Fin.ext (by show (h.val * 256 + e.val) / 256 = h.val; omega)
theorem off_col (h : Fin 4) (e : Fin 256) : off (col h e) = e := Fin.ext (by show (h.val * 256 + e.val) % 256 = e.val; omega)

/-- The arguments of the call by coordinates: the retention's output by heads, its swish's input, the attention's output, the two gates' inputs,
    the norm's gain, the three weights, and the output's cotangent. -/
structure Args where
  RY : Fin 8192 → Fin 4 → Fin 256 → EReal
  RG : Fin 8192 → Fin 1024 → EReal
  AY : Fin 8192 → Fin 1024 → EReal
  GA : Fin 8192 → Fin 1024 → EReal
  GB : Fin 8192 → Fin 1024 → EReal
  G : Fin 1024 → EReal
  WR : Fin 1024 → Fin 1024 → EReal
  WA : Fin 1024 → Fin 1024 → EReal
  WO : Fin 1024 → Fin 1024 → EReal
  DX : Fin 8192 → Fin 1024 → EReal

namespace Args
variable (A : Args) (s : Fin 8192) (k : Fin 1024)

/-- The retention's normed output with its gain, its product with the swish, and the two branches. -/
def yn : EReal := unit (A.RY s (head k)) (off k)
def u : EReal := A.RG s k * Ideal.logistic (A.RG s k) * (A.yn s k * A.G k)
def ba : EReal := ∑ j : Fin 1024, A.u s j * A.WR j k
def bb : EReal := ∑ j : Fin 1024, A.AY s j * A.WA j k
/-- The cotangent of the merged branches. -/
def dm : EReal := ∑ j : Fin 1024, A.DX s j * A.WO k j

/-- The kernel's gradients: at the two gates and the two branches, at the attention's output, the swish's input, the normed retention, the
    retention, and row `s`'s share of the gain's. -/
def dga : EReal := A.dm s k * A.ba s k * (sg (A.GA s k) * (1 - sg (A.GA s k)))
def dgb : EReal := A.dm s k * A.bb s k * (sg (A.GB s k) * (1 - sg (A.GB s k)))
def dba : EReal := A.dm s k * sg (A.GA s k)
def dbb : EReal := A.dm s k * sg (A.GB s k)
def day : EReal := ∑ j : Fin 1024, A.dbb s j * A.WA k j
def du : EReal := ∑ j : Fin 1024, A.dba s j * A.WR k j
def drg : EReal := A.du s k * (A.yn s k * A.G k) * (sg (A.RG s k) * (1 + A.RG s k * (1 - sg (A.RG s k))))
def dyg : EReal := A.du s k * (A.RG s k * sg (A.RG s k))
def dry : EReal := normGrad (A.RY s (head k)) (fun e => A.dyg s (col (head k) e) * A.G (col (head k) e)) (off k)
def dg : EReal := A.dyg s k * A.yn s k

/-- The chain rule's. -/
def dga' : EReal := A.dm s k * A.ba s k * (Ideal.logistic (A.GA s k) * (1 - Ideal.logistic (A.GA s k)))
def dgb' : EReal := A.dm s k * A.bb s k * (Ideal.logistic (A.GB s k) * (1 - Ideal.logistic (A.GB s k)))
def dba' : EReal := Ideal.logistic (A.GA s k) * A.dm s k
def dbb' : EReal := Ideal.logistic (A.GB s k) * A.dm s k
def day' : EReal := ∑ j : Fin 1024, A.dbb' s j * A.WA k j
def du' : EReal := ∑ j : Fin 1024, A.dba' s j * A.WR k j
def drg' : EReal := A.du' s k * (A.yn s k * A.G k) * Ideal.logistic (A.RG s k)
  + A.RG s k * (A.du' s k * (A.yn s k * A.G k)) * (Ideal.logistic (A.RG s k) * (1 - Ideal.logistic (A.RG s k)))
def dyg' : EReal := A.RG s k * Ideal.logistic (A.RG s k) * A.du' s k
def dry' : EReal := normGrad' (A.RY s (head k)) (fun e => A.dyg' s (col (head k) e) * A.G (col (head k) e)) (off k)
def dg' : EReal := A.yn s k * A.dyg' s k

theorem dga_eq : A.dga s k = A.dga' s k := by unfold dga dga'; rw [sg_eq]
theorem dgb_eq : A.dgb s k = A.dgb' s k := by unfold dgb dgb'; rw [sg_eq]
theorem dba_eq : A.dba s k = A.dba' s k := by unfold dba dba'; rw [sg_eq, mul_comm]
theorem dbb_eq : A.dbb s k = A.dbb' s k := by unfold dbb dbb'; rw [sg_eq, mul_comm]
theorem day_eq : A.day s k = A.day' s k := by unfold day day'; simp only [dbb_eq]
theorem du_eq : A.du s k = A.du' s k := by unfold du du'; simp only [dba_eq]
theorem dyg_eq : A.dyg s k = A.dyg' s k := by unfold dyg dyg'; rw [sg_eq, du_eq, mul_comm]
theorem dg_eq : A.dg s k = A.dg' s k := by unfold dg dg'; rw [dyg_eq, mul_comm]

/-- The entries that the retention's branch multiplies are real numbers. -/
structure Real : Prop where
  ry : ∀ s h e, ∃ r : ℝ, A.RY s h e = (r : EReal)
  rg : ∀ s k, ∃ r : ℝ, A.RG s k = (r : EReal)
  g : ∀ k, ∃ r : ℝ, A.G k = (r : EReal)
  wr : ∀ j k, ∃ r : ℝ, A.WR j k = (r : EReal)
  wo : ∀ j k, ∃ r : ℝ, A.WO j k = (r : EReal)
  dx : ∀ s k, ∃ r : ℝ, A.DX s k = (r : EReal)

theorem sum_real {n : ℕ} (a b : Fin n → EReal) (ha : ∀ i, ∃ r : ℝ, a i = (r : EReal)) (hb : ∀ i, ∃ r : ℝ, b i = (r : EReal)) :
    ∃ r : ℝ, ∑ i : Fin n, a i * b i = (r : EReal) := by
  choose a' ha' using ha
  choose b' hb' using hb
  refine ⟨∑ i, a' i * b' i, ?_⟩
  simp only [ha', hb', ← EReal.coe_mul]
  exact RmsGrad.coe_sum _ _

variable {A} (hA : A.Real)
include hA

theorem du_real : ∃ r : ℝ, A.du s k = (r : EReal) := by
  refine sum_real _ _ (fun j => ?_) (hA.wr k)
  obtain ⟨d, hd⟩ : ∃ r : ℝ, A.dm s j = (r : EReal) := sum_real _ _ (hA.dx s) (hA.wo j)
  obtain ⟨σ, h1, _⟩ := sg_fin (A.GA s j)
  exact ⟨d * σ, by unfold dba; rw [hd, h1, EReal.coe_mul]⟩

theorem yn_real : ∃ r : ℝ, A.yn s k = (r : EReal) := by
  choose x hx using hA.ry s (head k)
  unfold yn
  rw [funext hx]
  exact unit_real x _

theorem drg_eq : A.drg s k = A.drg' s k := by
  obtain ⟨d, hd⟩ := du_real s k hA
  obtain ⟨y, hy⟩ := yn_real s k hA
  obtain ⟨g, hg⟩ := hA.g k
  obtain ⟨x, hx⟩ := hA.rg s k
  unfold drg drg'
  rw [← du_eq, hd, hy, hg, hx, ← EReal.coe_mul]
  exact gate_eq d (y * g) x

theorem dry_eq : A.dry s k = A.dry' s k := by
  choose x hx using hA.ry s (head k)
  have hd (e : Fin 256) : ∃ r : ℝ, A.dyg s (col (head k) e) * A.G (col (head k) e) = (r : EReal) := by
    obtain ⟨d, hd⟩ := du_real s (col (head k) e) hA
    obtain ⟨g, hg⟩ := hA.g (col (head k) e)
    obtain ⟨y, hy⟩ := hA.rg s (col (head k) e)
    obtain ⟨σ, h1, _⟩ := sg_real y
    refine ⟨d * (y * σ) * g, ?_⟩
    unfold dyg
    rw [hd, hy, h1, hg]
    simp only [EReal.coe_mul]
  choose d hd using hd
  unfold dry dry'
  simp only [← dyg_eq]
  rw [funext hx, funext hd]
  exact normGrad_eq x d _

end Args
end Cert.Merge
end
-- ==== Proof.MergeHost.lean ====
module
public import proofs.«01_k».proof.Proof.MergeStep
public import proofs.«01_k».proof.Proof.MergeMath
public import Idealize.ShloMosaic.Lib.Pointwise
public import Idealize.ShloMosaic.Lib.StableHlo.RunRead
/-! The blocks that the merge's gradient kernel reads at a grid point, each as entries of the launch arguments. -/
@[expose] public section
set_option maxRecDepth 16384
noncomputable section
namespace Cert.MergeKernelIdeal.Step
open Cert.MergeKernelIdeal Cert.MergeKernelIdeal.Gen Idealize.ShloMosaic Idealize.ShloMosaic.TcCoe Idealize.SL.Sem

variable (m : (ℓ : Loc nD τ sig) → Buf (Elt Ideal) ℓ) (c : Dev nD)

/-- The launch arguments, by coordinates. -/
def args : Merge.Args where
  RY s h e := (m ((c : Thread nD τ).loc main_arg0) : FVec Ideal S1x8192x4x256 .f32) (ix4 0 s h e)
  RG s k := (m ((c : Thread nD τ).loc main_arg1) : FVec Ideal S1x8192x1024 .f32) (ix3 0 s k)
  AY s k := (m ((c : Thread nD τ).loc main_arg2) : FVec Ideal S1x8192x1024 .f32) (ix3 0 s k)
  GA s k := (m ((c : Thread nD τ).loc main_arg3) : FVec Ideal S1x8192x1024 .f32) (ix3 0 s k)
  GB s k := (m ((c : Thread nD τ).loc main_arg4) : FVec Ideal S1x8192x1024 .f32) (ix3 0 s k)
  G k := (m ((c : Thread nD τ).loc main_arg5) : FVec Ideal S1x1024 .f32) (ix2 0 k)
  WR j k := (m ((c : Thread nD τ).loc main_arg6) : FVec Ideal S1x1024x1024 .f32) (ix3 0 j k)
  WA j k := (m ((c : Thread nD τ).loc main_arg7) : FVec Ideal S1x1024x1024 .f32) (ix3 0 j k)
  WO j k := (m ((c : Thread nD τ).loc main_arg8) : FVec Ideal S1x1024x1024 .f32) (ix3 0 j k)
  DX s k := (m ((c : Thread nD τ).loc main_arg9) : FVec Ideal S1x8192x1024 .f32) (ix3 0 s k)

/-! ## The arrays the region finds -/

theorem V_v24 (s : Fin 8192) (k : Fin 1024) : V m c main_v24 (ix2 s k) = (args m c).DX s k := by
  unfold V args
  after_reads_simp
  generalize m (c.tc.loc main_arg9) = x9
  pointwise

theorem V_v26 (s : Fin 8192) (k : Fin 1024) : V m c main_v26 (ix2 s k) = (args m c).GA s k := by
  unfold V args
  after_reads_simp
  generalize m (c.tc.loc main_arg3) = x3
  pointwise

theorem V_v28 (s : Fin 8192) (k : Fin 1024) : V m c main_v28 (ix2 s k) = (args m c).GB s k := by
  unfold V args
  after_reads_simp
  generalize m (c.tc.loc main_arg4) = x4
  pointwise

theorem V_v31 (s : Fin 8192) (k : Fin 1024) : V m c main_v31 (ix2 s k) = (args m c).AY s k := by
  unfold V args
  after_reads_simp
  generalize m (c.tc.loc main_arg2) = x2
  pointwise

theorem V_v33 (s : Fin 8192) (k : Fin 1024) : V m c main_v33 (ix2 s k) = (args m c).RG s k := by
  unfold V args
  after_reads_simp
  generalize m (c.tc.loc main_arg1) = x1
  pointwise

theorem V_v35 (s : Fin 8192) (k : Fin 1024) : V m c main_v35 (ix2 s k) = (args m c).RY s (Merge.head k) (Merge.off k) := by
  unfold Merge.head Merge.off
  unfold V args
  after_reads_simp
  generalize m (c.tc.loc main_arg0) = x0
  pointwise

theorem V_arg5 (k : Fin 1024) : V m c main_arg5 (ix2 0 k) = (args m c).G k := by
  unfold V args
  after_reads_simp

theorem V_v37 (j k : Fin 1024) : V m c main_v37 (ix2 j k) = (args m c).WR j k := by
  unfold V args
  after_reads_simp
  generalize m (c.tc.loc main_arg6) = x6
  pointwise

theorem V_v39 (j k : Fin 1024) : V m c main_v39 (ix2 j k) = (args m c).WA j k := by
  unfold V args
  after_reads_simp
  generalize m (c.tc.loc main_arg7) = x7
  pointwise

theorem V_v41 (j k : Fin 1024) : V m c main_v41 (ix2 j k) = (args m c).WO j k := by
  unfold V args
  after_reads_simp
  generalize m (c.tc.loc main_arg8) = x8
  pointwise

theorem V_v29 (s : Fin 8192) (k : Fin 1024) : V m c main_v29 (ix2 s k) = (args m c).u s k := by
  unfold Merge.Args.u Merge.Args.yn Merge.unit Merge.var Merge.cen Ideal.logistic Merge.head Merge.off
  unfold V args
  after_reads_simp
  simp only [StableHlo.TRef.ofBuf_toBuf]
  simp -implicitDefEqProofs only [StableHlo.TRef.toBuf, StableHlo.TRef.ofBuf, cast_cast, cast_eq, id]
  generalize m (c.tc.loc main_arg0) = x0
  generalize m (c.tc.loc main_arg1) = x1
  generalize m (c.tc.loc main_arg5) = x5
  pointwise

/-! ## The blocks -/

/-- The array row that row `r` of the block at point `t` is. -/
def row (t : Fin 16) (r : Fin 512) : Fin 8192 := ⟨t.val * 512 + r.val, by omega⟩

theorem blk0 (t : Fin cfg0.N) (r : Fin 512) (l : Fin 1024) : iblk m c 0 t (ix2 r l) = V m c main_v24 (ix2 (row t r) l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  unfold iblk
  rw [View.read_apply]
  show V m c main_v24 _ = _
  congr 1
  refine funext fun a => Fin.ext ?_
  match a with
  | ⟨0, _⟩ => show win0_0.index t 0 * 512 + 1 * r.val = t.val * 512 + r.val; omega
  | ⟨1, _⟩ => show win0_0.index t 1 * 1024 + 1 * l.val = l.val; omega

theorem blk1 (t : Fin cfg0.N) (r : Fin 512) (l : Fin 1024) : iblk m c 1 t (ix2 r l) = V m c main_v26 (ix2 (row t r) l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  show V m c main_v26 _ = _
  congr 1
  refine funext fun a => Fin.ext ?_
  match a with
  | ⟨0, _⟩ => show win0_1.index t 0 * 512 + 1 * r.val = t.val * 512 + r.val; omega
  | ⟨1, _⟩ => show win0_1.index t 1 * 1024 + 1 * l.val = l.val; omega

theorem blk2 (t : Fin cfg0.N) (r : Fin 512) (l : Fin 1024) : iblk m c 2 t (ix2 r l) = V m c main_v28 (ix2 (row t r) l) := by
  have e0 : win0_2.index t 0 = t.val := (by decide +kernel : ∀ t : Fin grid0.N, win0_2.index t 0 = t.val) t
  have e1 : win0_2.index t 1 = 0 := (by decide +kernel : ∀ t : Fin grid0.N, win0_2.index t 1 = 0) t
  unfold iblk
  rw [View.read_apply]
  show V m c main_v28 _ = _
  congr 1
  refine funext fun a => Fin.ext ?_
  match a with
  | ⟨0, _⟩ => show win0_2.index t 0 * 512 + 1 * r.val = t.val * 512 + r.val; omega
  | ⟨1, _⟩ => show win0_2.index t 1 * 1024 + 1 * l.val = l.val; omega

theorem blk3 (t : Fin cfg0.N) (r : Fin 512) (l : Fin 1024) : iblk m c 3 t (ix2 r l) = V m c main_v29 (ix2 (row t r) l) := by
  have e0 : win0_3.index t 0 = t.val := (by decide +kernel : ∀ t : Fin grid0.N, win0_3.index t 0 = t.val) t
  have e1 : win0_3.index t 1 = 0 := (by decide +kernel : ∀ t : Fin grid0.N, win0_3.index t 1 = 0) t
  unfold iblk
  rw [View.read_apply]
  show V m c main_v29 _ = _
  congr 1
  refine funext fun a => Fin.ext ?_
  match a with
  | ⟨0, _⟩ => show win0_3.index t 0 * 512 + 1 * r.val = t.val * 512 + r.val; omega
  | ⟨1, _⟩ => show win0_3.index t 1 * 1024 + 1 * l.val = l.val; omega

theorem blk4 (t : Fin cfg0.N) (r : Fin 512) (l : Fin 1024) : iblk m c 4 t (ix2 r l) = V m c main_v31 (ix2 (row t r) l) := by
  have e0 : win0_4.index t 0 = t.val := (by decide +kernel : ∀ t : Fin grid0.N, win0_4.index t 0 = t.val) t
  have e1 : win0_4.index t 1 = 0 := (by decide +kernel : ∀ t : Fin grid0.N, win0_4.index t 1 = 0) t
  unfold iblk
  rw [View.read_apply]
  show V m c main_v31 _ = _
  congr 1
  refine funext fun a => Fin.ext ?_
  match a with
  | ⟨0, _⟩ => show win0_4.index t 0 * 512 + 1 * r.val = t.val * 512 + r.val; omega
  | ⟨1, _⟩ => show win0_4.index t 1 * 1024 + 1 * l.val = l.val; omega

theorem blk5 (t : Fin cfg0.N) (r : Fin 512) (l : Fin 1024) : iblk m c 5 t (ix2 r l) = V m c main_v33 (ix2 (row t r) l) := by
  have e0 : win0_5.index t 0 = t.val := (by decide +kernel : ∀ t : Fin grid0.N, win0_5.index t 0 = t.val) t
  have e1 : win0_5.index t 1 = 0 := (by decide +kernel : ∀ t : Fin grid0.N, win0_5.index t 1 = 0) t
  unfold iblk
  rw [View.read_apply]
  show V m c main_v33 _ = _
  congr 1
  refine funext fun a => Fin.ext ?_
  match a with
  | ⟨0, _⟩ => show win0_5.index t 0 * 512 + 1 * r.val = t.val * 512 + r.val; omega
  | ⟨1, _⟩ => show win0_5.index t 1 * 1024 + 1 * l.val = l.val; omega

theorem blk6 (t : Fin cfg0.N) (r : Fin 512) (l : Fin 1024) : iblk m c 6 t (ix2 r l) = V m c main_v35 (ix2 (row t r) l) := by
  have e0 : win0_6.index t 0 = t.val := (by decide +kernel : ∀ t : Fin grid0.N, win0_6.index t 0 = t.val) t
  have e1 : win0_6.index t 1 = 0 := (by decide +kernel : ∀ t : Fin grid0.N, win0_6.index t 1 = 0) t
  unfold iblk
  rw [View.read_apply]
  show V m c main_v35 _ = _
  congr 1
  refine funext fun a => Fin.ext ?_
  match a with
  | ⟨0, _⟩ => show win0_6.index t 0 * 512 + 1 * r.val = t.val * 512 + r.val; omega
  | ⟨1, _⟩ => show win0_6.index t 1 * 1024 + 1 * l.val = l.val; omega

theorem blk7 (t : Fin cfg0.N) (r : Fin 1) (l : Fin 1024) : iblk m c 7 t (ix2 r l) = V m c main_arg5 (ix2 r l) := by
  have e0 : win0_7.index t 0 = 0 := (by decide +kernel : ∀ t : Fin grid0.N, win0_7.index t 0 = 0) t
  have e1 : win0_7.index t 1 = 0 := (by decide +kernel : ∀ t : Fin grid0.N, win0_7.index t 1 = 0) t
  unfold iblk
  rw [View.read_apply]
  show V m c main_arg5 _ = _
  congr 1
  refine funext fun a => Fin.ext ?_
  match a with
  | ⟨0, _⟩ => show win0_7.index t 0 * 1 + 1 * r.val = r.val; omega
  | ⟨1, _⟩ => show win0_7.index t 1 * 1024 + 1 * l.val = l.val; omega

theorem blk8 (t : Fin cfg0.N) (r : Fin 1024) (l : Fin 1024) : iblk m c 8 t (ix2 r l) = V m c main_v37 (ix2 r l) := by
  have e0 : win0_8.index t 0 = 0 := (by decide +kernel : ∀ t : Fin grid0.N, win0_8.index t 0 = 0) t
  have e1 : win0_8.index t 1 = 0 := (by decide +kernel : ∀ t : Fin grid0.N, win0_8.index t 1 = 0) t
  unfold iblk
  rw [View.read_apply]
  show V m c main_v37 _ = _
  congr 1
  refine funext fun a => Fin.ext ?_
  match a with
  | ⟨0, _⟩ => show win0_8.index t 0 * 1024 + 1 * r.val = r.val; omega
  | ⟨1, _⟩ => show win0_8.index t 1 * 1024 + 1 * l.val = l.val; omega

theorem blk9 (t : Fin cfg0.N) (r : Fin 1024) (l : Fin 1024) : iblk m c 9 t (ix2 r l) = V m c main_v39 (ix2 r l) := by
  have e0 : win0_9.index t 0 = 0 := (by decide +kernel : ∀ t : Fin grid0.N, win0_9.index t 0 = 0) t
  have e1 : win0_9.index t 1 = 0 := (by decide +kernel : ∀ t : Fin grid0.N, win0_9.index t 1 = 0) t
  unfold iblk
  rw [View.read_apply]
  show V m c main_v39 _ = _
  congr 1
  refine funext fun a => Fin.ext ?_
  match a with
  | ⟨0, _⟩ => show win0_9.index t 0 * 1024 + 1 * r.val = r.val; omega
  | ⟨1, _⟩ => show win0_9.index t 1 * 1024 + 1 * l.val = l.val; omega

theorem blk10 (t : Fin cfg0.N) (r : Fin 1024) (l : Fin 1024) : iblk m c 10 t (ix2 r l) = V m c main_v41 (ix2 r l) := by
  have e0 : win0_10.index t 0 = 0 := (by decide +kernel : ∀ t : Fin grid0.N, win0_10.index t 0 = 0) t
  have e1 : win0_10.index t 1 = 0 := (by decide +kernel : ∀ t : Fin grid0.N, win0_10.index t 1 = 0) t
  unfold iblk
  rw [View.read_apply]
  show V m c main_v41 _ = _
  congr 1
  refine funext fun a => Fin.ext ?_
  match a with
  | ⟨0, _⟩ => show win0_10.index t 0 * 1024 + 1 * r.val = r.val; omega
  | ⟨1, _⟩ => show win0_10.index t 1 * 1024 + 1 * l.val = l.val; omega

end Cert.MergeKernelIdeal.Step
end
-- ==== Proof.MergeTerms.lean ====
module
public import proofs.«01_k».proof.Proof.MergeHost
public import proofs.«01_k».proof.Proof.Gen.MergeKernelIdeal.Value
/-! The terms of the merge's gradient kernel at an index, for blocks whose entries are known. -/
@[expose] public section
set_option maxRecDepth 16384
noncomputable section
namespace Cert.MergeKernelIdeal.Step
open Cert.MergeKernelIdeal Cert.MergeKernelIdeal.Gen Idealize.ShloMosaic Idealize.ShloMosaic.TcCoe Idealize.SL.Sem

/-! ## One head's columns -/

section Heads
variable (d : FVec Ideal S512x1024 .f32) (Y G : Vec Ideal S512x256 .bf16) (W A : Vec Ideal S1x256 .f32)
  (dv y g : Fin 512 → Fin 256 → EReal) (w : Fin 256 → EReal)

/-- The swish's gradient, the retention's, and the gain's share, of one row of a head: at cotangents `dv`, retention `y`, swish input `g` and gain `w`. -/
def headSwish (dv y g w : Fin 256 → EReal) (e : Fin 256) : EReal :=
  dv e * (Merge.unit y e * w e) * (Silu.sg (g e) * (1 + g e * (1 - Silu.sg (g e))))
def headNorm (dv y g w : Fin 256 → EReal) (e : Fin 256) : EReal := Merge.normGrad y (fun e => dv e * (g e * Silu.sg (g e)) * w e) e
def headGain (dv y g : Fin 256 → EReal) (e : Fin 256) : EReal := dv e * (g e * Silu.sg (g e)) * Merge.unit y e

theorem swish0 (r : Fin 512) (e : Fin 256) (hd : ∀ r e, d (ix2 r ⟨e.val, by omega⟩) = dv r e) (hY : ∀ r e, Y (ix2 r e) = y r e) (hG : ∀ r e, G (ix2 r e) = g r e) (hW : ∀ e, W (ix2 0 e) = w e) :
    (k0_pay22 d Y G W) (ix2 r e) = headSwish (dv r) (y r) (g r) w e := by
  unfold headSwish Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem norm0 (r : Fin 512) (e : Fin 256) (hd : ∀ r e, d (ix2 r ⟨e.val, by omega⟩) = dv r e) (hY : ∀ r e, Y (ix2 r e) = y r e) (hG : ∀ r e, G (ix2 r e) = g r e) (hW : ∀ e, W (ix2 0 e) = w e) :
    (k0_pay25 (k0_pay16 Y) (k0_pay17 Y) (k0_pay20 G) (k0_pay21 d) W) (ix2 r e) = headNorm (dv r) (y r) (g r) w e := by
  unfold headNorm Merge.normGrad Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem gain0 (e : Fin 256) (hd : ∀ r e, d (ix2 r ⟨e.val, by omega⟩) = dv r e) (hY : ∀ r e, Y (ix2 r e) = y r e) (hG : ∀ r e, G (ix2 r e) = g r e) :
    (k0_pay24 (k0_pay17 Y) (k0_pay20 G) (k0_pay21 d) A) (ix2 0 e) = A (ix2 0 e) + ∑ r : Fin 512, headGain (dv r) (y r) (g r) e := by
  unfold headGain Merge.unit Merge.var Merge.cen Silu.sg
  simp only [← hd, ← hY, ← hG]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem swish1 (r : Fin 512) (e : Fin 256) (hd : ∀ r e, d (ix2 r ⟨256 + e.val, by omega⟩) = dv r e) (hY : ∀ r e, Y (ix2 r e) = y r e) (hG : ∀ r e, G (ix2 r e) = g r e) (hW : ∀ e, W (ix2 0 e) = w e) :
    (k0_pay33 d (k0_pay26 Y) (k0_pay27 Y) G W) (ix2 r e) = headSwish (dv r) (y r) (g r) w e := by
  unfold headSwish Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem norm1 (r : Fin 512) (e : Fin 256) (hd : ∀ r e, d (ix2 r ⟨256 + e.val, by omega⟩) = dv r e) (hY : ∀ r e, Y (ix2 r e) = y r e) (hG : ∀ r e, G (ix2 r e) = g r e) (hW : ∀ e, W (ix2 0 e) = w e) :
    (k0_pay36 (k0_pay28 (k0_pay27 Y)) (k0_pay29 (k0_pay26 Y) (k0_pay27 Y)) W (k0_pay34 d G)) (ix2 r e) = headNorm (dv r) (y r) (g r) w e := by
  unfold headNorm Merge.normGrad Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem gain1 (e : Fin 256) (hd : ∀ r e, d (ix2 r ⟨256 + e.val, by omega⟩) = dv r e) (hY : ∀ r e, Y (ix2 r e) = y r e) (hG : ∀ r e, G (ix2 r e) = g r e) :
    (k0_pay35 d (k0_pay26 Y) (k0_pay27 Y) G A) (ix2 0 e) = A (ix2 0 e) + ∑ r : Fin 512, headGain (dv r) (y r) (g r) e := by
  unfold headGain Merge.unit Merge.var Merge.cen Silu.sg
  simp only [← hd, ← hY, ← hG]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem swish2 (r : Fin 512) (e : Fin 256) (hd : ∀ r e, d (ix2 r ⟨512 + e.val, by omega⟩) = dv r e) (hY : ∀ r e, Y (ix2 r e) = y r e) (hG : ∀ r e, G (ix2 r e) = g r e) (hW : ∀ e, W (ix2 0 e) = w e) :
    (k0_pay44 d (k0_pay39 Y) (k0_pay40 G) k0_pay41 W) (ix2 r e) = headSwish (dv r) (y r) (g r) w e := by
  unfold headSwish Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem norm2 (r : Fin 512) (e : Fin 256) (hd : ∀ r e, d (ix2 r ⟨512 + e.val, by omega⟩) = dv r e) (hY : ∀ r e, Y (ix2 r e) = y r e) (hG : ∀ r e, G (ix2 r e) = g r e) (hW : ∀ e, W (ix2 0 e) = w e) :
    (k0_pay51 (k0_pay38 Y) (k0_pay39 Y) (k0_pay48 d (k0_pay40 G) k0_pay41 W) (k0_pay49 d (k0_pay39 Y) (k0_pay40 G) k0_pay41 W) k0_pay50) (ix2 r e) = headNorm (dv r) (y r) (g r) w e := by
  unfold headNorm Merge.normGrad Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem gain2 (e : Fin 256) (hd : ∀ r e, d (ix2 r ⟨512 + e.val, by omega⟩) = dv r e) (hY : ∀ r e, Y (ix2 r e) = y r e) (hG : ∀ r e, G (ix2 r e) = g r e) :
    (k0_pay46 d (k0_pay39 Y) (k0_pay40 G) k0_pay41 A) (ix2 0 e) = A (ix2 0 e) + ∑ r : Fin 512, headGain (dv r) (y r) (g r) e := by
  unfold headGain Merge.unit Merge.var Merge.cen Silu.sg
  simp only [← hd, ← hY, ← hG]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem swish3 (r : Fin 512) (e : Fin 256) (hd : ∀ r e, d (ix2 r ⟨768 + e.val, by omega⟩) = dv r e) (hY : ∀ r e, Y (ix2 r e) = y r e) (hG : ∀ r e, G (ix2 r e) = g r e) (hW : ∀ e, W (ix2 0 e) = w e) :
    (k0_pay60 (k0_pay55 G) (k0_pay56 G) (k0_pay59 d Y W)) (ix2 r e) = headSwish (dv r) (y r) (g r) w e := by
  unfold headSwish Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem norm3 (r : Fin 512) (e : Fin 256) (hd : ∀ r e, d (ix2 r ⟨768 + e.val, by omega⟩) = dv r e) (hY : ∀ r e, Y (ix2 r e) = y r e) (hG : ∀ r e, G (ix2 r e) = g r e) (hW : ∀ e, W (ix2 0 e) = w e) :
    (k0_pay63 (k0_pay53 Y) (k0_pay54 Y) (k0_pay57 G) (k0_pay58 d) W) (ix2 r e) = headNorm (dv r) (y r) (g r) w e := by
  unfold headNorm Merge.normGrad Merge.unit Merge.var Merge.cen Silu.sg
  simp only [← hd, ← hY, ← hG, ← hW]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
theorem gain3 (e : Fin 256) (hd : ∀ r e, d (ix2 r ⟨768 + e.val, by omega⟩) = dv r e) (hY : ∀ r e, Y (ix2 r e) = y r e) (hG : ∀ r e, G (ix2 r e) = g r e) :
    (k0_pay62 (k0_pay54 Y) (k0_pay57 G) (k0_pay58 d) A) (ix2 0 e) = A (ix2 0 e) + ∑ r : Fin 512, headGain (dv r) (y r) (g r) e := by
  unfold headGain Merge.unit Merge.var Merge.cen Silu.sg
  simp only [← hd, ← hY, ← hG]
  pointwise [k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63]
end Heads

/-! ## The other terms -/

section Terms
variable (x0 : Vec Ideal S512x1024 .f32) (x1 x2 x3 x4 x5 x6 : Vec Ideal S512x1024 .bf16) (x7 : Vec Ideal S1x1024 .f32)
  (x8 x9 x10 : Vec Ideal S1024x1024 .bf16) (d b : FVec Ideal S512x1024 .f32) (A : Merge.Args) (ρ : Fin 512 → Fin 8192)

theorem dm_of (r : Fin 512) (k : Fin 1024) (h0 : ∀ k, x0 (ix2 r k) = A.DX (ρ r) k) (h10 : ∀ j k, x10 (ix2 j k) = A.WO j k) :
    k0_pay2 (F := Ideal) x0 x10 (ix2 r k) = A.dm (ρ r) k := by
  unfold Merge.Args.dm
  simp only [← h0, ← h10]
  pointwise [k0_pay2]
theorem ba_of (r : Fin 512) (k : Fin 1024) (h3 : ∀ k, x3 (ix2 r k) = A.u (ρ r) k) (h8 : ∀ j k, x8 (ix2 j k) = A.WR j k) :
    k0_pay3 (F := Ideal) x3 x8 (ix2 r k) = A.ba (ρ r) k := by
  unfold Merge.Args.ba
  simp only [← h3, ← h8]
  pointwise [k0_pay3]
theorem bb_of (r : Fin 512) (k : Fin 1024) (h4 : ∀ k, x4 (ix2 r k) = A.AY (ρ r) k) (h9 : ∀ j k, x9 (ix2 j k) = A.WA j k) :
    k0_pay4 (F := Ideal) x4 x9 (ix2 r k) = A.bb (ρ r) k := by
  unfold Merge.Args.bb
  simp only [← h4, ← h9]
  pointwise [k0_pay4]
theorem dga_of (r : Fin 512) (k : Fin 1024) (hd : d (ix2 r k) = A.dm (ρ r) k) (hb : b (ix2 r k) = A.ba (ρ r) k) (h1 : x1 (ix2 r k) = A.GA (ρ r) k) :
    k0_pay9 (F := Ideal) d b (k0_pay5 x1) (ix2 r k) = A.dga (ρ r) k := by
  unfold Merge.Args.dga Silu.sg
  simp only [← hd, ← hb, ← h1]
  pointwise [k0_pay9, k0_pay8, k0_pay5]
theorem dgb_of (r : Fin 512) (k : Fin 1024) (hd : d (ix2 r k) = A.dm (ρ r) k) (hb : b (ix2 r k) = A.bb (ρ r) k) (h2 : x2 (ix2 r k) = A.GB (ρ r) k) :
    k0_pay10 (F := Ideal) d b (k0_pay6 x2) k0_pay7 (ix2 r k) = A.dgb (ρ r) k := by
  unfold Merge.Args.dgb Silu.sg
  simp only [← hd, ← hb, ← h2]
  pointwise [k0_pay10, k0_pay8, k0_pay7, k0_pay6]
theorem dba_of (r : Fin 512) (k : Fin 1024) (hd : d (ix2 r k) = A.dm (ρ r) k) (h1 : x1 (ix2 r k) = A.GA (ρ r) k) :
    k0_pay11 (F := Ideal) d (k0_pay5 x1) (ix2 r k) = A.dba (ρ r) k := by
  unfold Merge.Args.dba Silu.sg
  simp only [← hd, ← h1]
  pointwise [k0_pay11, k0_pay5]
theorem dbb_of (r : Fin 512) (k : Fin 1024) (hd : d (ix2 r k) = A.dm (ρ r) k) (h2 : x2 (ix2 r k) = A.GB (ρ r) k) :
    k0_pay12 (F := Ideal) d (k0_pay6 x2) k0_pay7 (ix2 r k) = A.dbb (ρ r) k := by
  unfold Merge.Args.dbb Silu.sg
  simp only [← hd, ← h2]
  pointwise [k0_pay12, k0_pay8, k0_pay7, k0_pay6]
theorem day_of (r : Fin 512) (k : Fin 1024) (hd : ∀ k, d (ix2 r k) = A.dm (ρ r) k) (h2 : ∀ k, x2 (ix2 r k) = A.GB (ρ r) k)
    (h9 : ∀ j k, x9 (ix2 j k) = A.WA j k) : k0_pay13 (F := Ideal) d (k0_pay6 x2) k0_pay7 x9 (ix2 r k) = A.day (ρ r) k := by
  unfold Merge.Args.day Merge.Args.dbb Silu.sg
  simp only [← hd, ← h2, ← h9]
  pointwise [k0_pay13, k0_pay12, k0_pay8, k0_pay7, k0_pay6]
theorem du_of (r : Fin 512) (k : Fin 1024) (hd : ∀ k, d (ix2 r k) = A.dm (ρ r) k) (h1 : ∀ k, x1 (ix2 r k) = A.GA (ρ r) k)
    (h8 : ∀ j k, x8 (ix2 j k) = A.WR j k) : k0_pay14 (F := Ideal) d (k0_pay5 x1) x8 (ix2 r k) = A.du (ρ r) k := by
  unfold Merge.Args.du Merge.Args.dba Silu.sg
  simp only [← hd, ← h1, ← h8]
  pointwise [k0_pay14, k0_pay11, k0_pay5]
theorem zero17_apply (k : Fin 1024) : k0_pay1 (F := Ideal) (ix2 0 k) = (0 : EReal) := by
  pointwise [k0_pay1]
end Terms
end Cert.MergeKernelIdeal.Step
end
-- ==== Proof.MergeRun.lean ====
module
public import proofs.«01_k».proof.Proof.MergeTerms
public import Idealize.ShloMosaic.Lib.Pipeline.ValueKit.Tiles
/-! The seven arrays the merge's gradient kernel leaves, each entry by the kernel's formulas over the launch arguments. -/
@[expose] public section
set_option maxRecDepth 16384
noncomputable section
namespace Cert.MergeKernelIdeal.Step
open Cert.MergeKernelIdeal Cert.MergeKernelIdeal.Gen Cert.MergeKernelIdeal.Value Idealize.ShloMosaic Idealize.ShloMosaic.TcCoe Idealize.SL.Sem
open Idealize.ShloMosaic.Pipeline (Dat)

theorem two_coords {a b : ℕ} (j : (⟨2, ![a, b]⟩ : Shape).Idx) : j = ix2 (j 0) (j 1) := funext (fun i => match i with
  | ⟨0, _⟩ => rfl
  | ⟨1, _⟩ => rfl)
theorem one_coord {b : ℕ} (j : (⟨2, ![1, b]⟩ : Shape).Idx) : j = ix2 0 (j 1) := funext (fun i => match i with
  | ⟨0, _⟩ => Fin.fin_one_eq_zero _
  | ⟨1, _⟩ => rfl)

/-! ## The column slices -/

theorem mem_slice512 (h : Fin 4) (r : Fin 512) (k : Fin 1024) (hk : Merge.head k = h) (inb) :
    (ix2 r k : S512x1024.Idx) ∈ (Rect.unit ![0, h.val * 256] ![512, 256] inb : Rect S512x1024).set := by
  rw [Rect.mem_set_unit]
  have hk' : k.val / 256 = h.val := congrArg Fin.val hk
  intro a
  match a with
  | ⟨0, _⟩ => show 0 ≤ r.val ∧ r.val < 0 + 512; omega
  | ⟨1, _⟩ => show h.val * 256 ≤ k.val ∧ k.val < h.val * 256 + 256; omega
theorem covered512 {Val : EltTy → Type} {e : EltTy} (r : Fin 512) (k : Fin 1024) (f3 f2 f1 f0) :
    ∃ p ∈ ([⟨Rect.unit ![0, 768] ![512, 256] inb_S512x1024_S512x256_0_768, f3⟩, ⟨Rect.unit ![0, 512] ![512, 256] inb_S512x1024_S512x256_0_512, f2⟩,
      ⟨Rect.unit ![0, 256] ![512, 256] inb_S512x1024_S512x256_0_256, f1⟩, ⟨Rect.unit ![0, 0] ![512, 256] inb_S512x1024_S512x256_0_0, f0⟩] : List (View.Piece Val S512x1024 e)), (ix2 r k : S512x1024.Idx) ∈ p.1.set := by
  have hk (h : Fin 4) (hh : Merge.head k = h) := mem_slice512 h r k hh
  generalize Merge.head k = h at hk
  match h with
  | 3 => exact ⟨_, List.mem_cons_self, hk 3 rfl inb_S512x1024_S512x256_0_768⟩
  | 2 => exact ⟨_, List.mem_cons_of_mem _ List.mem_cons_self, hk 2 rfl inb_S512x1024_S512x256_0_512⟩
  | 1 => exact ⟨_, List.mem_cons_of_mem _ (List.mem_cons_of_mem _ List.mem_cons_self), hk 1 rfl inb_S512x1024_S512x256_0_256⟩
  | 0 => exact ⟨_, List.mem_cons_of_mem _ (List.mem_cons_of_mem _ (List.mem_cons_of_mem _ List.mem_cons_self)), hk 0 rfl inb_S512x1024_S512x256_0_0⟩
theorem mem_slice1 (h : Fin 4) (r : Fin 1) (k : Fin 1024) (hk : Merge.head k = h) (inb) :
    (ix2 r k : S1x1024.Idx) ∈ (Rect.unit ![0, h.val * 256] ![1, 256] inb : Rect S1x1024).set := by
  rw [Rect.mem_set_unit]
  have hk' : k.val / 256 = h.val := congrArg Fin.val hk
  intro a
  match a with
  | ⟨0, _⟩ => show 0 ≤ r.val ∧ r.val < 0 + 1; omega
  | ⟨1, _⟩ => show h.val * 256 ≤ k.val ∧ k.val < h.val * 256 + 256; omega
theorem covered1 {Val : EltTy → Type} {e : EltTy} (r : Fin 1) (k : Fin 1024) (f3 f2 f1 f0) :
    ∃ p ∈ ([⟨Rect.unit ![0, 768] ![1, 256] inb_S1x1024_S1x256_0_768, f3⟩, ⟨Rect.unit ![0, 512] ![1, 256] inb_S1x1024_S1x256_0_512, f2⟩,
      ⟨Rect.unit ![0, 256] ![1, 256] inb_S1x1024_S1x256_0_256, f1⟩, ⟨Rect.unit ![0, 0] ![1, 256] inb_S1x1024_S1x256_0_0, f0⟩] : List (View.Piece Val S1x1024 e)), (ix2 r k : S1x1024.Idx) ∈ p.1.set := by
  have hk (h : Fin 4) (hh : Merge.head k = h) := mem_slice1 h r k hh
  generalize Merge.head k = h at hk
  match h with
  | 3 => exact ⟨_, List.mem_cons_self, hk 3 rfl inb_S1x1024_S1x256_0_768⟩
  | 2 => exact ⟨_, List.mem_cons_of_mem _ List.mem_cons_self, hk 2 rfl inb_S1x1024_S1x256_0_512⟩
  | 1 => exact ⟨_, List.mem_cons_of_mem _ (List.mem_cons_of_mem _ List.mem_cons_self), hk 1 rfl inb_S1x1024_S1x256_0_256⟩
  | 0 => exact ⟨_, List.mem_cons_of_mem _ (List.mem_cons_of_mem _ (List.mem_cons_of_mem _ List.mem_cons_self)), hk 0 rfl inb_S1x1024_S1x256_0_0⟩

/-- Where a slice's entry lies in the block. -/
theorem emb_row (h : Fin 4) (x : (⟨2, ![512, 256]⟩ : Shape).Idx) (inb) :
    x 0 = (Rect.unit ![0, h.val * 256] ![512, 256] inb : Rect S512x1024).emb x 0 := Fin.ext (by show (x 0).val = 0 + 1 * (x 0).val; omega)
theorem emb_col (h : Fin 4) (x : (⟨2, ![512, 256]⟩ : Shape).Idx) (inb) :
    Merge.col h (x 1) = (Rect.unit ![0, h.val * 256] ![512, 256] inb : Rect S512x1024).emb x 1 :=
  Fin.ext (by show h.val * 256 + (x 1).val = h.val * 256 + 1 * (x 1).val; omega)
theorem emb_col1 (h : Fin 4) (x : (⟨2, ![1, 256]⟩ : Shape).Idx) (inb) :
    Merge.col h (x 1) = (Rect.unit ![0, h.val * 256] ![1, 256] inb : Rect S1x1024).emb x 1 :=
  Fin.ext (by show h.val * 256 + (x 1).val = h.val * 256 + 1 * (x 1).val; omega)

section Slices
variable (d : FVec Ideal S512x1024 .f32) (x5 x6 : Vec Ideal S512x1024 .bf16) (x7 a : Vec Ideal S1x1024 .f32) (A : Merge.Args) (ρ : Fin 512 → Fin 8192)

theorem ld_col (X : Vec Ideal S512x1024 .bf16) (h : Fin 4) (r : Fin 512) (e : Fin 256) (inb) :
    View.ld X (Rect.unit ![0, h.val * 256] ![512, 256] inb) (ix2 r e) = X (ix2 r (Merge.col h e)) :=
  View.ld_unit_apply_of X _ _ _ _ _ fun b => match b with
    | ⟨0, _⟩ => (Nat.zero_add _).symm
    | ⟨1, _⟩ => rfl
theorem ld_base (h : Fin 4) (e : Fin 256) (inb) :
    View.ld a (Rect.unit ![0, h.val * 256] ![1, 256] inb) (ix2 0 e) = a (ix2 0 (Merge.col h e)) :=
  View.ld_unit_apply_of a _ _ _ _ _ fun b => match b with
    | ⟨0, _⟩ => rfl
    | ⟨1, _⟩ => rfl
theorem ld_retention (h6 : ∀ r k, x6 (ix2 r k) = A.RY (ρ r) (Merge.head k) (Merge.off k)) (h : Fin 4) (r : Fin 512) (e : Fin 256) (inb) :
    View.ld x6 (Rect.unit ![0, h.val * 256] ![512, 256] inb) (ix2 r e) = A.RY (ρ r) h e := by
  rw [ld_col, h6, Merge.head_col, Merge.off_col]
theorem ld_swish (h5 : ∀ r k, x5 (ix2 r k) = A.RG (ρ r) k) (h : Fin 4) (r : Fin 512) (e : Fin 256) (inb) :
    View.ld x5 (Rect.unit ![0, h.val * 256] ![512, 256] inb) (ix2 r e) = A.RG (ρ r) (Merge.col h e) := by
  rw [ld_col, h5]
theorem ld_gain (h7 : ∀ k, x7 (ix2 0 k) = A.G k) (h : Fin 4) (e : Fin 256) (inb) :
    View.ld x7 (Rect.unit ![0, h.val * 256] ![1, 256] inb) (ix2 0 e) = A.G (Merge.col h e) := by
  rw [ld_base, h7]

/-- A head's formulas are the row's at the head's columns. -/
theorem swish_head (s : Fin 8192) (h : Fin 4) (e : Fin 256) :
    headSwish (fun e => A.du s (Merge.col h e)) (A.RY s h) (fun e => A.RG s (Merge.col h e)) (fun e => A.G (Merge.col h e)) e = A.drg s (Merge.col h e) := by
  unfold headSwish Merge.Args.drg Merge.Args.yn
  rw [Merge.head_col, Merge.off_col]
theorem norm_head (s : Fin 8192) (h : Fin 4) (e : Fin 256) :
    headNorm (fun e => A.du s (Merge.col h e)) (A.RY s h) (fun e => A.RG s (Merge.col h e)) (fun e => A.G (Merge.col h e)) e = A.dry s (Merge.col h e) := by
  unfold headNorm Merge.Args.dry Merge.Args.dyg
  rw [Merge.head_col, Merge.off_col]
/-- The gain's row: what was there plus the rows' shares. -/
def gainOf (k : Fin 1024) : EReal := a (ix2 0 k) + ∑ r : Fin 512, A.dg (ρ r) k
theorem share_head (h : Fin 4) (e : Fin 256) (a' : EReal) (ha : a' = a (ix2 0 (Merge.col h e))) :
    a' + ∑ r : Fin 512, headGain (fun e => A.du (ρ r) (Merge.col h e)) (A.RY (ρ r) h) (fun e => A.RG (ρ r) (Merge.col h e)) e = gainOf a A ρ (Merge.col h e) := by
  unfold gainOf headGain Merge.Args.dg Merge.Args.dyg Merge.Args.yn
  rw [Merge.head_col, Merge.off_col, ha]

theorem swish_canon (hd : ∀ r k, d (ix2 r k) = A.du (ρ r) k) (h5 : ∀ r k, x5 (ix2 r k) = A.RG (ρ r) k)
    (h6 : ∀ r k, x6 (ix2 r k) = A.RY (ρ r) (Merge.head k) (Merge.off k)) (h7 : ∀ k, x7 (ix2 0 k) = A.G k) (r : Fin 512) (k : Fin 1024) : View.canon (piecesSwish d x5 x6 x7) (ix2 r k) = A.drg (ρ r) k := by
  have h : View.PiecesOf (fun i : S512x1024.Idx => A.drg (ρ (i 0)) (i 1)) (piecesSwish d x5 x6 x7) := ⟨fun x => (congrArg _ (two_coords x)).trans ((swish3 d _ _ _ _ _ _ _ (x 0) (x 1) (fun r e => (congrArg d (congrArg (ix2 r) (Fin.ext (by show 768 + e.val = 3 * 256 + e.val; omega)))).trans (hd r (Merge.col 3 e))) (fun r e => ld_retention x6 A ρ h6 3 r e _) (fun r e => ld_swish x5 A ρ h5 3 r e _) (fun e => ld_gain x7 A h7 3 e _)).trans
      ((swish_head A (ρ (x 0)) 3 (x 1)).trans (congrArg₂ (fun r k => A.drg (ρ r) k) (emb_row 3 x inb_S512x1024_S512x256_0_768) (emb_col 3 x inb_S512x1024_S512x256_0_768)))),
    fun x => (congrArg _ (two_coords x)).trans ((swish2 d _ _ _ _ _ _ _ (x 0) (x 1) (fun r e => (congrArg d (congrArg (ix2 r) (Fin.ext (by show 512 + e.val = 2 * 256 + e.val; omega)))).trans (hd r (Merge.col 2 e))) (fun r e => ld_retention x6 A ρ h6 2 r e _) (fun r e => ld_swish x5 A ρ h5 2 r e _) (fun e => ld_gain x7 A h7 2 e _)).trans
      ((swish_head A (ρ (x 0)) 2 (x 1)).trans (congrArg₂ (fun r k => A.drg (ρ r) k) (emb_row 2 x inb_S512x1024_S512x256_0_512) (emb_col 2 x inb_S512x1024_S512x256_0_512)))),
    fun x => (congrArg _ (two_coords x)).trans ((swish1 d _ _ _ _ _ _ _ (x 0) (x 1) (fun r e => (congrArg d (congrArg (ix2 r) (Fin.ext (by show 256 + e.val = 1 * 256 + e.val; omega)))).trans (hd r (Merge.col 1 e))) (fun r e => ld_retention x6 A ρ h6 1 r e _) (fun r e => ld_swish x5 A ρ h5 1 r e _) (fun e => ld_gain x7 A h7 1 e _)).trans
      ((swish_head A (ρ (x 0)) 1 (x 1)).trans (congrArg₂ (fun r k => A.drg (ρ r) k) (emb_row 1 x inb_S512x1024_S512x256_0_256) (emb_col 1 x inb_S512x1024_S512x256_0_256)))),
    fun x => (congrArg _ (two_coords x)).trans ((swish0 d _ _ _ _ _ _ _ (x 0) (x 1) (fun r e => (congrArg d (congrArg (ix2 r) (Fin.ext (by show e.val = 0 * 256 + e.val; omega)))).trans (hd r (Merge.col 0 e))) (fun r e => ld_retention x6 A ρ h6 0 r e _) (fun r e => ld_swish x5 A ρ h5 0 r e _) (fun e => ld_gain x7 A h7 0 e _)).trans
      ((swish_head A (ρ (x 0)) 0 (x 1)).trans (congrArg₂ (fun r k => A.drg (ρ r) k) (emb_row 0 x inb_S512x1024_S512x256_0_0) (emb_col 0 x inb_S512x1024_S512x256_0_0)))), trivial⟩
  rw [← List.append_nil (piecesSwish d x5 x6 x7)]
  exact View.canon_append_of_piecesOf _ [] _ h (ix2 r k) (covered512 r k _ _ _ _)
theorem norm_canon (hd : ∀ r k, d (ix2 r k) = A.du (ρ r) k) (h5 : ∀ r k, x5 (ix2 r k) = A.RG (ρ r) k)
    (h6 : ∀ r k, x6 (ix2 r k) = A.RY (ρ r) (Merge.head k) (Merge.off k)) (h7 : ∀ k, x7 (ix2 0 k) = A.G k) (r : Fin 512) (k : Fin 1024) : View.canon (piecesNorm d x5 x6 x7) (ix2 r k) = A.dry (ρ r) k := by
  have h : View.PiecesOf (fun i : S512x1024.Idx => A.dry (ρ (i 0)) (i 1)) (piecesNorm d x5 x6 x7) := ⟨fun x => (congrArg _ (two_coords x)).trans ((norm3 d _ _ _ _ _ _ _ (x 0) (x 1) (fun r e => (congrArg d (congrArg (ix2 r) (Fin.ext (by show 768 + e.val = 3 * 256 + e.val; omega)))).trans (hd r (Merge.col 3 e))) (fun r e => ld_retention x6 A ρ h6 3 r e _) (fun r e => ld_swish x5 A ρ h5 3 r e _) (fun e => ld_gain x7 A h7 3 e _)).trans
      ((norm_head A (ρ (x 0)) 3 (x 1)).trans (congrArg₂ (fun r k => A.dry (ρ r) k) (emb_row 3 x inb_S512x1024_S512x256_0_768) (emb_col 3 x inb_S512x1024_S512x256_0_768)))),
    fun x => (congrArg _ (two_coords x)).trans ((norm2 d _ _ _ _ _ _ _ (x 0) (x 1) (fun r e => (congrArg d (congrArg (ix2 r) (Fin.ext (by show 512 + e.val = 2 * 256 + e.val; omega)))).trans (hd r (Merge.col 2 e))) (fun r e => ld_retention x6 A ρ h6 2 r e _) (fun r e => ld_swish x5 A ρ h5 2 r e _) (fun e => ld_gain x7 A h7 2 e _)).trans
      ((norm_head A (ρ (x 0)) 2 (x 1)).trans (congrArg₂ (fun r k => A.dry (ρ r) k) (emb_row 2 x inb_S512x1024_S512x256_0_512) (emb_col 2 x inb_S512x1024_S512x256_0_512)))),
    fun x => (congrArg _ (two_coords x)).trans ((norm1 d _ _ _ _ _ _ _ (x 0) (x 1) (fun r e => (congrArg d (congrArg (ix2 r) (Fin.ext (by show 256 + e.val = 1 * 256 + e.val; omega)))).trans (hd r (Merge.col 1 e))) (fun r e => ld_retention x6 A ρ h6 1 r e _) (fun r e => ld_swish x5 A ρ h5 1 r e _) (fun e => ld_gain x7 A h7 1 e _)).trans
      ((norm_head A (ρ (x 0)) 1 (x 1)).trans (congrArg₂ (fun r k => A.dry (ρ r) k) (emb_row 1 x inb_S512x1024_S512x256_0_256) (emb_col 1 x inb_S512x1024_S512x256_0_256)))),
    fun x => (congrArg _ (two_coords x)).trans ((norm0 d _ _ _ _ _ _ _ (x 0) (x 1) (fun r e => (congrArg d (congrArg (ix2 r) (Fin.ext (by show e.val = 0 * 256 + e.val; omega)))).trans (hd r (Merge.col 0 e))) (fun r e => ld_retention x6 A ρ h6 0 r e _) (fun r e => ld_swish x5 A ρ h5 0 r e _) (fun e => ld_gain x7 A h7 0 e _)).trans
      ((norm_head A (ρ (x 0)) 0 (x 1)).trans (congrArg₂ (fun r k => A.dry (ρ r) k) (emb_row 0 x inb_S512x1024_S512x256_0_0) (emb_col 0 x inb_S512x1024_S512x256_0_0)))), trivial⟩
  rw [← List.append_nil (piecesNorm d x5 x6 x7)]
  exact View.canon_append_of_piecesOf _ [] _ h (ix2 r k) (covered512 r k _ _ _ _)
theorem gain_canon (hd : ∀ r k, d (ix2 r k) = A.du (ρ r) k) (h5 : ∀ r k, x5 (ix2 r k) = A.RG (ρ r) k)
    (h6 : ∀ r k, x6 (ix2 r k) = A.RY (ρ r) (Merge.head k) (Merge.off k)) (L) (k : Fin 1024) : View.canon (piecesGain d x5 x6 a ++ L) (ix2 0 k) = gainOf a A ρ k := by
  have h : View.PiecesOf (fun i : S1x1024.Idx => gainOf a A ρ (i 1)) (piecesGain d x5 x6 a) := ⟨fun x => (congrArg _ (one_coord x)).trans ((gain3 d _ _ (View.ld a (Rect.unit ![0, 768] ![1, 256] inb_S1x1024_S1x256_0_768)) _ _ _ (x 1) (fun r e => (congrArg d (congrArg (ix2 r) (Fin.ext (by show 768 + e.val = 3 * 256 + e.val; omega)))).trans (hd r (Merge.col 3 e))) (fun r e => ld_retention x6 A ρ h6 3 r e _) (fun r e => ld_swish x5 A ρ h5 3 r e _)).trans
      ((share_head a A ρ 3 (x 1) _ (ld_base a 3 (x 1) inb_S1x1024_S1x256_0_768)).trans (congrArg (gainOf a A ρ) (emb_col1 3 x inb_S1x1024_S1x256_0_768)))),
    fun x => (congrArg _ (one_coord x)).trans ((gain2 d _ _ (View.ld a (Rect.unit ![0, 512] ![1, 256] inb_S1x1024_S1x256_0_512)) _ _ _ (x 1) (fun r e => (congrArg d (congrArg (ix2 r) (Fin.ext (by show 512 + e.val = 2 * 256 + e.val; omega)))).trans (hd r (Merge.col 2 e))) (fun r e => ld_retention x6 A ρ h6 2 r e _) (fun r e => ld_swish x5 A ρ h5 2 r e _)).trans
      ((share_head a A ρ 2 (x 1) _ (ld_base a 2 (x 1) inb_S1x1024_S1x256_0_512)).trans (congrArg (gainOf a A ρ) (emb_col1 2 x inb_S1x1024_S1x256_0_512)))),
    fun x => (congrArg _ (one_coord x)).trans ((gain1 d _ _ (View.ld a (Rect.unit ![0, 256] ![1, 256] inb_S1x1024_S1x256_0_256)) _ _ _ (x 1) (fun r e => (congrArg d (congrArg (ix2 r) (Fin.ext (by show 256 + e.val = 1 * 256 + e.val; omega)))).trans (hd r (Merge.col 1 e))) (fun r e => ld_retention x6 A ρ h6 1 r e _) (fun r e => ld_swish x5 A ρ h5 1 r e _)).trans
      ((share_head a A ρ 1 (x 1) _ (ld_base a 1 (x 1) inb_S1x1024_S1x256_0_256)).trans (congrArg (gainOf a A ρ) (emb_col1 1 x inb_S1x1024_S1x256_0_256)))),
    fun x => (congrArg _ (one_coord x)).trans ((gain0 d _ _ (View.ld a (Rect.unit ![0, 0] ![1, 256] inb_S1x1024_S1x256_0_0)) _ _ _ (x 1) (fun r e => (congrArg d (congrArg (ix2 r) (Fin.ext (by show e.val = 0 * 256 + e.val; omega)))).trans (hd r (Merge.col 0 e))) (fun r e => ld_retention x6 A ρ h6 0 r e _) (fun r e => ld_swish x5 A ρ h5 0 r e _)).trans
      ((share_head a A ρ 0 (x 1) _ (ld_base a 0 (x 1) inb_S1x1024_S1x256_0_0)).trans (congrArg (gainOf a A ρ) (emb_col1 0 x inb_S1x1024_S1x256_0_0)))), trivial⟩
  exact View.canon_append_of_piecesOf _ L _ h (ix2 0 k) (covered1 0 k _ _ _ _)
end Slices

/-- The two gates' gradients side by side. -/
def gates (A : Merge.Args) (s : Fin 8192) (k : Fin 2048) : EReal :=
  if h : k.val < 1024 then A.dga s ⟨k.val, h⟩ else A.dgb s ⟨k.val - 1024, by omega⟩

theorem gates_canon (a b : FVec Ideal S512x1024 .bf16) (A : Merge.Args) (ρ : Fin 512 → Fin 8192) (ha : ∀ r k, a (ix2 r k) = A.dga (ρ r) k)
    (hb : ∀ r k, b (ix2 r k) = A.dgb (ρ r) k) (r : Fin 512) (k : Fin 2048) : View.canon (piecesGate a b) (ix2 r k) = gates A (ρ r) k := by
  have h : View.PiecesOf (fun i : S512x2048.Idx => gates A (ρ (i 0)) (i 1)) (piecesGate a b) := by
    refine ⟨fun (x : (⟨2, ![512, 1024]⟩ : Shape).Idx) => ?_, fun (x : (⟨2, ![512, 1024]⟩ : Shape).Idx) => ?_, trivial⟩
    · have e0 : (Rect.unit ![0, 1024] ![512, 1024] inb_S512x2048_S512x1024_0_1024 : Rect S512x2048).emb x 0 = x 0 :=
        Fin.ext (by show 0 + 1 * (x 0).val = (x 0).val; omega)
      have e1 : ((Rect.unit ![0, 1024] ![512, 1024] inb_S512x2048_S512x1024_0_1024 : Rect S512x2048).emb x 1).val = 1024 + (x 1).val := by
        show 1024 + 1 * (x 1).val = _; omega
      refine (congrArg b (two_coords x)).trans ((hb (x 0) (x 1)).trans ?_)
      dsimp only
      rw [e0]
      unfold gates
      rw [dif_neg (by rw [e1]; omega)]
      exact congrArg _ (Fin.ext (by show (x 1).val = _ - 1024; rw [e1]; omega))
    · have e0 : (Rect.unit ![0, 0] ![512, 1024] inb_S512x2048_S512x1024_0_0 : Rect S512x2048).emb x 0 = x 0 :=
        Fin.ext (by show 0 + 1 * (x 0).val = (x 0).val; omega)
      have e1 : ((Rect.unit ![0, 0] ![512, 1024] inb_S512x2048_S512x1024_0_0 : Rect S512x2048).emb x 1).val = (x 1).val := by
        show 0 + 1 * (x 1).val = _; omega
      have hx : (x 1).val < 1024 := (x 1).isLt
      refine (congrArg a (two_coords x)).trans ((ha (x 0) (x 1)).trans ?_)
      dsimp only
      rw [e0]
      unfold gates
      rw [dif_pos (by rw [e1]; exact hx)]
      exact congrArg _ (Fin.ext e1.symm)
  rw [← List.append_nil (piecesGate a b)]
  refine View.canon_append_of_piecesOf _ [] _ h (ix2 r k) ?_
  by_cases hk : k.val < 1024
  · refine ⟨_, List.mem_cons_of_mem _ List.mem_cons_self, ?_⟩
    rw [Rect.mem_set_unit]
    intro b
    match b with
    | ⟨0, _⟩ => show 0 ≤ r.val ∧ r.val < 0 + 512; omega
    | ⟨1, _⟩ => show 0 ≤ k.val ∧ k.val < 0 + 1024; omega
  · refine ⟨_, List.mem_cons_self, ?_⟩
    rw [Rect.mem_set_unit]
    intro b
    match b with
    | ⟨0, _⟩ => show 0 ≤ r.val ∧ r.val < 0 + 512; omega
    | ⟨1, _⟩ => show 1024 ≤ k.val ∧ k.val < 1024 + 1024; omega

variable (m : (ℓ : Loc nD τ sig) → Buf (Elt Ideal) ℓ) (c : Dev nD)

/-! ## The blocks, by the arguments -/

section Entries
variable (t : Fin cfg0.N)
theorem entry0 (r : Fin 512) (k : Fin 1024) : iblk m c 0 t (ix2 r k) = (args m c).DX (row t r) k := (blk0 m c t r k).trans (V_v24 m c _ k)
theorem entry1 (r : Fin 512) (k : Fin 1024) : iblk m c 1 t (ix2 r k) = (args m c).GA (row t r) k := (blk1 m c t r k).trans (V_v26 m c _ k)
theorem entry2 (r : Fin 512) (k : Fin 1024) : iblk m c 2 t (ix2 r k) = (args m c).GB (row t r) k := (blk2 m c t r k).trans (V_v28 m c _ k)
theorem entry3 (r : Fin 512) (k : Fin 1024) : iblk m c 3 t (ix2 r k) = (args m c).u (row t r) k := (blk3 m c t r k).trans (V_v29 m c _ k)
theorem entry4 (r : Fin 512) (k : Fin 1024) : iblk m c 4 t (ix2 r k) = (args m c).AY (row t r) k := (blk4 m c t r k).trans (V_v31 m c _ k)
theorem entry5 (r : Fin 512) (k : Fin 1024) : iblk m c 5 t (ix2 r k) = (args m c).RG (row t r) k := (blk5 m c t r k).trans (V_v33 m c _ k)
theorem entry6 (r : Fin 512) (k : Fin 1024) : iblk m c 6 t (ix2 r k) = (args m c).RY (row t r) (Merge.head k) (Merge.off k) := (blk6 m c t r k).trans (V_v35 m c _ k)
theorem entry7 (k : Fin 1024) : iblk m c 7 t (ix2 0 k) = (args m c).G k := (blk7 m c t 0 k).trans (V_arg5 m c k)
theorem entry8 (j k : Fin 1024) : iblk m c 8 t (ix2 j k) = (args m c).WR j k := (blk8 m c t j k).trans (V_v37 m c j k)
theorem entry9 (j k : Fin 1024) : iblk m c 9 t (ix2 j k) = (args m c).WA j k := (blk9 m c t j k).trans (V_v39 m c j k)
theorem entry10 (j k : Fin 1024) : iblk m c 10 t (ix2 j k) = (args m c).WO j k := (blk10 m c t j k).trans (V_v41 m c j k)

theorem dm_blk (r : Fin 512) (k : Fin 1024) : k0_pay2 (F := Ideal) (iblk m c 0 t) (iblk m c 10 t) (ix2 r k) = (args m c).dm (row t r) k :=
  dm_of _ _ (args m c) (row t) r k (entry0 m c t r) (entry10 m c t)
theorem dga_blk (r : Fin 512) (k : Fin 1024) : k0_pay9 (F := Ideal) (k0_pay2 (iblk m c 0 t) (iblk m c 10 t)) (k0_pay3 (iblk m c 3 t) (iblk m c 8 t)) (k0_pay5 (iblk m c 1 t)) (ix2 r k) = (args m c).dga (row t r) k :=
  dga_of _ _ _ (args m c) (row t) r k (dm_blk m c t r k) (ba_of _ _ (args m c) (row t) r k (entry3 m c t r) (entry8 m c t)) (entry1 m c t r k)
theorem dgb_blk (r : Fin 512) (k : Fin 1024) : k0_pay10 (F := Ideal) (k0_pay2 (iblk m c 0 t) (iblk m c 10 t)) (k0_pay4 (iblk m c 4 t) (iblk m c 9 t)) (k0_pay6 (iblk m c 2 t)) k0_pay7 (ix2 r k) = (args m c).dgb (row t r) k :=
  dgb_of _ _ _ (args m c) (row t) r k (dm_blk m c t r k) (bb_of _ _ (args m c) (row t) r k (entry4 m c t r) (entry9 m c t)) (entry2 m c t r k)
theorem gates_blk (r : Fin 512) (k : Fin 2048) : View.canon (piecesGate (F := Ideal) (k0_pay9 (k0_pay2 (iblk m c 0 t) (iblk m c 10 t)) (k0_pay3 (iblk m c 3 t) (iblk m c 8 t)) (k0_pay5 (iblk m c 1 t)))
    (k0_pay10 (k0_pay2 (iblk m c 0 t) (iblk m c 10 t)) (k0_pay4 (iblk m c 4 t) (iblk m c 9 t)) (k0_pay6 (iblk m c 2 t)) k0_pay7)) (ix2 r k) = gates (args m c) (row t r) k :=
  gates_canon _ _ (args m c) (row t) (dga_blk m c t) (dgb_blk m c t) r k
theorem dba_blk (r : Fin 512) (k : Fin 1024) : k0_pay11 (F := Ideal) (k0_pay2 (iblk m c 0 t) (iblk m c 10 t)) (k0_pay5 (iblk m c 1 t)) (ix2 r k) = (args m c).dba (row t r) k :=
  dba_of _ _ (args m c) (row t) r k (dm_blk m c t r k) (entry1 m c t r k)
theorem dbb_blk (r : Fin 512) (k : Fin 1024) : k0_pay12 (F := Ideal) (k0_pay2 (iblk m c 0 t) (iblk m c 10 t)) (k0_pay6 (iblk m c 2 t)) k0_pay7 (ix2 r k) = (args m c).dbb (row t r) k :=
  dbb_of _ _ (args m c) (row t) r k (dm_blk m c t r k) (entry2 m c t r k)
theorem day_blk (r : Fin 512) (k : Fin 1024) : k0_pay13 (F := Ideal) (k0_pay2 (iblk m c 0 t) (iblk m c 10 t)) (k0_pay6 (iblk m c 2 t)) k0_pay7 (iblk m c 9 t) (ix2 r k) = (args m c).day (row t r) k :=
  day_of _ _ _ (args m c) (row t) r k (dm_blk m c t r) (entry2 m c t r) (entry9 m c t)
theorem du_blk (r : Fin 512) (k : Fin 1024) : k0_pay14 (F := Ideal) (k0_pay2 (iblk m c 0 t) (iblk m c 10 t)) (k0_pay5 (iblk m c 1 t)) (iblk m c 8 t) (ix2 r k) = (args m c).du (row t r) k :=
  du_of _ _ _ (args m c) (row t) r k (dm_blk m c t r) (entry1 m c t r) (entry8 m c t)
theorem drg_blk (r : Fin 512) (k : Fin 1024) : View.canon (piecesSwish (F := Ideal) (k0_pay14 (k0_pay2 (iblk m c 0 t) (iblk m c 10 t)) (k0_pay5 (iblk m c 1 t)) (iblk m c 8 t)) (iblk m c 5 t) (iblk m c 6 t) (iblk m c 7 t)) (ix2 r k) = (args m c).drg (row t r) k :=
  swish_canon _ _ _ _ (args m c) (row t) (du_blk m c t) (entry5 m c t) (entry6 m c t) (entry7 m c t) r k
theorem dry_blk (r : Fin 512) (k : Fin 1024) : View.canon (piecesNorm (F := Ideal) (k0_pay14 (k0_pay2 (iblk m c 0 t) (iblk m c 10 t)) (k0_pay5 (iblk m c 1 t)) (iblk m c 8 t)) (iblk m c 5 t) (iblk m c 6 t) (iblk m c 7 t)) (ix2 r k) = (args m c).dry (row t r) k :=
  norm_canon _ _ _ _ (args m c) (row t) (du_blk m c t) (entry5 m c t) (entry6 m c t) (entry7 m c t) r k
theorem dg_blk (a : Vec Ideal S1x1024 .f32) (L) (k : Fin 1024) : View.canon (piecesGain (F := Ideal) (k0_pay14 (k0_pay2 (iblk m c 0 t) (iblk m c 10 t)) (k0_pay5 (iblk m c 1 t)) (iblk m c 8 t)) (iblk m c 5 t) (iblk m c 6 t) a ++ L) (ix2 0 k)
    = a (ix2 0 k) + ∑ r : Fin 512, (args m c).dg (row t r) k :=
  gain_canon _ _ _ a (args m c) (row t) (du_blk m c t) (entry5 m c t) (entry6 m c t) L k
theorem dg_blk_nil (a : Vec Ideal S1x1024 .f32) (k : Fin 1024) : View.canon (piecesGain (F := Ideal) (k0_pay14 (k0_pay2 (iblk m c 0 t) (iblk m c 10 t)) (k0_pay5 (iblk m c 1 t)) (iblk m c 8 t)) (iblk m c 5 t) (iblk m c 6 t) a) (ix2 0 k)
    = a (ix2 0 k) + ∑ r : Fin 512, (args m c).dg (row t r) k :=
  (congrFun (congrArg View.canon (List.append_nil _).symm) _).trans (dg_blk m c t a [] k)
end Entries

/-! ## What the point before and the point leave -/

/-- Row `s`'s share of the gain's gradient. -/
def shareGain (k : Fin 1024) (s : Fin 8192) : EReal := (args m c).dg s k

theorem out11 (t : Fin cfg0.N) (r : Fin 512) (k : Fin 2048) : (outsAt0 m c t.val t.isLt).1 (ix2 r k) = gates (args m c) (row t r) k := by
  by_cases h0 : t.val % 16 = 0
  · rw [outsAt0_A m c t h0]; dsimp only; rw [out_A_11]; exact gates_blk m c t r k
  · rw [outsAt0_B m c t h0]; dsimp only; rw [out_B_11]; exact gates_blk m c t r k

theorem out12 (t : Fin cfg0.N) (r : Fin 512) (k : Fin 1024) : (outsAt0 m c t.val t.isLt).2.1 (ix2 r k) = (args m c).drg (row t r) k := by
  by_cases h0 : t.val % 16 = 0
  · rw [outsAt0_A m c t h0]; dsimp only; rw [out_A_12]; exact drg_blk m c t r k
  · rw [outsAt0_B m c t h0]; dsimp only; rw [out_B_12]; exact drg_blk m c t r k

theorem out13 (t : Fin cfg0.N) (r : Fin 512) (k : Fin 1024) : (outsAt0 m c t.val t.isLt).2.2.1 (ix2 r k) = (args m c).dba (row t r) k := by
  by_cases h0 : t.val % 16 = 0
  · rw [outsAt0_A m c t h0]; dsimp only; rw [out_A_13]; exact dba_blk m c t r k
  · rw [outsAt0_B m c t h0]; dsimp only; rw [out_B_13]; exact dba_blk m c t r k

theorem out14 (t : Fin cfg0.N) (r : Fin 512) (k : Fin 1024) : (outsAt0 m c t.val t.isLt).2.2.2.1 (ix2 r k) = (args m c).dbb (row t r) k := by
  by_cases h0 : t.val % 16 = 0
  · rw [outsAt0_A m c t h0]; dsimp only; rw [out_A_14]; exact dbb_blk m c t r k
  · rw [outsAt0_B m c t h0]; dsimp only; rw [out_B_14]; exact dbb_blk m c t r k

theorem out15 (t : Fin cfg0.N) (r : Fin 512) (k : Fin 1024) : (outsAt0 m c t.val t.isLt).2.2.2.2.1 (ix2 r k) = (args m c).day (row t r) k := by
  by_cases h0 : t.val % 16 = 0
  · rw [outsAt0_A m c t h0]; dsimp only; rw [out_A_15]; exact day_blk m c t r k
  · rw [outsAt0_B m c t h0]; dsimp only; rw [out_B_15]; exact day_blk m c t r k

theorem out16 (t : Fin cfg0.N) (r : Fin 512) (k : Fin 1024) : (outsAt0 m c t.val t.isLt).2.2.2.2.2.1 (ix2 r k) = (args m c).dry (row t r) k := by
  by_cases h0 : t.val % 16 = 0
  · rw [outsAt0_A m c t h0]; dsimp only; rw [out_A_16]; exact dry_blk m c t r k
  · rw [outsAt0_B m c t h0]; dsimp only; rw [out_B_16]; exact dry_blk m c t r k

/-- The sum over the points up to `n` of the rows each holds. -/
def upTo (f : Fin 8192 → EReal) (n : ℕ) (hn : n < 16) : EReal := ∑ t : Fin (n + 1), ∑ r : Fin 512, f (row ⟨t.val, by omega⟩ r)

theorem upTo_zero (f : Fin 8192 → EReal) : upTo f 0 (by omega) = ∑ r : Fin 512, f (row 0 r) := by
  unfold upTo
  rw [Fin.sum_univ_one]
  rfl
theorem upTo_succ (f : Fin 8192 → EReal) (n : ℕ) (hn : n + 1 < 16) :
    upTo f (n + 1) hn = upTo f n (by omega) + ∑ r : Fin 512, f (row ⟨n + 1, hn⟩ r) := by
  unfold upTo
  rw [Fin.sum_univ_castSucc]
  rfl
theorem upTo_last (f : Fin 8192 → EReal) : upTo f 15 (by omega) = ∑ s : Fin 8192, f s :=
  (Fin.sum_univ_tiles 16 512 rfl f).symm

theorem out17 (k : Fin 1024) (n : ℕ) (hn : n < cfg0.N) :
    (outsAt0 m c n hn).2.2.2.2.2.2 (ix2 0 k) = upTo (shareGain m c k) n hn := by
  induction n with
  | zero =>
    rw [outsAt0_A m c ⟨0, hn⟩ (Nat.zero_mod _)]; dsimp only
    rw [out_A_17, dg_blk, zero17_apply, zero_add, upTo_zero]; rfl
  | succ n ih =>
    have hn' : n + 1 < 16 := hn
    rw [outsAt0_B m c ⟨n + 1, hn⟩ (by show ¬(n + 1) % 16 = 0; omega)]; dsimp only
    rw [out_B_17, dg_blk_nil, upTo_succ _ n hn, ← ih (Nat.lt_of_succ_lt hn)]; rfl

/-! ## The arrays -/

def arrGates : Vec Ideal S8192x2048 .bf16 := fun i => gates (args m c) (i 0) (i 1)
def arrDRG : Vec Ideal S8192x1024 .bf16 := fun i => (args m c).drg (i 0) (i 1)
def arrDBA : Vec Ideal S8192x1024 .bf16 := fun i => (args m c).dba (i 0) (i 1)
def arrDBB : Vec Ideal S8192x1024 .bf16 := fun i => (args m c).dbb (i 0) (i 1)
def arrDAY : Vec Ideal S8192x1024 .bf16 := fun i => (args m c).day (i 0) (i 1)
def arrDRY : Vec Ideal S8192x1024 .bf16 := fun i => (args m c).dry (i 0) (i 1)
def arrDG : Vec Ideal S1x1024 .f32 := fun i => ∑ s : Fin 8192, shareGain m c (i 1) s

theorem final11 : (dats m 0 c).arrAt 11 cfg0.N = arrGates m c := by
  have e0 (t : Fin cfg0.N) : win0_11.index t 0 = t.val := (by decide +kernel : ∀ t : Fin grid0.N, win0_11.index t 0 = t.val) t
  have e1 (t : Fin cfg0.N) : win0_11.index t 1 = 0 := (by decide +kernel : ∀ t : Fin grid0.N, win0_11.index t 1 = 0) t
  refine (dats m 0 c).arrAt_eq_of_cover 11 _ (fun t _ => ?_) (fun (i : S8192x2048.Idx) => ?_)
  · rw [flushed11]
    refine funext fun (j : S512x2048.Idx) => ?_
    rw [View.read_apply]
    refine Eq.trans (b := (outsAt0 m c t.val t.isLt).1 j) rfl (Eq.trans (b := gates (args m c) (row t (j 0)) (j 1)) ?_ ?_)
    · exact (congrArg _ (two_coords j)).trans (out11 m c t (j 0) (j 1))
    · unfold arrGates
      refine congrArg₂ (gates (args m c)) (Fin.ext ?_) (Fin.ext ?_)
      · show t.val * 512 + (j 0).val = win0_11.index t 0 * 512 + 1 * (j 0).val
        rw [e0]; omega
      · show (j 1).val = win0_11.index t 1 * 2048 + 1 * (j 1).val
        rw [e1]; omega
  · have hi : (i 0).val < 8192 := (i 0).isLt
    have hi1 : (i 1).val < 2048 := (i 1).isLt
    obtain ⟨t, ht⟩ : ∃ t : Fin cfg0.N, t.val = (i 0).val / 512 := ⟨⟨(i 0).val / 512, by show (i 0).val / 512 < 16; omega⟩, rfl⟩
    refine ⟨t, flush0_11 t, ?_⟩
    show i ∈ ((View.whole main_v42_0).slice (win0_11.rect t)).set
    rw [View.set_slice_whole, Rect.mem_set_unit]
    intro a
    match a with
    | ⟨0, _⟩ =>
      show win0_11.index t 0 * 512 ≤ (i 0).val ∧ (i 0).val < win0_11.index t 0 * 512 + 512
      rw [e0]; omega
    | ⟨1, _⟩ =>
      show win0_11.index t 1 * 2048 ≤ (i 1).val ∧ (i 1).val < win0_11.index t 1 * 2048 + 2048
      rw [e1]; omega

theorem final12 : (dats m 0 c).arrAt 12 cfg0.N = arrDRG m c := by
  have e0 (t : Fin cfg0.N) : win0_12.index t 0 = t.val := (by decide +kernel : ∀ t : Fin grid0.N, win0_12.index t 0 = t.val) t
  have e1 (t : Fin cfg0.N) : win0_12.index t 1 = 0 := (by decide +kernel : ∀ t : Fin grid0.N, win0_12.index t 1 = 0) t
  refine (dats m 0 c).arrAt_eq_of_cover 12 _ (fun t _ => ?_) (fun (i : S8192x1024.Idx) => ?_)
  · rw [flushed12]
    refine funext fun (j : S512x1024.Idx) => ?_
    rw [View.read_apply]
    refine Eq.trans (b := (outsAt0 m c t.val t.isLt).2.1 j) rfl (Eq.trans (b := (args m c).drg (row t (j 0)) (j 1)) ?_ ?_)
    · exact (congrArg _ (two_coords j)).trans (out12 m c t (j 0) (j 1))
    · unfold arrDRG
      refine congrArg₂ ((args m c).drg) (Fin.ext ?_) (Fin.ext ?_)
      · show t.val * 512 + (j 0).val = win0_12.index t 0 * 512 + 1 * (j 0).val
        rw [e0]; omega
      · show (j 1).val = win0_12.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_12 t, ?_⟩
    show i ∈ ((View.whole main_v42_1).slice (win0_12.rect t)).set
    rw [View.set_slice_whole, Rect.mem_set_unit]
    intro a
    match a with
    | ⟨0, _⟩ =>
      show win0_12.index t 0 * 512 ≤ (i 0).val ∧ (i 0).val < win0_12.index t 0 * 512 + 512
      rw [e0]; omega
    | ⟨1, _⟩ =>
      show win0_12.index t 1 * 1024 ≤ (i 1).val ∧ (i 1).val < win0_12.index t 1 * 1024 + 1024
      rw [e1]; omega

theorem final13 : (dats m 0 c).arrAt 13 cfg0.N = arrDBA m c := by
  have e0 (t : Fin cfg0.N) : win0_13.index t 0 = t.val := (by decide +kernel : ∀ t : Fin grid0.N, win0_13.index t 0 = t.val) t
  have e1 (t : Fin cfg0.N) : win0_13.index t 1 = 0 := (by decide +kernel : ∀ t : Fin grid0.N, win0_13.index t 1 = 0) t
  refine (dats m 0 c).arrAt_eq_of_cover 13 _ (fun t _ => ?_) (fun (i : S8192x1024.Idx) => ?_)
  · rw [flushed13]
    refine funext fun (j : S512x1024.Idx) => ?_
    rw [View.read_apply]
    refine Eq.trans (b := (outsAt0 m c t.val t.isLt).2.2.1 j) rfl (Eq.trans (b := (args m c).dba (row t (j 0)) (j 1)) ?_ ?_)
    · exact (congrArg _ (two_coords j)).trans (out13 m c t (j 0) (j 1))
    · unfold arrDBA
      refine congrArg₂ ((args m c).dba) (Fin.ext ?_) (Fin.ext ?_)
      · show t.val * 512 + (j 0).val = win0_13.index t 0 * 512 + 1 * (j 0).val
        rw [e0]; omega
      · show (j 1).val = win0_13.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_13 t, ?_⟩
    show i ∈ ((View.whole main_v42_2).slice (win0_13.rect t)).set
    rw [View.set_slice_whole, Rect.mem_set_unit]
    intro a
    match a with
    | ⟨0, _⟩ =>
      show win0_13.index t 0 * 512 ≤ (i 0).val ∧ (i 0).val < win0_13.index t 0 * 512 + 512
      rw [e0]; omega
    | ⟨1, _⟩ =>
      show win0_13.index t 1 * 1024 ≤ (i 1).val ∧ (i 1).val < win0_13.index t 1 * 1024 + 1024
      rw [e1]; omega

theorem final14 : (dats m 0 c).arrAt 14 cfg0.N = arrDBB m c := by
  have e0 (t : Fin cfg0.N) : win0_14.index t 0 = t.val := (by decide +kernel : ∀ t : Fin grid0.N, win0_14.index t 0 = t.val) t
  have e1 (t : Fin cfg0.N) : win0_14.index t 1 = 0 := (by decide +kernel : ∀ t : Fin grid0.N, win0_14.index t 1 = 0) t
  refine (dats m 0 c).arrAt_eq_of_cover 14 _ (fun t _ => ?_) (fun (i : S8192x1024.Idx) => ?_)
  · rw [flushed14]
    refine funext fun (j : S512x1024.Idx) => ?_
    rw [View.read_apply]
    refine Eq.trans (b := (outsAt0 m c t.val t.isLt).2.2.2.1 j) rfl (Eq.trans (b := (args m c).dbb (row t (j 0)) (j 1)) ?_ ?_)
    · exact (congrArg _ (two_coords j)).trans (out14 m c t (j 0) (j 1))
    · unfold arrDBB
      refine congrArg₂ ((args m c).dbb) (Fin.ext ?_) (Fin.ext ?_)
      · show t.val * 512 + (j 0).val = win0_14.index t 0 * 512 + 1 * (j 0).val
        rw [e0]; omega
      · show (j 1).val = win0_14.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_14 t, ?_⟩
    show i ∈ ((View.whole main_v42_3).slice (win0_14.rect t)).set
    rw [View.set_slice_whole, Rect.mem_set_unit]
    intro a
    match a with
    | ⟨0, _⟩ =>
      show win0_14.index t 0 * 512 ≤ (i 0).val ∧ (i 0).val < win0_14.index t 0 * 512 + 512
      rw [e0]; omega
    | ⟨1, _⟩ =>
      show win0_14.index t 1 * 1024 ≤ (i 1).val ∧ (i 1).val < win0_14.index t 1 * 1024 + 1024
      rw [e1]; omega

theorem final15 : (dats m 0 c).arrAt 15 cfg0.N = arrDAY m c := by
  have e0 (t : Fin cfg0.N) : win0_15.index t 0 = t.val := (by decide +kernel : ∀ t : Fin grid0.N, win0_15.index t 0 = t.val) t
  have e1 (t : Fin cfg0.N) : win0_15.index t 1 = 0 := (by decide +kernel : ∀ t : Fin grid0.N, win0_15.index t 1 = 0) t
  refine (dats m 0 c).arrAt_eq_of_cover 15 _ (fun t _ => ?_) (fun (i : S8192x1024.Idx) => ?_)
  · rw [flushed15]
    refine funext fun (j : S512x1024.Idx) => ?_
    rw [View.read_apply]
    refine Eq.trans (b := (outsAt0 m c t.val t.isLt).2.2.2.2.1 j) rfl (Eq.trans (b := (args m c).day (row t (j 0)) (j 1)) ?_ ?_)
    · exact (congrArg _ (two_coords j)).trans (out15 m c t (j 0) (j 1))
    · unfold arrDAY
      refine congrArg₂ ((args m c).day) (Fin.ext ?_) (Fin.ext ?_)
      · show t.val * 512 + (j 0).val = win0_15.index t 0 * 512 + 1 * (j 0).val
        rw [e0]; omega
      · show (j 1).val = win0_15.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_15 t, ?_⟩
    show i ∈ ((View.whole main_v42_4).slice (win0_15.rect t)).set
    rw [View.set_slice_whole, Rect.mem_set_unit]
    intro a
    match a with
    | ⟨0, _⟩ =>
      show win0_15.index t 0 * 512 ≤ (i 0).val ∧ (i 0).val < win0_15.index t 0 * 512 + 512
      rw [e0]; omega
    | ⟨1, _⟩ =>
      show win0_15.index t 1 * 1024 ≤ (i 1).val ∧ (i 1).val < win0_15.index t 1 * 1024 + 1024
      rw [e1]; omega

theorem final16 : (dats m 0 c).arrAt 16 cfg0.N = arrDRY m c := by
  have e0 (t : Fin cfg0.N) : win0_16.index t 0 = t.val := (by decide +kernel : ∀ t : Fin grid0.N, win0_16.index t 0 = t.val) t
  have e1 (t : Fin cfg0.N) : win0_16.index t 1 = 0 := (by decide +kernel : ∀ t : Fin grid0.N, win0_16.index t 1 = 0) t
  refine (dats m 0 c).arrAt_eq_of_cover 16 _ (fun t _ => ?_) (fun (i : S8192x1024.Idx) => ?_)
  · rw [flushed16]
    refine funext fun (j : S512x1024.Idx) => ?_
    rw [View.read_apply]
    refine Eq.trans (b := (outsAt0 m c t.val t.isLt).2.2.2.2.2.1 j) rfl (Eq.trans (b := (args m c).dry (row t (j 0)) (j 1)) ?_ ?_)
    · exact (congrArg _ (two_coords j)).trans (out16 m c t (j 0) (j 1))
    · unfold arrDRY
      refine congrArg₂ ((args m c).dry) (Fin.ext ?_) (Fin.ext ?_)
      · show t.val * 512 + (j 0).val = win0_16.index t 0 * 512 + 1 * (j 0).val
        rw [e0]; omega
      · show (j 1).val = win0_16.index t 1 * 1024 + 1 * (j 1).val
        rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_16 t, ?_⟩
    show i ∈ ((View.whole main_v42_5).slice (win0_16.rect t)).set
    rw [View.set_slice_whole, Rect.mem_set_unit]
    intro a
    match a with
    | ⟨0, _⟩ =>
      show win0_16.index t 0 * 512 ≤ (i 0).val ∧ (i 0).val < win0_16.index t 0 * 512 + 512
      rw [e0]; omega
    | ⟨1, _⟩ =>
      show win0_16.index t 1 * 1024 ≤ (i 1).val ∧ (i 1).val < win0_16.index t 1 * 1024 + 1024
      rw [e1]; omega

theorem final17 : (dats m 0 c).arrAt 17 cfg0.N = arrDG m c := by
  have e0 (t : Fin cfg0.N) : win0_17.index t 0 = 0 := (by decide +kernel : ∀ t : Fin grid0.N, win0_17.index t 0 = 0) t
  have e1 (t : Fin cfg0.N) : win0_17.index t 1 = 0 := (by decide +kernel : ∀ t : Fin grid0.N, win0_17.index t 1 = 0) t
  refine (dats m 0 c).arrAt_eq_of_cover 17 _ (fun t hf => ?_) (fun (i : S1x1024.Idx) => ?_)
  · have ht : t.val = 15 := by
      have h := (flush0_17 t).mp hf
      have h' : t.val < 16 := t.isLt
      omega
    rw [flushed17]
    refine funext fun (j : S1x1024.Idx) => ?_
    rw [View.read_apply]
    refine Eq.trans (b := (outsAt0 m c t.val t.isLt).2.2.2.2.2.2 j) rfl (Eq.trans (b := arrDG m c (ix2 0 (j 1))) ?_ ?_)
    · refine (congrArg _ (one_coord j)).trans ((out17 m c (j 1) t.val t.isLt).trans ?_)
      obtain ⟨n, hn⟩ := t
      dsimp only at ht
      subst ht
      exact upTo_last _
    · refine congrArg (arrDG m c) (funext fun a => Fin.ext ?_)
      match a with
      | ⟨0, _⟩ => show 0 = win0_17.index t 0 * 1 + 1 * (j 0).val; have h0 : (j 0).val < 1 := (j 0).isLt; rw [e0]; omega
      | ⟨1, _⟩ => show (j 1).val = win0_17.index t 1 * 1024 + 1 * (j 1).val; rw [e1]; omega
  · have hi : (i 0).val < 1 := (i 0).isLt
    have hi1 : (i 1).val < 1024 := (i 1).isLt
    obtain ⟨t, ht⟩ : ∃ t : Fin cfg0.N, t.val = 15 := ⟨⟨15, by show 15 < 16; omega⟩, rfl⟩
    refine ⟨t, (flush0_17 t).mpr (by rw [ht]), ?_⟩
    show i ∈ ((View.whole main_v42_6).slice (win0_17.rect t)).set
    rw [View.set_slice_whole, Rect.mem_set_unit]
    intro a
    match a with
    | ⟨0, _⟩ =>
      show win0_17.index t 0 * 1 ≤ (i 0).val ∧ (i 0).val < win0_17.index t 0 * 1 + 1
      rw [e0]; omega
    | ⟨1, _⟩ =>
      show win0_17.index t 1 * 1024 ≤ (i 1).val ∧ (i 1).val < win0_17.index t 1 * 1024 + 1024
      rw [e1]; omega

end Cert.MergeKernelIdeal.Step
end
-- ==== Proof.MergeRef.lean ====
module
public import proofs.«01_k».proof.Proof.MergeMath
public import proofs.«01_k».proof.Proof.Gen.MergeReferenceIdeal.Read
public import Idealize.ShloMosaic.Lib.Pointwise
/-! The seven results of the merge's reference, each entry by the chain rule's formulas over its arguments. -/
@[expose] public section
set_option maxRecDepth 16384
noncomputable section
namespace Cert.MergeReferenceIdeal.Step
open Cert.MergeReferenceIdeal Cert.MergeReferenceIdeal.Gen Cert.MergeReferenceIdeal.Read Idealize.ShloMosaic Idealize.ShloMosaic.TcCoe Idealize.SL.Sem

variable (x0 : FVec Ideal S1x8192x4x256 .f32) (x1 x2 x3 x4 : FVec Ideal S1x8192x1024 .f32) (x5 : FVec Ideal S1x1024 .f32)
  (x6 x7 x8 : FVec Ideal S1x1024x1024 .f32) (x9 : FVec Ideal S1x8192x1024 .f32)

/-- The arguments by coordinates. -/
def args : Merge.Args where
  RY s h e := x0 (ix4 0 s h e)
  RG s k := x1 (ix3 0 s k)
  AY s k := x2 (ix3 0 s k)
  GA s k := x3 (ix3 0 s k)
  GB s k := x4 (ix3 0 s k)
  G k := x5 (ix2 0 k)
  WR j k := x6 (ix3 0 j k)
  WA j k := x7 (ix3 0 j k)
  WO j k := x8 (ix3 0 j k)
  DX s k := x9 (ix3 0 s k)

/-! Sums over an axis together with an axis of one entry. -/

theorem drop_03 (v : S1x8192x4x1.Idx → EReal) (init : EReal) (s : Fin 8192) (h : Fin 4) :
    Ideal.hostReduceAdd reducesTo_S1x8192x4x1_S8192x4_d0_3 v init (ix2 s h) = init + v (ix4 0 s h 0) := by
  unfold Ideal.hostReduceAdd
  congr 1
  refine Finset.sum_eq_single_of_mem _ ?_ ?_
  · rw [Finset.mem_filter]
    exact ⟨Finset.mem_univ _, funext fun b => match b with | ⟨0, _⟩ => rfl | ⟨1, _⟩ => rfl⟩
  · intro i hi hne
    refine absurd (funext fun a => ?_) hne
    match a with
    | ⟨0, _⟩ => exact Fin.fin_one_eq_zero _
    | ⟨1, _⟩ => exact congrFun (Finset.mem_filter.mp hi).2 0
    | ⟨2, _⟩ => exact congrFun (Finset.mem_filter.mp hi).2 1
    | ⟨3, _⟩ => exact Fin.fin_one_eq_zero _
theorem drop_01 (v : S1x1x1024.Idx → EReal) (init : EReal) (k : Fin 1024) :
    Ideal.hostReduceAdd reducesTo_S1x1x1024_S1024_d0_1 v init (ix1 k) = init + v (ix3 0 0 k) := by
  unfold Ideal.hostReduceAdd
  congr 1
  refine Finset.sum_eq_single_of_mem _ ?_ ?_
  · rw [Finset.mem_filter]
    exact ⟨Finset.mem_univ _, funext fun b => match b with | ⟨0, _⟩ => rfl⟩
  · intro i hi hne
    refine absurd (funext fun a => ?_) hne
    match a with
    | ⟨0, _⟩ => exact Fin.fin_one_eq_zero _
    | ⟨1, _⟩ => exact Fin.fin_one_eq_zero _
    | ⟨2, _⟩ => exact congrFun (Finset.mem_filter.mp hi).2 0

/-! ## The norm of a head's row -/

theorem cen_apply (s : Fin 8192) (h : Fin 4) (e : Fin 256) : val_main_v7 (F := Ideal) x0 (ix4 0 s h e) = Merge.cen ((args x0 x1 x2 x3 x4 x5 x6 x7 x8 x9).RY s h) e := by
  unfold Merge.cen args
  pointwise [val_main_v7, val_main_v6, val_main_v5, val_main_v4, val_main_v3, val_main_v2, val_main_cst_0, val_main_cst_1]

theorem var_apply (s : Fin 8192) (h : Fin 4) : val_main_v14 (F := Ideal) x0 (ix4 0 s h 0) = Merge.var ((args x0 x1 x2 x3 x4 x5 x6 x7 x8 x9).RY s h) := by
  have h0 (e) := cen_apply x0 x1 x2 x3 x4 x5 x6 x7 x8 x9 s h e
  unfold Merge.var
  simp only [← h0]
  unfold val_main_v14 val_main_v12 val_main_v10 val_main_v9 val_main_v8
  generalize val_main_v7 (F := Ideal) x0 = y0
  pointwise [val_main_v11, val_main_v13, val_main_cst_2, val_main_cst_3, val_main_cst_4]

theorem unit_apply (s : Fin 8192) (h : Fin 4) (e : Fin 256) : val_main_v20 (F := Ideal) x0 (ix4 0 s h e) = Merge.unit ((args x0 x1 x2 x3 x4 x5 x6 x7 x8 x9).RY s h) e := by
  have h0 (e) := cen_apply x0 x1 x2 x3 x4 x5 x6 x7 x8 x9 s h e
  have h1  := var_apply x0 x1 x2 x3 x4 x5 x6 x7 x8 x9 s h
  unfold Merge.unit
  simp only [← h0, ← h1]
  unfold val_main_v20 val_main_v19 val_main_v15
  generalize val_main_v7 (F := Ideal) x0 = y0
  generalize val_main_v14 (F := Ideal) x0 = y1
  pointwise

/-! ## The branches and their gradients -/

theorem yn_apply (s : Fin 8192) (k : Fin 1024) : val_main_v21 (F := Ideal) x0 (ix3 0 s k) = (args x0 x1 x2 x3 x4 x5 x6 x7 x8 x9).yn s k := by
  have h0 (h e) := unit_apply x0 x1 x2 x3 x4 x5 x6 x7 x8 x9 s h e
  unfold Merge.Args.yn Merge.head Merge.off
  simp only [← h0]
  unfold val_main_v21
  generalize val_main_v20 (F := Ideal) x0 = y0
  pointwise

theorem yg_apply (s : Fin 8192) (k : Fin 1024) : val_main_v24 (F := Ideal) x0 x5 (ix3 0 s k) = (args x0 x1 x2 x3 x4 x5 x6 x7 x8 x9).yn s k * (args x0 x1 x2 x3 x4 x5 x6 x7 x8 x9).G k := by
  have h0  := yn_apply x0 x1 x2 x3 x4 x5 x6 x7 x8 x9 s k
  simp only [← h0]
  unfold val_main_v24 args
  generalize val_main_v21 (F := Ideal) x0 = y0
  pointwise [val_main_v23, val_main_v22, val_main_v1]

theorem logistic_apply (s : Fin 8192) (k : Fin 1024) : val_main_v25_2 (F := Ideal) x1 (ix3 0 s k) = Ideal.logistic ((args x0 x1 x2 x3 x4 x5 x6 x7 x8 x9).RG s k) := by
  unfold Ideal.logistic args
  pointwise [val_main_v25_2, val_main_call0_v0, val_main_call0_v1, val_main_call0_v2, val_main_call0_v3, val_main_call0_v4, val_main_call0_cst, val_main_call0_cst_0]

theorem u_apply (s : Fin 8192) (k : Fin 1024) : val_main_v26 (F := Ideal) x0 x1 x5 (ix3 0 s k) = (args x0 x1 x2 x3 x4 x5 x6 x7 x8 x9).u s k := by
  have h0  := logistic_apply x0 x1 x2 x3 x4 x5 x6 x7 x8 x9 s k
  have h1  := yg_apply x0 x1 x2 x3 x4 x5 x6 x7 x8 x9 s k
  unfold Merge.Args.u
  simp only [← h0, ← h1]
  unfold val_main_v26 val_main_v25_0 args
  generalize val_main_v25_2 (F := Ideal) x1 = y0
  generalize val_main_v24 (F := Ideal) x0 x5 = y1
  pointwise

theorem ba_apply (s : Fin 8192) (k : Fin 1024) : val_main_v29 (F := Ideal) x0 x1 x5 x6 (ix3 0 s k) = (args x0 x1 x2 x3 x4 x5 x6 x7 x8 x9).ba s k := by
  have h0 (k) := u_apply x0 x1 x2 x3 x4 x5 x6 x7 x8 x9 s k
  unfold Merge.Args.ba
  simp only [← h0]
  unfold val_main_v29 val_main_v28 args
  generalize val_main_v26 (F := Ideal) x0 x1 x5 = y0
  pointwise [val_main_v27, val_main_v0, val_main_cst]

theorem bb_apply (s : Fin 8192) (k : Fin 1024) : val_main_v32 (F := Ideal) x2 x7 (ix3 0 s k) = (args x0 x1 x2 x3 x4 x5 x6 x7 x8 x9).bb s k := by
  unfold Merge.Args.bb args
  pointwise [val_main_v32, val_main_v31, val_main_v30, val_main_v0, val_main_cst]

theorem dm_apply (s : Fin 8192) (k : Fin 1024) : val_main_v58 (F := Ideal) x8 x9 (ix3 0 s k) = (args x0 x1 x2 x3 x4 x5 x6 x7 x8 x9).dm s k := by
  unfold Merge.Args.dm args
  pointwise [val_main_v58, val_main_v54]

theorem dba_apply (s : Fin 8192) (k : Fin 1024) : val_main_v63 (F := Ideal) x3 x8 x9 (ix3 0 s k) = (args x0 x1 x2 x3 x4 x5 x6 x7 x8 x9).dba' s k := by
  have h0  := dm_apply x0 x1 x2 x3 x4 x5 x6 x7 x8 x9 s k
  unfold Merge.Args.dba' Ideal.logistic
  simp only [← h0]
  unfold val_main_v63 args
  generalize val_main_v58 (F := Ideal) x8 x9 = y0
  pointwise [val_main_v38, val_main_v37, val_main_v36, val_main_v35, val_main_v34, val_main_v33, val_main_cst_6, val_main_cst_7]

theorem dbb_apply (s : Fin 8192) (k : Fin 1024) : val_main_v60 (F := Ideal) x4 x8 x9 (ix3 0 s k) = (args x0 x1 x2 x3 x4 x5 x6 x7 x8 x9).dbb' s k := by
  have h0  := dm_apply x0 x1 x2 x3 x4 x5 x6 x7 x8 x9 s k
  unfold Merge.Args.dbb' Ideal.logistic
  simp only [← h0]
  unfold val_main_v60 args
  generalize val_main_v58 (F := Ideal) x8 x9 = y0
  pointwise [val_main_v48, val_main_v47, val_main_v46, val_main_v45, val_main_v44, val_main_v43, val_main_cst_9, val_main_cst_10]

theorem dga_apply (s : Fin 8192) (k : Fin 1024) : val_main_v65 (F := Ideal) x0 x1 x3 x5 x6 x8 x9 (ix3 0 s k) = (args x0 x1 x2 x3 x4 x5 x6 x7 x8 x9).dga' s k := by
  have h0  := dm_apply x0 x1 x2 x3 x4 x5 x6 x7 x8 x9 s k
  have h1  := ba_apply x0 x1 x2 x3 x4 x5 x6 x7 x8 x9 s k
  unfold Merge.Args.dga' Ideal.logistic
  simp only [← h0, ← h1]
  unfold val_main_v65 val_main_v64 args
  generalize val_main_v58 (F := Ideal) x8 x9 = y0
  generalize val_main_v29 (F := Ideal) x0 x1 x5 x6 = y1
  pointwise [val_main_v41, val_main_v40, val_main_v39, val_main_v38, val_main_v37, val_main_v36, val_main_v35, val_main_v34, val_main_v33, val_main_cst_6, val_main_cst_7, val_main_cst_8]

theorem dgb_apply (s : Fin 8192) (k : Fin 1024) : val_main_v62 (F := Ideal) x2 x4 x7 x8 x9 (ix3 0 s k) = (args x0 x1 x2 x3 x4 x5 x6 x7 x8 x9).dgb' s k := by
  have h0  := dm_apply x0 x1 x2 x3 x4 x5 x6 x7 x8 x9 s k
  have h1  := bb_apply x0 x1 x2 x3 x4 x5 x6 x7 x8 x9 s k
  unfold Merge.Args.dgb' Ideal.logistic
  simp only [← h0, ← h1]
  unfold val_main_v62 val_main_v61 args
  generalize val_main_v58 (F := Ideal) x8 x9 = y0
  generalize val_main_v32 (F := Ideal) x2 x7 = y1
  pointwise [val_main_v51, val_main_v50, val_main_v49, val_main_v48, val_main_v47, val_main_v46, val_main_v45, val_main_v44, val_main_v43, val_main_cst_9, val_main_cst_10, val_main_cst_11]

theorem day_apply (s : Fin 8192) (k : Fin 1024) : val_main_v68 (F := Ideal) x4 x7 x8 x9 (ix3 0 s k) = (args x0 x1 x2 x3 x4 x5 x6 x7 x8 x9).day' s k := by
  have h0 (k) := dbb_apply x0 x1 x2 x3 x4 x5 x6 x7 x8 x9 s k
  unfold Merge.Args.day'
  simp only [← h0]
  unfold val_main_v68 args
  generalize val_main_v60 (F := Ideal) x4 x8 x9 = y0
  pointwise [val_main_v30]

theorem du_apply (s : Fin 8192) (k : Fin 1024) : val_main_v72 (F := Ideal) x3 x6 x8 x9 (ix3 0 s k) = (args x0 x1 x2 x3 x4 x5 x6 x7 x8 x9).du' s k := by
  have h0 (k) := dba_apply x0 x1 x2 x3 x4 x5 x6 x7 x8 x9 s k
  unfold Merge.Args.du'
  simp only [← h0]
  unfold val_main_v72 args
  generalize val_main_v63 (F := Ideal) x3 x8 x9 = y0
  pointwise [val_main_v27]

theorem drg_apply (s : Fin 8192) (k : Fin 1024) : val_main_v76 (F := Ideal) x0 x1 x3 x5 x6 x8 x9 (ix3 0 s k) = (args x0 x1 x2 x3 x4 x5 x6 x7 x8 x9).drg' s k := by
  have h0  := du_apply x0 x1 x2 x3 x4 x5 x6 x7 x8 x9 s k
  have h1  := logistic_apply x0 x1 x2 x3 x4 x5 x6 x7 x8 x9 s k
  have h2  := yg_apply x0 x1 x2 x3 x4 x5 x6 x7 x8 x9 s k
  unfold Merge.Args.drg'
  simp only [← h0, ← h1, ← h2]
  unfold val_main_v76 val_main_call1_v1 val_main_call1_v2 val_main_call1_v0 val_main_v75 val_main_v25_1 val_main_call0_v7 args
  generalize val_main_v72 (F := Ideal) x3 x6 x8 x9 = y0
  generalize val_main_v25_2 (F := Ideal) x1 = y1
  generalize val_main_v24 (F := Ideal) x0 x5 = y2
  pointwise [val_main_call0_v6, val_main_call0_cst_1]

theorem dyg_apply (s : Fin 8192) (k : Fin 1024) : val_main_v74 (F := Ideal) x1 x3 x6 x8 x9 (ix3 0 s k) = (args x0 x1 x2 x3 x4 x5 x6 x7 x8 x9).dyg' s k := by
  have h0  := du_apply x0 x1 x2 x3 x4 x5 x6 x7 x8 x9 s k
  have h1  := logistic_apply x0 x1 x2 x3 x4 x5 x6 x7 x8 x9 s k
  unfold Merge.Args.dyg'
  simp only [← h0, ← h1]
  unfold val_main_v74 val_main_v25_0 args
  generalize val_main_v72 (F := Ideal) x3 x6 x8 x9 = y0
  generalize val_main_v25_2 (F := Ideal) x1 = y1
  pointwise

theorem dyn_apply (s : Fin 8192) (h : Fin 4) (e : Fin 256) : val_main_v83 (F := Ideal) x1 x3 x5 x6 x8 x9 (ix4 0 s h e) = (args x0 x1 x2 x3 x4 x5 x6 x7 x8 x9).dyg' s (Merge.col h e) * (args x0 x1 x2 x3 x4 x5 x6 x7 x8 x9).G (Merge.col h e) := by
  have h0 (k) := dyg_apply x0 x1 x2 x3 x4 x5 x6 x7 x8 x9 s k
  simp only [← h0]
  unfold val_main_v83 val_main_v81 args Merge.col
  generalize val_main_v74 (F := Ideal) x1 x3 x6 x8 x9 = y0
  pointwise [val_main_v80, val_main_v22, val_main_v1]

theorem atCen_apply (s : Fin 8192) (h : Fin 4) (e : Fin 256) : val_main_v98 (F := Ideal) x0 x1 x3 x5 x6 x8 x9 (ix4 0 s h e) = Merge.atCen ((args x0 x1 x2 x3 x4 x5 x6 x7 x8 x9).RY s h) (fun e => (args x0 x1 x2 x3 x4 x5 x6 x7 x8 x9).dyg' s (Merge.col h e) * (args x0 x1 x2 x3 x4 x5 x6 x7 x8 x9).G (Merge.col h e)) e := by
  have h0 (e) := dyn_apply x0 x1 x2 x3 x4 x5 x6 x7 x8 x9 s h e
  have h1 (e) := cen_apply x0 x1 x2 x3 x4 x5 x6 x7 x8 x9 s h e
  have h2  := var_apply x0 x1 x2 x3 x4 x5 x6 x7 x8 x9 s h
  unfold Merge.atCen Merge.viaVar
  simp only [← h0, ← h1, ← h2]
  unfold val_main_v98 val_main_v97 val_main_v96 val_main_v95 val_main_v94 val_main_v93 val_main_v92 val_main_v91 val_main_v89 val_main_v88 val_main_v87 val_main_v86 val_main_v85 val_main_v84 val_main_v18 val_main_v16 val_main_v15
  generalize val_main_v83 (F := Ideal) x1 x3 x5 x6 x8 x9 = y0
  generalize val_main_v7 (F := Ideal) x0 = y1
  generalize val_main_v14 (F := Ideal) x0 = y2
  pointwise [drop_03, val_main_v17, val_main_v90, val_main_cst_5, val_main_cst_14, val_main_cst_15, val_main_cst_16]

theorem dry_apply (s : Fin 8192) (h : Fin 4) (e : Fin 256) : val_main_v107 (F := Ideal) x0 x1 x3 x5 x6 x8 x9 (ix4 0 s h e) = Merge.normGrad' ((args x0 x1 x2 x3 x4 x5 x6 x7 x8 x9).RY s h) (fun e => (args x0 x1 x2 x3 x4 x5 x6 x7 x8 x9).dyg' s (Merge.col h e) * (args x0 x1 x2 x3 x4 x5 x6 x7 x8 x9).G (Merge.col h e)) e := by
  have h0 (e) := atCen_apply x0 x1 x2 x3 x4 x5 x6 x7 x8 x9 s h e
  unfold Merge.normGrad'
  simp only [← h0]
  unfold val_main_v107 val_main_v106 val_main_v105 val_main_v104 val_main_v103 val_main_v101 val_main_v100 val_main_v99
  generalize val_main_v98 (F := Ideal) x0 x1 x3 x5 x6 x8 x9 = y0
  pointwise [drop_03, val_main_v102, val_main_cst_17, val_main_cst_18, val_main_cst_19]

/-! ## The results -/

theorem res_drg (s : Fin 8192) (k : Fin 1024) : val_main_v113 (F := Ideal) x0 x1 x3 x5 x6 x8 x9 (ix2 s k) = (args x0 x1 x2 x3 x4 x5 x6 x7 x8 x9).drg' s k := by
  have h0  := drg_apply x0 x1 x2 x3 x4 x5 x6 x7 x8 x9 s k
  simp only [← h0]
  unfold val_main_v113 val_main_v112
  generalize val_main_v76 (F := Ideal) x0 x1 x3 x5 x6 x8 x9 = y0
  pointwise

theorem res_dba (s : Fin 8192) (k : Fin 1024) : val_main_v115 (F := Ideal) x3 x8 x9 (ix2 s k) = (args x0 x1 x2 x3 x4 x5 x6 x7 x8 x9).dba' s k := by
  have h0  := dba_apply x0 x1 x2 x3 x4 x5 x6 x7 x8 x9 s k
  simp only [← h0]
  unfold val_main_v115 val_main_v114
  generalize val_main_v63 (F := Ideal) x3 x8 x9 = y0
  pointwise

theorem res_dbb (s : Fin 8192) (k : Fin 1024) : val_main_v117 (F := Ideal) x4 x8 x9 (ix2 s k) = (args x0 x1 x2 x3 x4 x5 x6 x7 x8 x9).dbb' s k := by
  have h0  := dbb_apply x0 x1 x2 x3 x4 x5 x6 x7 x8 x9 s k
  simp only [← h0]
  unfold val_main_v117 val_main_v116
  generalize val_main_v60 (F := Ideal) x4 x8 x9 = y0
  pointwise

theorem res_day (s : Fin 8192) (k : Fin 1024) : val_main_v119 (F := Ideal) x4 x7 x8 x9 (ix2 s k) = (args x0 x1 x2 x3 x4 x5 x6 x7 x8 x9).day' s k := by
  have h0  := day_apply x0 x1 x2 x3 x4 x5 x6 x7 x8 x9 s k
  simp only [← h0]
  unfold val_main_v119 val_main_v118
  generalize val_main_v68 (F := Ideal) x4 x7 x8 x9 = y0
  pointwise

theorem res_dry (s : Fin 8192) (k : Fin 1024) : val_main_v121 (F := Ideal) x0 x1 x3 x5 x6 x8 x9 (ix2 s k) = (args x0 x1 x2 x3 x4 x5 x6 x7 x8 x9).dry' s k := by
  have h0 := dry_apply x0 x1 x2 x3 x4 x5 x6 x7 x8 x9 s (Merge.head k) (Merge.off k)
  unfold Merge.Args.dry'
  rw [← h0]
  unfold val_main_v121 val_main_v120 Merge.head Merge.off
  generalize val_main_v107 (F := Ideal) x0 x1 x3 x5 x6 x8 x9 = y0
  pointwise

theorem res_dg (k : Fin 1024) : val_main_v108 (F := Ideal) x0 x1 x3 x6 x8 x9 (ix2 0 k) = ∑ s : Fin 8192, (args x0 x1 x2 x3 x4 x5 x6 x7 x8 x9).dg' s k := by
  have h0 (s) := yn_apply x0 x1 x2 x3 x4 x5 x6 x7 x8 x9 s k
  have h1 (s) := dyg_apply x0 x1 x2 x3 x4 x5 x6 x7 x8 x9 s k
  unfold Merge.Args.dg'
  simp only [← h0, ← h1]
  unfold val_main_v108 val_main_v82 val_main_v79 val_main_v78 val_main_v77
  generalize val_main_v21 (F := Ideal) x0 = y0
  generalize val_main_v74 (F := Ideal) x1 x3 x6 x8 x9 = y1
  pointwise [drop_01, val_main_cst_12, val_main_cst_13]

/-- The two gates' gradients side by side. -/
theorem res_gates (s : Fin 8192) (k : Fin 2048) : val_main_v111 (F := Ideal) x0 x1 x2 x3 x4 x5 x6 x7 x8 x9 (ix2 s k)
    = if h : k.val < 1024 then (args x0 x1 x2 x3 x4 x5 x6 x7 x8 x9).dga' s ⟨k.val, h⟩ else (args x0 x1 x2 x3 x4 x5 x6 x7 x8 x9).dgb' s ⟨k.val - 1024, by omega⟩ := by
  have h0 (k) := dga_apply x0 x1 x2 x3 x4 x5 x6 x7 x8 x9 s k
  have h1 (k) := dgb_apply x0 x1 x2 x3 x4 x5 x6 x7 x8 x9 s k
  simp only [← h0, ← h1]
  unfold val_main_v111 val_main_v110 val_main_v109
  generalize val_main_v65 (F := Ideal) x0 x1 x3 x5 x6 x8 x9 = y0
  generalize val_main_v62 (F := Ideal) x2 x4 x7 x8 x9 = y1
  pointwise

end Cert.MergeReferenceIdeal.Step
end
-- ==== Proof.MergeValue.lean ====
module
public import proofs.«01_k».proof.Defs
public import proofs.«01_k».proof.Proof.MergeRun
public import proofs.«01_k».proof.Proof.MergeRef
public import proofs.«01_k».proof.Proof.Finite
public import Idealize.ShloMosaic.Lib.Quiescent
public import proofs.«01_k».proof.Proof.Gen.Pre_merge_finite
public import proofs.«01_k».proof.Proof.Gen.MergeReferenceIdeal.Run
/-! The merge's gradient kernel and the chain rule over the merge's plain lines leave the same seven arrays. -/
@[expose] public section
set_option maxRecDepth 16384
noncomputable section
namespace Cert.Merge
open Idealize.ShloMosaic Idealize.ShloMosaic.TcCoe Idealize.SL.Sem
open Cert.MergeKernelIdeal.Step Cert.MergeReferenceIdeal.Read

variable (m : (ℓ : Loc Cert.MergeKernelIdeal.nD Cert.MergeKernelIdeal.τ Cert.MergeKernelIdeal.sig) → Buf (Elt Ideal) ℓ)
  (hp : Cert.Pre_MergeKernelIdeal_merge_finite m) (c : Dev Cert.MergeKernelIdeal.nD)

section
include hp
theorem args_real : (args m c).Real := by
  obtain ⟨h0, h1, h5, h6, h8, h9⟩ := hp c
  exact ⟨fun s h e => real_of_lt _ (congrFun h0 (ix4 0 s h e)), fun s k => real_of_lt _ (congrFun h1 (ix3 0 s k)), fun k => real_of_lt _ (congrFun h5 (ix2 0 k)),
    fun j k => real_of_lt _ (congrFun h6 (ix3 0 j k)), fun j k => real_of_lt _ (congrFun h8 (ix3 0 j k)), fun s k => real_of_lt _ (congrFun h9 (ix3 0 s k))⟩
end

theorem gates_arr : val_main_v111 (F := Ideal) (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) = arrGates m c := by
  funext (i : Cert.MergeKernelIdeal.S8192x2048.Idx)
  refine (congrArg _ (two_coords i)).trans ((Cert.MergeReferenceIdeal.Step.res_gates (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  unfold arrGates gates
  exact dite_congr rfl (fun _ => (Args.dga_eq (args m c) _ _).symm) (fun _ => (Args.dgb_eq (args m c) _ _).symm)

include hp in
theorem drg_arr : val_main_v113 (F := Ideal) (m (c.tc.loc Cert.MergeKernelIdeal.main_arg0)) (m (c.tc.loc Cert.MergeKernelIdeal.main_arg1)) (m (c.tc.loc Cert.MergeKernelIdeal.main_arg3)) (m (c.tc.loc Cert.MergeKernelIdeal.main_arg5)) (m (c.tc.loc Cert.MergeKernelIdeal.main_arg6)) (m (c.tc.loc Cert.MergeKernelIdeal.main_arg8)) (m (c.tc.loc Cert.MergeKernelIdeal.main_arg9)) = arrDRG m c := by
  funext (i : Cert.MergeKernelIdeal.S8192x1024.Idx)
  refine (congrArg _ (two_coords i)).trans ((Cert.MergeReferenceIdeal.Step.res_drg (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  exact (Args.drg_eq _ _ (args_real m hp c)).symm

theorem dba_arr : val_main_v115 (F := Ideal) (m (c.tc.loc Cert.MergeKernelIdeal.main_arg3)) (m (c.tc.loc Cert.MergeKernelIdeal.main_arg8)) (m (c.tc.loc Cert.MergeKernelIdeal.main_arg9)) = arrDBA m c := by
  funext (i : Cert.MergeKernelIdeal.S8192x1024.Idx)
  refine (congrArg _ (two_coords i)).trans ((Cert.MergeReferenceIdeal.Step.res_dba (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  exact (Args.dba_eq _ _ _).symm

theorem dbb_arr : val_main_v117 (F := Ideal) (m (c.tc.loc Cert.MergeKernelIdeal.main_arg4)) (m (c.tc.loc Cert.MergeKernelIdeal.main_arg8)) (m (c.tc.loc Cert.MergeKernelIdeal.main_arg9)) = arrDBB m c := by
  funext (i : Cert.MergeKernelIdeal.S8192x1024.Idx)
  refine (congrArg _ (two_coords i)).trans ((Cert.MergeReferenceIdeal.Step.res_dbb (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  exact (Args.dbb_eq _ _ _).symm

theorem day_arr : val_main_v119 (F := Ideal) (m (c.tc.loc Cert.MergeKernelIdeal.main_arg4)) (m (c.tc.loc Cert.MergeKernelIdeal.main_arg7)) (m (c.tc.loc Cert.MergeKernelIdeal.main_arg8)) (m (c.tc.loc Cert.MergeKernelIdeal.main_arg9)) = arrDAY m c := by
  funext (i : Cert.MergeKernelIdeal.S8192x1024.Idx)
  refine (congrArg _ (two_coords i)).trans ((Cert.MergeReferenceIdeal.Step.res_day (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  exact (Args.day_eq _ _ _).symm

include hp in
theorem dry_arr : val_main_v121 (F := Ideal) (m (c.tc.loc Cert.MergeKernelIdeal.main_arg0)) (m (c.tc.loc Cert.MergeKernelIdeal.main_arg1)) (m (c.tc.loc Cert.MergeKernelIdeal.main_arg3)) (m (c.tc.loc Cert.MergeKernelIdeal.main_arg5)) (m (c.tc.loc Cert.MergeKernelIdeal.main_arg6)) (m (c.tc.loc Cert.MergeKernelIdeal.main_arg8)) (m (c.tc.loc Cert.MergeKernelIdeal.main_arg9)) = arrDRY m c := by
  funext (i : Cert.MergeKernelIdeal.S8192x1024.Idx)
  refine (congrArg _ (two_coords i)).trans ((Cert.MergeReferenceIdeal.Step.res_dry (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 0) (i 1)).trans ?_)
  exact (Args.dry_eq _ _ (args_real m hp c)).symm

theorem dg_arr : val_main_v108 (F := Ideal) (m (c.tc.loc Cert.MergeKernelIdeal.main_arg0)) (m (c.tc.loc Cert.MergeKernelIdeal.main_arg1)) (m (c.tc.loc Cert.MergeKernelIdeal.main_arg3)) (m (c.tc.loc Cert.MergeKernelIdeal.main_arg6)) (m (c.tc.loc Cert.MergeKernelIdeal.main_arg8)) (m (c.tc.loc Cert.MergeKernelIdeal.main_arg9)) = arrDG m c := by
  funext (i : Cert.MergeKernelIdeal.S1x1024.Idx)
  refine (congrArg _ (one_coord i)).trans ((Cert.MergeReferenceIdeal.Step.res_dg (m (c.tc.loc Cert.MergeKernelIdeal.main_arg0)) (m (c.tc.loc Cert.MergeKernelIdeal.main_arg1)) (m (c.tc.loc Cert.MergeKernelIdeal.main_arg2)) (m (c.tc.loc Cert.MergeKernelIdeal.main_arg3)) (m (c.tc.loc Cert.MergeKernelIdeal.main_arg4)) (m (c.tc.loc Cert.MergeKernelIdeal.main_arg5)) (m (c.tc.loc Cert.MergeKernelIdeal.main_arg6)) (m (c.tc.loc Cert.MergeKernelIdeal.main_arg7)) (m (c.tc.loc Cert.MergeKernelIdeal.main_arg8)) (m (c.tc.loc Cert.MergeKernelIdeal.main_arg9)) (i 1)).trans ?_)
  exact Finset.sum_congr rfl fun s _ => (Args.dg_eq (args m c) s (i 1)).symm

theorem value : Cert.algebraic_MergeKernelIdeal_MergeReferenceIdeal_pre_merge_finite := by
  intro m g m' g' hp he
  refine ⟨arrGates m, arrDRG m, arrDBA m, arrDBB m, arrDAY m, arrDRY m, arrDG m, ?_, ?_⟩
  · refine (θ_run Cert.MergeKernelIdeal.defs _ _).mono (fun r h c => ?_) (Cert.MergeKernelIdeal.Value.run_blocks (F := Ideal) m g)
    obtain ⟨h0, h1, h2, h3, h4, h5, h6, h7⟩ := h c
    exact ⟨h0.trans (final11 m c), h1.trans (final12 m c), h2.trans (final13 m c), h3.trans (final14 m c), h4.trans (final15 m c), h5.trans (final16 m c), h6.trans (final17 m c), h7⟩
  · refine (θ_run Cert.MergeReferenceIdeal.defs _ _).mono (fun r h c => ?_) (Cert.MergeReferenceIdeal.Value.run (F := Ideal) m' g')
    obtain ⟨h0, h1, h2, h3, h4, h5, h6, h7⟩ := h c
    obtain ⟨e0, e1, e2, e3, e4, e5, e6, e7, e8, e9⟩ := he c
    refine ⟨h0.trans ((val_main_v111_eq m' c).trans ?_), h1.trans ((val_main_v113_eq m' c).trans ?_), h2.trans ((val_main_v115_eq _ _ _).trans ?_), h3.trans ((val_main_v117_eq _ _ _).trans ?_), h4.trans ((val_main_v119_eq _ _ _ _).trans ?_), h5.trans ((val_main_v121_eq m' c).trans ?_), h6.trans ((val_main_v108_eq _ _ _ _ _ _).trans ?_), h7⟩
    · rw [e0, e1, e2, e3, e4, e5, e6, e7, e8, e9]; exact gates_arr m c
    · rw [e0, e1, e3, e5, e6, e8, e9]; exact drg_arr m hp c
    · rw [e3, e8, e9]; exact dba_arr m c
    · rw [e4, e8, e9]; exact dbb_arr m c
    · rw [e4, e7, e8, e9]; exact day_arr m c
    · rw [e0, e1, e3, e5, e6, e8, e9]; exact dry_arr m hp c
    · rw [e0, e1, e3, e6, e8, e9]; exact dg_arr m c

/-- The reference ends with its arguments as launched and every semaphore at zero: it has no semaphores. -/
theorem frame_reference : Cert.quiescent_MergeReferenceIdeal := fun m g _ =>
  (θ_run Cert.MergeReferenceIdeal.defs _ _).mono (fun r h => ⟨fun c => (h c).2.2.2.2.2.2.2, sem_eq_zero_of_no_sems rfl r.2⟩)
    (Cert.MergeReferenceIdeal.Value.run (F := Ideal) m g)

end Cert.Merge
end
-- ==== Proof.ProjStep.lean ====
/- What one grid point of the projection-gradient kernel leaves in each of its output blocks: the pieces its run found,
   read back as one function of the point's input blocks (and, for the two accumulated rows, of what the point before left). -/
module

public import proofs.«01_k».proof.Proof.Gen.KernelIdeal.Value
public import Idealize.ShloMosaic.Lib.Tactic

@[expose] public section

set_option maxRecDepth 16384

noncomputable section

namespace Cert.KernelIdeal.Step

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- The upper and the lower half of a block of 256 rows. -/
def top (x : Vec F S256x128 .bf16) : Vec F S128x128 .bf16 := View.ld x (Rect.unit ![0, 0] S128x128.size inb_S256x128_S128x128_0_0)
def bot (x : Vec F S256x128 .bf16) : Vec F S128x128 .bf16 := View.ld x (Rect.unit ![128, 0] S128x128.size inb_S256x128_S128x128_128_0)

/-- The 512 rows of the projection's cotangent a point holds, its six pieces side by side. -/
def dAll (x0 : Vec F S512x2048 .bf16) (x1 : Vec F S512x1024 .bf16) (x2 : Vec F S512x1024 .bf16) (x3 : Vec F S256x128 .bf16) (x4 : Vec F S256x128 .bf16) (x5 : Vec F S256x128 .bf16) (x6 : Vec F S256x128 .bf16) (x7 : Vec F S512x2048 .bf16) : FVec F S512x6400 .bf16 :=
  k0_pay4 x0 x1 x2 (top x3) (top x4) (bot x3) (bot x4) (top x5) (top x6) (bot x5) (bot x6) x7

/-- The point's rows of the gradient of `x`, … -/
def gx (d : FVec F S512x6400 .bf16) (x8 x9 : Vec F S512x1024 .f32) (x10 : Vec F S1x1024 .f32) (x11 : Vec F S6400x1024 .bf16) : FVec F S512x1024 .f32 :=
  k0_pay1 (k0_pay8 x8) (k0_pay9 x8) (k0_pay11 d x11 x10) (k0_pay12 x9) (k0_pay13 d x11 x8 x10)

section Cases

variable (c : Dev nD) (i : grid0.Coords) (a1 : Memref sig .tc .vmem S512x2048 .bf16) (h1 : a1.IsWhole) (a2 : Memref sig .tc .vmem S512x1024 .bf16) (h2 : a2.IsWhole) (a3 : Memref sig .tc .vmem S512x1024 .bf16) (h3 : a3.IsWhole) (a4 : Memref sig .tc .vmem S256x128 .bf16) (h4 : a4.IsWhole) (a5 : Memref sig .tc .vmem S256x128 .bf16) (h5 : a5.IsWhole) (a6 : Memref sig .tc .vmem S256x128 .bf16) (h6 : a6.IsWhole) (a7 : Memref sig .tc .vmem S256x128 .bf16) (h7 : a7.IsWhole) (a8 : Memref sig .tc .vmem S512x2048 .bf16) (h8 : a8.IsWhole) (a9 : Memref sig .tc .vmem S512x1024 .f32) (h9 : a9.IsWhole) (a10 : Memref sig .tc .vmem S512x1024 .f32) (h10 : a10.IsWhole) (a11 : Memref sig .tc .vmem S1x1024 .f32) (h11 : a11.IsWhole) (a12 : Memref sig .tc .vmem S6400x1024 .bf16) (h12 : a12.IsWhole) (a14 : Memref sig .tc .vmem S512x1024 .f32) (h14 : a14.IsWhole) (a15 : Memref sig .tc .vmem S1x1024 .f32) (h15 : a15.IsWhole) (a16 : Memref sig .tc .vmem S1x6400 .f32) (h16 : a16.IsWhole)
  (x0 : Vec F S512x2048 .bf16) (x1 : Vec F S512x1024 .bf16) (x2 : Vec F S512x1024 .bf16) (x3 : Vec F S256x128 .bf16) (x4 : Vec F S256x128 .bf16) (x5 : Vec F S256x128 .bf16) (x6 : Vec F S256x128 .bf16) (x7 : Vec F S512x2048 .bf16) (x8 : Vec F S512x1024 .f32) (x9 : Vec F S512x1024 .f32) (x10 : Vec F S1x1024 .f32) (x11 : Vec F S6400x1024 .bf16)

theorem out_A_12 (hc : cond0_0 i) :
    out0_A_12 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 = gx (dAll x0 x1 x2 x3 x4 x5 x6 x7) x8 x9 x10 x11 := by
  unfold out0_A_12
  rw [View.read_writes_eq_canon _ _ _ (cover0_A_12 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11)]
  unfold kernelRun0_A
  dsimp only
  sl_unfold_words
  rw [View.canon_cons_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

theorem out_A_13 (hc : cond0_0 i) :
    out0_A_13 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 = k0_pay10 (dAll x0 x1 x2 x3 x4 x5 x6 x7) x11 x8 k0_pay2 := by
  unfold out0_A_13
  rw [View.read_writes_eq_canon _ _ _ (cover0_A_13 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11)]
  unfold kernelRun0_A
  dsimp only
  sl_unfold_words
  rw [View.canon_cons_unit_zero (S := S1x1024) hz]
  rw [View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

theorem out_A_14 (hc : cond0_0 i) :
    out0_A_14 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 = k0_pay6 (dAll x0 x1 x2 x3 x4 x5 x6 x7) k0_pay3 := by
  unfold out0_A_14
  rw [View.read_writes_eq_canon _ _ _ (cover0_A_14 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11)]
  unfold kernelRun0_A
  dsimp only
  sl_unfold_words
  rw [View.canon_cons_unit_zero (S := S1x6400) hz]
  rw [View.readCov_unit_zero (S := S1x6400) _ hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

theorem out_B_12 (hc : ¬cond0_0 i) (p13 : Vec F S1x1024 .f32) (p14 : Vec F S1x6400 .f32) :
    out0_B_12 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14 = gx (dAll x0 x1 x2 x3 x4 x5 x6 x7) x8 x9 x10 x11 := by
  unfold out0_B_12
  rw [View.read_writes_eq_canon _ _ _ (cover0_B_12 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14)]
  unfold kernelRun0_B
  dsimp only
  sl_unfold_words
  rw [View.canon_unit_zero (S := S512x1024) hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

theorem out_B_13 (hc : ¬cond0_0 i) (p13 : Vec F S1x1024 .f32) (p14 : Vec F S1x6400 .f32) :
    out0_B_13 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14 = k0_pay10 (dAll x0 x1 x2 x3 x4 x5 x6 x7) x11 x8 p13 := by
  unfold out0_B_13
  rw [View.read_writes_eq_canon _ _ _ (cover0_B_13 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14)]
  unfold kernelRun0_B
  dsimp only
  sl_unfold_words
  rw [View.canon_unit_zero (S := S1x1024) hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

theorem out_B_14 (hc : ¬cond0_0 i) (p13 : Vec F S1x1024 .f32) (p14 : Vec F S1x6400 .f32) :
    out0_B_14 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14 = k0_pay6 (dAll x0 x1 x2 x3 x4 x5 x6 x7) p14 := by
  unfold out0_B_14
  rw [View.read_writes_eq_canon _ _ _ (cover0_B_14 c i a1 h1 a2 h2 a3 h3 a4 h4 a5 h5 a6 h6 a7 h7 a8 h8 a9 h9 a10 h10 a11 h11 a12 h12 a14 h14 a15 h15 a16 h16 hc x0 x1 x2 x3 x4 x5 x6 x7 x8 x9 x10 x11 p13 p14)]
  unfold kernelRun0_B
  dsimp only
  sl_unfold_words
  rw [View.canon_unit_zero (S := S1x6400) hz]
  simp only [View.readAt_eq_ld, h1.read_unread, h2.read_unread, h3.read_unread, h4.read_unread, h5.read_unread, h6.read_unread, h7.read_unread, h8.read_unread, h9.read_unread, h10.read_unread, h11.read_unread, h12.read_unread, h14.read_unread, h15.read_unread, h16.read_unread, View.ld_unit_zero (S := S512x2048) hz, View.ld_unit_zero (S := S512x1024) hz, View.ld_unit_zero (S := S1x1024) hz, View.ld_unit_zero (S := S1x6400) hz, View.ld_unit_zero (S := S6400x1024) hz]
  rfl

end Cases

end Cert.KernelIdeal.Step

end
-- ==== Proof.ProjHost.lean ====
module
public import proofs.«01_k».proof.Proof.ProjStep
public import Idealize.ShloMosaic.Lib.Pointwise
public import Idealize.ShloMosaic.Lib.StableHlo.RunRead
/-! The blocks that the projection's gradient kernel reads at a grid point, each as entries of the launch arguments. -/
@[expose] public section
set_option maxRecDepth 16384
noncomputable section
namespace Cert.KernelIdeal.Step
open Cert.KernelIdeal Cert.KernelIdeal.Gen Idealize.ShloMosaic Idealize.ShloMosaic.TcCoe Idealize.SL.Sem

/-! ## The host's preparation of an argument, at an index -/

theorem rows_apply (x : FVec Ideal S1x8192x1024 .f32) (s : Fin 8192) (l : Fin 1024) :
    shapeCast S8192x1024 x shapeCasts_S1x8192x1024_S8192x1024 (ix2 s l) = x (ix3 0 s l) := by
  pointwise

theorem cut0_apply (x : FVec Ideal S1x8192x6400 .f32) (s : Fin 8192) (l : Fin 2048) :
    truncf .bf16 (extractStridedSlice S8192x2048 ![0, 0] (shapeCast S8192x6400 x shapeCasts_S1x8192x6400_S8192x6400) slices_S8192x6400_S8192x2048_0_0)
      bitsLt_bf16_f32 (ix2 s l) = x (ix3 0 s ⟨0 + l.val, by omega⟩) := by
  pointwise

theorem cut2048_apply (x : FVec Ideal S1x8192x6400 .f32) (s : Fin 8192) (l : Fin 1024) :
    truncf .bf16 (extractStridedSlice S8192x1024 ![0, 2048] (shapeCast S8192x6400 x shapeCasts_S1x8192x6400_S8192x6400) slices_S8192x6400_S8192x1024_0_2048)
      bitsLt_bf16_f32 (ix2 s l) = x (ix3 0 s ⟨2048 + l.val, by omega⟩) := by
  pointwise

theorem cut3072_apply (x : FVec Ideal S1x8192x6400 .f32) (s : Fin 8192) (l : Fin 1024) :
    truncf .bf16 (extractStridedSlice S8192x1024 ![0, 3072] (shapeCast S8192x6400 x shapeCasts_S1x8192x6400_S8192x6400) slices_S8192x6400_S8192x1024_0_3072)
      bitsLt_bf16_f32 (ix2 s l) = x (ix3 0 s ⟨3072 + l.val, by omega⟩) := by
  pointwise

theorem cut4352_apply (x : FVec Ideal S1x8192x6400 .f32) (s : Fin 8192) (l : Fin 2048) :
    truncf .bf16 (extractStridedSlice S8192x2048 ![0, 4352] (shapeCast S8192x6400 x shapeCasts_S1x8192x6400_S8192x6400) slices_S8192x6400_S8192x2048_0_4352)
      bitsLt_bf16_f32 (ix2 s l) = x (ix3 0 s ⟨4352 + l.val, by omega⟩) := by
  pointwise

theorem half4096_0_apply (x : FVec Ideal S1x8192x6400 .f32) (s : Fin 4096) (l : Fin 128) :
    shapeCast S4096x128 (shapeCast S32x128x128 (extractStridedSlice S32x1x128x128 ![0, 0, 0, 0]
      (shapeCast S32x2x128x128 (truncf .bf16 (extractStridedSlice S8192x128 ![0, 4096] (shapeCast S8192x6400 x shapeCasts_S1x8192x6400_S8192x6400)
        slices_S8192x6400_S8192x128_0_4096) bitsLt_bf16_f32 : FVec Ideal S8192x128 .bf16) shapeCasts_S8192x128_S32x2x128x128)
      slices_S32x2x128x128_S32x1x128x128_0_0_0_0) shapeCasts_S32x1x128x128_S32x128x128) shapeCasts_S32x128x128_S4096x128 (ix2 s l)
    = x (ix3 0 ⟨s.val / 128 * 256 + 0 + s.val % 128, by omega⟩ ⟨4096 + l.val, by omega⟩) := by
  pointwise

theorem half4096_1_apply (x : FVec Ideal S1x8192x6400 .f32) (s : Fin 4096) (l : Fin 128) :
    shapeCast S4096x128 (shapeCast S32x128x128 (extractStridedSlice S32x1x128x128 ![0, 1, 0, 0]
      (shapeCast S32x2x128x128 (truncf .bf16 (extractStridedSlice S8192x128 ![0, 4096] (shapeCast S8192x6400 x shapeCasts_S1x8192x6400_S8192x6400)
        slices_S8192x6400_S8192x128_0_4096) bitsLt_bf16_f32 : FVec Ideal S8192x128 .bf16) shapeCasts_S8192x128_S32x2x128x128)
      slices_S32x2x128x128_S32x1x128x128_0_1_0_0) shapeCasts_S32x1x128x128_S32x128x128) shapeCasts_S32x128x128_S4096x128 (ix2 s l)
    = x (ix3 0 ⟨s.val / 128 * 256 + 128 + s.val % 128, by omega⟩ ⟨4096 + l.val, by omega⟩) := by
  pointwise

theorem half4224_0_apply (x : FVec Ideal S1x8192x6400 .f32) (s : Fin 4096) (l : Fin 128) :
    shapeCast S4096x128 (shapeCast S32x128x128 (extractStridedSlice S32x1x128x128 ![0, 0, 0, 0]
      (shapeCast S32x2x128x128 (truncf .bf16 (extractStridedSlice S8192x128 ![0, 4224] (shapeCast S8192x6400 x shapeCasts_S1x8192x6400_S8192x6400)
        slices_S8192x6400_S8192x128_0_4224) bitsLt_bf16_f32 : FVec Ideal S8192x128 .bf16) shapeCasts_S8192x128_S32x2x128x128)
      slices_S32x2x128x128_S32x1x128x128_0_0_0_0) shapeCasts_S32x1x128x128_S32x128x128) shapeCasts_S32x128x128_S4096x128 (ix2 s l)
    = x (ix3 0 ⟨s.val / 128 * 256 + 0 + s.val % 128, by omega⟩ ⟨4224 + l.val, by omega⟩) := by
  pointwise

theorem half4224_1_apply (x : FVec Ideal S1x8192x6400 .f32) (s : Fin 4096) (l : Fin 128) :
    shapeCast S4096x128 (shapeCast S32x128x128 (extractStridedSlice S32x1x128x128 ![0, 1, 0, 0]
      (shapeCast S32x2x128x128 (truncf .bf16 (extractStridedSlice S8192x128 ![0, 4224] (shapeCast S8192x6400 x shapeCasts_S1x8192x6400_S8192x6400)
        slices_S8192x6400_S8192x128_0_4224) bitsLt_bf16_f32 : FVec Ideal S8192x128 .bf16) shapeCasts_S8192x128_S32x2x128x128)
      slices_S32x2x128x128_S32x1x128x128_0_1_0_0) shapeCasts_S32x1x128x128_S32x128x128) shapeCasts_S32x128x128_S4096x128 (ix2 s l)
    = x (ix3 0 ⟨s.val / 128 * 256 + 128 + s.val % 128, by omega⟩ ⟨4224 + l.val, by omega⟩) := by
  pointwise

theorem weight_apply (x : FVec Ideal S1x1024x6400 .f32) (j : Fin 6400) (k : Fin 1024) :
    truncf .bf16 (transpose S6400x1024 [1, 0] (shapeCast S1024x6400 x shapeCasts_S1x1024x6400_S1024x6400)
      transposes_S1024x6400_S6400x1024_1_0 : FVec Ideal S6400x1024 .f32) bitsLt_bf16_f32 (ix2 j k) = x (ix3 0 k j) := by
  pointwise

theorem top_apply (x : Vec Ideal S256x128 .bf16) (q l : Fin 128) : top (F := Ideal) x (ix2 q l) = x (ix2 ⟨q.val, by omega⟩ l) := by
  pointwise [top]
theorem bot_apply (x : Vec Ideal S256x128 .bf16) (q l : Fin 128) : bot (F := Ideal) x (ix2 q l) = x (ix2 ⟨128 + q.val, by omega⟩ l) := by
  pointwise [bot]

variable (m : (ℓ : Loc nD τ sig) → Buf (Elt Ideal) ℓ) (c : Dev nD)

/-! ## The launch arguments, by coordinates -/

/-- The layer's input, row `s`, feature `k`. -/
def X (s : Fin 8192) (k : Fin 1024) : EReal := (m ((c : Thread nD τ).loc main_arg0) : FVec Ideal S1x8192x1024 .f32) (ix3 0 s k)
/-- The gain of the norm. -/
def G (k : Fin 1024) : EReal := (m ((c : Thread nD τ).loc main_arg1) : FVec Ideal S1x1024 .f32) (ix2 0 k)
/-- The projection's weight, feature `k` to column `j`. -/
def W (k : Fin 1024) (j : Fin 6400) : EReal := (m ((c : Thread nD τ).loc main_arg2) : FVec Ideal S1x1024x6400 .f32) (ix3 0 k j)
/-- The cotangent that reaches the input past the projection. -/
def DX (s : Fin 8192) (k : Fin 1024) : EReal := (m ((c : Thread nD τ).loc main_arg4) : FVec Ideal S1x8192x1024 .f32) (ix3 0 s k)
/-- The cotangent of the projection, row `s`, column `j`. -/
def D (s : Fin 8192) (j : Fin 6400) : EReal := (m ((c : Thread nD τ).loc main_arg5) : FVec Ideal S1x8192x6400 .f32) (ix3 0 s j)

/-! ## The arrays the region finds -/

theorem V_v2 (s : Fin 8192) (l : Fin 2048) : V m c main_v2 (ix2 s l) = D m c s ⟨0 + l.val, by omega⟩ := by
  unfold V
  after_reads_simp
  exact cut0_apply _ s l

theorem V_v4 (s : Fin 8192) (l : Fin 1024) : V m c main_v4 (ix2 s l) = D m c s ⟨2048 + l.val, by omega⟩ := by
  unfold V
  after_reads_simp
  exact cut2048_apply _ s l

theorem V_v6 (s : Fin 8192) (l : Fin 1024) : V m c main_v6 (ix2 s l) = D m c s ⟨3072 + l.val, by omega⟩ := by
  unfold V
  after_reads_simp
  exact cut3072_apply _ s l

theorem V_v26 (s : Fin 8192) (l : Fin 2048) : V m c main_v26 (ix2 s l) = D m c s ⟨4352 + l.val, by omega⟩ := by
  unfold V
  after_reads_simp
  exact cut4352_apply _ s l

theorem V_v12 (s : Fin 4096) (l : Fin 128) : V m c main_v12 (ix2 s l)
    = D m c ⟨s.val / 128 * 256 + 0 + s.val % 128, by omega⟩ ⟨4096 + l.val, by omega⟩ := by
  unfold V
  after_reads_simp
  exact half4096_0_apply _ s l

theorem V_v15 (s : Fin 4096) (l : Fin 128) : V m c main_v15 (ix2 s l)
    = D m c ⟨s.val / 128 * 256 + 128 + s.val % 128, by omega⟩ ⟨4096 + l.val, by omega⟩ := by
  unfold V
  after_reads_simp
  exact half4096_1_apply _ s l

theorem V_v21 (s : Fin 4096) (l : Fin 128) : V m c main_v21 (ix2 s l)
    = D m c ⟨s.val / 128 * 256 + 0 + s.val % 128, by omega⟩ ⟨4224 + l.val, by omega⟩ := by
  unfold V
  after_reads_simp
  exact half4224_0_apply _ s l

theorem V_v24 (s : Fin 4096) (l : Fin 128) : V m c main_v24 (ix2 s l)
    = D m c ⟨s.val / 128 * 256 + 128 + s.val % 128, by omega⟩ ⟨4224 + l.val, by omega⟩ := by
  unfold V
  after_reads_simp
  exact half4224_1_apply _ s l

theorem V_v28 (s : Fin 8192) (k : Fin 1024) : V m c main_v28 (ix2 s k) = X m c s k := by
  unfold V
  after_reads_simp
  exact rows_apply _ s k

theorem V_v29 (s : Fin 8192) (k : Fin 1024) : V m c main_v29 (ix2 s k) = DX m c s k := by
  unfold V
  after_reads_simp
  exact rows_apply _ s k

theorem V_v32 (j : Fin 6400) (k : Fin 1024) : V m c main_v32 (ix2 j k) = W m c k j := by
  unfold V
  after_reads_simp
  exact weight_apply _ j k

/-! ## The blocks -/

theorem blk0 (t : Fin cfg0.N) (r : Fin 512) (l : Fin 2048) :
    iblk m c 0 t (ix2 r l) = V m c main_v2 (ix2 ⟨512 * t.val + r.val, by have : t.val < 16 := t.isLt; omega⟩ l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  unfold iblk
  rw [View.read_apply]
  show V m c main_v2 _ = _
  congr 1
  funext a
  apply Fin.ext
  match a with
  | ⟨0, _⟩ => show win0_0.index t 0 * 512 + 1 * r.val = 512 * t.val + r.val; omega
  | ⟨1, _⟩ => show win0_0.index t 1 * 2048 + 1 * l.val = l.val; omega

theorem blk1 (t : Fin cfg0.N) (r : Fin 512) (l : Fin 1024) :
    iblk m c 1 t (ix2 r l) = V m c main_v4 (ix2 ⟨512 * t.val + r.val, by have : t.val < 16 := t.isLt; omega⟩ l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  show V m c main_v4 _ = _
  congr 1
  funext a
  apply Fin.ext
  match a with
  | ⟨0, _⟩ => show win0_1.index t 0 * 512 + 1 * r.val = 512 * t.val + r.val; omega
  | ⟨1, _⟩ => show win0_1.index t 1 * 1024 + 1 * l.val = l.val; omega

theorem blk2 (t : Fin cfg0.N) (r : Fin 512) (l : Fin 1024) :
    iblk m c 2 t (ix2 r l) = V m c main_v6 (ix2 ⟨512 * t.val + r.val, by have : t.val < 16 := t.isLt; omega⟩ l) := by
  have e0 : win0_2.index t 0 = t.val := (by decide +kernel : ∀ t : Fin grid0.N, win0_2.index t 0 = t.val) t
  have e1 : win0_2.index t 1 = 0 := (by decide +kernel : ∀ t : Fin grid0.N, win0_2.index t 1 = 0) t
  unfold iblk
  rw [View.read_apply]
  show V m c main_v6 _ = _
  congr 1
  funext a
  apply Fin.ext
  match a with
  | ⟨0, _⟩ => show win0_2.index t 0 * 512 + 1 * r.val = 512 * t.val + r.val; omega
  | ⟨1, _⟩ => show win0_2.index t 1 * 1024 + 1 * l.val = l.val; omega

theorem blk3 (t : Fin cfg0.N) (r : Fin 256) (l : Fin 128) :
    iblk m c 3 t (ix2 r l) = V m c main_v12 (ix2 ⟨256 * t.val + r.val, by have : t.val < 16 := t.isLt; omega⟩ l) := by
  have e0 : win0_3.index t 0 = t.val := (by decide +kernel : ∀ t : Fin grid0.N, win0_3.index t 0 = t.val) t
  have e1 : win0_3.index t 1 = 0 := (by decide +kernel : ∀ t : Fin grid0.N, win0_3.index t 1 = 0) t
  unfold iblk
  rw [View.read_apply]
  show V m c main_v12 _ = _
  congr 1
  funext a
  apply Fin.ext
  match a with
  | ⟨0, _⟩ => show win0_3.index t 0 * 256 + 1 * r.val = 256 * t.val + r.val; omega
  | ⟨1, _⟩ => show win0_3.index t 1 * 128 + 1 * l.val = l.val; omega

theorem blk4 (t : Fin cfg0.N) (r : Fin 256) (l : Fin 128) :
    iblk m c 4 t (ix2 r l) = V m c main_v15 (ix2 ⟨256 * t.val + r.val, by have : t.val < 16 := t.isLt; omega⟩ l) := by
  have e0 : win0_4.index t 0 = t.val := (by decide +kernel : ∀ t : Fin grid0.N, win0_4.index t 0 = t.val) t
  have e1 : win0_4.index t 1 = 0 := (by decide +kernel : ∀ t : Fin grid0.N, win0_4.index t 1 = 0) t
  unfold iblk
  rw [View.read_apply]
  show V m c main_v15 _ = _
  congr 1
  funext a
  apply Fin.ext
  match a with
  | ⟨0, _⟩ => show win0_4.index t 0 * 256 + 1 * r.val = 256 * t.val + r.val; omega
  | ⟨1, _⟩ => show win0_4.index t 1 * 128 + 1 * l.val = l.val; omega

theorem blk5 (t : Fin cfg0.N) (r : Fin 256) (l : Fin 128) :
    iblk m c 5 t (ix2 r l) = V m c main_v21 (ix2 ⟨256 * t.val + r.val, by have : t.val < 16 := t.isLt; omega⟩ l) := by
  have e0 : win0_5.index t 0 = t.val := (by decide +kernel : ∀ t : Fin grid0.N, win0_5.index t 0 = t.val) t
  have e1 : win0_5.index t 1 = 0 := (by decide +kernel : ∀ t : Fin grid0.N, win0_5.index t 1 = 0) t
  unfold iblk
  rw [View.read_apply]
  show V m c main_v21 _ = _
  congr 1
  funext a
  apply Fin.ext
  match a with
  | ⟨0, _⟩ => show win0_5.index t 0 * 256 + 1 * r.val = 256 * t.val + r.val; omega
  | ⟨1, _⟩ => show win0_5.index t 1 * 128 + 1 * l.val = l.val; omega

theorem blk6 (t : Fin cfg0.N) (r : Fin 256) (l : Fin 128) :
    iblk m c 6 t (ix2 r l) = V m c main_v24 (ix2 ⟨256 * t.val + r.val, by have : t.val < 16 := t.isLt; omega⟩ l) := by
  have e0 : win0_6.index t 0 = t.val := (by decide +kernel : ∀ t : Fin grid0.N, win0_6.index t 0 = t.val) t
  have e1 : win0_6.index t 1 = 0 := (by decide +kernel : ∀ t : Fin grid0.N, win0_6.index t 1 = 0) t
  unfold iblk
  rw [View.read_apply]
  show V m c main_v24 _ = _
  congr 1
  funext a
  apply Fin.ext
  match a with
  | ⟨0, _⟩ => show win0_6.index t 0 * 256 + 1 * r.val = 256 * t.val + r.val; omega
  | ⟨1, _⟩ => show win0_6.index t 1 * 128 + 1 * l.val = l.val; omega

theorem blk7 (t : Fin cfg0.N) (r : Fin 512) (l : Fin 2048) :
    iblk m c 7 t (ix2 r l) = V m c main_v26 (ix2 ⟨512 * t.val + r.val, by have : t.val < 16 := t.isLt; omega⟩ l) := by
  have e0 : win0_7.index t 0 = t.val := (by decide +kernel : ∀ t : Fin grid0.N, win0_7.index t 0 = t.val) t
  have e1 : win0_7.index t 1 = 0 := (by decide +kernel : ∀ t : Fin grid0.N, win0_7.index t 1 = 0) t
  unfold iblk
  rw [View.read_apply]
  show V m c main_v26 _ = _
  congr 1
  funext a
  apply Fin.ext
  match a with
  | ⟨0, _⟩ => show win0_7.index t 0 * 512 + 1 * r.val = 512 * t.val + r.val; omega
  | ⟨1, _⟩ => show win0_7.index t 1 * 2048 + 1 * l.val = l.val; omega

theorem blk8 (t : Fin cfg0.N) (r : Fin 512) (l : Fin 1024) :
    iblk m c 8 t (ix2 r l) = V m c main_v28 (ix2 ⟨512 * t.val + r.val, by have : t.val < 16 := t.isLt; omega⟩ l) := by
  have e0 : win0_8.index t 0 = t.val := (by decide +kernel : ∀ t : Fin grid0.N, win0_8.index t 0 = t.val) t
  have e1 : win0_8.index t 1 = 0 := (by decide +kernel : ∀ t : Fin grid0.N, win0_8.index t 1 = 0) t
  unfold iblk
  rw [View.read_apply]
  show V m c main_v28 _ = _
  congr 1
  funext a
  apply Fin.ext
  match a with
  | ⟨0, _⟩ => show win0_8.index t 0 * 512 + 1 * r.val = 512 * t.val + r.val; omega
  | ⟨1, _⟩ => show win0_8.index t 1 * 1024 + 1 * l.val = l.val; omega

theorem blk9 (t : Fin cfg0.N) (r : Fin 512) (l : Fin 1024) :
    iblk m c 9 t (ix2 r l) = V m c main_v29 (ix2 ⟨512 * t.val + r.val, by have : t.val < 16 := t.isLt; omega⟩ l) := by
  have e0 : win0_9.index t 0 = t.val := (by decide +kernel : ∀ t : Fin grid0.N, win0_9.index t 0 = t.val) t
  have e1 : win0_9.index t 1 = 0 := (by decide +kernel : ∀ t : Fin grid0.N, win0_9.index t 1 = 0) t
  unfold iblk
  rw [View.read_apply]
  show V m c main_v29 _ = _
  congr 1
  funext a
  apply Fin.ext
  match a with
  | ⟨0, _⟩ => show win0_9.index t 0 * 512 + 1 * r.val = 512 * t.val + r.val; omega
  | ⟨1, _⟩ => show win0_9.index t 1 * 1024 + 1 * l.val = l.val; omega

theorem blk10 (t : Fin cfg0.N) (r : Fin 1) (l : Fin 1024) : iblk m c 10 t (ix2 r l) = G m c l := by
  have e0 : win0_10.index t 0 = 0 := (by decide +kernel : ∀ t : Fin grid0.N, win0_10.index t 0 = 0) t
  have e1 : win0_10.index t 1 = 0 := (by decide +kernel : ∀ t : Fin grid0.N, win0_10.index t 1 = 0) t
  have e : iblk m c 10 t (ix2 r l) = V m c main_arg1 (ix2 r l) := by
    unfold iblk
    rw [View.read_apply]
    show V m c main_arg1 _ = _
    congr 1
    funext a
    apply Fin.ext
    match a with
    | ⟨0, _⟩ => show win0_10.index t 0 * 1 + 1 * r.val = r.val; omega
    | ⟨1, _⟩ => show win0_10.index t 1 * 1024 + 1 * l.val = l.val; omega
  rw [e, V_main_arg1, Fin.fin_one_eq_zero r]
  rfl

theorem blk11 (t : Fin cfg0.N) (r : Fin 6400) (l : Fin 1024) : iblk m c 11 t (ix2 r l) = W m c l r := by
  have e0 : win0_11.index t 0 = 0 := (by decide +kernel : ∀ t : Fin grid0.N, win0_11.index t 0 = 0) t
  have e1 : win0_11.index t 1 = 0 := (by decide +kernel : ∀ t : Fin grid0.N, win0_11.index t 1 = 0) t
  have e : iblk m c 11 t (ix2 r l) = V m c main_v32 (ix2 r l) := by
    unfold iblk
    rw [View.read_apply]
    show V m c main_v32 _ = _
    congr 1
    funext a
    apply Fin.ext
    match a with
    | ⟨0, _⟩ => show win0_11.index t 0 * 6400 + 1 * r.val = r.val; omega
    | ⟨1, _⟩ => show win0_11.index t 1 * 1024 + 1 * l.val = l.val; omega
  rw [e, V_v32]

/-! ## The blocks as entries of the launch arguments -/

theorem D_congr {s s' : Fin 8192} {j j' : Fin 6400} (hs : s.val = s'.val) (hj : j.val = j'.val) : D m c s j = D m c s' j' := by
  rw [Fin.ext hs, Fin.ext hj]

/-- Row `r` of point `t`'s block. -/
def row (t : Fin 16) (r : Fin 512) : Fin 8192 := ⟨t.val * 512 + r.val, by omega⟩

theorem entry0 (t : Fin cfg0.N) (r : Fin 512) (l : Fin 2048) : iblk m c 0 t (ix2 r l) = D m c (row t r) ⟨0 + l.val, by omega⟩ :=
  (blk0 m c t r l).trans ((V_v2 m c _ l).trans (D_congr m c (Nat.add_right_cancel_iff.mpr (Nat.mul_comm 512 t.val)) rfl))

theorem entry1 (t : Fin cfg0.N) (r : Fin 512) (l : Fin 1024) : iblk m c 1 t (ix2 r l) = D m c (row t r) ⟨2048 + l.val, by omega⟩ :=
  (blk1 m c t r l).trans ((V_v4 m c _ l).trans (D_congr m c (Nat.add_right_cancel_iff.mpr (Nat.mul_comm 512 t.val)) rfl))

theorem entry2 (t : Fin cfg0.N) (r : Fin 512) (l : Fin 1024) : iblk m c 2 t (ix2 r l) = D m c (row t r) ⟨3072 + l.val, by omega⟩ :=
  (blk2 m c t r l).trans ((V_v6 m c _ l).trans (D_congr m c (Nat.add_right_cancel_iff.mpr (Nat.mul_comm 512 t.val)) rfl))

theorem entry7 (t : Fin cfg0.N) (r : Fin 512) (l : Fin 2048) : iblk m c 7 t (ix2 r l) = D m c (row t r) ⟨4352 + l.val, by omega⟩ :=
  (blk7 m c t r l).trans ((V_v26 m c _ l).trans (D_congr m c (Nat.add_right_cancel_iff.mpr (Nat.mul_comm 512 t.val)) rfl))

theorem entry3_top (t : Fin cfg0.N) (q l : Fin 128) : top (F := Ideal) (iblk m c 3 t) (ix2 q l)
    = D m c (row t ⟨0 + q.val, by omega⟩) ⟨4096 + l.val, by omega⟩ :=
  (top_apply _ q l).trans ((blk3 m c t _ l).trans ((V_v12 m c _ l).trans (D_congr m c (by
    have ht : t.val < 16 := t.isLt
    show (256 * t.val + (q.val)) / 128 * 256 + 0 + (256 * t.val + (q.val)) % 128 = t.val * 512 + (0 + q.val)
    omega) rfl)))

theorem entry3_bot (t : Fin cfg0.N) (q l : Fin 128) : bot (F := Ideal) (iblk m c 3 t) (ix2 q l)
    = D m c (row t ⟨256 + q.val, by omega⟩) ⟨4096 + l.val, by omega⟩ :=
  (bot_apply _ q l).trans ((blk3 m c t _ l).trans ((V_v12 m c _ l).trans (D_congr m c (by
    have ht : t.val < 16 := t.isLt
    show (256 * t.val + (128 + q.val)) / 128 * 256 + 0 + (256 * t.val + (128 + q.val)) % 128 = t.val * 512 + (256 + q.val)
    omega) rfl)))

theorem entry4_top (t : Fin cfg0.N) (q l : Fin 128) : top (F := Ideal) (iblk m c 4 t) (ix2 q l)
    = D m c (row t ⟨128 + q.val, by omega⟩) ⟨4096 + l.val, by omega⟩ :=
  (top_apply _ q l).trans ((blk4 m c t _ l).trans ((V_v15 m c _ l).trans (D_congr m c (by
    have ht : t.val < 16 := t.isLt
    show (256 * t.val + (q.val)) / 128 * 256 + 128 + (256 * t.val + (q.val)) % 128 = t.val * 512 + (128 + q.val)
    omega) rfl)))

theorem entry4_bot (t : Fin cfg0.N) (q l : Fin 128) : bot (F := Ideal) (iblk m c 4 t) (ix2 q l)
    = D m c (row t ⟨384 + q.val, by omega⟩) ⟨4096 + l.val, by omega⟩ :=
  (bot_apply _ q l).trans ((blk4 m c t _ l).trans ((V_v15 m c _ l).trans (D_congr m c (by
    have ht : t.val < 16 := t.isLt
    show (256 * t.val + (128 + q.val)) / 128 * 256 + 128 + (256 * t.val + (128 + q.val)) % 128 = t.val * 512 + (384 + q.val)
    omega) rfl)))

theorem entry5_top (t : Fin cfg0.N) (q l : Fin 128) : top (F := Ideal) (iblk m c 5 t) (ix2 q l)
    = D m c (row t ⟨0 + q.val, by omega⟩) ⟨4224 + l.val, by omega⟩ :=
  (top_apply _ q l).trans ((blk5 m c t _ l).trans ((V_v21 m c _ l).trans (D_congr m c (by
    have ht : t.val < 16 := t.isLt
    show (256 * t.val + (q.val)) / 128 * 256 + 0 + (256 * t.val + (q.val)) % 128 = t.val * 512 + (0 + q.val)
    omega) rfl)))

theorem entry5_bot (t : Fin cfg0.N) (q l : Fin 128) : bot (F := Ideal) (iblk m c 5 t) (ix2 q l)
    = D m c (row t ⟨256 + q.val, by omega⟩) ⟨4224 + l.val, by omega⟩ :=
  (bot_apply _ q l).trans ((blk5 m c t _ l).trans ((V_v21 m c _ l).trans (D_congr m c (by
    have ht : t.val < 16 := t.isLt
    show (256 * t.val + (128 + q.val)) / 128 * 256 + 0 + (256 * t.val + (128 + q.val)) % 128 = t.val * 512 + (256 + q.val)
    omega) rfl)))

theorem entry6_top (t : Fin cfg0.N) (q l : Fin 128) : top (F := Ideal) (iblk m c 6 t) (ix2 q l)
    = D m c (row t ⟨128 + q.val, by omega⟩) ⟨4224 + l.val, by omega⟩ :=
  (top_apply _ q l).trans ((blk6 m c t _ l).trans ((V_v24 m c _ l).trans (D_congr m c (by
    have ht : t.val < 16 := t.isLt
    show (256 * t.val + (q.val)) / 128 * 256 + 128 + (256 * t.val + (q.val)) % 128 = t.val * 512 + (128 + q.val)
    omega) rfl)))

theorem entry6_bot (t : Fin cfg0.N) (q l : Fin 128) : bot (F := Ideal) (iblk m c 6 t) (ix2 q l)
    = D m c (row t ⟨384 + q.val, by omega⟩) ⟨4224 + l.val, by omega⟩ :=
  (bot_apply _ q l).trans ((blk6 m c t _ l).trans ((V_v24 m c _ l).trans (D_congr m c (by
    have ht : t.val < 16 := t.isLt
    show (256 * t.val + (128 + q.val)) / 128 * 256 + 128 + (256 * t.val + (128 + q.val)) % 128 = t.val * 512 + (384 + q.val)
    omega) rfl)))

theorem entry8 (t : Fin cfg0.N) (r : Fin 512) (k : Fin 1024) : iblk m c 8 t (ix2 r k) = X m c (row t r) k :=
  (blk8 m c t r k).trans ((V_v28 m c _ k).trans (congrArg (fun s => X m c s k) (Fin.ext (Nat.add_right_cancel_iff.mpr (Nat.mul_comm 512 t.val)))))

theorem entry9 (t : Fin cfg0.N) (r : Fin 512) (k : Fin 1024) : iblk m c 9 t (ix2 r k) = DX m c (row t r) k :=
  (blk9 m c t r k).trans ((V_v29 m c _ k).trans (congrArg (fun s => DX m c s k) (Fin.ext (Nat.add_right_cancel_iff.mpr (Nat.mul_comm 512 t.val)))))

end Cert.KernelIdeal.Step
end
-- ==== Proof.ProjRun.lean ====
module
public import proofs.«01_k».proof.Proof.ProjHost
public import proofs.«01_k».proof.Proof.Gen.KernelIdeal.Value
/-! The three arrays the projection's gradient kernel leaves, each entry as sums over the launch arguments. -/
@[expose] public section
set_option maxRecDepth 16384
noncomputable section
namespace Cert.KernelIdeal.Step
open Cert.KernelIdeal Cert.KernelIdeal.Gen Cert.KernelIdeal.Value Idealize.ShloMosaic Idealize.ShloMosaic.TcCoe Idealize.SL.Sem
open Idealize.ShloMosaic.Pipeline (Dat)

/-! ## The body's terms, at an index -/

/-- One over the root mean square of a row, as both programs write it. -/
def rms (a : Fin 1024 → EReal) : EReal :=
  Ideal.rsqrt (Ideal.div (∑ k : Fin 1024, a k * a k) (Ideal.ofBits FTy.f32 1149239296#32) + Ideal.ofBits FTy.f32 897988541#32)

theorem gx_apply (d : FVec Ideal S512x6400 .bf16) (x8 x9 x10 x11) (r : Fin 512) (k : Fin 1024) :
    gx (F := Ideal) d x8 x9 x10 x11 (ix2 r k)
      = x9 (ix2 r k) + rms (fun k => x8 (ix2 r k)) * ((∑ j : Fin 6400, d (ix2 r j) * x11 (ix2 j k)) * x10 (ix2 0 k)
          - x8 (ix2 r k) * rms (fun k => x8 (ix2 r k)) * Ideal.div (∑ k : Fin 1024, (∑ j : Fin 6400, d (ix2 r j) * x11 (ix2 j k)) * x10 (ix2 0 k)
            * (x8 (ix2 r k) * rms (fun k => x8 (ix2 r k)))) (Ideal.ofBits FTy.f32 1149239296#32)) := by
  unfold rms
  pointwise [gx, k0_pay1, k0_pay8, k0_pay9, k0_pay11, k0_pay12, k0_pay13, k0_pay7, k0_pay5]

theorem dg_apply (d : FVec Ideal S512x6400 .bf16) (x11 x8 a) (k : Fin 1024) :
    k0_pay10 (F := Ideal) d x11 x8 a (ix2 0 k)
      = a (ix2 0 k) + ∑ r : Fin 512, (∑ j : Fin 6400, d (ix2 r j) * x11 (ix2 j k)) * (x8 (ix2 r k) * rms (fun k => x8 (ix2 r k))) := by
  unfold rms
  pointwise [k0_pay10, k0_pay8, k0_pay9, k0_pay7, k0_pay5]

theorem db_apply (d : FVec Ideal S512x6400 .bf16) (a) (j : Fin 6400) :
    k0_pay6 (F := Ideal) d a (ix2 0 j) = a (ix2 0 j) + ∑ r : Fin 512, d (ix2 r j) := by
  pointwise [k0_pay6]

/-- The same three readings, for blocks whose entries are known. -/
theorem gx_of (d : FVec Ideal S512x6400 .bf16) (x8 x9 x10 x11) (r : Fin 512) (k : Fin 1024)
    (P : Fin 6400 → EReal) (X Y Z : Fin 1024 → EReal) (W : Fin 1024 → Fin 6400 → EReal)
    (hd : ∀ j, d (ix2 r j) = P j) (h8 : ∀ k, x8 (ix2 r k) = X k) (h9 : ∀ k, x9 (ix2 r k) = Y k) (h10 : ∀ k, x10 (ix2 0 k) = Z k)
    (h11 : ∀ k j, x11 (ix2 j k) = W k j) :
    gx (F := Ideal) d x8 x9 x10 x11 (ix2 r k)
      = Y k + rms X * ((∑ j : Fin 6400, P j * W k j) * Z k
          - X k * rms X * Ideal.div (∑ k : Fin 1024, (∑ j : Fin 6400, P j * W k j) * Z k * (X k * rms X)) (Ideal.ofBits FTy.f32 1149239296#32)) := by
  rw [gx_apply]; simp only [hd, h8, h9, h10, h11]

theorem dg_of (d : FVec Ideal S512x6400 .bf16) (x11 x8 a) (k : Fin 1024)
    (P : Fin 512 → Fin 6400 → EReal) (X : Fin 512 → Fin 1024 → EReal) (W : Fin 1024 → Fin 6400 → EReal)
    (hd : ∀ r j, d (ix2 r j) = P r j) (h8 : ∀ r k, x8 (ix2 r k) = X r k) (h11 : ∀ k j, x11 (ix2 j k) = W k j) :
    k0_pay10 (F := Ideal) d x11 x8 a (ix2 0 k)
      = a (ix2 0 k) + ∑ r : Fin 512, (∑ j : Fin 6400, P r j * W k j) * (X r k * rms (X r)) := by
  rw [dg_apply]; simp only [hd, h8, h11]

theorem db_of (d : FVec Ideal S512x6400 .bf16) (a) (j : Fin 6400) (P : Fin 512 → Fin 6400 → EReal) (hd : ∀ r j, d (ix2 r j) = P r j) :
    k0_pay6 (F := Ideal) d a (ix2 0 j) = a (ix2 0 j) + ∑ r : Fin 512, P r j := by
  rw [db_apply]; simp only [hd]

theorem zero13_apply (k : Fin 1024) : k0_pay2 (F := Ideal) (ix2 0 k) = (0 : EReal) := by
  pointwise [k0_pay2]
theorem zero14_apply (j : Fin 6400) : k0_pay3 (F := Ideal) (ix2 0 j) = (0 : EReal) := by
  pointwise [k0_pay3]

variable (m : (ℓ : Loc nD τ sig) → Buf (Elt Ideal) ℓ) (c : Dev nD)

set_option maxHeartbeats 2000000 in
/-- The body's concatenation of the cotangent's pieces, when each piece holds its columns of `P`. -/
theorem pieces_apply (x0 : Vec Ideal S512x2048 .bf16) (x1 x2 : Vec Ideal S512x1024 .bf16) (a b e d a' b' e' d' : Vec Ideal S128x128 .bf16)
    (x7 : Vec Ideal S512x2048 .bf16) (P : Fin 512 → Fin 6400 → EReal)
    (h0 : ∀ r l, x0 (ix2 r l) = P r ⟨l.val, by omega⟩) (h1 : ∀ r l, x1 (ix2 r l) = P r ⟨2048 + l.val, by omega⟩)
    (h2 : ∀ r l, x2 (ix2 r l) = P r ⟨3072 + l.val, by omega⟩)
    (ha : ∀ q l, a (ix2 q l) = P ⟨q.val, by omega⟩ ⟨4096 + l.val, by omega⟩) (hb : ∀ q l, b (ix2 q l) = P ⟨128 + q.val, by omega⟩ ⟨4096 + l.val, by omega⟩)
    (he : ∀ q l, e (ix2 q l) = P ⟨256 + q.val, by omega⟩ ⟨4096 + l.val, by omega⟩) (hd : ∀ q l, d (ix2 q l) = P ⟨384 + q.val, by omega⟩ ⟨4096 + l.val, by omega⟩)
    (ha' : ∀ q l, a' (ix2 q l) = P ⟨q.val, by omega⟩ ⟨4224 + l.val, by omega⟩) (hb' : ∀ q l, b' (ix2 q l) = P ⟨128 + q.val, by omega⟩ ⟨4224 + l.val, by omega⟩)
    (he' : ∀ q l, e' (ix2 q l) = P ⟨256 + q.val, by omega⟩ ⟨4224 + l.val, by omega⟩) (hd' : ∀ q l, d' (ix2 q l) = P ⟨384 + q.val, by omega⟩ ⟨4224 + l.val, by omega⟩)
    (h7 : ∀ r l, x7 (ix2 r l) = P r ⟨4352 + l.val, by omega⟩) (r : Fin 512) (j : Fin 6400) :
    k0_pay4 (F := Ideal) x0 x1 x2 a b e d a' b' e' d' x7 (ix2 r j) = P r j := by
  pointwise [k0_pay4]
  split_ifs <;> simp only [h0, h1, h2, ha, hb, he, hd, ha', hb', he', hd', h7] <;>
    refine congrArg₂ P (Fin.ext ?_) (Fin.ext ?_) <;> dsimp only <;> omega

theorem dAll_apply (t : Fin cfg0.N) (r : Fin 512) (j : Fin 6400) :
    dAll (F := Ideal) (iblk m c 0 t) (iblk m c 1 t) (iblk m c 2 t) (iblk m c 3 t) (iblk m c 4 t) (iblk m c 5 t) (iblk m c 6 t) (iblk m c 7 t) (ix2 r j)
      = D m c (row t r) j :=
  pieces_apply _ _ _ _ _ _ _ _ _ _ _ _ (fun r j => D m c (row t r) j)
    (fun r l => (entry0 m c t r l).trans (D_congr m c rfl (Nat.zero_add _))) (entry1 m c t) (entry2 m c t)
    (fun q l => (entry3_top m c t q l).trans (D_congr m c (congrArg (t.val * 512 + ·) (Nat.zero_add _)) rfl)) (entry4_top m c t) (entry3_bot m c t) (entry4_bot m c t)
    (fun q l => (entry5_top m c t q l).trans (D_congr m c (congrArg (t.val * 512 + ·) (Nat.zero_add _)) rfl)) (entry6_top m c t) (entry5_bot m c t) (entry6_bot m c t)
    (entry7 m c t) r j

/-! ## The three results -/

/-- The gradient that reaches the norm's output. -/
def DH (s : Fin 8192) (k : Fin 1024) : EReal := ∑ j : Fin 6400, D m c s j * W m c k j

/-- The gradient of the input. -/
def GX (s : Fin 8192) (k : Fin 1024) : EReal :=
  DX m c s k + rms (X m c s) * (DH m c s k * G m c k - X m c s k * rms (X m c s)
    * Ideal.div (∑ k : Fin 1024, DH m c s k * G m c k * (X m c s k * rms (X m c s))) (Ideal.ofBits FTy.f32 1149239296#32))

/-- Row `s`'s share of the gradient of the norm's gain. -/
def DG (s : Fin 8192) (k : Fin 1024) : EReal := DH m c s k * (X m c s k * rms (X m c s))

theorem gx_blk (t : Fin cfg0.N) (r : Fin 512) (k : Fin 1024) :
    gx (F := Ideal) (dAll (iblk m c 0 t) (iblk m c 1 t) (iblk m c 2 t) (iblk m c 3 t) (iblk m c 4 t) (iblk m c 5 t) (iblk m c 6 t) (iblk m c 7 t))
      (iblk m c 8 t) (iblk m c 9 t) (iblk m c 10 t) (iblk m c 11 t) (ix2 r k) = GX m c (row t r) k :=
  gx_of _ _ _ _ _ r k _ _ _ _ _ (dAll_apply m c t r) (entry8 m c t r) (entry9 m c t r) (blk10 m c t 0) (fun k j => blk11 m c t j k)

theorem dg_blk (t : Fin cfg0.N) (a) (k : Fin 1024) :
    k0_pay10 (F := Ideal) (dAll (iblk m c 0 t) (iblk m c 1 t) (iblk m c 2 t) (iblk m c 3 t) (iblk m c 4 t) (iblk m c 5 t) (iblk m c 6 t) (iblk m c 7 t))
      (iblk m c 11 t) (iblk m c 8 t) a (ix2 0 k) = a (ix2 0 k) + ∑ r : Fin 512, DG m c (row t r) k :=
  dg_of _ _ _ a k _ _ _ (dAll_apply m c t) (entry8 m c t) (fun k j => blk11 m c t j k)

theorem db_blk (t : Fin cfg0.N) (a) (j : Fin 6400) :
    k0_pay6 (F := Ideal) (dAll (iblk m c 0 t) (iblk m c 1 t) (iblk m c 2 t) (iblk m c 3 t) (iblk m c 4 t) (iblk m c 5 t) (iblk m c 6 t) (iblk m c 7 t))
      a (ix2 0 j) = a (ix2 0 j) + ∑ r : Fin 512, D m c (row t r) j :=
  db_of _ a j _ (dAll_apply m c t)

theorem out12 (t : Fin cfg0.N) (r : Fin 512) (k : Fin 1024) : (outsAt0 m c t.val t.isLt).1 (ix2 r k) = GX m c (row t r) k := by
  by_cases h0 : t.val % 16 = 0
  · rw [outsAt0_A m c t h0]; dsimp only; rw [out_A_12, gx_blk]
  · rw [outsAt0_B m c t h0]; dsimp only; rw [out_B_12, gx_blk]

/-- The sum over the points up to `n` of the rows each holds. -/
def upTo (f : Fin 8192 → EReal) (n : ℕ) (hn : n < 16) : EReal := ∑ t : Fin (n + 1), ∑ r : Fin 512, f (row ⟨t.val, by omega⟩ r)

theorem upTo_zero (f : Fin 8192 → EReal) : upTo f 0 (by omega) = ∑ r : Fin 512, f (row 0 r) := by
  unfold upTo
  rw [Fin.sum_univ_one]
  rfl
theorem upTo_succ (f : Fin 8192 → EReal) (n : ℕ) (hn : n + 1 < 16) :
    upTo f (n + 1) hn = upTo f n (by omega) + ∑ r : Fin 512, f (row ⟨n + 1, hn⟩ r) := by
  unfold upTo
  rw [Fin.sum_univ_castSucc]
  rfl
theorem upTo_last (f : Fin 8192 → EReal) : upTo f 15 (by omega) = ∑ s : Fin 8192, f s :=
  (Fin.sum_univ_tiles 16 512 rfl f).symm

theorem out13 (k : Fin 1024) (n : ℕ) (hn : n < cfg0.N) :
    (outsAt0 m c n hn).2.1 (ix2 0 k) = upTo (fun s => DG m c s k) n hn := by
  induction n with
  | zero =>
    rw [outsAt0_A m c ⟨0, hn⟩ (Nat.zero_mod _)]; dsimp only
    rw [out_A_13, dg_blk, zero13_apply, zero_add, upTo_zero]; rfl
  | succ n ih =>
    have hn' : n + 1 < 16 := hn
    rw [outsAt0_B m c ⟨n + 1, hn⟩ (by show ¬(n + 1) % 16 = 0; omega)]; dsimp only
    rw [out_B_13, dg_blk, upTo_succ _ n hn, ← ih (Nat.lt_of_succ_lt hn)]; rfl

theorem out14 (j : Fin 6400) (n : ℕ) (hn : n < cfg0.N) :
    (outsAt0 m c n hn).2.2 (ix2 0 j) = upTo (fun s => D m c s j) n hn := by
  induction n with
  | zero =>
    rw [outsAt0_A m c ⟨0, hn⟩ (Nat.zero_mod _)]; dsimp only
    rw [out_A_14, db_blk, zero14_apply, zero_add, upTo_zero]; rfl
  | succ n ih =>
    have hn' : n + 1 < 16 := hn
    rw [outsAt0_B m c ⟨n + 1, hn⟩ (by show ¬(n + 1) % 16 = 0; omega)]; dsimp only
    rw [out_B_14, db_blk, upTo_succ _ n hn, ← ih (Nat.lt_of_succ_lt hn)]; rfl

theorem idx12_0 (t : Fin cfg0.N) : win0_12.index t 0 = t.val := (by decide +kernel : ∀ t : Fin grid0.N, win0_12.index t 0 = t.val) t
theorem idx12_1 (t : Fin cfg0.N) : win0_12.index t 1 = 0 := (by decide +kernel : ∀ t : Fin grid0.N, win0_12.index t 1 = 0) t

/-- The array of the input's gradient, as the array the output window writes. -/
def arrGX : Vec Ideal S8192x1024 .f32 := fun i => GX m c (i 0) (i 1)

theorem final12 : (dats m 0 c).arrAt 12 cfg0.N = arrGX m c := by
  have e0 := idx12_0
  have e1 := idx12_1
  refine (dats m 0 c).arrAt_eq_of_cover 12 _ (fun t _ => ?_) (fun (i : S8192x1024.Idx) => ?_)
  · rw [flushed12]
    refine funext fun (j : S512x1024.Idx) => ?_
    rw [View.read_apply]
    have hl : (outsAt0 m c t.val t.isLt).1 j = GX m c (row t (j 0)) (j 1) := by
      have hj : j = ix2 (j 0) (j 1) := funext (fun a => match a with
        | ⟨0, _⟩ => rfl
        | ⟨1, _⟩ => rfl)
      rw [hj]
      exact out12 m c t (j 0) (j 1)
    refine Eq.trans (b := (outsAt0 m c t.val t.isLt).1 j) rfl (hl.trans ?_)
    unfold arrGX
    refine congrArg₂ (GX m c) (Fin.ext ?_) (Fin.ext ?_)
    · show t.val * 512 + (j 0).val = win0_12.index t 0 * 512 + 1 * (j 0).val
      rw [e0]; omega
    · show (j 1).val = win0_12.index t 1 * 1024 + 1 * (j 1).val
      rw [e1]; omega
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_12 t, ?_⟩
    show i ∈ ((View.whole main_v33_0).slice (win0_12.rect t)).set
    rw [View.set_slice_whole, Rect.mem_set_unit]
    intro a
    match a with
    | ⟨0, _⟩ =>
      show win0_12.index t 0 * 512 ≤ (i 0).val ∧ (i 0).val < win0_12.index t 0 * 512 + 512
      rw [e0]; omega
    | ⟨1, _⟩ =>
      show win0_12.index t 1 * 1024 ≤ (i 1).val ∧ (i 1).val < win0_12.index t 1 * 1024 + 1024
      rw [e1]; omega

/-- The arrays of the gain's and the bias's gradients. -/
def arrDG : Vec Ideal S1x1024 .f32 := fun i => ∑ s : Fin 8192, DG m c s (i 1)
def arrDB : Vec Ideal S1x6400 .f32 := fun i => ∑ s : Fin 8192, D m c s (i 1)

theorem final13 : (dats m 0 c).arrAt 13 cfg0.N = arrDG m c := by
  have e0 (t : Fin cfg0.N) : win0_13.index t 0 = 0 := (by decide +kernel : ∀ t : Fin grid0.N, win0_13.index t 0 = 0) t
  have e1 (t : Fin cfg0.N) : win0_13.index t 1 = 0 := (by decide +kernel : ∀ t : Fin grid0.N, win0_13.index t 1 = 0) t
  refine (dats m 0 c).arrAt_eq_of_cover 13 _ (fun t hf => ?_) (fun (i : S1x1024.Idx) => ?_)
  · have ht : t.val = 15 := by
      have h := (flush0_13 t).mp hf
      have h' : t.val < 16 := t.isLt
      omega
    rw [flushed13]
    refine funext fun (j : S1x1024.Idx) => ?_
    rw [View.read_apply]
    have hl : (outsAt0 m c t.val t.isLt).2.1 j = arrDG m c (ix2 0 (j 1)) := by
      have hj : j = ix2 0 (j 1) := funext (fun a => match a with
        | ⟨0, _⟩ => Fin.fin_one_eq_zero _
        | ⟨1, _⟩ => rfl)
      conv_lhs => rw [hj]
      refine (out13 m c (j 1) t.val t.isLt).trans ?_
      obtain ⟨n, hn⟩ := t
      dsimp only at ht
      subst ht
      exact upTo_last _
    refine Eq.trans (b := (outsAt0 m c t.val t.isLt).2.1 j) rfl (hl.trans ?_)
    refine congrArg (arrDG m c) (funext fun a => Fin.ext ?_)
    match a with
    | ⟨0, _⟩ => show 0 = win0_13.index t 0 * 1 + 1 * (j 0).val; have h0 : (j 0).val < 1 := (j 0).isLt; rw [e0]; omega
    | ⟨1, _⟩ => show (j 1).val = win0_13.index t 1 * 1024 + 1 * (j 1).val; rw [e1]; omega
  · have hi : (i 0).val < 1 := (i 0).isLt
    have hi1 : (i 1).val < 1024 := (i 1).isLt
    obtain ⟨t, ht⟩ : ∃ t : Fin cfg0.N, t.val = 15 := ⟨⟨15, by show 15 < 16; omega⟩, rfl⟩
    refine ⟨t, (flush0_13 t).mpr (by rw [ht]), ?_⟩
    show i ∈ ((View.whole main_v33_1).slice (win0_13.rect t)).set
    rw [View.set_slice_whole, Rect.mem_set_unit]
    intro a
    match a with
    | ⟨0, _⟩ =>
      show win0_13.index t 0 * 1 ≤ (i 0).val ∧ (i 0).val < win0_13.index t 0 * 1 + 1
      rw [e0]; omega
    | ⟨1, _⟩ =>
      show win0_13.index t 1 * 1024 ≤ (i 1).val ∧ (i 1).val < win0_13.index t 1 * 1024 + 1024
      rw [e1]; omega

theorem final14 : (dats m 0 c).arrAt 14 cfg0.N = arrDB m c := by
  have e0 (t : Fin cfg0.N) : win0_14.index t 0 = 0 := (by decide +kernel : ∀ t : Fin grid0.N, win0_14.index t 0 = 0) t
  have e1 (t : Fin cfg0.N) : win0_14.index t 1 = 0 := (by decide +kernel : ∀ t : Fin grid0.N, win0_14.index t 1 = 0) t
  refine (dats m 0 c).arrAt_eq_of_cover 14 _ (fun t hf => ?_) (fun (i : S1x6400.Idx) => ?_)
  · have ht : t.val = 15 := by
      have h := (flush0_14 t).mp hf
      have h' : t.val < 16 := t.isLt
      omega
    rw [flushed14]
    refine funext fun (j : S1x6400.Idx) => ?_
    rw [View.read_apply]
    have hl : (outsAt0 m c t.val t.isLt).2.2 j = arrDB m c (ix2 0 (j 1)) := by
      have hj : j = ix2 0 (j 1) := funext (fun a => match a with
        | ⟨0, _⟩ => Fin.fin_one_eq_zero _
        | ⟨1, _⟩ => rfl)
      conv_lhs => rw [hj]
      refine (out14 m c (j 1) t.val t.isLt).trans ?_
      obtain ⟨n, hn⟩ := t
      dsimp only at ht
      subst ht
      exact upTo_last _
    refine Eq.trans (b := (outsAt0 m c t.val t.isLt).2.2 j) rfl (hl.trans ?_)
    refine congrArg (arrDB m c) (funext fun a => Fin.ext ?_)
    match a with
    | ⟨0, _⟩ => show 0 = win0_14.index t 0 * 1 + 1 * (j 0).val; have h0 : (j 0).val < 1 := (j 0).isLt; rw [e0]; omega
    | ⟨1, _⟩ => show (j 1).val = win0_14.index t 1 * 6400 + 1 * (j 1).val; rw [e1]; omega
  · have hi : (i 0).val < 1 := (i 0).isLt
    have hi1 : (i 1).val < 6400 := (i 1).isLt
    obtain ⟨t, ht⟩ : ∃ t : Fin cfg0.N, t.val = 15 := ⟨⟨15, by show 15 < 16; omega⟩, rfl⟩
    refine ⟨t, (flush0_14 t).mpr (by rw [ht]), ?_⟩
    show i ∈ ((View.whole main_v33_2).slice (win0_14.rect t)).set
    rw [View.set_slice_whole, Rect.mem_set_unit]
    intro a
    match a with
    | ⟨0, _⟩ =>
      show win0_14.index t 0 * 1 ≤ (i 0).val ∧ (i 0).val < win0_14.index t 0 * 1 + 1
      rw [e0]; omega
    | ⟨1, _⟩ =>
      show win0_14.index t 1 * 6400 ≤ (i 1).val ∧ (i 1).val < win0_14.index t 1 * 6400 + 6400
      rw [e1]; omega

end Cert.KernelIdeal.Step
end
-- ==== Proof.ProjRef.lean ====
module
public import proofs.«01_k».proof.Proof.Gen.ReferenceIdeal.Read
public import Idealize.ShloMosaic.Lib.Pointwise
/-! The reference's three results, each entry as sums over its arguments. -/
@[expose] public section
set_option maxRecDepth 16384
noncomputable section
namespace Cert.ReferenceIdeal.Step
open Cert.ReferenceIdeal Cert.ReferenceIdeal.Gen Cert.ReferenceIdeal.Read Idealize.ShloMosaic Idealize.ShloMosaic.TcCoe Idealize.SL.Sem
/-! Sums over an axis together with an axis of one entry. -/

theorem drop_02 (v : S1x8192x1.Idx → EReal) (init : EReal) (s : Fin 8192) :
    Ideal.hostReduceAdd reducesTo_S1x8192x1_S8192_d0_2 v init (ix1 s) = init + v (ix3 0 s 0) := by
  unfold Ideal.hostReduceAdd
  congr 1
  refine Finset.sum_eq_single_of_mem _ ?_ ?_
  · rw [Finset.mem_filter]
    refine ⟨Finset.mem_univ _, funext fun b => ?_⟩
    match b with
    | ⟨0, _⟩ => rfl
  · intro i hi hne
    refine absurd (funext fun a => ?_) hne
    have h := congrFun (Finset.mem_filter.mp hi).2 0
    match a with
    | ⟨0, _⟩ => exact Fin.fin_one_eq_zero _
    | ⟨1, _⟩ => exact h
    | ⟨2, _⟩ => exact Fin.fin_one_eq_zero _
theorem drop_01 (v : S1x1x1024.Idx → EReal) (init : EReal) (k : Fin 1024) :
    Ideal.hostReduceAdd reducesTo_S1x1x1024_S1024_d0_1 v init (ix1 k) = init + v (ix3 0 0 k) := by
  unfold Ideal.hostReduceAdd
  congr 1
  refine Finset.sum_eq_single_of_mem _ ?_ ?_
  · rw [Finset.mem_filter]
    refine ⟨Finset.mem_univ _, funext fun b => ?_⟩
    match b with
    | ⟨0, _⟩ => rfl
  · intro i hi hne
    refine absurd (funext fun a => ?_) hne
    have h := congrFun (Finset.mem_filter.mp hi).2 0
    match a with
    | ⟨0, _⟩ => exact Fin.fin_one_eq_zero _
    | ⟨1, _⟩ => exact Fin.fin_one_eq_zero _
    | ⟨2, _⟩ => exact h
theorem drop_01' (v : S1x1x6400.Idx → EReal) (init : EReal) (k : Fin 6400) :
    Ideal.hostReduceAdd reducesTo_S1x1x6400_S6400_d0_1 v init (ix1 k) = init + v (ix3 0 0 k) := by
  unfold Ideal.hostReduceAdd
  congr 1
  refine Finset.sum_eq_single_of_mem _ ?_ ?_
  · rw [Finset.mem_filter]
    refine ⟨Finset.mem_univ _, funext fun b => ?_⟩
    match b with
    | ⟨0, _⟩ => rfl
  · intro i hi hne
    refine absurd (funext fun a => ?_) hne
    have h := congrFun (Finset.mem_filter.mp hi).2 0
    match a with
    | ⟨0, _⟩ => exact Fin.fin_one_eq_zero _
    | ⟨1, _⟩ => exact Fin.fin_one_eq_zero _
    | ⟨2, _⟩ => exact h

/-! The results. -/

theorem db_apply (x5 : FVec Ideal S1x8192x6400 .f32) (j : Fin 6400) :
    val_main_v27 (F := Ideal) x5 (ix2 0 j) = ∑ s : Fin 8192, x5 (ix3 0 s j) := by
  pointwise [drop_01', val_main_v27, val_main_v26, val_main_v25, val_main_v24, val_main_cst_3, val_main_cst_2, val_main_cst_4]

/-- The mean square of a row plus ε. -/
def meanSq (a : Fin 1024 → EReal) : EReal :=
  Ideal.div (∑ k : Fin 1024, a k * a k) (Ideal.ofBits FTy.f32 1149239296#32) + Ideal.ofBits FTy.f32 897988541#32

theorem dg_apply (x0 : FVec Ideal S1x8192x1024 .f32) (x2 : FVec Ideal S1x1024x6400 .f32) (x5 : FVec Ideal S1x8192x6400 .f32) (k : Fin 1024) :
    val_main_v54 (F := Ideal) x0 x2 x5 (ix2 0 k)
      = ∑ s : Fin 8192, x0 (ix3 0 s k) * Ideal.rsqrt (meanSq fun k => x0 (ix3 0 s k)) * ∑ j : Fin 6400, x5 (ix3 0 s j) * x2 (ix3 0 k j) := by
  unfold meanSq
  pointwise [drop_01, val_main_v0,val_main_v1,val_main_cst,val_main_v2,val_main_v3,val_main_cst_0,val_main_v4,val_main_v5,val_main_cst_1,val_main_v6,val_main_v7,val_main_v8,val_main_v9,val_main_cst_2,val_main_v10,val_main_v11,val_main_v12,val_main_v13,val_main_v14,val_main_v15,val_main_v16,val_main_v17,val_main_v18,val_main_v19,val_main_v20,val_main_v21,val_main_v22,val_main_v23,val_main_cst_3,val_main_v24,val_main_v25,val_main_cst_4,val_main_v26,val_main_v27,val_main_v28,val_main_v29,val_main_v30,val_main_v31,val_main_v32,val_main_cst_5,val_main_v33,val_main_v34,val_main_v35,val_main_v36,val_main_cst_6,val_main_v37,val_main_v38,val_main_cst_7,val_main_v39,val_main_v40,val_main_v41,val_main_v42,val_main_v43,val_main_v44,val_main_cst_8,val_main_v45,val_main_v46,val_main_cst_9,val_main_v47,val_main_v48,val_main_v49,val_main_v50,val_main_v51,val_main_v52,val_main_v53,val_main_v54,val_main_v55]

/-- The chain rule's term through the mean square. -/
def viaMean (a d : Fin 1024 → EReal) : EReal :=
  Ideal.div ((∑ k : Fin 1024, a k * d k) * (Ideal.ofBits FTy.f32 3204448256#32 * Ideal.div (Ideal.rsqrt (meanSq a)) (meanSq a))) (Ideal.ofBits FTy.f32 1149239296#32)

theorem dx_apply (x0 : FVec Ideal S1x8192x1024 .f32) (x1 : FVec Ideal S1x1024 .f32) (x2 : FVec Ideal S1x1024x6400 .f32)
    (x4 : FVec Ideal S1x8192x1024 .f32) (x5 : FVec Ideal S1x8192x6400 .f32) (s : Fin 8192) (k : Fin 1024) :
    val_main_v55 (F := Ideal) x0 x1 x2 x4 x5 (ix2 s k)
      = x4 (ix3 0 s k) + (∑ j : Fin 6400, x5 (ix3 0 s j) * x2 (ix3 0 k j)) * x1 (ix2 0 k) * Ideal.rsqrt (meanSq fun k => x0 (ix3 0 s k))
        + x0 (ix3 0 s k) * viaMean (fun k => x0 (ix3 0 s k)) (fun k => (∑ j : Fin 6400, x5 (ix3 0 s j) * x2 (ix3 0 k j)) * x1 (ix2 0 k))
        + viaMean (fun k => x0 (ix3 0 s k)) (fun k => (∑ j : Fin 6400, x5 (ix3 0 s j) * x2 (ix3 0 k j)) * x1 (ix2 0 k)) * x0 (ix3 0 s k) := by
  unfold viaMean meanSq
  pointwise [drop_02, val_main_v0,val_main_v1,val_main_cst,val_main_v2,val_main_v3,val_main_cst_0,val_main_v4,val_main_v5,val_main_cst_1,val_main_v6,val_main_v7,val_main_v8,val_main_v9,val_main_cst_2,val_main_v10,val_main_v11,val_main_v12,val_main_v13,val_main_v14,val_main_v15,val_main_v16,val_main_v17,val_main_v18,val_main_v19,val_main_v20,val_main_v21,val_main_v22,val_main_v23,val_main_cst_3,val_main_v24,val_main_v25,val_main_cst_4,val_main_v26,val_main_v27,val_main_v28,val_main_v29,val_main_v30,val_main_v31,val_main_v32,val_main_cst_5,val_main_v33,val_main_v34,val_main_v35,val_main_v36,val_main_cst_6,val_main_v37,val_main_v38,val_main_cst_7,val_main_v39,val_main_v40,val_main_v41,val_main_v42,val_main_v43,val_main_v44,val_main_cst_8,val_main_v45,val_main_v46,val_main_cst_9,val_main_v47,val_main_v48,val_main_v49,val_main_v50,val_main_v51,val_main_v52,val_main_v53,val_main_v54,val_main_v55]

end Cert.ReferenceIdeal.Step
end
-- ==== Proof.ProjValue.lean ====
module
public import proofs.«01_k».proof.Defs
public import proofs.«01_k».proof.Proof.ProjRun
public import proofs.«01_k».proof.Proof.ProjRef
public import proofs.«01_k».proof.Proof.ProjMath
public import proofs.«01_k».proof.Proof.Finite
public import Idealize.ShloMosaic.Lib.Quiescent
public import proofs.«01_k».proof.Proof.Gen.Pre_finite
public import proofs.«01_k».proof.Proof.Gen.Kernel.Frame
/-! The projection's gradient kernel and the gradient of the forward lines leave the same three arrays. -/
@[expose] public section
set_option maxRecDepth 16384
noncomputable section
namespace Cert.Proj
open Idealize.ShloMosaic Idealize.ShloMosaic.TcCoe Idealize.SL.Sem
open Cert.KernelIdeal.Step

variable (m : (ℓ : Loc Cert.KernelIdeal.nD Cert.KernelIdeal.τ Cert.KernelIdeal.sig) → Buf (Elt Ideal) ℓ)

theorem x_real (hp : Cert.Pre_KernelIdeal_finite m) (c : Dev Cert.KernelIdeal.nD) (s : Fin 8192) (k : Fin 1024) : ∃ r : ℝ, X m c s k = (r : EReal) :=
  real_of_lt _ (congrFun (hp c) (ix3 0 s k))

variable (m' : (ℓ : Loc Cert.ReferenceIdeal.nD Cert.ReferenceIdeal.τ Cert.ReferenceIdeal.sig) → Buf (Elt Ideal) ℓ)

open Cert.ReferenceIdeal.Read Cert.ReferenceIdeal.Step

theorem gx_chain (hp : Cert.Pre_KernelIdeal_finite m) (c : Dev Cert.KernelIdeal.nD) (s : Fin 8192) (k : Fin 1024) :
    DX m c s k + DH m c s k * G m c k * Ideal.rsqrt (meanSq (X m c s)) + X m c s k * viaMean (X m c s) (fun k => DH m c s k * G m c k)
      + viaMean (X m c s) (fun k => DH m c s k * G m c k) * X m c s k = GX m c s k := by
  choose x hx using x_real m hp c s
  have h := RmsGrad.grad x (fun k => DH m c s k * G m c k) (DX m c s k) k _ _ rfl rfl
  simp only [← hx] at h
  exact h.symm

theorem dx_eq (hp : Cert.Pre_KernelIdeal_finite m) (c : Dev Cert.KernelIdeal.nD) :
    val_main_v55 (F := Ideal) (m (c.tc.loc Cert.KernelIdeal.main_arg0)) (m (c.tc.loc Cert.KernelIdeal.main_arg1)) (m (c.tc.loc Cert.KernelIdeal.main_arg2))
      (m (c.tc.loc Cert.KernelIdeal.main_arg4)) (m (c.tc.loc Cert.KernelIdeal.main_arg5)) = arrGX m c := by
  funext (i : Cert.KernelIdeal.S8192x1024.Idx)
  have hi : i = ix2 (i 0) (i 1) := funext (fun a => match a with
    | ⟨0, _⟩ => rfl
    | ⟨1, _⟩ => rfl)
  refine (congrArg _ hi).trans ((Cert.ReferenceIdeal.Step.dx_apply _ _ _ _ _ (i 0) (i 1)).trans ?_)
  exact gx_chain m hp c (i 0) (i 1)

theorem dg_eq (c : Dev Cert.KernelIdeal.nD) :
    val_main_v54 (F := Ideal) (m (c.tc.loc Cert.KernelIdeal.main_arg0)) (m (c.tc.loc Cert.KernelIdeal.main_arg2)) (m (c.tc.loc Cert.KernelIdeal.main_arg5)) = arrDG m c := by
  funext (i : Cert.KernelIdeal.S1x1024.Idx)
  have hi : i = ix2 0 (i 1) := funext (fun a => match a with
    | ⟨0, _⟩ => Fin.fin_one_eq_zero _
    | ⟨1, _⟩ => rfl)
  refine (congrArg _ hi).trans ((Cert.ReferenceIdeal.Step.dg_apply _ _ _ (i 1)).trans ?_)
  exact Finset.sum_congr rfl fun s _ => mul_comm _ _

theorem db_eq (c : Dev Cert.KernelIdeal.nD) :
    val_main_v27 (F := Ideal) (m (c.tc.loc Cert.KernelIdeal.main_arg5)) = arrDB m c := by
  funext (i : Cert.KernelIdeal.S1x6400.Idx)
  have hi : i = ix2 0 (i 1) := funext (fun a => match a with
    | ⟨0, _⟩ => Fin.fin_one_eq_zero _
    | ⟨1, _⟩ => rfl)
  exact (congrArg _ hi).trans (Cert.ReferenceIdeal.Step.db_apply _ (i 1))

theorem value : Cert.algebraic_KernelIdeal_ReferenceIdeal_pre_finite := by
  intro m g m' g' hp he
  refine ⟨arrGX m, arrDG m, arrDB m, ?_, ?_⟩
  · refine (θ_run Cert.KernelIdeal.defs _ _).mono (fun r h c => ?_) (Cert.KernelIdeal.Value.run_blocks (F := Ideal) m g)
    obtain ⟨h0, h1, h2, h3⟩ := h c
    exact ⟨h0.trans (final12 m c), h1.trans (final13 m c), h2.trans (final14 m c), h3⟩
  · refine (θ_run Cert.ReferenceIdeal.defs _ _).mono (fun r h c => ?_) (Cert.ReferenceIdeal.Value.run (F := Ideal) m' g')
    obtain ⟨h0, h1, h2, h3⟩ := h c
    obtain ⟨e0, e1, e2, e3, e4, e5⟩ := he c
    refine ⟨h0.trans ((val_main_v55_eq m' c).trans ?_), h1.trans ((val_main_v54_eq _ _ _).trans ?_), h2.trans ((val_main_v27_eq _).trans ?_), h3⟩
    · rw [e0, e1, e2, e4, e5]; exact dx_eq m hp c
    · rw [e0, e2, e5]; exact dg_eq m c
    · rw [e5]; exact db_eq m c

/-- The reference ends with its arguments as launched and every semaphore at zero: it has no semaphores. -/
theorem frame_reference : Cert.quiescent_ReferenceIdeal := fun m g _ =>
  (θ_run Cert.ReferenceIdeal.defs _ _).mono (fun r h => ⟨fun c => (h c).2.2.2, sem_eq_zero_of_no_sems rfl r.2⟩)
    (Cert.ReferenceIdeal.Value.run (F := Ideal) m g)

end Cert.Proj
end
-- ==== Proof.RetfStep.lean ====
/- What one grid point of the retention leaves in its two output blocks and in the carried state: the pieces its run found, as
   one list over the four heads and the four chunks of a step. -/
module

public import proofs.«01_k».proof.Proof.Gen.RetfKernelIdeal.Value
public import Idealize.ShloMosaic.Lib.Tactic
public import Idealize.ShloMosaic.Lib.Pipeline.ReadBack

@[expose] public section

set_option maxRecDepth 16384

noncomputable section

namespace Cert.RetfKernelIdeal.Step

open Cert.RetfKernelIdeal Cert.RetfKernelIdeal.Gen Idealize.ShloMosaic Idealize.ShloMosaic.TcCoe Idealize.SL.Sem

variable {F : FTy → Type} [FloatOps F]

/-! ## The blocks a point holds, cut by chunk and head -/

theorem fit2 {r w n p : ℕ} (ch hd : Fin 4) (hr : 4 * r = n) (hw : 4 * w = p) :
    ∀ a, (![ch.val * r, hd.val * w] : Fin 2 → ℕ) a + (![r, w] : Fin 2 → ℕ) a ≤ (![n, p] : Fin 2 → ℕ) a := fun a => by
  have h1 : (ch.val + 1) * r ≤ 4 * r := Nat.mul_le_mul_right r ch.isLt
  have h2 : (hd.val + 1) * w ≤ 4 * w := Nat.mul_le_mul_right w hd.isLt
  rw [Nat.succ_mul] at h1 h2
  match a with
  | ⟨0, _⟩ => exact (show ch.val * r + r ≤ n by omega)
  | ⟨1, _⟩ => exact (show hd.val * w + w ≤ p by omega)

theorem fit3 {r w : ℕ} (hd : Fin 4) : ∀ a, (![hd.val, 0, 0] : Fin 3 → ℕ) a + (![1, r, w] : Fin 3 → ℕ) a ≤ (![4, r, w] : Fin 3 → ℕ) a := fun a => by
  have := hd.isLt
  match a with
  | ⟨0, _⟩ => show hd.val + 1 ≤ 4; omega
  | ⟨1, _⟩ => show 0 + r ≤ r; omega
  | ⟨2, _⟩ => show 0 + w ≤ w; omega

theorem fit4 (ch hd : Fin 4) : ∀ a, (![ch.val, hd.val, 0, 0] : Fin 4 → ℕ) a + (![1, 1, 128, 256] : Fin 4 → ℕ) a ≤ S4x4x128x256.size a := fun a => by
  have := hd.isLt; have := ch.isLt
  match a with
  | ⟨0, _⟩ => show ch.val + 1 ≤ 4; omega
  | ⟨1, _⟩ => show hd.val + 1 ≤ 4; omega
  | ⟨2, _⟩ => show 0 + 128 ≤ 128; omega
  | ⟨3, _⟩ => show 0 + 256 ≤ 256; omega

variable {e : EltTy}

def cut512 (x : Vec F S1024x512 e) (ch hd : Fin 4) : Vec F S256x128 e :=
  View.ld x (Rect.unit ![ch.val * 256, hd.val * 128] ![256, 128] (fit2 (r := 256) (w := 128) (n := 1024) (p := 512) ch hd rfl rfl))
def cut1024 (x : Vec F S1024x1024 e) (ch hd : Fin 4) : Vec F S256x256 e :=
  View.ld x (Rect.unit ![ch.val * 256, hd.val * 256] ![256, 256] (fit2 (r := 256) (w := 256) (n := 1024) (p := 1024) ch hd rfl rfl))
def cutD (x : Vec F S4x256x256 e) (hd : Fin 4) : Vec F S1x256x256 e := View.ld x (Rect.unit ![hd.val, 0, 0] ![1, 256, 256] (fit3 (r := 256) (w := 256) hd))
def cutR (x : Vec F S4x256x1 e) (hd : Fin 4) : Vec F S1x256x1 e := View.ld x (Rect.unit ![hd.val, 0, 0] ![1, 256, 1] (fit3 (r := 256) (w := 1) hd))
def cutC (x : Vec F S4x1x1 e) (hd : Fin 4) : Vec F S1x1x1 e := View.ld x (Rect.unit ![hd.val, 0, 0] ![1, 1, 1] (fit3 (r := 1) (w := 1) hd))
def cutS (x : Vec F S4x128x256 e) (hd : Fin 4) : Vec F S1x128x256 e := View.ld x (Rect.unit ![hd.val, 0, 0] ![1, 128, 256] (fit3 (r := 128) (w := 256) hd))

/-- The rows of a chunk and the columns of a head. -/
abbrev rowRect (ch hd : Fin 4) : Rect S1024x1024 :=
  Rect.unit ![ch.val * 256, hd.val * 256] ![256, 256] (fit2 (r := 256) (w := 256) (n := 1024) (p := 1024) ch hd rfl rfl)

/-- Where one head's chunks of a block of rows are stored, the last first. -/
def rowPieces (hd : Fin 4) (y : Fin 4 → FVec F S256x256 .bf16) : List (View.Piece (Elt F) S1024x1024 .bf16) :=
  ([3, 2, 1, 0] : List (Fin 4)).map fun ch =>
    ⟨rowRect ch hd, y ch⟩

/-! ## One head of one chunk -/

section Pieces

variable (x0 : Vec F S1024x512 .bf16) (x1 : Vec F S1024x512 .f32) (x2 : Vec F S1024x1024 .bf16) (x3 : Vec F S4x256x256 .f32) (x4 : Vec F S4x256x1 .f32) (x5 : Vec F S4x256x1 .f32) (x6 : Vec F S4x1x1 .f32)

/-- What a chunk adds to the state. -/
def added (ch hd : Fin 4) : FVec F S128x256 .f32 := k0_pay8 (cut512 x1 ch hd) (cut1024 x2 ch hd) (cutR x5 hd)

/-- The state after a chunk. -/
def after (s : FVec F S128x256 .f32) (ch hd : Fin 4) : FVec F S128x256 .f32 := k0_pay37 (added x1 x2 x5 ch hd) s (cutC x6 hd)

/-- The state before chunk `n` of the step, from that before the step: the earlier chunks in turn. -/
def before (s : FVec F S128x256 .f32) (hd : Fin 4) (n : ℕ) : FVec F S128x256 .f32 :=
  match n with
  | 0 => s
  | 1 => after x1 x2 x5 x6 s 0 hd
  | 2 => after x1 x2 x5 x6 (after x1 x2 x5 x6 s 0 hd) 1 hd
  | _ => after x1 x2 x5 x6 (after x1 x2 x5 x6 (after x1 x2 x5 x6 s 0 hd) 1 hd) 2 hd

/-- The chunk's rows of the output: from inside the chunk and from the state before it. -/
def yBlk (s : FVec F S128x256 .f32) (ch hd : Fin 4) : FVec F S256x256 .bf16 :=
  k0_pay1 (k0_pay4 (cut512 x0 ch hd)) (k0_pay7 (cut512 x0 ch hd) (cut512 x1 ch hd) (cut1024 x2 ch hd) (cutD x3 hd))
    (k0_pay30 (before x1 x2 x5 x6 s hd ch.val)) (cutR x4 hd)

/-- What one head stores into the output block, the states' block and the carried state, last first. -/
def outHead (s : FVec F S128x256 .f32) (hd : Fin 4) : List (View.Piece (Elt F) S1024x1024 .bf16) :=
  rowPieces hd fun ch => yBlk x0 x1 x2 x3 x4 x5 x6 s ch hd
def stHead (s : FVec F S128x256 .f32) (hd : Fin 4) : List (View.Piece (Elt F) S4x4x128x256 .bf16) :=
  ([3, 2, 1, 0] : List (Fin 4)).map fun ch => ⟨Rect.unit ![ch.val, hd.val, 0, 0] ![1, 1, 128, 256] (fit4 ch hd), k0_pay31 (before x1 x2 x5 x6 s hd ch.val)⟩
def scHead (s : FVec F S128x256 .f32) (hd : Fin 4) : View.Piece (Elt F) S4x128x256 .f32 :=
  ⟨Rect.unit ![hd.val, 0, 0] ![1, 128, 256] (fit3 (r := 128) (w := 256) hd), k0_pay2 (added x1 x2 x5 3 hd) (before x1 x2 x5 x6 s hd 3) (cutC x6 hd)⟩

end Pieces

section Cases

variable (c : Dev nD) (i : grid0.Coords) (a1 : Memref sig .tc .vmem S1024x512 .bf16) (h1 : a1.IsWhole) (a2 : Memref sig .tc .vmem S1024x512 .f32) (h2 : a2.IsWhole) (a3 : Memref sig .tc .vmem S1024x1024 .bf16) (h3 : a3.IsWhole) (a4 : Memref sig .tc .vmem S4x256x256 .f32) (h4 : a4.IsWhole) (a5 : Memref sig .tc .vmem S4x256x1 .f32) (h5 : a5.IsWhole) (a6 : Memref sig .tc .vmem S4x256x1 .f32) (h6 : a6.IsWhole) (a7 : Memref sig .tc .vmem S4x1x1 .f32) (h7 : a7.IsWhole) (a8 : Memref sig .tc .vmem S1024x1024 .bf16) (h8 : a8.IsWhole) (a9 : Memref sig .tc .vmem S4x4x128x256 .bf16) (h9 : a9.IsWhole) (a10 : Memref sig .tc .vmem S4x128x256 .f32) (h10 : a10.IsWhole)
  (x0 : Vec F S1024x512 .bf16) (x1 : Vec F S1024x512 .f32) (x2 : Vec F S1024x1024 .bf16) (x3 : Vec F S4x256x256 .f32) (x4 : Vec F S4x256x1 .f32) (x5 : Vec F S4x256x1 .f32) (x6 : Vec F S4x1x1 .f32) (xs0 : Vec F S4x128x256 .f32)

set_option maxHeartbeats 40000000 in
theorem out_B (hc : ¬cond0_0 i) :
    out0_B_7 c i a1 h1 a2 h2 a3 h3 a4 h4 a5 h5 a6 h6 a7 h7 a8 h8 a9 h9 a10 h10 hc x0 x1 x2 x3 x4 x5 x6 xs0 = View.canon (([3, 2, 1, 0] : List (Fin 4)).flatMap fun hd => outHead x0 x1 x2 x3 x4 x5 x6 (k0_pay25 (cutS xs0 hd)) hd) := by
  unfold out0_B_7
  rw [View.read_writes_eq_canon _ _ _ (cover0_B_7 c i a1 h1 a2 h2 a3 h3 a4 h4 a5 h5 a6 h6 a7 h7 a8 h8 a9 h9 a10 h10 hc x0 x1 x2 x3 x4 x5 x6 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  rfl

set_option maxHeartbeats 40000000 in
theorem st_B (hc : ¬cond0_0 i) :
    out0_B_8 c i a1 h1 a2 h2 a3 h3 a4 h4 a5 h5 a6 h6 a7 h7 a8 h8 a9 h9 a10 h10 hc x0 x1 x2 x3 x4 x5 x6 xs0 = View.canon (([3, 2, 1, 0] : List (Fin 4)).flatMap fun hd => stHead x1 x2 x5 x6 (k0_pay25 (cutS xs0 hd)) hd) := by
  unfold out0_B_8
  rw [View.read_writes_eq_canon _ _ _ (cover0_B_8 c i a1 h1 a2 h2 a3 h3 a4 h4 a5 h5 a6 h6 a7 h7 a8 h8 a9 h9 a10 h10 hc x0 x1 x2 x3 x4 x5 x6 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  rfl

set_option maxHeartbeats 40000000 in
theorem sc_B (hc : ¬cond0_0 i) :
    sout0_B_0 c i a1 h1 a2 h2 a3 h3 a4 h4 a5 h5 a6 h6 a7 h7 a8 h8 a9 h9 a10 h10 hc x0 x1 x2 x3 x4 x5 x6 xs0 = View.canon ((([3, 2, 1, 0] : List (Fin 4)).map fun hd => scHead x1 x2 x5 x6 (k0_pay25 (cutS xs0 hd)) hd)) := by
  unfold sout0_B_0
  rw [View.read_writes_eq_canon _ _ _ (scover0_B_0 c i a1 h1 a2 h2 a3 h3 a4 h4 a5 h5 a6 h6 a7 h7 a8 h8 a9 h9 a10 h10 hc x0 x1 x2 x3 x4 x5 x6 xs0)]
  unfold kernelRun0_B
  dsimp only
  sl_unfold_words
  simp only [View.readAt_eq_ld, h1.read_unread, h2.read_unread, h3.read_unread, h4.read_unread, h5.read_unread, h6.read_unread, h7.read_unread, h8.read_unread, h9.read_unread, h10.read_unread]
  rfl

theorem hz : (![0, 0, 0] : Fin 3 → ℕ) = fun _ => 0 := funext fun a => match a with | ⟨0, _⟩ => rfl | ⟨1, _⟩ => rfl | ⟨2, _⟩ => rfl

/-- A load of one head's state after the first point's fill of them all. -/
theorem filled {sp : Space} (v : View sig .tc sp S4x128x256 .f32) (w : S4x128x256.Idx → Elt F .f32) (L : List (View.Piece (Elt F) S4x128x256 .f32)) (r : Rect S4x128x256) :
    v.readCov (⟨Rect.unit ![0, 0, 0] ![4, 128, 256] inb_S4x128x256_S4x128x256_0_0_0, w⟩ :: L) r.toLoadRect = View.ld w r := by
  rw [View.readCov_eq_canon']
  exact congrArg (fun X => View.ld X r) (View.canon_cons_unit_zero (S := S4x128x256) hz _ _ _)

/-- … and it does not see what another head stored since. -/
theorem skipped {sp : Space} (v : View sig .tc sp S4x128x256 .f32) (p q : ℕ) (hp) (hq) (w) (L : List (View.Piece (Elt F) S4x128x256 .f32)) (h : p ≠ q) :
    v.readCov (⟨Rect.unit ![p, 0, 0] ![1, 128, 256] hp, w⟩ :: L) (Rect.unit ![q, 0, 0] ![1, 128, 256] hq).toLoadRect
      = v.readCov L (Rect.unit ![q, 0, 0] ![1, 128, 256] hq).toLoadRect := by
  rw [View.readCov_eq_canon', View.readCov_eq_canon']
  funext j
  refine View.canon_cons_of_not_mem _ L ?_
  intro hm
  have h0 := (Rect.mem_set_unit (inb := hp)).mp hm 0
  have e : (((Rect.unit (s := S4x128x256) ![q, 0, 0] ![1, 128, 256] hq).idx j) 0 : ℕ) = q + (j 0 : ℕ) := (show q + 1 * (j 0 : ℕ) = _ by omega)
  have l : (j 0 : ℕ) < 1 := (j 0).isLt
  have h0' : p ≤ (((Rect.unit (s := S4x128x256) ![q, 0, 0] ![1, 128, 256] hq).idx j) 0 : ℕ) ∧ (((Rect.unit (s := S4x128x256) ![q, 0, 0] ![1, 128, 256] hq).idx j) 0 : ℕ) < p + 1 := h0
  omega

set_option maxHeartbeats 40000000 in
theorem sc_A (hc : cond0_0 i) :
    sout0_A_0 c i a1 h1 a2 h2 a3 h3 a4 h4 a5 h5 a6 h6 a7 h7 a8 h8 a9 h9 a10 h10 hc x0 x1 x2 x3 x4 x5 x6 = View.canon ((([3, 2, 1, 0] : List (Fin 4)).map fun hd => scHead x1 x2 x5 x6 (k0_pay25 (cutS k0_pay3 hd)) hd) ++ [⟨Rect.unit ![0, 0, 0] ![4, 128, 256] inb_S4x128x256_S4x128x256_0_0_0, k0_pay3⟩]) := by
  unfold sout0_A_0
  rw [View.read_writes_eq_canon _ _ _ (scover0_A_0 c i a1 h1 a2 h2 a3 h3 a4 h4 a5 h5 a6 h6 a7 h7 a8 h8 a9 h9 a10 h10 hc x0 x1 x2 x3 x4 x5 x6)]
  unfold kernelRun0_A
  dsimp only
  sl_unfold_words
  simp (discharger := decide) only [↓skipped, ↓filled, View.readAt_eq_ld, h1.read_unread, h2.read_unread, h3.read_unread, h4.read_unread, h5.read_unread, h6.read_unread, h7.read_unread, h8.read_unread, h9.read_unread, h10.read_unread]
  generalize k0_pay3 (F := F) = z
  rfl

set_option maxHeartbeats 40000000 in
theorem out_A (hc : cond0_0 i) :
    out0_A_7 c i a1 h1 a2 h2 a3 h3 a4 h4 a5 h5 a6 h6 a7 h7 a8 h8 a9 h9 a10 h10 hc x0 x1 x2 x3 x4 x5 x6 = View.canon (([3, 2, 1, 0] : List (Fin 4)).flatMap fun hd => outHead x0 x1 x2 x3 x4 x5 x6 (k0_pay25 (cutS k0_pay3 hd)) hd) := by
  unfold out0_A_7
  rw [View.read_writes_eq_canon _ _ _ (cover0_A_7 c i a1 h1 a2 h2 a3 h3 a4 h4 a5 h5 a6 h6 a7 h7 a8 h8 a9 h9 a10 h10 hc x0 x1 x2 x3 x4 x5 x6)]
  unfold kernelRun0_A
  dsimp only
  sl_unfold_words
  simp (discharger := decide) only [↓skipped, ↓filled, View.readAt_eq_ld, h1.read_unread, h2.read_unread, h3.read_unread, h4.read_unread, h5.read_unread, h6.read_unread, h7.read_unread, h8.read_unread, h9.read_unread, h10.read_unread]
  generalize k0_pay3 (F := F) = z
  rfl

set_option maxHeartbeats 40000000 in
theorem st_A (hc : cond0_0 i) :
    out0_A_8 c i a1 h1 a2 h2 a3 h3 a4 h4 a5 h5 a6 h6 a7 h7 a8 h8 a9 h9 a10 h10 hc x0 x1 x2 x3 x4 x5 x6 = View.canon (([3, 2, 1, 0] : List (Fin 4)).flatMap fun hd => stHead x1 x2 x5 x6 (k0_pay25 (cutS k0_pay3 hd)) hd) := by
  unfold out0_A_8
  rw [View.read_writes_eq_canon _ _ _ (cover0_A_8 c i a1 h1 a2 h2 a3 h3 a4 h4 a5 h5 a6 h6 a7 h7 a8 h8 a9 h9 a10 h10 hc x0 x1 x2 x3 x4 x5 x6)]
  unfold kernelRun0_A
  dsimp only
  sl_unfold_words
  simp (discharger := decide) only [↓skipped, ↓filled, View.readAt_eq_ld, h1.read_unread, h2.read_unread, h3.read_unread, h4.read_unread, h5.read_unread, h6.read_unread, h7.read_unread, h8.read_unread, h9.read_unread, h10.read_unread]
  generalize k0_pay3 (F := F) = z
  rfl

end Cases

end Cert.RetfKernelIdeal.Step
-- ==== Proof.RetfMath.lean ====
/- What the retention hands on over the real numbers: a position's output as a sum over the positions up to it, and the same
   sum cut at a chunk, with a state carried in from before it. -/
module

public import proofs.«01_k».proof.Proof.RetMath

@[expose] public section

namespace Cert.Retention

variable (E : ℕ → ℝ) (q k : ℕ → Fin 128 → ℝ) (v : ℕ → Fin 256 → ℝ)

/-- A position's output over `T` positions. -/
def out (T t : ℕ) (e : Fin 256) : ℝ := ∑ s ∈ Finset.range T, qk q k t s * w E t s * v s e

variable {E} (hE : ∀ m n, E (m + n) = E m * E n)

include hE in
theorem out_cut (a C R : ℕ) (i : Fin C) (e : Fin 256) :
    out E q k v (a + (C + R)) (a + i) e
      = (∑ j : Fin C, qk q k (a + i) (a + j) * w E i j * v (a + j) e) + (∑ d, q (a + i) d * state E k v a d e) * E (i + 1) := by
  have hi := i.isLt
  unfold out
  rw [Finset.sum_range_add, Finset.sum_range_add, Finset.sum_range (n := C)]
  have h1 : ∑ s ∈ Finset.range a, qk q k (a + i) s * w E (a + i) s * v s e = (∑ d, q (a + i) d * state E k v a d e) * E (i + 1) := by
    unfold state
    simp only [Finset.mul_sum, Finset.sum_mul]
    rw [Finset.sum_comm]
    refine Finset.sum_congr rfl fun s hs => ?_
    have h := Finset.mem_range.mp hs
    have e1 : w E (a + i) s = E (i + 1) * E (a - 1 - s) := by
      unfold w; rw [if_pos (by omega), ← hE]; congr 1; omega
    rw [e1]; unfold qk
    rw [Finset.sum_mul, Finset.sum_mul]
    exact Finset.sum_congr rfl fun d _ => by ring
  have h2 : ∑ x ∈ Finset.range R, qk q k (a + i) (a + (C + x)) * w E (a + i) (a + (C + x)) * v (a + (C + x)) e = 0 := by
    refine Finset.sum_eq_zero fun x _ => ?_
    unfold w; rw [if_neg (by omega)]; ring
  rw [h1, h2, add_zero, add_comm]
  congr 1
  refine Finset.sum_congr rfl fun j _ => ?_
  unfold w
  simp only [Nat.add_le_add_iff_left, Nat.add_sub_add_left]

end Cert.Retention
-- ==== Proof.RetfParts.lean ====
/- One head of one chunk of the retention over the real numbers: what each stored piece is, when the blocks the point holds are
   the retention's own quantities over the block's 1024 positions. -/
module

public import proofs.«01_k».proof.Proof.RetfStep
public import proofs.«01_k».proof.Proof.RetfMath
public import proofs.«01_k».proof.Proof.ProjMath
public import Idealize.ShloMosaic.Lib.Pointwise
public import Idealize.ShloMosaic.Lib.Pipeline.ValueKit.Tiles

@[expose] public section

set_option maxRecDepth 16384

noncomputable section

namespace Cert.RetfKernelIdeal.Step

open Cert.RetfKernelIdeal Cert.RetfKernelIdeal.Gen Idealize.ShloMosaic Idealize.ShloMosaic.TcCoe Idealize.SL.Sem
open Cert.RmsGrad (coe_sum)
open Cert.Retention

/-! ## The parts, at an index -/

theorem after_of (K : Vec Ideal S256x128 .f32) (V : Vec Ideal S256x256 .bf16) (KD : Vec Ideal S1x256x1 .f32) (CD : Vec Ideal S1x1x1 .f32) (s : FVec Ideal S128x256 .f32)
    (k : Fin 256 → Fin 128 → ℝ) (v : Fin 256 → Fin 256 → ℝ) (kd : Fin 256 → ℝ) (cd : ℝ) (g : Fin 128 → Fin 256 → ℝ)
    (hK : ∀ i d, K (ix2 i d) = (k i d : EReal)) (hV : ∀ i e, V (ix2 i e) = (v i e : EReal)) (hkd : ∀ i, KD (ix3 0 i 0) = (kd i : EReal)) (hcd : CD (ix3 0 0 0) = (cd : EReal))
    (hg : ∀ d e, s (ix2 d e) = (g d e : EReal)) (d : Fin 128) (e : Fin 256) :
    k0_pay37 (k0_pay8 K V KD) s CD (ix2 d e) = ((g d e * cd + ∑ j, k j d * kd j * v j e : ℝ) : EReal) := by
  pointwise [k0_pay37, k0_pay8, k0_pay5, k0_pay6]
  simp only [hK, hV, hkd, hcd, hg, ← EReal.coe_mul, coe_sum, ← EReal.coe_add]

theorem y_of (Q : Vec Ideal S256x128 .bf16) (K : Vec Ideal S256x128 .f32) (V : Vec Ideal S256x256 .bf16) (D : Vec Ideal S1x256x256 .f32) (QD : Vec Ideal S1x256x1 .f32)
    (s : FVec Ideal S128x256 .f32) (W : Fin 256 → Fin 256 → ℝ) (q k : Fin 256 → Fin 128 → ℝ) (v : Fin 256 → Fin 256 → ℝ) (qd : Fin 256 → ℝ) (g : Fin 128 → Fin 256 → ℝ)
    (hQ : ∀ i d, Q (ix2 i d) = (q i d : EReal)) (hK : ∀ i d, K (ix2 i d) = (k i d : EReal)) (hV : ∀ i e, V (ix2 i e) = (v i e : EReal))
    (hD : ∀ i j, D (ix3 0 i j) = (W i j : EReal)) (hqd : ∀ i, QD (ix3 0 i 0) = (qd i : EReal)) (hg : ∀ d e, s (ix2 d e) = (g d e : EReal)) (i e : Fin 256) :
    k0_pay1 (k0_pay4 Q) (k0_pay7 Q K V D) (k0_pay30 s) QD (ix2 i e) = (((∑ j, (∑ d, q i d * k j d) * W i j * v j e) + (∑ d, q i d * g d e) * qd i : ℝ) : EReal) := by
  pointwise [k0_pay1, k0_pay4, k0_pay7, k0_pay30, k0_pay5, k0_pay6]
  simp only [hQ, hK, hV, hD, hqd, hg, ← EReal.coe_mul, coe_sum, ← EReal.coe_add]

/-! ## The cuts, at an index -/

section Cuts

variable {e : EltTy}

theorem cut512_at (x : Vec Ideal S1024x512 e) (ch hd : Fin 4) (r : Fin 256) (l : Fin 128) :
    cut512 x ch hd (ix2 r l) = x (ix2 ⟨ch.val * 256 + r.val, by omega⟩ ⟨hd.val * 128 + l.val, by omega⟩) :=
  congrArg x (funext fun a => Fin.ext (match a with
    | ⟨0, _⟩ => (show ch.val * 256 + 1 * r.val = ch.val * 256 + r.val by omega)
    | ⟨1, _⟩ => (show hd.val * 128 + 1 * l.val = hd.val * 128 + l.val by omega)))

theorem cut1024_at (x : Vec Ideal S1024x1024 e) (ch hd : Fin 4) (r : Fin 256) (l : Fin 256) :
    cut1024 x ch hd (ix2 r l) = x (ix2 ⟨ch.val * 256 + r.val, by omega⟩ ⟨hd.val * 256 + l.val, by omega⟩) :=
  congrArg x (funext fun a => Fin.ext (match a with
    | ⟨0, _⟩ => (show ch.val * 256 + 1 * r.val = ch.val * 256 + r.val by omega)
    | ⟨1, _⟩ => (show hd.val * 256 + 1 * l.val = hd.val * 256 + l.val by omega)))

theorem cut3_at {r w : ℕ} (x : (⟨3, ![4, r, w]⟩ : Shape).Idx → Elt Ideal e) (hd : Fin 4) (i : Fin r) (j : Fin w) :
    View.ld (Val := Elt Ideal) x (Rect.unit ![hd.val, 0, 0] ![1, r, w] (fit3 hd)) (ix3 0 i j) = x (ix3 hd i j) :=
  congrArg x (funext fun a => Fin.ext (match a with
    | ⟨0, _⟩ => (show hd.val + 1 * 0 = hd.val by omega)
    | ⟨1, _⟩ => (show 0 + 1 * i.val = i.val by omega)
    | ⟨2, _⟩ => (show 0 + 1 * j.val = j.val by omega)))

end Cuts

/-! ## The blocks of one point -/

/-- The blocks a point holds are head `hd`'s queries `q`, keys `k`, values `v` and decays over the 1024 positions from `a`. -/
structure Holds (E : ℕ → ℝ) (q k : ℕ → Fin 128 → ℝ) (v : ℕ → Fin 256 → ℝ) (a : ℕ) (hd : Fin 4)
    (x0 : Vec Ideal S1024x512 .bf16) (x1 : Vec Ideal S1024x512 .f32) (x2 : Vec Ideal S1024x1024 .bf16)
    (x3 : Vec Ideal S4x256x256 .f32) (x4 : Vec Ideal S4x256x1 .f32) (x5 : Vec Ideal S4x256x1 .f32) (x6 : Vec Ideal S4x1x1 .f32) : Prop where
  hE : ∀ m n, E (m + n) = E m * E n
  h0 : ∀ (r : Fin 1024) (d : Fin 128), x0 (ix2 r ⟨hd.val * 128 + d.val, by omega⟩) = (q (a + r.val) d : EReal)
  h1 : ∀ (r : Fin 1024) (d : Fin 128), x1 (ix2 r ⟨hd.val * 128 + d.val, by omega⟩) = (k (a + r.val) d : EReal)
  h2 : ∀ (r : Fin 1024) (e : Fin 256), x2 (ix2 r ⟨hd.val * 256 + e.val, by omega⟩) = (v (a + r.val) e : EReal)
  h3 : ∀ i j : Fin 256, x3 (ix3 hd i j) = (w E i j : EReal)
  h4 : ∀ i : Fin 256, x4 (ix3 hd i 0) = (E (i.val + 1) : EReal)
  h5 : ∀ i : Fin 256, x5 (ix3 hd i 0) = (E (256 - 1 - i.val) : EReal)
  h6 : x6 (ix3 hd 0 0) = (E 256 : EReal)

namespace Holds

variable {E : ℕ → ℝ} {q k : ℕ → Fin 128 → ℝ} {v : ℕ → Fin 256 → ℝ} {a : ℕ} {hd : Fin 4}
  {x0 : Vec Ideal S1024x512 .bf16} {x1 : Vec Ideal S1024x512 .f32} {x2 : Vec Ideal S1024x1024 .bf16}
  {x3 : Vec Ideal S4x256x256 .f32} {x4 : Vec Ideal S4x256x1 .f32} {x5 : Vec Ideal S4x256x1 .f32} {x6 : Vec Ideal S4x1x1 .f32}
  (H : Holds E q k v a hd x0 x1 x2 x3 x4 x5 x6)

include H

theorem q_at (ch : Fin 4) (r : Fin 256) (d : Fin 128) : cut512 x0 ch hd (ix2 r d) = (q (a + ch.val * 256 + r.val) d : EReal) := by
  rw [cut512_at, H.h0, Nat.add_assoc]
theorem k_at (ch : Fin 4) (r : Fin 256) (d : Fin 128) : cut512 x1 ch hd (ix2 r d) = (k (a + ch.val * 256 + r.val) d : EReal) := by
  rw [cut512_at, H.h1, Nat.add_assoc]
theorem v_at (ch : Fin 4) (r : Fin 256) (e : Fin 256) : cut1024 x2 ch hd (ix2 r e) = (v (a + ch.val * 256 + r.val) e : EReal) := by
  rw [cut1024_at, H.h2, Nat.add_assoc]

/-- One chunk of the state's way on. -/
theorem s_step (s : FVec Ideal S128x256 .f32) (ch : Fin 4) (b : ℕ) (hb : b = a + ch.val * 256)
    (hg : ∀ d e, s (ix2 d e) = (state E k v b d e : EReal)) (d : Fin 128) (e : Fin 256) :
    after x1 x2 x5 x6 s ch hd (ix2 d e) = (state E k v (b + 256) d e : EReal) := by
  subst hb
  rw [state_step k v H.hE]
  exact after_of _ _ _ _ _ _ _ _ _ _ (H.k_at ch) (H.v_at ch) (fun i => (cut3_at x5 hd i 0).trans (H.h5 i)) ((cut3_at x6 hd 0 0).trans H.h6) hg d e

theorem s_at (s : FVec Ideal S128x256 .f32) (hg : ∀ d e, s (ix2 d e) = (state E k v a d e : EReal)) (ch : Fin 4) (d : Fin 128) (e : Fin 256) :
    before x1 x2 x5 x6 s hd ch.val (ix2 d e) = (state E k v (a + ch.val * 256) d e : EReal) := by
  have e1 := H.s_step s 0 a rfl hg
  have e2 := H.s_step _ 1 (a + 256) rfl e1
  have e3 := H.s_step _ 2 (a + 256 + 256) rfl e2
  match ch with
  | 0 => exact hg d e
  | 1 => exact e1 d e
  | 2 => exact e2 d e
  | 3 => exact e3 d e

theorem s_after (s : FVec Ideal S128x256 .f32) (hg : ∀ d e, s (ix2 d e) = (state E k v a d e : EReal)) (d : Fin 128) (e : Fin 256) :
    after x1 x2 x5 x6 (before x1 x2 x5 x6 s hd 3) 3 hd (ix2 d e) = (state E k v (a + 1024) d e : EReal) :=
  H.s_step _ 3 (a + 768) rfl (H.s_at s hg 3) d e

theorem y_at (s : FVec Ideal S128x256 .f32) (hg : ∀ d e, s (ix2 d e) = (state E k v a d e : EReal)) (T : ℕ) (hT : a + 1024 ≤ T) (ch : Fin 4) (j e : Fin 256) :
    yBlk x0 x1 x2 x3 x4 x5 x6 s ch hd (ix2 j e) = (out E q k v T (a + ch.val * 256 + j.val) e : EReal) := by
  obtain ⟨R, rfl⟩ : ∃ R, T = a + ch.val * 256 + (256 + R) := ⟨T - (a + ch.val * 256 + 256), by omega⟩
  rw [out_cut q k v H.hE]
  exact y_of _ _ _ _ _ _ _ _ _ _ _ _ (H.q_at ch) (H.k_at ch) (H.v_at ch) (fun i j => (cut3_at x3 hd i j).trans (H.h3 i j))
    (fun i => (cut3_at x4 hd i 0).trans (H.h4 i)) (H.s_at s hg ch) j e

end Holds

/-! ## The blocks a point leaves, from their pieces -/

theorem all4 (n : Fin 4) : n ∈ ([3, 2, 1, 0] : List (Fin 4)) := by revert n; decide

/-- The output block: each row's columns are the heads' values side by side. -/
theorem rows_at {y : Fin 4 → Fin 4 → FVec Ideal S256x256 .bf16} {D : ℕ → Fin 4 → Fin 256 → EReal} (hy : ∀ hd ch j e, y hd ch (ix2 j e) = D (ch.val * 256 + j.val) hd e)
    (i : S1024x1024.Idx) :
    View.canon (Val := Elt Ideal) (([3, 2, 1, 0] : List (Fin 4)).flatMap fun hd => rowPieces hd (y hd)) i
      = D (i 0 : ℕ) ⟨(i 1 : ℕ) / 256, by have h : (i 1 : ℕ) < 1024 := (i 1).isLt; omega⟩ ⟨(i 1 : ℕ) % 256, Nat.mod_lt _ (by omega)⟩ := by
  have key := View.canon_append_of_pieces (Val := Elt Ideal) (S := S1024x1024) (e := .bf16)
    (fun i => D (i 0 : ℕ) ⟨(i 1 : ℕ) / 256, by have h : (i 1 : ℕ) < 1024 := (i 1).isLt; omega⟩ ⟨(i 1 : ℕ) % 256, Nat.mod_lt _ (by omega)⟩) []
    (([3, 2, 1, 0] : List (Fin 4)).flatMap fun hd => rowPieces hd (y hd)) ?_ i ?_
  · rw [List.append_nil] at key; exact key
  · intro p hp
    obtain ⟨hd, -, hp⟩ := List.mem_flatMap.mp hp
    obtain ⟨ch, -, rfl⟩ := List.mem_map.mp hp
    intro x
    have l1 : (x 1 : ℕ) < 256 := (x 1).isLt
    rw [show x = ix2 (n0 := 256) (n1 := 256) (x 0) (x 1) from funext fun a => match a with | ⟨0, _⟩ => rfl | ⟨1, _⟩ => rfl]
    refine (hy hd ch (x 0) (x 1)).trans ?_
    exact congr (congr (congrArg D (show ch.val * 256 + (x 0 : ℕ) = ch.val * 256 + 1 * (x 0 : ℕ) by omega))
      (Fin.ext (show hd.val = (hd.val * 256 + 1 * (x 1 : ℕ)) / 256 by omega))) (Fin.ext (show (x 1 : ℕ) = (hd.val * 256 + 1 * (x 1 : ℕ)) % 256 by omega))
  · have hr : (i 0 : ℕ) < 1024 := (i 0).isLt
    have hl : (i 1 : ℕ) < 1024 := (i 1).isLt
    refine ⟨_, List.mem_flatMap.mpr ⟨⟨(i 1 : ℕ) / 256, by omega⟩, all4 _, List.mem_map.mpr ⟨⟨(i 0 : ℕ) / 256, by omega⟩, all4 _, rfl⟩⟩, ?_⟩
    exact (Rect.mem_set_unit (inb := fit2 (r := 256) (w := 256) (n := 1024) (p := 1024) _ _ rfl rfl)).mpr fun a => match a with
      | ⟨0, _⟩ => (show (i 0 : ℕ) / 256 * 256 ≤ (i 0 : ℕ) ∧ (i 0 : ℕ) < (i 0 : ℕ) / 256 * 256 + 256 by omega)
      | ⟨1, _⟩ => (show (i 1 : ℕ) / 256 * 256 ≤ (i 1 : ℕ) ∧ (i 1 : ℕ) < (i 1 : ℕ) / 256 * 256 + 256 by omega)

/-- The states' block, chunk by chunk and head by head. -/
theorem states_at {g : Fin 4 → Fin 4 → FVec Ideal S128x256 .f32} {D : Fin 4 → Fin 4 → Fin 128 → Fin 256 → EReal} (hg : ∀ hd ch d e, g hd ch (ix2 d e) = D ch hd d e)
    (ch hd : Fin 4) (d : Fin 128) (e : Fin 256) :
    View.canon (Val := Elt Ideal) (([3, 2, 1, 0] : List (Fin 4)).flatMap fun hd => ([3, 2, 1, 0] : List (Fin 4)).map fun ch =>
      (⟨Rect.unit ![ch.val, hd.val, 0, 0] ![1, 1, 128, 256] (fit4 ch hd), k0_pay31 (g hd ch)⟩ : View.Piece (Elt Ideal) S4x4x128x256 .bf16)) (ix4 ch hd d e) = D ch hd d e := by
  have key := View.canon_append_of_pieces (Val := Elt Ideal) (S := S4x4x128x256) (e := .bf16) (fun i => D (i 0) (i 1) (i 2) (i 3)) []
    (([3, 2, 1, 0] : List (Fin 4)).flatMap fun hd => ([3, 2, 1, 0] : List (Fin 4)).map fun ch =>
      (⟨Rect.unit ![ch.val, hd.val, 0, 0] ![1, 1, 128, 256] (fit4 ch hd), k0_pay31 (g hd ch)⟩ : View.Piece (Elt Ideal) S4x4x128x256 .bf16)) ?_ (ix4 ch hd d e) ?_
  · rw [List.append_nil] at key; exact key
  · intro p hp
    obtain ⟨hd, -, hp⟩ := List.mem_flatMap.mp hp
    obtain ⟨ch, -, rfl⟩ := List.mem_map.mp hp
    intro x
    rw [show x = ix4 (n0 := 1) (n1 := 1) (n2 := 128) (n3 := 256) 0 0 (x 2) (x 3) from funext fun a => match a with
      | ⟨0, _⟩ => Fin.ext (show (x 0 : ℕ) = 0 by have : (x 0 : ℕ) < 1 := (x 0).isLt; omega)
      | ⟨1, _⟩ => Fin.ext (show (x 1 : ℕ) = 0 by have : (x 1 : ℕ) < 1 := (x 1).isLt; omega) | ⟨2, _⟩ => rfl | ⟨3, _⟩ => rfl]
    have e1 : k0_pay31 (g hd ch) (ix4 0 0 (x 2) (x 3)) = g hd ch (ix2 (x 2) (x 3)) := by pointwise [k0_pay31, k0_pay30]
    refine (e1.trans (hg hd ch (x 2) (x 3))).trans ?_
    exact congr (congr (congr (congrArg D (Fin.ext (show ch.val = ch.val + 1 * 0 by omega))) (Fin.ext (show hd.val = hd.val + 1 * 0 by omega)))
      (Fin.ext (show (x 2 : ℕ) = 0 + 1 * (x 2 : ℕ) by omega))) (Fin.ext (show (x 3 : ℕ) = 0 + 1 * (x 3 : ℕ) by omega))
  · refine ⟨_, List.mem_flatMap.mpr ⟨hd, all4 _, List.mem_map.mpr ⟨ch, all4 _, rfl⟩⟩, ?_⟩
    exact (Rect.mem_set_unit (inb := fit4 ch hd)).mpr fun a => match a with
      | ⟨0, _⟩ => (show ch.val ≤ ch.val ∧ ch.val < ch.val + 1 by omega)
      | ⟨1, _⟩ => (show hd.val ≤ hd.val ∧ hd.val < hd.val + 1 by omega)
      | ⟨2, _⟩ => (show 0 ≤ d.val ∧ d.val < 0 + 128 by omega)
      | ⟨3, _⟩ => (show 0 ≤ e.val ∧ e.val < 0 + 256 by omega)

/-- The carried state, head by head, whatever was there before. -/
theorem carried_at {u s : Fin 4 → FVec Ideal S128x256 .f32} {CD : Fin 4 → Vec Ideal S1x1x1 .f32} {D : Fin 4 → Fin 128 → Fin 256 → EReal}
    (hg : ∀ hd d e, k0_pay37 (u hd) (s hd) (CD hd) (ix2 d e) = D hd d e) (L : List (View.Piece (Elt Ideal) S4x128x256 .f32)) (hd : Fin 4) (d : Fin 128) (e : Fin 256) :
    View.canon (([3, 2, 1, 0] : List (Fin 4)).map (fun hd => (⟨Rect.unit ![hd.val, 0, 0] ![1, 128, 256] (fit3 (r := 128) (w := 256) hd),
      k0_pay2 (u hd) (s hd) (CD hd)⟩ : View.Piece (Elt Ideal) S4x128x256 .f32)) ++ L) (ix3 hd d e) = D hd d e := by
  refine View.canon_append_of_pieces (Val := Elt Ideal) (S := S4x128x256) (e := .f32) (fun y => D (y 0) (y 1) (y 2)) L _ ?_ (ix3 hd d e) ?_
  · intro p hp
    obtain ⟨hd, -, rfl⟩ := List.mem_map.mp hp
    intro x
    rw [show x = ix3 (n0 := 1) (n1 := 128) (n2 := 256) 0 (x 1) (x 2) from funext fun a => match a with
      | ⟨0, _⟩ => Fin.ext (show (x 0 : ℕ) = 0 by have : (x 0 : ℕ) < 1 := (x 0).isLt; omega) | ⟨1, _⟩ => rfl | ⟨2, _⟩ => rfl]
    have e1 : k0_pay2 (u hd) (s hd) (CD hd) (ix3 0 (x 1) (x 2)) = k0_pay37 (u hd) (s hd) (CD hd) (ix2 (x 1) (x 2)) := by pointwise [k0_pay2, k0_pay37]
    refine (e1.trans (hg hd (x 1) (x 2))).trans ?_
    exact congr (congr (congrArg D (Fin.ext (show hd.val = hd.val + 1 * 0 by omega))) (Fin.ext (show (x 1 : ℕ) = 0 + 1 * (x 1 : ℕ) by omega)))
      (Fin.ext (show (x 2 : ℕ) = 0 + 1 * (x 2 : ℕ) by omega))
  · refine ⟨_, List.mem_map.mpr ⟨hd, all4 _, rfl⟩, ?_⟩
    exact (Rect.mem_set_unit (inb := fit3 (r := 128) (w := 256) hd)).mpr fun a => match a with
      | ⟨0, _⟩ => (show hd.val ≤ hd.val ∧ hd.val < hd.val + 1 by omega)
      | ⟨1, _⟩ => (show 0 ≤ d.val ∧ d.val < 0 + 128 by omega)
      | ⟨2, _⟩ => (show 0 ≤ e.val ∧ e.val < 0 + 256 by omega)

end Cert.RetfKernelIdeal.Step
-- ==== Proof.RetfHost.lean ====
/- What the host hands the retention's kernel: the turned queries and keys, the values, and the decays within a chunk. -/
module

public import proofs.«01_k».proof.Proof.RetReal
public import proofs.«01_k».proof.Proof.RetfParts
public import Idealize.ShloMosaic.Lib.StableHlo.RunRead

@[expose] public section

set_option maxRecDepth 16384

noncomputable section

namespace Cert.RetfKernelIdeal.Step

open Cert.RetfKernelIdeal Cert.RetfKernelIdeal.Gen Idealize.ShloMosaic Idealize.ShloMosaic.TcCoe Idealize.SL.Sem
open Cert.Retention

variable (m : (ℓ : Loc nD τ sig) → Buf (Elt Ideal) ℓ) (c : Dev nD)

/-- The launch argument is rows of reals. -/
def Arg (X : ℕ → ℕ → ℝ) : Prop :=
  ∀ (s : Fin 8192) (l : Fin 2048), (m (c, Proc.tc.devRef main_arg0) : FVec Ideal S1x8192x2048 .f32) (ix3 0 s l) = (X s l : EReal)

variable {m c} {X : ℕ → ℕ → ℝ} (A : Arg m c X)

include A

theorem V_k (s : Fin 8192) (l : Fin 512) : V m c main_v116 (ix2 s l) = (kOf X (l.val / 128) s ⟨l.val % 128, by omega⟩ : EReal) := by
  have hx := A
  unfold Arg at hx
  unfold V
  after_reads_simp
  pointwise
  after_reads_simp
  generalize m (c, Proc.tc.devRef main_arg0) = x at *
  pointwise
  simp only [hx, dite_eq_ite]
  exact turned_real (fun n => (X s (512 + (l.val / 128 * 128 + n)) : EReal)) _ (fun _ _ => rfl) s.val (l.val % 128) (by omega) (by omega)

theorem V_q (s : Fin 8192) (l : Fin 512) : V m c main_v67 (ix2 s l) = (qOf X (l.val / 128) s ⟨l.val % 128, by omega⟩ : EReal) := by
  have hx := A
  unfold Arg at hx
  unfold V
  after_reads_simp
  pointwise
  after_reads_simp
  generalize m (c, Proc.tc.devRef main_arg0) = x at *
  pointwise
  simp only [hx, dite_eq_ite]
  rw [sc_real]
  exact (congrArg (· * (sc : EReal)) (turned_real (fun n => (X s (l.val / 128 * 128 + n) : EReal)) _ (fun _ _ => rfl) s.val (l.val % 128) (by omega) (by omega))).trans
    (EReal.coe_mul _ _).symm

theorem V_v (s : Fin 8192) (l : Fin 1024) : V m c main_v118 (ix2 s l) = (vOf X (l.val / 256) s ⟨l.val % 256, by omega⟩ : EReal) := by
  have hx := A
  unfold Arg at hx
  unfold V
  after_reads_simp
  generalize m (c, Proc.tc.devRef main_arg0) = x at *
  pointwise
  rw [hx]
  unfold vOf
  dsimp only
  rw [Nat.div_add_mod']

omit A

variable (m c)

theorem V_w (h : Fin 4) (i j : Fin 256) : V m c main_v93 (ix3 h i j) = (w (dec h) i j : EReal) := by
  unfold V
  after_reads_simp
  simp only [StableHlo.TRef.ofBuf_toBuf]
  simp -implicitDefEqProofs only [StableHlo.TRef.toBuf, StableHlo.TRef.ofBuf, cast_cast, cast_eq, id]
  pointwise
  exact exp_rel h i j (by omega) (by omega) (by omega)

theorem V_qd (h : Fin 4) (i : Fin 256) : V m c main_v102 (ix3 h i 0) = (dec h (i.val + 1) : EReal) := by
  unfold V
  after_reads_simp
  pointwise
  refine exp_logGamma h (i.val + 1) (by omega) _ ?_
  exact (congrArg (· + 1) (pos_real i (by omega))).trans (by rw [Nat.cast_add, Nat.cast_one, EReal.coe_add, EReal.coe_one])

theorem V_kd (h : Fin 4) (i : Fin 256) : V m c main_v111 (ix3 h i 0) = (dec h (256 - 1 - i.val) : EReal) := by
  have h1 : Ideal.ofBits FTy.f32 1132396544#32 = ((255 : ℝ) : EReal) := by
    simp [Ideal.ofBits, Ideal.ieee, -EReal.coe_mul]; norm_num
  unfold V
  after_reads_simp
  pointwise
  refine exp_logGamma h (256 - 1 - i.val) (by omega) _ ?_
  rw [h1]
  refine (congrArg (((255 : ℝ) : EReal) - ·) (pos_real i (by omega))).trans ?_
  rw [← EReal.coe_sub, Nat.cast_sub (by omega)]
  norm_num

theorem V_cd (h : Fin 4) : V m c main_v115 (ix3 h 0 0) = (dec h 256 : EReal) := by
  have h1 : Ideal.ofBits FTy.f32 1132462080#32 = (((256 : ℕ) : ℝ) : EReal) := by
    simp [Ideal.ofBits, Ideal.ieee, -EReal.coe_mul]; norm_num
  unfold V
  after_reads_simp
  pointwise
  exact exp_logGamma h 256 (by omega) _ h1

end Cert.RetfKernelIdeal.Step
-- ==== Proof.RetfRun.lean ====
/- The retention's kernel over the grid: the blocks at a point, the carried state, and the two results. -/
module

public import proofs.«01_k».proof.Proof.RetfHost
public import proofs.«01_k».proof.Proof.Gen.RetfKernelIdeal.Value

@[expose] public section

set_option maxRecDepth 16384

noncomputable section

namespace Cert.RetfKernelIdeal.Step

open Cert.RetfKernelIdeal Cert.RetfKernelIdeal.Gen Idealize.ShloMosaic Idealize.ShloMosaic.TcCoe Idealize.SL.Sem
open Cert.Retention Cert.RetfKernelIdeal.Value

section

variable (m : (ℓ : Loc nD τ sig) → Buf (Elt Ideal) ℓ) (c : Dev nD) (t : Fin cfg0.N)

/-! ## The blocks at a point -/

theorem blk0 (r : Fin 1024) (l : Fin 512) : iblk m c 0 t (ix2 r l) = V m c main_v67 (ix2 ⟨t.val * 1024 + r.val, by have h : t.val < 8 := t.isLt; omega⟩ l) := by
  have e0 : win0_0.index t 0 = t.val := (by decide +kernel : ∀ t : Fin grid0.N, win0_0.index t 0 = t.val) t
  have e1 : win0_0.index t 1 = 0 := (by decide +kernel : ∀ t : Fin grid0.N, win0_0.index t 1 = 0) t
  unfold iblk
  rw [View.read_apply]
  exact congrArg (V m c main_v67) (funext fun a => Fin.ext (match a with
    | ⟨0, _⟩ => (show win0_0.index t 0 * 1024 + 1 * r.val = t.val * 1024 + r.val by omega)
    | ⟨1, _⟩ => (show win0_0.index t 1 * 512 + 1 * l.val = l.val by omega)))
theorem blk1 (r : Fin 1024) (l : Fin 512) : iblk m c 1 t (ix2 r l) = V m c main_v116 (ix2 ⟨t.val * 1024 + r.val, by have h : t.val < 8 := t.isLt; omega⟩ l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  exact congrArg (V m c main_v116) (funext fun a => Fin.ext (match a with
    | ⟨0, _⟩ => (show win0_1.index t 0 * 1024 + 1 * r.val = t.val * 1024 + r.val by omega)
    | ⟨1, _⟩ => (show win0_1.index t 1 * 512 + 1 * l.val = l.val by omega)))
theorem blk2 (r : Fin 1024) (l : Fin 1024) : iblk m c 2 t (ix2 r l) = V m c main_v118 (ix2 ⟨t.val * 1024 + r.val, by have h : t.val < 8 := t.isLt; omega⟩ l) := by
  have e0 : win0_2.index t 0 = t.val := (by decide +kernel : ∀ t : Fin grid0.N, win0_2.index t 0 = t.val) t
  have e1 : win0_2.index t 1 = 0 := (by decide +kernel : ∀ t : Fin grid0.N, win0_2.index t 1 = 0) t
  unfold iblk
  rw [View.read_apply]
  exact congrArg (V m c main_v118) (funext fun a => Fin.ext (match a with
    | ⟨0, _⟩ => (show win0_2.index t 0 * 1024 + 1 * r.val = t.val * 1024 + r.val by omega)
    | ⟨1, _⟩ => (show win0_2.index t 1 * 1024 + 1 * l.val = l.val by omega)))
theorem blk3 (hd : Fin 4) (i : Fin 256) (j : Fin 256) : iblk m c 3 t (ix3 hd i j) = V m c main_v93 (ix3 hd i j) := by
  have e : ∀ a : Fin 3, win0_3.index t a = 0 := (by decide +kernel : ∀ t : Fin grid0.N, ∀ a : Fin 3, win0_3.index t a = 0) t
  have ea := e 0
  have eb := e 1
  have ec := e 2
  unfold iblk
  rw [View.read_apply]
  exact congrArg (V m c main_v93) (funext fun a => Fin.ext (match a with
    | ⟨0, _⟩ => (show win0_3.index t 0 * 4 + 1 * hd.val = hd.val by omega)
    | ⟨1, _⟩ => (show win0_3.index t 1 * 256 + 1 * i.val = i.val by omega)
    | ⟨2, _⟩ => (show win0_3.index t 2 * 256 + 1 * j.val = j.val by omega)))
theorem blk4 (hd : Fin 4) (i : Fin 256) (j : Fin 1) : iblk m c 4 t (ix3 hd i j) = V m c main_v102 (ix3 hd i j) := by
  have e : ∀ a : Fin 3, win0_4.index t a = 0 := (by decide +kernel : ∀ t : Fin grid0.N, ∀ a : Fin 3, win0_4.index t a = 0) t
  have ea := e 0
  have eb := e 1
  have ec := e 2
  unfold iblk
  rw [View.read_apply]
  exact congrArg (V m c main_v102) (funext fun a => Fin.ext (match a with
    | ⟨0, _⟩ => (show win0_4.index t 0 * 4 + 1 * hd.val = hd.val by omega)
    | ⟨1, _⟩ => (show win0_4.index t 1 * 256 + 1 * i.val = i.val by omega)
    | ⟨2, _⟩ => (show win0_4.index t 2 * 1 + 1 * j.val = j.val by omega)))
theorem blk5 (hd : Fin 4) (i : Fin 256) (j : Fin 1) : iblk m c 5 t (ix3 hd i j) = V m c main_v111 (ix3 hd i j) := by
  have e : ∀ a : Fin 3, win0_5.index t a = 0 := (by decide +kernel : ∀ t : Fin grid0.N, ∀ a : Fin 3, win0_5.index t a = 0) t
  have ea := e 0
  have eb := e 1
  have ec := e 2
  unfold iblk
  rw [View.read_apply]
  exact congrArg (V m c main_v111) (funext fun a => Fin.ext (match a with
    | ⟨0, _⟩ => (show win0_5.index t 0 * 4 + 1 * hd.val = hd.val by omega)
    | ⟨1, _⟩ => (show win0_5.index t 1 * 256 + 1 * i.val = i.val by omega)
    | ⟨2, _⟩ => (show win0_5.index t 2 * 1 + 1 * j.val = j.val by omega)))
theorem blk6 (hd : Fin 4) (i : Fin 1) (j : Fin 1) : iblk m c 6 t (ix3 hd i j) = V m c main_v115 (ix3 hd i j) := by
  have e : ∀ a : Fin 3, win0_6.index t a = 0 := (by decide +kernel : ∀ t : Fin grid0.N, ∀ a : Fin 3, win0_6.index t a = 0) t
  have ea := e 0
  have eb := e 1
  have ec := e 2
  unfold iblk
  rw [View.read_apply]
  exact congrArg (V m c main_v115) (funext fun a => Fin.ext (match a with
    | ⟨0, _⟩ => (show win0_6.index t 0 * 4 + 1 * hd.val = hd.val by omega)
    | ⟨1, _⟩ => (show win0_6.index t 1 * 1 + 1 * i.val = i.val by omega)
    | ⟨2, _⟩ => (show win0_6.index t 2 * 1 + 1 * j.val = j.val by omega)))

end

variable {m : (ℓ : Loc nD τ sig) → Buf (Elt Ideal) ℓ} {c : Dev nD} (t : Fin cfg0.N) {X : ℕ → ℕ → ℝ} (A : Arg m c X)

section

include A

/-- At a point the blocks are each head's quantities over the block's positions. -/
theorem holds (hd : Fin 4) : Holds (dec hd) (qOf X hd) (kOf X hd) (vOf X hd) (t.val * 1024) hd (iblk m c 0 t) (iblk m c 1 t) (iblk m c 2 t) (iblk m c 3 t) (iblk m c 4 t) (iblk m c 5 t) (iblk m c 6 t) where
  hE := dec_add hd
  h0 r d := by
    rw [blk0, V_q A]
    simp only [show (hd.val * 128 + d.val) / 128 = hd.val by omega, show (hd.val * 128 + d.val) % 128 = d.val by omega]
  h1 r d := by
    rw [blk1, V_k A]
    simp only [show (hd.val * 128 + d.val) / 128 = hd.val by omega, show (hd.val * 128 + d.val) % 128 = d.val by omega]
  h2 r e := by
    rw [blk2, V_v A]
    simp only [show (hd.val * 256 + e.val) / 256 = hd.val by omega, show (hd.val * 256 + e.val) % 256 = e.val by omega]
  h3 i j := (blk3 m c t hd i j).trans (V_w m c hd i j)
  h4 i := (blk4 m c t hd i 0).trans (V_qd m c hd i)
  h5 i := (blk5 m c t hd i 0).trans (V_kd m c hd i)
  h6 := (blk6 m c t hd 0 0).trans (V_cd m c hd)

end

/-! ## What a point leaves: the first starts from zero, the others from what the point before left -/

theorem fst_eq {α β : Type} (a a' : α) (b : β) (h : a = a') : (a, b).1 = a' := h
theorem snd_eq {α β γ : Type} (a : α) (b b' : β) (c : γ) (h : b = b') : (a, b, c).2.1 = b' := h
theorem trd_eq {α β γ : Type} (a : α) (b : β) (c c' : γ) (h : c = c') : (a, b, c).2.2 = c' := h

/-- The state a point starts from. -/
def start (m : (ℓ : Loc nD τ sig) → Buf (Elt Ideal) ℓ) (c : Dev nD) (t : Fin cfg0.N) : Vec Ideal S4x128x256 .f32 :=
  if t.val % 8 = 0 then k0_pay3 (F := Ideal) else (outsAt0 m c (t.val - 1) (Nat.lt_of_le_of_lt (Nat.sub_le _ _) t.isLt)).2.2

theorem start_at (xs : Vec Ideal S4x128x256 .f32) (hd : Fin 4) (d : Fin 128) (e : Fin 256) : k0_pay25 (F := Ideal) (cutS xs hd) (ix2 d e) = xs (ix3 hd d e) := by
  pointwise [k0_pay25, cutS]

theorem block_y : (outsAt0 m c t.val t.isLt).1 = View.canon (Val := Elt Ideal) (([3, 2, 1, 0] : List (Fin 4)).flatMap fun hd =>
    outHead (iblk m c 0 t) (iblk m c 1 t) (iblk m c 2 t) (iblk m c 3 t) (iblk m c 4 t) (iblk m c 5 t) (iblk m c 6 t) (k0_pay25 (cutS (start m c t) hd)) hd) := by
  unfold start
  by_cases h0 : t.val % 8 = 0
  · rw [if_pos h0]
    refine (congrArg Prod.fst (outsAt0_A m c t h0)).trans ?_
    refine fst_eq _ _ _ ?_
    apply out_A
  · rw [if_neg h0]
    refine (congrArg Prod.fst (outsAt0_B m c t h0)).trans ?_
    refine fst_eq _ _ _ ?_
    apply out_B

theorem block_st : (outsAt0 m c t.val t.isLt).2.1 = View.canon (Val := Elt Ideal) (([3, 2, 1, 0] : List (Fin 4)).flatMap fun hd =>
    stHead (iblk m c 1 t) (iblk m c 2 t) (iblk m c 5 t) (iblk m c 6 t) (k0_pay25 (cutS (start m c t) hd)) hd) := by
  unfold start
  by_cases h0 : t.val % 8 = 0
  · rw [if_pos h0]
    refine (congrArg (fun x => x.2.1) (outsAt0_A m c t h0)).trans ?_
    refine snd_eq _ _ _ _ ?_
    apply st_A
  · rw [if_neg h0]
    refine (congrArg (fun x => x.2.1) (outsAt0_B m c t h0)).trans ?_
    refine snd_eq _ _ _ _ ?_
    apply st_B

theorem carried_pieces : ∃ L, (outsAt0 m c t.val t.isLt).2.2 = View.canon (Val := Elt Ideal) ((([3, 2, 1, 0] : List (Fin 4)).map fun hd =>
    scHead (iblk m c 1 t) (iblk m c 2 t) (iblk m c 5 t) (iblk m c 6 t) (k0_pay25 (cutS (start m c t) hd)) hd) ++ L) := by
  unfold start
  by_cases h0 : t.val % 8 = 0
  · rw [if_pos h0]
    refine ⟨[⟨Rect.unit ![0, 0, 0] ![4, 128, 256] inb_S4x128x256_S4x128x256_0_0_0, k0_pay3 (F := Ideal)⟩], ?_⟩
    refine (congrArg (fun x => x.2.2) (outsAt0_A m c t h0)).trans ?_
    refine trd_eq _ _ _ _ ?_
    apply sc_A
  · rw [if_neg h0]
    refine ⟨[], ?_⟩
    rw [List.append_nil]
    refine (congrArg (fun x => x.2.2) (outsAt0_B m c t h0)).trans ?_
    refine trd_eq _ _ _ _ ?_
    apply sc_B

include A

/-- The state that a point leaves: of all positions up to its block's last. -/
theorem carried_of (hs : ∀ hd d e, start m c t (ix3 hd d e) = (state (dec hd) (kOf X hd) (vOf X hd) (t.val * 1024) d e : EReal)) (hd : Fin 4) (d : Fin 128) (e : Fin 256) :
    (outsAt0 m c t.val t.isLt).2.2 (ix3 hd d e) = (state (dec hd) (kOf X hd) (vOf X hd) ((t.val + 1) * 1024) d e : EReal) := by
  obtain ⟨L, hL⟩ := carried_pieces (m := m) (c := c) t
  refine (congrFun hL _).trans ?_
  refine carried_at (D := fun hd d e => (state (dec hd) (kOf X hd) (vOf X hd) ((t.val + 1) * 1024) d e : EReal)) (fun hd d e => ?_) L hd d e
  refine ((holds t A hd).s_after _ (fun d e => (start_at _ hd d e).trans (hs hd d e)) d e).trans ?_
  rw [Nat.succ_mul]

theorem start_of : ∀ (n : ℕ) (hn : n < cfg0.N) (hd : Fin 4) (d : Fin 128) (e : Fin 256),
    start m c ⟨n, hn⟩ (ix3 hd d e) = (state (dec hd) (kOf X hd) (vOf X hd) (n * 1024) d e : EReal) := by
  intro n
  induction n with
  | zero =>
    intro hn hd d e
    unfold start
    rw [if_pos (by rfl)]
    refine Eq.trans (b := 0) (by pointwise [k0_pay3]) ?_
    simp [state]
  | succ n ih =>
    intro hn hd d e
    have h8 : n + 1 < 8 := hn
    unfold start
    rw [if_neg (by show ¬(n + 1) % 8 = 0; omega)]
    exact carried_of ⟨n, by omega⟩ A (ih (by omega)) hd d e

theorem y_pt (i : S1024x1024.Idx) : (outsAt0 m c t.val t.isLt).1 i
    = (out (dec ((i 1 : ℕ) / 256)) (qOf X ((i 1 : ℕ) / 256)) (kOf X ((i 1 : ℕ) / 256)) (vOf X ((i 1 : ℕ) / 256)) 8192 (t.val * 1024 + (i 0 : ℕ)) ⟨(i 1 : ℕ) % 256, Nat.mod_lt _ (by omega)⟩ : EReal) := by
  have h8 : t.val < 8 := t.isLt
  refine (congrFun (block_y t) _).trans ?_
  refine (rows_at (D := fun r hd e => (out (dec hd) (qOf X hd) (kOf X hd) (vOf X hd) 8192 (t.val * 1024 + r) e : EReal)) (fun hd ch j e => ?_) i).trans ?_
  · refine ((holds t A hd).y_at _ (fun d e => (start_at _ hd d e).trans (start_of A t.val t.isLt hd d e)) 8192 (by omega) ch j e).trans ?_
    rw [Nat.add_assoc]
  · rfl

theorem st_pt (ch hd : Fin 4) (d : Fin 128) (e : Fin 256) : (outsAt0 m c t.val t.isLt).2.1 (ix4 ch hd d e)
    = (state (dec hd) (kOf X hd) (vOf X hd) ((t.val * 4 + ch.val) * 256) d e : EReal) := by
  refine (congrFun (block_st t) _).trans ?_
  refine states_at (D := fun ch hd d e => (state (dec hd) (kOf X hd) (vOf X hd) ((t.val * 4 + ch.val) * 256) d e : EReal)) (fun hd ch d e => ?_) ch hd d e
  refine ((holds t A hd).s_at _ (fun d e => (start_at _ hd d e).trans (start_of A t.val t.isLt hd d e)) ch d e).trans ?_
  rw [show t.val * 1024 + ch.val * 256 = (t.val * 4 + ch.val) * 256 by omega]

/-! ## The result arrays -/

omit A in
/-- The outputs: each row's columns are the heads' outputs side by side. -/
def arrY (X : ℕ → ℕ → ℝ) : Vec Ideal S8192x1024 .bf16 := fun i =>
  (out (dec ((i 1 : ℕ) / 256)) (qOf X ((i 1 : ℕ) / 256)) (kOf X ((i 1 : ℕ) / 256)) (vOf X ((i 1 : ℕ) / 256)) 8192 (i 0 : ℕ) ⟨(i 1 : ℕ) % 256, Nat.mod_lt _ (by omega)⟩ : EReal)
omit A in
/-- The states before each chunk of 256 positions, head by head. -/
def arrSt (X : ℕ → ℕ → ℝ) : Vec Ideal S32x4x128x256 .bf16 := fun i =>
  (state (dec (i 1 : ℕ)) (kOf X (i 1 : ℕ)) (vOf X (i 1 : ℕ)) ((i 0 : ℕ) * 256) (i 2) (i 3) : EReal)

omit A in
theorem fold_at (n : ℕ) (h : 0 + n < cfg0.N) : Pipeline.accAt (fun n h => stAt0 m c n h junk0) (stAt0 m c) 0 n h = outsAt0 m c n (by omega) :=
  (outsAt0_sweep m c n (by omega)).symm

theorem y_arr : G7 m c = arrY X := by
  funext (i : S8192x1024.Idx)
  have h0 : (i 0 : ℕ) < 8192 := (i 0).isLt
  have h1 : (i 1 : ℕ) < 1024 := (i 1).isLt
  have hp : pt7Of i = (i 0 : ℕ) / 1024 := by show 1 * ((i 0 : ℕ) / 1024 - 0) + 1 * ((i 1 : ℕ) / 1024 - 0) = _; omega
  unfold G7
  rw [dif_pos (by rw [hp]; show _ < 8; omega), fold_at]
  refine (y_pt ⟨pt7Of i, by rw [hp]; show _ < 8; omega⟩ A (loc7Of i)).trans ?_
  unfold arrY
  have f0 : pt7Of i * 1024 + (i 0 : ℕ) % 1024 = (i 0 : ℕ) := by rw [hp]; omega
  have f1 : (i 1 : ℕ) % 1024 = (i 1 : ℕ) := Nat.mod_eq_of_lt h1
  show ((out (dec ((i 1 : ℕ) % 1024 / 256)) (qOf X ((i 1 : ℕ) % 1024 / 256)) (kOf X ((i 1 : ℕ) % 1024 / 256)) (vOf X ((i 1 : ℕ) % 1024 / 256)) 8192
    (pt7Of i * 1024 + (i 0 : ℕ) % 1024) ⟨(i 1 : ℕ) % 1024 % 256, _⟩ : ℝ) : EReal) = _
  simp only [f0, f1]

theorem st_arr : G8 m c = arrSt X := by
  funext (i : S32x4x128x256.Idx)
  have h0 : (i 0 : ℕ) < 32 := (i 0).isLt
  have h1 : (i 1 : ℕ) < 4 := (i 1).isLt
  have h2 : (i 2 : ℕ) < 128 := (i 2).isLt
  have h3 : (i 3 : ℕ) < 256 := (i 3).isLt
  have hp : pt8Of i = (i 0 : ℕ) / 4 := by
    show 1 * ((i 0 : ℕ) / 4 - 0) + 1 * ((i 1 : ℕ) / 4 - 0) + 1 * ((i 2 : ℕ) / 128 - 0) + 1 * ((i 3 : ℕ) / 256 - 0) = _; omega
  have hl : loc8Of i = ix4 (n0 := 4) (n1 := 4) (n2 := 128) (n3 := 256) ⟨(i 0 : ℕ) % 4, by omega⟩ (i 1) (i 2) (i 3) := funext fun a => match a with
    | ⟨0, _⟩ => rfl
    | ⟨1, _⟩ => Fin.ext (Nat.mod_eq_of_lt h1)
    | ⟨2, _⟩ => Fin.ext (Nat.mod_eq_of_lt h2)
    | ⟨3, _⟩ => Fin.ext (Nat.mod_eq_of_lt h3)
  unfold G8
  rw [dif_pos (by rw [hp]; show _ < 8; omega), fold_at, hl]
  refine (st_pt ⟨pt8Of i, by rw [hp]; show _ < 8; omega⟩ A ⟨(i 0 : ℕ) % 4, by omega⟩ (i 1) (i 2) (i 3)).trans ?_
  unfold arrSt
  exact congrArg (fun n => ((state (dec (i 1 : ℕ)) (kOf X (i 1 : ℕ)) (vOf X (i 1 : ℕ)) (n * 256) (i 2) (i 3) : ℝ) : EReal))
    (show pt8Of i * 4 + (i 0 : ℕ) % 4 = (i 0 : ℕ) by rw [hp]; omega)

end Cert.RetfKernelIdeal.Step
-- ==== Proof.RetfRef.lean ====
/- The plain retention: what its loop over the chunks of 128 positions works on. -/
module

public import proofs.«01_k».proof.Proof.RetReal
public import proofs.«01_k».proof.Proof.RetfMath
public import proofs.«01_k».proof.Proof.Gen.RetfReferenceIdeal.Step
public import Idealize.ShloMosaic.Lib.Pointwise

@[expose] public section

set_option maxRecDepth 16384

noncomputable section

namespace Cert.RetfReferenceIdeal.Read

open Cert.RetfReferenceIdeal Cert.RetfReferenceIdeal.Gen Cert.RetfReferenceIdeal.Step Idealize.ShloMosaic Idealize.ShloMosaic.TcCoe Idealize.ShloMosaic.StableHlo
open Cert.RmsGrad (coe_sum)
open Cert.Retention

/-! ## The decays -/

theorem w_at (h : Fin 4) (i j : Fin 128) : K_main_v90 (F := Ideal) (ix3 h i j) = (w (dec h) i j : EReal) := by
  pointwise [K_main_v90, K_main_call0_v2, K_main_call0_v0, K_main_cst_7, K_main_v89, K_main_v88, K_main_v87, K_main_v85, K_main_v84, K_main_v83, K_main_cst_6, K_main_v78, K_main_v77, K_main_v75, K_main_v73, K_main_v76, K_main_v74, K_main_v86, K_main_v82, K_main_v72, K_main_v71, K_main_v70, K_main_v69, K_main_v67, K_main_v65, K_main_v66, K_main_cst_3, K_main_v68, K_main_cst_4, K_main_call0_v1, K_main_v81, K_main_v80, K_main_cst_5, K_main_v79]
  simp only [id_eq]
  pointwise
  exact exp_rel h i j (by omega) (by omega) (by omega)

theorem qd_at (h : Fin 4) (i : Fin 128) : K_main_v99 (F := Ideal) (ix4 0 h i 0) = (dec h (i.val + 1) : EReal) := by
  pointwise [K_main_v99, K_main_v98, K_main_v97, K_main_v96, K_main_v94, K_main_v93, K_main_v92, K_main_cst_8, K_main_v73, K_main_v95, K_main_v91, K_main_v72, K_main_v71, K_main_v70, K_main_v69, K_main_v67, K_main_v65, K_main_v66, K_main_cst_3, K_main_v68, K_main_cst_4]
  refine exp_logGamma h (i.val + 1) (by omega) _ ?_
  exact (congrArg (· + 1) (pos_real i (by omega))).trans (by rw [Nat.cast_add, Nat.cast_one, EReal.coe_add, EReal.coe_one])

theorem kd_at (h : Fin 4) (i : Fin 128) : K_main_v108 (F := Ideal) (ix4 0 h i 0) = (dec h (128 - 1 - i.val) : EReal) := by
  have h1 : Ideal.ofBits FTy.f32 1123942400#32 = ((127 : ℝ) : EReal) := by
    simp [Ideal.ofBits, Ideal.ieee, -EReal.coe_mul]; norm_num
  pointwise [K_main_v108, K_main_v107, K_main_v106, K_main_v105, K_main_v103, K_main_v102, K_main_v73, K_main_v101, K_main_cst_9, K_main_v104, K_main_v100, K_main_v72, K_main_v71, K_main_v70, K_main_v69, K_main_v67, K_main_v65, K_main_v66, K_main_cst_3, K_main_v68, K_main_cst_4]
  refine exp_logGamma h (128 - 1 - i.val) (by omega) _ ?_
  rw [h1]
  refine (congrArg (((127 : ℝ) : EReal) - ·) (pos_real i (by omega))).trans ?_
  rw [← EReal.coe_sub, Nat.cast_sub (by omega)]
  norm_num

theorem cd_at (h : Fin 4) : K_main_v112 (F := Ideal) (ix4 0 h 0 0) = (dec h 128 : EReal) := by
  have h1 : Ideal.ofBits FTy.f32 1124073472#32 = (((128 : ℕ) : ℝ) : EReal) := by
    simp [Ideal.ofBits, Ideal.ieee, -EReal.coe_mul]; norm_num
  pointwise [K_main_v112, K_main_v111, K_main_v110, K_main_v109, K_main_cst_10, K_main_v72, K_main_v71, K_main_v70, K_main_v69, K_main_v67, K_main_v65, K_main_v66, K_main_cst_3, K_main_v68, K_main_cst_4]
  exact exp_logGamma h 128 (by omega) _ h1

/-! ## The chunks of query, key and value -/

variable {x : FVec Ideal S1x8192x2048 .f32} {X : ℕ → ℕ → ℝ} (hx : ∀ (s : Fin 8192) (l : Fin 2048), x (ix3 0 s l) = (X s l : EReal))

include hx

theorem q_at (n : Fin 64) (h : Fin 4) (i d : Fin 128) : A_main_v116 (F := Ideal) x (ix5 n 0 h i d) = (qOf X h (n.val * 128 + i.val) d : EReal) := by
  pointwise [A_main_v116, A_main_v115, A_main_v114, K_main_v113, K_main_cst_11, A_main_v33, A_main_v32, A_main_v31, K_main_v30, K_main_v20, K_main_v19, K_main_v16, K_main_v15, K_main_v13, K_main_v10, K_main_v8, K_main_v7, K_main_cst, K_main_v6, K_main_v5, K_main_v9, K_main_cst_0, K_main_v14, K_main_v12, K_main_v11, K_main_v0, A_main_v21, A_main_v4, A_main_v1, A_main_v29, K_main_v28, K_main_v18, K_main_v17, A_main_v22, A_main_v27, A_main_v26, K_main_v25, A_main_v24, K_main_v23]
  simp only [hx, dite_eq_ite]
  rw [sc_real]
  exact (congrArg (· * (sc : EReal)) (turned_real (fun l => (X (n.val * 128 + i.val) (h.val * 128 + l) : EReal)) _ (fun _ _ => rfl) (n.val * 128 + i.val) d.val (by omega) (by omega))).trans
    (EReal.coe_mul _ _).symm

theorem k_at (n : Fin 64) (h : Fin 4) (i d : Fin 128) : A_main_v118 (F := Ideal) x (ix5 n 0 h i d) = (kOf X h (n.val * 128 + i.val) d : EReal) := by
  pointwise [A_main_v118, A_main_v117, A_main_v63, A_main_v62, A_main_v61, K_main_v60, K_main_v50, K_main_v49, K_main_v46, K_main_v45, K_main_v43, K_main_v40, K_main_v38, K_main_v37, K_main_cst_1, K_main_v36, K_main_v35, K_main_v39, K_main_cst_2, K_main_v44, K_main_v42, K_main_v41, K_main_v0, A_main_v51, A_main_v34, A_main_v2, A_main_v59, K_main_v58, K_main_v48, K_main_v47, A_main_v52, A_main_v57, A_main_v56, K_main_v55, A_main_v54, K_main_v53]
  simp only [hx, dite_eq_ite]
  exact turned_real (fun l => (X (n.val * 128 + i.val) (512 + (h.val * 128 + l)) : EReal)) _ (fun _ _ => rfl) (n.val * 128 + i.val) d.val (by omega) (by omega)

theorem v_at (n : Fin 64) (h : Fin 4) (i : Fin 128) (e : Fin 256) : A_main_v120 (F := Ideal) x (ix5 n 0 h i e) = (vOf X h (n.val * 128 + i.val) e : EReal) := by
  pointwise [A_main_v120, A_main_v119, A_main_v64, A_main_v3]
  exact hx _ _

omit hx

end Cert.RetfReferenceIdeal.Read
-- ==== Proof.RetfLoop.lean ====
/- The plain retention's loop over the chunks of 128 positions: what each trip leaves, and so the program's two results. -/
module

public import proofs.«01_k».proof.Proof.RetfRef
public import proofs.«01_k».proof.Proof.RetfMath
public import proofs.«01_k».proof.Proof.Gen.RetfReferenceIdeal.Run
public import Idealize.ShloMosaic.Lib.Pointwise
public import Idealize.ShloMosaic.Lib.DynamicIndex
public import Idealize.ShloMosaic.Lib.StableHlo.RunRead

@[expose] public section

set_option maxRecDepth 65536

noncomputable section

namespace Cert.RetfReferenceIdeal.Read

open Cert.RetfReferenceIdeal Cert.RetfReferenceIdeal.Gen Cert.RetfReferenceIdeal.Step Cert.RetfReferenceIdeal.Value Idealize.ShloMosaic Idealize.ShloMosaic.TcCoe Idealize.SL.Sem Idealize.ShloMosaic.StableHlo
open Cert.RmsGrad (coe_sum)
open Cert.Retention

/-! ## One chunk's block read from a stack, and one written into it -/

/-- Where chunk `i`'s block starts. -/
abbrev place (i : IVec S_ 32) : Fin 5 → Int := fun k => (((![i, constantI S_ 32 0#32, constantI S_ 32 0#32, constantI S_ 32 0#32, constantI S_ 32 0#32] : Fin 5 → (⟨S_, .i32⟩ : BufTy).Contents (Elt Ideal))) k (Shape.Idx.first h_S_)).toInt

theorem place_at (n : Fin 64) : place (constantI S_ 32 (BitVec.ofNat 32 n.val)) = fun a => ((![n.val, 0, 0, 0, 0] : Fin 5 → ℕ) a : Int) := by
  funext a
  fin_cases a
  · show (BitVec.ofNat 32 n.val).toInt = (n.val : Int)
    rw [BitVec.toInt_eq_toNat_cond, BitVec.toNat_ofNat, Nat.mod_eq_of_lt (by omega), if_pos (by omega)]
  all_goals rfl

/-- A block that fits where it starts is not moved. -/
theorem place_fit (s t : Shape) (w : Fin s.rank → ℕ) (f : s.Slices w t) (a : Fin s.rank) :
    (min (max ((w a : ℕ) : Int) 0) ((s.size a - t.size (a.cast f.1.symm) : ℕ) : Int)).toNat = w a := by
  have := f.2 a
  omega

theorem fit128 (n : Fin 64) : S64x1x4x128x128.Slices ![n.val, 0, 0, 0, 0] S1x1x4x128x128 :=
  ⟨rfl, fun a => match a with
    | ⟨0, _⟩ => (by omega : n.val + 1 ≤ 64)
    | ⟨1, _⟩ => Nat.le_refl 1
    | ⟨2, _⟩ => Nat.le_refl 4
    | ⟨3, _⟩ => Nat.le_refl 128
    | ⟨4, _⟩ => Nat.le_refl 128⟩
theorem fit256 (n : Fin 64) : S64x1x4x128x256.Slices ![n.val, 0, 0, 0, 0] S1x1x4x128x256 :=
  ⟨rfl, fun a => match a with
    | ⟨0, _⟩ => (by omega : n.val + 1 ≤ 64)
    | ⟨1, _⟩ => Nat.le_refl 1
    | ⟨2, _⟩ => Nat.le_refl 4
    | ⟨3, _⟩ => Nat.le_refl 128
    | ⟨4, _⟩ => Nat.le_refl 256⟩

def chunkQ (x : FVec Ideal S64x1x4x128x128 .f32) (i : IVec S_ 32) : FVec Ideal S1x4x128x128 .f32 :=
  shapeCast S1x4x128x128 (Host.dynamicSlice S1x1x4x128x128 x (place i) sliceFits_S64x1x4x128x128_S1x1x4x128x128) shapeCasts_S1x1x4x128x128_S1x4x128x128

theorem chunkQ_at (n : Fin 64) (x : FVec Ideal S64x1x4x128x128 .f32) (h : Fin 4) (s : Fin 128) (d : Fin 128) : chunkQ x (constantI S_ 32 (BitVec.ofNat 32 n.val)) (ix4 0 h s d) = x (ix5 n 0 h s d) := by
  have e := Host.dynamicSlice_eq_extractStridedSlice (s := S64x1x4x128x128) S1x1x4x128x128 x (place (constantI S_ 32 (BitVec.ofNat 32 n.val))) ![n.val, 0, 0, 0, 0] sliceFits_S64x1x4x128x128_S1x1x4x128x128 (fit128 n) (congrFun (place_at n))
  unfold chunkQ
  rw [e]
  pointwise

def chunkV (x : FVec Ideal S64x1x4x128x256 .f32) (i : IVec S_ 32) : FVec Ideal S1x4x128x256 .f32 :=
  shapeCast S1x4x128x256 (Host.dynamicSlice S1x1x4x128x256 x (place i) sliceFits_S64x1x4x128x256_S1x1x4x128x256) shapeCasts_S1x1x4x128x256_S1x4x128x256

theorem chunkV_at (n : Fin 64) (x : FVec Ideal S64x1x4x128x256 .f32) (h : Fin 4) (s : Fin 128) (d : Fin 256) : chunkV x (constantI S_ 32 (BitVec.ofNat 32 n.val)) (ix4 0 h s d) = x (ix5 n 0 h s d) := by
  have e := Host.dynamicSlice_eq_extractStridedSlice (s := S64x1x4x128x256) S1x1x4x128x256 x (place (constantI S_ 32 (BitVec.ofNat 32 n.val))) ![n.val, 0, 0, 0, 0] sliceFits_S64x1x4x128x256_S1x1x4x128x256 (fit256 n) (congrFun (place_at n))
  unfold chunkV
  rw [e]
  pointwise

def kept {φ : FTy} (x : FVec Ideal S64x1x4x128x256 φ) (u : FVec Ideal S1x4x128x256 φ) (i : IVec S_ 32) : FVec Ideal S64x1x4x128x256 φ :=
  Host.dynamicUpdateSlice x (broadcastInDim S1x1x4x128x256 ![1, 2, 3, 4] bcast_S1x4x128x256_S1x1x4x128x256_1_2_3_4 u) (place i) updateFits_S64x1x4x128x256_S1x1x4x128x256

theorem kept_at {φ : FTy} (n k : Fin 64) (x : FVec Ideal S64x1x4x128x256 φ) (u : FVec Ideal S1x4x128x256 φ) (h : Fin 4) (s : Fin 128) (e : Fin 256) :
    kept x u (constantI S_ 32 (BitVec.ofNat 32 n.val)) (ix5 k 0 h s e) = if k = n then u (ix4 0 h s e) else x (ix5 k 0 h s e) := by
  have q := fun u => Host.dynamicUpdateSlice_eq_updateSlice (s := S64x1x4x128x256) (u := S1x1x4x128x256) x u (place (constantI S_ 32 (BitVec.ofNat 32 n.val))) updateFits_S64x1x4x128x256_S1x1x4x128x256 ![n.val, 0, 0, 0, 0]
    (by rw [place_at n]; exact place_fit _ _ _ (fit256 n)) (fit256 n)
  unfold kept
  rw [q]
  pointwise
  simp only [dite_eq_ite, Fin.ext_iff, show (n.val ≤ k.val ∧ k.val < n.val + 1) = (k.val = n.val) from propext (by omega)]

/-! ## A trip's arithmetic -/

def nextOf (s : FVec Ideal S1x4x128x256 .f32) (cd : FVec Ideal S1x4x1x1 .f32) (k : FVec Ideal S1x4x128x128 .f32) (kd : FVec Ideal S1x4x128x1 .f32) (v : FVec Ideal S1x4x128x256 .f32) : FVec Ideal S1x4x128x256 .f32 :=
  addf (mulf s (broadcastInDim S1x4x128x256 ![0, 1, 2, 3] bcast_S1x4x1x1_S1x4x128x256_0_1_2_3 cd))
    (Host.dotGeneral (φ₁ := .f32) (φ₂ := .f32) dot_S1x4x128x128_S1x4x128x256_S1x4x128x256_2_2_3_3_01_01 none (mulf k (broadcastInDim S1x4x128x128 ![0, 1, 2, 3] bcast_S1x4x128x1_S1x4x128x128_0_1_2_3 kd)) v)

def outOf (q k : FVec Ideal S1x4x128x128 .f32) (w : FVec Ideal S4x128x128 .f32) (v s : FVec Ideal S1x4x128x256 .f32) (qd : FVec Ideal S1x4x128x1 .f32) : FVec Ideal S1x4x128x256 .f32 :=
  addf (Host.dotGeneral (φ₁ := .f32) (φ₂ := .f32) dot_S1x4x128x128_S1x4x128x256_S1x4x128x256_3_2_2_3_01_01 none
      (mulf (Host.dotGeneral (φ₁ := .f32) (φ₂ := .f32) dot_S1x4x128x128_S1x4x128x128_S1x4x128x128_3_3_2_2_01_01 none q k) (broadcastInDim S1x4x128x128 ![1, 2, 3] bcast_S4x128x128_S1x4x128x128_1_2_3 w)) v)
    (mulf (Host.dotGeneral (φ₁ := .f32) (φ₂ := .f32) dot_S1x4x128x128_S1x4x128x256_S1x4x128x256_3_2_2_3_01_01 none q s) (broadcastInDim S1x4x128x256 ![0, 1, 2, 3] bcast_S1x4x128x1_S1x4x128x256_0_1_2_3 qd))

section Entries

variable {q k : FVec Ideal S1x4x128x128 .f32} {w : FVec Ideal S4x128x128 .f32} {v s : FVec Ideal S1x4x128x256 .f32} {kd qd : FVec Ideal S1x4x128x1 .f32} {cd : FVec Ideal S1x4x1x1 .f32} (h : Fin 4)
  {q' k' w' : Fin 128 → Fin 128 → ℝ} {v' s' : Fin 128 → Fin 256 → ℝ} {kd' qd' : Fin 128 → ℝ} {cd' : ℝ}
  (hq : ∀ i d, q (ix4 0 h i d) = (q' i d : EReal)) (hk : ∀ i d, k (ix4 0 h i d) = (k' i d : EReal)) (hw : ∀ i d, w (ix3 h i d) = (w' i d : EReal))
  (hv : ∀ i d, v (ix4 0 h i d) = (v' i d : EReal)) (hs : ∀ i d, s (ix4 0 h i d) = (s' i d : EReal))
  (hkd : ∀ i, kd (ix4 0 h i 0) = (kd' i : EReal)) (hqd : ∀ i, qd (ix4 0 h i 0) = (qd' i : EReal)) (hcd : cd (ix4 0 h 0 0) = (cd' : EReal))

include hs hcd hk hkd hv in
theorem nextOf_at (d : Fin 128) (e : Fin 256) : nextOf s cd k kd v (ix4 0 h d e) = ((s' d e * cd' + ∑ j, k' j d * kd' j * v' j e : ℝ) : EReal) := by
  pointwise [nextOf]
  simp only [hs, hcd, hk, hkd, hv, ← EReal.coe_mul, coe_sum, ← EReal.coe_add]
include hq hk hw hv hs hqd in
theorem outOf_at (i : Fin 128) (e : Fin 256) : outOf q k w v s qd (ix4 0 h i e)
    = (((∑ j, (∑ d, q' i d * k' j d) * w' i j * v' j e) + (∑ d, q' i d * s' d e) * qd' i : ℝ) : EReal) := by
  pointwise [outOf]
  simp only [hq, hk, hw, hv, hs, hqd, ← EReal.coe_mul, coe_sum, ← EReal.coe_add]

end Entries

/-! ## The trips -/

variable (m : (ℓ : Loc nD τ sig) → Buf (Elt Ideal) ℓ) (c : Dev nD)

/-- The buffers before trip `k`. -/
def T (k : ℕ) : Valuation τ sig (Elt Ideal) := (STEP (F := Ideal))^[k] (entryContents preI m c)

theorem T_succ (k : ℕ) : T m c (k + 1) = STEP (T m c k) := Function.iterate_succ_apply' _ _ _

/-- What no trip changes, and the trip's number. -/
structure Still (k : ℕ) : Prop where
  qu : T m c k (Proc.devRef .tc main_v124_0) = A_main_v116 (F := Ideal) (m ((c.tc : Thread nD τ).loc main_arg0))
  ky : T m c k (Proc.devRef .tc main_v124_1) = A_main_v118 (F := Ideal) (m ((c.tc : Thread nD τ).loc main_arg0))
  va : T m c k (Proc.devRef .tc main_v124_2) = A_main_v120 (F := Ideal) (m ((c.tc : Thread nD τ).loc main_arg0))
  w : T m c k (Proc.devRef .tc main_v124_3) = K_main_v90 (F := Ideal)
  qd : T m c k (Proc.devRef .tc main_v124_4) = K_main_v99 (F := Ideal)
  cd : T m c k (Proc.devRef .tc main_v124_5) = K_main_v112 (F := Ideal)
  kd : T m c k (Proc.devRef .tc main_v124_6) = K_main_v108 (F := Ideal)
  no : T m c k (Proc.devRef .tc main_v124_7) = constantI S_ 32 (BitVec.ofNat 32 k)

set_option maxHeartbeats 700000 in
theorem still_first : Still m c 0 := by
  constructor <;> (unfold T; simp only [Function.iterate_zero, id_eq, entryContents, afterL_cons, afterL_nil]; after_reads_simp) <;> rfl

theorem still : ∀ k, Still m c k
  | 0 => still_first m c
  | k + 1 => by
    have h := still k
    constructor <;> rw [T_succ]
    · exact (STEP_main_v124_0 _).trans h.qu
    · exact (STEP_main_v124_1 _).trans h.ky
    · exact (STEP_main_v124_2 _).trans h.va
    · exact (STEP_main_v124_3 _).trans h.w
    · exact (STEP_main_v124_4 _).trans h.qd
    · exact (STEP_main_v124_5 _).trans h.cd
    · exact (STEP_main_v124_6 _).trans h.kd
    · refine (STEP_main_v124_7 _).trans ?_
      unfold step_main_v124_7
      rw [h.no]
      funext i
      show BitVec.ofNat 32 k + 1#32 = BitVec.ofNat 32 (k + 1)
      simp only [BitVec.ofNat_add]

/-- What the first `k` trips have left: the carried state, the outputs and the states before the chunks. -/
structure Left (X : ℕ → ℕ → ℝ) (k : ℕ) : Prop where
  state : ∀ (h : Fin 4) (d : Fin 128) (e : Fin 256), (T m c k (Proc.devRef .tc main_v124_8) : FVec Ideal S1x4x128x256 .f32) (ix4 0 h d e)
    = (Retention.state (dec h) (kOf X h) (vOf X h) (k * 128) d e : EReal)
  outs : ∀ n : Fin 64, n.val < k → ∀ (h : Fin 4) (i : Fin 128) (e : Fin 256), (T m c k (Proc.devRef .tc main_v124_9) : FVec Ideal S64x1x4x128x256 .f32) (ix5 n 0 h i e)
    = (Retention.out (dec h) (qOf X h) (kOf X h) (vOf X h) 8192 (n.val * 128 + i.val) e : EReal)
  states : ∀ n : Fin 64, n.val < k → ∀ (h : Fin 4) (d : Fin 128) (e : Fin 256), (T m c k (Proc.devRef .tc main_v124_10) : FVec Ideal S64x1x4x128x256 .bf16) (ix5 n 0 h d e)
    = (Retention.state (dec h) (kOf X h) (vOf X h) (n.val * 128) d e : EReal)

variable {m c} {X : ℕ → ℕ → ℝ} (hx : ∀ (s : Fin 8192) (l : Fin 2048), (m ((c.tc : Thread nD τ).loc main_arg0) : FVec Ideal S1x8192x2048 .f32) (ix3 0 s l) = (X s l : EReal))

theorem Left.first : Left m c X 0 where
  state h d e := by
    unfold T
    simp only [Function.iterate_zero, id_eq, entryContents, afterL_cons, afterL_nil]
    after_reads_simp
    simp only [id_eq]
    pointwise
    simp [Retention.state]
  outs n hn := absurd hn (Nat.not_lt_zero _)
  states n hn := absurd hn (Nat.not_lt_zero _)

include hx

theorem Left.next {k : ℕ} (hk : k < 64) (ih : Left m c X k) : Left m c X (k + 1) := by
  have st := still m c k
  have hq (h : Fin 4) (i d : Fin 128) : (res_main_while0b_v131 (T m c k) : FVec Ideal S1x4x128x128 .f32) (ix4 0 h i d) = (qOf X h (k * 128 + i.val) d : EReal) := by
    unfold res_main_while0b_v131
    rw [st.qu, st.no]
    exact (chunkQ_at ⟨k, hk⟩ _ h i d).trans (q_at hx ⟨k, hk⟩ h i d)
  have hk' (h : Fin 4) (i d : Fin 128) : (res_main_while0b_v132 (T m c k) : FVec Ideal S1x4x128x128 .f32) (ix4 0 h i d) = (kOf X h (k * 128 + i.val) d : EReal) := by
    unfold res_main_while0b_v132
    rw [st.ky, st.no]
    exact (chunkQ_at ⟨k, hk⟩ _ h i d).trans (k_at hx ⟨k, hk⟩ h i d)
  have hv (h : Fin 4) (i : Fin 128) (e : Fin 256) : (res_main_while0b_v133 (T m c k) : FVec Ideal S1x4x128x256 .f32) (ix4 0 h i e) = (vOf X h (k * 128 + i.val) e : EReal) := by
    unfold res_main_while0b_v133
    rw [st.va, st.no]
    exact (chunkV_at ⟨k, hk⟩ _ h i e).trans (v_at hx ⟨k, hk⟩ h i e)
  refine ⟨fun h d e => ?_, fun n hn h i e => ?_, fun n hn h d e => ?_⟩
  all_goals rw [T_succ]
  · rw [STEP_main_v124_8]
    refine (nextOf_at h (hk' h) (hv h) (ih.state h) (fun i => (congrFun st.kd _).trans (kd_at h i)) ((congrFun st.cd _).trans (cd_at h)) d e).trans ?_
    rw [Nat.succ_mul, state_step _ _ (dec_add h)]
  · rw [STEP_main_v124_9]
    refine Eq.trans (b := kept (φ := .f32) (T m c k (Proc.devRef .tc main_v124_9)) (outOf (res_main_while0b_v131 (T m c k)) (res_main_while0b_v132 (T m c k)) (T m c k (Proc.devRef .tc main_v124_3)) (res_main_while0b_v133 (T m c k)) (T m c k (Proc.devRef .tc main_v124_8)) (T m c k (Proc.devRef .tc main_v124_4))) (T m c k (Proc.devRef .tc main_v124_7)) (ix5 n 0 h i e)) rfl ?_
    rw [st.no]
    refine (kept_at ⟨k, hk⟩ n _ _ h i e).trans ?_
    split_ifs with hnk
    · subst hnk
      refine (outOf_at h (hq h) (hk' h) (fun i j => (congrFun st.w _).trans (w_at h i j)) (hv h) (ih.state h) (fun i => (congrFun st.qd _).trans (qd_at h i)) i e).trans ?_
      have hc := out_cut (qOf X h) (kOf X h) (vOf X h) (dec_add h) (k * 128) 128 (8192 - 128 - k * 128) i e
      rw [show k * 128 + (128 + (8192 - 128 - k * 128)) = 8192 by omega] at hc
      exact congrArg _ hc.symm
    · exact ih.outs n (by have : n.val ≠ k := fun e => hnk (Fin.ext e); omega) h i e
  · rw [STEP_main_v124_10]
    refine Eq.trans (b := kept (φ := .bf16) (T m c k (Proc.devRef .tc main_v124_10)) (truncf .bf16 (T m c k (Proc.devRef .tc main_v124_8) : FVec Ideal S1x4x128x256 .f32) bitsLt_bf16_f32) (T m c k (Proc.devRef .tc main_v124_7)) (ix5 n 0 h d e)) rfl ?_
    rw [st.no]
    refine (kept_at ⟨k, hk⟩ n _ _ h d e).trans ?_
    split_ifs with hnk
    · subst hnk
      refine Eq.trans ?_ (ih.state h d e)
      pointwise
    · exact ih.states n (by have : n.val ≠ k := fun e => hnk (Fin.ext e); omega) h d e

theorem left : ∀ k ≤ 64, Left m c X k
  | 0, _ => Left.first
  | k + 1, hk => Left.next hx hk (left k (by omega))

/-! ## The results -/

theorem outs_at (s : Fin 8192) (l : Fin 1024) : (out_main_v128 (T m c 64) : FVec Ideal S8192x1024 .bf16) (ix2 s l)
    = (Retention.out (dec (l.val / 256)) (qOf X (l.val / 256)) (kOf X (l.val / 256)) (vOf X (l.val / 256)) 8192 s ⟨l.val % 256, Nat.mod_lt _ (by omega)⟩ : EReal) := by
  have hL := (left hx 64 (Nat.le_refl _)).outs ⟨s.val / 128, by omega⟩ (by show s.val / 128 < 64; omega) ⟨l.val / 256, by omega⟩ ⟨s.val % 128, by omega⟩ ⟨l.val % 256, by omega⟩
  rw [show (s.val / 128) * 128 + s.val % 128 = s.val by omega] at hL
  refine Eq.trans ?_ hL
  pointwise [out_main_v128]

theorem states_at (n : Fin 32) (h : Fin 4) (d : Fin 128) (e : Fin 256) : (out_main_v130 (T m c 64) : FVec Ideal S32x4x128x256 .bf16) (ix4 n h d e)
    = (Retention.state (dec h) (kOf X h) (vOf X h) (n.val * 256) d e : EReal) := by
  have hL := (left hx 64 (Nat.le_refl _)).states ⟨2 * n.val, by omega⟩ (by show 2 * n.val < 64; omega) h d e
  rw [show 2 * n.val * 128 = n.val * 256 by omega] at hL
  refine Eq.trans ?_ hL
  pointwise [out_main_v130]

end Cert.RetfReferenceIdeal.Read
-- ==== Proof.RetfValue.lean ====
/- The retention's kernel and the plain retention leave the same outputs and the same saved states. -/
module

public import proofs.«01_k».proof.Defs
public import proofs.«01_k».proof.Proof.RetfRun
public import proofs.«01_k».proof.Proof.RetfLoop
public import proofs.«01_k».proof.Proof.Finite
public import Idealize.ShloMosaic.Lib.Quiescent
public import proofs.«01_k».proof.Proof.Gen.Pre_retf_finite
public import proofs.«01_k».proof.Proof.Gen.RetfKernel.Frame

@[expose] public section

set_option maxRecDepth 16384

noncomputable section

namespace Cert.Retf

open Idealize.ShloMosaic Idealize.ShloMosaic.TcCoe Idealize.SL.Sem Cert.Retention

/-- The reference ends with its argument as launched and every semaphore at zero: it has no semaphores. -/
theorem frame_reference : Cert.quiescent_RetfReferenceIdeal := fun m g _ =>
  (θ_run Cert.RetfReferenceIdeal.defs _ _).mono (fun r h => ⟨fun c => (h c).2.2, sem_eq_zero_of_no_sems rfl r.2⟩) (Cert.RetfReferenceIdeal.Value.run m g)

section
open Cert.RetfKernelIdeal

variable (m : (ℓ : Loc nD τ sig) → Buf (Elt Ideal) ℓ)

/-- The argument's entries as real numbers, by row and column. -/
def xs (c : Dev nD) : ℕ → ℕ → ℝ := real2 fun (s : Fin 8192) (l : Fin 2048) => (m ((c.tc : Thread nD τ).loc main_arg0) : FVec Ideal S1x8192x2048 .f32) (ix3 0 s l)

variable {m} (hp : Cert.Pre_RetfKernelIdeal_retf_finite m) (c : Dev nD)

include hp

theorem xs_at (s : Fin 8192) (l : Fin 2048) : (m ((c.tc : Thread nD τ).loc main_arg0) : FVec Ideal S1x8192x2048 .f32) (ix3 0 s l) = (xs m c s l : EReal) :=
  real2_at (fun (s : Fin 8192) (l : Fin 2048) => (m ((c.tc : Thread nD τ).loc main_arg0) : FVec Ideal S1x8192x2048 .f32) (ix3 0 s l))
    (fun s l => real_of_lt _ (congrFun (hp c) (ix3 0 s l))) s l

end

theorem value : Cert.algebraic_RetfKernelIdeal_RetfReferenceIdeal_pre_retf_finite := by
  intro m g m' g' hp he
  refine ⟨fun c => RetfKernelIdeal.Step.arrY (xs m c), fun c => RetfKernelIdeal.Step.arrSt (xs m c), ?_, ?_⟩
  · refine (θ_run Cert.RetfKernelIdeal.defs _ _).mono (fun r h c => ?_) (Cert.RetfKernelIdeal.Value.run (F := Ideal) m g)
    exact ⟨(h c).1.trans (RetfKernelIdeal.Step.y_arr (xs_at hp c)), (h c).2.1.trans (RetfKernelIdeal.Step.st_arr (xs_at hp c)), (h c).2.2⟩
  · refine (θ_run Cert.RetfReferenceIdeal.defs _ _).mono (fun r h c => ?_) (Cert.RetfReferenceIdeal.Value.run (F := Ideal) m' g')
    have hx := fun s l => (congrFun (he c) (ix3 0 s l)).trans (xs_at hp c s l)
    refine ⟨(h c).1.trans ?_, (h c).2.1.trans ?_, (h c).2.2⟩
    · funext (i : RetfReferenceIdeal.S8192x1024.Idx)
      obtain ⟨s, l, rfl⟩ : ∃ s l, i = ix2 (n0 := 8192) (n1 := 1024) s l := ⟨i 0, i 1, funext fun a => match a with | ⟨0, _⟩ => rfl | ⟨1, _⟩ => rfl⟩
      exact RetfReferenceIdeal.Read.outs_at hx s l
    · funext (i : RetfReferenceIdeal.S32x4x128x256.Idx)
      obtain ⟨n, h, d, e, rfl⟩ : ∃ n h d e, i = ix4 (n0 := 32) (n1 := 4) (n2 := 128) (n3 := 256) n h d e :=
        ⟨i 0, i 1, i 2, i 3, funext fun a => match a with | ⟨0, _⟩ => rfl | ⟨1, _⟩ => rfl | ⟨2, _⟩ => rfl | ⟨3, _⟩ => rfl⟩
      exact RetfReferenceIdeal.Read.states_at hx n h d e

end Cert.Retf

end
-- ==== Proof.AttnfMath.lean ====
/- One query of one head of the windowed attention: the weights over the folded window against those over the whole one. -/
module

public import Idealize.ShloMosaic.PureOps.Ideal
public import Idealize.ShloMosaic.Lib.Pointwise

@[expose] public section

noncomputable section

namespace Cert.Attn

open Idealize.ShloMosaic

theorem exp_nonneg (x : EReal) : 0 ≤ Ideal.exp x := by
  induction x using EReal.rec with
  | bot => exact le_refl _
  | coe r => exact EReal.coe_nonneg.mpr (Real.exp_pos r).le
  | top => exact le_top

theorem exp_sub_self (x : EReal) (hb : x ≠ ⊥) (ht : x ≠ ⊤) : Ideal.exp (x - x) = 1 := by
  rw [EReal.sub_self ht hb]
  show ((Real.exp 0 : ℝ) : EReal) = 1
  rw [Real.exp_zero]; rfl

section

variable (S : Fin 128 → EReal) (sk : EReal)

/-- The largest score, the sink's included; an exponential against it; and the sum of them. -/
def top : EReal := max (Finset.univ.fold max ⊥ S) sk
def e (x : EReal) : EReal := Ideal.exp (x - top S sk)
def total : EReal := (∑ t, e S sk (S t)) + e S sk sk

theorem total_ne (hb : sk ≠ ⊥) (ht : sk ≠ ⊤) (hS : ∀ t, S t ≠ ⊤) : total S sk ≠ 0 := by
  have hn : ∀ x, 0 ≤ e S sk x := fun x => exp_nonneg _
  have hs : 0 ≤ ∑ t, e S sk (S t) := Finset.sum_nonneg fun t _ => hn _
  have key : ∃ x, e S sk x = 1 ∧ e S sk x ≤ total S sk := by
    rcases max_choice (Finset.univ.fold max ⊥ S) sk with h | h
    · have hne : top S sk ≠ ⊥ := fun h0 => hb (le_bot_iff.mp (h0 ▸ le_max_right (Finset.univ.fold max ⊥ S) sk))
      have hle : Finset.univ.fold max ⊥ S ≤ Finset.univ.fold max ⊥ S := le_refl _
      rcases Finset.le_fold_max _ |>.mp hle with h1 | ⟨t, -, h1⟩
      · exact absurd (h.trans (le_bot_iff.mp h1)) hne
      · have h2 : S t = top S sk := le_antisymm (le_trans (Finset.le_fold_max _ |>.mpr (Or.inr ⟨t, Finset.mem_univ t, le_refl _⟩)) (le_max_left _ _)) (h.le.trans h1)
        refine ⟨S t, ?_, ?_⟩
        · unfold e; rw [← h2]; exact exp_sub_self _ (h2 ▸ hne) (hS t)
        · exact le_trans (Finset.single_le_sum (f := fun t => e S sk (S t)) (fun t _ => hn _) (Finset.mem_univ t)) (le_add_of_nonneg_right (hn _))
    · refine ⟨sk, ?_, le_add_of_nonneg_left hs⟩
      have h2 : top S sk = sk := h
      unfold e; rw [h2]; exact exp_sub_self _ hb ht
  obtain ⟨x, h1, h2⟩ := key
  intro h0
  rw [h1, h0] at h2
  exact absurd h2 (not_le.mpr zero_lt_one)

end

/-- The folded window's scores: the query's own block up to the query, the block before it after. -/
def folded (cur : Fin 128 → Prop) [DecidablePred cur] (ok : Prop) [Decidable ok] (P C : Fin 128 → EReal) (t : Fin 128) : EReal :=
  if cur t then C t else if ok then P t else ⊥

theorem split (f : Fin 256 → EReal) : ∑ j, f j = (∑ t : Fin 128, f ⟨t.val, by omega⟩) + ∑ t : Fin 128, f ⟨128 + t.val, by omega⟩ :=
  Fin.sum_univ_add (a := 128) (b := 128) f

section

variable (cur : Fin 128 → Prop) [DecidablePred cur] (ok : Prop) [Decidable ok] (P C vp vc : Fin 128 → EReal) (sk : EReal) (R v : Fin 256 → EReal)

/-- The weighted values over the whole window are those over the folded one. -/
theorem attend (hl : ∀ t : Fin 128, R ⟨t.val, by omega⟩ = if ¬cur t ∧ ok then P t else ⊥) (hh : ∀ t : Fin 128, R ⟨128 + t.val, by omega⟩ = if cur t then C t else ⊥)
    (vl : ok → ∀ t : Fin 128, v ⟨t.val, by omega⟩ = vp t) (vh : ∀ t : Fin 128, v ⟨128 + t.val, by omega⟩ = vc t) (hD : total (folded cur ok P C) sk ≠ 0) :
    ∑ j, v j * Ideal.div (Ideal.exp (R j - max (Finset.univ.fold max ⊥ R) sk)) ((∑ k, Ideal.exp (R k - max (Finset.univ.fold max ⊥ R) sk)) + Ideal.exp (sk - max (Finset.univ.fold max ⊥ R) sk))
      = (∑ t, e (folded cur ok P C) sk (folded cur ok P C t) * Ideal.div 1 (total (folded cur ok P C) sk) * (1 - if cur t then 1 else 0) * vp t)
        + ∑ t, e (folded cur ok P C) sk (folded cur ok P C t) * Ideal.div 1 (total (folded cur ok P C) sk) * (if cur t then 1 else 0) * vc t := by
  set S := folded cur ok P C with hS
  have h0 (x : EReal) : Ideal.exp (⊥ - x) = 0 := by rw [EReal.bot_sub]; rfl
  have hl' : ∀ t : Fin 128, R ⟨t.val, by omega⟩ = if cur t then ⊥ else S t := fun t => by
    rw [hl t, hS]; unfold folded; by_cases h : cur t <;> by_cases k : ok <;> simp [h, k]
  have hh' : ∀ t : Fin 128, R ⟨128 + t.val, by omega⟩ = if cur t then S t else ⊥ := fun t => by
    rw [hh t, hS]; unfold folded; by_cases h : cur t <;> simp [h]
  have hm : max (Finset.univ.fold max ⊥ R) sk = top S sk := by
    unfold top
    congr 1
    apply le_antisymm
    · refine Finset.fold_max_le _ |>.mpr ⟨bot_le, fun j _ => ?_⟩
      have hj : ∃ t : Fin 128, j = ⟨t.val, by omega⟩ ∨ j = ⟨128 + t.val, by omega⟩ := by
        by_cases h : j.val < 128
        · exact ⟨⟨j.val, h⟩, Or.inl rfl⟩
        · exact ⟨⟨j.val - 128, by omega⟩, Or.inr (Fin.ext (by show j.val = 128 + (j.val - 128); omega))⟩
      obtain ⟨t, h | h⟩ := hj
      all_goals
        refine le_trans ?_ (Finset.le_fold_max _ |>.mpr (Or.inr ⟨t, Finset.mem_univ t, le_refl (S t)⟩))
        rw [h]
        first | rw [hl' t] | rw [hh' t]
        split <;> simp
    · refine Finset.fold_max_le _ |>.mpr ⟨bot_le, fun t _ => ?_⟩
      by_cases h : cur t
      · refine Finset.le_fold_max _ |>.mpr (Or.inr ⟨⟨128 + t.val, by omega⟩, Finset.mem_univ _, ?_⟩)
        rw [hh' t, if_pos h]
      · refine Finset.le_fold_max _ |>.mpr (Or.inr ⟨⟨t.val, by omega⟩, Finset.mem_univ _, ?_⟩)
        rw [hl' t, if_neg h]
  rw [hm]
  have hsum : (∑ k, Ideal.exp (R k - top S sk)) + Ideal.exp (sk - top S sk) = total S sk := by
    unfold total
    rw [split, ← Finset.sum_add_distrib]
    congr 1
    refine Finset.sum_congr rfl fun t _ => ?_
    rw [hl' t, hh' t]
    unfold e
    by_cases h : cur t <;> simp only [h, if_true, if_false, h0, zero_add, add_zero]
  rw [hsum]
  have hd (x : EReal) : Ideal.div x (total S sk) = x * (total S sk)⁻¹ := if_neg hD
  have h1 : (1 : EReal) - 0 = 1 := sub_zero 1
  have h2 : (1 : EReal) - 1 = 0 := EReal.sub_self (by decide) (by decide)
  rw [split]
  congr 1
  · refine Finset.sum_congr rfl fun t _ => ?_
    rw [hl' t, hd, hd, one_mul]
    by_cases h : cur t
    · simp only [h, if_true, h0, h2, zero_mul, mul_zero]
    · by_cases k : ok
      · rw [vl k t]
        simp only [h, if_false, h1, mul_one]
        exact mul_comm _ _
      · have hb : S t = ⊥ := by rw [hS]; unfold folded; simp [h, k]
        unfold e
        simp only [h, if_false, hb, h0, zero_mul, mul_zero]
  · refine Finset.sum_congr rfl fun t _ => ?_
    rw [hh' t, vh t, hd, hd, one_mul]
    by_cases h : cur t
    · simp only [h, if_true, mul_one]
      exact mul_comm _ _
    · simp only [h, if_false, h0, zero_mul, mul_zero]

end

end Cert.Attn

end
-- ==== Proof.AttnfTurn.lean ====
/- Turning a query or a key by its position: the two halves of a head mixed by one angle's cosine and sine. -/
module

public import proofs.«01_k».proof.Proof.AttnfMath
public import Idealize.ShloMosaic.PureOps.Ideal.Laws

@[expose] public section

noncomputable section

namespace Cert.Attn

open Idealize.ShloMosaic

/-- A position's angle at a lane of half a head. -/
def ang (s l : ℕ) : EReal :=
  FloatOps.sitofp (F := Ideal) FTy.f32 (BitVec.ofNat 32 s) * Ideal.pow (Ideal.ofBits FTy.f32 1176256512#32)
    (Ideal.div (-FloatOps.sitofp (F := Ideal) FTy.f32 (BitVec.ofNat 32 l)) (Ideal.ofBits FTy.f32 1107296256#32))

theorem ang_real (s l : ℕ) : ∃ a : ℝ, ang s l = (a : EReal) := by
  have h1 : Ideal.ofBits FTy.f32 1176256512#32 = ((10000 : ℝ) : EReal) := by
    simp [Ideal.ofBits, Ideal.ieee, -EReal.coe_mul]; norm_num
  have h2 : Ideal.ofBits FTy.f32 1107296256#32 = ((32 : ℝ) : EReal) := by
    simp [Ideal.ofBits, Ideal.ieee, -EReal.coe_mul]; norm_num
  have h3 (n : ℕ) : FloatOps.sitofp (F := Ideal) FTy.f32 (BitVec.ofNat 32 n) = ((((BitVec.ofNat 32 n).toInt : ℤ) : ℝ) : EReal) := rfl
  unfold ang
  rw [h3, h3, h1, h2, ← EReal.coe_neg, Ideal.div_coe (by norm_num), ← EReal.coe_mul, Ideal.pow_coe_coe, ← EReal.coe_mul]
  exact ⟨_, rfl⟩

/-- A head `x` turned by the position `s`. -/
def turn (x : Fin 64 → EReal) (s : ℕ) (d : Fin 64) : EReal :=
  if h : d.val < 32 then x d * Ideal.cos (ang s d.val) - x ⟨32 + d.val, by omega⟩ * Ideal.sin (ang s d.val)
  else x ⟨32 + (d.val - 32), by omega⟩ * Ideal.cos (ang s (d.val - 32)) + x ⟨d.val - 32, by omega⟩ * Ideal.sin (ang s (d.val - 32))

theorem turn_real (x : Fin 64 → EReal) (hx : ∀ k, ∃ r : ℝ, x k = (r : EReal)) (s : ℕ) (d : Fin 64) : ∃ r : ℝ, turn x s d = (r : EReal) := by
  unfold turn
  split
  · obtain ⟨a, ha⟩ := ang_real s d.val
    obtain ⟨u, hu⟩ := hx d
    obtain ⟨v, hv⟩ := hx ⟨32 + d.val, by omega⟩
    rw [ha, hu, hv, Ideal.cos_coe, Ideal.sin_coe, ← EReal.coe_mul, ← EReal.coe_mul, ← EReal.coe_sub]
    exact ⟨_, rfl⟩
  · obtain ⟨a, ha⟩ := ang_real s (d.val - 32)
    obtain ⟨u, hu⟩ := hx ⟨32 + (d.val - 32), by omega⟩
    obtain ⟨v, hv⟩ := hx ⟨d.val - 32, by omega⟩
    rw [ha, hu, hv, Ideal.cos_coe, Ideal.sin_coe, ← EReal.coe_mul, ← EReal.coe_mul, ← EReal.coe_add]
    exact ⟨_, rfl⟩

/-- A score of real queries and keys is real. -/
theorem dot_real (x y : Fin 64 → EReal) (hx : ∀ k, ∃ r : ℝ, x k = (r : EReal)) (hy : ∀ k, ∃ r : ℝ, y k = (r : EReal)) : ∃ r : ℝ, ∑ k, x k * y k = (r : EReal) := by
  refine Finset.sum_induction _ (fun z : EReal => ∃ r : ℝ, z = (r : EReal)) (fun a b ⟨u, hu⟩ ⟨v, hv⟩ => ⟨u + v, by rw [hu, hv, EReal.coe_add]⟩) ⟨0, rfl⟩ fun k _ => ?_
  obtain ⟨u, hu⟩ := hx k
  obtain ⟨v, hv⟩ := hy k
  exact ⟨u * v, by rw [hu, hv, EReal.coe_mul]⟩

theorem eighth_real : ∃ r : ℝ, Ideal.ofBits FTy.f32 1040187392#32 = (r : EReal) :=
  ⟨1 / 8, by simp [Ideal.ofBits, Ideal.ieee, -EReal.coe_mul]; norm_num⟩

theorem neg_inf : Ideal.ofBits FTy.f32 4286578688#32 = ⊥ := by simp [Ideal.ofBits, Ideal.ieee]

theorem select_flag (c : Prop) [Decidable c] (a b : EReal) : Scalar.select (if c then 1#1 else 0#1) a b = if c then a else b := by
  by_cases h : c
  · rw [if_pos h, if_pos h]; rfl
  · rw [if_neg h, if_neg h]; rfl

/-- Which keys of the two blocks a query may see. -/
theorem seen_low (n : Fin 64) (q t : Fin 128) :
    IntOp.andi (IntOp.andi (IntOp.cmpi .sge (IntOp.subi (IntOp.addi (128#32) (BitVec.ofNat 32 q.val)) (BitVec.ofNat 32 t.val)) 0#32)
      (IntOp.cmpi .slt (IntOp.subi (IntOp.addi (128#32) (BitVec.ofNat 32 q.val)) (BitVec.ofNat 32 t.val)) 128#32))
      (IntOp.cmpi .sge (IntOp.subi (IntOp.addi (IntOp.muli (BitVec.ofNat 32 n.val) 128#32) (BitVec.ofNat 32 t.val)) 128#32) 0#32)
      = if ¬t ≤ q ∧ 0 < n.val then 1#1 else 0#1 := by
  have h1 : ∀ q t : Fin 128, IntOp.andi (IntOp.cmpi .sge (IntOp.subi (IntOp.addi (128#32) (BitVec.ofNat 32 q.val)) (BitVec.ofNat 32 t.val)) 0#32)
      (IntOp.cmpi .slt (IntOp.subi (IntOp.addi (128#32) (BitVec.ofNat 32 q.val)) (BitVec.ofNat 32 t.val)) 128#32) = if ¬t ≤ q then 1#1 else 0#1 := by decide +kernel
  have h2 : ∀ (n : Fin 64) (t : Fin 128), IntOp.cmpi .sge (IntOp.subi (IntOp.addi (IntOp.muli (BitVec.ofNat 32 n.val) 128#32) (BitVec.ofNat 32 t.val)) 128#32) 0#32
      = if 0 < n.val then 1#1 else 0#1 := by decide +kernel
  rw [h1, h2]
  by_cases h : t ≤ q <;> by_cases k : 0 < n.val <;> simp only [h, k, if_true, if_false, not_true, not_false_iff, and_true, and_false, false_and] <;> decide

theorem seen_high (n : Fin 64) (q t : Fin 128) :
    IntOp.andi (IntOp.andi (IntOp.cmpi .sge (IntOp.subi (IntOp.addi (128#32) (BitVec.ofNat 32 q.val)) (BitVec.ofNat 32 (128 + t.val))) 0#32)
      (IntOp.cmpi .slt (IntOp.subi (IntOp.addi (128#32) (BitVec.ofNat 32 q.val)) (BitVec.ofNat 32 (128 + t.val))) 128#32))
      (IntOp.cmpi .sge (IntOp.subi (IntOp.addi (IntOp.muli (BitVec.ofNat 32 n.val) 128#32) (BitVec.ofNat 32 (128 + t.val))) 128#32) 0#32)
      = if t ≤ q then 1#1 else 0#1 := by
  have h1 : ∀ q t : Fin 128, IntOp.andi (IntOp.cmpi .sge (IntOp.subi (IntOp.addi (128#32) (BitVec.ofNat 32 q.val)) (BitVec.ofNat 32 (128 + t.val))) 0#32)
      (IntOp.cmpi .slt (IntOp.subi (IntOp.addi (128#32) (BitVec.ofNat 32 q.val)) (BitVec.ofNat 32 (128 + t.val))) 128#32) = if t ≤ q then 1#1 else 0#1 := by decide +kernel
  have h2 : ∀ (n : Fin 64) (t : Fin 128), IntOp.cmpi .sge (IntOp.subi (IntOp.addi (IntOp.muli (BitVec.ofNat 32 n.val) 128#32) (BitVec.ofNat 32 (128 + t.val))) 128#32) 0#32
      = 1#1 := by decide +kernel
  rw [h1, h2]
  by_cases h : t ≤ q <;> simp only [h, if_true, if_false] <;> decide

end Cert.Attn

end
-- ==== Proof.AttnfStep.lean ====
/- What one grid point of the attention's kernel leaves in its output block: the pieces its run found, as one list over the
   four blocks of queries, the two groups of heads and the four pairs of heads of a group. -/
module

public import proofs.«01_k».proof.Proof.Gen.AttnfKernelIdeal.Value
public import Idealize.ShloMosaic.Lib.Tactic
public import Idealize.ShloMosaic.Lib.Pipeline.ReadBack

@[expose] public section

set_option maxRecDepth 16384

noncomputable section

namespace Cert.AttnfKernelIdeal.Step

open Cert.AttnfKernelIdeal Cert.AttnfKernelIdeal.Gen Idealize.ShloMosaic Idealize.ShloMosaic.TcCoe Idealize.SL.Sem

variable {F : FTy → Type} [FloatOps F] [Named F]

theorem fit {q k : ℕ} (hq : q < 4) (hk : k < 8) : ∀ a, (![q * 128, k * 128] : Fin 2 → ℕ) a + (![128, 128] : Fin 2 → ℕ) a ≤ S512x1024.size a := fun a => by
  match a with
  | ⟨0, _⟩ => exact (show q * 128 + 128 ≤ 512 by omega)
  | ⟨1, _⟩ => exact (show k * 128 + 128 ≤ 1024 by omega)

theorem hz : (![0, 0] : Fin 2 → ℕ) = fun _ => 0 := funext fun a => match a with | ⟨0, _⟩ => rfl | ⟨1, _⟩ => rfl

/-- The rows of a block of queries and the columns of a pair of heads. -/
abbrev tile (s : Fin 4) (g : Fin 2) (p : Fin 4) : Rect S512x1024 :=
  Rect.unit ![s.val * 128, (4 * g.val + p.val) * 128] ![128, 128] (fit s.isLt (by omega))

/-- The rows of the keys or values that a block of queries sees. -/
def seen (x : FVec F S640x128 .f32) (s : Fin 4) : FVec F S256x128 .f32 :=
  extractStridedSlice S256x128 ![s.val * 128, 0] x ⟨rfl, fun a => match a with
    | ⟨0, _⟩ => (show s.val * 128 + 256 ≤ 640 by omega)
    | ⟨1, _⟩ => (show 0 + 128 ≤ 128 by omega)⟩

/-- A head's keys or values in the first half of the lanes, over the same in the second half. -/
def halves (a b : FVec F S256x128 .f32) : FVec F S512x128 .bf16 := k0_pay14 b a k0_pay6

def operand (x y : FVec F S640x128 .f32) (s : Fin 4) (g : Fin 2) : FVec F S512x128 .bf16 :=
  if g.val = 0 then halves (seen x s) (seen y s) else halves (seen y s) (seen x s)

/-- A key's number within its block, at every column. -/
def row : IVec S128x512 32 := iota .tc S128x512 32 [0] iota_S128x512_d0_w32

/-- The weighted values of one pair. -/
def tileOf (p : Fin 4) (v : FVec F S512x128 .bf16) (cur : IVec S128x512 1) (a b c : FVec F S128x512 .f32) (w : FVec F S256x512 .bf16) (r : FVec F S256x512 .f32) (x y z : FVec F S1x128 .f32) (u : Elt F .f32) : FVec F S128x128 .bf16 :=
  k0_pay1 (extractStridedSlice S128x128 ![p.val * 128, 0] (k0_pay72 v cur a b c w r x y z u) ⟨rfl, fun a => match a with
    | ⟨0, _⟩ => (show p.val * 128 + 128 ≤ 512 by omega)
    | ⟨1, _⟩ => (show 0 + 128 ≤ 128 by omega)⟩)

section

variable (n : BitVec 32) (x0 : Vec F S1x16 .f32) (x1 : Vec F S512x1024 .bf16) (x2 : Vec F S128x128 .bf16) (x3 : Vec F S512x128 .bf16) (x4 : Vec F S128x128 .bf16) (x5 : Vec F S512x128 .bf16)

/-- Every score of a block and a group: the keys against the queries of the four pairs. -/
def scores (s : Fin 4) (g : Fin 2) : FVec F S512x512 .f32 :=
  k0_pay15 (operand (k0_pay2 x2 x3) (k0_pay3 x2 x3) s g) (View.ld x1 (tile s g 0)) (View.ld x1 (tile s g 1)) (View.ld x1 (tile s g 2)) (View.ld x1 (tile s g 3))

def sink (k : ℕ) (h : k < 16) : Elt F .f32 := View.ld x0 (Rect.unit ![0, k] ![1, 1] fun a => match a with
    | ⟨0, _⟩ => (show 0 + 1 ≤ 1 by omega)
    | ⟨1, _⟩ => (show k + 1 ≤ 16 by omega)) (Shape.Idx.first (numel1_S1x1 ▸ Nat.one_pos))

/-- The block's number. -/
def blockNo (s : Fin 4) : BitVec 32 := Scalar.addi (Scalar.muli 4#32 n) (BitVec.ofNat 32 s.val)

/-- The weights of the first head of every pair. -/
def weights (s : Fin 4) (g : Fin 2) : FVec F S256x512 .bf16 :=
  k0_pay67 (k0_pay18 row k0_pay17) (k0_pay19 row k0_pay17) (k0_pay20 (blockNo n s) row k0_pay17) (k0_pay21 row k0_pay17) (k0_pay66 (scores x1 x2 x3 s g))
    (sink x0 (8 * g.val) (by omega)) (sink x0 (8 * g.val + 2) (by omega)) (sink x0 (8 * g.val + 4) (by omega)) (sink x0 (8 * g.val + 6) (by omega))

/-- What a block, a group and a pair leave. -/
def outTile (s : Fin 4) (g : Fin 2) (p : Fin 4) : FVec F S128x128 .bf16 :=
  tileOf p (operand (k0_pay4 x4 x5) (k0_pay5 x4 x5) s g) (k0_pay18 row k0_pay17) (k0_pay19 row k0_pay17) (k0_pay20 (blockNo n s) row k0_pay17) (k0_pay21 row k0_pay17)
    (weights n x0 x1 x2 x3 s g) (k0_pay68 (scores x1 x2 x3 s g))
    (k0_pay69 (sink x0 (8 * g.val + 1) (by omega))) (k0_pay69 (sink x0 (8 * g.val + 3) (by omega))) (k0_pay69 (sink x0 (8 * g.val + 5) (by omega))) (sink x0 (8 * g.val + 7) (by omega))

/-- The stores of a point, the last first. -/
def pieces : List (View.Piece (Elt F) S512x1024 .bf16) :=
  ([3, 2, 1, 0] : List (Fin 4)).flatMap fun s => ([1, 0] : List (Fin 2)).flatMap fun g => ([3, 2, 1, 0] : List (Fin 4)).map fun p =>
    ⟨tile s g p, outTile n x0 x1 x2 x3 x4 x5 s g p⟩

end

/-! ## Where the printed body spells one step of a block in several ways -/

theorem lanes :
    k0_pay12 = k0_pay6
    ∧ k0_pay33 = k0_pay18 row k0_pay17
    ∧ k0_pay45 = k0_pay18 row k0_pay17
    ∧ k0_pay62 = k0_pay18 row k0_pay17
    ∧ iota .tc S128x512 32 [0] iota_S128x512_d0_w32 = row := ⟨rfl, rfl, rfl, rfl, rfl⟩
theorem alike :
    k0_pay34 (F := F) = k0_pay19 row k0_pay17
    ∧ k0_pay46 (F := F) = k0_pay19 row k0_pay17
    ∧ k0_pay63 (F := F) = k0_pay19 row k0_pay17
    ∧ k0_pay65 (F := F) = k0_pay21 row k0_pay17
    ∧ k0_pay31 (F := F) = k0_pay15
    ∧ k0_pay32 (F := F) = k0_pay15
    ∧ k0_pay43 (F := F) = k0_pay15
    ∧ k0_pay44 (F := F) = k0_pay15
    ∧ k0_pay61 (F := F) = k0_pay15
    ∧ k0_pay77 (F := F) = k0_pay66
    ∧ k0_pay88 (F := F) = k0_pay66
    ∧ k0_pay79 (F := F) = k0_pay68
    ∧ k0_pay90 (F := F) = k0_pay68
    ∧ k0_pay100 (F := F) = k0_pay68
    ∧ k0_pay110 (F := F) = k0_pay68
    ∧ k0_pay119 (F := F) = k0_pay68
    ∧ k0_pay128 (F := F) = k0_pay68
    ∧ k0_pay137 (F := F) = k0_pay68
    ∧ k0_pay70 (F := F) = k0_pay69
    ∧ k0_pay71 (F := F) = k0_pay69
    ∧ k0_pay80 (F := F) = k0_pay69
    ∧ k0_pay81 (F := F) = k0_pay69
    ∧ k0_pay82 (F := F) = k0_pay69
    ∧ k0_pay91 (F := F) = k0_pay69
    ∧ k0_pay92 (F := F) = k0_pay69
    ∧ k0_pay93 (F := F) = k0_pay69
    ∧ k0_pay101 (F := F) = k0_pay69
    ∧ k0_pay102 (F := F) = k0_pay69
    ∧ k0_pay103 (F := F) = k0_pay69
    ∧ k0_pay111 (F := F) = k0_pay69
    ∧ k0_pay112 (F := F) = k0_pay69
    ∧ k0_pay120 (F := F) = k0_pay69
    ∧ k0_pay121 (F := F) = k0_pay69
    ∧ k0_pay129 (F := F) = k0_pay69
    ∧ k0_pay130 (F := F) = k0_pay69
    ∧ k0_pay138 (F := F) = k0_pay69
    ∧ k0_pay139 (F := F) = k0_pay69
    ∧ k0_pay78 (F := F) = k0_pay67
    ∧ k0_pay89 (F := F) = k0_pay67
    ∧ k0_pay83 (F := F) = k0_pay72
    ∧ k0_pay94 (F := F) = k0_pay72
    ∧ k0_pay104 (F := F) = k0_pay72
    ∧ k0_pay84 (F := F) = tileOf 0
    ∧ k0_pay85 (F := F) = tileOf 1
    ∧ k0_pay86 (F := F) = tileOf 2
    ∧ k0_pay87 (F := F) = tileOf 3
    ∧ k0_pay95 (F := F) = tileOf 0
    ∧ k0_pay96 (F := F) = tileOf 1
    ∧ k0_pay97 (F := F) = tileOf 2
    ∧ k0_pay98 (F := F) = tileOf 3
    ∧ k0_pay105 (F := F) = tileOf 0
    ∧ k0_pay106 (F := F) = tileOf 1
    ∧ k0_pay107 (F := F) = tileOf 2
    ∧ k0_pay108 (F := F) = tileOf 3
    ∧ k0_pay73 (F := F) = tileOf 0
    ∧ k0_pay74 (F := F) = tileOf 1
    ∧ k0_pay75 (F := F) = tileOf 2
    ∧ k0_pay76 (F := F) = tileOf 3 := ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem keys (x y : FVec F S640x128 .f32) :
    k0_pay23 x y = halves (seen x 1) (seen y 1)
    ∧ k0_pay24 x y = halves (seen x 1) (seen y 1)
    ∧ k0_pay38 x y = halves (seen x 2) (seen y 2)
    ∧ k0_pay39 x y = halves (seen x 2) (seen y 2)
    ∧ k0_pay53 x y = halves (seen x 3) (seen y 3)
    ∧ k0_pay54 x y = halves (seen x 3) (seen y 3)
    ∧ k0_pay28 x y = halves (seen y 1) (seen x 1)
    ∧ k0_pay41 x y = halves (seen y 2) (seen x 2)
    ∧ k0_pay42 x y = halves (seen y 2) (seen x 2)
    ∧ k0_pay56 x y = halves (seen y 3) (seen x 3)
    ∧ k0_pay57 x y = halves (seen y 3) (seen x 3)
    ∧ k0_pay30 (k0_pay25 x) (k0_pay26 y) k0_pay27 k0_pay29 = halves (seen y 1) (seen x 1) := ⟨rfl, rfl, rfl, rfl, rfl, rfl, rfl, rfl, rfl, rfl, rfl, rfl⟩
theorem first (a : Vec F S128x128 .bf16) (b : Vec F S512x128 .bf16) :
    k0_pay7 a b = halves (seen (k0_pay2 a b) 0) (seen (k0_pay3 a b) 0)
    ∧ k0_pay8 a b = halves (seen (k0_pay4 a b) 0) (seen (k0_pay5 a b) 0)
    ∧ k0_pay14 (k0_pay10 a b) (k0_pay11 a b) k0_pay6 = halves (seen (k0_pay5 a b) 0) (seen (k0_pay4 a b) 0) := ⟨rfl, rfl, rfl⟩
theorem second (a : Vec F S128x128 .bf16) (b : Vec F S512x128 .bf16) (p q r s : Vec F S128x128 .bf16) :
    k0_pay16 (k0_pay9 a b) k0_pay6 (k0_pay13 a b) p q r s = k0_pay15 (halves (seen (k0_pay3 a b) 0) (seen (k0_pay2 a b) 0)) p q r s := rfl
theorem fourth (x : FVec F S512x128 .bf16) (p q r s : Vec F S128x128 .bf16) :
    k0_pay60 x (k0_pay58 p) (k0_pay59 q) r s = k0_pay15 x p q r s := rfl
theorem flags :
    k0_pay36 (F := F) (k0_pay19 row k0_pay17) = k0_pay21 row k0_pay17
    ∧ k0_pay51 (F := F) (k0_pay19 row k0_pay17) = k0_pay21 row k0_pay17 := ⟨rfl, rfl⟩
theorem masks (n : BitVec 32) :
    k0_pay35 (F := F) n (k0_pay18 row k0_pay17) 0#32 = k0_pay20 n row k0_pay17
    ∧ k0_pay50 (F := F) (k0_pay47 n) k0_pay48 k0_pay49 = k0_pay20 (blockNo n 2) row k0_pay17
    ∧ k0_pay64 (F := F) n = k0_pay20 (blockNo n 3) row k0_pay17 := ⟨rfl, rfl, rfl⟩
theorem weighed (r : FVec F S512x512 .f32) (cur : IVec S128x512 1) (a b c : FVec F S128x512 .f32) (x y z u : Elt F .f32) :
    k0_pay99 r cur a b c x y z u = k0_pay67 cur a b c (k0_pay66 r) x y z u
    ∧ k0_pay109 r cur a b c x y z u = k0_pay67 cur a b c (k0_pay66 r) x y z u
    ∧ k0_pay118 r cur a b c x y z u = k0_pay67 cur a b c (k0_pay66 r) x y z u
    ∧ k0_pay127 r cur a b c x y z u = k0_pay67 cur a b c (k0_pay66 r) x y z u
    ∧ k0_pay136 r cur a b c x y z u = k0_pay67 cur a b c (k0_pay66 r) x y z u := ⟨rfl, rfl, rfl, rfl, rfl⟩
theorem mixes (v : FVec F S512x128 .bf16) (cur : IVec S128x512 1) (a b c : FVec F S128x512 .f32) (w : FVec F S256x512 .bf16) (r : FVec F S256x512 .f32) (x y z u : Elt F .f32) :
    k0_pay114 v cur a b c w r (k0_pay69 x) (k0_pay69 y) z u = tileOf 0 v cur a b c w r (k0_pay69 x) (k0_pay69 y) (k0_pay69 z) u
    ∧ k0_pay115 v cur a b c w r (k0_pay69 x) (k0_pay69 y) z u = tileOf 1 v cur a b c w r (k0_pay69 x) (k0_pay69 y) (k0_pay69 z) u
    ∧ k0_pay116 v cur a b c w r (k0_pay69 x) (k0_pay69 y) z u = tileOf 2 v cur a b c w r (k0_pay69 x) (k0_pay69 y) (k0_pay69 z) u
    ∧ k0_pay117 v cur a b c w r (k0_pay69 x) (k0_pay69 y) z u = tileOf 3 v cur a b c w r (k0_pay69 x) (k0_pay69 y) (k0_pay69 z) u
    ∧ k0_pay123 v cur a b c w r (k0_pay69 x) (k0_pay69 y) z u = tileOf 0 v cur a b c w r (k0_pay69 x) (k0_pay69 y) (k0_pay69 z) u
    ∧ k0_pay124 v cur a b c w r (k0_pay69 x) (k0_pay69 y) z u = tileOf 1 v cur a b c w r (k0_pay69 x) (k0_pay69 y) (k0_pay69 z) u
    ∧ k0_pay125 v cur a b c w r (k0_pay69 x) (k0_pay69 y) z u = tileOf 2 v cur a b c w r (k0_pay69 x) (k0_pay69 y) (k0_pay69 z) u
    ∧ k0_pay126 v cur a b c w r (k0_pay69 x) (k0_pay69 y) z u = tileOf 3 v cur a b c w r (k0_pay69 x) (k0_pay69 y) (k0_pay69 z) u
    ∧ k0_pay132 v cur a b c w r (k0_pay69 x) (k0_pay69 y) z u = tileOf 0 v cur a b c w r (k0_pay69 x) (k0_pay69 y) (k0_pay69 z) u
    ∧ k0_pay133 v cur a b c w r (k0_pay69 x) (k0_pay69 y) z u = tileOf 1 v cur a b c w r (k0_pay69 x) (k0_pay69 y) (k0_pay69 z) u
    ∧ k0_pay134 v cur a b c w r (k0_pay69 x) (k0_pay69 y) z u = tileOf 2 v cur a b c w r (k0_pay69 x) (k0_pay69 y) (k0_pay69 z) u
    ∧ k0_pay135 v cur a b c w r (k0_pay69 x) (k0_pay69 y) z u = tileOf 3 v cur a b c w r (k0_pay69 x) (k0_pay69 y) (k0_pay69 z) u
    ∧ k0_pay141 v cur a b c w r (k0_pay69 x) (k0_pay69 y) z u = tileOf 0 v cur a b c w r (k0_pay69 x) (k0_pay69 y) (k0_pay69 z) u
    ∧ k0_pay142 v cur a b c w r (k0_pay69 x) (k0_pay69 y) z u = tileOf 1 v cur a b c w r (k0_pay69 x) (k0_pay69 y) (k0_pay69 z) u
    ∧ k0_pay143 v cur a b c w r (k0_pay69 x) (k0_pay69 y) z u = tileOf 2 v cur a b c w r (k0_pay69 x) (k0_pay69 y) (k0_pay69 z) u
    ∧ k0_pay1 (k0_pay144 v cur a b c w r (k0_pay69 x) (k0_pay69 y) z u) = tileOf 3 v cur a b c w r (k0_pay69 x) (k0_pay69 y) (k0_pay69 z) u := ⟨rfl, rfl, rfl, rfl, rfl, rfl, rfl, rfl, rfl, rfl, rfl, rfl, rfl, rfl, rfl, rfl⟩

set_option maxHeartbeats 40000000 in
theorem out_A (c : Dev nD) (i : grid0.Coords) (a1 : Memref sig .tc .smem S1x16 .f32) (h1 : a1.IsWhole) (a2 : Memref sig .tc .vmem S512x1024 .bf16) (h2 : a2.IsWhole) (a3 : Memref sig .tc .vmem S128x128 .bf16) (h3 : a3.IsWhole) (a4 : Memref sig .tc .vmem S512x128 .bf16) (h4 : a4.IsWhole)
    (a5 : Memref sig .tc .vmem S128x128 .bf16) (h5 : a5.IsWhole) (a6 : Memref sig .tc .vmem S512x128 .bf16) (h6 : a6.IsWhole) (a8 : Memref sig .tc .vmem S512x1024 .bf16) (h8 : a8.IsWhole)
    (x0 : Vec F S1x16 .f32) (x1 : Vec F S512x1024 .bf16) (x2 : Vec F S128x128 .bf16) (x3 : Vec F S512x128 .bf16) (x4 : Vec F S128x128 .bf16) (x5 : Vec F S512x128 .bf16) :
    out0_A_6 c i a1 h1 a2 h2 a3 h3 a4 h4 a5 h5 a6 h6 a8 h8 x0 x1 x2 x3 x4 x5 = View.canon (pieces (BitVec.ofNat 32 (i 0).val) x0 x1 x2 x3 x4 x5) := by
  unfold out0_A_6
  rw [View.read_writes_eq_canon _ _ _ (cover0_A_6 c i a1 h1 a2 h2 a3 h3 a4 h4 a5 h5 a6 h6 a8 h8 x0 x1 x2 x3 x4 x5)]
  unfold kernelRun0_A
  dsimp only
  sl_unfold_words
  simp only [View.readAt_eq_ld, h1.read_unread, h2.read_unread, h3.read_unread, h4.read_unread, h5.read_unread, h6.read_unread, h8.read_unread]
  have e2 : View.ld x2 (Rect.unit ![0, 0] ![128, 128] inb_S128x128_S128x128_0_0) = x2 := View.ld_unit_zero (S := S128x128) hz _ _
  have e3 : View.ld x3 (Rect.unit ![0, 0] ![512, 128] inb_S512x128_S512x128_0_0) = x3 := View.ld_unit_zero (S := S512x128) hz _ _
  have e4 : View.ld x4 (Rect.unit ![0, 0] ![128, 128] inb_S128x128_S128x128_0_0) = x4 := View.ld_unit_zero (S := S128x128) hz _ _
  have e5 : View.ld x5 (Rect.unit ![0, 0] ![512, 128] inb_S512x128_S512x128_0_0) = x5 := View.ld_unit_zero (S := S512x128) hz _ _
  simp only [e2, e3, e4, e5]
  simp only [lanes, alike, keys, first, second, fourth, flags, masks, weighed, mixes]
  rfl

end Cert.AttnfKernelIdeal.Step

end
-- ==== Proof.AttnfPart.lean ====
/- What one step writes at one query and one lane: the weighted values of the folded window. -/
module

public import proofs.«01_k».proof.Proof.AttnfStep
public import proofs.«01_k».proof.Proof.AttnfMath
public import Idealize.ShloMosaic.Lib.Pointwise
public import Idealize.ShloMosaic.Lib.Pipeline.ValueKit.Tiles

@[expose] public section

set_option maxRecDepth 16384

noncomputable section

namespace Cert.AttnfKernelIdeal.Step

open Cert.AttnfKernelIdeal Cert.AttnfKernelIdeal.Gen Idealize.ShloMosaic Idealize.ShloMosaic.TcCoe Idealize.SL.Sem
open Cert.Attn

/-- An eighth, as the scores are scaled. -/
abbrev eighth : EReal := Ideal.ofBits FTy.f32 1040187392#32

theorem neg_inf : Ideal.ofBits FTy.f32 4286578688#32 = ⊥ := by simp [Ideal.ofBits, Ideal.ieee]

theorem mask_bot : Named.named (F := Ideal) Cert.AttnfKernelIdeal.κ "mask" (φ := .f32) 4048155338#32 = ⊥ :=
  IdealRules.named_const.ideal_named_scalar Cert.AttnfKernelIdeal.κ "mask" _ ⊥ rfl

theorem flag_at (q : Fin 128) (p : Fin 4) (t : Fin 128) :
    IntOp.cmpi .sle (BitVec.ofNat 32 t.val) (IntOp.andi (BitVec.ofNat 32 (p.val * 128 + q.val)) 127#32) = if t ≤ q then 1#1 else 0#1 := by
  revert q p t; decide +kernel

section

variable (p : Fin 4) (q t : Fin 128)

/-- The column of a pair's query. -/
abbrev col : Fin 512 := ⟨p.val * 128 + q.val, by omega⟩

theorem cur_at : k0_pay18 row k0_pay17 (ix2 t (col p q)) = if t ≤ q then 1#1 else 0#1 := by
  pointwise [k0_pay18, k0_pay17, row]
  exact flag_at q p t
theorem one_at : k0_pay19 (F := Ideal) row k0_pay17 (ix2 t (col p q)) = if t ≤ q then (1 : EReal) else 0 := by
  pointwise [k0_pay19, k0_pay18, k0_pay17, row]
  rw [flag_at]; split <;> rfl
theorem rest_at : k0_pay21 (F := Ideal) row k0_pay17 (ix2 t (col p q)) = (1 : EReal) - if t ≤ q then (1 : EReal) else 0 := by
  pointwise [k0_pay21, k0_pay19, k0_pay18, k0_pay17, row]
  rw [flag_at]; split <;> rfl

theorem block_at (n : Fin 16) (s : Fin 4) :
    Scalar.cmpi .sgt (Scalar.addi (Scalar.muli (4#32) (BitVec.ofNat 32 n.val)) (BitVec.ofNat 32 s.val)) 0#32 = if 0 < 4 * n.val + s.val then 1#1 else 0#1 := by
  revert n s; decide +kernel

theorem bias_at (n : Fin 16) (s : Fin 4) : k0_pay20 (F := Ideal) (blockNo (BitVec.ofNat 32 n.val) s) row k0_pay17 (ix2 t (col p q)) = if t ≤ q ∨ 0 < 4 * n.val + s.val then (0 : EReal) else ⊥ := by
  pointwise [k0_pay20, k0_pay18, k0_pay17, row, blockNo]
  rw [flag_at, block_at]
  by_cases h : t ≤ q <;> by_cases k : 0 < 4 * n.val + s.val <;> simp only [h, k, if_true, if_false, true_or, or_true, or_self]
  · rfl
  · rfl
  · rfl
  · exact mask_bot

/-- A pair's score of its own. -/
def pick (x y z u : EReal) : EReal := match p with | 0 => x | 1 => y | 2 => z | 3 => u

theorem pick_eq (x y z u : EReal) : (if h : p.val * 128 + q.val < 128 then x else if h : p.val * 128 + q.val - 128 < 128 then y
    else if h : p.val * 128 + q.val - 128 - 128 < 128 then z else u) = pick p x y z u := by
  match p with
  | 0 => exact dif_pos (show 0 * 128 + q.val < 128 by omega)
  | 1 => exact (dif_neg (show ¬1 * 128 + q.val < 128 by omega)).trans (dif_pos (show 1 * 128 + q.val - 128 < 128 by omega))
  | 2 => exact (dif_neg (show ¬2 * 128 + q.val < 128 by omega)).trans ((dif_neg (show ¬2 * 128 + q.val - 128 < 128 by omega)).trans (dif_pos (show 2 * 128 + q.val - 128 - 128 < 128 by omega)))
  | 3 => exact (dif_neg (show ¬3 * 128 + q.val < 128 by omega)).trans ((dif_neg (show ¬3 * 128 + q.val - 128 < 128 by omega)).trans (dif_neg (show ¬3 * 128 + q.val - 128 - 128 < 128 by omega)))

/-- The folded scores of a column of a 256-row matrix. -/
def sc (ok : Prop) [Decidable ok] (r : Fin 256 → EReal) : Fin 128 → EReal :=
  folded (· ≤ q) ok (fun t => r ⟨t.val, by omega⟩ * eighth) (fun t => r ⟨128 + t.val, by omega⟩ * eighth)

/-- The weights on the block before and on the block of the query. -/
def low (S : Fin 128 → EReal) (sk : EReal) (q t : Fin 128) : EReal := e S sk (S t) * Ideal.div 1 (total S sk) * (1 - if t ≤ q then 1 else 0)
def high (S : Fin 128 → EReal) (sk : EReal) (q t : Fin 128) : EReal := e S sk (S t) * Ideal.div 1 (total S sk) * (if t ≤ q then 1 else 0)

variable (n : Fin 16) (s : Fin 4)

theorem fold_at (r : Fin 256 → EReal) :
    Scalar.select (k0_pay18 row k0_pay17 (ix2 t (col p q))) (r ⟨128 + t.val, by omega⟩) (r ⟨t.val, by omega⟩) * Ideal.ofBits FTy.f32 1040187392#32
      + k0_pay20 (F := Ideal) (blockNo (BitVec.ofNat 32 n.val) s) row k0_pay17 (ix2 t (col p q)) = sc q (0 < 4 * n.val + s.val) r t := by
  rw [cur_at, bias_at]
  unfold sc folded
  by_cases h : t ≤ q
  · simp only [h, if_true, true_or]
    exact add_zero _
  · by_cases k : 0 < 4 * n.val + s.val
    · simp only [h, k, if_true, if_false, or_true]
      exact add_zero _
    · simp only [h, k, if_false, or_self]
      exact EReal.add_bot _

variable (w : FVec Ideal S256x512 .bf16) (r : FVec Ideal S256x512 .f32) (x y z u : EReal)

/-- The weights of the first heads' columns. -/
theorem weight_at (i : Fin 256) :
    k0_pay67 (F := Ideal) (k0_pay18 row k0_pay17) (k0_pay19 row k0_pay17) (k0_pay20 (blockNo (BitVec.ofNat 32 n.val) s) row k0_pay17) (k0_pay21 row k0_pay17) r x y z u (ix2 i (col p q))
      = if h : i.val < 128 then low (sc q (0 < 4 * n.val + s.val) fun i => r (ix2 i (col p q))) (pick p x y z u) q ⟨i.val, h⟩
        else high (sc q (0 < 4 * n.val + s.val) fun i => r (ix2 i (col p q))) (pick p x y z u) q ⟨i.val - 128, by omega⟩ := by
  have hf := fun t => fold_at p q t n s fun i => r (ix2 i (col p q))
  have h1 := one_at p q
  have h2 := rest_at p q
  generalize k0_pay18 row k0_pay17 = cur at *
  generalize k0_pay19 (F := Ideal) row k0_pay17 = a at *
  generalize k0_pay20 (F := Ideal) (blockNo (BitVec.ofNat 32 n.val) s) row k0_pay17 = b at *
  generalize k0_pay21 (F := Ideal) row k0_pay17 = c at *
  pointwise [k0_pay67]
  simp only [pick_eq, neg_inf]
  simp only [hf, h1, h2]
  rfl

theorem split4 (f : Fin 512 → EReal) : ∑ j, f j = ((∑ t : Fin 128, f ⟨t.val, by omega⟩) + ∑ t : Fin 128, f ⟨128 + t.val, by omega⟩)
    + ((∑ t : Fin 128, f ⟨256 + t.val, by omega⟩) + ∑ t : Fin 128, f ⟨256 + (128 + t.val), by omega⟩) :=
  (Fin.sum_univ_add (a := 256) (b := 256) f).trans (congrArg₂ (· + ·) (split fun j => f ⟨j.val, by omega⟩) (split fun j => f ⟨256 + j.val, by omega⟩))

theorem mixed (v : FVec Ideal S512x128 .bf16) (l : Fin 128) :
    tileOf (F := Ideal) p v (k0_pay18 row k0_pay17) (k0_pay19 row k0_pay17) (k0_pay20 (blockNo (BitVec.ofNat 32 n.val) s) row k0_pay17) (k0_pay21 row k0_pay17) w r (k0_pay69 x) (k0_pay69 y) (k0_pay69 z) u (ix2 q l)
      = ((∑ t : Fin 128, w (ix2 ⟨t.val, by omega⟩ (col p q)) * v (ix2 ⟨t.val, by omega⟩ l)) + ∑ t : Fin 128, w (ix2 ⟨128 + t.val, by omega⟩ (col p q)) * v (ix2 ⟨128 + t.val, by omega⟩ l))
        + ((∑ t : Fin 128, low (sc q (0 < 4 * n.val + s.val) fun i => r (ix2 i (col p q))) (pick p x y z u) q t * v (ix2 ⟨256 + t.val, by omega⟩ l))
          + ∑ t : Fin 128, high (sc q (0 < 4 * n.val + s.val) fun i => r (ix2 i (col p q))) (pick p x y z u) q t * v (ix2 ⟨256 + (128 + t.val), by omega⟩ l)) := by
  have hf := fun t => fold_at p q t n s fun i => r (ix2 i (col p q))
  have h1 := one_at p q
  have h2 := rest_at p q
  generalize k0_pay18 row k0_pay17 = cur at *
  generalize k0_pay19 (F := Ideal) row k0_pay17 = a at *
  generalize k0_pay20 (F := Ideal) (blockNo (BitVec.ofNat 32 n.val) s) row k0_pay17 = b at *
  generalize k0_pay21 (F := Ideal) row k0_pay17 = c at *
  pointwise [tileOf, k0_pay1, k0_pay72, k0_pay69]
  simp only [pick_eq, neg_inf]
  simp only [hf, h1, h2]
  rw [split4]
  refine congrArg₂ (· + ·) (congrArg₂ (· + ·) ?_ ?_) (congrArg₂ (· + ·) ?_ ?_) <;> refine Finset.sum_congr rfl fun t _ => congrArg (· * _) ?_
  · exact dif_pos (show t.val < 256 by omega)
  · exact dif_pos (show 128 + t.val < 256 by omega)
  · refine (dif_neg (show ¬256 + t.val < 256 by omega)).trans ((dif_pos (show 256 + t.val - 256 < 128 by omega)).trans ?_)
    simp only [show 256 + t.val - 256 = t.val by omega]
    rfl
  · refine (dif_neg (show ¬256 + (128 + t.val) < 256 by omega)).trans ((dif_neg (show ¬256 + (128 + t.val) - 256 < 128 by omega)).trans ?_)
    simp only [show 256 + (128 + t.val) - 256 - 128 = t.val by omega]
    rfl

end

end Cert.AttnfKernelIdeal.Step

end
-- ==== Proof.AttnfTile.lean ====
/- The tiles one step writes, read at a query and a lane, in the rows the step is given. -/
module

public import proofs.«01_k».proof.Proof.AttnfPart

@[expose] public section

set_option maxRecDepth 16384

noncomputable section

namespace Cert.AttnfKernelIdeal.Step

open Cert.AttnfKernelIdeal Cert.AttnfKernelIdeal.Gen Idealize.ShloMosaic Idealize.ShloMosaic.TcCoe Idealize.SL.Sem
open Cert.Attn

/-- The 128 rows before a step's rows and the 512 of its own, end to end. -/
def rows (a : FVec Ideal S128x128 .bf16) (b : FVec Ideal S512x128 .bf16) (i : ℕ) (l : Fin 128) : EReal :=
  if h : i < 128 then a (ix2 ⟨i, h⟩ l) else b (ix2 ⟨(i - 128) % 512, by omega⟩ l)

section

variable (a : FVec Ideal S128x128 .bf16) (b : FVec Ideal S512x128 .bf16) (s : Fin 4) (g : Fin 2)

theorem seen_at (i : Fin 256) (j : Fin 128) : seen (F := Ideal) (k0_pay2 a b) s (ix2 i j) = rows a b (s.val * 128 + i.val) j := by
  pointwise [seen, k0_pay2]
  unfold rows
  split
  · rfl
  · simp only [show (s.val * 128 + i.val - 128) % 512 = s.val * 128 + i.val - 128 by omega]

theorem turned_at (i : Fin 256) (j : Fin 128) : seen (F := Ideal) (k0_pay3 a b) s (ix2 i j) = rows a b (s.val * 128 + i.val) ⟨(j.val + 64) % 128, by omega⟩ := by
  pointwise [seen, k0_pay3, k0_pay2]
  unfold rows
  have h : (j.val + 128 - 64) % 128 = (j.val + 64) % 128 := by omega
  split
  · simp only [h]
  · simp only [h, show (s.val * 128 + i.val - 128) % 512 = s.val * 128 + i.val - 128 by omega]

theorem half_flag (j : Fin 128) : IntOp.cmpi .slt (BitVec.ofNat 32 j.val) 64#32 = if j.val < 64 then 1#1 else 0#1 := by
  revert j; decide +kernel

theorem halves_at (x y : FVec Ideal S256x128 .f32) (w : Fin 2) (i : Fin 256) (j : Fin 128) :
    halves (F := Ideal) x y (ix2 ⟨256 * w.val + i.val, by omega⟩ j) = if j.val / 64 = w.val then (if w.val = 0 then x (ix2 i j) else y (ix2 i j)) else 0 := by
  pointwise [halves, k0_pay14, k0_pay6]
  rw [half_flag]
  match w with
  | 0 =>
    refine Eq.trans ?_ (show (if j.val / 64 = 0 then x (ix2 i j) else 0) = _ from rfl)
    refine (dif_pos (show 256 * 0 + i.val < 256 by omega)).trans ?_
    by_cases h : j.val < 64
    · rw [if_pos h, if_pos (show j.val / 64 = 0 by omega)]
      exact congrArg (fun t => x (ix2 t j)) (Fin.ext (show 256 * 0 + i.val = i.val by omega))
    · rw [if_neg h, if_neg (show ¬j.val / 64 = 0 by omega)]; rfl
  | 1 =>
    refine Eq.trans ?_ (show (if j.val / 64 = 1 then y (ix2 i j) else 0) = _ from rfl)
    refine (dif_neg (show ¬256 * 1 + i.val < 256 by omega)).trans ?_
    by_cases h : j.val < 64
    · rw [if_pos h, if_neg (show ¬j.val / 64 = 1 by omega)]; rfl
    · rw [if_neg h, if_pos (show j.val / 64 = 1 by omega)]
      exact congrArg (fun t => y (ix2 t j)) (Fin.ext (show 256 * 1 + i.val - 256 = i.val by omega))

theorem operand_at (w : Fin 2) (i : Fin 256) (j : Fin 128) :
    operand (F := Ideal) (k0_pay2 a b) (k0_pay3 a b) s g (ix2 ⟨256 * w.val + i.val, by omega⟩ j)
      = if j.val / 64 = w.val then rows a b (s.val * 128 + i.val) ⟨g.val * 64 + j.val % 64, by omega⟩ else 0 := by
  unfold operand
  by_cases h : j.val / 64 = w.val
  · rw [if_pos h]
    by_cases k : g.val = 0 <;> simp only [k, if_true, if_false] <;> rw [halves_at, if_pos h] <;> by_cases k' : w.val = 0 <;> simp only [k', if_true, if_false, seen_at, turned_at]
      <;> exact congrArg _ (Fin.ext (by first | (show j.val = _ * 64 + j.val % 64; omega) | (show (j.val + 64) % 128 = _ * 64 + j.val % 64; omega)))
  · rw [if_neg h]
    split <;> rw [halves_at, if_neg h]

/-- A sum over the lanes of which only one half counts. -/
theorem lanes_half (w : Fin 2) (f : Fin 64 → EReal) (k : Fin 128 → EReal) :
    ∑ x : Fin 128, (if x.val / 64 = w.val then f ⟨x.val % 64, by omega⟩ else 0) * k x = ∑ d : Fin 64, f d * k ⟨w.val * 64 + d.val, by omega⟩ := by
  rw [show (∑ x : Fin 128, (if x.val / 64 = w.val then f ⟨x.val % 64, by omega⟩ else 0) * k x) = _ from
    Fin.sum_univ_add (a := 64) (b := 64) fun x : Fin (64 + 64) => (if x.val / 64 = w.val then f ⟨x.val % 64, by omega⟩ else 0) * k x]
  have hl (d : Fin 64) : (if (Fin.castAdd 64 d).val / 64 = w.val then f ⟨(Fin.castAdd 64 d).val % 64, by omega⟩ else 0) * k (Fin.castAdd 64 d)
      = if w.val = 0 then f d * k ⟨d.val, by omega⟩ else 0 := by
    have h1 : d.val / 64 = 0 := by omega
    have h2 : d.val % 64 = d.val := by omega
    simp only [Fin.val_castAdd, h1, h2]
    by_cases h : w.val = 0
    · rw [if_pos h.symm, if_pos h]; rfl
    · rw [if_neg (fun k => h k.symm), if_neg h, zero_mul]
  have hh (d : Fin 64) : (if (Fin.natAdd 64 d).val / 64 = w.val then f ⟨(Fin.natAdd 64 d).val % 64, by omega⟩ else 0) * k (Fin.natAdd 64 d)
      = if w.val = 0 then 0 else f d * k ⟨64 + d.val, by omega⟩ := by
    have h1 : (64 + d.val) / 64 = 1 := by omega
    have h2 : (64 + d.val) % 64 = d.val := by omega
    simp only [Fin.val_natAdd, h1, h2]
    by_cases h : w.val = 0
    · rw [if_neg (by omega), if_pos h, zero_mul]
    · rw [if_pos (by omega), if_neg h]; rfl
  rw [Finset.sum_congr rfl fun d _ => hl d, Finset.sum_congr rfl fun d _ => hh d]
  by_cases h : w.val = 0
  · simp only [h, if_true, Finset.sum_const_zero, add_zero, Nat.zero_mul, Nat.zero_add]
  · simp only [show w.val = 1 by omega, if_false, Nat.one_ne_zero, Finset.sum_const_zero, zero_add, Nat.one_mul]

variable (x0 : FVec Ideal S1x16 .f32) (x1 : FVec Ideal S512x1024 .bf16) (p : Fin 4) (q : Fin 128)

theorem queries_at (u v y z : FVec Ideal S128x128 .bf16) (k : FVec Ideal S512x128 .bf16) (i : Fin 512) :
    k0_pay15 (F := Ideal) k u v y z (ix2 i (col p q)) = ∑ x : Fin 128, k (ix2 i x) * (match p with | 0 => u | 1 => v | 2 => y | 3 => z) (ix2 q x) := by
  pointwise [k0_pay15]
  refine Finset.sum_congr rfl fun x _ => congrArg (_ * ·) ?_
  match p with
  | 0 =>
    refine (dif_pos (show 0 * 128 + q.val < 128 by omega)).trans (congrArg (fun t => u (ix2 t x)) (Fin.ext (show 0 * 128 + q.val = q.val by omega)))
  | 1 =>
    exact (dif_neg (show ¬1 * 128 + q.val < 128 by omega)).trans ((dif_pos (show 1 * 128 + q.val - 128 < 128 by omega)).trans (congrArg (fun t => v (ix2 t x)) (Fin.ext (show 1 * 128 + q.val - 128 = q.val by omega))))
  | 2 =>
    exact (dif_neg (show ¬2 * 128 + q.val < 128 by omega)).trans ((dif_neg (show ¬2 * 128 + q.val - 128 < 128 by omega)).trans ((dif_pos (show 2 * 128 + q.val - 128 - 128 < 128 by omega)).trans
      (congrArg (fun t => y (ix2 t x)) (Fin.ext (show 2 * 128 + q.val - 128 - 128 = q.val by omega)))))
  | 3 =>
    exact (dif_neg (show ¬3 * 128 + q.val < 128 by omega)).trans ((dif_neg (show ¬3 * 128 + q.val - 128 < 128 by omega)).trans ((dif_neg (show ¬3 * 128 + q.val - 128 - 128 < 128 by omega)).trans
      (congrArg (fun t => z (ix2 t x)) (Fin.ext (show 3 * 128 + q.val - 128 - 128 - 128 = q.val by omega)))))

theorem tile_ld (x : Fin 128) : (View.ld (Val := Elt Ideal) (e' := .bf16) x1 (tile s g p) : FVec Ideal S128x128 .bf16) (ix2 q x) = x1 (ix2 ⟨s.val * 128 + q.val, by omega⟩ ⟨(4 * g.val + p.val) * 128 + x.val, by omega⟩) :=
  congrArg x1 (funext fun d => Fin.ext (match d with
    | ⟨0, _⟩ => (show s.val * 128 + 1 * q.val = s.val * 128 + q.val by omega)
    | ⟨1, _⟩ => (show (4 * g.val + p.val) * 128 + 1 * x.val = (4 * g.val + p.val) * 128 + x.val by omega)))

theorem sink_at (k : ℕ) (h : k < 16) : sink (F := Ideal) x0 k h = x0 (ix2 0 ⟨k, h⟩) :=
  congrArg x0 (funext fun d => Fin.ext (match d with | ⟨0, _⟩ => rfl | ⟨1, _⟩ => (show k + 1 * 0 = k by omega)))

/-- A head's raw scores over the 256 rows before the end of the query's block. -/
def raw (w : Fin 2) (i : Fin 256) : EReal :=
  ∑ d : Fin 64, rows a b (s.val * 128 + i.val) ⟨g.val * 64 + d.val, by omega⟩
    * x1 (ix2 ⟨s.val * 128 + q.val, by omega⟩ ⟨(4 * g.val + p.val) * 128 + (w.val * 64 + d.val), by omega⟩)

theorem scores_at (w : Fin 2) (i : Fin 256) : scores (F := Ideal) x1 a b s g (ix2 ⟨256 * w.val + i.val, by omega⟩ (col p q)) = raw a b s g x1 p q w i := by
  unfold scores
  rw [queries_at]
  unfold raw
  rw [← lanes_half w (fun d => rows a b (s.val * 128 + i.val) ⟨g.val * 64 + d.val, by omega⟩) fun x => x1 (ix2 ⟨s.val * 128 + q.val, by omega⟩ ⟨(4 * g.val + p.val) * 128 + x.val, by omega⟩)]
  refine Finset.sum_congr rfl fun x _ => congrArg₂ (· * ·) (operand_at a b s g w i x) ?_
  rw [← tile_ld s g x1 p q x]
  match p with | 0 => rfl | 1 => rfl | 2 => rfl | 3 => rfl

variable (x4 : FVec Ideal S128x128 .bf16) (x5 : FVec Ideal S512x128 .bf16) (n : Fin 16)

/-- One head's output from its scores, its sink and the rows of its values. -/
def head (w : Fin 2) (d : Fin 64) : EReal :=
  (∑ t : Fin 128, low (sc q (0 < 4 * n.val + s.val) (raw a b s g x1 p q w)) (x0 (ix2 0 ⟨8 * g.val + 2 * p.val + w.val, by omega⟩)) q t * rows x4 x5 (s.val * 128 + t.val) ⟨g.val * 64 + d.val, by omega⟩)
    + ∑ t : Fin 128, high (sc q (0 < 4 * n.val + s.val) (raw a b s g x1 p q w)) (x0 (ix2 0 ⟨8 * g.val + 2 * p.val + w.val, by omega⟩)) q t * rows x4 x5 (s.val * 128 + (128 + t.val)) ⟨g.val * 64 + d.val, by omega⟩

theorem pick_even : pick p (x0 (ix2 0 ⟨8 * g.val, by omega⟩)) (x0 (ix2 0 ⟨8 * g.val + 2, by omega⟩)) (x0 (ix2 0 ⟨8 * g.val + 4, by omega⟩)) (x0 (ix2 0 ⟨8 * g.val + 6, by omega⟩))
    = x0 (ix2 0 ⟨8 * g.val + 2 * p.val + 0, by omega⟩) := by
  match p with | 0 => rfl | 1 => rfl | 2 => rfl | 3 => rfl
theorem pick_odd : pick p (x0 (ix2 0 ⟨8 * g.val + 1, by omega⟩)) (x0 (ix2 0 ⟨8 * g.val + 3, by omega⟩)) (x0 (ix2 0 ⟨8 * g.val + 5, by omega⟩)) (x0 (ix2 0 ⟨8 * g.val + 7, by omega⟩))
    = x0 (ix2 0 ⟨8 * g.val + 2 * p.val + 1, by omega⟩) := by
  match p with | 0 => rfl | 1 => rfl | 2 => rfl | 3 => rfl

theorem outTile_at (w : Fin 2) (d : Fin 64) :
    outTile (F := Ideal) (BitVec.ofNat 32 n.val) x0 x1 a b x4 x5 s g p (ix2 q ⟨w.val * 64 + d.val, by omega⟩) = head a b s g x0 x1 p q x4 x5 n w d := by
  unfold outTile
  rw [show (k0_pay4 x4 x5 : FVec Ideal S640x128 .f32) = k0_pay2 x4 x5 from rfl, show (k0_pay5 x4 x5 : FVec Ideal S640x128 .f32) = k0_pay3 x4 x5 from rfl]
  rw [mixed]
  have hv (w' : Fin 2) (i : Fin 256) := operand_at x4 x5 s g w' i ⟨w.val * 64 + d.val, by omega⟩
  have hw (i : Fin 256) : weights (F := Ideal) (BitVec.ofNat 32 n.val) x0 x1 a b s g (ix2 i (col p q))
      = if h : i.val < 128 then low (sc q (0 < 4 * n.val + s.val) (raw a b s g x1 p q 0)) (x0 (ix2 0 ⟨8 * g.val + 2 * p.val + 0, by omega⟩)) q ⟨i.val, h⟩
        else high (sc q (0 < 4 * n.val + s.val) (raw a b s g x1 p q 0)) (x0 (ix2 0 ⟨8 * g.val + 2 * p.val + 0, by omega⟩)) q ⟨i.val - 128, by omega⟩ := by
    unfold weights
    rw [weight_at]
    have hr : (fun i : Fin 256 => k0_pay66 (F := Ideal) (scores (F := Ideal) x1 a b s g) (ix2 i (col p q))) = raw a b s g x1 p q 0 := funext fun i => by
      rw [← scores_at]
      pointwise [k0_pay66]
    rw [hr]
    simp only [sink_at]
    rw [pick_even]
  have hr : (fun i : Fin 256 => k0_pay68 (F := Ideal) (scores (F := Ideal) x1 a b s g) (ix2 i (col p q))) = raw a b s g x1 p q 1 := funext fun i => by
    rw [← scores_at]
    pointwise [k0_pay68]
  rw [hr]
  simp only [sink_at]
  rw [pick_odd]
  have hj : (w.val * 64 + d.val) / 64 = w.val := by omega
  have hk : (w.val * 64 + d.val) % 64 = d.val := by omega
  simp only [hj, hk] at hv
  unfold head
  match w with
  | 0 =>
    have z (t : Fin 256) : operand (F := Ideal) (k0_pay2 x4 x5) (k0_pay3 x4 x5) s g (ix2 ⟨256 + t.val, by omega⟩ ⟨0 * 64 + d.val, by omega⟩) = 0 :=
      (hv 1 t).trans (if_neg (by decide))
    have y (t : Fin 256) : operand (F := Ideal) (k0_pay2 x4 x5) (k0_pay3 x4 x5) s g (ix2 ⟨t.val, by omega⟩ ⟨0 * 64 + d.val, by omega⟩)
        = rows x4 x5 (s.val * 128 + t.val) ⟨g.val * 64 + d.val, by omega⟩ :=
      (congrArg (fun i => operand (F := Ideal) (k0_pay2 x4 x5) (k0_pay3 x4 x5) s g (ix2 i ⟨0 * 64 + d.val, by omega⟩)) (Fin.ext (show t.val = 256 * 0 + t.val by omega))).trans ((hv 0 t).trans (if_pos rfl))
    refine (congrArg₂ (· + ·) (congrArg₂ (· + ·) ?_ ?_) ?_).trans (add_zero _)
    · refine Finset.sum_congr rfl fun t _ => congrArg₂ (· * ·) ?_ (y ⟨t.val, by omega⟩)
      exact (hw ⟨t.val, by omega⟩).trans (dif_pos t.isLt)
    · refine Finset.sum_congr rfl fun t _ => congrArg₂ (· * ·) ?_ (y ⟨128 + t.val, by omega⟩)
      refine (hw ⟨128 + t.val, by omega⟩).trans ((dif_neg (show ¬128 + t.val < 128 by omega)).trans ?_)
      simp only [show 128 + t.val - 128 = t.val by omega]
      rfl
    · refine (congrArg₂ (· + ·) (Finset.sum_eq_zero fun t _ => ?_) (Finset.sum_eq_zero fun t _ => ?_)).trans (add_zero _)
      · exact (congrArg (_ * ·) (z ⟨t.val, by omega⟩)).trans (mul_zero _)
      · exact (congrArg (_ * ·) (z ⟨128 + t.val, by omega⟩)).trans (mul_zero _)
  | 1 =>
    have z (t : Fin 256) : operand (F := Ideal) (k0_pay2 x4 x5) (k0_pay3 x4 x5) s g (ix2 ⟨t.val, by omega⟩ ⟨1 * 64 + d.val, by omega⟩) = 0 :=
      (congrArg (fun i => operand (F := Ideal) (k0_pay2 x4 x5) (k0_pay3 x4 x5) s g (ix2 i ⟨1 * 64 + d.val, by omega⟩)) (Fin.ext (show t.val = 256 * 0 + t.val by omega))).trans ((hv 0 t).trans (if_neg (by decide)))
    have y (t : Fin 256) : operand (F := Ideal) (k0_pay2 x4 x5) (k0_pay3 x4 x5) s g (ix2 ⟨256 + t.val, by omega⟩ ⟨1 * 64 + d.val, by omega⟩)
        = rows x4 x5 (s.val * 128 + t.val) ⟨g.val * 64 + d.val, by omega⟩ := (hv 1 t).trans (if_pos rfl)
    refine (congrArg₂ (· + ·) ?_ (congrArg₂ (· + ·) ?_ ?_)).trans (zero_add _)
    · refine (congrArg₂ (· + ·) (Finset.sum_eq_zero fun t _ => ?_) (Finset.sum_eq_zero fun t _ => ?_)).trans (add_zero _)
      · exact (congrArg (_ * ·) (z ⟨t.val, by omega⟩)).trans (mul_zero _)
      · exact (congrArg (_ * ·) (z ⟨128 + t.val, by omega⟩)).trans (mul_zero _)
    · exact Finset.sum_congr rfl fun t _ => congrArg (_ * ·) (y ⟨t.val, by omega⟩)
    · exact Finset.sum_congr rfl fun t _ => congrArg (_ * ·) (y ⟨128 + t.val, by omega⟩)

end

end Cert.AttnfKernelIdeal.Step

end
-- ==== Proof.AttnfRun.lean ====
/- The windowed attention's kernel over the grid: the blocks at a point, the rows they hold, and the result array. -/
module

public import proofs.«01_k».proof.Proof.AttnfTile
public import proofs.«01_k».proof.Proof.Gen.AttnfKernelIdeal.Value

@[expose] public section

set_option maxRecDepth 16384

noncomputable section

namespace Cert.AttnfKernelIdeal.Step

open Cert.AttnfKernelIdeal Cert.AttnfKernelIdeal.Gen Idealize.ShloMosaic Idealize.ShloMosaic.TcCoe Idealize.SL.Sem
open Cert.Attn Cert.AttnfKernelIdeal.Value

section

variable (m : (ℓ : Loc nD τ sig) → Buf (Elt Ideal) ℓ) (c : Dev nD) (t : Fin cfg0.N)

theorem pt_lt : t.val < 16 := t.isLt

/-! ## The blocks at a point -/

theorem blk0 (r : Fin 1) (l : Fin 16) : iblk m c 0 t (ix2 r l) = V m c main_arg3 (ix2 ⟨r.val, by have h := pt_lt t; omega⟩ l) := by
  have e0 : win0_0.index t 0 = 0 := (by decide +kernel : ∀ t : Fin grid0.N, win0_0.index t 0 = 0) t
  have e1 : win0_0.index t 1 = 0 := (by decide +kernel : ∀ t : Fin grid0.N, win0_0.index t 1 = 0) t
  unfold iblk
  rw [View.read_apply]
  exact congrArg (V m c main_arg3) (funext fun a => Fin.ext (match a with
    | ⟨0, _⟩ => (show win0_0.index t 0 * 1 + 1 * r.val = r.val by omega)
    | ⟨1, _⟩ => (show win0_0.index t 1 * 16 + 1 * l.val = l.val by omega)))

theorem blk1 (r : Fin 512) (l : Fin 1024) : iblk m c 1 t (ix2 r l) = V m c main_v32 (ix2 ⟨t.val * 512 + r.val, by have h := pt_lt t; omega⟩ l) := by
  have e0 : win0_1.index t 0 = t.val := (by decide +kernel : ∀ t : Fin grid0.N, win0_1.index t 0 = t.val) t
  have e1 : win0_1.index t 1 = 0 := (by decide +kernel : ∀ t : Fin grid0.N, win0_1.index t 1 = 0) t
  unfold iblk
  rw [View.read_apply]
  exact congrArg (V m c main_v32) (funext fun a => Fin.ext (match a with
    | ⟨0, _⟩ => (show win0_1.index t 0 * 512 + 1 * r.val = t.val * 512 + r.val by omega)
    | ⟨1, _⟩ => (show win0_1.index t 1 * 1024 + 1 * l.val = l.val by omega)))

theorem blk2 (r : Fin 128) (l : Fin 128) : iblk m c 2 t (ix2 r l) = V m c main_v64 (ix2 ⟨(4 * t.val - 1) * 128 + r.val, by have h := pt_lt t; omega⟩ l) := by
  have e0 : win0_2.index t 0 = 4 * t.val - 1 := (by decide +kernel : ∀ t : Fin grid0.N, win0_2.index t 0 = 4 * t.val - 1) t
  have e1 : win0_2.index t 1 = 0 := (by decide +kernel : ∀ t : Fin grid0.N, win0_2.index t 1 = 0) t
  unfold iblk
  rw [View.read_apply]
  exact congrArg (V m c main_v64) (funext fun a => Fin.ext (match a with
    | ⟨0, _⟩ => (show win0_2.index t 0 * 128 + 1 * r.val = (4 * t.val - 1) * 128 + r.val by omega)
    | ⟨1, _⟩ => (show win0_2.index t 1 * 128 + 1 * l.val = l.val by omega)))

theorem blk3 (r : Fin 512) (l : Fin 128) : iblk m c 3 t (ix2 r l) = V m c main_v64 (ix2 ⟨t.val * 512 + r.val, by have h := pt_lt t; omega⟩ l) := by
  have e0 : win0_3.index t 0 = t.val := (by decide +kernel : ∀ t : Fin grid0.N, win0_3.index t 0 = t.val) t
  have e1 : win0_3.index t 1 = 0 := (by decide +kernel : ∀ t : Fin grid0.N, win0_3.index t 1 = 0) t
  unfold iblk
  rw [View.read_apply]
  exact congrArg (V m c main_v64) (funext fun a => Fin.ext (match a with
    | ⟨0, _⟩ => (show win0_3.index t 0 * 512 + 1 * r.val = t.val * 512 + r.val by omega)
    | ⟨1, _⟩ => (show win0_3.index t 1 * 128 + 1 * l.val = l.val by omega)))

theorem blk4 (r : Fin 128) (l : Fin 128) : iblk m c 4 t (ix2 r l) = V m c main_v66 (ix2 ⟨(4 * t.val - 1) * 128 + r.val, by have h := pt_lt t; omega⟩ l) := by
  have e0 : win0_4.index t 0 = 4 * t.val - 1 := (by decide +kernel : ∀ t : Fin grid0.N, win0_4.index t 0 = 4 * t.val - 1) t
  have e1 : win0_4.index t 1 = 0 := (by decide +kernel : ∀ t : Fin grid0.N, win0_4.index t 1 = 0) t
  unfold iblk
  rw [View.read_apply]
  exact congrArg (V m c main_v66) (funext fun a => Fin.ext (match a with
    | ⟨0, _⟩ => (show win0_4.index t 0 * 128 + 1 * r.val = (4 * t.val - 1) * 128 + r.val by omega)
    | ⟨1, _⟩ => (show win0_4.index t 1 * 128 + 1 * l.val = l.val by omega)))

theorem blk5 (r : Fin 512) (l : Fin 128) : iblk m c 5 t (ix2 r l) = V m c main_v66 (ix2 ⟨t.val * 512 + r.val, by have h := pt_lt t; omega⟩ l) := by
  have e0 : win0_5.index t 0 = t.val := (by decide +kernel : ∀ t : Fin grid0.N, win0_5.index t 0 = t.val) t
  have e1 : win0_5.index t 1 = 0 := (by decide +kernel : ∀ t : Fin grid0.N, win0_5.index t 1 = 0) t
  unfold iblk
  rw [View.read_apply]
  exact congrArg (V m c main_v66) (funext fun a => Fin.ext (match a with
    | ⟨0, _⟩ => (show win0_5.index t 0 * 512 + 1 * r.val = t.val * 512 + r.val by omega)
    | ⟨1, _⟩ => (show win0_5.index t 1 * 128 + 1 * l.val = l.val by omega)))

/-! ## The rows the blocks hold: the query's own block, and the block before it when there is one -/

theorem keys_own (s : Fin 4) (u l : Fin 128) : rows (iblk m c 2 t) (iblk m c 3 t) (s.val * 128 + (128 + u.val)) l = V m c main_v64 (ix2 ⟨(4 * t.val + s.val) * 128 + u.val, by have h := pt_lt t; omega⟩ l) := by
  unfold rows
  rw [dif_neg (by omega), blk3]
  exact congrArg (fun i => V m c main_v64 (ix2 i l)) (Fin.ext (show t.val * 512 + (s.val * 128 + (128 + u.val) - 128) % 512 = _ by show _ = (4 * t.val + s.val) * 128 + u.val; omega))

theorem keys_before (s : Fin 4) (u l : Fin 128) (h0 : 0 < 4 * t.val + s.val) :
    rows (iblk m c 2 t) (iblk m c 3 t) (s.val * 128 + u.val) l = V m c main_v64 (ix2 ⟨(4 * t.val + s.val - 1) * 128 + u.val, by have h := pt_lt t; omega⟩ l) := by
  unfold rows
  by_cases h : s.val * 128 + u.val < 128
  · rw [dif_pos h, blk2]
    exact congrArg (fun i => V m c main_v64 (ix2 i l)) (Fin.ext (show (4 * t.val - 1) * 128 + (s.val * 128 + u.val) = (4 * t.val + s.val - 1) * 128 + u.val by omega))
  · rw [dif_neg h, blk3]
    exact congrArg (fun i => V m c main_v64 (ix2 i l)) (Fin.ext (show t.val * 512 + (s.val * 128 + u.val - 128) % 512 = (4 * t.val + s.val - 1) * 128 + u.val by omega))

theorem vals_own (s : Fin 4) (u l : Fin 128) : rows (iblk m c 4 t) (iblk m c 5 t) (s.val * 128 + (128 + u.val)) l = V m c main_v66 (ix2 ⟨(4 * t.val + s.val) * 128 + u.val, by have h := pt_lt t; omega⟩ l) := by
  unfold rows
  rw [dif_neg (by omega), blk5]
  exact congrArg (fun i => V m c main_v66 (ix2 i l)) (Fin.ext (show t.val * 512 + (s.val * 128 + (128 + u.val) - 128) % 512 = _ by show _ = (4 * t.val + s.val) * 128 + u.val; omega))

theorem vals_before (s : Fin 4) (u l : Fin 128) (h0 : 0 < 4 * t.val + s.val) :
    rows (iblk m c 4 t) (iblk m c 5 t) (s.val * 128 + u.val) l = V m c main_v66 (ix2 ⟨(4 * t.val + s.val - 1) * 128 + u.val, by have h := pt_lt t; omega⟩ l) := by
  unfold rows
  by_cases h : s.val * 128 + u.val < 128
  · rw [dif_pos h, blk4]
    exact congrArg (fun i => V m c main_v66 (ix2 i l)) (Fin.ext (show (4 * t.val - 1) * 128 + (s.val * 128 + u.val) = (4 * t.val + s.val - 1) * 128 + u.val by omega))
  · rw [dif_neg h, blk5]
    exact congrArg (fun i => V m c main_v66 (ix2 i l)) (Fin.ext (show t.val * 512 + (s.val * 128 + u.val - 128) % 512 = (4 * t.val + s.val - 1) * 128 + u.val by omega))

/-! ## The result -/

theorem all4 (n : Fin 4) : n ∈ ([3, 2, 1, 0] : List (Fin 4)) := by revert n; decide
theorem all2 (n : Fin 2) : n ∈ ([1, 0] : List (Fin 2)) := by revert n; decide

theorem coords_at : (grid0.coords t 0).val = t.val := (by decide +kernel : ∀ t : Fin grid0.N, (grid0.coords t 0).val = t.val) t

/-- A step leaves a block once each head's values are the block's. -/
theorem step_at (D : S512x1024.Idx → EReal)
    (hD : ∀ (s : Fin 4) (g : Fin 2) (p : Fin 4) (q : Fin 128) (w : Fin 2) (d : Fin 64),
      head (iblk m c 2 t) (iblk m c 3 t) s g (iblk m c 0 t) (iblk m c 1 t) p q (iblk m c 4 t) (iblk m c 5 t) ⟨t.val, pt_lt t⟩ w d
        = D (ix2 ⟨s.val * 128 + q.val, by omega⟩ ⟨(4 * g.val + p.val) * 128 + (w.val * 64 + d.val), by omega⟩)) (i : S512x1024.Idx) :
    outsAt0 m c t i = D i := by
  refine (congrFun (out_A (F := Ideal) ..) i).trans ?_
  rw [coords_at]
  refine View.canon_apply_of_pieces (Val := Elt Ideal) (S := S512x1024) (e := .bf16) D _ ?_ i ?_
  · intro y hy
    obtain ⟨s, -, hy⟩ := List.mem_flatMap.mp hy
    obtain ⟨g, -, hy⟩ := List.mem_flatMap.mp hy
    obtain ⟨p, -, rfl⟩ := List.mem_map.mp hy
    intro x
    have hx : (x 1 : ℕ) < 128 := (x 1).isLt
    rw [show x = ix2 (n0 := 128) (n1 := 128) (x 0) ⟨(⟨(x 1 : ℕ) / 64, by omega⟩ : Fin 2).val * 64 + (⟨(x 1 : ℕ) % 64, by omega⟩ : Fin 64).val, by show (x 1 : ℕ) / 64 * 64 + (x 1 : ℕ) % 64 < 128; omega⟩ from
      funext fun a => match a with | ⟨0, _⟩ => rfl | ⟨1, _⟩ => Fin.ext (show (x 1 : ℕ) = (x 1 : ℕ) / 64 * 64 + (x 1 : ℕ) % 64 by omega)]
    refine (outTile_at (iblk m c 2 t) (iblk m c 3 t) s g (iblk m c 0 t) (iblk m c 1 t) p (x 0) (iblk m c 4 t) (iblk m c 5 t) ⟨t.val, pt_lt t⟩ ⟨(x 1 : ℕ) / 64, by omega⟩ ⟨(x 1 : ℕ) % 64, by omega⟩).trans ?_
    refine (hD s g p (x 0) _ _).trans (congrArg D (funext fun a => Fin.ext (match a with
      | ⟨0, _⟩ => (show s.val * 128 + (x 0 : ℕ) = s.val * 128 + 1 * (x 0 : ℕ) by omega)
      | ⟨1, _⟩ => (show (4 * g.val + p.val) * 128 + ((x 1 : ℕ) / 64 * 64 + (x 1 : ℕ) % 64) = (4 * g.val + p.val) * 128 + 1 * ((x 1 : ℕ) / 64 * 64 + (x 1 : ℕ) % 64) by omega))))
  · have hr : (i 0 : ℕ) < 512 := (i 0).isLt
    have hl : (i 1 : ℕ) < 1024 := (i 1).isLt
    refine ⟨_, List.mem_flatMap.mpr ⟨⟨(i 0 : ℕ) / 128, by omega⟩, all4 _, List.mem_flatMap.mpr ⟨⟨(i 1 : ℕ) / 512, by omega⟩, all2 _, List.mem_map.mpr ⟨⟨(i 1 : ℕ) / 128 % 4, by omega⟩, all4 _, rfl⟩⟩⟩, ?_⟩
    exact (Rect.mem_set_unit (inb := fit (by omega) (by omega))).mpr fun a => match a with
      | ⟨0, _⟩ => (show (i 0 : ℕ) / 128 * 128 ≤ (i 0 : ℕ) ∧ (i 0 : ℕ) < (i 0 : ℕ) / 128 * 128 + 128 by omega)
      | ⟨1, _⟩ => (show (4 * ((i 1 : ℕ) / 512) + (i 1 : ℕ) / 128 % 4) * 128 ≤ (i 1 : ℕ) ∧ (i 1 : ℕ) < (4 * ((i 1 : ℕ) / 512) + (i 1 : ℕ) / 128 % 4) * 128 + 128 by omega)

end

/-- The result array is an array once each head's values at each point are the array's. -/
theorem final6 (m : (ℓ : Loc nD τ sig) → Buf (Elt Ideal) ℓ) (c : Dev nD) (G : S8192x1024.Idx → EReal)
    (hG : ∀ (t : Fin cfg0.N) (s : Fin 4) (g : Fin 2) (p : Fin 4) (q : Fin 128) (w : Fin 2) (d : Fin 64),
      head (iblk m c 2 t) (iblk m c 3 t) s g (iblk m c 0 t) (iblk m c 1 t) p q (iblk m c 4 t) (iblk m c 5 t) ⟨t.val, pt_lt t⟩ w d
        = G (ix2 ⟨t.val * 512 + (s.val * 128 + q.val), by have h := pt_lt t; omega⟩ ⟨(4 * g.val + p.val) * 128 + (w.val * 64 + d.val), by omega⟩)) :
    (dats m 0 c).arrAt 6 cfg0.N = G := by
  have e0 (t : Fin cfg0.N) : win0_6.index t 0 = t.val := (by decide +kernel : ∀ t : Fin grid0.N, win0_6.index t 0 = t.val) t
  have e1 (t : Fin cfg0.N) : win0_6.index t 1 = 0 := (by decide +kernel : ∀ t : Fin grid0.N, win0_6.index t 1 = 0) t
  refine (dats m 0 c).arrAt_eq_of_cover 6 _ (fun t _ => ?_) (fun (i : S8192x1024.Idx) => ?_)
  · rw [flushed6]
    refine funext fun (j : S512x1024.Idx) => ?_
    have h := pt_lt t
    have hj0 : (j 0 : ℕ) < 512 := (j 0).isLt
    have hj1 : (j 1 : ℕ) < 1024 := (j 1).isLt
    rw [View.read_apply]
    refine Eq.trans (b := outsAt0 m c t j) rfl ((step_at m c t (fun j => G (ix2 ⟨t.val * 512 + (j 0 : ℕ), by have h0 : (j 0 : ℕ) < 512 := (j 0).isLt; omega⟩ (j 1))) (fun s g p q w d => hG t s g p q w d) j).trans ?_)
    exact congrArg G (funext fun a => Fin.ext (match a with
      | ⟨0, _⟩ => (show t.val * 512 + (j 0 : ℕ) = win0_6.index t 0 * 512 + 1 * (j 0 : ℕ) by rw [e0]; omega)
      | ⟨1, _⟩ => (show (j 1 : ℕ) = win0_6.index t 1 * 1024 + 1 * (j 1 : ℕ) by rw [e1]; omega)))
  · have hi : (i 0).val < 8192 := (i 0).isLt
    have hi1 : (i 1).val < 1024 := (i 1).isLt
    obtain ⟨t, ht⟩ : ∃ t : Fin cfg0.N, t.val = (i 0).val / 512 := ⟨⟨(i 0).val / 512, by show (i 0).val / 512 < 16; omega⟩, rfl⟩
    refine ⟨t, flush0_6 t, ?_⟩
    show i ∈ ((View.whole main_v68).slice (win0_6.rect t)).set
    rw [View.set_slice_whole, Rect.mem_set_unit]
    intro a
    match a with
    | ⟨0, _⟩ => show win0_6.index t 0 * 512 ≤ (i 0).val ∧ (i 0).val < win0_6.index t 0 * 512 + 512; rw [e0]; omega
    | ⟨1, _⟩ => show win0_6.index t 1 * 1024 ≤ (i 1).val ∧ (i 1).val < win0_6.index t 1 * 1024 + 1024; rw [e1]; omega

end Cert.AttnfKernelIdeal.Step

end
-- ==== Proof.AttnfHost.lean ====
/- What the host hands the attention's kernel: the turned queries and keys, the values and the sinks. -/
module

public import proofs.«01_k».proof.Proof.AttnfTurn
public import proofs.«01_k».proof.Proof.AttnfRun
public import Idealize.ShloMosaic.Lib.StableHlo.RunRead

@[expose] public section

set_option maxRecDepth 16384

noncomputable section

namespace Cert.AttnfKernelIdeal.Step

open Cert.AttnfKernelIdeal Cert.AttnfKernelIdeal.Gen Idealize.ShloMosaic Idealize.ShloMosaic.TcCoe Idealize.SL.Sem
open Cert.Attn

variable (m : (ℓ : Loc nD τ sig) → Buf (Elt Ideal) ℓ) (c : Dev nD)

theorem V_v (s : Fin 8192) (l : Fin 128) : V m c main_v66 (ix2 s l) = (m ((c.tc : Thread nD τ).loc main_arg2) : FVec Ideal S1x8192x128 .f32) (ix3 0 s l) := by
  unfold V
  after_reads_simp
  pointwise

theorem V_q (s : Fin 8192) (h : Fin 16) (d : Fin 64) : V m c main_v32 (ix2 s ⟨h.val * 64 + d.val, by omega⟩)
    = turn (fun k => (m ((c.tc : Thread nD τ).loc main_arg0) : FVec Ideal S1x8192x1024 .f32) (ix3 0 s ⟨h.val * 64 + k.val, by omega⟩)) s.val d := by
  unfold V
  after_reads_simp
  pointwise
  after_reads_simp
  generalize m (c, Proc.tc.devRef main_arg0) = x at *
  pointwise
  have e1 : (h.val * 64 + d.val) / 64 = h.val := by omega
  have e2 : (h.val * 64 + d.val) % 64 = d.val := by omega
  simp only [e1, e2]
  rfl

theorem V_k (s : Fin 8192) (h : Fin 2) (d : Fin 64) : V m c main_v64 (ix2 s ⟨h.val * 64 + d.val, by omega⟩)
    = turn (fun k => (m ((c.tc : Thread nD τ).loc main_arg1) : FVec Ideal S1x8192x128 .f32) (ix3 0 s ⟨h.val * 64 + k.val, by omega⟩)) s.val d := by
  unfold V
  after_reads_simp
  pointwise
  after_reads_simp
  generalize m (c, Proc.tc.devRef main_arg1) = x at *
  pointwise
  have e1 : (h.val * 64 + d.val) / 64 = h.val := by omega
  have e2 : (h.val * 64 + d.val) % 64 = d.val := by omega
  simp only [e1, e2]
  rfl

end Cert.AttnfKernelIdeal.Step

end
-- ==== Proof.AttnfLast.lean ====
/- Reductions of the last of six axes, read entry by entry. -/
module

public import Idealize.ShloMosaic.Lib.Pointwise
public import Idealize.ShloMosaic.Lib.Pipeline.ValueKit.Tiles

@[expose] public section

set_option maxRecDepth 16384

noncomputable section

namespace Cert.Attn

open Idealize.ShloMosaic Idealize.ShloMosaic.TcCoe Idealize.SL.Sem

section

variable {n0 n1 n2 n3 n4 n5 : ℕ} (h : (⟨6, ![n0, n1, n2, n3, n4, n5]⟩ : Shape).ReducesTo [5] ⟨5, ![n0, n1, n2, n3, n4]⟩) (a : Fin n0) (b : Fin n1) (c : Fin n2) (d : Fin n3) (e : Fin n4)

theorem last_inj : Function.Injective fun k : Fin n5 => ix6 a b c d e k := fun x y he => congrFun he (5 : Fin 6)

/-- The entries of six axes that leave a given one when the last axis goes. -/
theorem last_iff (i : (⟨6, ![n0, n1, n2, n3, n4, n5]⟩ : Shape).Idx) : h.drop i = ix5 a b c d e ↔ ∃ k : Fin n5, ix6 a b c d e k = i := by
  constructor
  · intro he
    refine ⟨i (5 : Fin 6), funext fun z => ?_⟩
    have g := fun z => (congrArg Fin.val (congrFun he z)).symm
    match z with
    | ⟨0, _⟩ => exact Fin.ext (g (0 : Fin 5))
    | ⟨1, _⟩ => exact Fin.ext (g (1 : Fin 5))
    | ⟨2, _⟩ => exact Fin.ext (g (2 : Fin 5))
    | ⟨3, _⟩ => exact Fin.ext (g (3 : Fin 5))
    | ⟨4, _⟩ => exact Fin.ext (g (4 : Fin 5))
    | ⟨5, _⟩ => rfl
  · rintro ⟨k, rfl⟩
    funext z
    match z with
    | ⟨0, _⟩ => rfl
    | ⟨1, _⟩ => rfl
    | ⟨2, _⟩ => rfl
    | ⟨3, _⟩ => rfl
    | ⟨4, _⟩ => rfl

theorem last_sum (v : (⟨6, ![n0, n1, n2, n3, n4, n5]⟩ : Shape).Idx → EReal) (z : EReal) : Ideal.hostReduceAdd h v z (ix5 a b c d e) = z + ∑ k : Fin n5, v (ix6 a b c d e k) :=
  congrArg (z + ·) (Finset.sum_filter_eq_sum_of_fiber _ _ (last_inj a b c d e) (last_iff h a b c d e) v)

theorem last_max {u : Shape} (v : (⟨6, ![n0, n1, n2, n3, n4, n5]⟩ : Shape).Idx → EReal) (z : u.Idx → EReal) (hu : 0 < u.numel) :
    Host.reduce max v z h hu (ix5 a b c d e) = Finset.univ.fold max (z (Shape.Idx.first hu)) fun k : Fin n5 => v (ix6 a b c d e k) :=
  (Host.reduce_eq_fold max v z h hu _).trans (Finset.fold_filter_eq_fold_of_fiber max _ _ (last_inj a b c d e) (last_iff h a b c d e) _ v)

end

end Cert.Attn

end
-- ==== Proof.AttnfTail.lean ====
/- The reference's attention weights and the sums they weigh, read entry by entry. -/
module

public import proofs.«01_k».proof.Proof.Gen.AttnfReferenceIdeal.Run
public import proofs.«01_k».proof.Proof.AttnfLast
public import Idealize.ShloMosaic.Lib.Pipeline.ValueKit.Tiles

@[expose] public section

set_option maxRecDepth 16384

noncomputable section

namespace Cert.AttnfReferenceIdeal.Read

open Cert.AttnfReferenceIdeal Cert.AttnfReferenceIdeal.Gen Idealize.ShloMosaic Idealize.ShloMosaic.TcCoe Idealize.SL.Sem
open Cert.Attn

section

variable (X : FVec Ideal S1x64x2x8x128x256 .f32) (sk : FVec Ideal S1x16 .f32) (n : Fin 64) (g : Fin 2) (h : Fin 8) (q : Fin 128)

/-- The largest score of each query. -/
def best : FVec Ideal S1x64x2x8x128 .f32 :=
  Host.reduce FloatOps.maximumf X (constant (F := Ideal) S_ .f32 0xFF800000#32) reducesTo_S1x64x2x8x128x256_S1x64x2x8x128_d5 h_S_

theorem best_at : best X (ix5 0 n g h q) = Finset.univ.fold max (Ideal.ofBits FTy.f32 4286578688#32) fun j : Fin 256 => X (ix6 0 n g h q j) :=
  last_max reducesTo_S1x64x2x8x128x256_S1x64x2x8x128_d5 0 n g h q X _ h_S_

/-- An entry of each query kept as an axis of one. -/
def kept (T : FVec Ideal S1x64x2x8x128 .f32) : FVec Ideal S1x64x2x8x128x1 .f32 :=
  broadcastInDim S1x64x2x8x128x1 ![0, 1, 2, 3, 4] bcast_S1x64x2x8x128_S1x64x2x8x128x1_0_1_2_3_4 T

theorem kept_at (T : FVec Ideal S1x64x2x8x128 .f32) : kept T (ix6 0 n g h q 0) = T (ix5 0 n g h q) := by pointwise [kept]

/-- Each head's sink. -/
def sinks : FVec Ideal S1x1x2x8x1x1 .f32 := shapeCast S1x1x2x8x1x1 (shapeCast S16 sk shapeCasts_S1x16_S16) shapeCasts_S16_S1x1x2x8x1x1

theorem sinks_at : sinks sk (ix6 0 0 g h 0 0) = sk (ix2 0 ⟨g.val * 8 + h.val, by omega⟩) := by pointwise [sinks]

/-- The largest score of each query, the sink's included. -/
def largest (T : FVec Ideal S1x64x2x8x128 .f32) (s : FVec Ideal S1x1x2x8x1x1 .f32) : FVec Ideal S1x64x2x8x128x1 .f32 :=
  maximumf (kept T) (broadcastInDim S1x64x2x8x128x1 ![0, 1, 2, 3, 4, 5] bcast_S1x1x2x8x1x1_S1x64x2x8x128x1_0_1_2_3_4_5 s)

theorem largest_at (T : FVec Ideal S1x64x2x8x128 .f32) (s : FVec Ideal S1x1x2x8x1x1 .f32) : largest T s (ix6 0 n g h q 0) = max (T (ix5 0 n g h q)) (s (ix6 0 0 g h 0 0)) := by
  pointwise [largest, kept]

/-- The exponentials against it. -/
def exps (M : FVec Ideal S1x64x2x8x128x1 .f32) : FVec Ideal S1x64x2x8x128x256 .f32 :=
  Host.exp (subf X (broadcastInDim S1x64x2x8x128x256 ![0, 1, 2, 3, 4, 5] bcast_S1x64x2x8x128x1_S1x64x2x8x128x256_0_1_2_3_4_5 M))

theorem exps_at (M : FVec Ideal S1x64x2x8x128x1 .f32) (j : Fin 256) : exps X M (ix6 0 n g h q j) = Ideal.exp (X (ix6 0 n g h q j) - M (ix6 0 n g h q 0)) := by
  pointwise [exps]

/-- Their sums. -/
def sums : FVec Ideal S1x64x2x8x128 .f32 :=
  Host.reduceAdd X (constant S_ .f32 0x00000000#32) reducesTo_S1x64x2x8x128x256_S1x64x2x8x128_d5 h_S_

theorem sums_at : sums X (ix5 0 n g h q) = ∑ j : Fin 256, X (ix6 0 n g h q j) :=
  (last_sum reducesTo_S1x64x2x8x128x256_S1x64x2x8x128_d5 0 n g h q X (Ideal.ofBits FTy.f32 0#32)).trans (by rw [Ideal.ofBits_zero_f32]; exact zero_add _)

/-- The weights: the exponentials over their sum and the sink's. -/
def shares (E : FVec Ideal S1x64x2x8x128x256 .f32) (D : FVec Ideal S1x64x2x8x128 .f32) (M : FVec Ideal S1x64x2x8x128x1 .f32) (s : FVec Ideal S1x1x2x8x1x1 .f32) : FVec Ideal S1x64x2x8x128x256 .f32 :=
  Host.divf E (broadcastInDim S1x64x2x8x128x256 ![0, 1, 2, 3, 4, 5] bcast_S1x64x2x8x128x1_S1x64x2x8x128x256_0_1_2_3_4_5
    (addf (kept D) (Host.exp (subf (broadcastInDim S1x64x2x8x128x1 ![0, 1, 2, 3, 4, 5] bcast_S1x1x2x8x1x1_S1x64x2x8x128x1_0_1_2_3_4_5 s) M))))

theorem shares_at (E : FVec Ideal S1x64x2x8x128x256 .f32) (D : FVec Ideal S1x64x2x8x128 .f32) (M : FVec Ideal S1x64x2x8x128x1 .f32) (s : FVec Ideal S1x1x2x8x1x1 .f32) (j : Fin 256) :
    shares E D M s (ix6 0 n g h q j) = Ideal.div (E (ix6 0 n g h q j)) (D (ix5 0 n g h q) + Ideal.exp (s (ix6 0 0 g h 0 0) - M (ix6 0 n g h q 0))) := by
  pointwise [shares, kept]

/-- The weighted values, laid out as rows of heads. -/
def outs (Y : FVec Ideal S1x64x2x8x128x256 .f32) (B : FVec Ideal S1x64x256x2x64 .f32) : FVec Ideal S8192x1024 .bf16 :=
  truncf (F := Ideal) .bf16 (shapeCast S8192x1024 (shapeCast S1x8192x16x64 (transpose S1x64x128x2x8x64 [0, 1, 5, 2, 4, 3]
    (Host.dotGeneral dot_S1x64x256x2x64_S1x64x2x8x128x256_S1x64x2x64x8x128_2_5_4_34_013_012 none B Y) transposes_S1x64x2x64x8x128_S1x64x128x2x8x64_0_1_5_2_4_3)
    shapeCasts_S1x64x128x2x8x64_S1x8192x16x64) shapeCasts_S1x8192x16x64_S8192x1024) bitsLt_bf16_f32

theorem outs_at (Y : FVec Ideal S1x64x2x8x128x256 .f32) (B : FVec Ideal S1x64x256x2x64 .f32) (d : Fin 64) :
    outs Y B (ix2 ⟨n.val * 128 + q.val, by omega⟩ ⟨(g.val * 8 + h.val) * 64 + d.val, by omega⟩) = ∑ j, B (ix5 0 n j g d) * Y (ix6 0 n g h q j) := by
  pointwise [outs]

end

end Cert.AttnfReferenceIdeal.Read

end
-- ==== Proof.AttnfRef.lean ====
/- The reference's output, read entry by entry: a softmax with a sink over the two blocks a query sees. -/
module

public import proofs.«01_k».proof.Proof.AttnfTurn
public import proofs.«01_k».proof.Proof.AttnfTail

@[expose] public section

set_option maxRecDepth 40000

noncomputable section

namespace Cert.AttnfReferenceIdeal.Read

open Cert.AttnfReferenceIdeal Cert.AttnfReferenceIdeal.Gen Cert.AttnfReferenceIdeal.Value Idealize.ShloMosaic Idealize.ShloMosaic.TcCoe Idealize.SL.Sem
open Cert.Attn

variable (m : (ℓ : Loc nD τ sig) → Buf (Elt Ideal) ℓ) (c : Dev nD)

theorem cut : ∃ (Q : FVec Ideal S1x8192x16x64 .f32) (K : FVec Ideal S1x8192x2x64 .f32) (X : FVec Ideal S1x64x2x8x128x256 .f32) (B : FVec Ideal S1x64x256x2x64 .f32),
    (∀ (r : Fin 8192) (h : Fin 16) (d : Fin 64), Q (ix4 0 r h d) = turn (fun k => (m ((c.tc : Thread nD τ).loc main_arg0) : FVec Ideal S1x8192x1024 .f32) (ix3 0 r ⟨h.val * 64 + k.val, by omega⟩)) r.val d)
    ∧ (∀ (r : Fin 8192) (h : Fin 2) (d : Fin 64), K (ix4 0 r h d) = turn (fun k => (m ((c.tc : Thread nD τ).loc main_arg1) : FVec Ideal S1x8192x128 .f32) (ix3 0 r ⟨h.val * 64 + k.val, by omega⟩)) r.val d)
    ∧ (∀ (n : Fin 64) (g : Fin 2) (h : Fin 8) (q t : Fin 128), X (ix6 0 n g h q ⟨t.val, by omega⟩)
      = if ¬t ≤ q ∧ 0 < n.val then (∑ x : Fin 64, K (ix4 0 ⟨n.val * 128 + t.val - 128, by omega⟩ g x) * Q (ix4 0 ⟨n.val * 128 + q.val, by omega⟩ ⟨g.val * 8 + h.val, by omega⟩ x)) * Ideal.ofBits FTy.f32 1040187392#32 else ⊥)
    ∧ (∀ (n : Fin 64) (g : Fin 2) (h : Fin 8) (q t : Fin 128), X (ix6 0 n g h q ⟨128 + t.val, by omega⟩)
      = if t ≤ q then (∑ x : Fin 64, K (ix4 0 ⟨n.val * 128 + t.val, by omega⟩ g x) * Q (ix4 0 ⟨n.val * 128 + q.val, by omega⟩ ⟨g.val * 8 + h.val, by omega⟩ x)) * Ideal.ofBits FTy.f32 1040187392#32 else ⊥)
    ∧ (∀ (n : Fin 64) (t : Fin 128) (g : Fin 2) (d : Fin 64), 0 < n.val → B (ix5 0 n ⟨t.val, by omega⟩ g d)
      = (m ((c.tc : Thread nD τ).loc main_arg2) : FVec Ideal S1x8192x128 .f32) (ix3 0 ⟨n.val * 128 + t.val - 128, by omega⟩ ⟨g.val * 64 + d.val, by omega⟩))
    ∧ (∀ (n : Fin 64) (t : Fin 128) (g : Fin 2) (d : Fin 64), B (ix5 0 n ⟨128 + t.val, by omega⟩ g d)
      = (m ((c.tc : Thread nD τ).loc main_arg2) : FVec Ideal S1x8192x128 .f32) (ix3 0 ⟨n.val * 128 + t.val, by omega⟩ ⟨g.val * 64 + d.val, by omega⟩))
    ∧ res_main_v131 (F := Ideal) m c = outs (shares (exps X (largest (best X) (sinks (m ((c.tc : Thread nD τ).loc main_arg3))))) (sums (exps X (largest (best X) (sinks (m ((c.tc : Thread nD τ).loc main_arg3)))))) (largest (best X) (sinks (m ((c.tc : Thread nD τ).loc main_arg3)))) (sinks (m ((c.tc : Thread nD τ).loc main_arg3)))) B := by
  unfold res_main_v131
  generalize hQ : (concatenate S1x8192x16x64 _ _ _ : FVec Ideal S1x8192x16x64 .f32) = Q
  generalize hK : (concatenate S1x8192x2x64 _ _ _ : FVec Ideal S1x8192x2x64 .f32) = K
  generalize hX : (select _ _ _ : FVec Ideal S1x64x2x8x128x256 .f32) = X
  generalize hB : (concatenate S1x64x256x2x64 _ _ _ : FVec Ideal S1x64x256x2x64 .f32) = B
  refine ⟨Q, K, X, B, fun r h d => ?_, fun r h d => ?_, fun n g h q t => ?_, fun n g h q t => ?_, fun n t g d hn => ?_, fun n t g d => ?_, rfl⟩
  · refine (congrFun hQ.symm _).trans ?_
    clear hQ hK hX hB
    pointwise
    rfl
  · refine (congrFun hK.symm _).trans ?_
    clear hQ hK hX hB
    pointwise
    rfl
  · refine (congrFun hX.symm _).trans ?_
    clear hQ hK hX hB
    pointwise
    rw [seen_low, select_flag, show id (constant (F := Ideal) S_ FTy.f32 4286578688#32) ix0 = (⊥ : EReal) from neg_inf]
    by_cases hh : ¬t ≤ q ∧ 0 < n.val
    · rw [if_pos hh, if_pos hh]
      have h0 := hh.2
      refine congrArg (· * Ideal.ofBits FTy.f32 1040187392#32) (Finset.sum_congr rfl fun x _ => ?_)
      rw [dif_pos (by omega)]
    · rw [if_neg hh, if_neg hh]
  · refine (congrFun hX.symm _).trans ?_
    clear hQ hK hX hB
    pointwise
    rw [seen_high, select_flag, show id (constant (F := Ideal) S_ FTy.f32 4286578688#32) ix0 = (⊥ : EReal) from neg_inf]
    by_cases hh : t ≤ q
    · rw [if_pos hh, if_pos hh]
      refine congrArg (· * Ideal.ofBits FTy.f32 1040187392#32) (Finset.sum_congr rfl fun x _ => ?_)
      rw [dif_pos (by omega)]
      refine congrArg (fun i => K (ix4 0 i g x) * _) (Fin.ext (show (1 + n.val) * 128 + t.val - 128 = n.val * 128 + t.val by omega))
    · rw [if_neg hh, if_neg hh]
  · refine (congrFun hB.symm _).trans ?_
    clear hQ hK hX hB
    pointwise
    rw [dif_pos (by omega)]
  · refine (congrFun hB.symm _).trans ?_
    clear hQ hK hX hB
    pointwise
    rw [dif_pos (by omega)]
    refine congrArg (fun i => (m ((c.tc : Thread nD τ).loc main_arg2) : FVec Ideal S1x8192x128 .f32) (ix3 0 i ⟨g.val * 64 + d.val, by omega⟩)) (Fin.ext (show (1 + n.val) * 128 + t.val - 128 = n.val * 128 + t.val by omega))

/-- An output as the softmax's weighted values. -/
theorem soft_at (X : FVec Ideal S1x64x2x8x128x256 .f32) (sk : FVec Ideal S1x16 .f32) (B : FVec Ideal S1x64x256x2x64 .f32) (n : Fin 64) (g : Fin 2) (h : Fin 8) (q : Fin 128) (d : Fin 64) :
    outs (shares (exps X (largest (best X) (sinks sk))) (sums (exps X (largest (best X) (sinks sk)))) (largest (best X) (sinks sk)) (sinks sk)) B (ix2 ⟨n.val * 128 + q.val, by omega⟩ ⟨(g.val * 8 + h.val) * 64 + d.val, by omega⟩)
      = ∑ j, B (ix5 0 n j g d) * Ideal.div (Ideal.exp (X (ix6 0 n g h q j) - max (Finset.univ.fold max ⊥ fun k : Fin 256 => X (ix6 0 n g h q k)) (sk (ix2 0 ⟨g.val * 8 + h.val, by omega⟩))))
        ((∑ k, Ideal.exp (X (ix6 0 n g h q k) - max (Finset.univ.fold max ⊥ fun k : Fin 256 => X (ix6 0 n g h q k)) (sk (ix2 0 ⟨g.val * 8 + h.val, by omega⟩))))
          + Ideal.exp (sk (ix2 0 ⟨g.val * 8 + h.val, by omega⟩) - max (Finset.univ.fold max ⊥ fun k : Fin 256 => X (ix6 0 n g h q k)) (sk (ix2 0 ⟨g.val * 8 + h.val, by omega⟩)))) := by
  rw [outs_at]
  simp only [shares_at, exps_at, sums_at, largest_at, best_at, sinks_at, neg_inf]

end Cert.AttnfReferenceIdeal.Read

end
-- ==== Proof.AttnfValue.lean ====
/- The windowed attention's kernel and the plain attention over two blocks leave the same output. -/
module

public import proofs.«01_k».proof.Defs
public import proofs.«01_k».proof.Proof.AttnfHost
public import proofs.«01_k».proof.Proof.AttnfRef
public import proofs.«01_k».proof.Proof.Finite
public import Idealize.ShloMosaic.Lib.Quiescent
public import proofs.«01_k».proof.Proof.Gen.Pre_attnf_finite
public import proofs.«01_k».proof.Proof.Gen.AttnfKernel.Frame

@[expose] public section

set_option maxRecDepth 16384

noncomputable section

namespace Cert.Attnf

open Idealize.ShloMosaic Idealize.ShloMosaic.TcCoe Idealize.SL.Sem Cert.Attn

/-- The reference ends with its arguments as launched and every semaphore at zero: it has no semaphores. -/
theorem frame_reference : Cert.quiescent_AttnfReferenceIdeal := fun m g _ =>
  (θ_run Cert.AttnfReferenceIdeal.defs _ _).mono (fun r h => ⟨fun c => (h c).2, sem_eq_zero_of_no_sems rfl r.2⟩) (Cert.AttnfReferenceIdeal.Value.run m g)

section
open Cert.AttnfKernelIdeal Cert.AttnfKernelIdeal.Gen Cert.AttnfKernelIdeal.Step

variable (a x4 : FVec Ideal S128x128 .bf16) (b x5 : FVec Ideal S512x128 .bf16) (s : Fin 4) (g : Fin 2) (x0 : FVec Ideal S1x16 .f32) (x1 : FVec Ideal S512x1024 .bf16) (p : Fin 4) (q : Fin 128) (n : Fin 16) (w : Fin 2) (d : Fin 64)

/-- A head's output as the weighted values of the whole window, once the window's scores and values are given. -/
theorem head_attend (R v : Fin 256 → EReal) (sk : EReal) (hs : x0 (ix2 0 ⟨8 * g.val + 2 * p.val + w.val, by omega⟩) = sk)
    (hl : ∀ u : Fin 128, R ⟨u.val, by omega⟩ = if ¬u ≤ q ∧ 0 < 4 * n.val + s.val then raw a b s g x1 p q w ⟨u.val, by omega⟩ * eighth else ⊥)
    (hh : ∀ u : Fin 128, R ⟨128 + u.val, by omega⟩ = if u ≤ q then raw a b s g x1 p q w ⟨128 + u.val, by omega⟩ * eighth else ⊥)
    (vl : 0 < 4 * n.val + s.val → ∀ u : Fin 128, v ⟨u.val, by omega⟩ = rows x4 x5 (s.val * 128 + u.val) ⟨g.val * 64 + d.val, by omega⟩)
    (vh : ∀ u : Fin 128, v ⟨128 + u.val, by omega⟩ = rows x4 x5 (s.val * 128 + (128 + u.val)) ⟨g.val * 64 + d.val, by omega⟩)
    (hD : total (sc q (0 < 4 * n.val + s.val) (raw a b s g x1 p q w)) sk ≠ 0) :
    head a b s g x0 x1 p q x4 x5 n w d
      = ∑ j, v j * Ideal.div (Ideal.exp (R j - max (Finset.univ.fold max ⊥ R) sk)) ((∑ k, Ideal.exp (R k - max (Finset.univ.fold max ⊥ R) sk)) + Ideal.exp (sk - max (Finset.univ.fold max ⊥ R) sk)) := by
  subst hs
  exact (attend (· ≤ q) (0 < 4 * n.val + s.val) _ _ _ _ _ R v hl hh vl vh hD).symm

end

section
open Cert.AttnfKernelIdeal Cert.AttnfKernelIdeal.Gen Cert.AttnfKernelIdeal.Step

variable (m : (ℓ : Loc nD τ sig) → Buf (Elt Ideal) ℓ) (c : Dev nD)

/-- The launch arguments by row and column. -/
abbrev aq : FVec Ideal S1x8192x1024 .f32 := m ((c.tc : Thread nD τ).loc main_arg0)
abbrev ak : FVec Ideal S1x8192x128 .f32 := m ((c.tc : Thread nD τ).loc main_arg1)
abbrev av : FVec Ideal S1x8192x128 .f32 := m ((c.tc : Thread nD τ).loc main_arg2)
abbrev sinkOf : FVec Ideal S1x16 .f32 := m ((c.tc : Thread nD τ).loc main_arg3)

variable (t : Fin cfg0.N) (s : Fin 4) (g : Fin 2) (p : Fin 4) (q : Fin 128) (w : Fin 2) (d : Fin 64)

/-- The block of queries a step's part holds. -/
abbrev blockOf : Fin 64 := ⟨4 * t.val + s.val, by have h := pt_lt t; omega⟩
/-- A pair's head within its group. -/
abbrev headOf : Fin 8 := ⟨2 * p.val + w.val, by omega⟩

theorem sink_at : iblk m c 0 t (ix2 0 ⟨8 * g.val + 2 * p.val + w.val, by omega⟩) = sinkOf m c (ix2 0 ⟨g.val * 8 + (headOf p w).val, by show g.val * 8 + (2 * p.val + w.val) < 16; omega⟩) :=
  (blk0 m c t 0 _).trans ((congrFun (V_main_arg3 m c) _).trans (congrArg (fun l => sinkOf m c (ix2 0 l)) (Fin.ext (show 8 * g.val + 2 * p.val + w.val = g.val * 8 + (2 * p.val + w.val) by omega))))

theorem query_at (x : Fin 64) : iblk m c 1 t (ix2 ⟨s.val * 128 + q.val, by omega⟩ ⟨(4 * g.val + p.val) * 128 + (w.val * 64 + x.val), by omega⟩)
    = turn (fun k => aq m c (ix3 0 ⟨(blockOf t s).val * 128 + q.val, by omega⟩ ⟨(g.val * 8 + (headOf p w).val) * 64 + k.val, by show (g.val * 8 + (2 * p.val + w.val)) * 64 + k.val < 1024; omega⟩))
      ((blockOf t s).val * 128 + q.val) x :=
  (blk1 m c t _ _).trans ((congrArg₂ (fun i l => V m c main_v32 (ix2 i l))
    (Fin.ext (show t.val * 512 + (s.val * 128 + q.val) = (4 * t.val + s.val) * 128 + q.val by omega))
    (Fin.ext (show (4 * g.val + p.val) * 128 + (w.val * 64 + x.val) = (g.val * 8 + (2 * p.val + w.val)) * 64 + x.val by omega))).trans
    (V_q m c ⟨(blockOf t s).val * 128 + q.val, by omega⟩ ⟨g.val * 8 + (headOf p w).val, by show g.val * 8 + (2 * p.val + w.val) < 16; omega⟩ x))

theorem key_own (u : Fin 128) (x : Fin 64) : rows (iblk m c 2 t) (iblk m c 3 t) (s.val * 128 + (128 + u.val)) ⟨g.val * 64 + x.val, by omega⟩
    = turn (fun k => ak m c (ix3 0 ⟨(blockOf t s).val * 128 + u.val, by omega⟩ ⟨g.val * 64 + k.val, by omega⟩)) ((blockOf t s).val * 128 + u.val) x :=
  (keys_own m c t s u _).trans (V_k m c ⟨(blockOf t s).val * 128 + u.val, by omega⟩ g x)

theorem key_before (u : Fin 128) (x : Fin 64) (h0 : 0 < 4 * t.val + s.val) : rows (iblk m c 2 t) (iblk m c 3 t) (s.val * 128 + u.val) ⟨g.val * 64 + x.val, by omega⟩
    = turn (fun k => ak m c (ix3 0 ⟨(blockOf t s).val * 128 + u.val - 128, by omega⟩ ⟨g.val * 64 + k.val, by omega⟩)) ((blockOf t s).val * 128 + u.val - 128) x :=
  (keys_before m c t s u _ h0).trans ((congrArg (fun i => V m c main_v64 (ix2 i _)) (Fin.ext (show (4 * t.val + s.val - 1) * 128 + u.val = (4 * t.val + s.val) * 128 + u.val - 128 by omega))).trans
    (V_k m c ⟨(blockOf t s).val * 128 + u.val - 128, by omega⟩ g x))

theorem val_own (u : Fin 128) : rows (iblk m c 4 t) (iblk m c 5 t) (s.val * 128 + (128 + u.val)) ⟨g.val * 64 + d.val, by omega⟩
    = av m c (ix3 0 ⟨(blockOf t s).val * 128 + u.val, by omega⟩ ⟨g.val * 64 + d.val, by omega⟩) :=
  (vals_own m c t s u _).trans (V_v m c ⟨(blockOf t s).val * 128 + u.val, by omega⟩ _)

theorem val_before (u : Fin 128) (h0 : 0 < 4 * t.val + s.val) : rows (iblk m c 4 t) (iblk m c 5 t) (s.val * 128 + u.val) ⟨g.val * 64 + d.val, by omega⟩
    = av m c (ix3 0 ⟨(blockOf t s).val * 128 + u.val - 128, by omega⟩ ⟨g.val * 64 + d.val, by omega⟩) :=
  (vals_before m c t s u _ h0).trans ((congrArg (fun i => V m c main_v66 (ix2 i _)) (Fin.ext (show (4 * t.val + s.val - 1) * 128 + u.val = (4 * t.val + s.val) * 128 + u.val - 128 by omega))).trans
    (V_v m c ⟨(blockOf t s).val * 128 + u.val - 128, by omega⟩ _))

section

variable {Q : FVec Ideal Cert.AttnfReferenceIdeal.S1x8192x16x64 .f32} {K : FVec Ideal Cert.AttnfReferenceIdeal.S1x8192x2x64 .f32}
  (hQ : ∀ (r : Fin 8192) (h : Fin 16) (x : Fin 64), Q (ix4 0 r h x) = turn (fun k => aq m c (ix3 0 r ⟨h.val * 64 + k.val, by omega⟩)) r.val x)
  (hK : ∀ (r : Fin 8192) (h : Fin 2) (x : Fin 64), K (ix4 0 r h x) = turn (fun k => ak m c (ix3 0 r ⟨h.val * 64 + k.val, by omega⟩)) r.val x)

include hQ hK

/-- A query's raw scores are the products of turned queries and keys. -/
theorem raw_own (u : Fin 128) : raw (iblk m c 2 t) (iblk m c 3 t) s g (iblk m c 1 t) p q w ⟨128 + u.val, by omega⟩
    = ∑ x : Fin 64, K (ix4 0 ⟨(blockOf t s).val * 128 + u.val, by omega⟩ g x) * Q (ix4 0 ⟨(blockOf t s).val * 128 + q.val, by omega⟩ ⟨g.val * 8 + (headOf p w).val, by omega⟩ x) := by
  unfold raw
  refine Finset.sum_congr rfl fun x _ => ?_
  rw [hK, hQ, query_at]
  exact congrArg (· * _) (key_own m c t s g u x)

theorem raw_before (u : Fin 128) (h0 : 0 < 4 * t.val + s.val) : raw (iblk m c 2 t) (iblk m c 3 t) s g (iblk m c 1 t) p q w ⟨u.val, by omega⟩
    = ∑ x : Fin 64, K (ix4 0 ⟨(blockOf t s).val * 128 + u.val - 128, by omega⟩ g x) * Q (ix4 0 ⟨(blockOf t s).val * 128 + q.val, by omega⟩ ⟨g.val * 8 + (headOf p w).val, by omega⟩ x) := by
  unfold raw
  refine Finset.sum_congr rfl fun x _ => ?_
  rw [hK, hQ, query_at]
  exact congrArg (· * _) (key_before m c t s g u x h0)

end

theorem times_eighth_ne {z : EReal} (hz : ∃ r : ℝ, z = (r : EReal)) : z * eighth ≠ ⊤ := by
  obtain ⟨r, rfl⟩ := hz
  obtain ⟨k, hk⟩ := eighth_real
  show (r : EReal) * Ideal.ofBits FTy.f32 1040187392#32 ≠ ⊤
  rw [hk, ← EReal.coe_mul]; exact EReal.coe_ne_top _

variable {m} (hp : Cert.Pre_AttnfKernelIdeal_attnf_finite m)

include hp

theorem args_real : (∀ r l, ∃ x : ℝ, aq m c (ix3 0 r l) = (x : EReal)) ∧ (∀ r l, ∃ x : ℝ, ak m c (ix3 0 r l) = (x : EReal)) ∧ ∀ l, ∃ x : ℝ, sinkOf m c (ix2 0 l) = (x : EReal) := by
  obtain ⟨h0, h1, h2⟩ := hp c
  exact ⟨fun r l => real_of_lt _ (congrFun h0 (ix3 0 r l)), fun r l => real_of_lt _ (congrFun h1 (ix3 0 r l)), fun l => real_of_lt _ (congrFun h2 (ix2 0 l))⟩

/-- One head's output is the reference's. -/
theorem head_eq (m' : (ℓ : Loc Cert.AttnfReferenceIdeal.nD Cert.AttnfReferenceIdeal.τ Cert.AttnfReferenceIdeal.sig) → Buf (Elt Ideal) ℓ)
    (e0 : m' ((c.tc : Thread Cert.AttnfReferenceIdeal.nD Cert.AttnfReferenceIdeal.τ).loc Cert.AttnfReferenceIdeal.main_arg0) = aq m c)
    (e1 : m' ((c.tc : Thread Cert.AttnfReferenceIdeal.nD Cert.AttnfReferenceIdeal.τ).loc Cert.AttnfReferenceIdeal.main_arg1) = ak m c)
    (e2 : m' ((c.tc : Thread Cert.AttnfReferenceIdeal.nD Cert.AttnfReferenceIdeal.τ).loc Cert.AttnfReferenceIdeal.main_arg2) = av m c)
    (e3 : m' ((c.tc : Thread Cert.AttnfReferenceIdeal.nD Cert.AttnfReferenceIdeal.τ).loc Cert.AttnfReferenceIdeal.main_arg3) = sinkOf m c) :
    head (iblk m c 2 t) (iblk m c 3 t) s g (iblk m c 0 t) (iblk m c 1 t) p q (iblk m c 4 t) (iblk m c 5 t) ⟨t.val, pt_lt t⟩ w d
      = Cert.AttnfReferenceIdeal.Value.res_main_v131 (F := Ideal) m' c
        (ix2 ⟨t.val * 512 + (s.val * 128 + q.val), by have h := pt_lt t; omega⟩ ⟨(4 * g.val + p.val) * 128 + (w.val * 64 + d.val), by omega⟩) := by
  obtain ⟨rq, rk, rs⟩ := args_real c hp
  obtain ⟨Q, K, X, B, hQ, hK, hl, hh, bl, bh, hres⟩ := Cert.AttnfReferenceIdeal.Read.cut m' c
  rw [e0] at hQ
  rw [e1] at hK
  rw [e2] at bl bh
  rw [e3] at hres
  have hQr (r h x) : ∃ z : ℝ, Q (ix4 0 r h x) = (z : EReal) := by rw [hQ]; exact turn_real _ (fun k => rq _ _) _ _
  have hKr (r h x) : ∃ z : ℝ, K (ix4 0 r h x) = (z : EReal) := by rw [hK]; exact turn_real _ (fun k => rk _ _) _ _
  obtain ⟨z, hz⟩ := rs ⟨g.val * 8 + (headOf p w).val, by omega⟩
  have hsk := sink_at m c t g p w
  rw [show (ix2 (n0 := 8192) (n1 := 1024) ⟨t.val * 512 + (s.val * 128 + q.val), by have h := pt_lt t; omega⟩ ⟨(4 * g.val + p.val) * 128 + (w.val * 64 + d.val), by omega⟩)
      = ix2 ⟨(blockOf t s).val * 128 + q.val, by omega⟩ ⟨(g.val * 8 + (headOf p w).val) * 64 + d.val, by omega⟩ from
    congrArg₂ ix2 (Fin.ext (show t.val * 512 + (s.val * 128 + q.val) = (4 * t.val + s.val) * 128 + q.val by omega))
      (Fin.ext (show (4 * g.val + p.val) * 128 + (w.val * 64 + d.val) = (g.val * 8 + (2 * p.val + w.val)) * 64 + d.val by omega)),
    hres, Cert.AttnfReferenceIdeal.Read.soft_at]
  refine head_attend _ _ _ _ s g _ _ p q ⟨t.val, pt_lt t⟩ w d (fun j => X (ix6 0 (blockOf t s) g (headOf p w) q j)) (fun j => B (ix5 0 (blockOf t s) j g d)) _ hsk
    (fun u => ?_) (fun u => ?_) (fun h0 u => ?_) (fun u => ?_) ?_
  · refine (hl (blockOf t s) g (headOf p w) q u).trans ?_
    by_cases k : ¬u ≤ q ∧ 0 < 4 * t.val + s.val
    · rw [if_pos k, if_pos k, raw_before m c t s g p q w hQ hK u k.2]
    · rw [if_neg k, if_neg k]
  · refine (hh (blockOf t s) g (headOf p w) q u).trans ?_
    by_cases k : u ≤ q
    · rw [if_pos k, if_pos k, raw_own m c t s g p q w hQ hK u]
    · rw [if_neg k, if_neg k]
  · exact (bl (blockOf t s) u g d h0).trans (val_before m c t s g d u h0).symm
  · exact (bh (blockOf t s) u g d).trans (val_own m c t s g d u).symm
  · refine total_ne _ _ ?_ ?_ fun u => ?_
    · rw [hz]; exact EReal.coe_ne_bot _
    · rw [hz]; exact EReal.coe_ne_top _
    · unfold sc folded
      by_cases k : u ≤ q
      · rw [if_pos k]
        beta_reduce
        rw [raw_own m c t s g p q w hQ hK u]
        exact times_eighth_ne (dot_real _ _ (fun x => hKr _ _ x) fun x => hQr _ _ x)
      · rw [if_neg k]
        by_cases k0 : 0 < 4 * t.val + s.val
        · rw [if_pos k0]
          beta_reduce
          rw [raw_before m c t s g p q w hQ hK u k0]
          exact times_eighth_ne (dot_real _ _ (fun x => hKr _ _ x) fun x => hQr _ _ x)
        · rw [if_neg k0]; exact bot_ne_top

end

theorem value : Cert.algebraic_AttnfKernelIdeal_AttnfReferenceIdeal_pre_attnf_finite := by
  intro m g m' g' hp he
  refine ⟨fun c => Cert.AttnfReferenceIdeal.Value.res_main_v131 (F := Ideal) m' c, ?_, ?_⟩
  · refine (θ_run Cert.AttnfKernelIdeal.defs _ _).mono (fun r h c => ?_) (Cert.AttnfKernelIdeal.Value.run_blocks (F := Ideal) m g)
    obtain ⟨e0, e1, e2, e3⟩ := he c
    exact ⟨(h c).1.trans (Cert.AttnfKernelIdeal.Step.final6 m c _ fun t s g p q w d => head_eq c t s g p q w d hp m' e0 e1 e2 e3), (h c).2⟩
  · exact Cert.AttnfReferenceIdeal.Value.run (F := Ideal) m' g'

end Cert.Attnf

end
-- ==== Proof.lean ====
module

public import proofs.«01_k».proof.Defs
public import proofs.«01_k».proof.Proof.Gen.RetKernel
public import proofs.«01_k».proof.Proof.Gen.RetKernel.Skeleton
public import proofs.«01_k».proof.Proof.Gen.RetKernel.Launch
public import proofs.«01_k».proof.Proof.Gen.RetKernel.Points
public import proofs.«01_k».proof.Proof.Gen.RetKernel.Frame
public import proofs.«01_k».proof.Proof.Gen.RetKernelIdeal
public import proofs.«01_k».proof.Proof.Gen.RetKernelIdeal.Skeleton
public import proofs.«01_k».proof.Proof.Gen.RetKernelIdeal.Launch
public import proofs.«01_k».proof.Proof.Gen.RetKernelIdeal.Points
public import proofs.«01_k».proof.Proof.Gen.RetKernelIdeal.Frame
public import proofs.«01_k».proof.Proof.Gen.RetKernelIdeal.Value
public import proofs.«01_k».proof.Proof.Gen.RetReferenceIdeal
public import proofs.«01_k».proof.Proof.Gen.AttnfKernel
public import proofs.«01_k».proof.Proof.Gen.AttnfKernel.Skeleton
public import proofs.«01_k».proof.Proof.Gen.AttnfKernel.Launch
public import proofs.«01_k».proof.Proof.Gen.AttnfKernel.Points
public import proofs.«01_k».proof.Proof.Gen.AttnfKernel.Frame
public import proofs.«01_k».proof.Proof.Gen.AttnfKernelIdeal
public import proofs.«01_k».proof.Proof.Gen.AttnfKernelIdeal.Skeleton
public import proofs.«01_k».proof.Proof.Gen.AttnfKernelIdeal.Launch
public import proofs.«01_k».proof.Proof.Gen.AttnfKernelIdeal.Points
public import proofs.«01_k».proof.Proof.Gen.AttnfKernelIdeal.Frame
public import proofs.«01_k».proof.Proof.Gen.AttnfKernelIdeal.Value
public import proofs.«01_k».proof.Proof.Gen.AttnfReferenceIdeal
public import proofs.«01_k».proof.Proof.Gen.AttnfReferenceIdeal.Run
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnKernelIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossKernelIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Gen.MergeKernel
public import proofs.«01_k».proof.Proof.Gen.MergeKernel.Skeleton
public import proofs.«01_k».proof.Proof.Gen.MergeKernel.Launch
public import proofs.«01_k».proof.Proof.Gen.MergeKernel.Points
public import proofs.«01_k».proof.Proof.Gen.MergeKernel.Frame
public import proofs.«01_k».proof.Proof.Gen.MergeKernelIdeal
public import proofs.«01_k».proof.Proof.Gen.MergeKernelIdeal.Skeleton
public import proofs.«01_k».proof.Proof.Gen.MergeKernelIdeal.Launch
public import proofs.«01_k».proof.Proof.Gen.MergeKernelIdeal.Points
public import proofs.«01_k».proof.Proof.Gen.MergeKernelIdeal.Frame
public import proofs.«01_k».proof.Proof.Gen.MergeKernelIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_ret_finite
public import proofs.«01_k».proof.Proof.Gen.Pre_attnf_finite
public import proofs.«01_k».proof.Proof.Gen.Pre_ffn_finite
public import proofs.«01_k».proof.Proof.Gen.Pre_loss_finite
public import proofs.«01_k».proof.Proof.Gen.Pre_merge_finite
public import proofs.«01_k».proof.Proof.Gen.Pre_finite
public import proofs.«01_k».proof.Proof.RetValue
public import proofs.«01_k».proof.Proof.FfnValue
public import proofs.«01_k».proof.Proof.LossValue
public import proofs.«01_k».proof.Proof.MergeValue
public import proofs.«01_k».proof.Proof.ProjValue
public import proofs.«01_k».proof.Proof.RetfValue
public import proofs.«01_k».proof.Proof.AttnfValue
public import Idealize.ShloMosaic.Adequacy
public import Idealize.ShloMosaic.Init

@[expose] public section

noncomputable section

namespace Cert.Proof

open Idealize.ShloMosaic Idealize.SL.Sem Cert.Kernel

theorem claim : Cert.Claim := ⟨Cert.RetKernel.Gen.facts, Cert.RetKernelIdeal.Gen.facts, Cert.RetReferenceIdeal.Gen.facts,
  Cert.RetfKernel.Gen.facts, Cert.RetfKernelIdeal.Gen.facts, Cert.RetfReferenceIdeal.Gen.facts,
  Cert.AttnfKernel.Gen.facts, Cert.AttnfKernelIdeal.Gen.facts, Cert.AttnfReferenceIdeal.Gen.facts,
  Cert.FfnKernel.Gen.facts, Cert.FfnKernelIdeal.Gen.facts, Cert.FfnReferenceIdeal.Gen.facts,
  Cert.LossKernel.Gen.facts, Cert.LossKernelIdeal.Gen.facts, Cert.LossReferenceIdeal.Gen.facts,
  Cert.MergeKernel.Gen.facts, Cert.MergeKernelIdeal.Gen.facts, Cert.MergeReferenceIdeal.Gen.facts,
  Cert.Kernel.Gen.facts, Cert.KernelIdeal.Gen.facts, Cert.ReferenceIdeal.Gen.facts, Cert.Pre_ret_finite.Gen.facts, Cert.Pre_retf_finite.Gen.facts, Cert.Pre_attnf_finite.Gen.facts, Cert.Pre_ffn_finite.Gen.facts, Cert.Pre_loss_finite.Gen.facts, Cert.Pre_merge_finite.Gen.facts, Cert.Pre_finite.Gen.facts,
  fun m ρ _ => Cert.RetKernel.Gen.frame m ρ,
  fun m ρ _ => Cert.RetKernelIdeal.Gen.frame m ρ,
  fun m ρ _ => Cert.RetKernelIdeal.Gen.frame m ρ,
  Cert.Ret.frame_reference,
  fun m ρ _ => Cert.Ret.frame_reference m ρ trivial,
  fun m ρ _ => Cert.RetfKernel.Gen.frame m ρ,
  fun m ρ _ => Cert.RetfKernelIdeal.Gen.frame m ρ,
  fun m ρ _ => Cert.RetfKernelIdeal.Gen.frame m ρ,
  Cert.Retf.frame_reference,
  fun m ρ _ => Cert.Retf.frame_reference m ρ trivial,
  fun m ρ _ => Cert.AttnfKernel.Gen.frame m ρ,
  fun m ρ _ => Cert.AttnfKernelIdeal.Gen.frame m ρ,
  fun m ρ _ => Cert.AttnfKernelIdeal.Gen.frame m ρ,
  Cert.Attnf.frame_reference,
  fun m ρ _ => Cert.Attnf.frame_reference m ρ trivial,
  fun m ρ _ => Cert.FfnKernel.Gen.frame m ρ,
  fun m ρ _ => Cert.FfnKernelIdeal.Gen.frame m ρ,
  fun m ρ _ => Cert.FfnKernelIdeal.Gen.frame m ρ,
  Cert.Ffn.frame_reference,
  fun m ρ _ => Cert.Ffn.frame_reference m ρ trivial,
  fun m ρ _ => Cert.LossKernel.Gen.frame m ρ,
  fun m ρ _ => Cert.LossKernelIdeal.Gen.frame m ρ,
  fun m ρ _ => Cert.LossKernelIdeal.Gen.frame m ρ,
  Cert.Loss.frame_reference,
  fun m ρ _ => Cert.Loss.frame_reference m ρ trivial,
  fun m ρ _ => Cert.MergeKernel.Gen.frame m ρ,
  fun m ρ _ => Cert.MergeKernelIdeal.Gen.frame m ρ,
  fun m ρ _ => Cert.MergeKernelIdeal.Gen.frame m ρ,
  Cert.Merge.frame_reference,
  fun m ρ _ => Cert.Merge.frame_reference m ρ trivial,
  fun m ρ _ => Cert.Kernel.Gen.frame m ρ,
  fun m ρ _ => Cert.KernelIdeal.Gen.frame m ρ,
  fun m ρ _ => Cert.KernelIdeal.Gen.frame m ρ,
  Cert.Proj.frame_reference,
  fun m ρ _ => Cert.Proj.frame_reference m ρ trivial,
  trivial,
  Cert.Ret.value,
  trivial,
  Cert.Retf.value,
  IdealRules.named_const.statement Cert.AttnfKernelIdeal.κ "mask" .f32 0xF149F2CA#32 ⊥ rfl,
  Cert.Attnf.value,
  trivial,
  Cert.Ffn.value,
  trivial,
  Cert.Loss.value,
  trivial,
  Cert.Merge.value,
  trivial,
  Cert.Proj.value⟩

end Cert.Proof

end
